-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_xattn [hPre_finite_xattn : Cert.Pre_finite_xattn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_xattn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite_xattn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite_xattn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_xattn [hPre_finite_xattn : Cert.Pre_finite_xattn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_xattn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite_xattn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite_xattn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_pool [hPre_finite_pool : Cert.Pre_finite_pool.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_pool.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_pool.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_pool.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite_pool.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_pool [hPre_finite_pool : Cert.Pre_finite_pool.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_pool.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_pool.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_pool.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite_pool.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_swiglu [hPre_finite_swiglu : Cert.Pre_finite_swiglu.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_swiglu.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_swiglu.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite_swiglu.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite_swiglu.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_swiglu [hPre_finite_swiglu : Cert.Pre_finite_swiglu.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_swiglu.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_swiglu.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite_swiglu.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite_swiglu.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_ffn1in [hPre_finite_ffn1in : Cert.Pre_finite_ffn1in.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_ffn1in.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite_ffn1in.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite_ffn1in.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite_ffn1in.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.1 = (fun _ => 1#1)
    ∧ (Cert.Pre_finite_ffn1in.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_ffn1in [hPre_finite_ffn1in : Cert.Pre_finite_ffn1in.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_ffn1in.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite_ffn1in.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite_ffn1in.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite_ffn1in.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.1 = (fun _ => 1#1)
    ∧ (Cert.Pre_finite_ffn1in.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_ffn2in [hPre_finite_ffn2in : Cert.Pre_finite_ffn2in.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_ffn2in.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite_ffn2in.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_finite_ffn2in.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.1 = (fun _ => 1#1)
    ∧ (Cert.Pre_finite_ffn2in.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.1 = (fun _ => 1#1)
    ∧ (Cert.Pre_finite_ffn2in.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2.1 = (fun _ => 1#1)
    ∧ (Cert.Pre_finite_ffn2in.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2.2.1 = (fun _ => 1#1)
    ∧ (Cert.Pre_finite_ffn2in.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_ffn2in [hPre_finite_ffn2in : Cert.Pre_finite_ffn2in.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_ffn2in.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite_ffn2in.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_finite_ffn2in.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.1 = (fun _ => 1#1)
    ∧ (Cert.Pre_finite_ffn2in.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.1 = (fun _ => 1#1)
    ∧ (Cert.Pre_finite_ffn2in.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2.1 = (fun _ => 1#1)
    ∧ (Cert.Pre_finite_ffn2in.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2.2.1 = (fun _ => 1#1)
    ∧ (Cert.Pre_finite_ffn2in.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_mixin [hPre_finite_mixin : Cert.Pre_finite_mixin.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_mixin.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).1 = (fun _ => 1#1)
    ∧ (Cert.Pre_finite_mixin.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.1 = (fun _ => 1#1)
    ∧ (Cert.Pre_finite_mixin.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.1 = (fun _ => 1#1)
    ∧ (Cert.Pre_finite_mixin.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.1 = (fun _ => 1#1)
    ∧ (Cert.Pre_finite_mixin.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.1 = (fun _ => 1#1)
    ∧ (Cert.Pre_finite_mixin.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.2.1 = (fun _ => 1#1)
    ∧ (Cert.Pre_finite_mixin.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_mixin [hPre_finite_mixin : Cert.Pre_finite_mixin.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_mixin.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).1 = (fun _ => 1#1)
    ∧ (Cert.Pre_finite_mixin.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.1 = (fun _ => 1#1)
    ∧ (Cert.Pre_finite_mixin.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.1 = (fun _ => 1#1)
    ∧ (Cert.Pre_finite_mixin.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.1 = (fun _ => 1#1)
    ∧ (Cert.Pre_finite_mixin.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.1 = (fun _ => 1#1)
    ∧ (Cert.Pre_finite_mixin.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.2.1 = (fun _ => 1#1)
    ∧ (Cert.Pre_finite_mixin.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_outloss [hPre_finite_outloss : Cert.Pre_finite_outloss.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_outloss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite_outloss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite_outloss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite_outloss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite_outloss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 = (fun _ => 1#1)
    ∧ (Cert.Pre_finite_outloss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_outloss [hPre_finite_outloss : Cert.Pre_finite_outloss.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_outloss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite_outloss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite_outloss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite_outloss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite_outloss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.1 = (fun _ => 1#1)
    ∧ (Cert.Pre_finite_outloss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_xattnfwd [hPre_finite_xattnfwd : Cert.Pre_finite_xattnfwd.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_xattnfwd.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).1 = (fun _ => 1#1)
    ∧ (Cert.Pre_finite_xattnfwd.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_xattnfwd [hPre_finite_xattnfwd : Cert.Pre_finite_xattnfwd.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_xattnfwd.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).1 = (fun _ => 1#1)
    ∧ (Cert.Pre_finite_xattnfwd.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_poolfwd [hPre_finite_poolfwd : Cert.Pre_finite_poolfwd.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_poolfwd.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).1 = (fun _ => 1#1)
    ∧ (Cert.Pre_finite_poolfwd.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2.1 = (fun _ => 1#1)
    ∧ (Cert.Pre_finite_poolfwd.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_poolfwd [hPre_finite_poolfwd : Cert.Pre_finite_poolfwd.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_poolfwd.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).1 = (fun _ => 1#1)
    ∧ (Cert.Pre_finite_poolfwd.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2.1 = (fun _ => 1#1)
    ∧ (Cert.Pre_finite_poolfwd.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_glafwd [hPre_finite_glafwd : Cert.Pre_finite_glafwd.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_glafwd.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_finite_glafwd.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.1 = (fun _ => 1#1)
    ∧ (Cert.Pre_finite_glafwd.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_glafwd [hPre_finite_glafwd : Cert.Pre_finite_glafwd.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_glafwd.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_finite_glafwd.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.1 = (fun _ => 1#1)
    ∧ (Cert.Pre_finite_glafwd.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_xattn [hKernel2Ideal : Cert.Kernel2Ideal.Facts] [hPre_finite_xattn : Cert.Pre_finite_xattn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_xattn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_xattn [hReference2Ideal : Cert.Reference2Ideal.Facts] [hPre_finite_xattn : Cert.Pre_finite_xattn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_xattn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_pool [hKernel3Ideal : Cert.Kernel3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_pool m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_pool [hReference3Ideal : Cert.Reference3Ideal.Facts] [hPre_finite_pool : Cert.Pre_finite_pool.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_pool m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_swiglu [hKernel7Ideal : Cert.Kernel7Ideal.Facts] [hPre_finite_swiglu : Cert.Pre_finite_swiglu.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_swiglu m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_swiglu [hReference7Ideal : Cert.Reference7Ideal.Facts] [hPre_finite_swiglu : Cert.Pre_finite_swiglu.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_swiglu m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite_ffn1in [hKernel9Ideal : Cert.Kernel9Ideal.Facts] [hPre_finite_ffn1in : Cert.Pre_finite_ffn1in.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_ffn1in m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite_ffn1in [hReference9Ideal : Cert.Reference9Ideal.Facts] [hPre_finite_ffn1in : Cert.Pre_finite_ffn1in.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_ffn1in m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_ffn2in [hKernel8Ideal : Cert.Kernel8Ideal.Facts] [hPre_finite_ffn2in : Cert.Pre_finite_ffn2in.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_ffn2in m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_ffn2in [hReference8Ideal : Cert.Reference8Ideal.Facts] [hPre_finite_ffn2in : Cert.Pre_finite_ffn2in.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_ffn2in m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite_mixin [hKernel10Ideal : Cert.Kernel10Ideal.Facts] [hPre_finite_mixin : Cert.Pre_finite_mixin.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_mixin m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite_mixin [hReference10Ideal : Cert.Reference10Ideal.Facts] [hPre_finite_mixin : Cert.Pre_finite_mixin.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_mixin m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_outloss [hKernel6Ideal : Cert.Kernel6Ideal.Facts] [hPre_finite_outloss : Cert.Pre_finite_outloss.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_outloss m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_outloss [hReference6Ideal : Cert.Reference6Ideal.Facts] [hPre_finite_outloss : Cert.Pre_finite_outloss.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_outloss m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Kernel14Ideal_pre_finite_xattnfwd [hKernel14Ideal : Cert.Kernel14Ideal.Facts] [hPre_finite_xattnfwd : Cert.Pre_finite_xattnfwd.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_xattnfwd m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14Ideal_pre_finite_xattnfwd [hReference14Ideal : Cert.Reference14Ideal.Facts] [hPre_finite_xattnfwd : Cert.Pre_finite_xattnfwd.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_xattnfwd m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite_poolfwd [hKernel13Ideal : Cert.Kernel13Ideal.Facts] [hPre_finite_poolfwd : Cert.Pre_finite_poolfwd.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_poolfwd m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite_poolfwd [hReference13Ideal : Cert.Reference13Ideal.Facts] [hPre_finite_poolfwd : Cert.Pre_finite_poolfwd.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_poolfwd m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite_glafwd [hKernel12Ideal : Cert.Kernel12Ideal.Facts] [hPre_finite_glafwd : Cert.Pre_finite_glafwd.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_glafwd m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite_glafwd [hReference12Ideal : Cert.Reference12Ideal.Facts] [hPre_finite_glafwd : Cert.Pre_finite_glafwd.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_glafwd m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_xattn [hKernel2Ideal : Cert.Kernel2Ideal.Facts] [hReference2Ideal : Cert.Reference2Ideal.Facts] [hPre_finite_xattn : Cert.Pre_finite_xattn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_xattn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite_pool [hKernel3Ideal : Cert.Kernel3Ideal.Facts] [hReference3Ideal : Cert.Reference3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_pool m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v166) = v0 c
          ∧ r.2.mem ((c.tc : Thread Cert.Reference3Ideal.nD Cert.Reference3Ideal.τ).loc Cert.Reference3Ideal.main_v94) = v1 c
          ∧ r.2.mem ((c.tc : Thread Cert.Reference3Ideal.nD Cert.Reference3Ideal.τ).loc Cert.Reference3Ideal.main_v86) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)) (v5 : (c : Dev Cert.Kernel5Ideal.nD) → Buf (Elt Ideal) ((c.tc : Thread Cert.Kernel5Ideal.nD Cert.Kernel5Ideal.τ).loc Cert.Kernel5Ideal.main_v18_5)) (v6 : (c : Dev Cert.Kernel5Ideal.nD) → Buf (Elt Ideal) ((c.tc : Thread Cert.Kernel5Ideal.nD Cert.Kernel5Ideal.τ).loc Cert.Kernel5Ideal.main_v18_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_v18_5) = v5 c
          ∧ r.2.mem ((c.tc : Thread Cert.Kernel5Ideal.nD Cert.Kernel5Ideal.τ).loc Cert.Kernel5Ideal.main_v18_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_v48) = v3 c
          ∧ r.2.mem ((c.tc : Thread Cert.Reference5Ideal.nD Cert.Reference5Ideal.τ).loc Cert.Reference5Ideal.main_v49) = v4 c
          ∧ r.2.mem ((c.tc : Thread Cert.Reference5Ideal.nD Cert.Reference5Ideal.τ).loc Cert.Reference5Ideal.main_v50) = v5 c
          ∧ r.2.mem ((c.tc : Thread Cert.Reference5Ideal.nD Cert.Reference5Ideal.τ).loc Cert.Reference5Ideal.main_v51) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel7_Kernel7Ideal : Prop :=
  True

def algebraic_Kernel7Ideal_Reference7Ideal_pre_finite_swiglu [hKernel7Ideal : Cert.Kernel7Ideal.Facts] [hReference7Ideal : Cert.Reference7Ideal.Facts] [hPre_finite_swiglu : Cert.Pre_finite_swiglu.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_swiglu m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel9_Kernel9Ideal : Prop :=
  True

def algebraic_Kernel9Ideal_Reference9Ideal_pre_finite_ffn1in [hKernel9Ideal : Cert.Kernel9Ideal.Facts] [hReference9Ideal : Cert.Reference9Ideal.Facts] [hPre_finite_ffn1in : Cert.Pre_finite_ffn1in.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_ffn1in m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel8_Kernel8Ideal : Prop :=
  True

def algebraic_Kernel8Ideal_Reference8Ideal_pre_finite_ffn2in [hKernel8Ideal : Cert.Kernel8Ideal.Facts] [hReference8Ideal : Cert.Reference8Ideal.Facts] [hPre_finite_ffn2in : Cert.Pre_finite_ffn2in.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_ffn2in m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v17_0)) (v1 : (c : Dev Cert.Kernel8Ideal.nD) → Buf (Elt Ideal) ((c.tc : Thread Cert.Kernel8Ideal.nD Cert.Kernel8Ideal.τ).loc Cert.Kernel8Ideal.main_v17_1)) (v2 : (c : Dev Cert.Kernel8Ideal.nD) → Buf (Elt Ideal) ((c.tc : Thread Cert.Kernel8Ideal.nD Cert.Kernel8Ideal.τ).loc Cert.Kernel8Ideal.main_v17_2)) (v3 : (c : Dev Cert.Kernel8Ideal.nD) → Buf (Elt Ideal) ((c.tc : Thread Cert.Kernel8Ideal.nD Cert.Kernel8Ideal.τ).loc Cert.Kernel8Ideal.main_v17_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17_0) = v0 c
          ∧ r.2.mem ((c.tc : Thread Cert.Kernel8Ideal.nD Cert.Kernel8Ideal.τ).loc Cert.Kernel8Ideal.main_v17_1) = v1 c
          ∧ r.2.mem ((c.tc : Thread Cert.Kernel8Ideal.nD Cert.Kernel8Ideal.τ).loc Cert.Kernel8Ideal.main_v17_2) = v2 c
          ∧ r.2.mem ((c.tc : Thread Cert.Kernel8Ideal.nD Cert.Kernel8Ideal.τ).loc Cert.Kernel8Ideal.main_v17_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_v35) = v1 c
          ∧ r.2.mem ((c.tc : Thread Cert.Reference8Ideal.nD Cert.Reference8Ideal.τ).loc Cert.Reference8Ideal.main_v73) = v2 c
          ∧ r.2.mem ((c.tc : Thread Cert.Reference8Ideal.nD Cert.Reference8Ideal.τ).loc Cert.Reference8Ideal.main_v56) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel10_Kernel10Ideal : Prop :=
  True

def algebraic_Kernel10Ideal_Reference10Ideal_pre_finite_mixin [hKernel10Ideal : Cert.Kernel10Ideal.Facts] [hReference10Ideal : Cert.Reference10Ideal.Facts] [hPre_finite_mixin : Cert.Pre_finite_mixin.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_mixin m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v31_0)) (v1 : (c : Dev Cert.Kernel10Ideal.nD) → Buf (Elt Ideal) ((c.tc : Thread Cert.Kernel10Ideal.nD Cert.Kernel10Ideal.τ).loc Cert.Kernel10Ideal.main_v31_1)) (v2 : (c : Dev Cert.Kernel10Ideal.nD) → Buf (Elt Ideal) ((c.tc : Thread Cert.Kernel10Ideal.nD Cert.Kernel10Ideal.τ).loc Cert.Kernel10Ideal.main_v31_2)) (v3 : (c : Dev Cert.Kernel10Ideal.nD) → Buf (Elt Ideal) ((c.tc : Thread Cert.Kernel10Ideal.nD Cert.Kernel10Ideal.τ).loc Cert.Kernel10Ideal.main_v31_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v31_0) = v0 c
          ∧ r.2.mem ((c.tc : Thread Cert.Kernel10Ideal.nD Cert.Kernel10Ideal.τ).loc Cert.Kernel10Ideal.main_v31_1) = v1 c
          ∧ r.2.mem ((c.tc : Thread Cert.Kernel10Ideal.nD Cert.Kernel10Ideal.τ).loc Cert.Kernel10Ideal.main_v31_2) = v2 c
          ∧ r.2.mem ((c.tc : Thread Cert.Kernel10Ideal.nD Cert.Kernel10Ideal.τ).loc Cert.Kernel10Ideal.main_v31_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v54) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v77) = v2 c
          ∧ r.2.mem ((c.tc : Thread Cert.Reference10Ideal.nD Cert.Reference10Ideal.τ).loc Cert.Reference10Ideal.main_v60) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel6_Kernel6Ideal : Prop :=
  True

def algebraic_Kernel6Ideal_Reference6Ideal_pre_finite_outloss [hKernel6Ideal : Cert.Kernel6Ideal.Facts] [hReference6Ideal : Cert.Reference6Ideal.Facts] [hPre_finite_outloss : Cert.Pre_finite_outloss.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_outloss m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v89) = v0 c
          ∧ r.2.mem ((c.tc : Thread Cert.Reference6Ideal.nD Cert.Reference6Ideal.τ).loc Cert.Reference6Ideal.main_v67) = v1 c
          ∧ r.2.mem ((c.tc : Thread Cert.Reference6Ideal.nD Cert.Reference6Ideal.τ).loc Cert.Reference6Ideal.main_v72) = v2 c
          ∧ r.2.mem ((c.tc : Thread Cert.Reference6Ideal.nD Cert.Reference6Ideal.τ).loc Cert.Reference6Ideal.main_v51) = v3 c
          ∧ r.2.mem ((c.tc : Thread Cert.Reference6Ideal.nD Cert.Reference6Ideal.τ).loc Cert.Reference6Ideal.main_v90) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel14_Kernel14Ideal : Prop :=
  True

def algebraic_Kernel14Ideal_Reference14Ideal_pre_finite_xattnfwd [hKernel14Ideal : Cert.Kernel14Ideal.Facts] [hReference14Ideal : Cert.Reference14Ideal.Facts] [hPre_finite_xattnfwd : Cert.Pre_finite_xattnfwd.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_xattnfwd m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel13_Kernel13Ideal : Prop :=
  True

def algebraic_Kernel13Ideal_Reference13Ideal_pre_finite_poolfwd [hKernel13Ideal : Cert.Kernel13Ideal.Facts] [hReference13Ideal : Cert.Reference13Ideal.Facts] [hPre_finite_poolfwd : Cert.Pre_finite_poolfwd.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_poolfwd m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v79) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_v8) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)) (v2 : (c : Dev Cert.Kernel18Ideal.nD) → Buf (Elt Ideal) ((c.tc : Thread Cert.Kernel18Ideal.nD Cert.Kernel18Ideal.τ).loc Cert.Kernel18Ideal.main_v8_2)) (v3 : (c : Dev Cert.Kernel18Ideal.nD) → Buf (Elt Ideal) ((c.tc : Thread Cert.Kernel18Ideal.nD Cert.Kernel18Ideal.τ).loc Cert.Kernel18Ideal.main_v8_3)) (v4 : (c : Dev Cert.Kernel18Ideal.nD) → Buf (Elt Ideal) ((c.tc : Thread Cert.Kernel18Ideal.nD Cert.Kernel18Ideal.τ).loc Cert.Kernel18Ideal.main_v8_4)) (v5 : (c : Dev Cert.Kernel18Ideal.nD) → Buf (Elt Ideal) ((c.tc : Thread Cert.Kernel18Ideal.nD Cert.Kernel18Ideal.τ).loc Cert.Kernel18Ideal.main_v8_5)) (v6 : (c : Dev Cert.Kernel18Ideal.nD) → Buf (Elt Ideal) ((c.tc : Thread Cert.Kernel18Ideal.nD Cert.Kernel18Ideal.τ).loc Cert.Kernel18Ideal.main_v8_6)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_v8_2) = v2 c
          ∧ r.2.mem ((c.tc : Thread Cert.Kernel18Ideal.nD Cert.Kernel18Ideal.τ).loc Cert.Kernel18Ideal.main_v8_3) = v3 c
          ∧ r.2.mem ((c.tc : Thread Cert.Kernel18Ideal.nD Cert.Kernel18Ideal.τ).loc Cert.Kernel18Ideal.main_v8_4) = v4 c
          ∧ r.2.mem ((c.tc : Thread Cert.Kernel18Ideal.nD Cert.Kernel18Ideal.τ).loc Cert.Kernel18Ideal.main_v8_5) = v5 c
          ∧ r.2.mem ((c.tc : Thread Cert.Kernel18Ideal.nD Cert.Kernel18Ideal.τ).loc Cert.Kernel18Ideal.main_v8_6) = v6 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v35) = v0 c
          ∧ r.2.mem ((c.tc : Thread Cert.Reference18Ideal.nD Cert.Reference18Ideal.τ).loc Cert.Reference18Ideal.main_v36) = v1 c
          ∧ r.2.mem ((c.tc : Thread Cert.Reference18Ideal.nD Cert.Reference18Ideal.τ).loc Cert.Reference18Ideal.main_v37) = v2 c
          ∧ r.2.mem ((c.tc : Thread Cert.Reference18Ideal.nD Cert.Reference18Ideal.τ).loc Cert.Reference18Ideal.main_v38) = v3 c
          ∧ r.2.mem ((c.tc : Thread Cert.Reference18Ideal.nD Cert.Reference18Ideal.τ).loc Cert.Reference18Ideal.main_v21) = v4 c
          ∧ r.2.mem ((c.tc : Thread Cert.Reference18Ideal.nD Cert.Reference18Ideal.τ).loc Cert.Reference18Ideal.main_v34) = v5 c
          ∧ r.2.mem ((c.tc : Thread Cert.Reference18Ideal.nD Cert.Reference18Ideal.τ).loc Cert.Reference18Ideal.main_v51) = v6 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v15) = v1 c
          ∧ r.2.mem ((c.tc : Thread Cert.Reference16Ideal.nD Cert.Reference16Ideal.τ).loc Cert.Reference16Ideal.main_v28) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel12_Kernel12Ideal : Prop :=
  True

def algebraic_Kernel12Ideal_Reference12Ideal_pre_finite_glafwd [hKernel12Ideal : Cert.Kernel12Ideal.Facts] [hReference12Ideal : Cert.Reference12Ideal.Facts] [hPre_finite_glafwd : Cert.Pre_finite_glafwd.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_glafwd m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)) (v3 : (c : Dev Cert.Kernel12Ideal.nD) → Buf (Elt Ideal) ((c.tc : Thread Cert.Kernel12Ideal.nD Cert.Kernel12Ideal.τ).loc Cert.Kernel12Ideal.main_v4_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_v4_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v67) = v0 c
          ∧ r.2.mem ((c.tc : Thread Cert.Reference12Ideal.nD Cert.Reference12Ideal.τ).loc Cert.Reference12Ideal.main_v68) = v1 c
          ∧ r.2.mem ((c.tc : Thread Cert.Reference12Ideal.nD Cert.Reference12Ideal.τ).loc Cert.Reference12Ideal.main_v70) = v2 c
          ∧ r.2.mem ((c.tc : Thread Cert.Reference12Ideal.nD Cert.Reference12Ideal.τ).loc Cert.Reference12Ideal.main_v71) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v7_0)) (v1 : (c : Dev Cert.Kernel19Ideal.nD) → Buf (Elt Ideal) ((c.tc : Thread Cert.Kernel19Ideal.nD Cert.Kernel19Ideal.τ).loc Cert.Kernel19Ideal.main_v7_1)) (v2 : (c : Dev Cert.Kernel19Ideal.nD) → Buf (Elt Ideal) ((c.tc : Thread Cert.Kernel19Ideal.nD Cert.Kernel19Ideal.τ).loc Cert.Kernel19Ideal.main_v7_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v7_0) = v0 c
          ∧ r.2.mem ((c.tc : Thread Cert.Kernel19Ideal.nD Cert.Kernel19Ideal.τ).loc Cert.Kernel19Ideal.main_v7_1) = v1 c
          ∧ r.2.mem ((c.tc : Thread Cert.Kernel19Ideal.nD Cert.Kernel19Ideal.τ).loc Cert.Kernel19Ideal.main_v7_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v5) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v25) = v0 c
          ∧ r.2.mem ((c.tc : Thread Cert.Reference21Ideal.nD Cert.Reference21Ideal.τ).loc Cert.Reference21Ideal.main_v5) = v1 c
          ∧ r.2.mem ((c.tc : Thread Cert.Reference21Ideal.nD Cert.Reference21Ideal.τ).loc Cert.Reference21Ideal.main_v12) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel6 : Cert.Kernel6.Facts) (hKernel6Ideal : Cert.Kernel6Ideal.Facts) (hReference6Ideal : Cert.Reference6Ideal.Facts) (hKernel14 : Cert.Kernel14.Facts) (hKernel14Ideal : Cert.Kernel14Ideal.Facts) (hReference14Ideal : Cert.Reference14Ideal.Facts) (hKernel13 : Cert.Kernel13.Facts) (hKernel13Ideal : Cert.Kernel13Ideal.Facts) (hReference13Ideal : Cert.Reference13Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel16 : Cert.Kernel16.Facts) (hKernel16Ideal : Cert.Kernel16Ideal.Facts) (hReference16Ideal : Cert.Reference16Ideal.Facts) (hKernel15 : Cert.Kernel15.Facts) (hKernel15Ideal : Cert.Kernel15Ideal.Facts) (hReference15Ideal : Cert.Reference15Ideal.Facts) (hKernel12 : Cert.Kernel12.Facts) (hKernel12Ideal : Cert.Kernel12Ideal.Facts) (hReference12Ideal : Cert.Reference12Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite_xattn : Cert.Pre_finite_xattn.Facts) (hPre_finite_pool : Cert.Pre_finite_pool.Facts) (hPre_finite_swiglu : Cert.Pre_finite_swiglu.Facts) (hPre_finite_ffn1in : Cert.Pre_finite_ffn1in.Facts) (hPre_finite_ffn2in : Cert.Pre_finite_ffn2in.Facts) (hPre_finite_mixin : Cert.Pre_finite_mixin.Facts) (hPre_finite_outloss : Cert.Pre_finite_outloss.Facts) (hPre_finite_xattnfwd : Cert.Pre_finite_xattnfwd.Facts) (hPre_finite_poolfwd : Cert.Pre_finite_poolfwd.Facts) (hPre_finite_glafwd : Cert.Pre_finite_glafwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_xattn (hKernel2Ideal := hKernel2Ideal) (hPre_finite_xattn := hPre_finite_xattn)
    ∧ quiescent_Reference2Ideal (hReference2Ideal := hReference2Ideal)
    ∧ quiescent_Reference2Ideal_pre_finite_xattn (hReference2Ideal := hReference2Ideal) (hPre_finite_xattn := hPre_finite_xattn)
    ∧ quiescent_Kernel3 (hKernel3 := hKernel3)
    ∧ quiescent_Kernel3Ideal (hKernel3Ideal := hKernel3Ideal)
    ∧ quiescent_Kernel3Ideal_pre_finite_pool (hKernel3Ideal := hKernel3Ideal) (hPre_finite_pool := hPre_finite_pool)
    ∧ quiescent_Reference3Ideal (hReference3Ideal := hReference3Ideal)
    ∧ quiescent_Reference3Ideal_pre_finite_pool (hReference3Ideal := hReference3Ideal) (hPre_finite_pool := hPre_finite_pool)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Kernel7Ideal_pre_finite_swiglu (hKernel7Ideal := hKernel7Ideal) (hPre_finite_swiglu := hPre_finite_swiglu)
    ∧ quiescent_Reference7Ideal (hReference7Ideal := hReference7Ideal)
    ∧ quiescent_Reference7Ideal_pre_finite_swiglu (hReference7Ideal := hReference7Ideal) (hPre_finite_swiglu := hPre_finite_swiglu)
    ∧ quiescent_Kernel9 (hKernel9 := hKernel9)
    ∧ quiescent_Kernel9Ideal (hKernel9Ideal := hKernel9Ideal)
    ∧ quiescent_Kernel9Ideal_pre_finite_ffn1in (hKernel9Ideal := hKernel9Ideal) (hPre_finite_ffn1in := hPre_finite_ffn1in)
    ∧ quiescent_Reference9Ideal (hReference9Ideal := hReference9Ideal)
    ∧ quiescent_Reference9Ideal_pre_finite_ffn1in (hReference9Ideal := hReference9Ideal) (hPre_finite_ffn1in := hPre_finite_ffn1in)
    ∧ quiescent_Kernel8 (hKernel8 := hKernel8)
    ∧ quiescent_Kernel8Ideal (hKernel8Ideal := hKernel8Ideal)
    ∧ quiescent_Kernel8Ideal_pre_finite_ffn2in (hKernel8Ideal := hKernel8Ideal) (hPre_finite_ffn2in := hPre_finite_ffn2in)
    ∧ quiescent_Reference8Ideal (hReference8Ideal := hReference8Ideal)
    ∧ quiescent_Reference8Ideal_pre_finite_ffn2in (hReference8Ideal := hReference8Ideal) (hPre_finite_ffn2in := hPre_finite_ffn2in)
    ∧ quiescent_Kernel10 (hKernel10 := hKernel10)
    ∧ quiescent_Kernel10Ideal (hKernel10Ideal := hKernel10Ideal)
    ∧ quiescent_Kernel10Ideal_pre_finite_mixin (hKernel10Ideal := hKernel10Ideal) (hPre_finite_mixin := hPre_finite_mixin)
    ∧ quiescent_Reference10Ideal (hReference10Ideal := hReference10Ideal)
    ∧ quiescent_Reference10Ideal_pre_finite_mixin (hReference10Ideal := hReference10Ideal) (hPre_finite_mixin := hPre_finite_mixin)
    ∧ quiescent_Kernel6 (hKernel6 := hKernel6)
    ∧ quiescent_Kernel6Ideal (hKernel6Ideal := hKernel6Ideal)
    ∧ quiescent_Kernel6Ideal_pre_finite_outloss (hKernel6Ideal := hKernel6Ideal) (hPre_finite_outloss := hPre_finite_outloss)
    ∧ quiescent_Reference6Ideal (hReference6Ideal := hReference6Ideal)
    ∧ quiescent_Reference6Ideal_pre_finite_outloss (hReference6Ideal := hReference6Ideal) (hPre_finite_outloss := hPre_finite_outloss)
    ∧ quiescent_Kernel14 (hKernel14 := hKernel14)
    ∧ quiescent_Kernel14Ideal (hKernel14Ideal := hKernel14Ideal)
    ∧ quiescent_Kernel14Ideal_pre_finite_xattnfwd (hKernel14Ideal := hKernel14Ideal) (hPre_finite_xattnfwd := hPre_finite_xattnfwd)
    ∧ quiescent_Reference14Ideal (hReference14Ideal := hReference14Ideal)
    ∧ quiescent_Reference14Ideal_pre_finite_xattnfwd (hReference14Ideal := hReference14Ideal) (hPre_finite_xattnfwd := hPre_finite_xattnfwd)
    ∧ quiescent_Kernel13 (hKernel13 := hKernel13)
    ∧ quiescent_Kernel13Ideal (hKernel13Ideal := hKernel13Ideal)
    ∧ quiescent_Kernel13Ideal_pre_finite_poolfwd (hKernel13Ideal := hKernel13Ideal) (hPre_finite_poolfwd := hPre_finite_poolfwd)
    ∧ quiescent_Reference13Ideal (hReference13Ideal := hReference13Ideal)
    ∧ quiescent_Reference13Ideal_pre_finite_poolfwd (hReference13Ideal := hReference13Ideal) (hPre_finite_poolfwd := hPre_finite_poolfwd)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel12 (hKernel12 := hKernel12)
    ∧ quiescent_Kernel12Ideal (hKernel12Ideal := hKernel12Ideal)
    ∧ quiescent_Kernel12Ideal_pre_finite_glafwd (hKernel12Ideal := hKernel12Ideal) (hPre_finite_glafwd := hPre_finite_glafwd)
    ∧ quiescent_Reference12Ideal (hReference12Ideal := hReference12Ideal)
    ∧ quiescent_Reference12Ideal_pre_finite_glafwd (hReference12Ideal := hReference12Ideal) (hPre_finite_glafwd := hPre_finite_glafwd)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_xattn (hKernel2Ideal := hKernel2Ideal) (hReference2Ideal := hReference2Ideal) (hPre_finite_xattn := hPre_finite_xattn)
    ∧ preserves_Kernel3_Kernel3Ideal
    ∧ algebraic_Kernel3Ideal_Reference3Ideal_pre_finite_pool (hKernel3Ideal := hKernel3Ideal) (hReference3Ideal := hReference3Ideal) (hPre_finite_pool := hPre_finite_pool)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal_pre_finite_swiglu (hKernel7Ideal := hKernel7Ideal) (hReference7Ideal := hReference7Ideal) (hPre_finite_swiglu := hPre_finite_swiglu)
    ∧ preserves_Kernel9_Kernel9Ideal
    ∧ algebraic_Kernel9Ideal_Reference9Ideal_pre_finite_ffn1in (hKernel9Ideal := hKernel9Ideal) (hReference9Ideal := hReference9Ideal) (hPre_finite_ffn1in := hPre_finite_ffn1in)
    ∧ preserves_Kernel8_Kernel8Ideal
    ∧ algebraic_Kernel8Ideal_Reference8Ideal_pre_finite_ffn2in (hKernel8Ideal := hKernel8Ideal) (hReference8Ideal := hReference8Ideal) (hPre_finite_ffn2in := hPre_finite_ffn2in)
    ∧ preserves_Kernel10_Kernel10Ideal
    ∧ algebraic_Kernel10Ideal_Reference10Ideal_pre_finite_mixin (hKernel10Ideal := hKernel10Ideal) (hReference10Ideal := hReference10Ideal) (hPre_finite_mixin := hPre_finite_mixin)
    ∧ preserves_Kernel6_Kernel6Ideal
    ∧ algebraic_Kernel6Ideal_Reference6Ideal_pre_finite_outloss (hKernel6Ideal := hKernel6Ideal) (hReference6Ideal := hReference6Ideal) (hPre_finite_outloss := hPre_finite_outloss)
    ∧ preserves_Kernel14_Kernel14Ideal
    ∧ algebraic_Kernel14Ideal_Reference14Ideal_pre_finite_xattnfwd (hKernel14Ideal := hKernel14Ideal) (hReference14Ideal := hReference14Ideal) (hPre_finite_xattnfwd := hPre_finite_xattnfwd)
    ∧ preserves_Kernel13_Kernel13Ideal
    ∧ algebraic_Kernel13Ideal_Reference13Ideal_pre_finite_poolfwd (hKernel13Ideal := hKernel13Ideal) (hReference13Ideal := hReference13Ideal) (hPre_finite_poolfwd := hPre_finite_poolfwd)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel16_Kernel16Ideal
    ∧ algebraic_Kernel16Ideal_Reference16Ideal (hKernel16Ideal := hKernel16Ideal) (hReference16Ideal := hReference16Ideal)
    ∧ preserves_Kernel15_Kernel15Ideal
    ∧ algebraic_Kernel15Ideal_Reference15Ideal (hKernel15Ideal := hKernel15Ideal) (hReference15Ideal := hReference15Ideal)
    ∧ preserves_Kernel12_Kernel12Ideal
    ∧ algebraic_Kernel12Ideal_Reference12Ideal_pre_finite_glafwd (hKernel12Ideal := hKernel12Ideal) (hReference12Ideal := hReference12Ideal) (hPre_finite_glafwd := hPre_finite_glafwd)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)
  bcast_S_S1x1024 : S_.BroadcastsInDim S1x1024 (![] : Fin 0 → Fin S1x1024.rank)

variable [Facts]

def fn {F : FTy → Type} [FloatOps F] (main_arg0 : FVec F S256x1024 .f32) (main_arg1 : FVec F S1x1024 .f32) (main_arg2 : FVec F S256x1024 .f32) : IVec S256x1024 1 × IVec S1x1024 1 × IVec S256x1024 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  (main_v2, main_v5, main_v8)
-- ==== Pre_finite_ffn1in.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .f32) (main_arg1 : FVec F S1024x5632 .f32) (main_arg2 : FVec F S4096x1024 .f32) (main_arg3 : FVec F S1x1024 .f32) (main_arg4 : FVec F S4096x1024 .f32) : IVec S4096x5632 1 × IVec S1024x5632 1 × IVec S4096x1024 1 × IVec S1x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_ffn2in.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S4096x1024 .f32) (main_v2 : IVec S4096x5632 1) (main_v5 : IVec S1024x5632 1) (main_v8 : IVec S4096x1024 1) (main_v11 : IVec S4096x1024 1) (main_v14 : IVec S1x1024 1) (main_v17 : IVec S1x1024 1) : IVec S4096x5632 1 × IVec S1024x5632 1 × IVec S4096x1024 1 × IVec S4096x1024 1 × IVec S1x1024 1 × IVec S1x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x5632 .f32) (main_arg1 : FVec F S1024x5632 .f32) (main_arg2 : FVec F S4096x1024 .f32) (main_arg3 : FVec F S4096x1024 .f32) (main_arg4 : FVec F S1x1024 .f32) (main_arg5 : FVec F S1x1024 .f32) (main_arg6 : FVec F S4096x1024 .f32) : IVec S4096x5632 1 × IVec S1024x5632 1 × IVec S4096x1024 1 × IVec S4096x1024 1 × IVec S1x1024 1 × IVec S1x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite_glafwd.lean ====
abbrev S4096x3088 : Shape := ⟨2, ![4096, 3088]⟩
abbrev S16x512 : Shape := ⟨2, ![16, 512]⟩
abbrev S1x512 : Shape := ⟨2, ![1, 512]⟩
abbrev S1x1024 : Shape := ⟨2, ![1, 1024]⟩
abbrev S_ : Shape := ⟨0, ![]⟩

class Facts : Prop where
  bcast_S_S4096x3088 : S_.BroadcastsInDim S4096x3088 (![] : Fin 0 → Fin S4096x3088.rank)
  bcast_S_S16x512 : S_.BroadcastsInDim S16x512 (![] : Fin 0 → Fin S16x512.rank)
  bcast_S_S1x512 : S_.BroadcastsInDim S1x512 (![] : Fin 0 → Fin S1x512.rank)

variable [Facts]

def fn {F : FTy → Type} [FloatOps F] (main_arg0 : FVec F S4096x3088 .f32) (main_arg1 : FVec F S16x512 .f32) (main_arg2 : FVec F S1x512 .f32) (main_arg3 : FVec F S1x1024 .f32) : IVec S4096x3088 1 × IVec S16x512 1 × IVec S1x512 1 :=
  let main_v0 : FVec F S4096x3088 .f32 := Host.absf main_arg0
  let main_cst : FVec F S_ .f32 := constant S_ .f32 0x7F800000#32
  let main_v1 : FVec F S4096x3088 .f32 := broadcastInDim S4096x3088 ![] bcast_S_S4096x3088 main_cst
  let main_v2 : IVec S4096x3088 1 := cmpf .olt main_v0 main_v1
  let main_v3 : FVec F S16x512 .f32 := Host.absf main_arg1
  let main_cst_0 : FVec F S_ .f32 := constant S_ .f32 0x7F800000#32
  let main_v4 : FVec F S16x512 .f32 := broadcastInDim S16x512 ![] bcast_S_S16x512 main_cst_0
  let main_v5 : IVec S16x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  (main_v2, main_v5, main_v8)
-- ==== Pre_finite_mixin.lean ====
abbrev S4096x7184 : Shape := ⟨2, ![4096, 7184]⟩
abbrev S1024x7184 : Shape := ⟨2, ![1024, 7184]⟩
abbrev S4096x1024 : Shape := ⟨2, ![4096, 1024]⟩
abbrev S1x1024 : Shape := ⟨2, ![1, 1024]⟩
abbrev S_ : Shape := ⟨0, ![]⟩

class Facts : Prop where
  bcast_S_S4096x7184 : S_.BroadcastsInDim S4096x7184 (![] : Fin 0 → Fin S4096x7184.rank)
  bcast_S_S1024x7184 : S_.BroadcastsInDim S1024x7184 (![] : Fin 0 → Fin S1024x7184.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S4096x1024 .f32) (main_v2 : IVec S4096x7184 1) (main_v5 : IVec S1024x7184 1) (main_v8 : IVec S4096x1024 1) (main_v11 : IVec S4096x1024 1) (main_v14 : IVec S1x1024 1) (main_v17 : IVec S1x1024 1) : IVec S4096x7184 1 × IVec S1024x7184 1 × IVec S4096x1024 1 × IVec S4096x1024 1 × IVec S1x1024 1 × IVec S1x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x7184 .f32) (main_arg1 : FVec F S1024x7184 .f32) (main_arg2 : FVec F S4096x1024 .f32) (main_arg3 : FVec F S4096x1024 .f32) (main_arg4 : FVec F S1x1024 .f32) (main_arg5 : FVec F S1x1024 .f32) (main_arg6 : FVec F S4096x1024 .f32) : IVec S4096x7184 1 × IVec S1024x7184 1 × IVec S4096x1024 1 × IVec S4096x1024 1 × IVec S1x1024 1 × IVec S1x1024 1 × IVec S4096x1024 1 :=
  let main_v0 : FVec F S4096x7184 .f32 := Host.absf main_arg0
  let main_cst : FVec F S_ .f32 := constant S_ .f32 0x7F800000#32
  let main_v1 : FVec F S4096x7184 .f32 := broadcastInDim S4096x7184 ![] bcast_S_S4096x7184 main_cst
  let main_v2 : IVec S4096x7184 1 := cmpf .olt main_v0 main_v1
  let main_v3 : FVec F S1024x7184 .f32 := Host.absf main_arg1
  let main_cst_0 : FVec F S_ .f32 := constant S_ .f32 0x7F800000#32
  let main_v4 : FVec F S1024x7184 .f32 := broadcastInDim S1024x7184 ![] bcast_S_S1024x7184 main_cst_0
  let main_v5 : IVec S1024x7184 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite_outloss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S1x1024 .f32) (main_arg5 : FVec F S4096x1024 .f32) : IVec S4096x2816 1 × IVec S2816x1024 1 × IVec S4096x1024 1 × IVec S1x1024 1 × IVec S1x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_pool.lean ====
abbrev S4096x512 : Shape := ⟨2, ![4096, 512]⟩
abbrev S4096x1024 : Shape := ⟨2, ![4096, 1024]⟩
abbrev S4x128x128 : Shape := ⟨3, ![4, 128, 128]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S4096x512 .f32) (main_arg1 : FVec F S4096x1024 .f32) (main_arg2 : FVec F S4x128x128 .f32) (main_arg3 : FVec F S1x512 .f32) : IVec S4096x512 1 × IVec S4096x1024 1 × IVec S4x128x128 1 × IVec S1x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Pre_finite_poolfwd.lean ====
abbrev S4096x1024 : Shape := ⟨2, ![4096, 1024]⟩
abbrev S4x128x128 : Shape := ⟨3, ![4, 128, 128]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S4096x1024 .f32) (main_arg1 : FVec F S4x128x128 .f32) (main_arg2 : FVec F S1x512 .f32) : IVec S4096x1024 1 × IVec S4x128x128 1 × IVec S1x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4x128x128 .f32 := Host.absf main_arg1
  let main_cst_0 : FVec F S_ .f32 := constant S_ .f32 0x7F800000#32
  let main_v4 : FVec F S4x128x128 .f32 := broadcastInDim S4x128x128 ![] bcast_S_S4x128x128 main_cst_0
  let main_v5 : IVec S4x128x128 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  (main_v2, main_v5, main_v8)
-- ==== Pre_finite_swiglu.lean ====
abbrev S4096x1024 : Shape := ⟨2, ![4096, 1024]⟩
abbrev S2816x1024 : Shape := ⟨2, ![2816, 1024]⟩
abbrev S1024x5632 : Shape := ⟨2, ![1024, 5632]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S1024x5632 : S_.BroadcastsInDim S1024x5632 (![] : Fin 0 → Fin S1024x5632.rank)

variable [Facts]

def fn {F : FTy → Type} [FloatOps F] (main_arg0 : FVec F S4096x1024 .f32) (main_arg1 : FVec F S2816x1024 .f32) (main_arg2 : FVec F S4096x1024 .f32) (main_arg3 : FVec F S1024x5632 .f32) : IVec S4096x1024 1 × IVec S2816x1024 1 × IVec S4096x1024 1 × IVec S1024x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  (main_v2, main_v5, main_v8, main_v11)
-- ==== Pre_finite_xattn.lean ====
abbrev S4096x512 : Shape := ⟨2, ![4096, 512]⟩
abbrev S4096x1024 : Shape := ⟨2, ![4096, 1024]⟩
abbrev S256x1024 : Shape := ⟨2, ![256, 1024]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)
  bcast_S_S256x1024 : S_.BroadcastsInDim S256x1024 (![] : Fin 0 → Fin S256x1024.rank)

variable [Facts]

def fn {F : FTy → Type} [FloatOps F] (main_arg0 : FVec F S4096x512 .f32) (main_arg1 : FVec F S4096x1024 .f32) (main_arg2 : FVec F S256x1024 .f32) : IVec S4096x512 1 × IVec S4096x1024 1 × IVec S256x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  (main_v2, main_v5, main_v8)
-- ==== Pre_finite_xattnfwd.lean ====
abbrev S4096x1024 : Shape := ⟨2, ![4096, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S256x1024 : S_.BroadcastsInDim S256x1024 (![] : Fin 0 → Fin S256x1024.rank)

variable [Facts]

def fn {F : FTy → Type} [FloatOps F] (main_arg0 : FVec F S4096x1024 .f32) (main_arg1 : FVec F S256x1024 .f32) : IVec S4096x1024 1 × IVec S256x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  (main_v2, main_v5)
-- ==== Kernel.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .bf16⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .bf16⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel2.lean ====
abbrev S4096x512 : Shape := ⟨2, ![4096, 512]⟩
abbrev S4096x1024 : Shape := ⟨2, ![4096, 1024]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S256x1024, .f32⟩
  | .hbm, ⟨3, _⟩ => ⟨S4096x512, .bf16⟩
  | .hbm, ⟨4, _⟩ => ⟨S4096x1024, .bf16⟩
  | .hbm, ⟨5, _⟩ => ⟨S256x1024, .bf16⟩
  | .hbm, ⟨6, _⟩ => ⟨S4096x512, .bf16⟩
  | .hbm, ⟨7, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x1024, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S4096x512 : Shape := ⟨2, ![4096, 512]⟩
abbrev S4096x1024 : Shape := ⟨2, ![4096, 1024]⟩
abbrev S256x1024 : Shape := ⟨2, ![256, 1024]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S256x1024, .f32⟩
  | .hbm, ⟨3, _⟩ => ⟨S4096x512, .f32⟩
  | .hbm, ⟨4, _⟩ => ⟨S4096x512, .f32⟩
  | .hbm, ⟨5, _⟩ => ⟨S4096x4x128, .f32⟩
  | .hbm, ⟨6, _⟩ => ⟨S256x512, .f32⟩
  | .hbm, ⟨7, _⟩ => ⟨S256x512, .f32⟩
  | .hbm, ⟨8, _⟩ => ⟨S256x4x128, .f32⟩
  | .hbm, ⟨9, _⟩ => ⟨S256x4x128, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x128x4096, .f32⟩
  | .hbm, ⟨53, _⟩ => ⟨S4096x4x128, .f32⟩
  | .hbm, ⟨54, _⟩ => ⟨S4096x512, .f32⟩
  | .hbm, ⟨55, _⟩ => ⟨S4096x4x128, .f32⟩
  | .hbm, ⟨56, _⟩ => ⟨S4x128x4096, .f32⟩
  | .hbm, ⟨57, _⟩ => ⟨S4x4096x256, .f32⟩
  | .hbm, ⟨58, _⟩ => ⟨S4x128x256, .f32⟩
  | .hbm, ⟨59, _⟩ => ⟨S256x4x128, .f32⟩
  | .hbm, ⟨60, _⟩ => ⟨S4x4096x256, .f32⟩
  | .hbm, ⟨61, _⟩ => ⟨S4x4096x256, .f32⟩
  | .hbm, ⟨62, _⟩ => ⟨S4x4096x256, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S4x4096x1, .f32⟩
  | .hbm, ⟨67, _⟩ => ⟨S4x4096x256, .f32⟩
  | .hbm, ⟨68, _⟩ => ⟨S4x4096x256, .f32⟩
  | .hbm, ⟨69, _⟩ => ⟨S_, .f32⟩
  | .hbm, ⟨70, _⟩ => ⟨S4x4096, .f32⟩
  | .hbm, ⟨71, _⟩ => ⟨S4x4096x256, .f32⟩
  | .hbm, ⟨72, _⟩ => ⟨S4x4096x256, .f32⟩
  | .hbm, ⟨73, _⟩ => ⟨S4x4096x256, .f32⟩
  | .hbm, ⟨74, _⟩ => ⟨S_, .f32⟩
  | .hbm, ⟨75, _⟩ => ⟨S4x4096x256, .f32⟩
  | .hbm, ⟨76, _⟩ => ⟨S4x4096x256, .f32⟩
  | .hbm, ⟨77, _⟩ => ⟨S4x256x128, .f32⟩
  | .hbm, ⟨78, _⟩ => ⟨S256x4x128, .f32⟩
  | .hbm, ⟨79, _⟩ => ⟨S4x4096x128, .f32⟩
  | .hbm, ⟨80, _⟩ => ⟨S4096x4x128, .f32⟩
  | .hbm, ⟨81, _⟩ => ⟨S256x512, .f32⟩
  | .hbm, ⟨82, _⟩ => ⟨S256x512, .f32⟩
  | .hbm, ⟨83, _⟩ => ⟨S256x1024, .f32⟩
  | .hbm, ⟨84, _⟩ => ⟨S4096x512, .f32⟩
  | .hbm, ⟨85, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel3.lean ====
abbrev S4096x512 : Shape := ⟨2, ![4096, 512]⟩
abbrev S4096x1024 : Shape := ⟨2, ![4096, 1024]⟩
abbrev S4x128x128 : Shape := ⟨3, ![4, 128, 128]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S528x128 : Shape := ⟨2, ![528, 128]⟩
abbrev S528x1 : Shape := ⟨2, ![528, 1]⟩
abbrev S1x128x128 : Shape := ⟨3, ![1, 128, 128]⟩
abbrev S128x128 : Shape := ⟨2, ![128, 128]⟩
abbrev S512x128 : Shape := ⟨2, ![512, 128]⟩
abbrev S512x1 : Shape := ⟨2, ![512, 1]⟩
abbrev S1x128 : Shape := ⟨2, ![1, 128]⟩
abbrev S128 : Shape := ⟨1, ![128]⟩
abbrev S16x128 : Shape := ⟨2, ![16, 128]⟩
abbrev S16x1 : Shape := ⟨2, ![16, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4x128x128, .f32⟩
  | .hbm, ⟨3, _⟩ => ⟨S1x512, .f32⟩
  | .hbm, ⟨4, _⟩ => ⟨S4096x512, .bf16⟩
  | .hbm, ⟨5, _⟩ => ⟨S4096x1024, .bf16⟩
  | .hbm, ⟨6, _⟩ => ⟨S4x128x128, .bf16⟩
  | .hbm, ⟨7, _⟩ => ⟨S4096x512, .bf16⟩
  | .hbm, ⟨8, _⟩ => ⟨S4x128x128, .f32⟩
  | .hbm, ⟨9, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S4x128x128, .bf16⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S4x128x128, .f32⟩
  | .local _ .vmem, ⟨13, _⟩ => ⟨S1x512, .f32⟩
  | .local _ .vmem, ⟨14, _⟩ => ⟨S528x512, .f32⟩
  | .local _ .vmem, ⟨15, _⟩ => ⟨S528x512, .f32⟩
  | .local _ .vmem, ⟨16, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x512 : Shape := ⟨2, ![4096, 512]⟩
abbrev S4096x1024 : Shape := ⟨2, ![4096, 1024]⟩
abbrev S4x128x128 : Shape := ⟨3, ![4, 128, 128]⟩
abbrev S1x512 : Shape := ⟨2, ![1, 512]⟩
abbrev S4096x4x128 : Shape := ⟨3, ![4096, 4, 128]⟩
abbrev S_ : Shape := ⟨0, ![]⟩
abbrev S1x4x128 : Shape := ⟨3, ![1, 4, 128]⟩
abbrev S4097x4x128 : Shape := ⟨3, ![4097, 4, 128]⟩
abbrev S4096 : Shape := ⟨1, ![4096]⟩
abbrev S4097x1x128 : Shape := ⟨3, ![4097, 1, 128]⟩
abbrev S4097x128 : Shape := ⟨2, ![4097, 128]⟩
abbrev S1x128 : Shape := ⟨2, ![1, 128]⟩
abbrev S4095x128 : Shape := ⟨2, ![4095, 128]⟩
abbrev S4096x128 : Shape := ⟨2, ![4096, 128]⟩
abbrev S4096x1 : Shape := ⟨2, ![4096, 1]⟩
abbrev S4096x1x128 : Shape := ⟨3, ![4096, 1, 128]⟩
abbrev S3x128 : Shape := ⟨2, ![3, 128]⟩
abbrev S4093x128 : Shape := ⟨2, ![4093, 128]⟩
abbrev S7x128 : Shape := ⟨2, ![7, 128]⟩
abbrev S4089x128 : Shape := ⟨2, ![4089, 128]⟩
abbrev S15x128 : Shape := ⟨2, ![15, 128]⟩
abbrev S4081x128 : Shape := ⟨2, ![4081, 128]⟩
abbrev S4x128x4096 : Shape := ⟨3, ![4, 128, 4096]⟩
abbrev S512 : Shape := ⟨1, ![512]⟩
abbrev S4x4096x128 : Shape := ⟨3, ![4, 4096, 128]⟩

abbrev nBuf : Space → Nat
  | .hbm => 207
  | .vmem => 0
  | .smem => 0
  | _ => 0

abbrev hbmTy0_0 (i : Nat) : BufTy := match i % 128 with
  | 0 => ⟨S4096x512, .f32⟩
  | 1 => ⟨S4096x1024, .f32⟩
  | 2 => ⟨S4x128x128, .f32⟩
  | 3 => ⟨S1x512, .f32⟩
  | 4 => ⟨S4096x512, .f32⟩
  | 5 => ⟨S4096x512, .f32⟩
  | 6 => ⟨S4096x4x128, .f32⟩
  | 7 => ⟨S_, .f32⟩
  | 8 => ⟨S1x4x128, .f32⟩
  | 9 => ⟨S_, .f32⟩
  | 10 => ⟨S_, .f32⟩
  | 11 => ⟨S4096x4x128, .f32⟩
  | 12 => ⟨S4097x4x128, .f32⟩
  | 13 => ⟨S_, .f32⟩
  | 14 => ⟨S1x4x128, .f32⟩
  | 15 => ⟨S4096, .f32⟩
  | 16 => ⟨S_, .f32⟩
  | 17 => ⟨S4096, .f32⟩
  | 18 => ⟨S4096, .f32⟩
  | 19 => ⟨S4097x1x128, .f32⟩
  | 20 => ⟨S4097x128, .f32⟩
  | 21 => ⟨S_, .f32⟩
  | 22 => ⟨S1x128, .f32⟩
  | 23 => ⟨S4095x128, .f32⟩
  | 24 => ⟨S4096x128, .f32⟩
  | 25 => ⟨S_, .f32⟩
  | 26 => ⟨S1x128, .f32⟩
  | 27 => ⟨S_, .f32⟩
  | 28 => ⟨S4096, .f32⟩
  | 29 => ⟨S4096, .f32⟩
  | 30 => ⟨S4096x1, .f32⟩
  | 31 => ⟨S4096x128, .f32⟩
  | 32 => ⟨S4096x128, .f32⟩
  | 33 => ⟨S4096x128, .f32⟩
  | 34 => ⟨S4096x128, .f32⟩
  | 35 => ⟨S4096x1x128, .f32⟩
  | 36 => ⟨S4096x128, .f32⟩
  | 37 => ⟨S4096x128, .f32⟩
  | 38 => ⟨S4097x1x128, .f32⟩
  | 39 => ⟨S4097x128, .f32⟩
  | 40 => ⟨S_, .f32⟩
  | 41 => ⟨S3x128, .f32⟩
  | 42 => ⟨S4093x128, .f32⟩
  | 43 => ⟨S4096x128, .f32⟩
  | 44 => ⟨S_, .f32⟩
  | 45 => ⟨S3x128, .f32⟩
  | 46 => ⟨S_, .f32⟩
  | 47 => ⟨S4096, .f32⟩
  | 48 => ⟨S4096, .f32⟩
  | 49 => ⟨S4096x1, .f32⟩
  | 50 => ⟨S4096x128, .f32⟩
  | 51 => ⟨S4096x128, .f32⟩
  | 52 => ⟨S4096x128, .f32⟩
  | 53 => ⟨S4096x128, .f32⟩
  | 54 => ⟨S4096x1x128, .f32⟩
  | 55 => ⟨S4096x128, .f32⟩
  | 56 => ⟨S4096x128, .f32⟩
  | 57 => ⟨S4097x1x128, .f32⟩
  | 58 => ⟨S4097x128, .f32⟩
  | 59 => ⟨S_, .f32⟩
  | 60 => ⟨S7x128, .f32⟩
  | 61 => ⟨S4089x128, .f32⟩
  | 62 => ⟨S4096x128, .f32⟩
  | 63 => ⟨S_, .f32⟩
  | 64 => ⟨S7x128, .f32⟩
  | 65 => ⟨S_, .f32⟩
  | 66 => ⟨S4096, .f32⟩
  | 67 => ⟨S4096, .f32⟩
  | 68 => ⟨S4096x1, .f32⟩
  | 69 => ⟨S4096x128, .f32⟩
  | 70 => ⟨S4096x128, .f32⟩
  | 71 => ⟨S4096x128, .f32⟩
  | 72 => ⟨S4096x128, .f32⟩
  | 73 => ⟨S4096x1x128, .f32⟩
  | 74 => ⟨S4096x128, .f32⟩
  | 75 => ⟨S4096x128, .f32⟩
  | 76 => ⟨S4097x1x128, .f32⟩
  | 77 => ⟨S4097x128, .f32⟩
  | 78 => ⟨S_, .f32⟩
  | 79 => ⟨S15x128, .f32⟩
  | 80 => ⟨S4081x128, .f32⟩
  | 81 => ⟨S4096x128, .f32⟩
  | 82 => ⟨S_, .f32⟩
  | 83 => ⟨S15x128, .f32⟩
  | 84 => ⟨S_, .f32⟩
  | 85 => ⟨S4096, .f32⟩
  | 86 => ⟨S4096, .f32⟩
  | 87 => ⟨S4096x1, .f32⟩
  | 88 => ⟨S4096x128, .f32⟩
  | 89 => ⟨S4096x128, .f32⟩
  | 90 => ⟨S4096x128, .f32⟩
  | 91 => ⟨S4096x128, .f32⟩
  | 92 => ⟨S4096x1x128, .f32⟩
  | 93 => ⟨S4096x128, .f32⟩
  | 94 => ⟨S4096x128, .f32⟩
  | 95 => ⟨S4096x1x128, .f32⟩
  | 96 => ⟨S4096x1x128, .f32⟩
  | 97 => ⟨S4096x1x128, .f32⟩
  | 98 => ⟨S4096x1x128, .f32⟩
  | 99 => ⟨S4096x4x128, .f32⟩
  | 100 => ⟨S4x128x4096, .f32⟩
  | 101 => ⟨S4096x4x128, .f32⟩
  | 102 => ⟨S4096x512, .f32⟩
  | 103 => ⟨S4096x512, .f32⟩
  | 104 => ⟨S4096x512, .f32⟩
  | 105 => ⟨S4096x512, .f32⟩
  | 106 => ⟨S_, .f32⟩
  | 107 => ⟨S512, .f32⟩
  | 108 => ⟨S1x512, .f32⟩
  | 109 => ⟨S4096x512, .f32⟩
  | 110 => ⟨S4096x512, .f32⟩
  | 111 => ⟨S4096x4x128, .f32⟩
  | 112 => ⟨S4x128x4096, .f32⟩
  | 113 => ⟨S4x4096x128, .f32⟩
  | 114 => ⟨S4096x4x128, .f32⟩
  | 115 => ⟨S4x128x128, .f32⟩
  | 116 => ⟨S4x128x128, .f32⟩
  | 117 => ⟨S4096x1x128, .f32⟩
  | 118 => ⟨S4096x128, .f32⟩
  | 119 => ⟨S4096x1x128, .f32⟩
  | 120 => ⟨S4096x128, .f32⟩
  | 121 => ⟨S4096x1x128, .f32⟩
  | 122 => ⟨S4096x128, .f32⟩
  | 123 => ⟨S4096x1x128, .f32⟩
  | 124 => ⟨S4096x128, .f32⟩
  | 125 => ⟨S4096x128, .f32⟩
  | 126 => ⟨S4096x1x128, .f32⟩
  | 127 => ⟨S_, .f32⟩
  | _ => ⟨S4096x512, .f32⟩

abbrev hbmTy0_1 (i : Nat) : BufTy := match i % 128 with
  | 0 => ⟨S4096x4x128, .f32⟩
  | 1 => ⟨S4096x128, .f32⟩
  | 2 => ⟨S4096x128, .f32⟩
  | 3 => ⟨S4096x128, .f32⟩
  | 4 => ⟨S_, .f32⟩
  | 5 => ⟨S4097x128, .f32⟩
  | 6 => ⟨S15x128, .f32⟩
  | 7 => ⟨S4081x128, .f32⟩
  | 8 => ⟨S_, .f32⟩
  | 9 => ⟨S4097x128, .f32⟩
  | 10 => ⟨S4097x128, .f32⟩
  | 11 => ⟨S4097x1x128, .f32⟩
  | 12 => ⟨S_, .f32⟩
  | 13 => ⟨S4097x4x128, .f32⟩
  | 14 => ⟨S4096x128, .f32⟩
  | 15 => ⟨S4096x1x128, .f32⟩
  | 16 => ⟨S_, .f32⟩
  | 17 => ⟨S4096x4x128, .f32⟩
  | 18 => ⟨S4096x4x128, .f32⟩
  | 19 => ⟨S4096x128, .f32⟩
  | 20 => ⟨S4096x128, .f32⟩
  | 21 => ⟨S4096x128, .f32⟩
  | 22 => ⟨S_, .f32⟩
  | 23 => ⟨S4097x128, .f32⟩
  | 24 => ⟨S7x128, .f32⟩
  | 25 => ⟨S4089x128, .f32⟩
  | 26 => ⟨S_, .f32⟩
  | 27 => ⟨S4097x128, .f32⟩
  | 28 => ⟨S4097x128, .f32⟩
  | 29 => ⟨S4097x1x128, .f32⟩
  | 30 => ⟨S_, .f32⟩
  | 31 => ⟨S4097x4x128, .f32⟩
  | 32 => ⟨S4097x4x128, .f32⟩
  | 33 => ⟨S4096x128, .f32⟩
  | 34 => ⟨S4096x1x128, .f32⟩
  | 35 => ⟨S_, .f32⟩
  | 36 => ⟨S4096x4x128, .f32⟩
  | 37 => ⟨S4096x4x128, .f32⟩
  | 38 => ⟨S4096x128, .f32⟩
  | 39 => ⟨S4096x128, .f32⟩
  | 40 => ⟨S4096x128, .f32⟩
  | 41 => ⟨S_, .f32⟩
  | 42 => ⟨S4097x128, .f32⟩
  | 43 => ⟨S3x128, .f32⟩
  | 44 => ⟨S4093x128, .f32⟩
  | 45 => ⟨S_, .f32⟩
  | 46 => ⟨S4097x128, .f32⟩
  | 47 => ⟨S4097x128, .f32⟩
  | 48 => ⟨S4097x1x128, .f32⟩
  | 49 => ⟨S_, .f32⟩
  | 50 => ⟨S4097x4x128, .f32⟩
  | 51 => ⟨S4097x4x128, .f32⟩
  | 52 => ⟨S4096x128, .f32⟩
  | 53 => ⟨S4096x1x128, .f32⟩
  | 54 => ⟨S_, .f32⟩
  | 55 => ⟨S4096x4x128, .f32⟩
  | 56 => ⟨S4096x4x128, .f32⟩
  | 57 => ⟨S4096x128, .f32⟩
  | 58 => ⟨S4096x128, .f32⟩
  | 59 => ⟨S4096x128, .f32⟩
  | 60 => ⟨S_, .f32⟩
  | 61 => ⟨S4097x128, .f32⟩
  | 62 => ⟨S1x128, .f32⟩
  | 63 => ⟨S4095x128, .f32⟩
  | 64 => ⟨S_, .f32⟩
  | 65 => ⟨S4097x128, .f32⟩
  | 66 => ⟨S4097x128, .f32⟩
  | 67 => ⟨S4097x1x128, .f32⟩
  | 68 => ⟨S_, .f32⟩
  | 69 => ⟨S4097x4x128, .f32⟩
  | 70 => ⟨S4097x4x128, .f32⟩
  | 71 => ⟨S1x4x128, .f32⟩
  | 72 => ⟨S4096x4x128, .f32⟩
  | 73 => ⟨S_, .f32⟩
  | 74 => ⟨S_, .f32⟩
  | 75 => ⟨S4096x4x128, .f32⟩
  | 76 => ⟨S4096x4x128, .f32⟩
  | 77 => ⟨S4096x512, .f32⟩
  | 78 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_15 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_16 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_17 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_18 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_19 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_20 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_21 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_22 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_23 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_24 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_25 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_26 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_27 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_28 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_cst_29 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_30 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_call1_call0_cst : Ref sig .tc := ⟨.hbm, 201, rfl⟩
abbrev main_call1_call0_v0 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩

abbrev nD : Nat := 1
abbrev τ : Topo := Topo.v7x

variable {F : FTy → Type} [FloatOps F]
-- ==== Kernel5.lean ====
abbrev S4096x1024 : Shape := ⟨2, ![4096, 1024]⟩
abbrev S4096x3072 : Shape := ⟨2, ![4096, 3072]⟩
abbrev S4096x512 : Shape := ⟨2, ![4096, 512]⟩
abbrev S1024x1024 : Shape := ⟨2, ![1024, 1024]⟩
abbrev S512x1024 : Shape := ⟨2, ![512, 1024]⟩
abbrev S512x3072 : Shape := ⟨2, ![512, 3072]⟩
abbrev S512x512 : Shape := ⟨2, ![512, 512]⟩
abbrev S256x1024 : Shape := ⟨2, ![256, 1024]⟩
abbrev S256x512 : Shape := ⟨2, ![256, 512]⟩

abbrev nBuf : Space → Nat
  | .hbm => 34
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4096x1024, .bf16⟩
  | .hbm, ⟨10, _⟩ => ⟨S1024x1024, .bf16⟩
  | .hbm, ⟨11, _⟩ => ⟨S4096x1024, .f32⟩
  | .hbm, ⟨12, _⟩ => ⟨S4096x512, .bf16⟩
  | .hbm, ⟨13, _⟩ => ⟨S512x1024, .bf16⟩
  | .hbm, ⟨14, _⟩ => ⟨S4096x1024, .f32⟩
  | .hbm, ⟨15, _⟩ => ⟨S4096x512, .bf16⟩
  | .hbm, ⟨16, _⟩ => ⟨S512x1024, .bf16⟩
  | .hbm, ⟨17, _⟩ => ⟨S4096x1024, .f32⟩
  | .hbm, ⟨18, _⟩ => ⟨S4096x1024, .bf16⟩
  | .hbm, ⟨19, _⟩ => ⟨S4096x3072, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S1024x1024, .bf16⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S4096x1024, .bf16⟩
  | .hbm, ⟨28, _⟩ => ⟨S4096x1024, .bf16⟩
  | .hbm, ⟨29, _⟩ => ⟨S4096x1024, .bf16⟩
  | .hbm, ⟨30, _⟩ => ⟨S4096x3072, .bf16⟩
  | .hbm, ⟨31, _⟩ => ⟨S4096x1024, .bf16⟩
  | .hbm, ⟨32, _⟩ => ⟨S4096x512, .bf16⟩
  | .hbm, ⟨33, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x3072, .bf16⟩
  | .local _ .vmem, ⟨21, _⟩ => ⟨S512x3072, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S4096x1024 : Shape := ⟨2, ![4096, 1024]⟩
abbrev S4096x3072 : Shape := ⟨2, ![4096, 3072]⟩
abbrev S4096x512 : Shape := ⟨2, ![4096, 512]⟩
abbrev S1024x1024 : Shape := ⟨2, ![1024, 1024]⟩
abbrev S512x1024 : Shape := ⟨2, ![512, 1024]⟩
abbrev S4096x3x1024 : Shape := ⟨3, ![4096, 3, 1024]⟩
abbrev S_ : Shape := ⟨0, ![]⟩
abbrev S4096x1x1024 : Shape := ⟨3, ![4096, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x3x1024, .f32⟩
  | .hbm, ⟨13, _⟩ => ⟨S4096x3x1024, .f32⟩
  | .hbm, ⟨14, _⟩ => ⟨S4096x3x1024, .f32⟩
  | .hbm, ⟨15, _⟩ => ⟨S_, .f32⟩
  | .hbm, ⟨16, _⟩ => ⟨S4096x3x1024, .f32⟩
  | .hbm, ⟨17, _⟩ => ⟨S4096x3x1024, .f32⟩
  | .hbm, ⟨18, _⟩ => ⟨S_, .f32⟩
  | .hbm, ⟨19, _⟩ => ⟨S4096x3x1024, .f32⟩
  | .hbm, ⟨20, _⟩ => ⟨S4096x3x1024, .f32⟩
  | .hbm, ⟨21, _⟩ => ⟨S_, .f32⟩
  | .hbm, ⟨22, _⟩ => ⟨S4096x3x1024, .f32⟩
  | .hbm, ⟨23, _⟩ => ⟨S4096x3x1024, .f32⟩
  | .hbm, ⟨24, _⟩ => ⟨S4096x3x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1x1024, .f32⟩
  | .hbm, ⟨41, _⟩ => ⟨S_, .f32⟩
  | .hbm, ⟨42, _⟩ => ⟨S4096x3x1024, .f32⟩
  | .hbm, ⟨43, _⟩ => ⟨S4096x1024, .f32⟩
  | .hbm, ⟨44, _⟩ => ⟨S4096x1024, .f32⟩
  | .hbm, ⟨45, _⟩ => ⟨S4096x1x1024, .f32⟩
  | .hbm, ⟨46, _⟩ => ⟨S_, .f32⟩
  | .hbm, ⟨47, _⟩ => ⟨S4096x3x1024, .f32⟩
  | .hbm, ⟨48, _⟩ => ⟨S4096x3x1024, .f32⟩
  | .hbm, ⟨49, _⟩ => ⟨S4096x1024, .f32⟩
  | .hbm, ⟨50, _⟩ => ⟨S4096x1024, .f32⟩
  | .hbm, ⟨51, _⟩ => ⟨S4096x1x1024, .f32⟩
  | .hbm, ⟨52, _⟩ => ⟨S_, .f32⟩
  | .hbm, ⟨53, _⟩ => ⟨S4096x3x1024, .f32⟩
  | .hbm, ⟨54, _⟩ => ⟨S4096x3x1024, .f32⟩
  | .hbm, ⟨55, _⟩ => ⟨S4096x3x1024, .f32⟩
  | .hbm, ⟨56, _⟩ => ⟨S4096x3072, .f32⟩
  | .hbm, ⟨57, _⟩ => ⟨S4096x512, .f32⟩
  | .hbm, ⟨58, _⟩ => ⟨S4096x512, .f32⟩
  | .hbm, ⟨59, _⟩ => ⟨S4096x1024, .f32⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x3072, .bf16⟩
  | .hbm, ⟨64, _⟩ => ⟨S4096x1024, .bf16⟩
  | .hbm, ⟨65, _⟩ => ⟨S4096x512, .bf16⟩
  | .hbm, ⟨66, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel7.lean ====
abbrev S4096x1024 : Shape := ⟨2, ![4096, 1024]⟩
abbrev S2816x1024 : Shape := ⟨2, ![2816, 1024]⟩
abbrev S1024x5632 : Shape := ⟨2, ![1024, 5632]⟩
abbrev S4096x5632 : Shape := ⟨2, ![4096, 5632]⟩
abbrev S4096x4x1408 : Shape := ⟨3, ![4096, 4, 1408]⟩
abbrev S4x4096x1408 : Shape := ⟨3, ![4, 4096, 1408]⟩
abbrev S2x2x4096x1408 : Shape := ⟨4, ![2, 2, 4096, 1408]⟩
abbrev S1024x1024 : Shape := ⟨2, ![1024, 1024]⟩
abbrev S1408x1024 : Shape := ⟨2, ![1408, 1024]⟩
abbrev S2x1x1024x1408 : Shape := ⟨4, ![2, 1, 1024, 1408]⟩
abbrev S256x1024 : Shape := ⟨2, ![256, 1024]⟩
abbrev S256x1408 : Shape := ⟨2, ![256, 1408]⟩
abbrev S1x1x256x1408 : Shape := ⟨4, ![1, 1, 256, 1408]⟩

abbrev nBuf : Space → Nat
  | .hbm => 14
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x1024, .f32⟩
  | .hbm, ⟨3, _⟩ => ⟨S1024x5632, .f32⟩
  | .hbm, ⟨4, _⟩ => ⟨S4096x1024, .bf16⟩
  | .hbm, ⟨5, _⟩ => ⟨S1024x5632, .bf16⟩
  | .hbm, ⟨6, _⟩ => ⟨S4096x5632, .f32⟩
  | .hbm, ⟨7, _⟩ => ⟨S4096x5632, .bf16⟩
  | .hbm, ⟨8, _⟩ => ⟨S4096x4x1408, .bf16⟩
  | .hbm, ⟨9, _⟩ => ⟨S4x4096x1408, .bf16⟩
  | .hbm, ⟨10, _⟩ => ⟨S4096x1024, .bf16⟩
  | .hbm, ⟨11, _⟩ => ⟨S2816x1024, .bf16⟩
  | .hbm, ⟨12, _⟩ => ⟨S2x2x4096x1408, .bf16⟩
  | .hbm, ⟨13, _⟩ => ⟨S2x2x4096x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1x1024x1408, .bf16⟩
  | .local _ .vmem, ⟨5, _⟩ => ⟨S2x1x1024x1408, .bf16⟩
  | .local _ .vmem, ⟨6, _⟩ => ⟨S2x1x1024x1408, .bf16⟩
  | .local _ .vmem, ⟨7, _⟩ => ⟨S2x1x1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x1024 : Shape := ⟨2, ![4096, 1024]⟩
abbrev S2816x1024 : Shape := ⟨2, ![2816, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S4096x2x2x1408 : Shape := ⟨4, ![4096, 2, 2, 1408]⟩
abbrev S2x2x4096x1408 : Shape := ⟨4, ![2, 2, 4096, 1408]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x2x2x1408, .f32⟩
  | .hbm, ⟨31, _⟩ => ⟨S2x2x4096x1408, .f32⟩
  | .hbm, ⟨32, _⟩ => ⟨S2x2x4096x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel9.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S4096x4x1408 : Shape := ⟨3, ![4096, 4, 1408]⟩
abbrev S4x4096x1408 : Shape := ⟨3, ![4, 4096, 1408]⟩
abbrev S4x512x1408 : Shape := ⟨3, ![4, 512, 1408]⟩
abbrev S512x1024 : Shape := ⟨2, ![512, 1024]⟩
abbrev S1x256x1408 : Shape := ⟨3, ![1, 256, 1408]⟩
abbrev S256x1408 : Shape := ⟨2, ![256, 1408]⟩
abbrev S1024x1408 : Shape := ⟨2, ![1024, 1408]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4x1408, .f32⟩
  | .hbm, ⟨6, _⟩ => ⟨S4x4096x1408, .f32⟩
  | .hbm, ⟨7, _⟩ => ⟨S4x4096x1408, .bf16⟩
  | .hbm, ⟨8, _⟩ => ⟨S1024x5632, .bf16⟩
  | .hbm, ⟨9, _⟩ => ⟨S4096x1024, .f32⟩
  | .hbm, ⟨10, _⟩ => ⟨S1x1024, .f32⟩
  | .local _ .vmem, ⟨0, _⟩ => ⟨S4x512x1408, .bf16⟩
  | .local _ .vmem, ⟨1, _⟩ => ⟨S4x512x1408, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel8.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4x1408 : Shape := ⟨3, ![4096, 4, 1408]⟩
abbrev S4x4096x1408 : Shape := ⟨3, ![4, 4096, 1408]⟩
abbrev S4x512x1408 : Shape := ⟨3, ![4, 512, 1408]⟩
abbrev S512x1024 : Shape := ⟨2, ![512, 1024]⟩
abbrev S1x256x1408 : Shape := ⟨3, ![1, 256, 1408]⟩
abbrev S256x1408 : Shape := ⟨2, ![256, 1408]⟩
abbrev S1024x1408 : Shape := ⟨2, ![1024, 1408]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 31
  | .vmem => 17
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x4x1408, .f32⟩
  | .hbm, ⟨24, _⟩ => ⟨S4x4096x1408, .f32⟩
  | .hbm, ⟨25, _⟩ => ⟨S4x4096x1408, .bf16⟩
  | .hbm, ⟨26, _⟩ => ⟨S1024x5632, .bf16⟩
  | .hbm, ⟨27, _⟩ => ⟨S4096x1024, .f32⟩
  | .hbm, ⟨28, _⟩ => ⟨S1x1024, .f32⟩
  | .hbm, ⟨29, _⟩ => ⟨S4096x1024, .bf16⟩
  | .hbm, ⟨30, _⟩ => ⟨S1x1024, .f32⟩
  | .local _ .vmem, ⟨0, _⟩ => ⟨S4x512x1408, .bf16⟩
  | .local _ .vmem, ⟨1, _⟩ => ⟨S4x512x1408, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x5632, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel10.lean ====
abbrev S4096x7184 : Shape := ⟨2, ![4096, 7184]⟩
abbrev S1024x7184 : Shape := ⟨2, ![1024, 7184]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S7184x1024 : Shape := ⟨2, ![7184, 1024]⟩
abbrev S4096x3088 : Shape := ⟨2, ![4096, 3088]⟩
abbrev S4096x3200 : Shape := ⟨2, ![4096, 3200]⟩
abbrev S3088x1024 : Shape := ⟨2, ![3088, 1024]⟩
abbrev S3200x1024 : Shape := ⟨2, ![3200, 1024]⟩
abbrev S4096x512 : Shape := ⟨2, ![4096, 512]⟩
abbrev S512x1024 : Shape := ⟨2, ![512, 1024]⟩
abbrev S4096x3072 : Shape := ⟨2, ![4096, 3072]⟩
abbrev S3072x1024 : Shape := ⟨2, ![3072, 1024]⟩
abbrev S256x3200 : Shape := ⟨2, ![256, 3200]⟩
abbrev S256x512 : Shape := ⟨2, ![256, 512]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 50
  | .vmem => 26
  | .smem => 0
  | _ => 0

abbrev bufTy : (tb : Table) → Fin (tcTables nBuf tb) → BufTy
  | .hbm, ⟨0, _⟩ => ⟨S4096x7184, .f32⟩
  | .hbm, ⟨1, _⟩ => ⟨S1024x7184, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x7184, .bf16⟩
  | .hbm, ⟨27, _⟩ => ⟨S7184x1024, .bf16⟩
  | .hbm, ⟨28, _⟩ => ⟨S4096x3088, .f32⟩
  | .hbm, ⟨29, _⟩ => ⟨S_, .i32⟩
  | .hbm, ⟨30, _⟩ => ⟨S_, .f32⟩
  | .hbm, ⟨31, _⟩ => ⟨S4096x3200, .f32⟩
  | .hbm, ⟨32, _⟩ => ⟨S4096x3200, .bf16⟩
  | .hbm, ⟨33, _⟩ => ⟨S3088x1024, .bf16⟩
  | .hbm, ⟨34, _⟩ => ⟨S_, .i32⟩
  | .hbm, ⟨35, _⟩ => ⟨S_, .bf16⟩
  | .hbm, ⟨36, _⟩ => ⟨S3200x1024, .bf16⟩
  | .hbm, ⟨37, _⟩ => ⟨S4096x512, .f32⟩
  | .hbm, ⟨38, _⟩ => ⟨S4096x512, .bf16⟩
  | .hbm, ⟨39, _⟩ => ⟨S512x1024, .bf16⟩
  | .hbm, ⟨40, _⟩ => ⟨S4096x512, .f32⟩
  | .hbm, ⟨41, _⟩ => ⟨S4096x512, .bf16⟩
  | .hbm, ⟨42, _⟩ => ⟨S512x1024, .bf16⟩
  | .hbm, ⟨43, _⟩ => ⟨S4096x3072, .f32⟩
  | .hbm, ⟨44, _⟩ => ⟨S4096x3072, .bf16⟩
  | .hbm, ⟨45, _⟩ => ⟨S3072x1024, .bf16⟩
  | .hbm, ⟨46, _⟩ => ⟨S4096x1024, .f32⟩
  | .hbm, ⟨47, _⟩ => ⟨S1x1024, .f32⟩
  | .hbm, ⟨48, _⟩ => ⟨S4096x1024, .bf16⟩
  | .hbm, ⟨49, _⟩ => ⟨S1x1024, .f32⟩
  | .local _ .vmem, ⟨0, _⟩ => ⟨S256x3200, .bf16⟩
  | .local _ .vmem, ⟨1, _⟩ => ⟨S256x3200, .bf16⟩
  | .local _ .vmem, ⟨2, _⟩ => ⟨S3200x1024, .bf16⟩
  | .local _ .vmem, ⟨3, _⟩ => ⟨S256x512, .bf16⟩
  | .local _ .vmem, ⟨4, _⟩ => ⟨S256x512, .bf16⟩
  | .local _ .vmem, ⟨5, _⟩ => ⟨S512x1024, .bf16⟩
  | .local _ .vmem, ⟨6, _⟩ => ⟨S256x512, .bf16⟩
  | .local _ .vmem, ⟨7, _⟩ => ⟨S256x512, .bf16⟩
  | .local _ .vmem, ⟨8, _⟩ => ⟨S512x1024, .bf16⟩
  | .local _ .vmem, ⟨9, _⟩ => ⟨S256x3072, .bf16⟩
  | .local _ .vmem, ⟨10, _⟩ => ⟨S256x3072, .bf16⟩
  | .local _ .vmem, ⟨11, _⟩ => ⟨S3072x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x1024, .bf16⟩
  | .local _ .vmem, ⟨24, _⟩ => ⟨S256x1024, .bf16⟩
  | .local _ .vmem, ⟨25, _⟩ => ⟨S1x1024, .f32⟩
  | _, _ => ⟨S4096x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_v31_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference10Ideal.lean ====
abbrev S4096x7184 : Shape := ⟨2, ![4096, 7184]⟩
abbrev S1024x7184 : Shape := ⟨2, ![1024, 7184]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x7184, .f32⟩
  | .hbm, ⟨1, _⟩ => ⟨S1024x7184, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x7184, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .bf16⟩
  | _, _ => ⟨S4096x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x2816, .bf16⟩
  | .hbm, ⟨7, _⟩ => ⟨S2816x1024, .bf16⟩
  | .hbm, ⟨8, _⟩ => ⟨S4096x1024, .bf16⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 123
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .bf16⟩
  | .hbm, ⟨122, _⟩ => ⟨S8x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_cst_13 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_cst_19 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_21 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_22 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_23 : Ref sig .tc := ⟨.hbm, 111, rfl⟩
abbrev main_v81 : Ref sig .tc := ⟨.hbm, 112, rfl⟩
abbrev main_v82 : Ref sig .tc := ⟨.hbm, 113, rfl⟩
abbrev main_cst_24 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Kernel14.lean ====
abbrev S4096x1024 : Shape := ⟨2, ![4096, 1024]⟩
abbrev S256x1024 : Shape := ⟨2, ![256, 1024]⟩
abbrev S4096x512 : Shape := ⟨2, ![4096, 512]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S4096x1024, .bf16⟩
  | .hbm, ⟨3, _⟩ => ⟨S256x1024, .bf16⟩
  | .hbm, ⟨4, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S4096x1024 : Shape := ⟨2, ![4096, 1024]⟩
abbrev S256x1024 : Shape := ⟨2, ![256, 1024]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S4096x512, .f32⟩
  | .hbm, ⟨3, _⟩ => ⟨S4096x512, .f32⟩
  | .hbm, ⟨4, _⟩ => ⟨S4096x4x128, .f32⟩
  | .hbm, ⟨5, _⟩ => ⟨S256x512, .f32⟩
  | .hbm, ⟨6, _⟩ => ⟨S256x512, .f32⟩
  | .hbm, ⟨7, _⟩ => ⟨S256x4x128, .f32⟩
  | .hbm, ⟨8, _⟩ => ⟨S256x4x128, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x128x4096, .f32⟩
  | .hbm, ⟨28, _⟩ => ⟨S4096x4x128, .f32⟩
  | .hbm, ⟨29, _⟩ => ⟨S4096x512, .f32⟩
  | .hbm, ⟨30, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel13.lean ====
abbrev S4096x1024 : Shape := ⟨2, ![4096, 1024]⟩
abbrev S4x128x128 : Shape := ⟨3, ![4, 128, 128]⟩
abbrev S1x512 : Shape := ⟨2, ![1, 512]⟩
abbrev S4096x512 : Shape := ⟨2, ![4096, 512]⟩
abbrev S512x512 : Shape := ⟨2, ![512, 512]⟩
abbrev S16x512 : Shape := ⟨2, ![16, 512]⟩
abbrev S528x512 : Shape := ⟨2, ![528, 512]⟩
abbrev S528x128 : Shape := ⟨2, ![528, 128]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4x128x128, .f32⟩
  | .hbm, ⟨2, _⟩ => ⟨S1x512, .f32⟩
  | .hbm, ⟨3, _⟩ => ⟨S4096x1024, .bf16⟩
  | .hbm, ⟨4, _⟩ => ⟨S4x128x128, .bf16⟩
  | .hbm, ⟨5, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x128x128, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S528x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4096x1024 : Shape := ⟨2, ![4096, 1024]⟩
abbrev S4x128x128 : Shape := ⟨3, ![4, 128, 128]⟩
abbrev S1x512 : Shape := ⟨2, ![1, 512]⟩
abbrev S4096x512 : Shape := ⟨2, ![4096, 512]⟩
abbrev S4096x4x128 : Shape := ⟨3, ![4096, 4, 128]⟩
abbrev S_ : Shape := ⟨0, ![]⟩
abbrev S1x4x128 : Shape := ⟨3, ![1, 4, 128]⟩
abbrev S4097x4x128 : Shape := ⟨3, ![4097, 4, 128]⟩
abbrev S4096 : Shape := ⟨1, ![4096]⟩
abbrev S4097x1x128 : Shape := ⟨3, ![4097, 1, 128]⟩
abbrev S4097x128 : Shape := ⟨2, ![4097, 128]⟩
abbrev S1x128 : Shape := ⟨2, ![1, 128]⟩
abbrev S4095x128 : Shape := ⟨2, ![4095, 128]⟩
abbrev S4096x128 : Shape := ⟨2, ![4096, 128]⟩
abbrev S4096x1 : Shape := ⟨2, ![4096, 1]⟩
abbrev S4096x1x128 : Shape := ⟨3, ![4096, 1, 128]⟩
abbrev S3x128 : Shape := ⟨2, ![3, 128]⟩
abbrev S4093x128 : Shape := ⟨2, ![4093, 128]⟩
abbrev S7x128 : Shape := ⟨2, ![7, 128]⟩
abbrev S4089x128 : Shape := ⟨2, ![4089, 128]⟩
abbrev S15x128 : Shape := ⟨2, ![15, 128]⟩
abbrev S4081x128 : Shape := ⟨2, ![4081, 128]⟩
abbrev S4x128x4096 : Shape := ⟨3, ![4, 128, 4096]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x128x128, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x4x128, .f32⟩
  | .hbm, ⟨6, _⟩ => ⟨S_, .f32⟩
  | .hbm, ⟨7, _⟩ => ⟨S1x4x128, .f32⟩
  | .hbm, ⟨8, _⟩ => ⟨S_, .f32⟩
  | .hbm, ⟨9, _⟩ => ⟨S_, .f32⟩
  | .hbm, ⟨10, _⟩ => ⟨S4096x4x128, .f32⟩
  | .hbm, ⟨11, _⟩ => ⟨S4097x4x128, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4097x1x128, .f32⟩
  | .hbm, ⟨17, _⟩ => ⟨S4097x128, .f32⟩
  | .hbm, ⟨18, _⟩ => ⟨S_, .f32⟩
  | .hbm, ⟨19, _⟩ => ⟨S1x128, .f32⟩
  | .hbm, ⟨20, _⟩ => ⟨S4095x128, .f32⟩
  | .hbm, ⟨21, _⟩ => ⟨S4096x128, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S4096x1x128, .f32⟩
  | .hbm, ⟨31, _⟩ => ⟨S4096x128, .f32⟩
  | .hbm, ⟨32, _⟩ => ⟨S4096x128, .f32⟩
  | .hbm, ⟨33, _⟩ => ⟨S4097x1x128, .f32⟩
  | .hbm, ⟨34, _⟩ => ⟨S4097x128, .f32⟩
  | .hbm, ⟨35, _⟩ => ⟨S_, .f32⟩
  | .hbm, ⟨36, _⟩ => ⟨S3x128, .f32⟩
  | .hbm, ⟨37, _⟩ => ⟨S4093x128, .f32⟩
  | .hbm, ⟨38, _⟩ => ⟨S4096x128, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x1x128, .f32⟩
  | .hbm, ⟨48, _⟩ => ⟨S4096x128, .f32⟩
  | .hbm, ⟨49, _⟩ => ⟨S4096x128, .f32⟩
  | .hbm, ⟨50, _⟩ => ⟨S4097x1x128, .f32⟩
  | .hbm, ⟨51, _⟩ => ⟨S4097x128, .f32⟩
  | .hbm, ⟨52, _⟩ => ⟨S_, .f32⟩
  | .hbm, ⟨53, _⟩ => ⟨S7x128, .f32⟩
  | .hbm, ⟨54, _⟩ => ⟨S4089x128, .f32⟩
  | .hbm, ⟨55, _⟩ => ⟨S4096x128, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S4096x1x128, .f32⟩
  | .hbm, ⟨65, _⟩ => ⟨S4096x128, .f32⟩
  | .hbm, ⟨66, _⟩ => ⟨S4096x128, .f32⟩
  | .hbm, ⟨67, _⟩ => ⟨S4097x1x128, .f32⟩
  | .hbm, ⟨68, _⟩ => ⟨S4097x128, .f32⟩
  | .hbm, ⟨69, _⟩ => ⟨S_, .f32⟩
  | .hbm, ⟨70, _⟩ => ⟨S15x128, .f32⟩
  | .hbm, ⟨71, _⟩ => ⟨S4081x128, .f32⟩
  | .hbm, ⟨72, _⟩ => ⟨S4096x128, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S4096x1, .f32⟩
  | .hbm, ⟨77, _⟩ => ⟨S4096x128, .f32⟩
  | .hbm, ⟨78, _⟩ => ⟨S4096x128, .f32⟩
  | .hbm, ⟨79, _⟩ => ⟨S4096x128, .f32⟩
  | .hbm, ⟨80, _⟩ => ⟨S4096x128, .f32⟩
  | .hbm, ⟨81, _⟩ => ⟨S4096x1x128, .f32⟩
  | .hbm, ⟨82, _⟩ => ⟨S4096x128, .f32⟩
  | .hbm, ⟨83, _⟩ => ⟨S4096x128, .f32⟩
  | .hbm, ⟨84, _⟩ => ⟨S4096x1x128, .f32⟩
  | .hbm, ⟨85, _⟩ => ⟨S4096x1x128, .f32⟩
  | .hbm, ⟨86, _⟩ => ⟨S4096x1x128, .f32⟩
  | .hbm, ⟨87, _⟩ => ⟨S4096x1x128, .f32⟩
  | .hbm, ⟨88, _⟩ => ⟨S4096x4x128, .f32⟩
  | .hbm, ⟨89, _⟩ => ⟨S4x128x4096, .f32⟩
  | .hbm, ⟨90, _⟩ => ⟨S4096x4x128, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩

abbrev nD : Nat := 1
abbrev τ : Topo := Topo.v7x

variable {F : FTy → Type} [FloatOps F]
-- ==== Kernel17.lean ====
abbrev S4096x1024 : Shape := ⟨2, ![4096, 1024]⟩
abbrev S1024x5632 : Shape := ⟨2, ![1024, 5632]⟩
abbrev S2x2x4096x1408 : Shape := ⟨4, ![2, 2, 4096, 1408]⟩
abbrev S4096x2816 : Shape := ⟨2, ![4096, 2816]⟩
abbrev S1024x1024 : Shape := ⟨2, ![1024, 1024]⟩
abbrev S1024x1408 : Shape := ⟨2, ![1024, 1408]⟩
abbrev S2x1x1024x1408 : Shape := ⟨4, ![2, 1, 1024, 1408]⟩
abbrev S256x1024 : Shape := ⟨2, ![256, 1024]⟩
abbrev S256x1408 : Shape := ⟨2, ![256, 1408]⟩
abbrev S1x1x256x1408 : Shape := ⟨4, ![1, 1, 256, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S2x2x4096x1408, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x1x1024x1408, .bf16⟩
  | .local _ .vmem, ⟨7, _⟩ => ⟨S2x1x1024x1408, .bf16⟩
  | .local _ .vmem, ⟨8, _⟩ => ⟨S1024x1408, .bf16⟩
  | .local _ .vmem, ⟨9, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S4096x2x2x1408 : Shape := ⟨4, ![4096, 2, 2, 1408]⟩
abbrev S2x2x4096x1408 : Shape := ⟨4, ![2, 2, 4096, 1408]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2x2x1408, .f32⟩
  | .hbm, ⟨6, _⟩ => ⟨S2x2x4096x1408, .f32⟩
  | .hbm, ⟨7, _⟩ => ⟨S2x2x4096x1408, .bf16⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel18.lean ====
abbrev S4096x1024 : Shape := ⟨2, ![4096, 1024]⟩
abbrev S4096x512 : Shape := ⟨2, ![4096, 512]⟩
abbrev S4096x3072 : Shape := ⟨2, ![4096, 3072]⟩
abbrev S1024x1024 : Shape := ⟨2, ![1024, 1024]⟩
abbrev S512x1024 : Shape := ⟨2, ![512, 1024]⟩
abbrev S1x1024 : Shape := ⟨2, ![1, 1024]⟩
abbrev S512x512 : Shape := ⟨2, ![512, 512]⟩
abbrev S512x3072 : Shape := ⟨2, ![512, 3072]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 26
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3072, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S4096x512, .bf16⟩
  | .hbm, ⟨13, _⟩ => ⟨S4096x512, .bf16⟩
  | .hbm, ⟨14, _⟩ => ⟨S4096x3072, .bf16⟩
  | .hbm, ⟨15, _⟩ => ⟨S1024x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .f32⟩
  | .hbm, ⟨24, _⟩ => ⟨S4096x1024, .f32⟩
  | .hbm, ⟨25, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference18Ideal.lean ====
abbrev S4096x1024 : Shape := ⟨2, ![4096, 1024]⟩
abbrev S4096x512 : Shape := ⟨2, ![4096, 512]⟩
abbrev S4096x3072 : Shape := ⟨2, ![4096, 3072]⟩
abbrev S1024x1024 : Shape := ⟨2, ![1024, 1024]⟩
abbrev S512x1024 : Shape := ⟨2, ![512, 1024]⟩
abbrev S1x1024 : Shape := ⟨2, ![1, 1024]⟩
abbrev S4096x3x1024 : Shape := ⟨3, ![4096, 3, 1024]⟩
abbrev S_ : Shape := ⟨0, ![]⟩
abbrev S4096x1x1024 : Shape := ⟨3, ![4096, 1, 1024]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3072, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x3x1024, .f32⟩
  | .hbm, ⟨15, _⟩ => ⟨S4096x3x1024, .f32⟩
  | .hbm, ⟨16, _⟩ => ⟨S4096x3x1024, .f32⟩
  | .hbm, ⟨17, _⟩ => ⟨S_, .f32⟩
  | .hbm, ⟨18, _⟩ => ⟨S4096x3x1024, .f32⟩
  | .hbm, ⟨19, _⟩ => ⟨S4096x3x1024, .f32⟩
  | .hbm, ⟨20, _⟩ => ⟨S_, .f32⟩
  | .hbm, ⟨21, _⟩ => ⟨S4096x3x1024, .f32⟩
  | .hbm, ⟨22, _⟩ => ⟨S4096x3x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x1024, .bf16⟩
  | .hbm, ⟨53, _⟩ => ⟨S4096x1024, .bf16⟩
  | .hbm, ⟨54, _⟩ => ⟨S4096x1024, .bf16⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel16.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .bf16⟩
  | .hbm, ⟨6, _⟩ => ⟨S2816x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel12.lean ====
abbrev S4096x3088 : Shape := ⟨2, ![4096, 3088]⟩
abbrev S16x512 : Shape := ⟨2, ![16, 512]⟩
abbrev S1x512 : Shape := ⟨2, ![1, 512]⟩
abbrev S1x1024 : Shape := ⟨2, ![1, 1024]⟩
abbrev S_ : Shape := ⟨0, ![]⟩
abbrev S4096x3200 : Shape := ⟨2, ![4096, 3200]⟩
abbrev S128x512 : Shape := ⟨2, ![128, 512]⟩
abbrev S4096x1024 : Shape := ⟨2, ![4096, 1024]⟩
abbrev S64x4x256x128 : Shape := ⟨4, ![64, 4, 256, 128]⟩
abbrev S512x3200 : Shape := ⟨2, ![512, 3200]⟩
abbrev S512x1024 : Shape := ⟨2, ![512, 1024]⟩
abbrev S8x4x256x128 : Shape := ⟨4, ![8, 4, 256, 128]⟩
abbrev S4x256x128 : Shape := ⟨3, ![4, 256, 128]⟩
abbrev S512x512 : Shape := ⟨2, ![512, 512]⟩
abbrev S8x512 : Shape := ⟨2, ![8, 512]⟩
abbrev S512x128 : Shape := ⟨2, ![512, 128]⟩
abbrev S64x64 : Shape := ⟨2, ![64, 64]⟩
abbrev S64x512 : Shape := ⟨2, ![64, 512]⟩
abbrev S512 : Shape := ⟨1, ![512]⟩
abbrev S64x128 : Shape := ⟨2, ![64, 128]⟩
abbrev S64x256 : Shape := ⟨2, ![64, 256]⟩
abbrev S256x128 : Shape := ⟨2, ![256, 128]⟩
abbrev S1x1x256x128 : Shape := ⟨4, ![1, 1, 256, 128]⟩
abbrev S1x256x128 : Shape := ⟨3, ![1, 256, 128]⟩
abbrev S1x128 : Shape := ⟨2, ![1, 128]⟩
abbrev S64 : Shape := ⟨1, ![64]⟩
abbrev S64x1 : Shape := ⟨2, ![64, 1]⟩
abbrev S1x256 : Shape := ⟨2, ![1, 256]⟩

abbrev nBuf : Space → Nat
  | .hbm => 16
  | .vmem => 17
  | .smem => 0
  | _ => 0

abbrev bufTy : (tb : Table) → Fin (tcTables nBuf tb) → BufTy
  | .hbm, ⟨0, _⟩ => ⟨S4096x3088, .f32⟩
  | .hbm, ⟨1, _⟩ => ⟨S16x512, .f32⟩
  | .hbm, ⟨2, _⟩ => ⟨S1x512, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S4096x3200, .f32⟩
  | .hbm, ⟨7, _⟩ => ⟨S4096x3200, .bf16⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S128x512, .bf16⟩
  | .hbm, ⟨12, _⟩ => ⟨S4096x1024, .bf16⟩
  | .hbm, ⟨13, _⟩ => ⟨S64x4x256x128, .f32⟩
  | .hbm, ⟨14, _⟩ => ⟨S64x4x256x128, .bf16⟩
  | .hbm, ⟨15, _⟩ => ⟨S4096x1024, .f32⟩
  | .local _ .vmem, ⟨0, _⟩ => ⟨S512x3200, .bf16⟩
  | .local _ .vmem, ⟨1, _⟩ => ⟨S512x3200, .bf16⟩
  | .local _ .vmem, ⟨2, _⟩ => ⟨S128x512, .bf16⟩
  | .local _ .vmem, ⟨3, _⟩ => ⟨S1x512, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S8x4x256x128, .f32⟩
  | .local _ .vmem, ⟨8, _⟩ => ⟨S8x4x256x128, .f32⟩
  | .local _ .vmem, ⟨9, _⟩ => ⟨S8x4x256x128, .bf16⟩
  | .local _ .vmem, ⟨10, _⟩ => ⟨S8x4x256x128, .bf16⟩
  | .local _ .vmem, ⟨11, _⟩ => ⟨S512x1024, .f32⟩
  | .local _ .vmem, ⟨12, _⟩ => ⟨S512x1024, .f32⟩
  | .local _ .vmem, ⟨13, _⟩ => ⟨S4x256x128, .f32⟩
  | .local _ .vmem, ⟨14, _⟩ => ⟨S512x512, .f32⟩
  | .local _ .vmem, ⟨15, _⟩ => ⟨S8x512, .f32⟩
  | .local _ .vmem, ⟨16, _⟩ => ⟨S8x4x256x128, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4096x3088 : Shape := ⟨2, ![4096, 3088]⟩
abbrev S16x512 : Shape := ⟨2, ![16, 512]⟩
abbrev S1x512 : Shape := ⟨2, ![1, 512]⟩
abbrev S1x1024 : Shape := ⟨2, ![1, 1024]⟩
abbrev S4096x512 : Shape := ⟨2, ![4096, 512]⟩
abbrev S4096x1024 : Shape := ⟨2, ![4096, 1024]⟩
abbrev S4096x16 : Shape := ⟨2, ![4096, 16]⟩
abbrev S_ : Shape := ⟨0, ![]⟩
abbrev S64x64x4x128 : Shape := ⟨4, ![64, 64, 4, 128]⟩
abbrev S64x4x64x128 : Shape := ⟨4, ![64, 4, 64, 128]⟩
abbrev S64x64x4x256 : Shape := ⟨4, ![64, 64, 4, 256]⟩
abbrev S64x4x64x256 : Shape := ⟨4, ![64, 4, 64, 256]⟩
abbrev S64x4x1x128 : Shape := ⟨4, ![64, 4, 1, 128]⟩
abbrev S64x4x128 : Shape := ⟨3, ![64, 4, 128]⟩
abbrev S4x128x256 : Shape := ⟨3, ![4, 128, 256]⟩
abbrev S64x4x128x256 : Shape := ⟨4, ![64, 4, 128, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S1x4x128 : Shape := ⟨3, ![1, 4, 128]⟩
abbrev S4x128 : Shape := ⟨2, ![4, 128]⟩
abbrev S4x128x1 : Shape := ⟨3, ![4, 128, 1]⟩
abbrev S1x4x128x256 : Shape := ⟨4, ![1, 4, 128, 256]⟩
abbrev S4096x4x256 : Shape := ⟨3, ![4096, 4, 256]⟩
abbrev S4x256 : Shape := ⟨2, ![4, 256]⟩
abbrev S4096x4 : Shape := ⟨2, ![4096, 4]⟩
abbrev S4096x4x1 : Shape := ⟨3, ![4096, 4, 1]⟩
abbrev S1x4x256 : Shape := ⟨3, ![1, 4, 256]⟩
abbrev S64x4x256x128 : Shape := ⟨4, ![64, 4, 256, 128]⟩

abbrev nBuf : Space → Nat
  | .hbm => 149
  | .vmem => 0
  | .smem => 0
  | _ => 0

abbrev hbmTy0_0 (i : Nat) : BufTy := match i % 128 with
  | 0 => ⟨S4096x3088, .f32⟩
  | 1 => ⟨S16x512, .f32⟩
  | 2 => ⟨S1x512, .f32⟩
  | 3 => ⟨S1x1024, .f32⟩
  | 4 => ⟨S4096x512, .f32⟩
  | 5 => ⟨S4096x512, .f32⟩
  | 6 => ⟨S4096x1024, .f32⟩
  | 7 => ⟨S4096x16, .f32⟩
  | 8 => ⟨S4096x512, .f32⟩
  | 9 => ⟨S4096x512, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S4096x512, .f32⟩
  | 16 => ⟨S4096x512, .f32⟩
  | 17 => ⟨S4096x512, .i1⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S64x64x4x128, .f32⟩
  | 34 => ⟨S64x4x64x128, .f32⟩
  | 35 => ⟨S64x64x4x128, .f32⟩
  | 36 => ⟨S64x4x64x128, .f32⟩
  | 37 => ⟨S64x64x4x256, .f32⟩
  | 38 => ⟨S64x4x64x256, .f32⟩
  | 39 => ⟨S64x64x4x128, .f32⟩
  | 40 => ⟨S64x4x64x128, .f32⟩
  | 41 => ⟨S_, .f32⟩
  | 42 => ⟨S_, .f32⟩
  | 43 => ⟨S64x4x64x128, .f32⟩
  | 44 => ⟨S64x4x1x128, .f32⟩
  | 45 => ⟨S64x4x64x128, .f32⟩
  | 46 => ⟨S64x4x64x128, .f32⟩
  | 47 => ⟨S64x4x64x128, .f32⟩
  | 48 => ⟨S64x4x64x128, .f32⟩
  | 49 => ⟨S64x4x128, .f32⟩
  | 50 => ⟨S64x4x128, .f32⟩
  | 51 => ⟨S_, .f32⟩
  | 52 => ⟨S4x128x256, .f32⟩
  | 53 => ⟨S_, .f32⟩
  | 54 => ⟨S64x4x64x256, .f32⟩
  | 55 => ⟨S_, .f32⟩
  | 56 => ⟨S64x4x128x256, .f32⟩
  | 57 => ⟨S_, .f32⟩
  | 58 => ⟨S64x4x128x256, .f32⟩
  | 59 => ⟨S_, .i32⟩
  | 60 => ⟨S64x4x64x128, .f32⟩
  | 61 => ⟨S64x4x64x128, .f32⟩
  | 62 => ⟨S64x4x64x256, .f32⟩
  | 63 => ⟨S64x4x128, .f32⟩
  | 64 => ⟨S_, .i32⟩
  | 65 => ⟨S4x128x256, .f32⟩
  | 66 => ⟨S64x4x64x256, .f32⟩
  | 67 => ⟨S64x4x128x256, .f32⟩
  | 68 => ⟨S64x4x128x256, .f32⟩
  | 69 => ⟨S_, .i32⟩
  | 70 => ⟨S_, .i1⟩
  | 71 => ⟨S_, .i32⟩
  | 72 => ⟨S_, .i32⟩
  | 73 => ⟨S_, .i32⟩
  | 74 => ⟨S1x4x64x128, .f32⟩
  | 75 => ⟨S4x64x128, .f32⟩
  | 76 => ⟨S_, .i32⟩
  | 77 => ⟨S_, .i32⟩
  | 78 => ⟨S_, .i32⟩
  | 79 => ⟨S1x4x64x128, .f32⟩
  | 80 => ⟨S4x64x128, .f32⟩
  | 81 => ⟨S_, .i32⟩
  | 82 => ⟨S_, .i32⟩
  | 83 => ⟨S_, .i32⟩
  | 84 => ⟨S1x4x64x256, .f32⟩
  | 85 => ⟨S4x64x256, .f32⟩
  | 86 => ⟨S_, .i32⟩
  | 87 => ⟨S_, .i32⟩
  | 88 => ⟨S1x4x128, .f32⟩
  | 89 => ⟨S4x128, .f32⟩
  | 90 => ⟨S4x128x1, .f32⟩
  | 91 => ⟨S4x128x256, .f32⟩
  | 92 => ⟨S4x128x256, .f32⟩
  | 93 => ⟨S4x128x256, .f32⟩
  | 94 => ⟨S4x128x256, .f32⟩
  | 95 => ⟨S4x64x256, .f32⟩
  | 96 => ⟨S1x4x64x256, .f32⟩
  | 97 => ⟨S_, .i32⟩
  | 98 => ⟨S_, .i32⟩
  | 99 => ⟨S_, .i32⟩
  | 100 => ⟨S64x4x64x256, .f32⟩
  | 101 => ⟨S1x4x128x256, .f32⟩
  | 102 => ⟨S_, .i32⟩
  | 103 => ⟨S_, .i32⟩
  | 104 => ⟨S_, .i32⟩
  | 105 => ⟨S64x4x128x256, .f32⟩
  | 106 => ⟨S1x4x128x256, .f32⟩
  | 107 => ⟨S_, .i32⟩
  | 108 => ⟨S_, .i32⟩
  | 109 => ⟨S_, .i32⟩
  | 110 => ⟨S64x4x128x256, .f32⟩
  | 111 => ⟨S_, .i32⟩
  | 112 => ⟨S_, .i32⟩
  | 113 => ⟨S64x64x4x256, .f32⟩
  | 114 => ⟨S4096x4x256, .f32⟩
  | 115 => ⟨S4x256, .f32⟩
  | 116 => ⟨S4096x4x256, .f32⟩
  | 117 => ⟨S_, .f32⟩
  | 118 => ⟨S4096x4, .f32⟩
  | 119 => ⟨S4096x4x1, .f32⟩
  | 120 => ⟨S_, .f32⟩
  | 121 => ⟨S4096x4x1, .f32⟩
  | 122 => ⟨S4096x4x1, .f32⟩
  | 123 => ⟨S_, .f32⟩
  | 124 => ⟨S4096x4x1, .f32⟩
  | 125 => ⟨S4096x4x1, .f32⟩
  | 126 => ⟨S4096x4x1, .f32⟩
  | 127 => ⟨S4096x4x256, .f32⟩
  | _ => ⟨S4096x3088, .f32⟩

abbrev hbmTy0_1 (i : Nat) : BufTy := match i % 128 with
  | 0 => ⟨S4096x4x256, .f32⟩
  | 1 => ⟨S1x4x256, .f32⟩
  | 2 => ⟨S4096x4x256, .f32⟩
  | 3 => ⟨S4096x4x256, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S4096x1024, .f32⟩
  | 15 => ⟨S4096x1024, .f32⟩
  | 16 => ⟨S4096x1024, .bf16⟩
  | 17 => ⟨S64x4x256x128, .f32⟩
  | 18 => ⟨S64x4x256x128, .f32⟩
  | 19 => ⟨S64x4x256x128, .bf16⟩
  | 20 => ⟨S4096x1024, .f32⟩
  | _ => ⟨S4096x3088, .f32⟩

abbrev hbmTy (i : Nat) : BufTy := match i / 128 with
  | 0 => hbmTy0_0 i
  | 1 => hbmTy0_1 i
  | _ => ⟨S4096x3088, .f32⟩

abbrev bufTy : (tb : Table) → Fin (tcTables nBuf tb) → BufTy
  | .hbm, ⟨i, _⟩ => hbmTy i
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_cst : Ref sig .tc := ⟨.hbm, 41, rfl⟩
abbrev main_call0_v0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_c : Ref sig .tc := ⟨.hbm, 59, rfl⟩
abbrev main_v46_0 : Ref sig .tc := ⟨.hbm, 60, rfl⟩
abbrev main_v46_1 : Ref sig .tc := ⟨.hbm, 61, rfl⟩
abbrev main_v46_2 : Ref sig .tc := ⟨.hbm, 62, rfl⟩
abbrev main_v46_3 : Ref sig .tc := ⟨.hbm, 63, rfl⟩
abbrev main_v46_4 : Ref sig .tc := ⟨.hbm, 64, rfl⟩
abbrev main_v46_5 : Ref sig .tc := ⟨.hbm, 65, rfl⟩
abbrev main_v46_6 : Ref sig .tc := ⟨.hbm, 66, rfl⟩
abbrev main_v46_7 : Ref sig .tc := ⟨.hbm, 67, rfl⟩
abbrev main_v46_8 : Ref sig .tc := ⟨.hbm, 68, rfl⟩
abbrev main_while0c_c_17 : Ref sig .tc := ⟨.hbm, 69, rfl⟩
abbrev main_while0c_v72 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_v0 : Ref sig .tc := ⟨.hbm, 74, rfl⟩
abbrev main_while0b_v72 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_v0 : Ref sig .tc := ⟨.hbm, 79, rfl⟩
abbrev main_while0b_v73 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_v0 : Ref sig .tc := ⟨.hbm, 84, rfl⟩
abbrev main_while0b_v74 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_v0 : Ref sig .tc := ⟨.hbm, 88, rfl⟩
abbrev main_while0b_v75 : Ref sig .tc := ⟨.hbm, 89, rfl⟩
abbrev main_while0b_v76 : Ref sig .tc := ⟨.hbm, 90, rfl⟩
abbrev main_while0b_v77 : Ref sig .tc := ⟨.hbm, 91, rfl⟩
abbrev main_while0b_v78 : Ref sig .tc := ⟨.hbm, 92, rfl⟩
abbrev main_while0b_v79 : Ref sig .tc := ⟨.hbm, 93, rfl⟩
abbrev main_while0b_v80 : Ref sig .tc := ⟨.hbm, 94, rfl⟩
abbrev main_while0b_v81 : Ref sig .tc := ⟨.hbm, 95, rfl⟩
abbrev main_while0b_call5_v0 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_v82 : Ref sig .tc := ⟨.hbm, 100, rfl⟩
abbrev main_while0b_call6_v0 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_c_1 : Ref sig .tc := ⟨.hbm, 104, rfl⟩
abbrev main_while0b_v83 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_v84 : Ref sig .tc := ⟨.hbm, 110, rfl⟩
abbrev main_while0b_c_17 : Ref sig .tc := ⟨.hbm, 111, rfl⟩
abbrev main_while0b_v85 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_cst_6 : Ref sig .tc := ⟨.hbm, 117, rfl⟩
abbrev main_v51 : Ref sig .tc := ⟨.hbm, 118, rfl⟩
abbrev main_v52 : Ref sig .tc := ⟨.hbm, 119, rfl⟩
abbrev main_cst_7 : Ref sig .tc := ⟨.hbm, 120, rfl⟩
abbrev main_v53 : Ref sig .tc := ⟨.hbm, 121, rfl⟩
abbrev main_v54 : Ref sig .tc := ⟨.hbm, 122, rfl⟩
abbrev main_cst_8 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_call8_v0 : Ref sig .tc := ⟨.hbm, 134, rfl⟩
abbrev main_call8_v1 : Ref sig .tc := ⟨.hbm, 135, rfl⟩
abbrev main_call8_cst : Ref sig .tc := ⟨.hbm, 136, rfl⟩
abbrev main_call8_v2 : Ref sig .tc := ⟨.hbm, 137, rfl⟩
abbrev main_call8_v3 : Ref sig .tc := ⟨.hbm, 138, rfl⟩
abbrev main_call8_cst_0 : Ref sig .tc := ⟨.hbm, 139, rfl⟩
abbrev main_call8_v4 : Ref sig .tc := ⟨.hbm, 140, rfl⟩
abbrev main_call8_v5 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩

abbrev nD : Nat := 1
abbrev τ : Topo := Topo.v7x

variable {F : FTy → Type} [FloatOps F]

abbrev main_while0_count : Scf.Loop 32 := ⟨0#32, 64#32, 1#32⟩
-- ==== Kernel19.lean ====
abbrev S4096x1024 : Shape := ⟨2, ![4096, 1024]⟩
abbrev S1024x7184 : Shape := ⟨2, ![1024, 7184]⟩
abbrev S7184x1024 : Shape := ⟨2, ![7184, 1024]⟩
abbrev S3088x1024 : Shape := ⟨2, ![3088, 1024]⟩
abbrev S_ : Shape := ⟨0, ![]⟩
abbrev S3200x1024 : Shape := ⟨2, ![3200, 1024]⟩
abbrev S1024x1024 : Shape := ⟨2, ![1024, 1024]⟩
abbrev S3072x1024 : Shape := ⟨2, ![3072, 1024]⟩
abbrev S4096x3200 : Shape := ⟨2, ![4096, 3200]⟩
abbrev S4096x3072 : Shape := ⟨2, ![4096, 3072]⟩
abbrev S512x1024 : Shape := ⟨2, ![512, 1024]⟩
abbrev S512x3200 : Shape := ⟨2, ![512, 3200]⟩
abbrev S512x3072 : Shape := ⟨2, ![512, 3072]⟩
abbrev S256x1024 : Shape := ⟨2, ![256, 1024]⟩
abbrev S256x3200 : Shape := ⟨2, ![256, 3200]⟩
abbrev S256x3072 : Shape := ⟨2, ![256, 3072]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x7184, .f32⟩
  | .hbm, ⟨2, _⟩ => ⟨S1024x7184, .bf16⟩
  | .hbm, ⟨3, _⟩ => ⟨S7184x1024, .bf16⟩
  | .hbm, ⟨4, _⟩ => ⟨S3088x1024, .bf16⟩
  | .hbm, ⟨5, _⟩ => ⟨S_, .i32⟩
  | .hbm, ⟨6, _⟩ => ⟨S_, .bf16⟩
  | .hbm, ⟨7, _⟩ => ⟨S3200x1024, .bf16⟩
  | .hbm, ⟨8, _⟩ => ⟨S1024x1024, .bf16⟩
  | .hbm, ⟨9, _⟩ => ⟨S3072x1024, .bf16⟩
  | .hbm, ⟨10, _⟩ => ⟨S4096x1024, .bf16⟩
  | .hbm, ⟨11, _⟩ => ⟨S4096x3200, .bf16⟩
  | .hbm, ⟨12, _⟩ => ⟨S4096x1024, .bf16⟩
  | .hbm, ⟨13, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S3200x1024, .bf16⟩
  | .local _ .vmem, ⟨3, _⟩ => ⟨S1024x1024, .bf16⟩
  | .local _ .vmem, ⟨4, _⟩ => ⟨S3072x1024, .bf16⟩
  | .local _ .vmem, ⟨5, _⟩ => ⟨S512x3200, .bf16⟩
  | .local _ .vmem, ⟨6, _⟩ => ⟨S512x3200, .bf16⟩
  | .local _ .vmem, ⟨7, _⟩ => ⟨S512x1024, .bf16⟩
  | .local _ .vmem, ⟨8, _⟩ => ⟨S512x1024, .bf16⟩
  | .local _ .vmem, ⟨9, _⟩ => ⟨S512x3072, .bf16⟩
  | .local _ .vmem, ⟨10, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3200 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4096x1024 : Shape := ⟨2, ![4096, 1024]⟩
abbrev S1024x7184 : Shape := ⟨2, ![1024, 7184]⟩
abbrev S4096x7184 : Shape := ⟨2, ![4096, 7184]⟩
abbrev S4096x3088 : Shape := ⟨2, ![4096, 3088]⟩
abbrev S_ : Shape := ⟨0, ![]⟩
abbrev S4096x3200 : Shape := ⟨2, ![4096, 3200]⟩
abbrev S4096x3072 : Shape := ⟨2, ![4096, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7184, .f32⟩
  | .hbm, ⟨2, _⟩ => ⟨S4096x7184, .f32⟩
  | .hbm, ⟨3, _⟩ => ⟨S4096x3088, .f32⟩
  | .hbm, ⟨4, _⟩ => ⟨S_, .i32⟩
  | .hbm, ⟨5, _⟩ => ⟨S_, .f32⟩
  | .hbm, ⟨6, _⟩ => ⟨S4096x3200, .f32⟩
  | .hbm, ⟨7, _⟩ => ⟨S4096x3200, .bf16⟩
  | .hbm, ⟨8, _⟩ => ⟨S4096x1024, .f32⟩
  | .hbm, ⟨9, _⟩ => ⟨S4096x1024, .bf16⟩
  | .hbm, ⟨10, _⟩ => ⟨S4096x3072, .f32⟩
  | .hbm, ⟨11, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel20.lean ====
abbrev S4096x1024 : Shape := ⟨2, ![4096, 1024]⟩
abbrev S4096x5632 : Shape := ⟨2, ![4096, 5632]⟩
abbrev S4096x4x1408 : Shape := ⟨3, ![4096, 4, 1408]⟩
abbrev S4x4096x1408 : Shape := ⟨3, ![4, 4096, 1408]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S4096x4x1408, .bf16⟩
  | .hbm, ⟨5, _⟩ => ⟨S4x4096x1408, .bf16⟩
  | .hbm, ⟨6, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | .hbm, ⟨8, _⟩ => ⟨S1024x4x1408, .bf16⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S1x1024x1408 : Shape := ⟨3, ![1, 1024, 1408]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S512x1408, .f32⟩
  | .local _ .vmem, ⟨3, _⟩ => ⟨S512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S_, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S_, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .hbm, ⟨12, _⟩ => ⟨S_, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S_, .f32⟩
  | .hbm, ⟨18, _⟩ => ⟨S1x1024x1408, .f32⟩
  | .hbm, ⟨19, _⟩ => ⟨S1x1024x1408, .f32⟩
  | .hbm, ⟨20, _⟩ => ⟨S1x1024x1408, .f32⟩
  | .hbm, ⟨21, _⟩ => ⟨S_, .f32⟩
  | .hbm, ⟨22, _⟩ => ⟨S1x1024x1408, .f32⟩
  | .hbm, ⟨23, _⟩ => ⟨S1x1024x1408, .f32⟩
  | .hbm, ⟨24, _⟩ => ⟨S_, .f32⟩
  | .hbm, ⟨25, _⟩ => ⟨S1x1024x1408, .f32⟩
  | .hbm, ⟨26, _⟩ => ⟨S1x1024x1408, .f32⟩
  | .hbm, ⟨27, _⟩ => ⟨S1x1024x1408, .f32⟩
  | .hbm, ⟨28, _⟩ => ⟨S_, .f32⟩
  | .hbm, ⟨29, _⟩ => ⟨S1x1024x1408, .f32⟩
  | .hbm, ⟨30, _⟩ => ⟨S1x1024x1408, .f32⟩
  | .hbm, ⟨31, _⟩ => ⟨S1x1024x1408, .f32⟩
  | .hbm, ⟨32, _⟩ => ⟨S_, .f32⟩
  | .hbm, ⟨33, _⟩ => ⟨S1x1024x1408, .f32⟩
  | .hbm, ⟨34, _⟩ => ⟨S1x1024x1408, .f32⟩
  | .hbm, ⟨35, _⟩ => ⟨S1x1024x1408, .f32⟩
  | .hbm, ⟨36, _⟩ => ⟨S_, .f32⟩
  | .hbm, ⟨37, _⟩ => ⟨S1x1024x1408, .f32⟩
  | .hbm, ⟨38, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Reals.lean ====
/-
  Real numbers under the extended reals: a program's array whose entries are finite is the cast of a real array, and
  the sums, quotients and square roots the norms take of such arrays are the casts of the real ones. Every equation
  between a gradient written by hand and the derivative of the forward lines is proved over ℝ and carried back by these.
-/
module

public import Idealize.ShloMosaic.PureOps.Ideal
public import Idealize.ShloMosaic.Lib.Pointwise
public import Mathlib.Tactic.Ring
public import Mathlib.Tactic.FieldSimp
public import Mathlib.Tactic.LinearCombination

@[expose] public section

noncomputable section

namespace Cert.Reals

open Idealize.ShloMosaic

/-- The cast of a finite sum is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of casts, with the cast outside. -/
theorem sum_coe {ι : Type*} [Fintype ι] (f : ι → ℝ) : ∑ i, (f i : EReal) = ((∑ i, f i : ℝ) : EReal) := (coe_sum _ f).symm

/-- An extended real whose absolute value lies below the word of positive infinity is real. -/
theorem real_of_lt {x : EReal} (h : Ideal.cmp .olt (max x (-x)) (Ideal.ofBits .f32 0x7F800000#32) = 1#1) :
    ((x.toReal : ℝ) : EReal) = x := by
  have ht : Ideal.ofBits .f32 0x7F800000#32 = ⊤ := by simp [Ideal.ofBits, Ideal.ieee]
  rw [ht] at h
  have h' : max x (-x) < ⊤ := by
    by_contra hc
    simp [Ideal.cmp, hc] at h
  apply EReal.coe_toReal
  · rintro rfl; simp at h'
  · rintro rfl; simp at h'

/-- Division of a real by a nonzero real. -/
theorem div_coe_coe {y : ℝ} (h : y ≠ 0) (x : ℝ) : Ideal.div (x : EReal) (y : EReal) = ((x / y : ℝ) : EReal) := by
  rw [Ideal.div_coe h, ← EReal.coe_mul, mul_one_div]

/-- The reciprocal square root of a positive real. -/
theorem rsqrt_pos {y : ℝ} (h : 0 < y) : Ideal.rsqrt (y : EReal) = (((√y)⁻¹ : ℝ) : EReal) := by
  rw [Ideal.rsqrt_coe, if_neg (not_lt.mpr h.le), if_neg h.ne']

/-! ## The literals -/

/-- The norms' ε, the number its word of single precision names. -/
def eps : ℝ := (Ideal.ofBits .f32 0x358637BD#32).toReal

theorem eps_pos : 0 < eps := by
  simp [eps, Ideal.ofBits, Ideal.ieee, -EReal.coe_mul]

theorem eps_word : Ideal.ofBits .f32 0x358637BD#32 = (eps : EReal) := by
  simp [eps, Ideal.ofBits, Ideal.ieee, -EReal.coe_mul]

theorem one_word : Ideal.ofBits .f32 0x3F800000#32 = ((1 : ℝ) : EReal) := by
  simp [Ideal.ofBits, Ideal.ieee, -EReal.coe_mul]; norm_num

theorem zero_word : Ideal.ofBits .f32 0x00000000#32 = ((0 : ℝ) : EReal) := by
  simp [Ideal.ofBits, Ideal.ieee, -EReal.coe_mul]

theorem neg_half_word : Ideal.ofBits .f32 0xBF000000#32 = ((-(1/2) : ℝ) : EReal) := by
  simp [Ideal.ofBits, Ideal.ieee, -EReal.coe_mul]; norm_num

theorem k1024_word : Ideal.ofBits .f32 0x44800000#32 = ((1024 : ℝ) : EReal) := by
  simp [Ideal.ofBits, Ideal.ieee, -EReal.coe_mul]; norm_num

/-! ## The root mean square of a row -/

/-- The mean square of a row, plus ε. -/
def msq {n : ℕ} (x : Fin n → ℝ) : ℝ := (∑ k, x k * x k) / n + eps

theorem msq_pos {n : ℕ} (x : Fin n → ℝ) : 0 < msq x := by
  have : 0 ≤ (∑ k, x k * x k) / n := div_nonneg (Finset.sum_nonneg fun k _ => mul_self_nonneg _) (Nat.cast_nonneg _)
  exact add_pos_of_nonneg_of_pos this eps_pos

/-- The reciprocal root mean square of a row. -/
def rinv {n : ℕ} (x : Fin n → ℝ) : ℝ := (√(msq x))⁻¹

theorem rinv_sq {n : ℕ} (x : Fin n → ℝ) : rinv x * rinv x * msq x = 1 := by
  have h := msq_pos x
  have hs : √(msq x) * √(msq x) = msq x := Real.mul_self_sqrt h.le
  rw [rinv, ← mul_inv, hs, inv_mul_cancel₀ h.ne']

/-- The gradient of the normalised row as the derivative gives it — the scale's part, and the part of the mean square
    through both factors of the square — is `r (a − x r · mean (a x r))`. -/
theorem rms_grad {n : ℕ} (x a : Fin n → ℝ) (j : Fin n) :
    rinv x * (a j - x j * rinv x * ((∑ k, a k * (x k * rinv x)) / n))
      = a j * rinv x + x j * ((∑ k, x k * a k) * (-(1/2) * (rinv x / msq x)) / n)
        + (∑ k, x k * a k) * (-(1/2) * (rinv x / msq x)) / n * x j := by
  have hm := (msq_pos x).ne'
  have hr : rinv x / msq x = rinv x * rinv x * rinv x := by
    rw [div_eq_iff hm]; linear_combination -(rinv x) * rinv_sq x
  have hs : ∑ k, a k * (x k * rinv x) = (∑ k, x k * a k) * rinv x := by
    rw [Finset.sum_mul]; exact Finset.sum_congr rfl fun k _ => by ring
  rw [hr, hs]; ring

end Cert.Reals
-- ==== Proof.MemNormKernel.lean ====
/-
  The backward kernel of the memory's norm, read as arithmetic: on finite arguments its two result arrays are the real
  `r (c g − x r · mean (c g x r))` and `Σ_rows c x r`, `r` the row's reciprocal root mean square.
-/
module

public import proofs.«01_k».proof.Proof.Reals
public import proofs.«01_k».proof.Proof.Gen.KernelIdeal.Value
public import Idealize.ShloMosaic.Lib.Pipeline.ValueKit

@[expose] public section

set_option maxRecDepth 16384

noncomputable section

namespace Cert.MemNorm

open Cert.KernelIdeal Cert.KernelIdeal.Gen
open Idealize.ShloMosaic Idealize.ShloMosaic.TcCoe Idealize.SL.Sem
open Idealize.ShloMosaic.Pipeline (Dat)
open Cert.Reals

variable (m : (ℓ : Loc nD τ sig) → Buf (Elt Ideal) ℓ)

/-- The input's gradient: `r (c g − x r · mean (c g x r))`. -/
def dx (X : Fin 256 → Fin 1024 → ℝ) (G : Fin 1024 → ℝ) (C : Fin 256 → Fin 1024 → ℝ) (i : Fin 256) (j : Fin 1024) : ℝ :=
  rinv (X i) * (C i j * G j - X i j * rinv (X i) * ((∑ k, C i k * G k * (X i k * rinv (X i))) / (1024 : ℕ)))

/-- The scale's gradient: `Σ_rows c x r`. -/
def dg (X C : Fin 256 → Fin 1024 → ℝ) (j : Fin 1024) : ℝ := ∑ i, C i j * (X i j * rinv (X i))

theorem pay1_at (x : Vec Ideal S256x1024 .f32) (X : Fin 256 → Fin 1024 → ℝ) (hx : ∀ i k, x (ix2 i k) = (X i k : EReal))
    (i : Fin 256) (z : Fin 1) : k0_pay1 (F := Ideal) x (ix2 i z) = (rinv (X i) : EReal) := by
  pointwise [k0_pay1]
  simp only [hx, ← EReal.coe_mul, sum_coe, k1024_word, eps_word]
  rw [div_coe_coe (by norm_num), ← EReal.coe_add]
  exact rsqrt_pos (msq_pos (X i))

theorem pay2_at (x : Vec Ideal S256x1024 .f32) (X : Fin 256 → Fin 1024 → ℝ) (hx : ∀ i k, x (ix2 i k) = (X i k : EReal))
    (i : Fin 256) (j : Fin 1024) : k0_pay2 (F := Ideal) x (ix2 i j) = ((X i j * rinv (X i) : ℝ) : EReal) := by
  pointwise [k0_pay2]
  rw [pay1_at x X hx, hx, EReal.coe_mul]

theorem pay3_at (c : Vec Ideal S256x1024 .f32) (C : Fin 256 → Fin 1024 → ℝ) (hc : ∀ i k, c (ix2 i k) = (C i k : EReal))
    (i : Fin 256) (j : Fin 1024) : k0_pay3 (F := Ideal) c (ix2 i j) = (C i j : EReal) := by
  pointwise [k0_pay3]
  exact hc i j

theorem pay5_at (x c : Vec Ideal S256x1024 .f32) (z : Vec Ideal S1x1024 .f32) (X C : Fin 256 → Fin 1024 → ℝ)
    (hx : ∀ i k, x (ix2 i k) = (X i k : EReal)) (hc : ∀ i k, c (ix2 i k) = (C i k : EReal)) (i : Fin 1) (j : Fin 1024) :
    k0_pay5 (F := Ideal) x c z (ix2 i j) = z (ix2 i j) + (dg X C j : EReal) := by
  pointwise [k0_pay5]
  simp only [pay2_at x X hx, pay3_at c C hc, ← EReal.coe_mul, sum_coe]
  rfl

theorem pay6_at (x c : Vec Ideal S256x1024 .f32) (g : Vec Ideal S1x1024 .f32) (X C : Fin 256 → Fin 1024 → ℝ) (G : Fin 1024 → ℝ)
    (hx : ∀ i k, x (ix2 i k) = (X i k : EReal)) (hc : ∀ i k, c (ix2 i k) = (C i k : EReal)) (hg : ∀ i k, g (ix2 i k) = (G k : EReal))
    (i : Fin 256) (j : Fin 1024) :
    k0_pay6 (F := Ideal) x c g (ix2 i j) = (dx X G C i j : EReal) := by
  pointwise [k0_pay6]
  simp only [pay1_at x X hx, pay2_at x X hx, pay3_at c C hc, hg, ← EReal.coe_mul, sum_coe, k1024_word]
  rw [div_coe_coe (by norm_num), ← EReal.coe_mul, ← EReal.coe_sub, ← EReal.coe_mul]
  unfold dx
  norm_num

theorem hz : (![0, 0] : Fin 2 → Nat) = fun _ => 0 := funext fun a => by fin_cases a <;> rfl

theorem out3 (c : Dev nD) (i : grid0.Coords) (a1 : Memref sig .tc .vmem S256x1024 .f32) (h1 : a1.IsWhole) (a2 : Memref sig .tc .vmem S1x1024 .f32) (h2 : a2.IsWhole)
    (a3 : Memref sig .tc .vmem S256x1024 .f32) (h3 : a3.IsWhole) (a4 : Memref sig .tc .vmem S256x1024 .bf16) (h4 : a4.IsWhole)
    (a5 : Memref sig .tc .vmem S1x1024 .f32) (h5 : a5.IsWhole) (hc : cond0_0 i) (x : Vec Ideal S256x1024 .f32) (g : Vec Ideal S1x1024 .f32) (y : Vec Ideal S256x1024 .f32) :
    out0_A_3 c i a1 h1 a2 h2 a3 h3 a4 h4 a5 h5 hc x g y = k0_pay6 x y g := by
  frame_out

theorem out4 (c : Dev nD) (i : grid0.Coords) (a1 : Memref sig .tc .vmem S256x1024 .f32) (h1 : a1.IsWhole) (a2 : Memref sig .tc .vmem S1x1024 .f32) (h2 : a2.IsWhole)
    (a3 : Memref sig .tc .vmem S256x1024 .f32) (h3 : a3.IsWhole) (a4 : Memref sig .tc .vmem S256x1024 .bf16) (h4 : a4.IsWhole)
    (a5 : Memref sig .tc .vmem S1x1024 .f32) (h5 : a5.IsWhole) (hc : cond0_0 i) (x : Vec Ideal S256x1024 .f32) (g : Vec Ideal S1x1024 .f32) (y : Vec Ideal S256x1024 .f32) :
    out0_A_4 c i a1 h1 a2 h2 a3 h3 a4 h4 a5 h5 hc x g y = k0_pay5 x y (k0_pay4 (F := Ideal)) := by
  frame_out

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

variable (X C : Fin 256 → Fin 1024 → ℝ) (G : Fin 1024 → ℝ)

theorem blk0 (c : Dev nD) (t : Fin cfg0.N) (i : Fin 256) (k : Fin 1024) :
    iblk m c 0 t (ix2 i k) = m ((c : Thread nD τ).loc main_arg0) (ix2 i k) := by
  have h := idx t
  blk_point [iblk, V, h]

theorem blk1 (c : Dev nD) (t : Fin cfg0.N) (i : Fin 1) (k : Fin 1024) :
    iblk m c 1 t (ix2 i k) = m ((c : Thread nD τ).loc main_arg1) (ix2 i k) := by
  have h := idx t
  blk_point [iblk, V, h]

theorem blk2 (c : Dev nD) (t : Fin cfg0.N) (i : Fin 256) (k : Fin 1024) :
    iblk m c 2 t (ix2 i k) = m ((c : Thread nD τ).loc main_arg2) (ix2 i k) := by
  have h := idx t
  blk_point [iblk, V, h]

theorem final3 (c : Dev nD) (hx : ∀ i k, m ((c : Thread nD τ).loc main_arg0) (ix2 i k) = (X i k : EReal))
    (hg : ∀ i k, m ((c : Thread nD τ).loc main_arg1) (ix2 i k) = (G k : EReal))
    (hc : ∀ i k, m ((c : Thread nD τ).loc main_arg2) (ix2 i k) = (C i k : EReal)) :
    (dats m 0 c).arrAt 3 cfg0.N = fun j => (dx X G C (j 0) (j 1) : EReal) := by
  refine (dats m 0 c).arrAt_eq_of_covers 3 _ (by decide +kernel) fun t hf y => ?_
  have h := idx t
  blk_simp
  rw [after0_3]; unfold Gen.outsAt0; dsimp only; rw [out3]
  idx_vars y
  rw [pay6_at _ _ _ X C G (fun i k => (blk0 m c t i k).trans (hx i k)) (fun i k => (blk2 m c t i k).trans (hc i k)) (fun i k => (blk1 m c t i k).trans (hg i k))]
  congr 2 <;> (apply Fin.ext; blk_simp [h])

theorem final4 (c : Dev nD) (hx : ∀ i k, m ((c : Thread nD τ).loc main_arg0) (ix2 i k) = (X i k : EReal))
    (hc : ∀ i k, m ((c : Thread nD τ).loc main_arg2) (ix2 i k) = (C i k : EReal)) :
    (dats m 0 c).arrAt 4 cfg0.N = fun j => (dg X C (j 1) : EReal) := by
  refine (dats m 0 c).arrAt_eq_of_covers 4 _ (by decide +kernel) fun t hf y => ?_
  have h := idx t
  blk_simp
  rw [after0_4]; unfold Gen.outsAt0; dsimp only; rw [out4]
  idx_vars y
  rw [pay5_at _ _ _ X C (fun i k => (blk0 m c t i k).trans (hx i k)) (fun i k => (blk2 m c t i k).trans (hc i k))]
  have hz : k0_pay4 (F := Ideal) (ix2 y0 y1) = 0 := by pointwise [k0_pay4]
  rw [hz, zero_add]
  congr 2 <;> (apply Fin.ext; blk_simp [h])

end Cert.MemNorm
-- ==== Proof.MemNormReference.lean ====
/-
  The derivative of the memory's norm, as the reference's program computes it, on finite arguments: every stage is the
  cast of a real number.
-/
module

public import proofs.«01_k».proof.Proof.Reals
public import proofs.«01_k».proof.Proof.Gen.ReferenceIdeal.Run
public import proofs.«01_k».proof.Proof.Gen.ReferenceIdeal.Read

@[expose] public section

set_option maxRecDepth 16384

noncomputable section

namespace Cert.MemNorm.Ref

open Cert.ReferenceIdeal Cert.ReferenceIdeal.Gen Cert.ReferenceIdeal.Read
open Idealize.ShloMosaic Idealize.ShloMosaic.TcCoe Idealize.SL.Sem
open Cert.Reals

variable (x c : (⟨S256x1024, .f32⟩ : BufTy).Contents (Elt Ideal)) (g : (⟨S1x1024, .f32⟩ : BufTy).Contents (Elt Ideal))
variable (X C : Fin 256 → Fin 1024 → ℝ) (G : Fin 1024 → ℝ)

theorem r6 (hx : ∀ i k, x (ix2 i k) = (X i k : EReal)) (i : Fin 256) (z : Fin 1) :
    val_main_v6 (F := Ideal) x (ix2 i z) = (msq (X i) : EReal) := by
  pointwise [val_main_v6, val_main_v4, val_main_v5, val_main_v3, val_main_v2, val_main_v1, val_main_v0, val_main_cst, val_main_cst_0, val_main_cst_1]
  simp only [hx, ← EReal.coe_mul, sum_coe, k1024_word, eps_word, div_coe_coe (show (1024 : ℝ) ≠ 0 by norm_num), ← EReal.coe_add]
  rfl

theorem r7 (hx : ∀ i k, x (ix2 i k) = (X i k : EReal)) (i : Fin 256) (z : Fin 1) :
    val_main_v7 (F := Ideal) x (ix2 i z) = (rinv (X i) : EReal) := by
  pointwise [val_main_v7]
  rw [r6 x X hx]
  exact rsqrt_pos (msq_pos _)

/-- The scale's gradient. -/
theorem r17 (hx : ∀ i k, x (ix2 i k) = (X i k : EReal)) (hc : ∀ i k, c (ix2 i k) = (C i k : EReal)) (z : Fin 1) (j : Fin 1024) :
    val_main_v17 (F := Ideal) x c (ix2 z j) = ((∑ k, C k j * (X k j * rinv (X k)) : ℝ) : EReal) := by
  pointwise [val_main_v17, val_main_v16, val_main_v15, val_main_v12, val_main_v11, val_main_cst_3]
  simp only [r7 x X hx, hx, hc, ← EReal.coe_mul, sum_coe]
  congr 2; funext k; ring

/-- The input's gradient. -/
theorem r34 (hx : ∀ i k, x (ix2 i k) = (X i k : EReal)) (hc : ∀ i k, c (ix2 i k) = (C i k : EReal)) (hg : ∀ i k, g (ix2 i k) = (G k : EReal))
    (i : Fin 256) (j : Fin 1024) :
    val_main_v34 (F := Ideal) x g c (ix2 i j) = ((rinv (X i) * (C i j * G j - X i j * rinv (X i) * ((∑ k, C i k * G k * (X i k * rinv (X i))) / (1024 : ℕ))) : ℝ) : EReal) := by
  have hr := rms_grad (X i) (fun k => C i k * G k) j
  rw [hr]
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9, val_main_v8, val_main_cst_2, val_main_cst_4, val_main_cst_5, val_main_cst_6]
  simp only [r7 x X hx, r6 x X hx, hx, hc, hg, ← EReal.coe_mul, sum_coe, neg_half_word, k1024_word, ← EReal.coe_add,
     div_coe_coe (show (1024 : ℝ) ≠ 0 by norm_num), div_coe_coe (msq_pos _).ne']
  simp only [Fin.sum_univ_one, Finset.univ_unique, Finset.sum_singleton, Nat.cast_ofNat]

end Cert.MemNorm.Ref
-- ==== Proof.MemNorm.lean ====
/-
  The backward kernel of the memory's norm computes the derivative of the norm: the equation of the two programs on
  finite arguments.
-/
module

public import proofs.«01_k».proof.Defs
public import proofs.«01_k».proof.Proof.MemNormKernel
public import proofs.«01_k».proof.Proof.MemNormReference

@[expose] public section

set_option maxRecDepth 16384

noncomputable section

namespace Cert.MemNorm

open Idealize.ShloMosaic Idealize.ShloMosaic.TcCoe Idealize.SL.Sem
open Cert.Reals

/-- The side conditions of the precondition's own program. -/
instance preFacts : Cert.Pre_finite.Facts := ⟨by decide, by decide⟩

/-- Finite arguments are casts of real arrays. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ (X : Fin 256 → Fin 1024 → ℝ) (G : Fin 1024 → ℝ) (C : Fin 256 → Fin 1024 → ℝ),
      (∀ i k, m ((c : Thread Cert.KernelIdeal.nD Cert.KernelIdeal.τ).loc Cert.KernelIdeal.main_arg0) (ix2 i k) = (X i k : EReal))
      ∧ (∀ i k, m ((c : Thread Cert.KernelIdeal.nD Cert.KernelIdeal.τ).loc Cert.KernelIdeal.main_arg1) (ix2 i k) = (G k : EReal))
      ∧ (∀ i k, m ((c : Thread Cert.KernelIdeal.nD Cert.KernelIdeal.τ).loc Cert.KernelIdeal.main_arg2) (ix2 i k) = (C i k : EReal)) := by
  obtain ⟨h0, h1, h2⟩ := h c
  refine ⟨fun i k => (m ((c : Thread Cert.KernelIdeal.nD Cert.KernelIdeal.τ).loc Cert.KernelIdeal.main_arg0) (ix2 i k)).toReal,
    fun k => (m ((c : Thread Cert.KernelIdeal.nD Cert.KernelIdeal.τ).loc Cert.KernelIdeal.main_arg1) (ix2 0 k)).toReal,
    fun i k => (m ((c : Thread Cert.KernelIdeal.nD Cert.KernelIdeal.τ).loc Cert.KernelIdeal.main_arg2) (ix2 i k)).toReal,
    fun i k => (real_of_lt (congrFun h0 (ix2 i k))).symm, fun i k => ?_, fun i k => (real_of_lt (congrFun h2 (ix2 i k))).symm⟩
  obtain rfl : i = 0 := Subsingleton.elim _ _
  exact (real_of_lt (congrFun h1 (ix2 0 k))).symm

theorem algebraic : Cert.algebraic_KernelIdeal_ReferenceIdeal_pre_finite := by
  intro m ρ m' ρ' hp heq
  refine ⟨fun c => (Cert.KernelIdeal.Gen.dats m 0 c).arrAt 3 Cert.KernelIdeal.cfg0.N, fun c => (Cert.KernelIdeal.Gen.dats m 0 c).arrAt 4 Cert.KernelIdeal.cfg0.N, Cert.KernelIdeal.Value.run_blocks m ρ, ?_⟩
  refine (θ_run Cert.ReferenceIdeal.defs _ _).mono (fun r h c => ?_) (Cert.ReferenceIdeal.Value.run m' ρ')
  obtain ⟨hv34, hv17, ha0, ha1, ha2⟩ := h c
  obtain ⟨e0, e1, e2⟩ := heq c
  obtain ⟨X, G, C, hx, hg, hc⟩ := reals m hp c
  refine ⟨(hv34.trans (Cert.ReferenceIdeal.Read.val_main_v34_eq _ _ _)).trans (Eq.trans ?_ (final3 m X C G c hx hg hc).symm),
    (hv17.trans (Cert.ReferenceIdeal.Read.val_main_v17_eq _ _)).trans (Eq.trans ?_ (final4 m X C c hx hc).symm), ha0, ha1, ha2⟩
  · rw [e0, e1, e2]
    funext j
    idx_vars j
    exact Ref.r34 _ _ _ X C G hx hc hg j0 j1
  · rw [e0, e2]
    funext j
    idx_vars j
    exact Ref.r17 _ _ X C hx hc j0 j1

end Cert.MemNorm
-- ==== Proof.Softmax.lean ====
module

public import proofs.«01_k».proof.Proof.Reals

/-! The softmax of a row of real scores and its gradient, over the reals and as the extended reals read them. -/

@[expose] public section

noncomputable section

namespace Cert.Reals

open Idealize.ShloMosaic

theorem neg_inf_word : Ideal.ofBits .f32 0xFF800000#32 = (⊥ : EReal) := by
  simp [Ideal.ofBits, Ideal.ieee]

/-- The attention's scale, the number its word of single precision names. -/
def scale : ℝ := (Ideal.ofBits .f32 0x3DB504F3#32).toReal

theorem scale_word : Ideal.ofBits .f32 0x3DB504F3#32 = (scale : EReal) := by
  simp [scale, Ideal.ofBits, Ideal.ieee, -EReal.coe_mul]

/-- The greatest of finitely many reals, from −∞, is a real once there is one of them. -/
theorem fold_max_coe {ι : Type} [Fintype ι] [Nonempty ι] (f : ι → ℝ) :
    ∃ M : ℝ, Finset.univ.fold max (⊥ : EReal) (fun i => (f i : EReal)) = (M : EReal) := by
  classical
  have key : ∀ s : Finset ι, s.fold max (⊥ : EReal) (fun i => (f i : EReal)) = ⊥ ∧ s = ∅ ∨ ∃ M : ℝ, s.fold max (⊥ : EReal) (fun i => (f i : EReal)) = (M : EReal) := by
    intro s
    induction s using Finset.induction_on with
    | empty => exact Or.inl ⟨Finset.fold_empty, rfl⟩
    | insert a s ha ih =>
      refine Or.inr ?_
      rw [Finset.fold_insert ha]
      rcases ih with ⟨h, -⟩ | ⟨M, h⟩
      · exact ⟨f a, by rw [h, max_eq_left bot_le]⟩
      · exact ⟨max (f a) M, by rw [h]; exact (EReal.coe_strictMono.monotone.map_max).symm⟩
  rcases key Finset.univ with ⟨-, h⟩ | h
  · exact absurd h Finset.univ_nonempty.ne_empty
  · exact h

/-- The softmax of a row of scores. -/
def soft {n : ℕ} (s : Fin n → ℝ) (j : Fin n) : ℝ := Real.exp (s j) / ∑ l, Real.exp (s l)

theorem sum_exp_pos {n : ℕ} [NeZero n] (s : Fin n → ℝ) : 0 < ∑ l, Real.exp (s l) :=
  Finset.sum_pos (fun _ _ => Real.exp_pos _) Finset.univ_nonempty

theorem sum_exp_shift {n : ℕ} (s : Fin n → ℝ) (M : ℝ) : ∑ l, Real.exp (s l - M) = (∑ l, Real.exp (s l)) * (Real.exp M)⁻¹ := by
  rw [Finset.sum_mul]
  exact Finset.sum_congr rfl fun l _ => by rw [Real.exp_sub, div_eq_mul_inv]

/-- A number taken off every score leaves the softmax. -/
theorem soft_shift {n : ℕ} [NeZero n] (s : Fin n → ℝ) (M : ℝ) (j : Fin n) :
    Real.exp (s j - M) / ∑ l, Real.exp (s l - M) = soft s j := by
  have h := (sum_exp_pos s).ne'
  have hM := (Real.exp_pos M).ne'
  rw [sum_exp_shift, Real.exp_sub, soft]
  field_simp

/-- The derivative of a softmax by the rule of the quotient, its numerators shifted by `M`, is `p · (g − Σ g p)`. -/
theorem soft_grad {n : ℕ} [NeZero n] (s g : Fin n → ℝ) (M : ℝ) (j : Fin n) :
    (g j / (∑ l, Real.exp (s l - M)) +
        -∑ l, g l * (1 / ((∑ l, Real.exp (s l - M)) * ∑ l, Real.exp (s l - M))) * Real.exp (s l - M)) * Real.exp (s j - M) =
      soft s j * (g j - ∑ l, g l * soft s l) := by
  have h := (sum_exp_pos fun l => s l - M).ne'
  have e : ∑ l, g l * soft s l = (∑ l, g l * Real.exp (s l - M)) / ∑ l, Real.exp (s l - M) := by
    rw [Finset.sum_div]
    exact Finset.sum_congr rfl fun l _ => by rw [← soft_shift s M, mul_div_assoc]
  rw [e, ← soft_shift s M]
  have e' : ∀ S : ℝ, ∑ l, g l * (1 / (S * S)) * Real.exp (s l - M) = (∑ l, g l * Real.exp (s l - M)) * (1 / (S * S)) := fun S => by
    rw [Finset.sum_mul]
    exact Finset.sum_congr rfl fun l _ => by ring
  rw [e']
  field_simp
  ring

/-- The softmax as the extended reals read it: the row's greatest off every score, the exponentials, each over their sum. -/
theorem soft_coe {n : ℕ} [NeZero n] (s : Fin n → ℝ) (j : Fin n) :
    Ideal.exp ((s j : EReal) - Finset.univ.fold max (⊥ : EReal) fun l => (s l : EReal)) *
        Ideal.div 1 (∑ l, Ideal.exp ((s l : EReal) - Finset.univ.fold max (⊥ : EReal) fun l => (s l : EReal))) = (soft s j : EReal) := by
  obtain ⟨M, hM⟩ := fold_max_coe s
  have h := (sum_exp_pos fun l => s l - M).ne'
  rw [hM]
  simp only [← EReal.coe_sub, Ideal.exp_coe, sum_coe, ← EReal.coe_one]
  rw [div_coe_coe h, ← EReal.coe_mul, mul_one_div, soft_shift]

end Cert.Reals
-- ==== Proof.CrossAttentionReals.lean ====
module

public import proofs.«01_k».proof.Proof.Softmax

/-! The cross attention's gradients as real numbers. Queries and the output's cotangent are rows of 512 lanes, four heads of 128; keys and values are 256 rows of
1024 lanes, the keys' four heads and then the values'. -/

@[expose] public section

noncomputable section

namespace Cert.CrossAttention

open Cert.Reals

/-- The scaled scores of one query against the keys. -/
def score (q : Fin 128 → ℝ) (k : Fin 256 → Fin 128 → ℝ) (j : Fin 256) : ℝ := (∑ d, q d * k j d) * scale

/-- The cotangent of one query's weights. -/
def dprob (w : Fin 128 → ℝ) (v : Fin 256 → Fin 128 → ℝ) (j : Fin 256) : ℝ := ∑ d, w d * v j d

/-- The cotangent of one query's unscaled scores. -/
def dscore (q : Fin 128 → ℝ) (k v : Fin 256 → Fin 128 → ℝ) (w : Fin 128 → ℝ) (j : Fin 256) : ℝ :=
  soft (score q k) j * (dprob w v j - ∑ l, dprob w v l * soft (score q k) l) * scale

/-- Head `h` of a row of queries. -/
def lanes (x : Fin 512 → ℝ) (h : Fin 4) (d : Fin 128) : ℝ := x ⟨128 * h.val + d.val, by omega⟩

/-- Head `h` of the keys. -/
def keys (kv : Fin 256 → Fin 1024 → ℝ) (h : Fin 4) (j : Fin 256) (d : Fin 128) : ℝ := kv j ⟨128 * h.val + d.val, by omega⟩

/-- Head `h` of the values. -/
def vals (kv : Fin 256 → Fin 1024 → ℝ) (h : Fin 4) (j : Fin 256) (d : Fin 128) : ℝ := kv j ⟨512 + 128 * h.val + d.val, by omega⟩

/-- A query's gradient in head `h`. -/
def dqHead (w q : Fin 512 → ℝ) (kv : Fin 256 → Fin 1024 → ℝ) (h : Fin 4) (d : Fin 128) : ℝ :=
  ∑ j, dscore (lanes q h) (keys kv h) (vals kv h) (lanes w h) j * keys kv h j d

/-- The keys' gradient in head `h` over `n` queries. -/
def dkHead {n : ℕ} (w q : Fin n → Fin 512 → ℝ) (kv : Fin 256 → Fin 1024 → ℝ) (h : Fin 4) (j : Fin 256) (d : Fin 128) : ℝ :=
  ∑ i, dscore (lanes (q i) h) (keys kv h) (vals kv h) (lanes (w i) h) j * lanes (q i) h d

/-- The values' gradient in head `h` over `n` queries. -/
def dvHead {n : ℕ} (w q : Fin n → Fin 512 → ℝ) (kv : Fin 256 → Fin 1024 → ℝ) (h : Fin 4) (j : Fin 256) (d : Fin 128) : ℝ :=
  ∑ i, soft (score (lanes (q i) h) (keys kv h)) j * lanes (w i) h d

/-- The queries' gradient. -/
def dq (w q : Fin 512 → ℝ) (kv : Fin 256 → Fin 1024 → ℝ) (c : Fin 512) : ℝ :=
  dqHead w q kv ⟨c.val / 128, by omega⟩ ⟨c.val % 128, by omega⟩

/-- The gradient of keys and values over `n` queries. -/
def dkv {n : ℕ} (w q : Fin n → Fin 512 → ℝ) (kv : Fin 256 → Fin 1024 → ℝ) (j : Fin 256) (c : Fin 1024) : ℝ :=
  if c.val < 512 then dkHead w q kv ⟨c.val / 128 % 4, by omega⟩ j ⟨c.val % 128, by omega⟩
  else dvHead w q kv ⟨c.val / 128 % 4, by omega⟩ j ⟨c.val % 128, by omega⟩

theorem dq_head (w q : Fin 512 → ℝ) (kv : Fin 256 → Fin 1024 → ℝ) (h : Fin 4) (d : Fin 128) (c : Fin 512) (hc : c.val = 128 * h.val + d.val) :
    dq w q kv c = dqHead w q kv h d := by
  unfold dq
  congr 1 <;> apply Fin.ext <;> simp <;> omega

theorem dkv_key {n : ℕ} (w q : Fin n → Fin 512 → ℝ) (kv : Fin 256 → Fin 1024 → ℝ) (h : Fin 4) (j : Fin 256) (d : Fin 128) (c : Fin 1024)
    (hc : c.val = 128 * h.val + d.val) : dkv w q kv j c = dkHead w q kv h j d := by
  unfold dkv
  rw [if_pos (by omega)]
  congr 1 <;> apply Fin.ext <;> simp <;> omega

theorem dkv_val {n : ℕ} (w q : Fin n → Fin 512 → ℝ) (kv : Fin 256 → Fin 1024 → ℝ) (h : Fin 4) (j : Fin 256) (d : Fin 128) (c : Fin 1024)
    (hc : c.val = 512 + 128 * h.val + d.val) : dkv w q kv j c = dvHead w q kv h j d := by
  unfold dkv
  rw [if_neg (by omega)]
  congr 1 <;> apply Fin.ext <;> simp <;> omega

/-- The gradient of keys and values over eight tiles of queries is the tiles' sum. -/
theorem dkv_tiles (w q : Fin 4096 → Fin 512 → ℝ) (kv : Fin 256 → Fin 1024 → ℝ) (j : Fin 256) (c : Fin 1024) :
    ∑ t : Fin 8, dkv (fun i : Fin 512 => w ⟨512 * t.val + i.val, by omega⟩) (fun i : Fin 512 => q ⟨512 * t.val + i.val, by omega⟩) kv j c = dkv w q kv j c := by
  have key : ∀ f : Fin 4096 → ℝ, ∑ t : Fin 8, ∑ i : Fin 512, f ⟨512 * t.val + i.val, by omega⟩ = ∑ i, f i := by
    intro f
    rw [← Equiv.sum_comp (finProdFinEquiv (m := 8) (n := 512)) f, Fintype.sum_prod_type]
    refine Finset.sum_congr rfl fun t _ => Finset.sum_congr rfl fun i _ => congrArg f (Fin.ext ?_)
    simp [finProdFinEquiv]; omega
  unfold dkv dkHead dvHead
  split
  · exact key fun i => dscore (lanes (q i) _) (keys kv _) (vals kv _) (lanes (w i) _) j * lanes (q i) _ _
  · exact key fun i => soft (score (lanes (q i) _) (keys kv _)) j * lanes (w i) _ _

end Cert.CrossAttention
-- ==== Proof.CrossAttentionKernel.lean ====
module

public import proofs.«01_k».proof.Proof.CrossAttentionReals
public import proofs.«01_k».proof.Proof.Gen.Kernel2Ideal.Value
public import Idealize.ShloMosaic.Lib.Pipeline.ValueKit
public import Idealize.ShloMosaic.Lib.Pipeline.ReadBack

/-! What one row tile of the cross attention's backward kernel computes, and what its arrays hold at the end. -/

@[expose] public section

set_option maxRecDepth 16384

noncomputable section

namespace Cert.CrossAttention

open Cert.Kernel2Ideal Cert.Kernel2Ideal.Gen
open Idealize.ShloMosaic Idealize.ShloMosaic.TcCoe Idealize.SL.Sem
open Idealize.ShloMosaic.Pipeline (Dat)
open Cert.Reals

/-! ## One head -/

section head

variable (q w : Vec Ideal S512x128 .bf16) (k v : Vec Ideal S256x128 .bf16) (Q W : Fin 512 → Fin 128 → ℝ) (K V : Fin 256 → Fin 128 → ℝ)

theorem prob_at (hq : ∀ i d, q (ix2 i d) = (Q i d : EReal)) (hk : ∀ j d, k (ix2 j d) = (K j d : EReal)) (i : Fin 512) (j : Fin 256) :
    k0_pay7 (F := Ideal) q k (ix2 i j) = (soft (score (Q i) K) j : EReal) := by
  pointwise [k0_pay7, k0_pay4, k0_pay5]
  simp only [hq, hk, ← EReal.coe_mul, sum_coe, scale_word, neg_inf_word]
  exact soft_coe (score (Q i) K) j

theorem dscore_at (hq : ∀ i d, q (ix2 i d) = (Q i d : EReal)) (hk : ∀ j d, k (ix2 j d) = (K j d : EReal)) (hv : ∀ j d, v (ix2 j d) = (V j d : EReal))
    (hw : ∀ i d, w (ix2 i d) = (W i d : EReal)) (i : Fin 512) (j : Fin 256) :
    k0_pay8 (F := Ideal) q k v w (ix2 i j) = (dscore (Q i) K V (W i) j : EReal) := by
  pointwise [k0_pay8, k0_pay6]
  simp only [prob_at q k Q K hq hk, hv, hw, ← EReal.coe_mul, sum_coe, scale_word, ← EReal.coe_sub]
  rfl

theorem dq_at (hq : ∀ i d, q (ix2 i d) = (Q i d : EReal)) (hk : ∀ j d, k (ix2 j d) = (K j d : EReal)) (hv : ∀ j d, v (ix2 j d) = (V j d : EReal))
    (hw : ∀ i d, w (ix2 i d) = (W i d : EReal)) (i : Fin 512) (d : Fin 128) :
    k0_pay9 (F := Ideal) q k v w (ix2 i d) = ((∑ j, dscore (Q i) K V (W i) j * K j d : ℝ) : EReal) := by
  pointwise [k0_pay9, k0_pay5]
  simp only [dscore_at q w k v Q W K V hq hk hv hw, hk, ← EReal.coe_mul, sum_coe]

theorem dk_at (hq : ∀ i d, q (ix2 i d) = (Q i d : EReal)) (hk : ∀ j d, k (ix2 j d) = (K j d : EReal)) (hv : ∀ j d, v (ix2 j d) = (V j d : EReal))
    (hw : ∀ i d, w (ix2 i d) = (W i d : EReal)) (a : Vec Ideal S256x128 .f32) (j : Fin 256) (d : Fin 128) :
    k0_pay10 (F := Ideal) (k0_pay4 q) (k0_pay8 q k v w) a (ix2 j d) = a (ix2 j d) + ((∑ i, dscore (Q i) K V (W i) j * Q i d : ℝ) : EReal) := by
  pointwise [k0_pay10, k0_pay4]
  simp only [dscore_at q w k v Q W K V hq hk hv hw, hq, ← EReal.coe_mul, sum_coe]

theorem dv_at (hq : ∀ i d, q (ix2 i d) = (Q i d : EReal)) (hk : ∀ j d, k (ix2 j d) = (K j d : EReal))
    (hw : ∀ i d, w (ix2 i d) = (W i d : EReal)) (a : Vec Ideal S256x128 .f32) (j : Fin 256) (d : Fin 128) :
    k0_pay11 (F := Ideal) (k0_pay6 w) (k0_pay7 q k) a (ix2 j d) = a (ix2 j d) + ((∑ i, soft (score (Q i) K) j * W i d : ℝ) : EReal) := by
  pointwise [k0_pay11, k0_pay6]
  simp only [prob_at q k Q K hq hk, hw, ← EReal.coe_mul, sum_coe]

end head

/-! ## The four heads of one tile -/

section tile

variable (c : Fin nD) (i : grid0.Coords)
  (arg1 : Memref sig .tc .vmem S512x512 .bf16) (harg1 : arg1.IsWhole) (arg2 : Memref sig .tc .vmem S512x512 .bf16) (harg2 : arg2.IsWhole)
  (arg3 : Memref sig .tc .vmem S256x1024 .bf16) (harg3 : arg3.IsWhole) (arg4 : Memref sig .tc .vmem S512x512 .bf16) (harg4 : arg4.IsWhole)
  (arg5 : Memref sig .tc .vmem S256x1024 .f32) (harg5 : arg5.IsWhole)

/-- A head's lanes of a block of queries. -/
theorem ld_lanes {x : Vec Ideal S512x512 .bf16} {X : Fin 512 → Fin 512 → ℝ} (hx : ∀ i d, x (ix2 i d) = (X i d : EReal)) (h : Fin 4) {o : ℕ} (ho : o = 128 * h.val)
    (inb) (i : Fin 512) (d : Fin 128) : View.ld x (Rect.unit (s := S512x512) ![0, o] ![512, 128] inb) (ix2 i d) = (lanes (X i) h d : EReal) := by
  subst ho
  exact (View.ld_unit_apply_of x _ _ _ _ (ix2 i ⟨128 * h.val + d.val, by omega⟩) (by intro a; fin_cases a <;> simp)).trans (hx _ _)

/-- A head's keys. -/
theorem ld_keys {x : Vec Ideal S256x1024 .bf16} {X : Fin 256 → Fin 1024 → ℝ} (hx : ∀ i d, x (ix2 i d) = (X i d : EReal)) (h : Fin 4) {o : ℕ} (ho : o = 128 * h.val)
    (inb) (i : Fin 256) (d : Fin 128) : View.ld x (Rect.unit (s := S256x1024) ![0, o] ![256, 128] inb) (ix2 i d) = (keys X h i d : EReal) := by
  subst ho
  exact (View.ld_unit_apply_of x _ _ _ _ (ix2 i ⟨128 * h.val + d.val, by omega⟩) (by intro a; fin_cases a <;> simp)).trans (hx _ _)

/-- A head's values. -/
theorem ld_vals {x : Vec Ideal S256x1024 .bf16} {X : Fin 256 → Fin 1024 → ℝ} (hx : ∀ i d, x (ix2 i d) = (X i d : EReal)) (h : Fin 4) {o : ℕ} (ho : o = 512 + 128 * h.val)
    (inb) (i : Fin 256) (d : Fin 128) : View.ld x (Rect.unit (s := S256x1024) ![0, o] ![256, 128] inb) (ix2 i d) = (vals X h i d : EReal) := by
  subst ho
  exact (View.ld_unit_apply_of x _ _ _ _ (ix2 i ⟨512 + 128 * h.val + d.val, by omega⟩) (by intro a; fin_cases a <;> simp)).trans (hx _ _)

variable {x0 x1 : Vec Ideal S512x512 .bf16} {x2 : Vec Ideal S256x1024 .bf16} {W Q : Fin 512 → Fin 512 → ℝ} {KV : Fin 256 → Fin 1024 → ℝ}
  (hw : ∀ i d, x0 (ix2 i d) = (W i d : EReal)) (hq : ∀ i d, x1 (ix2 i d) = (Q i d : EReal)) (hkv : ∀ i d, x2 (ix2 i d) = (KV i d : EReal))

include hw hq hkv

/-- A head's store of the queries' gradient. -/
theorem dq_piece (h : Fin 4) {o o' : ℕ} (ho : o = 128 * h.val) (ho' : o' = 512 + 128 * h.val) (b0 b1 b2 b3) (z : S512x128.Idx) (y : S512x512.Idx)
    (e0 : (y 0).val = (z 0).val) (e1 : (y 1).val = o + (z 1).val) :
    k0_pay9 (F := Ideal) (View.ld x1 (Rect.unit (s := S512x512) ![0, o] ![512, 128] b0)) (View.ld x2 (Rect.unit (s := S256x1024) ![0, o] ![256, 128] b1))
      (View.ld x2 (Rect.unit (s := S256x1024) ![0, o'] ![256, 128] b2)) (View.ld x0 (Rect.unit (s := S512x512) ![0, o] ![512, 128] b3)) z =
      (dq (W (y 0)) (Q (y 0)) KV (y 1) : EReal) := by
  obtain ⟨i, d, rfl⟩ : ∃ (i : Fin 512) (d : Fin 128), z = ix2 i d := ⟨z 0, z 1, (by funext a; fin_cases a <;> rfl)⟩
  rw [dq_at _ _ _ _ (fun i => lanes (Q i) h) (fun i => lanes (W i) h) (keys KV h) (vals KV h) (ld_lanes hq h ho _) (ld_keys hkv h ho _) (ld_vals hkv h ho' _) (ld_lanes hw h ho _),
    dq_head _ _ _ h d _ (e1.trans (by rw [ho]; rfl)), show y 0 = i from Fin.ext e0]
  rfl

/-- A head's store of the keys' gradient: what stood there and the tile's part. -/
theorem dk_piece (h : Fin 4) {o o' : ℕ} (ho : o = 128 * h.val) (ho' : o' = 512 + 128 * h.val) (b0 b1 b2 b3 b4) (a : Vec Ideal S256x1024 .f32)
    (z : S256x128.Idx) (y : S256x1024.Idx) (e0 : (y 0).val = (z 0).val) (e1 : (y 1).val = o + (z 1).val) :
    k0_pay10 (F := Ideal) (k0_pay4 (View.ld x1 (Rect.unit (s := S512x512) ![0, o] ![512, 128] b0)))
      (k0_pay8 (View.ld x1 (Rect.unit (s := S512x512) ![0, o] ![512, 128] b0)) (View.ld x2 (Rect.unit (s := S256x1024) ![0, o] ![256, 128] b1))
        (View.ld x2 (Rect.unit (s := S256x1024) ![0, o'] ![256, 128] b2)) (View.ld x0 (Rect.unit (s := S512x512) ![0, o] ![512, 128] b3)))
      (View.ld a (Rect.unit (s := S256x1024) ![0, o] ![256, 128] b4)) z = a y + (dkv W Q KV (y 0) (y 1) : EReal) := by
  obtain ⟨j, d, rfl⟩ : ∃ (j : Fin 256) (d : Fin 128), z = ix2 j d := ⟨z 0, z 1, (by funext a; fin_cases a <;> rfl)⟩
  rw [dk_at _ _ _ _ (fun i => lanes (Q i) h) (fun i => lanes (W i) h) (keys KV h) (vals KV h) (ld_lanes hq h ho _) (ld_keys hkv h ho _) (ld_vals hkv h ho' _) (ld_lanes hw h ho _),
    View.ld_unit_apply_of a _ _ _ _ y (by intro a; fin_cases a <;> simp [e0, e1])]
  refine congrArg (fun r : ℝ => a y + (r : EReal)) (Eq.symm ?_)
  exact (dkv_key W Q KV h (y 0) d (y 1) (e1.trans (by rw [ho]; rfl))).trans (congrArg (fun j => dkHead W Q KV h j d) (Fin.ext e0))

/-- A head's store of the values' gradient: what stood there and the tile's part. -/
theorem dv_piece (h : Fin 4) {o o' : ℕ} (ho : o = 128 * h.val) (ho' : o' = 512 + 128 * h.val) (b0 b1 b3 b4) (a : Vec Ideal S256x1024 .f32)
    (z : S256x128.Idx) (y : S256x1024.Idx) (e0 : (y 0).val = (z 0).val) (e1 : (y 1).val = o' + (z 1).val) :
    k0_pay11 (F := Ideal) (k0_pay6 (View.ld x0 (Rect.unit (s := S512x512) ![0, o] ![512, 128] b3)))
      (k0_pay7 (View.ld x1 (Rect.unit (s := S512x512) ![0, o] ![512, 128] b0)) (View.ld x2 (Rect.unit (s := S256x1024) ![0, o] ![256, 128] b1)))
      (View.ld a (Rect.unit (s := S256x1024) ![0, o'] ![256, 128] b4)) z = a y + (dkv W Q KV (y 0) (y 1) : EReal) := by
  obtain ⟨j, d, rfl⟩ : ∃ (j : Fin 256) (d : Fin 128), z = ix2 j d := ⟨z 0, z 1, (by funext a; fin_cases a <;> rfl)⟩
  rw [dv_at _ _ _ (fun i => lanes (Q i) h) (fun i => lanes (W i) h) (keys KV h) (ld_lanes hq h ho _) (ld_keys hkv h ho _) (ld_lanes hw h ho _),
    View.ld_unit_apply_of a _ _ _ _ y (by intro a; fin_cases a <;> simp [e0, e1])]
  refine congrArg (fun r : ℝ => a y + (r : EReal)) (Eq.symm ?_)
  exact (dkv_val W Q KV h (y 0) d (y 1) (e1.trans (by rw [ho']; rfl))).trans (congrArg (fun j => dvHead W Q KV h j d) (Fin.ext e0))

theorem out3A (hc0 : cond0_0 i) (y : S512x512.Idx) :
    out0_A_3 c i arg1 harg1 arg2 harg2 arg3 harg3 arg4 harg4 arg5 harg5 hc0 x0 x1 x2 y = (dq (W (y 0)) (Q (y 0)) KV (y 1) : EReal) := by
  frame_out
  canon_tiles x h
  · exact dq_piece hw hq hkv 3 rfl rfl _ _ _ _ x y h0 h1
  · exact dq_piece hw hq hkv 2 rfl rfl _ _ _ _ x y h0 h1
  · exact dq_piece hw hq hkv 1 rfl rfl _ _ _ _ x y h0 h1
  · exact dq_piece hw hq hkv 0 (o := 0) (o' := 512) rfl rfl _ _ _ _ x y h0 (by omega)

theorem out3B (hc0 : ¬ cond0_0 i) (xo4 : Vec Ideal S256x1024 .f32) (y : S512x512.Idx) :
    out0_B_3 c i arg1 harg1 arg2 harg2 arg3 harg3 arg4 harg4 arg5 harg5 hc0 x0 x1 x2 xo4 y = (dq (W (y 0)) (Q (y 0)) KV (y 1) : EReal) := by
  frame_out
  canon_tiles x h
  · exact dq_piece hw hq hkv 3 rfl rfl _ _ _ _ x y h0 h1
  · exact dq_piece hw hq hkv 2 rfl rfl _ _ _ _ x y h0 h1
  · exact dq_piece hw hq hkv 1 rfl rfl _ _ _ _ x y h0 h1
  · exact dq_piece hw hq hkv 0 (o := 0) (o' := 512) rfl rfl _ _ _ _ x y h0 (by omega)

theorem out4B (hc0 : ¬ cond0_0 i) (xo4 : Vec Ideal S256x1024 .f32) (y : S256x1024.Idx) :
    out0_B_4 c i arg1 harg1 arg2 harg2 arg3 harg3 arg4 harg4 arg5 harg5 hc0 x0 x1 x2 xo4 y = xo4 y + (dkv W Q KV (y 0) (y 1) : EReal) := by
  frame_out
  canon_tiles x h
  · exact dv_piece hw hq hkv 3 rfl rfl _ _ _ _ xo4 x y h0 h1
  · exact dk_piece hw hq hkv 3 rfl rfl _ _ _ _ _ xo4 x y h0 h1
  · exact dv_piece hw hq hkv 2 rfl rfl _ _ _ _ xo4 x y h0 h1
  · exact dk_piece hw hq hkv 2 rfl rfl _ _ _ _ _ xo4 x y h0 h1
  · exact dv_piece hw hq hkv 1 rfl rfl _ _ _ _ xo4 x y h0 h1
  · exact dk_piece hw hq hkv 1 rfl rfl _ _ _ _ _ xo4 x y h0 h1
  · exact dv_piece hw hq hkv 0 (o := 0) (o' := 512) rfl rfl _ _ _ _ xo4 x y h0 h1
  · exact dk_piece hw hq hkv 0 (o := 0) (o' := 512) rfl rfl _ _ _ _ _ xo4 x y h0 (by omega)

omit hw hq hkv in
/-- The first tile's fill. -/
theorem fill_at (y : S256x1024.Idx) : k0_pay3 (F := Ideal) y = 0 := by
  idx_vars y
  pointwise [k0_pay3]

omit hw hq hkv in
/-- The lanes from `o` on to the next head. -/
theorem mem_lanes (o : ℕ) (inb) (y : S256x1024.Idx) (hl : o ≤ (y 1).val) (hu : (y 1).val < o + 128) :
    y ∈ (Rect.unit (s := S256x1024) ![0, o] ![256, 128] inb).set := by
  refine Rect.mem_set_unit.mpr fun a => ?_
  have := (y 0).isLt
  fin_cases a
  · exact ⟨Nat.zero_le _, by simpa using this⟩
  · exact ⟨hl, hu⟩

omit hw hq hkv in
theorem emb0 (o : ℕ) (inb) (x : S256x128.Idx) : (((Rect.unit (s := S256x1024) ![0, o] ![256, 128] inb).emb x) 0).val = (x 0).val := by
  simp

omit hw hq hkv in
theorem emb1 (o : ℕ) (inb) (x : S256x128.Idx) : (((Rect.unit (s := S256x1024) ![0, o] ![256, 128] inb).emb x) 1).val = o + (x 1).val := by
  simp

theorem out4A (hc0 : cond0_0 i) (y : S256x1024.Idx) :
    out0_A_4 c i arg1 harg1 arg2 harg2 arg3 harg3 arg4 harg4 arg5 harg5 hc0 x0 x1 x2 y = (dkv W Q KV (y 0) (y 1) : EReal) := by
  frame_open
  simp (disch := decide) only [↓ View.readCov_skip, ↓ View.readCov_cons_toLoadRect, ↓ View.readCov_fill]
  frame_out
  have hz : ∀ y : S256x1024.Idx, k0_pay3 (F := Ideal) y + (dkv W Q KV (y 0) (y 1) : EReal) = (dkv W Q KV (y 0) (y 1) : EReal) := fun y => by
    rw [fill_at, zero_add]
  refine View.canon_append_of_piecesOf (Val := Elt Ideal) (s := S256x1024) (e := .f32) (fun y => (dkv W Q KV (y 0) (y 1) : EReal)) [_] [_, _, _, _, _, _, _, _] ?_ y ?_
  · refine ⟨fun x => ?_, fun x => ?_, fun x => ?_, fun x => ?_, fun x => ?_, fun x => ?_, fun x => ?_, fun x => ?_, trivial⟩
    · exact (dv_piece hw hq hkv 3 (o := 384) (o' := 896) rfl rfl _ _ _ (by decide) (k0_pay3 (F := Ideal)) x ((Rect.unit (s := S256x1024) ![0, 896] ![256, 128] (by decide)).emb x) (emb0 _ _ x) (emb1 _ _ x)).trans (hz _)
    · exact (dk_piece hw hq hkv 3 (o := 384) (o' := 896) rfl rfl _ _ _ _ (by decide) (k0_pay3 (F := Ideal)) x ((Rect.unit (s := S256x1024) ![0, 384] ![256, 128] (by decide)).emb x) (emb0 _ _ x) (emb1 _ _ x)).trans (hz _)
    · exact (dv_piece hw hq hkv 2 (o := 256) (o' := 768) rfl rfl _ _ _ (by decide) (k0_pay3 (F := Ideal)) x ((Rect.unit (s := S256x1024) ![0, 768] ![256, 128] (by decide)).emb x) (emb0 _ _ x) (emb1 _ _ x)).trans (hz _)
    · exact (dk_piece hw hq hkv 2 (o := 256) (o' := 768) rfl rfl _ _ _ _ (by decide) (k0_pay3 (F := Ideal)) x ((Rect.unit (s := S256x1024) ![0, 256] ![256, 128] (by decide)).emb x) (emb0 _ _ x) (emb1 _ _ x)).trans (hz _)
    · exact (dv_piece hw hq hkv 1 (o := 128) (o' := 640) rfl rfl _ _ _ (by decide) (k0_pay3 (F := Ideal)) x ((Rect.unit (s := S256x1024) ![0, 640] ![256, 128] (by decide)).emb x) (emb0 _ _ x) (emb1 _ _ x)).trans (hz _)
    · exact (dk_piece hw hq hkv 1 (o := 128) (o' := 640) rfl rfl _ _ _ _ (by decide) (k0_pay3 (F := Ideal)) x ((Rect.unit (s := S256x1024) ![0, 128] ![256, 128] (by decide)).emb x) (emb0 _ _ x) (emb1 _ _ x)).trans (hz _)
    · exact (dv_piece hw hq hkv 0 (o := 0) (o' := 512) rfl rfl _ _ _ (by decide) (k0_pay3 (F := Ideal)) x ((Rect.unit (s := S256x1024) ![0, 512] ![256, 128] (by decide)).emb x) (emb0 _ _ x) (emb1 _ _ x)).trans (hz _)
    · exact (dk_piece hw hq hkv 0 (o := 0) (o' := 512) rfl rfl _ _ _ _ (by decide) (k0_pay3 (F := Ideal)) x ((Rect.unit (s := S256x1024) ![0, 0] ![256, 128] (by decide)).emb x) (emb0 _ _ x) (emb1 _ _ x)).trans (hz _)
  · have hy : (y 1).val < 1024 := (y 1).isLt
    simp only [List.exists_mem_cons_iff, List.not_mem_nil, false_and, exists_false, or_false]
    rcases (by omega : 896 ≤ (y 1).val ∨ 384 ≤ (y 1).val ∧ (y 1).val < 384 + 128 ∨ 768 ≤ (y 1).val ∧ (y 1).val < 768 + 128 ∨
      256 ≤ (y 1).val ∧ (y 1).val < 256 + 128 ∨ 640 ≤ (y 1).val ∧ (y 1).val < 640 + 128 ∨ 128 ≤ (y 1).val ∧ (y 1).val < 128 + 128 ∨
      512 ≤ (y 1).val ∧ (y 1).val < 512 + 128 ∨ (y 1).val < 128) with h | h | h | h | h | h | h | h
    · exact Or.inl (mem_lanes 896 _ y h (by omega))
    · exact Or.inr (Or.inl (mem_lanes 384 _ y h.1 h.2))
    · exact Or.inr (Or.inr (Or.inl (mem_lanes 768 _ y h.1 h.2)))
    · exact Or.inr (Or.inr (Or.inr (Or.inl (mem_lanes 256 _ y h.1 h.2))))
    · exact Or.inr (Or.inr (Or.inr (Or.inr (Or.inl (mem_lanes 640 _ y h.1 h.2)))))
    · exact Or.inr (Or.inr (Or.inr (Or.inr (Or.inr (Or.inl (mem_lanes 128 _ y h.1 h.2))))))
    · exact Or.inr (Or.inr (Or.inr (Or.inr (Or.inr (Or.inr (Or.inl (mem_lanes 512 _ y h.1 h.2)))))))
    · exact Or.inr (Or.inr (Or.inr (Or.inr (Or.inr (Or.inr (Or.inr (mem_lanes 0 _ y (Nat.zero_le _) (by omega))))))))

end tile

end Cert.CrossAttention
-- ==== Proof.CrossAttentionArrays.lean ====
module

public import proofs.«01_k».proof.Proof.CrossAttentionKernel

/-! What the cross attention's backward kernel leaves in its two results. -/

@[expose] public section

set_option maxRecDepth 16384

noncomputable section

namespace Cert.CrossAttention

open Cert.Kernel2Ideal Cert.Kernel2Ideal.Gen
open Idealize.ShloMosaic Idealize.ShloMosaic.TcCoe Idealize.SL.Sem
open Idealize.ShloMosaic.Pipeline (Dat)
open Cert.Reals

variable (m : (ℓ : Loc nD τ sig) → Buf (Elt Ideal) ℓ)

theorem idx : ∀ t : Fin cfg0.N, win0_0.index t = ![t.val, 0] ∧ win0_1.index t = ![t.val, 1] ∧ win0_2.index t = ![0, 0] ∧ win0_3.index t = ![t.val, 0] ∧ win0_4.index t = ![0, 0] :=
  (by decide +kernel : ∀ t : Fin grid0.N, _)

theorem lt8 (t : Fin cfg0.N) : t.val < 8 := lt_of_lt_of_eq t.isLt N_0

theorem blk0 (c : Dev nD) (t : Fin cfg0.N) (i k : Fin 512) :
    iblk m c 0 t (ix2 i k) = m ((c : Thread nD τ).loc main_arg0) (ix2 (⟨512 * t.val + i.val, by have := lt8 t; omega⟩ : Fin 4096) k) := by
  have h := idx t
  rw [iblk]
  entry_read
  blk_point [h]

theorem blk1 (c : Dev nD) (t : Fin cfg0.N) (i k : Fin 512) :
    iblk m c 1 t (ix2 i k) = m ((c : Thread nD τ).loc main_arg1) (ix2 (⟨512 * t.val + i.val, by have := lt8 t; omega⟩ : Fin 4096) (⟨512 + k.val, by omega⟩ : Fin 1024)) := by
  have h := idx t
  rw [iblk]
  entry_read
  blk_point [h]

theorem blk2 (c : Dev nD) (t : Fin cfg0.N) (i : Fin 256) (k : Fin 1024) : iblk m c 2 t (ix2 i k) = m ((c : Thread nD τ).loc main_arg2) (ix2 i k) := by
  have h := idx t
  rw [iblk]
  entry_read
  blk_point [h]

variable (W : Fin 4096 → Fin 512 → ℝ) (PX : Fin 4096 → Fin 1024 → ℝ) (KV : Fin 256 → Fin 1024 → ℝ) (c : Dev nD)
  (hw : ∀ i k, m ((c : Thread nD τ).loc main_arg0) (ix2 i k) = (W i k : EReal)) (hx : ∀ i k, m ((c : Thread nD τ).loc main_arg1) (ix2 i k) = (PX i k : EReal))
  (hkv : ∀ i k, m ((c : Thread nD τ).loc main_arg2) (ix2 i k) = (KV i k : EReal))

/-- The queries: the second half of the projection's columns. -/
def queries (PX : Fin 4096 → Fin 1024 → ℝ) (i : Fin 4096) (k : Fin 512) : ℝ := PX i ⟨512 + k.val, by omega⟩

/-- Row tile `t` of an array. -/
def rows (X : Fin 4096 → Fin 512 → ℝ) (t : Fin cfg0.N) (i : Fin 512) : Fin 512 → ℝ := X ⟨512 * t.val + i.val, by have := lt8 t; omega⟩

/-- The queries' gradient, row by row. -/
def dqAll (i : Fin 4096) (k : Fin 512) : ℝ := dq (W i) (queries PX i) KV k

include hw hx hkv

theorem outs_A (t : Fin cfg0.N) (h : t.val % 8 = 0) (y : S256x1024.Idx) :
    (outsAt0 m c t.val t.isLt).2 y = 0 + (dkv (rows W t) (rows (queries PX) t) KV (y 0) (y 1) : EReal) := by
  rw [outsAt0_A m c t h, zero_add]
  exact out4A (W := rows W t) (Q := rows (queries PX) t) (KV := KV) c (grid0.coords t) (ms0_0 t) (hs0_0 t) (ms0_1 t) (hs0_1 t) (ms0_2 t) (hs0_2 t) (ms0_3 t) (hs0_3 t) (ms0_4 t) (hs0_4 t) (fun i k => (blk0 m c t i k).trans (hw _ _)) (fun i k => (blk1 m c t i k).trans (hx _ _)) (fun i k => (blk2 m c t i k).trans (hkv _ _)) ((hcond0_0 t).mpr h) y

theorem outs_B (t : Fin cfg0.N) (h : ¬ t.val % 8 = 0) (y : S256x1024.Idx) :
    (outsAt0 m c t.val t.isLt).2 y = (outsAt0 m c (t.val - 1) (Nat.lt_of_le_of_lt (Nat.sub_le _ _) t.isLt)).2 y +
      (dkv (rows W t) (rows (queries PX) t) KV (y 0) (y 1) : EReal) := by
  rw [outsAt0_B m c t h]
  exact out4B (W := rows W t) (Q := rows (queries PX) t) (KV := KV) c (grid0.coords t) (ms0_0 t) (hs0_0 t) (ms0_1 t) (hs0_1 t) (ms0_2 t) (hs0_2 t) (ms0_3 t) (hs0_3 t) (ms0_4 t) (hs0_4 t) (fun i k => (blk0 m c t i k).trans (hw _ _)) (fun i k => (blk1 m c t i k).trans (hx _ _)) (fun i k => (blk2 m c t i k).trans (hkv _ _)) (fun h' => h ((hcond0_0 t).mp h')) (outsAt0 m c (t.val - 1) (Nat.lt_of_le_of_lt (Nat.sub_le _ _) t.isLt)).2 y

theorem outs_dq (t : Fin cfg0.N) (y : S512x512.Idx) :
    (outsAt0 m c t.val t.isLt).1 y = (dqAll W PX KV ⟨512 * t.val + (y 0).val, by have := lt8 t; have : (y 0).val < 512 := (y 0).isLt; omega⟩ (y 1) : EReal) := by
  by_cases h : t.val % 8 = 0
  · rw [outsAt0_A m c t h]
    exact out3A (W := rows W t) (Q := rows (queries PX) t) (KV := KV) c (grid0.coords t) (ms0_0 t) (hs0_0 t) (ms0_1 t) (hs0_1 t) (ms0_2 t) (hs0_2 t) (ms0_3 t) (hs0_3 t) (ms0_4 t) (hs0_4 t) (fun i k => (blk0 m c t i k).trans (hw _ _)) (fun i k => (blk1 m c t i k).trans (hx _ _)) (fun i k => (blk2 m c t i k).trans (hkv _ _)) ((hcond0_0 t).mpr h) y
  · rw [outsAt0_B m c t h]
    dsimp only
    generalize (outsAt0 m c (t.val - 1) _).2 = xo
    exact out3B (W := rows W t) (Q := rows (queries PX) t) (KV := KV) c (grid0.coords t) (ms0_0 t) (hs0_0 t) (ms0_1 t) (hs0_1 t) (ms0_2 t) (hs0_2 t) (ms0_3 t) (hs0_3 t) (ms0_4 t) (hs0_4 t) (fun i k => (blk0 m c t i k).trans (hw _ _)) (fun i k => (blk1 m c t i k).trans (hx _ _)) (fun i k => (blk2 m c t i k).trans (hkv _ _)) (fun h' => h ((hcond0_0 t).mp h')) xo y

theorem final3 : (dats m 0 c).arrAt 3 cfg0.N = fun j => (dqAll W PX KV (j 0) (j 1) : EReal) := by
  refine (dats m 0 c).arrAt_eq_of_covers 3 _ (by decide +kernel) fun t hf y => ?_
  have h := idx t
  blk_simp
  rw [after0_3, outs_dq m W PX KV c hw hx hkv t y]
  idx_vars y
  congr 2 <;> (apply Fin.ext; blk_simp [h] <;> try (dsimp only; omega))

theorem final4 : (dats m 0 c).arrAt 4 cfg0.N = fun j => (dkv W (queries PX) KV (j 0) (j 1) : EReal) := by
  refine (dats m 0 c).arrAt_eq_of_covers 4 _ (by decide +kernel) fun t hf y => ?_
  have h := idx t
  blk_simp
  rw [after0_4, Pipeline.eq_sum_fin_of_reset_step_apply_of_flush (fun n h => (outsAt0 m c n h).2) 8 (fun _ => 0)
    (fun t y => (dkv (rows W t) (rows (queries PX) t) KV (y 0) (y 1) : EReal)) (outs_A m W PX KV c hw hx hkv) (outs_B m W PX KV c hw hx hkv) t ((flush0_4 t).mp hf) y, zero_add, sum_coe]
  have hs : ∀ s : Fin 8, 8 * (t.val / 8) + s.val = s.val := fun s => by have := lt8 t; omega
  unfold rows
  simp only [hs]
  idx_vars y
  refine (congrArg (fun r : ℝ => (r : EReal)) (dkv_tiles W (queries PX) KV y0 y1)).trans ?_
  congr 2 <;> (apply Fin.ext; blk_simp [h])

end Cert.CrossAttention
-- ==== Proof.CrossAttentionReference.lean ====
/-
  The derivative of the cross attention, as the reference's program computes it, on finite arguments: every stage is the
  cast of a real number.
-/
module

public import proofs.«01_k».proof.Proof.CrossAttentionReals
public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

namespace Cert.CrossAttention.Ref

open Cert.Reference2Ideal Cert.Reference2Ideal.Gen Cert.Reference2Ideal.Read
open Idealize.ShloMosaic Idealize.ShloMosaic.TcCoe Idealize.SL.Sem
open Cert.Reals

variable (w : (⟨S4096x512, .f32⟩ : BufTy).Contents (Elt Ideal)) (x : (⟨S4096x1024, .f32⟩ : BufTy).Contents (Elt Ideal)) (kv : (⟨S256x1024, .f32⟩ : BufTy).Contents (Elt Ideal))
variable (W Q : Fin 4096 → Fin 512 → ℝ) (KV : Fin 256 → Fin 1024 → ℝ)
variable (hw : ∀ i k, w (ix2 i k) = (W i k : EReal)) (hq : ∀ (i : Fin 4096) (k : Fin 512), x (ix2 i (⟨512 + k.val, Nat.add_lt_add_left k.isLt 512⟩ : Fin 1024)) = (Q i k : EReal))
  (hkv : ∀ i k, kv (ix2 i k) = (KV i k : EReal))

include hq in
theorem r2 (i : Fin 4096) (h : Fin 4) (d : Fin 128) : val_main_v2 (F := Ideal) x (ix3 i h d) = (lanes (Q i) h d : EReal) := by
  rw [lanes, ← hq]
  pointwise [val_main_v2, val_main_v1]
  blk_point []

include hkv in
theorem r5 (j : Fin 256) (h : Fin 4) (d : Fin 128) : val_main_v5 (F := Ideal) kv (ix3 j h d) = (keys KV h j d : EReal) := by
  rw [keys, ← hkv]
  pointwise [val_main_v5, val_main_v3]
  blk_point []

include hkv in
theorem r6 (j : Fin 256) (h : Fin 4) (d : Fin 128) : val_main_v6 (F := Ideal) kv (ix3 j h d) = (vals KV h j d : EReal) := by
  rw [vals, ← hkv]
  pointwise [val_main_v6, val_main_v4]
  blk_point []

include hw in
theorem r42 (h : Fin 4) (d : Fin 128) (i : Fin 4096) : val_main_v42 (F := Ideal) w (ix3 h d i) = (lanes (W i) h d : EReal) := by
  rw [lanes, ← hw]
  pointwise [val_main_v42, val_main_v41]
  blk_point []

include hq hkv in
theorem r9 (h : Fin 4) (i : Fin 4096) (j : Fin 256) : val_main_v9 (F := Ideal) x kv (ix3 h i j) = (score (lanes (Q i) h) (keys KV h) j : EReal) := by
  pointwise [val_main_v9, val_main_v8, val_main_v7, val_main_cst]
  simp only [r2 x Q hq, r5 kv KV hkv, ← EReal.coe_mul, sum_coe, scale_word]
  rfl

theorem r10 (h : Fin 4) (i : Fin 4096) :
    val_main_v10 (F := Ideal) x kv (ix2 h i) = Finset.univ.fold max (⊥ : EReal) fun j => val_main_v9 (F := Ideal) x kv (ix3 h i j) := by
  unfold val_main_v10
  generalize val_main_v9 (F := Ideal) x kv = s
  pointwise [val_main_cst_0]
  rw [neg_inf_word]

theorem r17 (h : Fin 4) (i : Fin 4096) : val_main_v17 (F := Ideal) x kv (ix2 h i) = val_main_v10 (F := Ideal) x kv (ix2 h i) := by
  rw [val_main_v17_apply, val_main_v16_apply, val_main_cst_2_apply]
  generalize val_main_v10 (F := Ideal) x kv (ix2 h i) = b
  change max (Ideal.ofBits .f32 0xFF800000#32) b = b
  rw [neg_inf_word]
  exact max_eq_right bot_le

include hq hkv in
theorem r28 (h : Fin 4) (i : Fin 4096) : ∃ M : ℝ, ∀ j : Fin 256, val_main_v28 (F := Ideal) x kv (ix3 h i j) = (M : EReal) := by
  obtain ⟨M, hM⟩ := fold_max_coe (score (lanes (Q i) h) (keys KV h))
  refine ⟨M, fun j => ?_⟩
  pointwise [val_main_v28, val_main_v27]
  rw [r17, r10]
  simp only [r9 x kv Q KV hq hkv]
  exact hM

/-- The row's greatest score. -/
def top (h : Fin 4) (i : Fin 4096) : ℝ := (r28 x kv Q KV hq hkv h i).choose

theorem r30 (h : Fin 4) (i : Fin 4096) (j : Fin 256) :
    val_main_v30 (F := Ideal) x kv (ix3 h i j) = (Real.exp (score (lanes (Q i) h) (keys KV h) j - top x kv Q KV hq hkv h i) : EReal) := by
  pointwise [val_main_v30, val_main_v29]
  rw [r9 x kv Q KV hq hkv, (r28 x kv Q KV hq hkv h i).choose_spec j, ← EReal.coe_sub, Ideal.exp_coe]
  rfl

theorem r31 (h : Fin 4) (i : Fin 4096) :
    val_main_v31 (F := Ideal) x kv (ix2 h i) = ((∑ j, Real.exp (score (lanes (Q i) h) (keys KV h) j - top x kv Q KV hq hkv h i) : ℝ) : EReal) := by
  pointwise [val_main_v31, val_main_cst_8]
  simp only [r30 x kv Q KV hq hkv, sum_coe]

theorem r31_ne (h : Fin 4) (i : Fin 4096) : ∑ j, Real.exp (score (lanes (Q i) h) (keys KV h) j - top x kv Q KV hq hkv h i) ≠ 0 :=
  (sum_exp_pos fun j => score (lanes (Q i) h) (keys KV h) j - top x kv Q KV hq hkv h i).ne'

include hq hkv in
theorem r34 (h : Fin 4) (i : Fin 4096) (j : Fin 256) : val_main_v34 (F := Ideal) x kv (ix3 h i j) = (soft (score (lanes (Q i) h) (keys KV h)) j : EReal) := by
  pointwise [val_main_v34, val_main_v33, val_main_v32]
  rw [r30 x kv Q KV hq hkv, r31 x kv Q KV hq hkv, div_coe_coe (r31_ne x kv Q KV hq hkv h i), soft_shift]

include hw hkv in
theorem r43 (h : Fin 4) (i : Fin 4096) (j : Fin 256) : val_main_v43 (F := Ideal) w kv (ix3 h i j) = (dprob (lanes (W i) h) (vals KV h) j : EReal) := by
  pointwise [val_main_v43]
  simp only [r42 w W hw, r6 kv KV hkv, ← EReal.coe_mul, sum_coe]
  rfl

include hw hq hkv in
theorem r59 (h : Fin 4) (i : Fin 4096) (j : Fin 256) :
    val_main_v59 (F := Ideal) w x kv (ix3 h i j) = (dscore (lanes (Q i) h) (keys KV h) (vals KV h) (lanes (W i) h) j : EReal) := by
  rw [dscore, ← soft_grad _ (dprob (lanes (W i) h) (vals KV h)) (top x kv Q KV hq hkv h i)]
  pointwise [val_main_v59, val_main_v58, val_main_v57, val_main_v56, val_main_v55, val_main_v54, val_main_v53, val_main_v52, val_main_v51, val_main_v50, val_main_v49,
    val_main_v48, val_main_v47, val_main_v46, val_main_v37, val_main_v36, val_main_v35, val_main_v32, val_main_cst_9, val_main_cst_10, val_main_cst_11, val_main_cst_12]
  simp only [r30 x kv Q KV hq hkv, r31 x kv Q KV hq hkv, r43 w kv W KV hw hkv, ← EReal.coe_mul, ← EReal.coe_add, ← EReal.coe_neg, sum_coe, scale_word,
    div_coe_coe (r31_ne x kv Q KV hq hkv h i), ← EReal.coe_one, div_coe_coe (mul_ne_zero (r31_ne x kv Q KV hq hkv h i) (r31_ne x kv Q KV hq hkv h i)), Fin.sum_univ_one]

include hw hq hkv in
/-- The queries' gradient. -/
theorem r68 (i : Fin 4096) (k : Fin 512) : val_main_v68 (F := Ideal) w x kv (ix2 i k) = (dq (W i) (Q i) KV k : EReal) := by
  pointwise [val_main_v68, val_main_v67, val_main_v63, val_main_v62]
  simp only [r59 w x kv W Q KV hw hq hkv, r5 kv KV hkv, ← EReal.coe_mul, sum_coe]
  rfl

include hw hq hkv in
/-- The gradient of keys and values. -/
theorem r66 (j : Fin 256) (k : Fin 1024) : val_main_v66 (F := Ideal) w x kv (ix2 j k) = (dkv W Q KV j k : EReal) := by
  pointwise [val_main_v66, val_main_v65, val_main_v64, val_main_v61, val_main_v60, val_main_v45, val_main_v44]
  simp only [r59 w x kv W Q KV hw hq hkv, r2 x Q hq, r34 x kv Q KV hq hkv, r42 w W hw, ← EReal.coe_mul, sum_coe]
  split
  · rename_i hk
    rw [dkv_key W Q KV ⟨k.val / 128, by omega⟩ j ⟨k.val % 128, by omega⟩ k (by dsimp only; omega)]
    rfl
  · rename_i hk
    rw [dkv_val W Q KV ⟨(k.val - 512) / 128, by omega⟩ j ⟨(k.val - 512) % 128, by omega⟩ k (by dsimp only; omega)]
    exact congrArg (fun r : ℝ => (r : EReal)) (Finset.sum_congr rfl fun _ _ => mul_comm _ _)

end Cert.CrossAttention.Ref
-- ==== Proof.CrossAttention.lean ====
/-
  The backward kernel of the cross-attention computes the derivative of softmax attention over the memory's keys and
  values: the equation of the two programs on finite arguments.
-/
module

public import proofs.«01_k».proof.Defs
public import proofs.«01_k».proof.Proof.CrossAttentionArrays
public import proofs.«01_k».proof.Proof.CrossAttentionReference

@[expose] public section

set_option maxRecDepth 16384

noncomputable section

namespace Cert.CrossAttention

open Idealize.ShloMosaic Idealize.ShloMosaic.TcCoe Idealize.SL.Sem
open Cert.Reals

/-- The side conditions of the precondition's own program. -/
instance preFacts : Cert.Pre_finite_xattn.Facts := ⟨by decide, by decide, by decide⟩

/-- Finite arguments are casts of real arrays: the output's cotangent, the projections and the keys and values. -/
theorem reals (m : (ℓ : Loc Cert.Kernel2Ideal.nD Cert.Kernel2Ideal.τ Cert.Kernel2Ideal.sig) → Buf (Elt Ideal) ℓ)
    (h : Cert.Pre_Kernel2Ideal_finite_xattn m) (c : Dev Cert.Kernel2Ideal.nD) :
    ∃ (W : Fin 4096 → Fin 512 → ℝ) (PX : Fin 4096 → Fin 1024 → ℝ) (KV : Fin 256 → Fin 1024 → ℝ),
      (∀ i k, m ((c : Thread Cert.Kernel2Ideal.nD Cert.Kernel2Ideal.τ).loc Cert.Kernel2Ideal.main_arg0) (ix2 i k) = (W i k : EReal))
      ∧ (∀ i k, m ((c : Thread Cert.Kernel2Ideal.nD Cert.Kernel2Ideal.τ).loc Cert.Kernel2Ideal.main_arg1) (ix2 i k) = (PX i k : EReal))
      ∧ (∀ i k, m ((c : Thread Cert.Kernel2Ideal.nD Cert.Kernel2Ideal.τ).loc Cert.Kernel2Ideal.main_arg2) (ix2 i k) = (KV i k : EReal)) := by
  obtain ⟨h0, h1, h2⟩ := h c
  exact ⟨_, _, _, fun i k => (real_of_lt (congrFun h0 (ix2 i k))).symm, fun i k => (real_of_lt (congrFun h1 (ix2 i k))).symm,
    fun i k => (real_of_lt (congrFun h2 (ix2 i k))).symm⟩

theorem algebraic : Cert.algebraic_Kernel2Ideal_Reference2Ideal_pre_finite_xattn := by
  intro m ρ m' ρ' hp heq
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N, Cert.Kernel2Ideal.Value.run_blocks m ρ, ?_⟩
  refine (θ_run Cert.Reference2Ideal.defs _ _).mono (fun r h c => ?_) (Cert.Reference2Ideal.Value.run m' ρ')
  obtain ⟨hv68, hv66, ha0, ha1, ha2⟩ := h c
  obtain ⟨e0, e1, e2⟩ := heq c
  obtain ⟨W, PX, KV, hw, hx, hkv⟩ := reals m hp c
  refine ⟨(hv68.trans (Cert.Reference2Ideal.Read.val_main_v68_eq m' c)).trans (Eq.trans ?_ (final3 m W PX KV c hw hx hkv).symm),
    (hv66.trans (Cert.Reference2Ideal.Read.val_main_v66_eq m' c)).trans (Eq.trans ?_ (final4 m W PX KV c hw hx hkv).symm), ha0, ha1, ha2⟩
  · rw [e0, e1, e2]
    funext j
    idx_vars j
    exact Ref.r68 _ _ _ W (queries PX) KV hw (fun i k => hx i ⟨512 + k.val, by omega⟩) hkv j0 j1
  · rw [e0, e1, e2]
    funext j
    idx_vars j
    exact Ref.r66 _ _ _ W (queries PX) KV hw (fun i k => hx i ⟨512 + k.val, by omega⟩) hkv j0 j1

end Cert.CrossAttention
-- ==== Proof.PoolReals.lean ====
/-
  The causal window pooling's gradients as real numbers. A row has 512 lanes, four groups of 128; group `g` pools over
  the last `2, 4, 8, 16` rows.
-/
module

public import proofs.«01_k».proof.Proof.Reals

@[expose] public section

noncomputable section

namespace Cert.Pool

open Idealize.ShloMosaic
open Cert.Reals

/-- The window of group `g`. -/
def width (g : Fin 4) : ℕ := ![2, 4, 8, 16] g

/-- Lane `d` of group `g`. -/
def lane (g : Fin 4) (d : Fin 128) : Fin 512 := ⟨128 * g.val + d.val, by omega⟩

/-- The pooled half of the projected lanes. -/
def half (X : Fin 4096 → Fin 1024 → ℝ) (t : Fin 4096) (l : Fin 512) : ℝ := X t ⟨l.val, Nat.lt_trans l.isLt (by decide)⟩

/-- A column of 4096 rows, zero below it. -/
def cut (x : Fin 4096 → ℝ) (t : ℕ) : ℝ := if h : t < 4096 then x ⟨t, h⟩ else 0

/-- The sum over the last `w` rows up to `t`. -/
def past (f : ℕ → ℝ) (w t : ℕ) : ℝ := ∑ j ∈ Finset.range w, if j ≤ t then f (t - j) else 0

/-- The sum over the `w` rows from `t` on. -/
def ahead (f : ℕ → ℝ) (w t : ℕ) : ℝ := ∑ j ∈ Finset.range w, f (t + j)

/-- How many rows the window ending at row `t` holds. -/
def count (w t : ℕ) : ℝ := min ((t : ℝ) + 1) w

/-- The pooled lanes less the lanes themselves. -/
def mixed (P : Fin 4096 → Fin 512 → ℝ) (g : Fin 4) (a : Fin 128) (t : ℕ) : ℝ :=
  past (cut fun s => P s (lane g a)) (width g) t / count (width g) t - cut (fun s => P s (lane g a)) t

/-- The cotangent of the pooled lanes. -/
def dmix (Y : Fin 4096 → Fin 512 → ℝ) (S : Fin 512 → ℝ) (M : Fin 4 → Fin 128 → Fin 128 → ℝ) (g : Fin 4) (a : Fin 128) (t : ℕ) : ℝ :=
  ∑ d, cut (fun s => Y s (lane g d)) t * S (lane g d) * M g a d

/-- The lanes' gradient. -/
def dp (Y : Fin 4096 → Fin 512 → ℝ) (S : Fin 512 → ℝ) (M : Fin 4 → Fin 128 → Fin 128 → ℝ) (g : Fin 4) (a : Fin 128) (t : ℕ) : ℝ :=
  ahead (fun s => dmix Y S M g a s / count (width g) s) (width g) t - dmix Y S M g a t

/-- Row `t`'s part of the grouped matrix's gradient. -/
def dwRow (Y P : Fin 4096 → Fin 512 → ℝ) (S : Fin 512 → ℝ) (g : Fin 4) (a d : Fin 128) (t : Fin 4096) : ℝ :=
  mixed P g a t * (Y t (lane g d) * S (lane g d))

/-- Row `t`'s part of the scale's gradient. -/
def dscRow (Y P : Fin 4096 → Fin 512 → ℝ) (M : Fin 4 → Fin 128 → Fin 128 → ℝ) (g : Fin 4) (d : Fin 128) (t : Fin 4096) : ℝ :=
  Y t (lane g d) * ∑ a, mixed P g a t * M g a d

theorem lane_div (g : Fin 4) (d : Fin 128) (h : (lane g d).val / 128 < 4) : (⟨(lane g d).val / 128, h⟩ : Fin 4) = g :=
  Fin.ext (by simp only [lane]; omega)

theorem lane_mod (g : Fin 4) (d : Fin 128) (h : (lane g d).val % 128 < 128) : (⟨(lane g d).val % 128, h⟩ : Fin 128) = d :=
  Fin.ext (by simp only [lane]; omega)

theorem k2_word : Ideal.ofBits .f32 0x40000000#32 = ((2 : ℝ) : EReal) := by
  simp [Ideal.ofBits, Ideal.ieee, -EReal.coe_mul]; norm_num

theorem k4_word : Ideal.ofBits .f32 0x40800000#32 = ((4 : ℝ) : EReal) := by
  simp [Ideal.ofBits, Ideal.ieee, -EReal.coe_mul]; norm_num

theorem k8_word : Ideal.ofBits .f32 0x41000000#32 = ((8 : ℝ) : EReal) := by
  simp [Ideal.ofBits, Ideal.ieee, -EReal.coe_mul]; norm_num

theorem k16_word : Ideal.ofBits .f32 0x41800000#32 = ((16 : ℝ) : EReal) := by
  simp [Ideal.ofBits, Ideal.ieee, -EReal.coe_mul]; norm_num

theorem count_pos (w t : ℕ) (hw : 0 < w) : 0 < count w t := by
  unfold count
  have : (0 : ℝ) < w := by exact_mod_cast hw
  positivity

theorem width_pos (g : Fin 4) : 0 < width g := by
  fin_cases g <;> decide

theorem cut_lt (x : Fin 4096 → ℝ) (t : ℕ) (h : t < 4096) : cut x t = x ⟨t, h⟩ := dif_pos h

theorem cut_ge (x : Fin 4096 → ℝ) (t : ℕ) (h : 4096 ≤ t) : cut x t = 0 := dif_neg (by omega)

theorem dmix_ge (Y : Fin 4096 → Fin 512 → ℝ) (S : Fin 512 → ℝ) (M : Fin 4 → Fin 128 → Fin 128 → ℝ) (g : Fin 4) (a : Fin 128) (t : ℕ)
    (h : 4096 ≤ t) : dmix Y S M g a t = 0 := by
  unfold dmix
  exact Finset.sum_eq_zero fun d _ => by rw [cut_ge _ _ h, zero_mul, zero_mul]

/-- A window is the difference of two prefixes. -/
theorem prefix_sub (f : ℕ → ℝ) (w t : ℕ) :
    (∑ s ∈ Finset.range (t + 1), f s) - (if t < w then 0 else ∑ s ∈ Finset.range (t - w), f s) = past f (w + 1) t := by
  induction w with
  | zero => simp [past, Finset.sum_range_succ]
  | succ w ih =>
    unfold past at ih ⊢
    rw [Finset.sum_range_succ _ (w + 1), ← ih]
    rcases lt_trichotomy t w with h | h | h
    · rw [if_pos h, if_pos (by omega), if_neg (by omega), add_zero]
    · subst h
      rw [if_neg (lt_irrefl t), if_pos (by omega), if_neg (by omega)]
      simp
    · rw [if_neg (by omega), if_neg (by omega), if_pos (by omega), show t - w = (t - (w + 1)) + 1 by omega, Finset.sum_range_succ _ (t - (w + 1))]
      ring

/-- A window ahead is the difference of two suffixes. -/
theorem suffix_sub (q : ℕ → ℝ) (w t N : ℕ) :
    ∑ n ∈ Finset.range N, (q (t + n) - q (t + n + w)) = ahead q w t - ahead q w (t + N) := by
  induction N with
  | zero => simp
  | succ N ih =>
    rw [Finset.sum_range_succ, ih]
    have e : ahead q w (t + N) + q (t + N + w) = ahead q w (t + (N + 1)) + q (t + N) := by
      unfold ahead
      rw [← Finset.sum_range_succ (fun j => q (t + N + j)), Finset.sum_range_succ']
      congr 1
      exact Finset.sum_congr rfl fun j _ => by congr 1; omega
    linarith

/-- Two windows side by side are one. -/
theorem back_double (e : ℕ → ℝ) (n r : ℕ) :
    ∑ j ∈ Finset.range (n + n), e (r - j) = (∑ j ∈ Finset.range n, e (r - j)) + ∑ j ∈ Finset.range n, e (r - n - j) := by
  rw [Finset.sum_range_add]
  congr 1
  exact Finset.sum_congr rfl fun j _ => by congr 1; omega

theorem ahead_double (e : ℕ → ℝ) (n r : ℕ) : ahead e (n + n) r = ahead e n r + ahead e n (r + n) := by
  unfold ahead
  rw [Finset.sum_range_add]
  congr 1
  exact Finset.sum_congr rfl fun j _ => by congr 1; omega

/-- A sum over the rows is the sum over the tiles of the sums over their rows. -/
theorem sum_tiles (f : Fin 4096 → ℝ) : ∑ t : Fin 8, ∑ i : Fin 512, f ⟨512 * t.val + i.val, by omega⟩ = ∑ i, f i := by
  rw [← Equiv.sum_comp (finProdFinEquiv (m := 8) (n := 512)) f, Fintype.sum_prod_type]
  refine Finset.sum_congr rfl fun t _ => Finset.sum_congr rfl fun i _ => congrArg f (Fin.ext ?_)
  simp [finProdFinEquiv]; omega

end Cert.Pool
-- ==== Proof.Window.lean ====
/-
  A running sum: the host's window sum read as a sum of real numbers, from the first row on and from the last.
-/
module

public import Idealize.ShloMosaic.Lib.Pipeline.ValueKit
public import proofs.«01_k».proof.Proof.Reals

@[expose] public section

noncomputable section

namespace Cert.Window

open Idealize.ShloMosaic Idealize.ShloMosaic.TcCoe
open Cert.Reals

theorem foldl_add {n : ℕ} (g : Fin n → EReal) (v : EReal) : (List.finRange n).foldl (fun r k => r + g k) v = v + ∑ k, g k := by
  have key : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [key, ← List.ofFn_eq_map, List.sum_ofFn]

/-- The window sum is the initial value and the sum over the window's positions. -/
theorem window_apply {s : Shape} (window strides lo hi : Fin s.rank → Nat) {t : Shape} (h : s.ReduceWindows window strides lo hi t)
    (x : s.Idx → EReal) (init : EReal) (j : t.Idx) :
    Ideal.hostReduceWindowAdd window strides lo hi h x init j
      = init + ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else init := by
  unfold Ideal.hostReduceWindowAdd Host.reduceWindow
  refine (foldl_add _ _).trans ?_
  congr 1
  rw [← Equiv.sum_comp (⟨s.rank, window⟩ : Shape).rowMajor.symm]
  exact Finset.sum_congr rfl fun k _ => dite_congr rfl (fun _ => rfl) fun _ => rfl

/-- A small number's word, read as a real number. -/
theorem sitofp_ofNat (n : ℕ) (h : n < 2 ^ 31) : FloatOps.sitofp (F := Ideal) .f32 (BitVec.ofNat 32 n) = ((n : ℝ) : EReal) := by
  change (((BitVec.ofNat 32 n).toInt : ℝ) : EReal) = _
  rw [BitVec.toInt_eq_toNat_of_lt (by simp only [BitVec.toNat_ofNat]; omega), BitVec.toNat_ofNat, Nat.mod_eq_of_lt (by omega)]
  norm_cast

/-- A window along the first of three axes. -/
theorem sum_first (N : ℕ) (g : (⟨3, ![N, 1, 1]⟩ : Shape).Idx → EReal) : ∑ w, g w = ∑ n : Fin N, g (ix3 n (0 : Fin 1) (0 : Fin 1)) := by
  refine (Function.Bijective.sum_comp (e := fun n : Fin N => (ix3 n (0 : Fin 1) (0 : Fin 1) : (⟨3, ![N, 1, 1]⟩ : Shape).Idx)) ⟨fun a b e => ?_, fun w => ⟨w 0, ?_⟩⟩ g).symm
  · exact congrFun e 0
  · funext a
    fin_cases a
    · rfl
    · exact (Subsingleton.elim (α := Fin 1) _ _)
    · exact (Subsingleton.elim (α := Fin 1) _ _)

/-- The running sum down the rows. -/
theorem prefix_rows (N B C : ℕ) (M : ℕ) (hM : M + 1 = N) (x : (⟨3, ![N, B, C]⟩ : Shape).Idx → EReal) (X : ℕ → Fin B → Fin C → ℝ)
    (hx : ∀ (i : Fin N) b c, x (ix3 i b c) = (X i.val b c : EReal))
    (h : (⟨3, ![N, B, C]⟩ : Shape).ReduceWindows ![N, 1, 1] ![1, 1, 1] ![M, 0, 0] ![0, 0, 0] ⟨3, ![N, B, C]⟩)
    (t : Fin N) (b : Fin B) (c : Fin C) :
    Ideal.hostReduceWindowAdd ![N, 1, 1] ![1, 1, 1] ![M, 0, 0] ![0, 0, 0] h x 0 (ix3 t b c)
      = ((∑ s ∈ Finset.range (t.val + 1), X s b c : ℝ) : EReal) := by
  have key : ∀ n : Fin N, (if hin : ∀ a : Fin 3, (![M, 0, 0] : Fin 3 → ℕ) a ≤ (ix3 t b c (a.cast h.1.symm)).val * (![1, 1, 1] : Fin 3 → ℕ) a + ((ix3 n (0 : Fin 1) (0 : Fin 1) : (⟨3, ![N, 1, 1]⟩ : Shape).Idx) a).val
              ∧ (ix3 t b c (a.cast h.1.symm)).val * (![1, 1, 1] : Fin 3 → ℕ) a + ((ix3 n (0 : Fin 1) (0 : Fin 1) : (⟨3, ![N, 1, 1]⟩ : Shape).Idx) a).val - (![M, 0, 0] : Fin 3 → ℕ) a < (![N, B, C] : Fin 3 → ℕ) a
          then x (fun a => ⟨_, (hin a).2⟩) else 0)
      = ((if M ≤ t.val + n.val then X (t.val + n.val - M) b c else 0 : ℝ) : EReal) := by
    intro n
    have ht := t.isLt; have hn := n.isLt; have hb := b.isLt; have hc := c.isLt
    split
    · next hin =>
      have h0 := hin 0
      change M ≤ t.val * 1 + n.val ∧ t.val * 1 + n.val - M < N at h0
      rw [if_pos (by omega), ← hx ⟨t.val + n.val - M, by omega⟩]
      refine congrArg x (funext fun a => Fin.ext ?_)
      fin_cases a
      · show t.val * 1 + n.val - M = t.val + n.val - M; omega
      · show b.val * 1 + 0 - 0 = b.val; omega
      · show c.val * 1 + 0 - 0 = c.val; omega
    · next hin =>
      rw [if_neg fun hle => hin fun a => ?_]
      · rfl
      · fin_cases a
        · show M ≤ t.val * 1 + n.val ∧ t.val * 1 + n.val - M < N; omega
        · show 0 ≤ b.val * 1 + 0 ∧ b.val * 1 + 0 - 0 < B; omega
        · show 0 ≤ c.val * 1 + 0 ∧ c.val * 1 + 0 - 0 < C; omega
  rw [window_apply, zero_add]
  refine (sum_first N _).trans ((Finset.sum_congr rfl fun n _ => key n).trans ?_)
  rw [sum_coe]
  congr 1
  have ht := t.isLt
  rw [Fin.sum_univ_eq_sum_range (fun n => if M ≤ t.val + n then X (t.val + n - M) b c else 0) N, ← Finset.sum_filter]
  refine Finset.sum_bij' (fun n _ => t.val + n - M) (fun s _ => s + M - t.val) ?_ ?_ ?_ ?_ ?_ <;>
    simp only [Finset.mem_filter, Finset.mem_range] <;> intros <;> first | omega | rfl | trivial

/-- The running sum up the rows. -/
theorem suffix_rows (N B C : ℕ) (M : ℕ) (hM : M + 1 = N) (x : (⟨3, ![N, B, C]⟩ : Shape).Idx → EReal) (X : ℕ → Fin B → Fin C → ℝ)
    (hx : ∀ (i : Fin N) b c, x (ix3 i b c) = (X i.val b c : EReal)) (h0 : ∀ i b c, N ≤ i → X i b c = 0)
    (h : (⟨3, ![N, B, C]⟩ : Shape).ReduceWindows ![N, 1, 1] ![1, 1, 1] ![0, 0, 0] ![M, 0, 0] ⟨3, ![N, B, C]⟩)
    (t : Fin N) (b : Fin B) (c : Fin C) :
    Ideal.hostReduceWindowAdd ![N, 1, 1] ![1, 1, 1] ![0, 0, 0] ![M, 0, 0] h x 0 (ix3 t b c)
      = ((∑ n ∈ Finset.range N, X (t.val + n) b c : ℝ) : EReal) := by
  have key : ∀ n : Fin N, (if hin : ∀ a : Fin 3, (![0, 0, 0] : Fin 3 → ℕ) a ≤ (ix3 t b c (a.cast h.1.symm)).val * (![1, 1, 1] : Fin 3 → ℕ) a + ((ix3 n (0 : Fin 1) (0 : Fin 1) : (⟨3, ![N, 1, 1]⟩ : Shape).Idx) a).val
              ∧ (ix3 t b c (a.cast h.1.symm)).val * (![1, 1, 1] : Fin 3 → ℕ) a + ((ix3 n (0 : Fin 1) (0 : Fin 1) : (⟨3, ![N, 1, 1]⟩ : Shape).Idx) a).val - (![0, 0, 0] : Fin 3 → ℕ) a < (![N, B, C] : Fin 3 → ℕ) a
          then x (fun a => ⟨_, (hin a).2⟩) else 0)
      = (X (t.val + n.val) b c : EReal) := by
    intro n
    have ht := t.isLt; have hn := n.isLt; have hb := b.isLt; have hc := c.isLt
    split
    · next hin =>
      have h1 := hin 0
      change 0 ≤ t.val * 1 + n.val ∧ t.val * 1 + n.val - 0 < N at h1
      rw [← hx ⟨t.val + n.val, by omega⟩]
      refine congrArg x (funext fun a => Fin.ext ?_)
      fin_cases a
      · show t.val * 1 + n.val - 0 = t.val + n.val; omega
      · show b.val * 1 + 0 - 0 = b.val; omega
      · show c.val * 1 + 0 - 0 = c.val; omega
    · next hin =>
      rw [h0 _ _ _ (not_lt.mp fun hle => hin fun a => ?_)]
      · rfl
      · fin_cases a
        · show 0 ≤ t.val * 1 + n.val ∧ t.val * 1 + n.val - 0 < N; omega
        · show 0 ≤ b.val * 1 + 0 ∧ b.val * 1 + 0 - 0 < B; omega
        · show 0 ≤ c.val * 1 + 0 ∧ c.val * 1 + 0 - 0 < C; omega
  rw [window_apply, zero_add]
  refine (sum_first N _).trans ((Finset.sum_congr rfl fun n _ => key n).trans ?_)
  rw [sum_coe, Fin.sum_univ_eq_sum_range (fun n => X (t.val + n) b c) N]

end Cert.Window
-- ==== Proof.Tiles.lean ====
/-
  A matrix filled by several stores of rectangles, read at an index: the last store that holds the index, or the stores
  before it.
-/
module

public import Idealize.ShloMosaic.Lib.Pipeline.ValueKit
public import Idealize.ShloMosaic.Lib.Pipeline.ReadBack

@[expose] public section

noncomputable section

namespace Cert.Tiles

open Idealize.ShloMosaic Idealize.ShloMosaic.TcCoe Idealize.SL.Sem

variable {Val : EltTy → Type} [∀ e, Nonempty (Val e)] {e : EltTy} {R C a b m n : ℕ}

/-- An index inside the last store reads its payload. -/
theorem canon_in (inb : ∀ k, (![a, b] : Fin 2 → ℕ) k + (![m, n] : Fin 2 → ℕ) k ≤ (⟨2, ![R, C]⟩ : Shape).size k)
    (w : (⟨2, ![m, n]⟩ : Shape).Idx → Val e) (L : List (View.Piece Val ⟨2, ![R, C]⟩ e)) (r : Fin R) (l : Fin C) (i : Fin m) (j : Fin n)
    (hr : r.val = a + i.val) (hl : l.val = b + j.val) :
    View.canon (⟨Rect.unit (s := ⟨2, ![R, C]⟩) ![a, b] ![m, n] inb, w⟩ :: L) (ix2 r l) = w (ix2 i j) := by
  have h : (Rect.unit (s := ⟨2, ![R, C]⟩) ![a, b] ![m, n] inb).emb (ix2 i j : (⟨2, ![m, n]⟩ : Shape).Idx) = ix2 r l := by
    funext k
    fin_cases k
    · exact Fin.ext (by simp [hr])
    · exact Fin.ext (by simp [hl])
  rw [← h]
  exact View.canon_cons_emb (Rect.unit (s := ⟨2, ![R, C]⟩) ![a, b] ![m, n] inb) w L _

/-- An index outside the last store reads the stores before it. -/
theorem canon_out (inb : ∀ k, (![a, b] : Fin 2 → ℕ) k + (![m, n] : Fin 2 → ℕ) k ≤ (⟨2, ![R, C]⟩ : Shape).size k)
    (w : (⟨2, ![m, n]⟩ : Shape).Idx → Val e) (L : List (View.Piece Val ⟨2, ![R, C]⟩ e)) (r : Fin R) (l : Fin C)
    (h : r.val < a ∨ a + m ≤ r.val ∨ l.val < b ∨ b + n ≤ l.val) :
    View.canon (⟨Rect.unit (s := ⟨2, ![R, C]⟩) ![a, b] ![m, n] inb, w⟩ :: L) (ix2 r l) = View.canon L (ix2 r l) := by
  refine View.canon_cons_of_not_mem _ L fun hm => ?_
  have hm := (Rect.mem_set_unit (s := ⟨2, ![R, C]⟩) (off := ![a, b]) (size := ![m, n]) (inb := inb)).mp hm
  have h0 : a ≤ r.val ∧ r.val < a + m := hm 0
  have h1 : b ≤ l.val ∧ l.val < b + n := hm 1
  omega

/-- A load of a rectangle of what several stores left. -/
theorem readCov_at {sig : RefSig} {κ : Kind} {sp : Space} (v : View sig κ sp ⟨2, ![R, C]⟩ e) (L : List (View.Piece Val ⟨2, ![R, C]⟩ e))
    (inb : ∀ k, (![a, b] : Fin 2 → ℕ) k + (![m, n] : Fin 2 → ℕ) k ≤ (⟨2, ![R, C]⟩ : Shape).size k) (r : Fin R) (l : Fin C) (i : Fin m) (j : Fin n)
    (hr : r.val = a + i.val) (hl : l.val = b + j.val) :
    (v.readCov L (Rect.unit (s := ⟨2, ![R, C]⟩) ![a, b] ![m, n] inb).toLoadRect : (⟨2, ![m, n]⟩ : Shape).Idx → Val e) (ix2 i j) = View.canon L (ix2 r l) := by
  refine (congrFun (View.readCov_eq_canon' v L _) _).trans (congrArg (View.canon L) ?_)
  funext k
  fin_cases k
  · exact Fin.ext (by simp [hr])
  · exact Fin.ext (by simp [hl])

end Cert.Tiles
-- ==== Proof.PoolKernel.lean ====
/-
  What one row tile of the pooling's backward kernel computes: the window sums by doubling, rolled down the rows for
  the forward's lanes and up for their gradients.
-/
module

public import proofs.«01_k».proof.Proof.PoolReals
public import proofs.«01_k».proof.Proof.Window
public import proofs.«01_k».proof.Proof.Tiles
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Pool

open Cert.Kernel3Ideal Cert.Kernel3Ideal.Gen
open Idealize.ShloMosaic Idealize.ShloMosaic.TcCoe Idealize.SL.Sem
open Idealize.ShloMosaic.Pipeline (Dat)
open Cert.Reals

/-! ## Window sums by doubling -/

section roll

variable (x : Vec Ideal S528x512 .f32) (ev : ℕ → Fin 512 → ℝ)

theorem past2 (hx : ∀ r l, x (ix2 r l) = (ev r.val l : EReal)) (r : Fin 528) (l : Fin 512) (h : 1 ≤ r.val) :
    k0_pay7 (F := Ideal) x (ix2 r l) = ((∑ j ∈ Finset.range 2, ev (r.val - j) l : ℝ) : EReal) := by
  pointwise [k0_pay7]
  rw [hx, hx, ← EReal.coe_add, Finset.sum_range_succ, Finset.sum_range_one]
  congr 3
  show (r.val + _) % 528 = _
  omega

theorem past4 (hx : ∀ r l, x (ix2 r l) = (ev r.val l : EReal)) (r : Fin 528) (l : Fin 512) (h : 3 ≤ r.val) :
    k0_pay8 (F := Ideal) x (ix2 r l) = ((∑ j ∈ Finset.range 4, ev (r.val - j) l : ℝ) : EReal) := by
  pointwise [k0_pay8]
  rw [past2 x ev hx _ _ (by omega), past2 x ev hx _ _ (by dsimp only; omega), ← EReal.coe_add,
    show 4 = 2 + 2 from rfl, back_double (fun s => ev s l)]
  congr 2
  refine Finset.sum_congr rfl fun j _ => congrArg (ev · l) ?_
  dsimp only
  omega

theorem past8 (hx : ∀ r l, x (ix2 r l) = (ev r.val l : EReal)) (r : Fin 528) (l : Fin 512) (h : 7 ≤ r.val) :
    k0_pay9 (F := Ideal) x (ix2 r l) = ((∑ j ∈ Finset.range 8, ev (r.val - j) l : ℝ) : EReal) := by
  pointwise [k0_pay9]
  rw [past4 x ev hx _ _ (by omega), past4 x ev hx _ _ (by dsimp only; omega), ← EReal.coe_add,
    show 8 = 4 + 4 from rfl, back_double (fun s => ev s l)]
  congr 2
  refine Finset.sum_congr rfl fun j _ => congrArg (ev · l) ?_
  dsimp only
  omega

theorem past16 (hx : ∀ r l, x (ix2 r l) = (ev r.val l : EReal)) (r : Fin 528) (a : Fin 128) (h : 15 ≤ r.val) :
    k0_pay13 (F := Ideal) x (ix2 r a) = ((∑ j ∈ Finset.range 16, ev (r.val - j) (lane 3 a) : ℝ) : EReal) := by
  pointwise [k0_pay13]
  rw [past8 x ev hx _ _ (by omega), past8 x ev hx _ _ (by dsimp only; omega), ← EReal.coe_add,
    show 16 = 8 + 8 from rfl, back_double (fun s => ev s (lane 3 a))]
  congr 2
  refine Finset.sum_congr rfl fun j _ => congrArg (ev · (lane 3 a)) ?_
  dsimp only
  omega

theorem ahead2 (hx : ∀ r l, x (ix2 r l) = (ev r.val l : EReal)) (r : Fin 528) (l : Fin 512) (h : r.val + 1 < 528) :
    k0_pay63 (F := Ideal) x (ix2 r l) = (ahead (fun s => ev s l) 2 r.val : EReal) := by
  pointwise [k0_pay63]
  unfold ahead
  rw [hx, hx, ← EReal.coe_add, Finset.sum_range_succ, Finset.sum_range_one]
  congr 3
  show (r.val + _) % 528 = _
  omega

theorem ahead4 (hx : ∀ r l, x (ix2 r l) = (ev r.val l : EReal)) (r : Fin 528) (l : Fin 512) (h : r.val + 3 < 528) :
    k0_pay64 (F := Ideal) x (ix2 r l) = (ahead (fun s => ev s l) 4 r.val : EReal) := by
  pointwise [k0_pay64]
  rw [ahead2 x ev hx _ _ (by omega), ahead2 x ev hx _ _ (by dsimp only; omega), ← EReal.coe_add,
    show 4 = 2 + 2 from rfl, ahead_double (fun s => ev s l)]
  congr 3
  dsimp only
  omega

theorem ahead8 (hx : ∀ r l, x (ix2 r l) = (ev r.val l : EReal)) (r : Fin 528) (l : Fin 512) (h : r.val + 7 < 528) :
    k0_pay65 (F := Ideal) x (ix2 r l) = (ahead (fun s => ev s l) 8 r.val : EReal) := by
  pointwise [k0_pay65]
  rw [ahead4 x ev hx _ _ (by omega), ahead4 x ev hx _ _ (by dsimp only; omega), ← EReal.coe_add,
    show 8 = 4 + 4 from rfl, ahead_double (fun s => ev s l)]
  congr 3
  dsimp only
  omega

theorem ahead16 (hx : ∀ r l, x (ix2 r l) = (ev r.val l : EReal)) (r : Fin 512) (a : Fin 128) :
    k0_pay69 (F := Ideal) x (ix2 r a) = (ahead (fun s => ev s (lane 3 a)) 16 r.val : EReal) := by
  pointwise [k0_pay69]
  rw [ahead8 x ev hx _ _ (by dsimp only; omega), ahead8 x ev hx _ _ (by dsimp only; omega), ← EReal.coe_add,
    show 16 = 8 + 8 from rfl, ahead_double (fun s => ev s (lane 3 a))]
  congr 3
  dsimp only
  omega

end roll

/-! ## Row numbers -/

section rows

variable (i : grid0.Coords) (T : ℕ)

theorem pos_at (hT : (i 0).val = T) (hT8 : T < 8) (r : Fin 528) (z : Fin 1) :
    k0_pay16 (F := Ideal) (k0_pay14 i) k0_pay15 (ix2 r z) = (((512 * T + r.val : ℕ) + 1 : ℝ) : EReal) := by
  pointwise [k0_pay16, k0_pay14, k0_pay15]
  have e : IntOp.addi (IntOp.addi (Scalar.muli (BitVec.ofNat 32 (i 0).val) 512#32) (BitVec.ofNat 32 r.val)) 1#32
      = BitVec.ofNat 32 (512 * T + r.val + 1) := by
    rw [hT, mul_comm 512]
    show BitVec.ofNat 32 T * BitVec.ofNat 32 512 + BitVec.ofNat 32 r.val + BitVec.ofNat 32 1 = _
    rw [← BitVec.ofNat_mul, ← BitVec.ofNat_add, ← BitVec.ofNat_add]
  rw [e, Cert.Window.sitofp_ofNat _ (by omega)]
  push_cast
  rfl

theorem inv0 (hT : (i 0).val = T) (hT8 : T < 8) (r : Fin 528) (z : Fin 1) :
    k0_pay17 (F := Ideal) (k0_pay14 i) k0_pay15 (ix2 r z) = ((1 / count (width 0) (512 * T + r.val) : ℝ) : EReal) := by
  pointwise [k0_pay17]
  rw [pos_at i T hT hT8, k2_word, ← div_coe_coe (count_pos _ _ (width_pos 0)).ne', EReal.coe_one]
  exact congrArg (Ideal.div 1) (EReal.coe_strictMono.monotone.map_min (a := ((512 * T + r.val : ℕ) : ℝ) + 1) (b := 2)).symm

theorem inv1 (hT : (i 0).val = T) (hT8 : T < 8) (r : Fin 528) (z : Fin 1) :
    k0_pay18 (F := Ideal) (k0_pay14 i) k0_pay15 (ix2 r z) = ((1 / count (width 1) (512 * T + r.val) : ℝ) : EReal) := by
  pointwise [k0_pay18]
  rw [pos_at i T hT hT8, k4_word, ← div_coe_coe (count_pos _ _ (width_pos 1)).ne', EReal.coe_one]
  exact congrArg (Ideal.div 1) (EReal.coe_strictMono.monotone.map_min (a := ((512 * T + r.val : ℕ) : ℝ) + 1) (b := 4)).symm

theorem inv2 (hT : (i 0).val = T) (hT8 : T < 8) (r : Fin 528) (z : Fin 1) :
    k0_pay19 (F := Ideal) (k0_pay14 i) k0_pay15 (ix2 r z) = ((1 / count (width 2) (512 * T + r.val) : ℝ) : EReal) := by
  pointwise [k0_pay19]
  rw [pos_at i T hT hT8, k8_word, ← div_coe_coe (count_pos _ _ (width_pos 2)).ne', EReal.coe_one]
  exact congrArg (Ideal.div 1) (EReal.coe_strictMono.monotone.map_min (a := ((512 * T + r.val : ℕ) : ℝ) + 1) (b := 8)).symm

theorem inv3 (hT : (i 0).val = T) (hT8 : T < 8) (r : Fin 528) (z : Fin 1) :
    k0_pay20 (F := Ideal) (k0_pay14 i) k0_pay15 (ix2 r z) = ((1 / count (width 3) (512 * T + r.val) : ℝ) : EReal) := by
  pointwise [k0_pay20]
  rw [pos_at i T hT hT8, k16_word, ← div_coe_coe (count_pos _ _ (width_pos 3)).ne', EReal.coe_one]
  exact congrArg (Ideal.div 1) (EReal.coe_strictMono.monotone.map_min (a := ((512 * T + r.val : ℕ) : ℝ) + 1) (b := 16)).symm

end rows

/-! ## The lanes below the tile's rows and the tile's own -/

section ext

variable (i : grid0.Coords) (T : ℕ) (v : View sig .tc .vmem S528x512 .f32) (p : Vec Ideal S512x512 .bf16) (pb : Vec Ideal S16x512 .bf16)
  (f : Fin 512 → ℕ → ℝ)

theorem sel_at (hT : (i 0).val = T) (hT8 : T < 8) (hb : 0 < T → ∀ j l, pb (ix2 j l) = (f l (512 * T + j.val - 16) : EReal)) (j : Fin 16) (l : Fin 512) :
    k0_pay5 (F := Ideal) i pb (ix2 j l) = ((if 0 < T then f l (512 * T + j.val - 16) else 0 : ℝ) : EReal) := by
  pointwise [k0_pay5]
  rw [hT]
  rcases Nat.eq_zero_or_pos T with h | h
  · rw [if_neg (by omega), h]
    rfl
  · rw [if_pos h, hb h, (by decide : ∀ T : Fin 8, 0 < T.val → Scalar.cmpi .sgt (BitVec.ofNat 32 T.val) 0#32 = 1#1) ⟨T, hT8⟩ h]
    rfl

theorem ext_at (hT : (i 0).val = T) (hT8 : T < 8) (hp : ∀ r l, p (ix2 r l) = (f l (512 * T + r.val) : EReal))
    (hb : 0 < T → ∀ j l, pb (ix2 j l) = (f l (512 * T + j.val - 16) : EReal)) (r : Fin 528) (l : Fin 512) :
    (v.readCov (Val := Elt Ideal) [⟨Rect.unit ![16, 0] ![512, 512] inb_S528x512_S512x512_16_0, k0_pay6 p⟩,
        ⟨Rect.unit ![0, 0] ![16, 512] inb_S528x512_S16x512_0_0, k0_pay5 i pb⟩]
      (Rect.unit (s := S528x512) ![0, 0] ![528, 512] inb_S528x512_S528x512_0_0).toLoadRect : Vec Ideal S528x512 .f32) (ix2 r l)
      = ((if 16 ≤ 512 * T + r.val then f l (512 * T + r.val - 16) else 0 : ℝ) : EReal) := by
  rw [Cert.Tiles.readCov_at v _ _ r l r l (Nat.zero_add _).symm (Nat.zero_add _).symm]
  by_cases h : 16 ≤ r.val
  · rw [Cert.Tiles.canon_in _ _ _ r l (⟨r.val - 16, by omega⟩ : Fin 512) l (by dsimp only; omega) (Nat.zero_add _).symm, if_pos (by omega)]
    pointwise [k0_pay6, k0_pay4]
    rw [hp]
    dsimp only
    congr 2
    omega
  · rw [Cert.Tiles.canon_out _ _ _ _ _ (.inl (by omega)), Cert.Tiles.canon_in _ _ _ r l (⟨r.val, by omega⟩ : Fin 16) l (Nat.zero_add _).symm (Nat.zero_add _).symm,
      sel_at i T pb f hT hT8 hb]
    dsimp only
    rcases Nat.eq_zero_or_pos T with h' | h'
    · rw [if_neg (by omega), if_neg (by omega)]
    · rw [if_pos h', if_pos (by omega)]

end ext

/-! ## The four groups of a tile -/

/-- The pooled lanes less the lanes themselves, of columns. -/
def mixv (f : Fin 512 → ℕ → ℝ) (g : Fin 4) (a : Fin 128) (t : ℕ) : ℝ :=
  past (f (lane g a)) (width g) t / count (width g) t - f (lane g a) t

/-- The cotangent of the pooled lanes, of columns. -/
def dmv (y : Fin 512 → ℕ → ℝ) (S : Fin 512 → ℝ) (M : Fin 4 → Fin 128 → Fin 128 → ℝ) (g : Fin 4) (a : Fin 128) (t : ℕ) : ℝ :=
  ∑ d, y (lane g d) t * S (lane g d) * M g a d

theorem past_ext (φ : ℕ → ℝ) (w T r : ℕ) (h : w ≤ 16) :
    ∑ j ∈ Finset.range w, (if 16 ≤ 512 * T + (16 + r - j) then φ (512 * T + (16 + r - j) - 16) else 0) = past φ w (512 * T + r) := by
  unfold past
  refine Finset.sum_congr rfl fun j hj => ?_
  have hj := Finset.mem_range.mp hj
  by_cases h' : j ≤ 512 * T + r
  · rw [if_pos h', if_pos (by omega)]
    congr 1
    omega
  · rw [if_neg h', if_neg (by omega)]

section group

variable (i : grid0.Coords) (T : ℕ) (x : Vec Ideal S528x512 .f32) (p y : Vec Ideal S512x512 .bf16) (yb : Vec Ideal S16x512 .bf16)
  (W : Vec Ideal S1x128x128 .bf16) (s : Vec Ideal S1x512 .f32)
  (f yy : Fin 512 → ℕ → ℝ) (S : Fin 512 → ℝ) (M : Fin 4 → Fin 128 → Fin 128 → ℝ)

theorem halo_at (hT : (i 0).val = T) (hT8 : T < 8) (hb : T < 7 → ∀ j l, yb (ix2 j l) = (yy l (512 * T + (512 + j.val)) : EReal))
    (hz : ∀ l t, 4096 ≤ t → yy l t = 0) (j : Fin 16) (l : Fin 512) :
    k0_pay22 (F := Ideal) (BitVec.ofNat 32 (i 0).val) yb (ix2 j l) = (yy l (512 * T + (512 + j.val)) : EReal) := by
  pointwise [k0_pay22]
  rw [hT]
  by_cases h : T < 7
  · rw [hb h, (by decide : ∀ T : Fin 8, T.val < 7 → Scalar.cmpi .slt (BitVec.ofNat 32 T.val) 7#32 = 1#1) ⟨T, hT8⟩ h]
    rfl
  · rw [hz _ _ (by omega), (by decide : ∀ T : Fin 8, ¬ T.val < 7 → Scalar.cmpi .slt (BitVec.ofNat 32 T.val) 7#32 = 0#1) ⟨T, hT8⟩ h]
    rfl

theorem lane0 (a : Fin 128) (h : a.val < 512) : (⟨a.val, h⟩ : Fin 512) = lane 0 a :=
  Fin.ext ((Nat.zero_add a.val).symm)

theorem mix0_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (r : Fin 512) (a : Fin 128) :
    k0_pay24 (F := Ideal) (k0_pay4 p) (k0_pay10 x) (k0_pay14 i) k0_pay15 (ix2 r a) = (mixv f 0 a (512 * T + r.val) : EReal) := by
  pointwise [k0_pay24, k0_pay10, k0_pay4]
  simp only [lane0]
  rw [past2 x (fun r l => if 16 ≤ 512 * T + r then f l (512 * T + r - 16) else 0) hx _ _ (by dsimp only; omega), inv0 i T hT hT8, hp, ← EReal.coe_mul, ← EReal.coe_sub]
  dsimp only
  rw [past_ext (f (lane 0 a)) 2 T r.val (by omega), mul_one_div]
  rfl

theorem dm0_at (hy : ∀ r l, y (ix2 r l) = (yy l (512 * T + r.val) : EReal)) (hs : ∀ z l, s (ix2 z l) = (S l : EReal)) (hw : ∀ z a d, W (ix3 z a d) = (M 0 a d : EReal)) (r : Fin 512) (a : Fin 128) :
    k0_pay29 (F := Ideal) s (k0_pay21 y) (k0_pay23 W) (ix2 r a) = (dmv yy S M 0 a (512 * T + r.val) : EReal) := by
  pointwise [k0_pay29, k0_pay27, k0_pay21, k0_pay23]
  simp only [lane0, hy, hs, hw, ← EReal.coe_mul, sum_coe]
  rfl

theorem dms0_at (hy : ∀ r l, y (ix2 r l) = (yy l (512 * T + r.val) : EReal)) (hs : ∀ z l, s (ix2 z l) = (S l : EReal)) (hw : ∀ z a d, W (ix3 z a d) = (M 0 a d : EReal)) (r : Fin 512) (a : Fin 128) :
    k0_pay32 (F := Ideal) (k0_pay29 (F := Ideal) s (k0_pay21 y) (k0_pay23 W)) (ix2 r a) = (dmv yy S M 0 a (512 * T + r.val) : EReal) := by
  pointwise [k0_pay32]
  exact dm0_at T y W s yy S M hy hs hw r a

theorem st0_at (hT : (i 0).val = T) (hT8 : T < 8) (hy : ∀ r l, y (ix2 r l) = (yy l (512 * T + r.val) : EReal)) (hs : ∀ z l, s (ix2 z l) = (S l : EReal)) (hw : ∀ z a d, W (ix3 z a d) = (M 0 a d : EReal)) (r : Fin 512) (a : Fin 128) :
    k0_pay30 (F := Ideal) (k0_pay17 (k0_pay14 i) k0_pay15) s (k0_pay21 y) (k0_pay23 W) (ix2 r a) = (dmv yy S M 0 a (512 * T + r.val) / count (width 0) (512 * T + r.val) : ℝ) := by
  pointwise [k0_pay30]
  rw [dm0_at T y W s yy S M hy hs hw, inv0 i T hT hT8, ← EReal.coe_mul, mul_one_div]

theorem sb0_at (hT : (i 0).val = T) (hT8 : T < 8) (hb : T < 7 → ∀ j l, yb (ix2 j l) = (yy l (512 * T + (512 + j.val)) : EReal)) (hz : ∀ l t, 4096 ≤ t → yy l t = 0) (hs : ∀ z l, s (ix2 z l) = (S l : EReal)) (hw : ∀ z a d, W (ix3 z a d) = (M 0 a d : EReal)) (j : Fin 16) (a : Fin 128) :
    k0_pay31 (F := Ideal) (k0_pay17 (k0_pay14 i) k0_pay15) s (k0_pay22 (BitVec.ofNat 32 (i 0).val) yb) (k0_pay23 W) (ix2 j a) = (dmv yy S M 0 a (512 * T + (512 + j.val)) / count (width 0) (512 * T + (512 + j.val)) : ℝ) := by
  pointwise [k0_pay31, k0_pay23]
  simp only [lane0, halo_at i T yb yy hT hT8 hb hz, hs, hw, ← EReal.coe_mul, sum_coe]
  rw [inv0 i T hT hT8, ← EReal.coe_mul, mul_one_div]
  rfl

theorem dsc0_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hw : ∀ z a d, W (ix3 z a d) = (M 0 a d : EReal)) (A : Vec Ideal S1x128 .f32) (z : Fin 1) (d : Fin 128) :
    k0_pay26 (F := Ideal) (k0_pay21 y) (k0_pay25 (k0_pay4 p) (k0_pay10 x) (k0_pay14 i) k0_pay15 W) A (ix2 z d) = A (ix2 z d) + ((∑ r : Fin 512, yy (lane 0 d) (512 * T + r.val) * ∑ a, mixv f 0 a (512 * T + r.val) * M 0 a d : ℝ) : EReal) := by
  pointwise [k0_pay26, k0_pay25, k0_pay23, k0_pay21]
  simp only [lane0, mix0_at i T x p f hT hT8 hx hp, hy, hw, ← EReal.coe_mul, sum_coe]

theorem dw0_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hs : ∀ z l, s (ix2 z l) = (S l : EReal)) (A : Vec Ideal S1x128x128 .f32) (z : Fin 1) (a d : Fin 128) :
    k0_pay28 (F := Ideal) s (k0_pay21 y) (k0_pay24 (F := Ideal) (k0_pay4 p) (k0_pay10 x) (k0_pay14 i) k0_pay15) A (ix3 z a d) = A (ix3 z a d) + ((∑ r : Fin 512, mixv f 0 a (512 * T + r.val) * (yy (lane 0 d) (512 * T + r.val) * S (lane 0 d)) : ℝ) : EReal) := by
  obtain rfl : z = 0 := Subsingleton.elim _ _
  pointwise [k0_pay28, k0_pay27, k0_pay21]
  simp only [lane0, mix0_at i T x p f hT hT8 hx hp, hy, hs, ← EReal.coe_mul, sum_coe]

theorem lane1 (a : Fin 128) (h : 128 + a.val < 512) : (⟨128 + a.val, h⟩ : Fin 512) = lane 1 a :=
  Fin.ext (rfl)

theorem mix1_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (r : Fin 512) (a : Fin 128) :
    k0_pay34 (F := Ideal) (k0_pay4 p) (k0_pay11 x) (k0_pay18 (k0_pay14 i) k0_pay15) (ix2 r a) = (mixv f 1 a (512 * T + r.val) : EReal) := by
  pointwise [k0_pay34, k0_pay11, k0_pay4]
  simp only [lane1]
  rw [past4 x (fun r l => if 16 ≤ 512 * T + r then f l (512 * T + r - 16) else 0) hx _ _ (by dsimp only; omega), inv1 i T hT hT8, hp, ← EReal.coe_mul, ← EReal.coe_sub]
  dsimp only
  rw [past_ext (f (lane 1 a)) 4 T r.val (by omega), mul_one_div]
  rfl

theorem dm1_at (hy : ∀ r l, y (ix2 r l) = (yy l (512 * T + r.val) : EReal)) (hs : ∀ z l, s (ix2 z l) = (S l : EReal)) (hw : ∀ z a d, W (ix3 z a d) = (M 1 a d : EReal)) (r : Fin 512) (a : Fin 128) :
    k0_pay39 (F := Ideal) s (k0_pay21 y) W (ix2 r a) = (dmv yy S M 1 a (512 * T + r.val) : EReal) := by
  pointwise [k0_pay39, k0_pay36, k0_pay33, k0_pay21]
  simp only [lane1, hy, hs, hw, ← EReal.coe_mul, sum_coe]
  rfl

theorem dms1_at (hy : ∀ r l, y (ix2 r l) = (yy l (512 * T + r.val) : EReal)) (hs : ∀ z l, s (ix2 z l) = (S l : EReal)) (hw : ∀ z a d, W (ix3 z a d) = (M 1 a d : EReal)) (r : Fin 512) (a : Fin 128) :
    k0_pay42 (F := Ideal) (k0_pay39 (F := Ideal) s (k0_pay21 y) W) (ix2 r a) = (dmv yy S M 1 a (512 * T + r.val) : EReal) := by
  pointwise [k0_pay42]
  exact dm1_at T y W s yy S M hy hs hw r a

theorem st1_at (hT : (i 0).val = T) (hT8 : T < 8) (hy : ∀ r l, y (ix2 r l) = (yy l (512 * T + r.val) : EReal)) (hs : ∀ z l, s (ix2 z l) = (S l : EReal)) (hw : ∀ z a d, W (ix3 z a d) = (M 1 a d : EReal)) (r : Fin 512) (a : Fin 128) :
    k0_pay40 (F := Ideal) (k0_pay18 (k0_pay14 i) k0_pay15) (k0_pay39 (F := Ideal) s (k0_pay21 y) W) (ix2 r a) = (dmv yy S M 1 a (512 * T + r.val) / count (width 1) (512 * T + r.val) : ℝ) := by
  pointwise [k0_pay40]
  rw [dm1_at T y W s yy S M hy hs hw, inv1 i T hT hT8, ← EReal.coe_mul, mul_one_div]

theorem sb1_at (hT : (i 0).val = T) (hT8 : T < 8) (hb : T < 7 → ∀ j l, yb (ix2 j l) = (yy l (512 * T + (512 + j.val)) : EReal)) (hz : ∀ l t, 4096 ≤ t → yy l t = 0) (hs : ∀ z l, s (ix2 z l) = (S l : EReal)) (hw : ∀ z a d, W (ix3 z a d) = (M 1 a d : EReal)) (j : Fin 16) (a : Fin 128) :
    k0_pay41 (F := Ideal) (k0_pay18 (k0_pay14 i) k0_pay15) (k0_pay33 W) (k0_pay37 s (k0_pay22 (BitVec.ofNat 32 (i 0).val) yb)) (ix2 j a) = (dmv yy S M 1 a (512 * T + (512 + j.val)) / count (width 1) (512 * T + (512 + j.val)) : ℝ) := by
  pointwise [k0_pay41, k0_pay37, k0_pay33]
  simp only [lane1, halo_at i T yb yy hT hT8 hb hz, hs, hw, ← EReal.coe_mul, sum_coe]
  rw [inv1 i T hT hT8, ← EReal.coe_mul, mul_one_div]
  rfl

theorem dsc1_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hw : ∀ z a d, W (ix3 z a d) = (M 1 a d : EReal)) (A : Vec Ideal S1x128 .f32) (z : Fin 1) (d : Fin 128) :
    k0_pay35 (F := Ideal) (k0_pay4 p) (k0_pay11 x) (k0_pay18 (k0_pay14 i) k0_pay15) (k0_pay21 y) W A (ix2 z d) = A (ix2 z d) + ((∑ r : Fin 512, yy (lane 1 d) (512 * T + r.val) * ∑ a, mixv f 1 a (512 * T + r.val) * M 1 a d : ℝ) : EReal) := by
  pointwise [k0_pay35, k0_pay33, k0_pay21]
  simp only [lane1, mix1_at i T x p f hT hT8 hx hp, hy, hw, ← EReal.coe_mul, sum_coe]

theorem dw1_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hs : ∀ z l, s (ix2 z l) = (S l : EReal)) (A : Vec Ideal S1x128x128 .f32) (z : Fin 1) (a d : Fin 128) :
    k0_pay38 (F := Ideal) (k0_pay4 p) (k0_pay11 x) (k0_pay18 (k0_pay14 i) k0_pay15) s (k0_pay21 y) A (ix3 z a d) = A (ix3 z a d) + ((∑ r : Fin 512, mixv f 1 a (512 * T + r.val) * (yy (lane 1 d) (512 * T + r.val) * S (lane 1 d)) : ℝ) : EReal) := by
  obtain rfl : z = 0 := Subsingleton.elim _ _
  pointwise [k0_pay38, k0_pay36, k0_pay21]
  simp only [lane1, mix1_at i T x p f hT hT8 hx hp, hy, hs, ← EReal.coe_mul, sum_coe]

theorem lane2 (a : Fin 128) (h : 256 + a.val < 512) : (⟨256 + a.val, h⟩ : Fin 512) = lane 2 a :=
  Fin.ext (rfl)

theorem mix2_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (r : Fin 512) (a : Fin 128) :
    k0_pay44 (F := Ideal) (k0_pay4 p) (k0_pay12 x) (k0_pay19 (k0_pay14 i) k0_pay15) (ix2 r a) = (mixv f 2 a (512 * T + r.val) : EReal) := by
  pointwise [k0_pay44, k0_pay12, k0_pay4]
  simp only [lane2]
  rw [past8 x (fun r l => if 16 ≤ 512 * T + r then f l (512 * T + r - 16) else 0) hx _ _ (by dsimp only; omega), inv2 i T hT hT8, hp, ← EReal.coe_mul, ← EReal.coe_sub]
  dsimp only
  rw [past_ext (f (lane 2 a)) 8 T r.val (by omega), mul_one_div]
  rfl

theorem dm2_at (hy : ∀ r l, y (ix2 r l) = (yy l (512 * T + r.val) : EReal)) (hs : ∀ z l, s (ix2 z l) = (S l : EReal)) (hw : ∀ z a d, W (ix3 z a d) = (M 2 a d : EReal)) (r : Fin 512) (a : Fin 128) :
    k0_pay49 (F := Ideal) (k0_pay43 W) (k0_pay46 s (k0_pay21 y)) (ix2 r a) = (dmv yy S M 2 a (512 * T + r.val) : EReal) := by
  pointwise [k0_pay49, k0_pay46, k0_pay43, k0_pay21]
  simp only [lane2, hy, hs, hw, ← EReal.coe_mul, sum_coe]
  rfl

theorem dms2_at (hy : ∀ r l, y (ix2 r l) = (yy l (512 * T + r.val) : EReal)) (hs : ∀ z l, s (ix2 z l) = (S l : EReal)) (hw : ∀ z a d, W (ix3 z a d) = (M 2 a d : EReal)) (r : Fin 512) (a : Fin 128) :
    k0_pay52 (F := Ideal) (k0_pay43 W) (k0_pay46 s (k0_pay21 y)) (ix2 r a) = (dmv yy S M 2 a (512 * T + r.val) : EReal) := by
  pointwise [k0_pay52]
  exact dm2_at T y W s yy S M hy hs hw r a

theorem st2_at (hT : (i 0).val = T) (hT8 : T < 8) (hy : ∀ r l, y (ix2 r l) = (yy l (512 * T + r.val) : EReal)) (hs : ∀ z l, s (ix2 z l) = (S l : EReal)) (hw : ∀ z a d, W (ix3 z a d) = (M 2 a d : EReal)) (r : Fin 512) (a : Fin 128) :
    k0_pay50 (F := Ideal) (k0_pay19 (k0_pay14 i) k0_pay15) (k0_pay43 W) (k0_pay46 s (k0_pay21 y)) (ix2 r a) = (dmv yy S M 2 a (512 * T + r.val) / count (width 2) (512 * T + r.val) : ℝ) := by
  pointwise [k0_pay50]
  rw [dm2_at T y W s yy S M hy hs hw, inv2 i T hT hT8, ← EReal.coe_mul, mul_one_div]

theorem sb2_at (hT : (i 0).val = T) (hT8 : T < 8) (hb : T < 7 → ∀ j l, yb (ix2 j l) = (yy l (512 * T + (512 + j.val)) : EReal)) (hz : ∀ l t, 4096 ≤ t → yy l t = 0) (hs : ∀ z l, s (ix2 z l) = (S l : EReal)) (hw : ∀ z a d, W (ix3 z a d) = (M 2 a d : EReal)) (j : Fin 16) (a : Fin 128) :
    k0_pay51 (F := Ideal) (k0_pay19 (k0_pay14 i) k0_pay15) s (k0_pay43 W) (k0_pay47 (k0_pay22 (BitVec.ofNat 32 (i 0).val) yb)) (ix2 j a) = (dmv yy S M 2 a (512 * T + (512 + j.val)) / count (width 2) (512 * T + (512 + j.val)) : ℝ) := by
  pointwise [k0_pay51, k0_pay47, k0_pay43]
  simp only [lane2, halo_at i T yb yy hT hT8 hb hz, hs, hw, ← EReal.coe_mul, sum_coe]
  rw [inv2 i T hT hT8, ← EReal.coe_mul, mul_one_div]
  rfl

theorem dsc2_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hw : ∀ z a d, W (ix3 z a d) = (M 2 a d : EReal)) (A : Vec Ideal S1x128 .f32) (z : Fin 1) (d : Fin 128) :
    k0_pay45 (F := Ideal) (k0_pay4 p) (k0_pay12 x) (k0_pay19 (k0_pay14 i) k0_pay15) (k0_pay21 y) W A (ix2 z d) = A (ix2 z d) + ((∑ r : Fin 512, yy (lane 2 d) (512 * T + r.val) * ∑ a, mixv f 2 a (512 * T + r.val) * M 2 a d : ℝ) : EReal) := by
  pointwise [k0_pay45, k0_pay43, k0_pay21]
  simp only [lane2, mix2_at i T x p f hT hT8 hx hp, hy, hw, ← EReal.coe_mul, sum_coe]

theorem dw2_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hs : ∀ z l, s (ix2 z l) = (S l : EReal)) (A : Vec Ideal S1x128x128 .f32) (z : Fin 1) (a d : Fin 128) :
    k0_pay48 (F := Ideal) (k0_pay44 (F := Ideal) (k0_pay4 p) (k0_pay12 x) (k0_pay19 (k0_pay14 i) k0_pay15)) (k0_pay46 s (k0_pay21 y)) A (ix3 z a d) = A (ix3 z a d) + ((∑ r : Fin 512, mixv f 2 a (512 * T + r.val) * (yy (lane 2 d) (512 * T + r.val) * S (lane 2 d)) : ℝ) : EReal) := by
  obtain rfl : z = 0 := Subsingleton.elim _ _
  pointwise [k0_pay48, k0_pay46, k0_pay21]
  simp only [lane2, mix2_at i T x p f hT hT8 hx hp, hy, hs, ← EReal.coe_mul, sum_coe]

theorem lane3 (a : Fin 128) (h : 384 + a.val < 512) : (⟨384 + a.val, h⟩ : Fin 512) = lane 3 a :=
  Fin.ext (rfl)

theorem mix3_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (r : Fin 512) (a : Fin 128) :
    k0_pay54 (F := Ideal) (k0_pay4 p) (k0_pay13 x) (k0_pay20 (k0_pay14 i) k0_pay15) (ix2 r a) = (mixv f 3 a (512 * T + r.val) : EReal) := by
  pointwise [k0_pay54, k0_pay4]
  simp only [lane3]
  rw [past16 x (fun r l => if 16 ≤ 512 * T + r then f l (512 * T + r - 16) else 0) hx _ _ (by dsimp only; omega), inv3 i T hT hT8, hp, ← EReal.coe_mul, ← EReal.coe_sub]
  dsimp only
  rw [past_ext (f (lane 3 a)) 16 T r.val (by omega), mul_one_div]
  rfl

theorem dm3_at (hy : ∀ r l, y (ix2 r l) = (yy l (512 * T + r.val) : EReal)) (hs : ∀ z l, s (ix2 z l) = (S l : EReal)) (hw : ∀ z a d, W (ix3 z a d) = (M 3 a d : EReal)) (r : Fin 512) (a : Fin 128) :
    k0_pay58 (F := Ideal) s (k0_pay21 y) (k0_pay53 W) (ix2 r a) = (dmv yy S M 3 a (512 * T + r.val) : EReal) := by
  pointwise [k0_pay58, k0_pay56, k0_pay53, k0_pay21]
  simp only [lane3, hy, hs, hw, ← EReal.coe_mul, sum_coe]
  rfl

theorem dms3_at (hy : ∀ r l, y (ix2 r l) = (yy l (512 * T + r.val) : EReal)) (hs : ∀ z l, s (ix2 z l) = (S l : EReal)) (hw : ∀ z a d, W (ix3 z a d) = (M 3 a d : EReal)) (r : Fin 512) (a : Fin 128) :
    k0_pay62 (F := Ideal) (k0_pay58 (F := Ideal) s (k0_pay21 y) (k0_pay53 W)) (ix2 r a) = (dmv yy S M 3 a (512 * T + r.val) : EReal) := by
  pointwise [k0_pay62]
  exact dm3_at T y W s yy S M hy hs hw r a

theorem st3_at (hT : (i 0).val = T) (hT8 : T < 8) (hy : ∀ r l, y (ix2 r l) = (yy l (512 * T + r.val) : EReal)) (hs : ∀ z l, s (ix2 z l) = (S l : EReal)) (hw : ∀ z a d, W (ix3 z a d) = (M 3 a d : EReal)) (r : Fin 512) (a : Fin 128) :
    k0_pay59 (F := Ideal) (k0_pay20 (k0_pay14 i) k0_pay15) s (k0_pay21 y) (k0_pay53 W) (ix2 r a) = (dmv yy S M 3 a (512 * T + r.val) / count (width 3) (512 * T + r.val) : ℝ) := by
  pointwise [k0_pay59]
  rw [dm3_at T y W s yy S M hy hs hw, inv3 i T hT hT8, ← EReal.coe_mul, mul_one_div]

theorem sb3_at (hT : (i 0).val = T) (hT8 : T < 8) (hb : T < 7 → ∀ j l, yb (ix2 j l) = (yy l (512 * T + (512 + j.val)) : EReal)) (hz : ∀ l t, 4096 ≤ t → yy l t = 0) (hs : ∀ z l, s (ix2 z l) = (S l : EReal)) (hw : ∀ z a d, W (ix3 z a d) = (M 3 a d : EReal)) (j : Fin 16) (a : Fin 128) :
    k0_pay61 (F := Ideal) (k0_pay60 (k0_pay20 (k0_pay14 i) k0_pay15) s (k0_pay22 (BitVec.ofNat 32 (i 0).val) yb) (k0_pay53 W)) (ix2 j a) = (dmv yy S M 3 a (512 * T + (512 + j.val)) / count (width 3) (512 * T + (512 + j.val)) : ℝ) := by
  pointwise [k0_pay61, k0_pay60, k0_pay53]
  simp only [lane3, halo_at i T yb yy hT hT8 hb hz, hs, hw, ← EReal.coe_mul, sum_coe]
  rw [inv3 i T hT hT8, ← EReal.coe_mul, mul_one_div]
  rfl

theorem dsc3_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hw : ∀ z a d, W (ix3 z a d) = (M 3 a d : EReal)) (A : Vec Ideal S1x128 .f32) (z : Fin 1) (d : Fin 128) :
    k0_pay55 (F := Ideal) (k0_pay21 y) (k0_pay53 W) (k0_pay54 (F := Ideal) (k0_pay4 p) (k0_pay13 x) (k0_pay20 (k0_pay14 i) k0_pay15)) (constant S512x128 FTy.f32 0#32) A (ix2 z d) = A (ix2 z d) + ((∑ r : Fin 512, yy (lane 3 d) (512 * T + r.val) * ∑ a, mixv f 3 a (512 * T + r.val) * M 3 a d : ℝ) : EReal) := by
  pointwise [k0_pay55, k0_pay53, k0_pay21]
  simp only [lane3, mix3_at i T x p f hT hT8 hx hp, hy, hw, ← EReal.coe_mul, sum_coe]

theorem dw3_at (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hs : ∀ z l, s (ix2 z l) = (S l : EReal)) (A : Vec Ideal S1x128x128 .f32) (z : Fin 1) (a d : Fin 128) :
    k0_pay57 (F := Ideal) s (k0_pay21 y) (k0_pay54 (F := Ideal) (k0_pay4 p) (k0_pay13 x) (k0_pay20 (k0_pay14 i) k0_pay15)) A (ix3 z a d) = A (ix3 z a d) + ((∑ r : Fin 512, mixv f 3 a (512 * T + r.val) * (yy (lane 3 d) (512 * T + r.val) * S (lane 3 d)) : ℝ) : EReal) := by
  obtain rfl : z = 0 := Subsingleton.elim _ _
  pointwise [k0_pay57, k0_pay56, k0_pay21]
  simp only [lane3, mix3_at i T x p f hT hT8 hx hp, hy, hs, ← EReal.coe_mul, sum_coe]

end group

end Cert.Pool
-- ==== Proof.PoolOut.lean ====
module

public import proofs.«01_k».proof.Proof.PoolKernel
public import Idealize.ShloMosaic.Lib.Pipeline.ValueKit
public import Idealize.ShloMosaic.Lib.Pipeline.ReadBack

/-!
# What one tile of the pooling gradient stores

The scratch arrays read back, and each of the three outputs' blocks after a tile.
-/

@[expose] public section

set_option maxRecDepth 16384

noncomputable section

open Idealize.ShloMosaic Idealize.ShloMosaic.TcCoe Idealize.SL.Sem
open Idealize.ShloMosaic.Pipeline (Dat)

namespace Cert.Pool

open Cert.Kernel3Ideal Cert.Kernel3Ideal.Gen

/-- The group of a lane. -/
def grp (l : Fin 512) : Fin 4 := ⟨l.val / 128, by omega⟩

/-- A lane's place in its group. -/
def col (l : Fin 512) : Fin 128 := ⟨l.val % 128, Nat.mod_lt _ (by decide)⟩

theorem grp_lane (g : Fin 4) (a : Fin 128) : grp (lane g a) = g := Fin.ext (by show (128 * g.val + a.val) / 128 = g.val; omega)
theorem col_lane (g : Fin 4) (a : Fin 128) : col (lane g a) = a := Fin.ext (by show (128 * g.val + a.val) % 128 = a.val; omega)
theorem lane_grp (l : Fin 512) : lane (grp l) (col l) = l := Fin.ext (by show 128 * (l.val / 128) + l.val % 128 = l.val; omega)

/-- The cotangent of the pooled lanes over the window's count, of a lane. -/
def dxv (y : Fin 512 → ℕ → ℝ) (S : Fin 512 → ℝ) (M : Fin 4 → Fin 128 → Fin 128 → ℝ) (l : Fin 512) (t : ℕ) : ℝ :=
  dmv y S M (grp l) (col l) t / count (width (grp l)) t

/-- The lanes' gradient, of columns. -/
def dpv (y : Fin 512 → ℕ → ℝ) (S : Fin 512 → ℝ) (M : Fin 4 → Fin 128 → Fin 128 → ℝ) (l : Fin 512) (t : ℕ) : ℝ :=
  ahead (dxv y S M l) (width (grp l)) t - dmv y S M (grp l) (col l) t

/-- A tile's part of the grouped matrix's gradient. -/
def dwv (f y : Fin 512 → ℕ → ℝ) (S : Fin 512 → ℝ) (T : ℕ) (g : Fin 4) (a d : Fin 128) : ℝ :=
  ∑ r : Fin 512, mixv f g a (512 * T + r.val) * (y (lane g d) (512 * T + r.val) * S (lane g d))

/-- A tile's part of the scale's gradient. -/
def dscv (f y : Fin 512 → ℕ → ℝ) (M : Fin 4 → Fin 128 → Fin 128 → ℝ) (T : ℕ) (l : Fin 512) : ℝ :=
  ∑ r : Fin 512, y l (512 * T + r.val) * ∑ a, mixv f (grp l) a (512 * T + r.val) * M (grp l) a (col l)

section scratch

variable (v : View sig .tc .vmem S528x512 .f32) (v' : View sig .tc .vmem S512x512 .f32) (t0 t1 t2 t3 : Vec Ideal S512x128 .f32) (b0 b1 b2 b3 : Vec Ideal S16x128 .f32) (D : ℕ → Fin 512 → ℝ)

/-- The extended cotangent read back. -/
theorem eight_at (ht0 : ∀ r a, t0 (ix2 r a) = (D r.val (lane 0 a) : EReal)) (ht1 : ∀ r a, t1 (ix2 r a) = (D r.val (lane 1 a) : EReal)) (ht2 : ∀ r a, t2 (ix2 r a) = (D r.val (lane 2 a) : EReal)) (ht3 : ∀ r a, t3 (ix2 r a) = (D r.val (lane 3 a) : EReal))
    (hb0 : ∀ j a, b0 (ix2 j a) = (D (512 + j.val) (lane 0 a) : EReal)) (hb1 : ∀ j a, b1 (ix2 j a) = (D (512 + j.val) (lane 1 a) : EReal)) (hb2 : ∀ j a, b2 (ix2 j a) = (D (512 + j.val) (lane 2 a) : EReal)) (hb3 : ∀ j a, b3 (ix2 j a) = (D (512 + j.val) (lane 3 a) : EReal)) (r : Fin 528) (l : Fin 512) :
    (v.readCov (Val := Elt Ideal) [⟨Rect.unit (s := S528x512) ![512, 384] ![16, 128] inb_S528x512_S16x128_512_384, b3⟩, ⟨Rect.unit (s := S528x512) ![0, 384] ![512, 128] inb_S528x512_S512x128_0_384, t3⟩, ⟨Rect.unit (s := S528x512) ![512, 256] ![16, 128] inb_S528x512_S16x128_512_256, b2⟩, ⟨Rect.unit (s := S528x512) ![0, 256] ![512, 128] inb_S528x512_S512x128_0_256, t2⟩, ⟨Rect.unit (s := S528x512) ![512, 128] ![16, 128] inb_S528x512_S16x128_512_128, b1⟩, ⟨Rect.unit (s := S528x512) ![0, 128] ![512, 128] inb_S528x512_S512x128_0_128, t1⟩, ⟨Rect.unit (s := S528x512) ![512, 0] ![16, 128] inb_S528x512_S16x128_512_0, b0⟩, ⟨Rect.unit (s := S528x512) ![0, 0] ![512, 128] inb_S528x512_S512x128_0_0, t0⟩]
      (Rect.unit (s := S528x512) ![0, 0] ![528, 512] inb_S528x512_S528x512_0_0).toLoadRect : Vec Ideal S528x512 .f32) (ix2 r l) = (D r.val l : EReal) := by
  rw [Cert.Tiles.readCov_at v _ _ r l r l (Nat.zero_add _).symm (Nat.zero_add _).symm]
  obtain ⟨g, a, rfl⟩ : ∃ g a, l = lane g a := ⟨grp l, col l, (lane_grp l).symm⟩
  by_cases h : r.val < 512
  · match g with
    | 0 =>
      have hv : (lane 0 a).val = 0 + a.val := rfl
      rw [Cert.Tiles.canon_out _ _ _ _ _ (by omega), Cert.Tiles.canon_out _ _ _ _ _ (by omega), Cert.Tiles.canon_out _ _ _ _ _ (by omega), Cert.Tiles.canon_out _ _ _ _ _ (by omega), Cert.Tiles.canon_out _ _ _ _ _ (by omega), Cert.Tiles.canon_out _ _ _ _ _ (by omega), Cert.Tiles.canon_out _ _ _ _ _ (by omega), Cert.Tiles.canon_in _ _ _ r (lane 0 a) (⟨r.val, h⟩ : Fin 512) a (Nat.zero_add _).symm hv, ht0]
    | 1 =>
      have hv : (lane 1 a).val = 128 + a.val := rfl
      rw [Cert.Tiles.canon_out _ _ _ _ _ (by omega), Cert.Tiles.canon_out _ _ _ _ _ (by omega), Cert.Tiles.canon_out _ _ _ _ _ (by omega), Cert.Tiles.canon_out _ _ _ _ _ (by omega), Cert.Tiles.canon_out _ _ _ _ _ (by omega), Cert.Tiles.canon_in _ _ _ r (lane 1 a) (⟨r.val, h⟩ : Fin 512) a (Nat.zero_add _).symm hv, ht1]
    | 2 =>
      have hv : (lane 2 a).val = 256 + a.val := rfl
      rw [Cert.Tiles.canon_out _ _ _ _ _ (by omega), Cert.Tiles.canon_out _ _ _ _ _ (by omega), Cert.Tiles.canon_out _ _ _ _ _ (by omega), Cert.Tiles.canon_in _ _ _ r (lane 2 a) (⟨r.val, h⟩ : Fin 512) a (Nat.zero_add _).symm hv, ht2]
    | 3 =>
      have hv : (lane 3 a).val = 384 + a.val := rfl
      rw [Cert.Tiles.canon_out _ _ _ _ _ (by omega), Cert.Tiles.canon_in _ _ _ r (lane 3 a) (⟨r.val, h⟩ : Fin 512) a (Nat.zero_add _).symm hv, ht3]
  · match g with
    | 0 =>
      have hv : (lane 0 a).val = 0 + a.val := rfl
      rw [Cert.Tiles.canon_out _ _ _ _ _ (by omega), Cert.Tiles.canon_out _ _ _ _ _ (by omega), Cert.Tiles.canon_out _ _ _ _ _ (by omega), Cert.Tiles.canon_out _ _ _ _ _ (by omega), Cert.Tiles.canon_out _ _ _ _ _ (by omega), Cert.Tiles.canon_out _ _ _ _ _ (by omega), Cert.Tiles.canon_in _ _ _ r (lane 0 a) (⟨r.val - 512, by omega⟩ : Fin 16) a (by dsimp only; omega) hv, hb0]
      dsimp only
      rw [Nat.add_sub_cancel' (by omega)]
    | 1 =>
      have hv : (lane 1 a).val = 128 + a.val := rfl
      rw [Cert.Tiles.canon_out _ _ _ _ _ (by omega), Cert.Tiles.canon_out _ _ _ _ _ (by omega), Cert.Tiles.canon_out _ _ _ _ _ (by omega), Cert.Tiles.canon_out _ _ _ _ _ (by omega), Cert.Tiles.canon_in _ _ _ r (lane 1 a) (⟨r.val - 512, by omega⟩ : Fin 16) a (by dsimp only; omega) hv, hb1]
      dsimp only
      rw [Nat.add_sub_cancel' (by omega)]
    | 2 =>
      have hv : (lane 2 a).val = 256 + a.val := rfl
      rw [Cert.Tiles.canon_out _ _ _ _ _ (by omega), Cert.Tiles.canon_out _ _ _ _ _ (by omega), Cert.Tiles.canon_in _ _ _ r (lane 2 a) (⟨r.val - 512, by omega⟩ : Fin 16) a (by dsimp only; omega) hv, hb2]
      dsimp only
      rw [Nat.add_sub_cancel' (by omega)]
    | 3 =>
      have hv : (lane 3 a).val = 384 + a.val := rfl
      rw [Cert.Tiles.canon_in _ _ _ r (lane 3 a) (⟨r.val - 512, by omega⟩ : Fin 16) a (by dsimp only; omega) hv, hb3]
      dsimp only
      rw [Nat.add_sub_cancel' (by omega)]

theorem four0_at (ht0 : ∀ r a, t0 (ix2 r a) = (D r.val (lane 0 a) : EReal)) (ht1 : ∀ r a, t1 (ix2 r a) = (D r.val (lane 1 a) : EReal)) (ht2 : ∀ r a, t2 (ix2 r a) = (D r.val (lane 2 a) : EReal)) (ht3 : ∀ r a, t3 (ix2 r a) = (D r.val (lane 3 a) : EReal)) (r : Fin 512) (a : Fin 128) :
    (v'.readCov (Val := Elt Ideal) [⟨Rect.unit (s := S512x512) ![0, 384] ![512, 128] inb_S512x512_S512x128_0_384, t3⟩, ⟨Rect.unit (s := S512x512) ![0, 256] ![512, 128] inb_S512x512_S512x128_0_256, t2⟩, ⟨Rect.unit (s := S512x512) ![0, 128] ![512, 128] inb_S512x512_S512x128_0_128, t1⟩, ⟨Rect.unit (s := S512x512) ![0, 0] ![512, 128] inb_S512x512_S512x128_0_0, t0⟩]
      (Rect.unit (s := S512x512) ![0, 0] ![512, 128] inb_S512x512_S512x128_0_0).toLoadRect : Vec Ideal S512x128 .f32) (ix2 r a) = (D r.val (lane 0 a) : EReal) := by
  have hv : (lane 0 a).val = 0 + a.val := rfl
  rw [Cert.Tiles.readCov_at v' _ _ r (lane 0 a) r a (Nat.zero_add _).symm hv, Cert.Tiles.canon_out _ _ _ _ _ (by omega), Cert.Tiles.canon_out _ _ _ _ _ (by omega), Cert.Tiles.canon_out _ _ _ _ _ (by omega), Cert.Tiles.canon_in _ _ _ r (lane 0 a) r a (Nat.zero_add _).symm hv, ht0]

theorem four1_at (ht0 : ∀ r a, t0 (ix2 r a) = (D r.val (lane 0 a) : EReal)) (ht1 : ∀ r a, t1 (ix2 r a) = (D r.val (lane 1 a) : EReal)) (ht2 : ∀ r a, t2 (ix2 r a) = (D r.val (lane 2 a) : EReal)) (ht3 : ∀ r a, t3 (ix2 r a) = (D r.val (lane 3 a) : EReal)) (r : Fin 512) (a : Fin 128) :
    (v'.readCov (Val := Elt Ideal) [⟨Rect.unit (s := S512x512) ![0, 384] ![512, 128] inb_S512x512_S512x128_0_384, t3⟩, ⟨Rect.unit (s := S512x512) ![0, 256] ![512, 128] inb_S512x512_S512x128_0_256, t2⟩, ⟨Rect.unit (s := S512x512) ![0, 128] ![512, 128] inb_S512x512_S512x128_0_128, t1⟩, ⟨Rect.unit (s := S512x512) ![0, 0] ![512, 128] inb_S512x512_S512x128_0_0, t0⟩]
      (Rect.unit (s := S512x512) ![0, 128] ![512, 128] inb_S512x512_S512x128_0_128).toLoadRect : Vec Ideal S512x128 .f32) (ix2 r a) = (D r.val (lane 1 a) : EReal) := by
  have hv : (lane 1 a).val = 128 + a.val := rfl
  rw [Cert.Tiles.readCov_at v' _ _ r (lane 1 a) r a (Nat.zero_add _).symm hv, Cert.Tiles.canon_out _ _ _ _ _ (by omega), Cert.Tiles.canon_out _ _ _ _ _ (by omega), Cert.Tiles.canon_in _ _ _ r (lane 1 a) r a (Nat.zero_add _).symm hv, ht1]

theorem four2_at (ht0 : ∀ r a, t0 (ix2 r a) = (D r.val (lane 0 a) : EReal)) (ht1 : ∀ r a, t1 (ix2 r a) = (D r.val (lane 1 a) : EReal)) (ht2 : ∀ r a, t2 (ix2 r a) = (D r.val (lane 2 a) : EReal)) (ht3 : ∀ r a, t3 (ix2 r a) = (D r.val (lane 3 a) : EReal)) (r : Fin 512) (a : Fin 128) :
    (v'.readCov (Val := Elt Ideal) [⟨Rect.unit (s := S512x512) ![0, 384] ![512, 128] inb_S512x512_S512x128_0_384, t3⟩, ⟨Rect.unit (s := S512x512) ![0, 256] ![512, 128] inb_S512x512_S512x128_0_256, t2⟩, ⟨Rect.unit (s := S512x512) ![0, 128] ![512, 128] inb_S512x512_S512x128_0_128, t1⟩, ⟨Rect.unit (s := S512x512) ![0, 0] ![512, 128] inb_S512x512_S512x128_0_0, t0⟩]
      (Rect.unit (s := S512x512) ![0, 256] ![512, 128] inb_S512x512_S512x128_0_256).toLoadRect : Vec Ideal S512x128 .f32) (ix2 r a) = (D r.val (lane 2 a) : EReal) := by
  have hv : (lane 2 a).val = 256 + a.val := rfl
  rw [Cert.Tiles.readCov_at v' _ _ r (lane 2 a) r a (Nat.zero_add _).symm hv, Cert.Tiles.canon_out _ _ _ _ _ (by omega), Cert.Tiles.canon_in _ _ _ r (lane 2 a) r a (Nat.zero_add _).symm hv, ht2]

theorem four3_at (ht0 : ∀ r a, t0 (ix2 r a) = (D r.val (lane 0 a) : EReal)) (ht1 : ∀ r a, t1 (ix2 r a) = (D r.val (lane 1 a) : EReal)) (ht2 : ∀ r a, t2 (ix2 r a) = (D r.val (lane 2 a) : EReal)) (ht3 : ∀ r a, t3 (ix2 r a) = (D r.val (lane 3 a) : EReal)) (r : Fin 512) (a : Fin 128) :
    (v'.readCov (Val := Elt Ideal) [⟨Rect.unit (s := S512x512) ![0, 384] ![512, 128] inb_S512x512_S512x128_0_384, t3⟩, ⟨Rect.unit (s := S512x512) ![0, 256] ![512, 128] inb_S512x512_S512x128_0_256, t2⟩, ⟨Rect.unit (s := S512x512) ![0, 128] ![512, 128] inb_S512x512_S512x128_0_128, t1⟩, ⟨Rect.unit (s := S512x512) ![0, 0] ![512, 128] inb_S512x512_S512x128_0_0, t0⟩]
      (Rect.unit (s := S512x512) ![0, 384] ![512, 128] inb_S512x512_S512x128_0_384).toLoadRect : Vec Ideal S512x128 .f32) (ix2 r a) = (D r.val (lane 3 a) : EReal) := by
  have hv : (lane 3 a).val = 384 + a.val := rfl
  rw [Cert.Tiles.readCov_at v' _ _ r (lane 3 a) r a (Nat.zero_add _).symm hv, Cert.Tiles.canon_in _ _ _ r (lane 3 a) r a (Nat.zero_add _).symm hv, ht3]

end scratch

section tile

variable (i : grid0.Coords) (T : ℕ) (x : Vec Ideal S528x512 .f32) (p y : Vec Ideal S512x512 .bf16) (yb : Vec Ideal S16x512 .bf16)
  (w : Vec Ideal S4x128x128 .bf16) (s : Vec Ideal S1x512 .f32)
  (f yy : Fin 512 → ℕ → ℝ) (S : Fin 512 → ℝ) (M : Fin 4 → Fin 128 → Fin 128 → ℝ)

theorem w0_at (hw : ∀ g a d, w (ix3 g a d) = (M g a d : EReal)) (z : Fin 1) (a d : Fin 128) : (View.ld w (Rect.unit (s := S4x128x128) ![0, 0, 0] ![1, 128, 128] inb_S4x128x128_S1x128x128_0_0_0)) (ix3 z a d) = (M 0 a d : EReal) :=
  (View.ld_unit_apply_of w _ _ _ _ (ix3 0 a d) (by obtain rfl : z = 0 := Subsingleton.elim _ _; intro a; fin_cases a <;> simp)).trans (hw _ _ _)

theorem w1_at (hw : ∀ g a d, w (ix3 g a d) = (M g a d : EReal)) (z : Fin 1) (a d : Fin 128) : (View.ld w (Rect.unit (s := S4x128x128) ![1, 0, 0] ![1, 128, 128] inb_S4x128x128_S1x128x128_1_0_0)) (ix3 z a d) = (M 1 a d : EReal) :=
  (View.ld_unit_apply_of w _ _ _ _ (ix3 1 a d) (by obtain rfl : z = 0 := Subsingleton.elim _ _; intro a; fin_cases a <;> simp)).trans (hw _ _ _)

theorem w2_at (hw : ∀ g a d, w (ix3 g a d) = (M g a d : EReal)) (z : Fin 1) (a d : Fin 128) : (View.ld w (Rect.unit (s := S4x128x128) ![2, 0, 0] ![1, 128, 128] inb_S4x128x128_S1x128x128_2_0_0)) (ix3 z a d) = (M 2 a d : EReal) :=
  (View.ld_unit_apply_of w _ _ _ _ (ix3 2 a d) (by obtain rfl : z = 0 := Subsingleton.elim _ _; intro a; fin_cases a <;> simp)).trans (hw _ _ _)

theorem w3_at (hw : ∀ g a d, w (ix3 g a d) = (M g a d : EReal)) (z : Fin 1) (a d : Fin 128) : (View.ld w (Rect.unit (s := S4x128x128) ![3, 0, 0] ![1, 128, 128] inb_S4x128x128_S1x128x128_3_0_0)) (ix3 z a d) = (M 3 a d : EReal) :=
  (View.ld_unit_apply_of w _ _ _ _ (ix3 3 a d) (by obtain rfl : z = 0 := Subsingleton.elim _ _; intro a; fin_cases a <;> simp)).trans (hw _ _ _)

/-- Group 0's store of the lanes' gradient. -/
theorem dp0_piece (R : Vec Ideal S512x128 .f32) (hx : ∀ r l, x (ix2 r l) = (dxv yy S M l (512 * T + r.val) : EReal))
    (hR : ∀ r a, R (ix2 r a) = (dmv yy S M (grp (lane 0 a)) (col (lane 0 a)) (512 * T + r.val) : EReal)) (z : S512x128.Idx) (q : S512x512.Idx)
    (e0 : (q 0).val = (z 0).val) (e1 : (q 1).val = 0 + (z 1).val) :
    k0_pay66 (F := Ideal) x R z = (dpv yy S M (q 1) (512 * T + (q 0).val) : EReal) := by
  obtain ⟨r, a, rfl⟩ : ∃ (r : Fin 512) (a : Fin 128), z = ix2 r a := ⟨z 0, z 1, (by funext a; fin_cases a <;> rfl)⟩
  rw [show q 1 = lane 0 a from Fin.ext e1, show q 0 = r from Fin.ext e0]
  pointwise [k0_pay66]
  simp only [lane0]
  rw [ahead2 x (fun s l => dxv yy S M l (512 * T + s)) hx _ _ (by dsimp only; omega), hR, ← EReal.coe_sub]
  unfold dpv ahead
  rw [grp_lane]
  simp only [Nat.add_assoc]
  rfl

/-- Group 0's store of the scale's gradient: what stood there and the tile's part. -/
theorem dsc0_piece (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hw : ∀ g a d, w (ix3 g a d) = (M g a d : EReal)) (A : Vec Ideal S1x512 .f32)
    (b) (z : S1x128.Idx) (q : S1x512.Idx) (e0 : (q 0).val = (z 0).val) (e1 : (q 1).val = 0 + (z 1).val) :
    k0_pay26 (F := Ideal) (k0_pay21 y) (k0_pay25 (k0_pay4 p) (k0_pay10 x) (k0_pay14 i) k0_pay15 (View.ld w (Rect.unit (s := S4x128x128) ![0, 0, 0] ![1, 128, 128] inb_S4x128x128_S1x128x128_0_0_0))) (View.ld A (Rect.unit (s := S1x512) ![0, 0] ![1, 128] b)) z = A q + (dscv f yy M T (q 1) : EReal) := by
  obtain ⟨z, d, rfl⟩ : ∃ (r : Fin 1) (a : Fin 128), z = ix2 r a := ⟨z 0, z 1, (by funext a; fin_cases a <;> rfl)⟩
  rw [dsc0_at i T x p y _ f yy M hT hT8 hx hp hy (w0_at w M hw), View.ld_unit_apply_of A _ _ _ _ q (by intro a; fin_cases a <;> simp [e0, e1]), show q 1 = lane 0 d from Fin.ext e1]
  unfold dscv
  rw [grp_lane, col_lane]

/-- Group 0's store of the matrix's gradient: what stood there and the tile's part. -/
theorem dw0_piece (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hs : ∀ z l, s (ix2 z l) = (S l : EReal)) (A : Vec Ideal S4x128x128 .f32)
    (b) (z : S1x128x128.Idx) (q : S4x128x128.Idx) (e0 : (q 0).val = 0 + (z 0).val) (e1 : (q 1).val = (z 1).val) (e2 : (q 2).val = (z 2).val) :
    k0_pay28 (F := Ideal) s (k0_pay21 y) (k0_pay24 (F := Ideal) (k0_pay4 p) (k0_pay10 x) (k0_pay14 i) k0_pay15) (View.ld A (Rect.unit (s := S4x128x128) ![0, 0, 0] ![1, 128, 128] b)) z = A q + (dwv f yy S T (q 0) (q 1) (q 2) : EReal) := by
  obtain ⟨z, a, d, rfl⟩ : ∃ (u : Fin 1) (r a : Fin 128), z = ix3 u r a := ⟨z 0, z 1, z 2, (by funext a; fin_cases a <;> rfl)⟩
  obtain rfl : z = 0 := Subsingleton.elim _ _
  rw [dw0_at i T x p y s f yy S hT hT8 hx hp hy hs, View.ld_unit_apply_of A _ _ _ _ q (by intro a; fin_cases a <;> simp [e0, e1, e2]), show q 0 = (0 : Fin 4) from Fin.ext (e0.trans rfl),
    show q 1 = a from Fin.ext e1, show q 2 = d from Fin.ext e2]
  rfl

/-- Group 1's store of the lanes' gradient. -/
theorem dp1_piece (R : Vec Ideal S512x128 .f32) (hx : ∀ r l, x (ix2 r l) = (dxv yy S M l (512 * T + r.val) : EReal))
    (hR : ∀ r a, R (ix2 r a) = (dmv yy S M (grp (lane 1 a)) (col (lane 1 a)) (512 * T + r.val) : EReal)) (z : S512x128.Idx) (q : S512x512.Idx)
    (e0 : (q 0).val = (z 0).val) (e1 : (q 1).val = 128 + (z 1).val) :
    k0_pay67 (F := Ideal) x R z = (dpv yy S M (q 1) (512 * T + (q 0).val) : EReal) := by
  obtain ⟨r, a, rfl⟩ : ∃ (r : Fin 512) (a : Fin 128), z = ix2 r a := ⟨z 0, z 1, (by funext a; fin_cases a <;> rfl)⟩
  rw [show q 1 = lane 1 a from Fin.ext e1, show q 0 = r from Fin.ext e0]
  pointwise [k0_pay67]
  simp only [lane1]
  rw [ahead4 x (fun s l => dxv yy S M l (512 * T + s)) hx _ _ (by dsimp only; omega), hR, ← EReal.coe_sub]
  unfold dpv ahead
  rw [grp_lane]
  simp only [Nat.add_assoc]
  rfl

/-- Group 1's store of the scale's gradient: what stood there and the tile's part. -/
theorem dsc1_piece (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hw : ∀ g a d, w (ix3 g a d) = (M g a d : EReal)) (A : Vec Ideal S1x512 .f32)
    (b) (z : S1x128.Idx) (q : S1x512.Idx) (e0 : (q 0).val = (z 0).val) (e1 : (q 1).val = 128 + (z 1).val) :
    k0_pay35 (F := Ideal) (k0_pay4 p) (k0_pay11 x) (k0_pay18 (k0_pay14 i) k0_pay15) (k0_pay21 y) (View.ld w (Rect.unit (s := S4x128x128) ![1, 0, 0] ![1, 128, 128] inb_S4x128x128_S1x128x128_1_0_0)) (View.ld A (Rect.unit (s := S1x512) ![0, 128] ![1, 128] b)) z = A q + (dscv f yy M T (q 1) : EReal) := by
  obtain ⟨z, d, rfl⟩ : ∃ (r : Fin 1) (a : Fin 128), z = ix2 r a := ⟨z 0, z 1, (by funext a; fin_cases a <;> rfl)⟩
  rw [dsc1_at i T x p y _ f yy M hT hT8 hx hp hy (w1_at w M hw), View.ld_unit_apply_of A _ _ _ _ q (by intro a; fin_cases a <;> simp [e0, e1]), show q 1 = lane 1 d from Fin.ext e1]
  unfold dscv
  rw [grp_lane, col_lane]

/-- Group 1's store of the matrix's gradient: what stood there and the tile's part. -/
theorem dw1_piece (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hs : ∀ z l, s (ix2 z l) = (S l : EReal)) (A : Vec Ideal S4x128x128 .f32)
    (b) (z : S1x128x128.Idx) (q : S4x128x128.Idx) (e0 : (q 0).val = 1 + (z 0).val) (e1 : (q 1).val = (z 1).val) (e2 : (q 2).val = (z 2).val) :
    k0_pay38 (F := Ideal) (k0_pay4 p) (k0_pay11 x) (k0_pay18 (k0_pay14 i) k0_pay15) s (k0_pay21 y) (View.ld A (Rect.unit (s := S4x128x128) ![1, 0, 0] ![1, 128, 128] b)) z = A q + (dwv f yy S T (q 0) (q 1) (q 2) : EReal) := by
  obtain ⟨z, a, d, rfl⟩ : ∃ (u : Fin 1) (r a : Fin 128), z = ix3 u r a := ⟨z 0, z 1, z 2, (by funext a; fin_cases a <;> rfl)⟩
  obtain rfl : z = 0 := Subsingleton.elim _ _
  rw [dw1_at i T x p y s f yy S hT hT8 hx hp hy hs, View.ld_unit_apply_of A _ _ _ _ q (by intro a; fin_cases a <;> simp [e0, e1, e2]), show q 0 = (1 : Fin 4) from Fin.ext (e0.trans rfl),
    show q 1 = a from Fin.ext e1, show q 2 = d from Fin.ext e2]
  rfl

/-- Group 2's store of the lanes' gradient. -/
theorem dp2_piece (R : Vec Ideal S512x128 .f32) (hx : ∀ r l, x (ix2 r l) = (dxv yy S M l (512 * T + r.val) : EReal))
    (hR : ∀ r a, R (ix2 r a) = (dmv yy S M (grp (lane 2 a)) (col (lane 2 a)) (512 * T + r.val) : EReal)) (z : S512x128.Idx) (q : S512x512.Idx)
    (e0 : (q 0).val = (z 0).val) (e1 : (q 1).val = 256 + (z 1).val) :
    k0_pay68 (F := Ideal) x R z = (dpv yy S M (q 1) (512 * T + (q 0).val) : EReal) := by
  obtain ⟨r, a, rfl⟩ : ∃ (r : Fin 512) (a : Fin 128), z = ix2 r a := ⟨z 0, z 1, (by funext a; fin_cases a <;> rfl)⟩
  rw [show q 1 = lane 2 a from Fin.ext e1, show q 0 = r from Fin.ext e0]
  pointwise [k0_pay68]
  simp only [lane2]
  rw [ahead8 x (fun s l => dxv yy S M l (512 * T + s)) hx _ _ (by dsimp only; omega), hR, ← EReal.coe_sub]
  unfold dpv ahead
  rw [grp_lane]
  simp only [Nat.add_assoc]
  rfl

/-- Group 2's store of the scale's gradient: what stood there and the tile's part. -/
theorem dsc2_piece (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hw : ∀ g a d, w (ix3 g a d) = (M g a d : EReal)) (A : Vec Ideal S1x512 .f32)
    (b) (z : S1x128.Idx) (q : S1x512.Idx) (e0 : (q 0).val = (z 0).val) (e1 : (q 1).val = 256 + (z 1).val) :
    k0_pay45 (F := Ideal) (k0_pay4 p) (k0_pay12 x) (k0_pay19 (k0_pay14 i) k0_pay15) (k0_pay21 y) (View.ld w (Rect.unit (s := S4x128x128) ![2, 0, 0] ![1, 128, 128] inb_S4x128x128_S1x128x128_2_0_0)) (View.ld A (Rect.unit (s := S1x512) ![0, 256] ![1, 128] b)) z = A q + (dscv f yy M T (q 1) : EReal) := by
  obtain ⟨z, d, rfl⟩ : ∃ (r : Fin 1) (a : Fin 128), z = ix2 r a := ⟨z 0, z 1, (by funext a; fin_cases a <;> rfl)⟩
  rw [dsc2_at i T x p y _ f yy M hT hT8 hx hp hy (w2_at w M hw), View.ld_unit_apply_of A _ _ _ _ q (by intro a; fin_cases a <;> simp [e0, e1]), show q 1 = lane 2 d from Fin.ext e1]
  unfold dscv
  rw [grp_lane, col_lane]

/-- Group 2's store of the matrix's gradient: what stood there and the tile's part. -/
theorem dw2_piece (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hs : ∀ z l, s (ix2 z l) = (S l : EReal)) (A : Vec Ideal S4x128x128 .f32)
    (b) (z : S1x128x128.Idx) (q : S4x128x128.Idx) (e0 : (q 0).val = 2 + (z 0).val) (e1 : (q 1).val = (z 1).val) (e2 : (q 2).val = (z 2).val) :
    k0_pay48 (F := Ideal) (k0_pay44 (F := Ideal) (k0_pay4 p) (k0_pay12 x) (k0_pay19 (k0_pay14 i) k0_pay15)) (k0_pay46 s (k0_pay21 y)) (View.ld A (Rect.unit (s := S4x128x128) ![2, 0, 0] ![1, 128, 128] b)) z = A q + (dwv f yy S T (q 0) (q 1) (q 2) : EReal) := by
  obtain ⟨z, a, d, rfl⟩ : ∃ (u : Fin 1) (r a : Fin 128), z = ix3 u r a := ⟨z 0, z 1, z 2, (by funext a; fin_cases a <;> rfl)⟩
  obtain rfl : z = 0 := Subsingleton.elim _ _
  rw [dw2_at i T x p y s f yy S hT hT8 hx hp hy hs, View.ld_unit_apply_of A _ _ _ _ q (by intro a; fin_cases a <;> simp [e0, e1, e2]), show q 0 = (2 : Fin 4) from Fin.ext (e0.trans rfl),
    show q 1 = a from Fin.ext e1, show q 2 = d from Fin.ext e2]
  rfl

/-- Group 3's store of the lanes' gradient. -/
theorem dp3_piece (R : Vec Ideal S512x128 .f32) (hx : ∀ r l, x (ix2 r l) = (dxv yy S M l (512 * T + r.val) : EReal))
    (hR : ∀ r a, R (ix2 r a) = (dmv yy S M (grp (lane 3 a)) (col (lane 3 a)) (512 * T + r.val) : EReal)) (z : S512x128.Idx) (q : S512x512.Idx)
    (e0 : (q 0).val = (z 0).val) (e1 : (q 1).val = 384 + (z 1).val) :
    k0_pay1 (F := Ideal) (k0_pay69 x) R z = (dpv yy S M (q 1) (512 * T + (q 0).val) : EReal) := by
  obtain ⟨r, a, rfl⟩ : ∃ (r : Fin 512) (a : Fin 128), z = ix2 r a := ⟨z 0, z 1, (by funext a; fin_cases a <;> rfl)⟩
  rw [show q 1 = lane 3 a from Fin.ext e1, show q 0 = r from Fin.ext e0]
  pointwise [k0_pay1]
  rw [ahead16 x (fun s l => dxv yy S M l (512 * T + s)) hx, hR, ← EReal.coe_sub]
  unfold dpv ahead
  rw [grp_lane]
  simp only [Nat.add_assoc]
  rfl

/-- Group 3's store of the scale's gradient: what stood there and the tile's part. -/
theorem dsc3_piece (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hw : ∀ g a d, w (ix3 g a d) = (M g a d : EReal)) (A : Vec Ideal S1x512 .f32)
    (b) (z : S1x128.Idx) (q : S1x512.Idx) (e0 : (q 0).val = (z 0).val) (e1 : (q 1).val = 384 + (z 1).val) :
    k0_pay55 (F := Ideal) (k0_pay21 y) (k0_pay53 (View.ld w (Rect.unit (s := S4x128x128) ![3, 0, 0] ![1, 128, 128] inb_S4x128x128_S1x128x128_3_0_0))) (k0_pay54 (F := Ideal) (k0_pay4 p) (k0_pay13 x) (k0_pay20 (k0_pay14 i) k0_pay15)) (constant S512x128 FTy.f32 0#32) (View.ld A (Rect.unit (s := S1x512) ![0, 384] ![1, 128] b)) z = A q + (dscv f yy M T (q 1) : EReal) := by
  obtain ⟨z, d, rfl⟩ : ∃ (r : Fin 1) (a : Fin 128), z = ix2 r a := ⟨z 0, z 1, (by funext a; fin_cases a <;> rfl)⟩
  rw [dsc3_at i T x p y _ f yy M hT hT8 hx hp hy (w3_at w M hw), View.ld_unit_apply_of A _ _ _ _ q (by intro a; fin_cases a <;> simp [e0, e1]), show q 1 = lane 3 d from Fin.ext e1]
  unfold dscv
  rw [grp_lane, col_lane]

/-- Group 3's store of the matrix's gradient: what stood there and the tile's part. -/
theorem dw3_piece (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal)) (hy : ∀ r l, y (ix2 r l) = (yy l (512 * T + r.val) : EReal)) (hs : ∀ z l, s (ix2 z l) = (S l : EReal)) (A : Vec Ideal S4x128x128 .f32)
    (b) (z : S1x128x128.Idx) (q : S4x128x128.Idx) (e0 : (q 0).val = 3 + (z 0).val) (e1 : (q 1).val = (z 1).val) (e2 : (q 2).val = (z 2).val) :
    k0_pay57 (F := Ideal) s (k0_pay21 y) (k0_pay54 (F := Ideal) (k0_pay4 p) (k0_pay13 x) (k0_pay20 (k0_pay14 i) k0_pay15)) (View.ld A (Rect.unit (s := S4x128x128) ![3, 0, 0] ![1, 128, 128] b)) z = A q + (dwv f yy S T (q 0) (q 1) (q 2) : EReal) := by
  obtain ⟨z, a, d, rfl⟩ : ∃ (u : Fin 1) (r a : Fin 128), z = ix3 u r a := ⟨z 0, z 1, z 2, (by funext a; fin_cases a <;> rfl)⟩
  obtain rfl : z = 0 := Subsingleton.elim _ _
  rw [dw3_at i T x p y s f yy S hT hT8 hx hp hy hs, View.ld_unit_apply_of A _ _ _ _ q (by intro a; fin_cases a <;> simp [e0, e1, e2]), show q 0 = (3 : Fin 4) from Fin.ext (e0.trans rfl),
    show q 1 = a from Fin.ext e1, show q 2 = d from Fin.ext e2]
  rfl

end tile

section out

theorem fill7_at (q : S4x128x128.Idx) : k0_pay2 (F := Ideal) q = 0 := by pointwise [k0_pay2]
theorem fill8_at (q : S1x512.Idx) : k0_pay3 (F := Ideal) q = 0 := by pointwise [k0_pay3]

theorem mem7 (g : ℕ) (inb) (q : S4x128x128.Idx) (h : (q 0).val = g) : q ∈ (Rect.unit (s := S4x128x128) ![g, 0, 0] ![1, 128, 128] inb).set := by
  refine Rect.mem_set_unit.mpr fun a => ?_
  have h1 := (q 1).isLt
  have h2 := (q 2).isLt
  fin_cases a
  · exact ⟨h.ge, by simp [h]⟩
  · exact ⟨Nat.zero_le _, by simpa using h1⟩
  · exact ⟨Nat.zero_le _, by simpa using h2⟩

theorem mem8 (o : ℕ) (inb) (q : S1x512.Idx) (hl : o ≤ (q 1).val) (hu : (q 1).val < o + 128) : q ∈ (Rect.unit (s := S1x512) ![0, o] ![1, 128] inb).set := by
  refine Rect.mem_set_unit.mpr fun a => ?_
  have h0 := (q 0).isLt
  fin_cases a
  · exact ⟨Nat.zero_le _, by simpa using h0⟩
  · exact ⟨hl, hu⟩

variable (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S16x512 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (arg9 : Memref sig .tc .vmem S1x512 .f32) (harg9 : arg9.IsWhole) (arg10 : Memref sig .tc .vmem S528x512 .f32) (harg10 : arg10.IsWhole) (arg11 : Memref sig .tc .vmem S528x512 .f32) (harg11 : arg11.IsWhole) (arg12 : Memref sig .tc .vmem S512x512 .f32) (harg12 : arg12.IsWhole)
  (x0 : Vec Ideal S512x512 .bf16) (x1 : Vec Ideal S16x512 .bf16) (x2 : Vec Ideal S512x512 .bf16) (x3 : Vec Ideal S16x512 .bf16) (x4 : Vec Ideal S4x128x128 .bf16) (x5 : Vec Ideal S1x512 .f32)
  (T : ℕ) (f yy : Fin 512 → ℕ → ℝ) (S : Fin 512 → ℝ) (M : Fin 4 → Fin 128 → Fin 128 → ℝ)
  (hT : (i 0).val = T) (hT8 : T < 8) (hp : ∀ r l, x0 (ix2 r l) = (f l (512 * T + r.val) : EReal))
  (hpb : 0 < T → ∀ j l, x1 (ix2 j l) = (f l (512 * T + j.val - 16) : EReal))
  (hy : ∀ r l, x2 (ix2 r l) = (yy l (512 * T + r.val) : EReal))
  (hb : T < 7 → ∀ j l, x3 (ix2 j l) = (yy l (512 * T + (512 + j.val)) : EReal)) (hz : ∀ l t, 4096 ≤ t → yy l t = 0)
  (hw : ∀ g a d, x4 (ix3 g a d) = (M g a d : EReal)) (hs : ∀ z l, x5 (ix2 z l) = (S l : EReal))

include hT hT8 hp hpb hy hb hz hw hs

theorem out6A (hc0 : cond0_0 i) (q : S512x512.Idx) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 q = (dpv yy S M (q 1) (512 * T + (q 0).val) : EReal) := by
  have st0 : ∀ (r : Fin 512) (a : Fin 128), _ = ((dxv yy S M (lane 0 a) (512 * T + r.val) : ℝ) : EReal) := fun r a => (st0_at i T x2 _ x5 yy S M hT hT8 hy hs (w0_at x4 M hw) r a).trans (by rw [dxv, grp_lane, col_lane])
  have st1 : ∀ (r : Fin 512) (a : Fin 128), _ = ((dxv yy S M (lane 1 a) (512 * T + r.val) : ℝ) : EReal) := fun r a => (st1_at i T x2 _ x5 yy S M hT hT8 hy hs (w1_at x4 M hw) r a).trans (by rw [dxv, grp_lane, col_lane])
  have st2 : ∀ (r : Fin 512) (a : Fin 128), _ = ((dxv yy S M (lane 2 a) (512 * T + r.val) : ℝ) : EReal) := fun r a => (st2_at i T x2 _ x5 yy S M hT hT8 hy hs (w2_at x4 M hw) r a).trans (by rw [dxv, grp_lane, col_lane])
  have st3 : ∀ (r : Fin 512) (a : Fin 128), _ = ((dxv yy S M (lane 3 a) (512 * T + r.val) : ℝ) : EReal) := fun r a => (st3_at i T x2 _ x5 yy S M hT hT8 hy hs (w3_at x4 M hw) r a).trans (by rw [dxv, grp_lane, col_lane])
  have sb0 : ∀ (r : Fin 16) (a : Fin 128), _ = ((dxv yy S M (lane 0 a) (512 * T + (512 + r.val)) : ℝ) : EReal) := fun r a => (sb0_at i T x3 _ x5 yy S M hT hT8 hb hz hs (w0_at x4 M hw) r a).trans (by rw [dxv, grp_lane, col_lane])
  have sb1 : ∀ (r : Fin 16) (a : Fin 128), _ = ((dxv yy S M (lane 1 a) (512 * T + (512 + r.val)) : ℝ) : EReal) := fun r a => (sb1_at i T x3 _ x5 yy S M hT hT8 hb hz hs (w1_at x4 M hw) r a).trans (by rw [dxv, grp_lane, col_lane])
  have sb2 : ∀ (r : Fin 16) (a : Fin 128), _ = ((dxv yy S M (lane 2 a) (512 * T + (512 + r.val)) : ℝ) : EReal) := fun r a => (sb2_at i T x3 _ x5 yy S M hT hT8 hb hz hs (w2_at x4 M hw) r a).trans (by rw [dxv, grp_lane, col_lane])
  have sb3 : ∀ (r : Fin 16) (a : Fin 128), _ = ((dxv yy S M (lane 3 a) (512 * T + (512 + r.val)) : ℝ) : EReal) := fun r a => (sb3_at i T x3 _ x5 yy S M hT hT8 hb hz hs (w3_at x4 M hw) r a).trans (by rw [dxv, grp_lane, col_lane])
  have dms0 : ∀ (r : Fin 512) (a : Fin 128), _ = ((dmv yy S M (grp (lane 0 a)) (col (lane 0 a)) (512 * T + r.val) : ℝ) : EReal) := fun r a => (dms0_at T x2 _ x5 yy S M hy hs (w0_at x4 M hw) r a).trans (by rw [grp_lane, col_lane])
  have dms1 : ∀ (r : Fin 512) (a : Fin 128), _ = ((dmv yy S M (grp (lane 1 a)) (col (lane 1 a)) (512 * T + r.val) : ℝ) : EReal) := fun r a => (dms1_at T x2 _ x5 yy S M hy hs (w1_at x4 M hw) r a).trans (by rw [grp_lane, col_lane])
  have dms2 : ∀ (r : Fin 512) (a : Fin 128), _ = ((dmv yy S M (grp (lane 2 a)) (col (lane 2 a)) (512 * T + r.val) : ℝ) : EReal) := fun r a => (dms2_at T x2 _ x5 yy S M hy hs (w2_at x4 M hw) r a).trans (by rw [grp_lane, col_lane])
  have dms3 : ∀ (r : Fin 512) (a : Fin 128), _ = ((dmv yy S M (grp (lane 3 a)) (col (lane 3 a)) (512 * T + r.val) : ℝ) : EReal) := fun r a => (dms3_at T x2 _ x5 yy S M hy hs (w3_at x4 M hw) r a).trans (by rw [grp_lane, col_lane])
  frame_out
  canon_tiles x h
  · exact dp3_piece T _ yy S M _ (eight_at _ _ _ _ _ _ _ _ _ (fun r l => dxv yy S M l (512 * T + r)) st0 st1 st2 st3 sb0 sb1 sb2 sb3)
      (four3_at _ _ _ _ _ (fun r l => dmv yy S M (grp l) (col l) (512 * T + r)) dms0 dms1 dms2 dms3) x q h0 h1
  · exact dp2_piece T _ yy S M _ (eight_at _ _ _ _ _ _ _ _ _ (fun r l => dxv yy S M l (512 * T + r)) st0 st1 st2 st3 sb0 sb1 sb2 sb3)
      (four2_at _ _ _ _ _ (fun r l => dmv yy S M (grp l) (col l) (512 * T + r)) dms0 dms1 dms2 dms3) x q h0 h1
  · exact dp1_piece T _ yy S M _ (eight_at _ _ _ _ _ _ _ _ _ (fun r l => dxv yy S M l (512 * T + r)) st0 st1 st2 st3 sb0 sb1 sb2 sb3)
      (four1_at _ _ _ _ _ (fun r l => dmv yy S M (grp l) (col l) (512 * T + r)) dms0 dms1 dms2 dms3) x q h0 h1
  · exact dp0_piece T _ yy S M _ (eight_at _ _ _ _ _ _ _ _ _ (fun r l => dxv yy S M l (512 * T + r)) st0 st1 st2 st3 sb0 sb1 sb2 sb3)
      (four0_at _ _ _ _ _ (fun r l => dmv yy S M (grp l) (col l) (512 * T + r)) dms0 dms1 dms2 dms3) x q h0 (by omega)

theorem out6B (hc0 : ¬ cond0_0 i) (xo7 : Vec Ideal S4x128x128 .f32) (xo8 : Vec Ideal S1x512 .f32) (q : S512x512.Idx) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 q = (dpv yy S M (q 1) (512 * T + (q 0).val) : EReal) := by
  have st0 : ∀ (r : Fin 512) (a : Fin 128), _ = ((dxv yy S M (lane 0 a) (512 * T + r.val) : ℝ) : EReal) := fun r a => (st0_at i T x2 _ x5 yy S M hT hT8 hy hs (w0_at x4 M hw) r a).trans (by rw [dxv, grp_lane, col_lane])
  have st1 : ∀ (r : Fin 512) (a : Fin 128), _ = ((dxv yy S M (lane 1 a) (512 * T + r.val) : ℝ) : EReal) := fun r a => (st1_at i T x2 _ x5 yy S M hT hT8 hy hs (w1_at x4 M hw) r a).trans (by rw [dxv, grp_lane, col_lane])
  have st2 : ∀ (r : Fin 512) (a : Fin 128), _ = ((dxv yy S M (lane 2 a) (512 * T + r.val) : ℝ) : EReal) := fun r a => (st2_at i T x2 _ x5 yy S M hT hT8 hy hs (w2_at x4 M hw) r a).trans (by rw [dxv, grp_lane, col_lane])
  have st3 : ∀ (r : Fin 512) (a : Fin 128), _ = ((dxv yy S M (lane 3 a) (512 * T + r.val) : ℝ) : EReal) := fun r a => (st3_at i T x2 _ x5 yy S M hT hT8 hy hs (w3_at x4 M hw) r a).trans (by rw [dxv, grp_lane, col_lane])
  have sb0 : ∀ (r : Fin 16) (a : Fin 128), _ = ((dxv yy S M (lane 0 a) (512 * T + (512 + r.val)) : ℝ) : EReal) := fun r a => (sb0_at i T x3 _ x5 yy S M hT hT8 hb hz hs (w0_at x4 M hw) r a).trans (by rw [dxv, grp_lane, col_lane])
  have sb1 : ∀ (r : Fin 16) (a : Fin 128), _ = ((dxv yy S M (lane 1 a) (512 * T + (512 + r.val)) : ℝ) : EReal) := fun r a => (sb1_at i T x3 _ x5 yy S M hT hT8 hb hz hs (w1_at x4 M hw) r a).trans (by rw [dxv, grp_lane, col_lane])
  have sb2 : ∀ (r : Fin 16) (a : Fin 128), _ = ((dxv yy S M (lane 2 a) (512 * T + (512 + r.val)) : ℝ) : EReal) := fun r a => (sb2_at i T x3 _ x5 yy S M hT hT8 hb hz hs (w2_at x4 M hw) r a).trans (by rw [dxv, grp_lane, col_lane])
  have sb3 : ∀ (r : Fin 16) (a : Fin 128), _ = ((dxv yy S M (lane 3 a) (512 * T + (512 + r.val)) : ℝ) : EReal) := fun r a => (sb3_at i T x3 _ x5 yy S M hT hT8 hb hz hs (w3_at x4 M hw) r a).trans (by rw [dxv, grp_lane, col_lane])
  have dms0 : ∀ (r : Fin 512) (a : Fin 128), _ = ((dmv yy S M (grp (lane 0 a)) (col (lane 0 a)) (512 * T + r.val) : ℝ) : EReal) := fun r a => (dms0_at T x2 _ x5 yy S M hy hs (w0_at x4 M hw) r a).trans (by rw [grp_lane, col_lane])
  have dms1 : ∀ (r : Fin 512) (a : Fin 128), _ = ((dmv yy S M (grp (lane 1 a)) (col (lane 1 a)) (512 * T + r.val) : ℝ) : EReal) := fun r a => (dms1_at T x2 _ x5 yy S M hy hs (w1_at x4 M hw) r a).trans (by rw [grp_lane, col_lane])
  have dms2 : ∀ (r : Fin 512) (a : Fin 128), _ = ((dmv yy S M (grp (lane 2 a)) (col (lane 2 a)) (512 * T + r.val) : ℝ) : EReal) := fun r a => (dms2_at T x2 _ x5 yy S M hy hs (w2_at x4 M hw) r a).trans (by rw [grp_lane, col_lane])
  have dms3 : ∀ (r : Fin 512) (a : Fin 128), _ = ((dmv yy S M (grp (lane 3 a)) (col (lane 3 a)) (512 * T + r.val) : ℝ) : EReal) := fun r a => (dms3_at T x2 _ x5 yy S M hy hs (w3_at x4 M hw) r a).trans (by rw [grp_lane, col_lane])
  frame_out
  canon_tiles x h
  · exact dp3_piece T _ yy S M _ (eight_at _ _ _ _ _ _ _ _ _ (fun r l => dxv yy S M l (512 * T + r)) st0 st1 st2 st3 sb0 sb1 sb2 sb3)
      (four3_at _ _ _ _ _ (fun r l => dmv yy S M (grp l) (col l) (512 * T + r)) dms0 dms1 dms2 dms3) x q h0 h1
  · exact dp2_piece T _ yy S M _ (eight_at _ _ _ _ _ _ _ _ _ (fun r l => dxv yy S M l (512 * T + r)) st0 st1 st2 st3 sb0 sb1 sb2 sb3)
      (four2_at _ _ _ _ _ (fun r l => dmv yy S M (grp l) (col l) (512 * T + r)) dms0 dms1 dms2 dms3) x q h0 h1
  · exact dp1_piece T _ yy S M _ (eight_at _ _ _ _ _ _ _ _ _ (fun r l => dxv yy S M l (512 * T + r)) st0 st1 st2 st3 sb0 sb1 sb2 sb3)
      (four1_at _ _ _ _ _ (fun r l => dmv yy S M (grp l) (col l) (512 * T + r)) dms0 dms1 dms2 dms3) x q h0 h1
  · exact dp0_piece T _ yy S M _ (eight_at _ _ _ _ _ _ _ _ _ (fun r l => dxv yy S M l (512 * T + r)) st0 st1 st2 st3 sb0 sb1 sb2 sb3)
      (four0_at _ _ _ _ _ (fun r l => dmv yy S M (grp l) (col l) (512 * T + r)) dms0 dms1 dms2 dms3) x q h0 (by omega)

theorem out7B (hc0 : ¬ cond0_0 i) (xo7 : Vec Ideal S4x128x128 .f32) (xo8 : Vec Ideal S1x512 .f32) (q : S4x128x128.Idx) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 q = xo7 q + (dwv f yy S T (q 0) (q 1) (q 2) : EReal) := by
  frame_out
  canon_tiles x h
  · exact dw3_piece i T _ x0 x2 x5 f yy S hT hT8 (ext_at i T _ x0 x1 f hT hT8 hp hpb) hp hy hs xo7 _ x q h0 h1 h2
  · exact dw2_piece i T _ x0 x2 x5 f yy S hT hT8 (ext_at i T _ x0 x1 f hT hT8 hp hpb) hp hy hs xo7 _ x q h0 h1 h2
  · exact dw1_piece i T _ x0 x2 x5 f yy S hT hT8 (ext_at i T _ x0 x1 f hT hT8 hp hpb) hp hy hs xo7 _ x q h0 h1 h2
  · exact dw0_piece i T _ x0 x2 x5 f yy S hT hT8 (ext_at i T _ x0 x1 f hT hT8 hp hpb) hp hy hs xo7 _ x q (by omega) h1 h2

theorem out8B (hc0 : ¬ cond0_0 i) (xo7 : Vec Ideal S4x128x128 .f32) (xo8 : Vec Ideal S1x512 .f32) (q : S1x512.Idx) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 q = xo8 q + (dscv f yy M T (q 1) : EReal) := by
  frame_out
  canon_tiles x h
  · exact dsc3_piece i T _ x0 x2 x4 f yy M hT hT8 (ext_at i T _ x0 x1 f hT hT8 hp hpb) hp hy hw xo8 _ x q h0 h1
  · exact dsc2_piece i T _ x0 x2 x4 f yy M hT hT8 (ext_at i T _ x0 x1 f hT hT8 hp hpb) hp hy hw xo8 _ x q h0 h1
  · exact dsc1_piece i T _ x0 x2 x4 f yy M hT hT8 (ext_at i T _ x0 x1 f hT hT8 hp hpb) hp hy hw xo8 _ x q h0 h1
  · exact dsc0_piece i T _ x0 x2 x4 f yy M hT hT8 (ext_at i T _ x0 x1 f hT hT8 hp hpb) hp hy hw xo8 _ x q h0 (by omega)

theorem out7A (hc0 : cond0_0 i) (q : S4x128x128.Idx) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 q = (dwv f yy S T (q 0) (q 1) (q 2) : EReal) := by
  frame_open
  simp (disch := decide) only [↓ View.readCov_skip, ↓ View.readCov_cons_toLoadRect, ↓ View.readCov_fill]
  frame_out
  have hf : ∀ q : S4x128x128.Idx, k0_pay2 (F := Ideal) q + (dwv f yy S T (q 0) (q 1) (q 2) : EReal) = (dwv f yy S T (q 0) (q 1) (q 2) : EReal) := fun q => by
    rw [fill7_at, zero_add]
  refine View.canon_append_of_piecesOf (Val := Elt Ideal) (s := S4x128x128) (e := .f32) (fun q => (dwv f yy S T (q 0) (q 1) (q 2) : EReal)) [_] [_, _, _, _] ?_ q ?_
  · refine ⟨fun x => ?_, fun x => ?_, fun x => ?_, fun x => ?_, trivial⟩
    · exact (dw3_piece i T _ x0 x2 x5 f yy S hT hT8 (ext_at i T _ x0 x1 f hT hT8 hp hpb) hp hy hs (k0_pay2 (F := Ideal)) (by decide) x ((Rect.unit (s := S4x128x128) ![3, 0, 0] ![1, 128, 128] (by decide)).emb x) (by simp) (by simp) (by simp)).trans (hf _)
    · exact (dw2_piece i T _ x0 x2 x5 f yy S hT hT8 (ext_at i T _ x0 x1 f hT hT8 hp hpb) hp hy hs (k0_pay2 (F := Ideal)) (by decide) x ((Rect.unit (s := S4x128x128) ![2, 0, 0] ![1, 128, 128] (by decide)).emb x) (by simp) (by simp) (by simp)).trans (hf _)
    · exact (dw1_piece i T _ x0 x2 x5 f yy S hT hT8 (ext_at i T _ x0 x1 f hT hT8 hp hpb) hp hy hs (k0_pay2 (F := Ideal)) (by decide) x ((Rect.unit (s := S4x128x128) ![1, 0, 0] ![1, 128, 128] (by decide)).emb x) (by simp) (by simp) (by simp)).trans (hf _)
    · exact (dw0_piece i T _ x0 x2 x5 f yy S hT hT8 (ext_at i T _ x0 x1 f hT hT8 hp hpb) hp hy hs (k0_pay2 (F := Ideal)) (by decide) x ((Rect.unit (s := S4x128x128) ![0, 0, 0] ![1, 128, 128] (by decide)).emb x) (by simp) (by simp) (by simp)).trans (hf _)
  · have h4 : (q 0).val < 4 := (q 0).isLt
    simp only [List.exists_mem_cons_iff, List.not_mem_nil, false_and, exists_false, or_false]
    rcases (by omega : (q 0).val = 3 ∨ (q 0).val = 2 ∨ (q 0).val = 1 ∨ (q 0).val = 0) with h | h | h | h
    · exact Or.inl (mem7 3 _ q h)
    · exact Or.inr (Or.inl (mem7 2 _ q h))
    · exact Or.inr (Or.inr (Or.inl (mem7 1 _ q h)))
    · exact Or.inr (Or.inr (Or.inr (mem7 0 _ q h)))

theorem out8A (hc0 : cond0_0 i) (q : S1x512.Idx) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 q = (dscv f yy M T (q 1) : EReal) := by
  frame_open
  simp (disch := decide) only [↓ View.readCov_skip, ↓ View.readCov_cons_toLoadRect, ↓ View.readCov_fill]
  frame_out
  have hf : ∀ q : S1x512.Idx, k0_pay3 (F := Ideal) q + (dscv f yy M T (q 1) : EReal) = (dscv f yy M T (q 1) : EReal) := fun q => by
    rw [fill8_at, zero_add]
  refine View.canon_append_of_piecesOf (Val := Elt Ideal) (s := S1x512) (e := .f32) (fun q => (dscv f yy M T (q 1) : EReal)) [_] [_, _, _, _] ?_ q ?_
  · refine ⟨fun x => ?_, fun x => ?_, fun x => ?_, fun x => ?_, trivial⟩
    · exact (dsc3_piece i T _ x0 x2 x4 f yy M hT hT8 (ext_at i T _ x0 x1 f hT hT8 hp hpb) hp hy hw (k0_pay3 (F := Ideal)) (by decide) x ((Rect.unit (s := S1x512) ![0, 384] ![1, 128] (by decide)).emb x) (by simp) (by simp)).trans (hf _)
    · exact (dsc2_piece i T _ x0 x2 x4 f yy M hT hT8 (ext_at i T _ x0 x1 f hT hT8 hp hpb) hp hy hw (k0_pay3 (F := Ideal)) (by decide) x ((Rect.unit (s := S1x512) ![0, 256] ![1, 128] (by decide)).emb x) (by simp) (by simp)).trans (hf _)
    · exact (dsc1_piece i T _ x0 x2 x4 f yy M hT hT8 (ext_at i T _ x0 x1 f hT hT8 hp hpb) hp hy hw (k0_pay3 (F := Ideal)) (by decide) x ((Rect.unit (s := S1x512) ![0, 128] ![1, 128] (by decide)).emb x) (by simp) (by simp)).trans (hf _)
    · exact (dsc0_piece i T _ x0 x2 x4 f yy M hT hT8 (ext_at i T _ x0 x1 f hT hT8 hp hpb) hp hy hw (k0_pay3 (F := Ideal)) (by decide) x ((Rect.unit (s := S1x512) ![0, 0] ![1, 128] (by decide)).emb x) (by simp) (by simp)).trans (hf _)
  · have h4 : (q 1).val < 512 := (q 1).isLt
    simp only [List.exists_mem_cons_iff, List.not_mem_nil, false_and, exists_false, or_false]
    rcases (by omega : 384 ≤ (q 1).val ∨ 256 ≤ (q 1).val ∧ (q 1).val < 256 + 128 ∨ 128 ≤ (q 1).val ∧ (q 1).val < 128 + 128 ∨ (q 1).val < 128) with h | h | h | h
    · exact Or.inl (mem8 384 _ q h (by omega))
    · exact Or.inr (Or.inl (mem8 256 _ q h.1 h.2))
    · exact Or.inr (Or.inr (Or.inl (mem8 128 _ q h.1 h.2)))
    · exact Or.inr (Or.inr (Or.inr (mem8 0 _ q (Nat.zero_le _) (by omega))))

end out

end Cert.Pool
-- ==== Proof.PoolArrays.lean ====
module

public import proofs.«01_k».proof.Proof.PoolOut

/-! What the pooling's backward kernel leaves in its three results. -/

@[expose] public section

set_option maxRecDepth 16384

noncomputable section

namespace Cert.Pool

open Cert.Kernel3Ideal Cert.Kernel3Ideal.Gen
open Idealize.ShloMosaic Idealize.ShloMosaic.TcCoe Idealize.SL.Sem
open Idealize.ShloMosaic.Pipeline (Dat)
open Cert.Reals

variable (m : (ℓ : Loc nD τ sig) → Buf (Elt Ideal) ℓ)

theorem idx : ∀ t : Fin cfg0.N, win0_0.index t = ![t.val, 0] ∧ win0_1.index t = ![32 * t.val - 1, 0] ∧ win0_2.index t = ![t.val, 0] ∧
    win0_3.index t = ![min (32 * (t.val + 1)) 255, 0] ∧ win0_4.index t = ![0, 0, 0] ∧ win0_5.index t = ![0, 0] ∧ win0_6.index t = ![t.val, 0] ∧
    win0_7.index t = ![0, 0, 0] ∧ win0_8.index t = ![0, 0] :=
  (by decide +kernel : ∀ t : Fin grid0.N, _)

theorem pos : ∀ t : Fin cfg0.N, (grid0.coords t 0).val = t.val := (by decide +kernel : ∀ t : Fin grid0.N, _)

theorem lt8 (t : Fin cfg0.N) : t.val < 8 := lt_of_lt_of_eq t.isLt N_0

/-- Row `r` of tile `t`. -/
def row (t : Fin cfg0.N) (r : Fin 512) : Fin 4096 := ⟨512 * t.val + r.val, by have := lt8 t; omega⟩

theorem blk0 (c : Dev nD) (t : Fin cfg0.N) (r l : Fin 512) :
    iblk m c 0 t (ix2 r l) = m ((c : Thread nD τ).loc main_arg1) (ix2 (row t r) (⟨l.val, by omega⟩ : Fin 1024)) := by
  have h := idx t
  rw [iblk]
  entry_read
  blk_point [h, row]

theorem blk1 (c : Dev nD) (t : Fin cfg0.N) (h0 : 0 < t.val) (j : Fin 16) (l : Fin 512) :
    iblk m c 1 t (ix2 j l) = m ((c : Thread nD τ).loc main_arg1) (ix2 (⟨512 * t.val + j.val - 16, by have := lt8 t; omega⟩ : Fin 4096) (⟨l.val, by omega⟩ : Fin 1024)) := by
  have h := idx t
  rw [iblk]
  entry_read
  blk_point [h]

theorem blk2 (c : Dev nD) (t : Fin cfg0.N) (r l : Fin 512) :
    iblk m c 2 t (ix2 r l) = m ((c : Thread nD τ).loc main_arg0) (ix2 (row t r) l) := by
  have h := idx t
  rw [iblk]
  entry_read
  blk_point [h, row]

theorem blk3 (c : Dev nD) (t : Fin cfg0.N) (h7 : t.val < 7) (j : Fin 16) (l : Fin 512) :
    iblk m c 3 t (ix2 j l) = m ((c : Thread nD τ).loc main_arg0) (ix2 (⟨512 * t.val + (512 + j.val), by omega⟩ : Fin 4096) l) := by
  have h := idx t
  rw [iblk]
  entry_read
  blk_point [h]

theorem blk4 (c : Dev nD) (t : Fin cfg0.N) (g : Fin 4) (a d : Fin 128) : iblk m c 4 t (ix3 g a d) = m ((c : Thread nD τ).loc main_arg2) (ix3 g a d) := by
  have h := idx t
  rw [iblk]
  entry_read
  blk_point [h]

theorem blk5 (c : Dev nD) (t : Fin cfg0.N) (z : Fin 1) (l : Fin 512) : iblk m c 5 t (ix2 z l) = m ((c : Thread nD τ).loc main_arg3) (ix2 z l) := by
  have h := idx t
  rw [iblk]
  entry_read
  blk_point [h]

variable (Y : Fin 4096 → Fin 512 → ℝ) (X : Fin 4096 → Fin 1024 → ℝ) (M : Fin 4 → Fin 128 → Fin 128 → ℝ) (S : Fin 512 → ℝ) (c : Dev nD)
  (hy : ∀ t l, m ((c : Thread nD τ).loc main_arg0) (ix2 t l) = (Y t l : EReal)) (hx : ∀ t k, m ((c : Thread nD τ).loc main_arg1) (ix2 t k) = (X t k : EReal))
  (hw : ∀ g a d, m ((c : Thread nD τ).loc main_arg2) (ix3 g a d) = (M g a d : EReal)) (hs : ∀ z l, m ((c : Thread nD τ).loc main_arg3) (ix2 z l) = (S l : EReal))

/-- An array's columns. -/
def cols (P : Fin 4096 → Fin 512 → ℝ) (l : Fin 512) (t : ℕ) : ℝ := cut (fun s => P s l) t

theorem cols_lt (P : Fin 4096 → Fin 512 → ℝ) (l : Fin 512) (t : ℕ) (h : t < 4096) : cols P l t = P ⟨t, h⟩ l := dif_pos h

include hx in
theorem hp0 (t : Fin cfg0.N) (r l : Fin 512) : iblk m c 0 t (ix2 r l) = (cols (half X) l (512 * t.val + r.val) : EReal) := by
  rw [blk0, hx, cols_lt _ _ _ (by have := lt8 t; omega)]
  rfl

include hx in
theorem hp1 (t : Fin cfg0.N) (h : 0 < t.val) (j : Fin 16) (l : Fin 512) : iblk m c 1 t (ix2 j l) = (cols (half X) l (512 * t.val + j.val - 16) : EReal) := by
  rw [blk1 m c t h, hx, cols_lt _ _ _ (by have := lt8 t; omega)]
  rfl

include hy in
theorem hy2 (t : Fin cfg0.N) (r l : Fin 512) : iblk m c 2 t (ix2 r l) = (cols Y l (512 * t.val + r.val) : EReal) := by
  rw [blk2, hy, cols_lt _ _ _ (by have := lt8 t; omega)]
  rfl

include hy in
theorem hy3 (t : Fin cfg0.N) (h : t.val < 7) (j : Fin 16) (l : Fin 512) : iblk m c 3 t (ix2 j l) = (cols Y l (512 * t.val + (512 + j.val)) : EReal) := by
  rw [blk3 m c t h, hy, cols_lt _ _ _ (by omega)]

include hw in
theorem hw4 (t : Fin cfg0.N) (g : Fin 4) (a d : Fin 128) : iblk m c 4 t (ix3 g a d) = (M g a d : EReal) := (blk4 m c t g a d).trans (hw g a d)

include hs in
theorem hs5 (t : Fin cfg0.N) (z : Fin 1) (l : Fin 512) : iblk m c 5 t (ix2 z l) = (S l : EReal) := (blk5 m c t z l).trans (hs z l)

include hy hx hw hs

theorem outs6 (t : Fin cfg0.N) (q : S512x512.Idx) :
    (outsAt0 m c t.val t.isLt).1 q = (dpv (cols Y) S M (q 1) (512 * t.val + (q 0).val) : EReal) := by
  by_cases h : t.val % 8 = 0
  · rw [outsAt0_A m c t h]
    exact out6A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ t.val (cols (half X)) (cols Y) S M (pos t) (lt8 t) (hp0 m X c hx t) (hp1 m X c hx t) (hy2 m Y c hy t) (hy3 m Y c hy t) (fun l s hs => cut_ge _ _ hs) (hw4 m M c hw t) (hs5 m S c hs t) ((hcond0_0 t).mpr h) q
  · rw [outsAt0_B m c t h]
    dsimp only
    generalize (outsAt0 m c (t.val - 1) _).2 = xo
    exact out6B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ t.val (cols (half X)) (cols Y) S M (pos t) (lt8 t) (hp0 m X c hx t) (hp1 m X c hx t) (hy2 m Y c hy t) (hy3 m Y c hy t) (fun l s hs => cut_ge _ _ hs) (hw4 m M c hw t) (hs5 m S c hs t) (fun h' => h ((hcond0_0 t).mp h')) xo.1 xo.2 q

theorem outs7_A (t : Fin cfg0.N) (h : t.val % 8 = 0) (q : S4x128x128.Idx) :
    (outsAt0 m c t.val t.isLt).2.1 q = 0 + (dwv (cols (half X)) (cols Y) S t.val (q 0) (q 1) (q 2) : EReal) := by
  rw [outsAt0_A m c t h, zero_add]
  dsimp only
  exact out7A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ t.val (cols (half X)) (cols Y) S M (pos t) (lt8 t) (hp0 m X c hx t) (hp1 m X c hx t) (hy2 m Y c hy t) (hy3 m Y c hy t) (fun l s hs => cut_ge _ _ hs) (hw4 m M c hw t) (hs5 m S c hs t) ((hcond0_0 t).mpr h) q

theorem outs7_B (t : Fin cfg0.N) (h : ¬ t.val % 8 = 0) (q : S4x128x128.Idx) :
    (outsAt0 m c t.val t.isLt).2.1 q = (outsAt0 m c (t.val - 1) (Nat.lt_of_le_of_lt (Nat.sub_le _ _) t.isLt)).2.1 q +
      (dwv (cols (half X)) (cols Y) S t.val (q 0) (q 1) (q 2) : EReal) := by
  rw [outsAt0_B m c t h]
  dsimp only
  generalize (outsAt0 m c (t.val - 1) _).2 = xo
  exact out7B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ t.val (cols (half X)) (cols Y) S M (pos t) (lt8 t) (hp0 m X c hx t) (hp1 m X c hx t) (hy2 m Y c hy t) (hy3 m Y c hy t) (fun l s hs => cut_ge _ _ hs) (hw4 m M c hw t) (hs5 m S c hs t) (fun h' => h ((hcond0_0 t).mp h')) xo.1 xo.2 q

theorem outs8_A (t : Fin cfg0.N) (h : t.val % 8 = 0) (q : S1x512.Idx) :
    (outsAt0 m c t.val t.isLt).2.2 q = 0 + (dscv (cols (half X)) (cols Y) M t.val (q 1) : EReal) := by
  rw [outsAt0_A m c t h, zero_add]
  dsimp only
  exact out8A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ t.val (cols (half X)) (cols Y) S M (pos t) (lt8 t) (hp0 m X c hx t) (hp1 m X c hx t) (hy2 m Y c hy t) (hy3 m Y c hy t) (fun l s hs => cut_ge _ _ hs) (hw4 m M c hw t) (hs5 m S c hs t) ((hcond0_0 t).mpr h) q

theorem outs8_B (t : Fin cfg0.N) (h : ¬ t.val % 8 = 0) (q : S1x512.Idx) :
    (outsAt0 m c t.val t.isLt).2.2 q = (outsAt0 m c (t.val - 1) (Nat.lt_of_le_of_lt (Nat.sub_le _ _) t.isLt)).2.2 q +
      (dscv (cols (half X)) (cols Y) M t.val (q 1) : EReal) := by
  rw [outsAt0_B m c t h]
  dsimp only
  generalize (outsAt0 m c (t.val - 1) _).2 = xo
  exact out8B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ t.val (cols (half X)) (cols Y) S M (pos t) (lt8 t) (hp0 m X c hx t) (hp1 m X c hx t) (hy2 m Y c hy t) (hy3 m Y c hy t) (fun l s hs => cut_ge _ _ hs) (hw4 m M c hw t) (hs5 m S c hs t) (fun h' => h ((hcond0_0 t).mp h')) xo.1 xo.2 q

theorem final6 : (dats m 0 c).arrAt 6 cfg0.N = fun j => (dpv (cols Y) S M (j 1) (j 0).val : EReal) := by
  refine (dats m 0 c).arrAt_eq_of_covers 6 _ (by decide +kernel) fun t hf y => ?_
  have h := idx t
  blk_simp
  rw [after0_6, outs6 m Y X M S c hy hx hw hs t y]
  idx_vars y
  congr 2
  · apply Fin.ext
    blk_simp [h]
  · blk_simp [h]
    omega

theorem final7 : (dats m 0 c).arrAt 7 cfg0.N = fun j => ((∑ T : Fin 8, dwv (cols (half X)) (cols Y) S T.val (j 0) (j 1) (j 2) : ℝ) : EReal) := by
  refine (dats m 0 c).arrAt_eq_of_covers 7 _ (by decide +kernel) fun t hf y => ?_
  have h := idx t
  blk_simp
  rw [after0_7, Pipeline.eq_sum_fin_of_reset_step_apply_of_flush (fun n h => (outsAt0 m c n h).2.1) 8 (fun _ => 0)
    (fun t q => (dwv (cols (half X)) (cols Y) S t.val (q 0) (q 1) (q 2) : EReal)) (outs7_A m Y X M S c hy hx hw hs) (outs7_B m Y X M S c hy hx hw hs) t ((flush0_7 t).mp hf) y, zero_add, sum_coe]
  have hs : ∀ s : Fin 8, 8 * (t.val / 8) + s.val = s.val := fun s => by have := lt8 t; omega
  simp only [hs]
  idx_vars y
  refine congrArg (fun r : ℝ => (r : EReal)) (Finset.sum_congr rfl fun T _ => ?_)
  congr 1 <;> (apply Fin.ext; blk_simp [h])

theorem final8 : (dats m 0 c).arrAt 8 cfg0.N = fun j => ((∑ T : Fin 8, dscv (cols (half X)) (cols Y) M T.val (j 1) : ℝ) : EReal) := by
  refine (dats m 0 c).arrAt_eq_of_covers 8 _ (by decide +kernel) fun t hf y => ?_
  have h := idx t
  blk_simp
  rw [after0_8, Pipeline.eq_sum_fin_of_reset_step_apply_of_flush (fun n h => (outsAt0 m c n h).2.2) 8 (fun _ => 0)
    (fun t q => (dscv (cols (half X)) (cols Y) M t.val (q 1) : EReal)) (outs8_A m Y X M S c hy hx hw hs) (outs8_B m Y X M S c hy hx hw hs) t ((flush0_8 t).mp hf) y, zero_add, sum_coe]
  have hs : ∀ s : Fin 8, 8 * (t.val / 8) + s.val = s.val := fun s => by have := lt8 t; omega
  simp only [hs]
  idx_vars y
  refine congrArg (fun r : ℝ => (r : EReal)) (Finset.sum_congr rfl fun T _ => ?_)
  congr 1 <;> (apply Fin.ext; blk_simp [h])

end Cert.Pool
-- ==== Proof.PoolReference.lean ====
/-
  The gradients of the causal window pooling, as the reference's program computes them, on finite arguments: running
  sums down the rows and their differences, and backwards the running sums up the rows.
-/
module

public import proofs.«01_k».proof.Proof.PoolReals
public import proofs.«01_k».proof.Proof.Window
public import proofs.«01_k».proof.Proof.Gen.Reference3Ideal.Run
public import proofs.«01_k».proof.Proof.Gen.Reference3Ideal.Read

@[expose] public section

set_option maxRecDepth 16384

noncomputable section

namespace Cert.Pool.Ref

open Cert.Reference3Ideal Cert.Reference3Ideal.Gen Cert.Reference3Ideal.Read
open Idealize.ShloMosaic Idealize.ShloMosaic.TcCoe Idealize.SL.Sem
open Cert.Reals

variable (dy : (⟨S4096x512, .f32⟩ : BufTy).Contents (Elt Ideal)) (px : (⟨S4096x1024, .f32⟩ : BufTy).Contents (Elt Ideal))
  (w : (⟨S4x128x128, .f32⟩ : BufTy).Contents (Elt Ideal)) (sc : (⟨S1x512, .f32⟩ : BufTy).Contents (Elt Ideal))
variable (Y : Fin 4096 → Fin 512 → ℝ) (X : Fin 4096 → Fin 1024 → ℝ) (M : Fin 4 → Fin 128 → Fin 128 → ℝ) (S : Fin 512 → ℝ)

theorem r2 (hp : ∀ t k, px (ix2 t k) = (X t k : EReal)) (t : Fin 4096) (g : Fin 4) (a : Fin 128) :
    val_main_v2 (F := Ideal) px (ix3 t g a) = (half X t (lane g a) : EReal) := by
  pointwise [val_main_v2, val_main_v0]
  rw [hp]
  unfold half lane
  congr 2
  exact Fin.ext (by dsimp only; omega)

theorem r9 (t : Fin 4096) : val_main_v9 (F := Ideal) (ix1 t) = (((t.val : ℝ) + 1 : ℝ) : EReal) := by
  pointwise [val_main_v9, val_main_v8, val_main_v7, val_main_cst_1]
  rw [Cert.Window.sitofp_ofNat t.val (by omega)]
  norm_cast
  rw [add_comm]

theorem r4 (hp : ∀ t k, px (ix2 t k) = (X t k : EReal)) (t : Fin 4096) (g : Fin 4) (a : Fin 128) :
    val_main_v4 (F := Ideal) px (ix3 t g a) = ((∑ s ∈ Finset.range (t.val + 1), cut (fun s => half X s (lane g a)) s : ℝ) : EReal) := by
  unfold val_main_v4
  have e : val_main_call0_call0_v0 (F := Ideal) = fun _ => (0 : EReal) := by
    funext j
    pointwise [val_main_call0_call0_v0, val_main_call0_call0_cst]
  rw [e]
  have hx : ∀ (i : Fin 4096) b c, val_main_v2 (F := Ideal) px (ix3 i b c) = (cut (fun s => half X s (lane b c)) i.val : EReal) :=
    fun i b c => by rw [r2 px X hp, cut_lt _ _ i.isLt]
  generalize val_main_v2 (F := Ideal) px = x at hx
  have h := reduceWindows_S4096x4x128_S4096x4x128_w4096s1p4095_0_w1s1p0_0_w1s1p0_0
  have key := Cert.Window.prefix_rows 4096 4 128 4095 (by norm_num) x (fun s g a => cut (fun s => half X s (lane g a)) s) hx h t g a
  unfold Host.reduceWindowAdd
  rw [Ideal.hostReduceWindowAdd_def]
  exact key

theorem r5 (hp : ∀ t k, px (ix2 t k) = (X t k : EReal)) (n : Fin 4097) (g : Fin 4) (a : Fin 128) :
    val_main_v5 (F := Ideal) px (ix3 n g a) = ((∑ s ∈ Finset.range n.val, cut (fun s => half X s (lane g a)) s : ℝ) : EReal) := by
  pointwise [val_main_v5, val_main_v3, val_main_cst]
  split
  · next h => rw [show n.val = 0 by omega]; rfl
  · next h => rw [r4 px X hp]; congr 3; dsimp only; omega

theorem cnt0 (t : Fin 4096) : val_main_v17 (F := Ideal) (ix1 t) = (count (width 0) t.val : EReal) := by
  pointwise [val_main_v17, val_main_v16, val_main_cst_4]
  rw [r9]
  rw [k2_word]
  exact (EReal.coe_strictMono.monotone.map_min (a := (t.val : ℝ) + 1) (b := 2)).symm

theorem lag0 (hp : ∀ t k, px (ix2 t k) = (X t k : EReal)) (t : Fin 4096) (a : Fin 128) :
    val_main_v14 (F := Ideal) px (ix2 t a) = ((if t.val < 1 then 0 else ∑ s ∈ Finset.range (t.val - 1), cut (fun s => half X s (lane 0 a)) s : ℝ) : EReal) := by
  pointwise [val_main_v14, val_main_v12, val_main_cst_2, val_main_v13, val_main_v11, val_main_v10]
  split
  · rfl
  · exact r5 px X hp _ 0 a

theorem mix0 (hp : ∀ t k, px (ix2 t k) = (X t k : EReal)) (t : Fin 4096) (a : Fin 128) :
    val_main_v25 (F := Ideal) px (ix2 t a) = (mixed (half X) 0 a t.val : EReal) := by
  pointwise [val_main_v25, val_main_v22, val_main_v20, val_main_v19, val_main_v11, val_main_v10, val_main_v21, val_main_v18, val_main_v24, val_main_v23]
  rw [lag0 px X hp, cnt0]
  have e := r5 px X hp ⟨t.val + 1, Nat.succ_lt_succ t.isLt⟩ 0 a
  have e' := r2 px X hp t 0 a
  unfold mixed
  rw [show past (cut fun s => half X s (lane 0 a)) (width 0) t.val = _ from (prefix_sub _ 1 t.val).symm, cut_lt _ _ t.isLt,
    EReal.coe_sub, ← div_coe_coe (count_pos _ _ (width_pos 0)).ne', EReal.coe_sub]
  exact congrArg₂ _ (congrArg₂ _ (congrArg₂ _ ((congrArg _ (by blk_point []; exact Fin.ext (Nat.add_comm _ _))).trans e) rfl) rfl) ((congrArg _ (by blk_point [])).trans e')

theorem cnt1 (t : Fin 4096) : val_main_v33 (F := Ideal) (ix1 t) = (count (width 1) t.val : EReal) := by
  pointwise [val_main_v33, val_main_v32, val_main_cst_7]
  rw [r9]
  rw [k4_word]
  exact (EReal.coe_strictMono.monotone.map_min (a := (t.val : ℝ) + 1) (b := 4)).symm

theorem lag1 (hp : ∀ t k, px (ix2 t k) = (X t k : EReal)) (t : Fin 4096) (a : Fin 128) :
    val_main_v30 (F := Ideal) px (ix2 t a) = ((if t.val < 3 then 0 else ∑ s ∈ Finset.range (t.val - 3), cut (fun s => half X s (lane 1 a)) s : ℝ) : EReal) := by
  pointwise [val_main_v30, val_main_v28, val_main_cst_5, val_main_v29, val_main_v27, val_main_v26]
  split
  · rfl
  · exact r5 px X hp _ 1 a

theorem mix1 (hp : ∀ t k, px (ix2 t k) = (X t k : EReal)) (t : Fin 4096) (a : Fin 128) :
    val_main_v41 (F := Ideal) px (ix2 t a) = (mixed (half X) 1 a t.val : EReal) := by
  pointwise [val_main_v41, val_main_v38, val_main_v36, val_main_v35, val_main_v27, val_main_v26, val_main_v37, val_main_v34, val_main_v40, val_main_v39]
  rw [lag1 px X hp, cnt1]
  have e := r5 px X hp ⟨t.val + 1, Nat.succ_lt_succ t.isLt⟩ 1 a
  have e' := r2 px X hp t 1 a
  unfold mixed
  rw [show past (cut fun s => half X s (lane 1 a)) (width 1) t.val = _ from (prefix_sub _ 3 t.val).symm, cut_lt _ _ t.isLt,
    EReal.coe_sub, ← div_coe_coe (count_pos _ _ (width_pos 1)).ne', EReal.coe_sub]
  exact congrArg₂ _ (congrArg₂ _ (congrArg₂ _ ((congrArg _ (by blk_point []; exact Fin.ext (Nat.add_comm _ _))).trans e) rfl) rfl) ((congrArg _ (by blk_point [])).trans e')

theorem cnt2 (t : Fin 4096) : val_main_v49 (F := Ideal) (ix1 t) = (count (width 2) t.val : EReal) := by
  pointwise [val_main_v49, val_main_v48, val_main_cst_10]
  rw [r9]
  rw [k8_word]
  exact (EReal.coe_strictMono.monotone.map_min (a := (t.val : ℝ) + 1) (b := 8)).symm

theorem lag2 (hp : ∀ t k, px (ix2 t k) = (X t k : EReal)) (t : Fin 4096) (a : Fin 128) :
    val_main_v46 (F := Ideal) px (ix2 t a) = ((if t.val < 7 then 0 else ∑ s ∈ Finset.range (t.val - 7), cut (fun s => half X s (lane 2 a)) s : ℝ) : EReal) := by
  pointwise [val_main_v46, val_main_v44, val_main_cst_8, val_main_v45, val_main_v43, val_main_v42]
  split
  · rfl
  · exact r5 px X hp _ 2 a

theorem mix2 (hp : ∀ t k, px (ix2 t k) = (X t k : EReal)) (t : Fin 4096) (a : Fin 128) :
    val_main_v57 (F := Ideal) px (ix2 t a) = (mixed (half X) 2 a t.val : EReal) := by
  pointwise [val_main_v57, val_main_v54, val_main_v52, val_main_v51, val_main_v43, val_main_v42, val_main_v53, val_main_v50, val_main_v56, val_main_v55]
  rw [lag2 px X hp, cnt2]
  have e := r5 px X hp ⟨t.val + 1, Nat.succ_lt_succ t.isLt⟩ 2 a
  have e' := r2 px X hp t 2 a
  unfold mixed
  rw [show past (cut fun s => half X s (lane 2 a)) (width 2) t.val = _ from (prefix_sub _ 7 t.val).symm, cut_lt _ _ t.isLt,
    EReal.coe_sub, ← div_coe_coe (count_pos _ _ (width_pos 2)).ne', EReal.coe_sub]
  exact congrArg₂ _ (congrArg₂ _ (congrArg₂ _ ((congrArg _ (by blk_point []; exact Fin.ext (Nat.add_comm _ _))).trans e) rfl) rfl) ((congrArg _ (by blk_point [])).trans e')

theorem cnt3 (t : Fin 4096) : val_main_v65 (F := Ideal) (ix1 t) = (count (width 3) t.val : EReal) := by
  pointwise [val_main_v65, val_main_v64, val_main_cst_13]
  rw [r9]
  rw [k16_word]
  exact (EReal.coe_strictMono.monotone.map_min (a := (t.val : ℝ) + 1) (b := 16)).symm

theorem lag3 (hp : ∀ t k, px (ix2 t k) = (X t k : EReal)) (t : Fin 4096) (a : Fin 128) :
    val_main_v62 (F := Ideal) px (ix2 t a) = ((if t.val < 15 then 0 else ∑ s ∈ Finset.range (t.val - 15), cut (fun s => half X s (lane 3 a)) s : ℝ) : EReal) := by
  pointwise [val_main_v62, val_main_v60, val_main_cst_11, val_main_v61, val_main_v59, val_main_v58]
  split
  · rfl
  · exact r5 px X hp _ 3 a

theorem mix3 (hp : ∀ t k, px (ix2 t k) = (X t k : EReal)) (t : Fin 4096) (a : Fin 128) :
    val_main_v73 (F := Ideal) px (ix2 t a) = (mixed (half X) 3 a t.val : EReal) := by
  pointwise [val_main_v73, val_main_v70, val_main_v68, val_main_v67, val_main_v59, val_main_v58, val_main_v69, val_main_v66, val_main_v72, val_main_v71]
  rw [lag3 px X hp, cnt3]
  have e := r5 px X hp ⟨t.val + 1, Nat.succ_lt_succ t.isLt⟩ 3 a
  have e' := r2 px X hp t 3 a
  unfold mixed
  rw [show past (cut fun s => half X s (lane 3 a)) (width 3) t.val = _ from (prefix_sub _ 15 t.val).symm, cut_lt _ _ t.isLt,
    EReal.coe_sub, ← div_coe_coe (count_pos _ _ (width_pos 3)).ne', EReal.coe_sub]
  exact congrArg₂ _ (congrArg₂ _ (congrArg₂ _ ((congrArg _ (by blk_point []; exact Fin.ext (Nat.add_comm _ _))).trans e) rfl) rfl) ((congrArg _ (by blk_point [])).trans e')

theorem r78 (hp : ∀ t k, px (ix2 t k) = (X t k : EReal)) (t : Fin 4096) (g : Fin 4) (a : Fin 128) :
    val_main_v78 (F := Ideal) px (ix3 t g a) = (mixed (half X) g a t.val : EReal) := by
  fin_cases g
  all_goals pointwise [val_main_v78, val_main_v77, val_main_v76, val_main_v75, val_main_v74]
  · exact mix0 px X hp t a
  · exact mix1 px X hp t a
  · exact mix2 px X hp t a
  · exact mix3 px X hp t a

/-- The pooled lanes after the grouped matrix. -/
theorem r81 (hp : ∀ t k, px (ix2 t k) = (X t k : EReal)) (hw : ∀ g a d, w (ix3 g a d) = (M g a d : EReal)) (t : Fin 4096) (g : Fin 4) (d : Fin 128) :
    val_main_v81 (F := Ideal) px w (ix2 t (lane g d)) = ((∑ a, mixed (half X) g a t.val * M g a d : ℝ) : EReal) := by
  pointwise [val_main_v81, val_main_v80, val_main_v79]
  simp only [lane_div, lane_mod, r78 px X hp, hw, ← EReal.coe_mul, sum_coe]
  congr 1
  exact Finset.sum_congr rfl fun a _ => mul_comm _ _

/-- The scale's gradient. -/
theorem r86 (hp : ∀ t k, px (ix2 t k) = (X t k : EReal)) (hw : ∀ g a d, w (ix3 g a d) = (M g a d : EReal)) (hy : ∀ t l, dy (ix2 t l) = (Y t l : EReal))
    (z : Fin 1) (g : Fin 4) (d : Fin 128) :
    val_main_v86 (F := Ideal) dy px w (ix2 z (lane g d)) = ((∑ t, dscRow Y (half X) M g d t : ℝ) : EReal) := by
  pointwise [val_main_v86, val_main_v85, val_main_v84, val_main_cst_14]
  simp only [r81 px w X M hp hw, hy, ← EReal.coe_mul, sum_coe]
  congr 1
  exact Finset.sum_congr rfl fun t _ => mul_comm _ _

theorem r89 (hy : ∀ t l, dy (ix2 t l) = (Y t l : EReal)) (hs : ∀ z l, sc (ix2 z l) = (S l : EReal)) (t : Fin 4096) (g : Fin 4) (d : Fin 128) :
    val_main_v89 (F := Ideal) dy sc (ix3 t g d) = (Y t (lane g d) * S (lane g d) : ℝ) := by
  pointwise [val_main_v89, val_main_v88, val_main_v87]
  rw [hy, hs, ← EReal.coe_mul]
  unfold lane
  congr 3 <;> (first | exact congrArg _ (Fin.ext (by dsimp only; omega)) | exact Fin.ext (by dsimp only; omega))

theorem r92 (hy : ∀ t l, dy (ix2 t l) = (Y t l : EReal)) (hs : ∀ z l, sc (ix2 z l) = (S l : EReal)) (hw : ∀ g a d, w (ix3 g a d) = (M g a d : EReal))
    (t : Fin 4096) (g : Fin 4) (a : Fin 128) :
    val_main_v92 (F := Ideal) dy w sc (ix3 t g a) = (dmix Y S M g a t.val : EReal) := by
  pointwise [val_main_v92, val_main_v91, val_main_v90]
  simp only [r89 dy sc Y S hy hs, hw, ← EReal.coe_mul, sum_coe]
  congr 1
  exact Finset.sum_congr rfl fun d _ => by rw [cut_lt _ _ t.isLt]

/-- The grouped matrix's gradient. -/
theorem r94 (hp : ∀ t k, px (ix2 t k) = (X t k : EReal)) (hy : ∀ t l, dy (ix2 t l) = (Y t l : EReal)) (hs : ∀ z l, sc (ix2 z l) = (S l : EReal))
    (g : Fin 4) (a d : Fin 128) :
    val_main_v94 (F := Ideal) dy px sc (ix3 g a d) = ((∑ t, dwRow Y (half X) S g a d t : ℝ) : EReal) := by
  pointwise [val_main_v94, val_main_v93, val_main_v90]
  simp only [r89 dy sc Y S hy hs, r78 px X hp, ← EReal.coe_mul, sum_coe]
  congr 1
  exact Finset.sum_congr rfl fun t _ => mul_comm _ _

theorem dm0 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v96 (F := Ideal) dy w sc (ix2 t a) = (dmix Y S M 0 a t.val : EReal) := by
  pointwise [val_main_v96, val_main_v95]
  exact r92 dy w sc Y M S hy hs hw t 0 a

theorem q0 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v151 (F := Ideal) dy w sc (ix2 t a) = (dmix Y S M 0 a t.val / count (width 0) t.val : ℝ) := by
  pointwise [val_main_v151, val_main_v150, val_main_v18]
  rw [dm0 dy w sc Y M S hy hs hw, cnt0]
  exact div_coe_coe (count_pos _ _ (width_pos 0)).ne' _

theorem sm0 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v157 (F := Ideal) dy w sc (ix2 ⟨t.val + 1, Nat.succ_lt_succ t.isLt⟩ a)
      = (dmix Y S M 0 a t.val / count (width 0) t.val - dmix Y S M 0 a (t.val + 2) / count (width 0) (t.val + 2) : ℝ) := by
  pointwise [val_main_v157, val_main_v153, val_main_v156, val_main_v155, val_main_v152, val_main_cst_28, val_main_cst_29]
  rw [dif_pos (show t.val + 1 - 1 < 4096 by omega), q0 dy w sc Y M S hy hs hw]
  dsimp only
  by_cases h : t.val + 1 < 4095
  · rw [dif_pos h, q0 dy w sc Y M S hy hs hw]
    dsimp only
    rw [← EReal.coe_neg, ← EReal.coe_add, show t.val + 1 - 1 = t.val by omega,
      show 1 + (t.val + 1) = t.val + 2 by omega, ← sub_eq_add_neg]
  · rw [dif_neg h, dmix_ge _ _ _ _ _ _ (show 4096 ≤ t.val + 2 by omega), show t.val + 1 - 1 = t.val by omega, zero_div, sub_zero, add_zero]

theorem dm1 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v98 (F := Ideal) dy w sc (ix2 t a) = (dmix Y S M 1 a t.val : EReal) := by
  pointwise [val_main_v98, val_main_v97]
  exact r92 dy w sc Y M S hy hs hw t 1 a

theorem q1 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v136 (F := Ideal) dy w sc (ix2 t a) = (dmix Y S M 1 a t.val / count (width 1) t.val : ℝ) := by
  pointwise [val_main_v136, val_main_v135, val_main_v34]
  rw [dm1 dy w sc Y M S hy hs hw, cnt1]
  exact div_coe_coe (count_pos _ _ (width_pos 1)).ne' _

theorem sm1 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v142 (F := Ideal) dy w sc (ix2 ⟨t.val + 1, Nat.succ_lt_succ t.isLt⟩ a)
      = (dmix Y S M 1 a t.val / count (width 1) t.val - dmix Y S M 1 a (t.val + 4) / count (width 1) (t.val + 4) : ℝ) := by
  pointwise [val_main_v142, val_main_v138, val_main_v141, val_main_v140, val_main_v137, val_main_cst_24, val_main_cst_25]
  rw [dif_pos (show t.val + 1 - 1 < 4096 by omega), q1 dy w sc Y M S hy hs hw]
  dsimp only
  by_cases h : t.val + 1 < 4093
  · rw [dif_pos h, q1 dy w sc Y M S hy hs hw]
    dsimp only
    rw [← EReal.coe_neg, ← EReal.coe_add, show t.val + 1 - 1 = t.val by omega,
      show 3 + (t.val + 1) = t.val + 4 by omega, ← sub_eq_add_neg]
  · rw [dif_neg h, dmix_ge _ _ _ _ _ _ (show 4096 ≤ t.val + 4 by omega), show t.val + 1 - 1 = t.val by omega, zero_div, sub_zero, add_zero]

theorem dm2 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v100 (F := Ideal) dy w sc (ix2 t a) = (dmix Y S M 2 a t.val : EReal) := by
  pointwise [val_main_v100, val_main_v99]
  exact r92 dy w sc Y M S hy hs hw t 2 a

theorem q2 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v121 (F := Ideal) dy w sc (ix2 t a) = (dmix Y S M 2 a t.val / count (width 2) t.val : ℝ) := by
  pointwise [val_main_v121, val_main_v120, val_main_v50]
  rw [dm2 dy w sc Y M S hy hs hw, cnt2]
  exact div_coe_coe (count_pos _ _ (width_pos 2)).ne' _

theorem sm2 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v127 (F := Ideal) dy w sc (ix2 ⟨t.val + 1, Nat.succ_lt_succ t.isLt⟩ a)
      = (dmix Y S M 2 a t.val / count (width 2) t.val - dmix Y S M 2 a (t.val + 8) / count (width 2) (t.val + 8) : ℝ) := by
  pointwise [val_main_v127, val_main_v123, val_main_v126, val_main_v125, val_main_v122, val_main_cst_20, val_main_cst_21]
  rw [dif_pos (show t.val + 1 - 1 < 4096 by omega), q2 dy w sc Y M S hy hs hw]
  dsimp only
  by_cases h : t.val + 1 < 4089
  · rw [dif_pos h, q2 dy w sc Y M S hy hs hw]
    dsimp only
    rw [← EReal.coe_neg, ← EReal.coe_add, show t.val + 1 - 1 = t.val by omega,
      show 7 + (t.val + 1) = t.val + 8 by omega, ← sub_eq_add_neg]
  · rw [dif_neg h, dmix_ge _ _ _ _ _ _ (show 4096 ≤ t.val + 8 by omega), show t.val + 1 - 1 = t.val by omega, zero_div, sub_zero, add_zero]

theorem dm3 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v102 (F := Ideal) dy w sc (ix2 t a) = (dmix Y S M 3 a t.val : EReal) := by
  pointwise [val_main_v102, val_main_v101]
  exact r92 dy w sc Y M S hy hs hw t 3 a

theorem q3 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v107 (F := Ideal) dy w sc (ix2 t a) = (dmix Y S M 3 a t.val / count (width 3) t.val : ℝ) := by
  pointwise [val_main_v107, val_main_v106, val_main_v66]
  rw [dm3 dy w sc Y M S hy hs hw, cnt3]
  exact div_coe_coe (count_pos _ _ (width_pos 3)).ne' _

theorem sm3 (hy : ∀ t l, dy (ix2 t l) = (Y t l : EReal)) (hs : ∀ z l, sc (ix2 z l) = (S l : EReal)) (hw : ∀ g a d, w (ix3 g a d) = (M g a d : EReal))
    (t : Fin 4096) (a : Fin 128) : val_main_v113 (F := Ideal) dy w sc (ix2 ⟨t.val + 1, Nat.succ_lt_succ t.isLt⟩ a)
      = (dmix Y S M 3 a t.val / count (width 3) t.val - dmix Y S M 3 a (t.val + 16) / count (width 3) (t.val + 16) : ℝ) := by
  pointwise [val_main_v113, val_main_v109, val_main_v112, val_main_v111, val_main_v108, val_main_cst_16, val_main_cst_17]
  rw [dif_pos (show t.val + 1 - 1 < 4096 by omega), q3 dy w sc Y M S hy hs hw]
  dsimp only
  by_cases h : t.val + 1 < 4081
  · rw [dif_pos h, q3 dy w sc Y M S hy hs hw]
    dsimp only
    rw [← EReal.coe_neg, ← EReal.coe_add, show t.val + 1 - 1 = t.val by omega,
      show 15 + (t.val + 1) = t.val + 16 by omega, ← sub_eq_add_neg]
  · rw [dif_neg h, dmix_ge _ _ _ _ _ _ (show 4096 ≤ t.val + 16 by omega), show t.val + 1 - 1 = t.val by omega, zero_div, sub_zero, add_zero]

theorem r160_0 (n : Fin 4097) (a : Fin 128) :
    val_main_v160 (F := Ideal) dy w sc (ix3 n 0 a) = val_main_v157 (F := Ideal) dy w sc (ix2 n a) := by
  pointwise [val_main_v160, val_main_v145, val_main_v130, val_main_v159, val_main_v158, val_main_v144, val_main_v143, val_main_v129, val_main_v128, val_main_v115, val_main_v114, val_main_cst_18, val_main_cst_22, val_main_cst_26, val_main_cst_30]

theorem r160_1 (n : Fin 4097) (a : Fin 128) :
    val_main_v160 (F := Ideal) dy w sc (ix3 n 1 a) = val_main_v142 (F := Ideal) dy w sc (ix2 n a) := by
  pointwise [val_main_v160, val_main_v145, val_main_v130, val_main_v159, val_main_v158, val_main_v144, val_main_v143, val_main_v129, val_main_v128, val_main_v115, val_main_v114, val_main_cst_18, val_main_cst_22, val_main_cst_26, val_main_cst_30]

theorem r160_2 (n : Fin 4097) (a : Fin 128) :
    val_main_v160 (F := Ideal) dy w sc (ix3 n 2 a) = val_main_v127 (F := Ideal) dy w sc (ix2 n a) := by
  pointwise [val_main_v160, val_main_v145, val_main_v130, val_main_v159, val_main_v158, val_main_v144, val_main_v143, val_main_v129, val_main_v128, val_main_v115, val_main_v114, val_main_cst_18, val_main_cst_22, val_main_cst_26, val_main_cst_30]

theorem r160_3 (n : Fin 4097) (a : Fin 128) :
    val_main_v160 (F := Ideal) dy w sc (ix3 n 3 a) = val_main_v113 (F := Ideal) dy w sc (ix2 n a) := by
  pointwise [val_main_v160, val_main_v145, val_main_v130, val_main_v159, val_main_v158, val_main_v144, val_main_v143, val_main_v129, val_main_v128, val_main_v115, val_main_v114, val_main_cst_18, val_main_cst_22, val_main_cst_26, val_main_cst_30]

/-- The gradient that the running sum adds up: each group's own. -/
theorem r162 (hy : ∀ t l, dy (ix2 t l) = (Y t l : EReal)) (hs : ∀ z l, sc (ix2 z l) = (S l : EReal)) (hw : ∀ g a d, w (ix3 g a d) = (M g a d : EReal))
    (t : Fin 4096) (g : Fin 4) (a : Fin 128) : val_main_v162 (F := Ideal) dy w sc (ix3 t g a)
      = (dmix Y S M g a t.val / count (width g) t.val - dmix Y S M g a (t.val + width g) / count (width g) (t.val + width g) : ℝ) := by
  pointwise [val_main_v162]
  rw [show (⟨1 + t.val, by omega⟩ : Fin 4097) = ⟨t.val + 1, Nat.succ_lt_succ t.isLt⟩ from Fin.ext (Nat.add_comm _ _)]
  fin_cases g
  · exact (r160_0 dy w sc _ a).trans (sm0 dy w sc Y M S hy hs hw t a)
  · exact (r160_1 dy w sc _ a).trans (sm1 dy w sc Y M S hy hs hw t a)
  · exact (r160_2 dy w sc _ a).trans (sm2 dy w sc Y M S hy hs hw t a)
  · exact (r160_3 dy w sc _ a).trans (sm3 dy w sc Y M S hy hs hw t a)

/-- The pooled lanes' own part. -/
theorem r149 (hy : ∀ t l, dy (ix2 t l) = (Y t l : EReal)) (hs : ∀ z l, sc (ix2 z l) = (S l : EReal)) (hw : ∀ g a d, w (ix3 g a d) = (M g a d : EReal))
    (t : Fin 4096) (g : Fin 4) (a : Fin 128) : val_main_v149 (F := Ideal) dy w sc (ix3 t g a) = (-dmix Y S M g a t.val : ℝ) := by
  fin_cases g
  · have e := dm0 dy w sc Y M S hy hs hw t a
    pointwise [val_main_v149, val_main_v134, val_main_v119, val_main_v148, val_main_v147, val_main_v146, val_main_v133, val_main_v132, val_main_v131, val_main_v118, val_main_v117, val_main_v116, val_main_v105, val_main_v104, val_main_v103, val_main_cst_15, val_main_cst_19, val_main_cst_23, val_main_cst_27]
    rw [e, ← EReal.coe_neg]
  · have e := dm1 dy w sc Y M S hy hs hw t a
    pointwise [val_main_v149, val_main_v134, val_main_v119, val_main_v148, val_main_v147, val_main_v146, val_main_v133, val_main_v132, val_main_v131, val_main_v118, val_main_v117, val_main_v116, val_main_v105, val_main_v104, val_main_v103, val_main_cst_15, val_main_cst_19, val_main_cst_23, val_main_cst_27]
    rw [e, ← EReal.coe_neg]
  · have e := dm2 dy w sc Y M S hy hs hw t a
    pointwise [val_main_v149, val_main_v134, val_main_v119, val_main_v148, val_main_v147, val_main_v146, val_main_v133, val_main_v132, val_main_v131, val_main_v118, val_main_v117, val_main_v116, val_main_v105, val_main_v104, val_main_v103, val_main_cst_15, val_main_cst_19, val_main_cst_23, val_main_cst_27]
    rw [e, ← EReal.coe_neg]
  · have e := dm3 dy w sc Y M S hy hs hw t a
    pointwise [val_main_v149, val_main_v134, val_main_v119, val_main_v148, val_main_v147, val_main_v146, val_main_v133, val_main_v132, val_main_v131, val_main_v118, val_main_v117, val_main_v116, val_main_v105, val_main_v104, val_main_v103, val_main_cst_15, val_main_cst_19, val_main_cst_23, val_main_cst_27]
    rw [e, ← EReal.coe_neg]

/-- The pooled lanes' gradient. -/
theorem r166 (hy : ∀ t l, dy (ix2 t l) = (Y t l : EReal)) (hs : ∀ z l, sc (ix2 z l) = (S l : EReal)) (hw : ∀ g a d, w (ix3 g a d) = (M g a d : EReal))
    (t : Fin 4096) (g : Fin 4) (a : Fin 128) : val_main_v166 (F := Ideal) dy w sc (ix2 t (lane g a)) = (dp Y S M g a t.val : EReal) := by
  have e1 := r149 dy w sc Y M S hy hs hw t g a
  have e2 : val_main_v163 (F := Ideal) dy w sc (ix3 t g a) = (ahead (fun s => dmix Y S M g a s / count (width g) s) (width g) t.val : EReal) := by
    unfold val_main_v163
    have e : val_main_call1_call0_v0 (F := Ideal) = fun _ => (0 : EReal) := by
      funext j
      pointwise [val_main_call1_call0_v0, val_main_call1_call0_cst]
    rw [e]
    have hx := r162 dy w sc Y M S hy hs hw
    generalize val_main_v162 (F := Ideal) dy w sc = x at hx
    have hz : ∀ (n : ℕ) (g : Fin 4) (a : Fin 128), 4096 ≤ n → dmix Y S M g a n / count (width g) n
        - dmix Y S M g a (n + width g) / count (width g) (n + width g) = 0 := fun n g a h => by
      rw [dmix_ge _ _ _ _ _ _ h, dmix_ge _ _ _ _ _ _ (by omega)]
      simp
    have hr : ahead (fun s => dmix Y S M g a s / count (width g) s) (width g) t.val = ∑ n ∈ Finset.range 4096,
        (dmix Y S M g a (t.val + n) / count (width g) (t.val + n) - dmix Y S M g a (t.val + n + width g) / count (width g) (t.val + n + width g)) := by
      have := suffix_sub (fun s => dmix Y S M g a s / count (width g) s) (width g) t.val 4096
      rw [this, eq_comm, sub_eq_self]
      unfold ahead
      exact Finset.sum_eq_zero fun j _ => by dsimp only; rw [dmix_ge _ _ _ _ _ _ (by omega), zero_div]
    rw [hr]
    have h := reduceWindows_S4096x4x128_S4096x4x128_w4096s1p0_4095_w1s1p0_0_w1s1p0_0
    have key := Cert.Window.suffix_rows 4096 4 128 4095 (by norm_num) x (fun n g a => dmix Y S M g a n / count (width g) n
      - dmix Y S M g a (n + width g) / count (width g) (n + width g)) hx hz h t g a
    unfold Host.reduceWindowAdd
    rw [Ideal.hostReduceWindowAdd_def]
    exact key
  unfold dp
  rw [sub_eq_neg_add, EReal.coe_add, ← e1, ← e2]
  pointwise [val_main_v166, val_main_v165, val_main_v164]
  simp only [lane_div, lane_mod]

end Cert.Pool.Ref
-- ==== Proof.Pool.lean ====
/-
  The backward kernel of the pooling branch computes the derivative of the causal window means, the grouped product and
  the scale: the equation of the two programs on finite arguments.
-/
module

public import proofs.«01_k».proof.Defs
public import proofs.«01_k».proof.Proof.PoolArrays
public import proofs.«01_k».proof.Proof.PoolReference

@[expose] public section

set_option maxRecDepth 16384

noncomputable section

namespace Cert.Pool

open Idealize.ShloMosaic Idealize.ShloMosaic.TcCoe Idealize.SL.Sem
open Cert.Reals

/-- The side conditions of the precondition's own program. -/
instance preFacts : Cert.Pre_finite_pool.Facts := ⟨by decide, by decide, by decide, by decide⟩

theorem dpv_eq (Y : Fin 4096 → Fin 512 → ℝ) (S : Fin 512 → ℝ) (M : Fin 4 → Fin 128 → Fin 128 → ℝ) (g : Fin 4) (a : Fin 128) (t : ℕ) :
    dpv (cols Y) S M (lane g a) t = dp Y S M g a t := by
  unfold dpv dxv
  rw [grp_lane, col_lane]
  rfl

theorem dwv_eq (Y P : Fin 4096 → Fin 512 → ℝ) (S : Fin 512 → ℝ) (g : Fin 4) (a d : Fin 128) :
    ∑ T : Fin 8, dwv (cols P) (cols Y) S T.val g a d = ∑ t, dwRow Y P S g a d t := by
  rw [← sum_tiles]
  refine Finset.sum_congr rfl fun T _ => Finset.sum_congr rfl fun r _ => ?_
  rw [cols_lt Y _ _ (by omega)]
  rfl

theorem dscv_eq (Y P : Fin 4096 → Fin 512 → ℝ) (M : Fin 4 → Fin 128 → Fin 128 → ℝ) (g : Fin 4) (d : Fin 128) :
    ∑ T : Fin 8, dscv (cols P) (cols Y) M T.val (lane g d) = ∑ t, dscRow Y P M g d t := by
  rw [← sum_tiles]
  refine Finset.sum_congr rfl fun T _ => Finset.sum_congr rfl fun r _ => ?_
  rw [cols_lt Y _ _ (by omega), grp_lane, col_lane]
  rfl

/-- Finite arguments are casts of real arrays: the output's cotangent, the projections, the grouped matrix and the scale. -/
theorem reals (m : (ℓ : Loc Cert.Kernel3Ideal.nD Cert.Kernel3Ideal.τ Cert.Kernel3Ideal.sig) → Buf (Elt Ideal) ℓ)
    (h : Cert.Pre_Kernel3Ideal_finite_pool m) (c : Dev Cert.Kernel3Ideal.nD) :
    ∃ (Y : Fin 4096 → Fin 512 → ℝ) (X : Fin 4096 → Fin 1024 → ℝ) (M : Fin 4 → Fin 128 → Fin 128 → ℝ) (S : Fin 512 → ℝ),
      (∀ t l, m ((c : Thread Cert.Kernel3Ideal.nD Cert.Kernel3Ideal.τ).loc Cert.Kernel3Ideal.main_arg0) (ix2 t l) = (Y t l : EReal))
      ∧ (∀ t k, m ((c : Thread Cert.Kernel3Ideal.nD Cert.Kernel3Ideal.τ).loc Cert.Kernel3Ideal.main_arg1) (ix2 t k) = (X t k : EReal))
      ∧ (∀ g a d, m ((c : Thread Cert.Kernel3Ideal.nD Cert.Kernel3Ideal.τ).loc Cert.Kernel3Ideal.main_arg2) (ix3 g a d) = (M g a d : EReal))
      ∧ (∀ z l, m ((c : Thread Cert.Kernel3Ideal.nD Cert.Kernel3Ideal.τ).loc Cert.Kernel3Ideal.main_arg3) (ix2 z l) = (S l : EReal)) := by
  obtain ⟨h0, h1, h2, h3⟩ := h c
  refine ⟨_, _, _, fun l => (m ((c : Thread Cert.Kernel3Ideal.nD Cert.Kernel3Ideal.τ).loc Cert.Kernel3Ideal.main_arg3) (ix2 0 l)).toReal,
    fun i k => (real_of_lt (congrFun h0 (ix2 i k))).symm, fun i k => (real_of_lt (congrFun h1 (ix2 i k))).symm,
    fun g a d => (real_of_lt (congrFun h2 (ix3 g a d))).symm, fun z l => ?_⟩
  obtain rfl : z = 0 := Subsingleton.elim _ _
  exact (real_of_lt (congrFun h3 (ix2 0 l))).symm

theorem algebraic : Cert.algebraic_Kernel3Ideal_Reference3Ideal_pre_finite_pool := by
  intro m ρ m' ρ' hp heq
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    fun c => (Cert.Kernel3Ideal.Gen.dats m 0 c).arrAt 8 Cert.Kernel3Ideal.cfg0.N, Cert.Kernel3Ideal.Value.run_blocks m ρ, ?_⟩
  refine (θ_run Cert.Reference3Ideal.defs _ _).mono (fun r h c => ?_) (Cert.Reference3Ideal.Value.run m' ρ')
  obtain ⟨hv0, hv1, hv2, ha0, ha1, ha2, ha3⟩ := h c
  obtain ⟨e0, e1, e2, e3⟩ := heq c
  obtain ⟨Y, X, M, S, hy, hx, hw, hs⟩ := reals m hp c
  refine ⟨(hv0.trans (Cert.Reference3Ideal.Read.val_main_v166_eq (StableHlo.launchContents m' c))).trans (Eq.trans ?_ (final6 m Y X M S c hy hx hw hs).symm),
    (hv1.trans (Cert.Reference3Ideal.Read.val_main_v94_eq (StableHlo.launchContents m' c))).trans (Eq.trans ?_ (final7 m Y X M S c hy hx hw hs).symm),
    (hv2.trans (Cert.Reference3Ideal.Read.val_main_v86_eq (StableHlo.launchContents m' c))).trans (Eq.trans ?_ (final8 m Y X M S c hy hx hw hs).symm), ha0, ha1, ha2, ha3⟩
  · rw [(show StableHlo.launchContents m' c (Proc.devRef .tc Cert.Reference3Ideal.main_arg0) = m ((c : Thread Cert.Kernel3Ideal.nD Cert.Kernel3Ideal.τ).loc Cert.Kernel3Ideal.main_arg0) from e0), (show StableHlo.launchContents m' c (Proc.devRef .tc Cert.Reference3Ideal.main_arg2) = m ((c : Thread Cert.Kernel3Ideal.nD Cert.Kernel3Ideal.τ).loc Cert.Kernel3Ideal.main_arg2) from e2), (show StableHlo.launchContents m' c (Proc.devRef .tc Cert.Reference3Ideal.main_arg3) = m ((c : Thread Cert.Kernel3Ideal.nD Cert.Kernel3Ideal.τ).loc Cert.Kernel3Ideal.main_arg3) from e3)]
    funext j
    idx_vars j
    obtain ⟨g, a, rfl⟩ : ∃ g a, j1 = lane g a := ⟨grp j1, col j1, (lane_grp j1).symm⟩
    exact (Ref.r166 _ _ _ Y M S hy hs hw j0 g a).trans (congrArg (fun r : ℝ => (r : EReal)) (dpv_eq Y S M g a j0.val).symm)
  · rw [(show StableHlo.launchContents m' c (Proc.devRef .tc Cert.Reference3Ideal.main_arg0) = m ((c : Thread Cert.Kernel3Ideal.nD Cert.Kernel3Ideal.τ).loc Cert.Kernel3Ideal.main_arg0) from e0), (show StableHlo.launchContents m' c (Proc.devRef .tc Cert.Reference3Ideal.main_arg1) = m ((c : Thread Cert.Kernel3Ideal.nD Cert.Kernel3Ideal.τ).loc Cert.Kernel3Ideal.main_arg1) from e1), (show StableHlo.launchContents m' c (Proc.devRef .tc Cert.Reference3Ideal.main_arg3) = m ((c : Thread Cert.Kernel3Ideal.nD Cert.Kernel3Ideal.τ).loc Cert.Kernel3Ideal.main_arg3) from e3)]
    funext j
    idx_vars j
    exact (Ref.r94 _ _ _ Y X S hx hy hs j0 j1 j2).trans (congrArg (fun r : ℝ => (r : EReal)) (dwv_eq Y (half X) S j0 j1 j2).symm)
  · rw [(show StableHlo.launchContents m' c (Proc.devRef .tc Cert.Reference3Ideal.main_arg0) = m ((c : Thread Cert.Kernel3Ideal.nD Cert.Kernel3Ideal.τ).loc Cert.Kernel3Ideal.main_arg0) from e0), (show StableHlo.launchContents m' c (Proc.devRef .tc Cert.Reference3Ideal.main_arg1) = m ((c : Thread Cert.Kernel3Ideal.nD Cert.Kernel3Ideal.τ).loc Cert.Kernel3Ideal.main_arg1) from e1), (show StableHlo.launchContents m' c (Proc.devRef .tc Cert.Reference3Ideal.main_arg2) = m ((c : Thread Cert.Kernel3Ideal.nD Cert.Kernel3Ideal.τ).loc Cert.Kernel3Ideal.main_arg2) from e2)]
    funext j
    idx_vars j
    obtain ⟨g, d, rfl⟩ : ∃ g d, j1 = lane g d := ⟨grp j1, col j1, (lane_grp j1).symm⟩
    exact (Ref.r86 _ _ _ Y X M hx hw hy j0 g d).trans (congrArg (fun r : ℝ => (r : EReal)) (dscv_eq Y (half X) M g d).symm)

end Cert.Pool
-- ==== Proof.Sigmoid.lean ====
/-
  The logistic function on the extended reals, and that half a hyperbolic tangent and a half is it.
-/
module

public import Idealize.ShloMosaic.Lib.Pipeline.ValueKit
public import proofs.«01_k».proof.Proof.Reals
public import Mathlib.Tactic.FieldSimp
public import Mathlib.Tactic.Ring
public import Mathlib.Tactic.Positivity

@[expose] public section

noncomputable section

namespace Cert.Sigmoid

open Idealize.ShloMosaic

/-- The logistic function. -/
def sg (x : EReal) : EReal := Ideal.div 1 (1 + Ideal.exp (-x))

/-- The logistic function of a real number. -/
def sig (x : ℝ) : ℝ := 1 / (1 + Real.exp (-x))

theorem half_word : Ideal.ofBits .f32 0x3F000000#32 = ((1 / 2 : ℝ) : EReal) := by
  simp [Ideal.ofBits, Ideal.ieee, -EReal.coe_mul]; norm_num

theorem sg_coe (x : ℝ) : sg x = (sig x : EReal) := by
  have h : (1 : ℝ) + Real.exp (-x) ≠ 0 := by positivity
  rw [sg, ← EReal.coe_neg, Ideal.exp_coe, ← EReal.coe_one, ← EReal.coe_add, Cert.Reals.div_coe_coe h]
  rfl

theorem sig_tanh (x : ℝ) : 1 / 2 * Real.tanh (1 / 2 * x) + 1 / 2 = sig x := by
  have h : Real.exp (-x) = Real.exp (-(1 / 2 * x)) * Real.exp (-(1 / 2 * x)) := by
    rw [← Real.exp_add]
    ring_nf
  have h1 : Real.exp (1 / 2 * x) * Real.exp (-(1 / 2 * x)) = 1 := by
    rw [← Real.exp_add, add_neg_cancel, Real.exp_zero]
  have ha := Real.exp_pos (1 / 2 * x)
  have hb := Real.exp_pos (-(1 / 2 * x))
  rw [sig, h, Real.tanh_eq_sinh_div_cosh, Real.sinh_eq, Real.cosh_eq]
  generalize Real.exp (1 / 2 * x) = a at *
  generalize Real.exp (-(1 / 2 * x)) = b at *
  have h2 : a + b ≠ 0 := by positivity
  have h3 : 1 + b * b ≠ 0 := by positivity
  rw [eq_div_iff h3]
  field_simp
  linear_combination (2 * b) * h1

theorem sg_tanh (x : EReal) : ((1 / 2 : ℝ) : EReal) * Ideal.tanh (((1 / 2 : ℝ) : EReal) * x) + ((1 / 2 : ℝ) : EReal) = sg x := by
  induction x with
  | coe x => rw [← EReal.coe_mul, Ideal.tanh_coe, ← EReal.coe_mul, ← EReal.coe_add, sig_tanh, sg_coe]
  | top =>
    rw [EReal.coe_mul_top_of_pos (by positivity), Ideal.tanh_top, sg, EReal.neg_top, Ideal.exp_bot, add_zero, mul_one, ← EReal.coe_add, ← EReal.coe_one,
      Cert.Reals.div_coe_coe one_ne_zero]
    norm_num
  | bot =>
    rw [EReal.coe_mul_bot_of_pos (by positivity), Ideal.tanh_bot, sg, EReal.neg_bot, Ideal.exp_top]
    have h : (1 : EReal) + ⊤ = ⊤ := by rw [← EReal.coe_one]; exact EReal.coe_add_top 1
    rw [h, Ideal.div, if_neg (by decide), EReal.inv_top, mul_zero, show (-1 : EReal) = ((-1 : ℝ) : EReal) from rfl, ← EReal.coe_mul, ← EReal.coe_add]
    norm_num

end Cert.Sigmoid
-- ==== Proof.MixTailKernel.lean ====
module

public import proofs.«01_k».proof.Proof.Sigmoid
public import proofs.«01_k».proof.Proof.Gen.Kernel5Ideal.Frame
public import Idealize.ShloMosaic.Lib.Pipeline.ValueKit

/-!
# What one tile of the mixer's gated sum gradient stores

Everything holds of every extended real: no argument need be finite.
-/

@[expose] public section

set_option maxRecDepth 16384

noncomputable section

open Idealize.ShloMosaic Idealize.ShloMosaic.TcCoe Idealize.SL.Sem

namespace Cert.MixTail

open Cert.Kernel5Ideal Cert.Kernel5Ideal.Gen Cert.Sigmoid

/-- A gate's column: three gates of 1024 columns lie side by side. -/
def gcol (g : Fin 3) (k : Fin 1024) : Fin 3072 := ⟨1024 * g.val + k.val, by omega⟩

theorem gcol0 (x : Fin 1024) (h : x.val < 3072) : (⟨x.val, h⟩ : Fin 3072) = gcol 0 x := Fin.ext (Nat.zero_add _).symm
theorem gcol1 (x : Fin 1024) (h : 1024 + x.val < 3072) : (⟨1024 + x.val, h⟩ : Fin 3072) = gcol 1 x := Fin.ext rfl
theorem gcol2 (x : Fin 1024) (h : 2048 + x.val < 3072) : (⟨2048 + x.val, h⟩ : Fin 3072) = gcol 2 x := Fin.ext rfl

/-- The cotangent of the gated sum: the output's cotangent against a row of the output weight. -/
def dmix (dy : Fin 1024 → EReal) (wo : Fin 1024 → Fin 1024 → EReal) (k : Fin 1024) : EReal := ∑ l, dy l * wo k l

/-- The cotangent of one branch's projection. -/
def dproj (dy : Fin 1024 → EReal) (wo : Fin 1024 → Fin 1024 → EReal) (g : EReal) (k : Fin 1024) : EReal := dmix dy wo k * sg g

/-- The gradient of one gate before its logistic function. -/
def dgate (dy : Fin 1024 → EReal) (wo : Fin 1024 → Fin 1024 → EReal) (g y : EReal) (k : Fin 1024) : EReal :=
  dmix dy wo k * y * sg g * (1 - sg g)

/-- The gradient of one branch. -/
def dbranch (dy : Fin 1024 → EReal) (wo : Fin 1024 → Fin 1024 → EReal) (g w : Fin 1024 → EReal) : EReal :=
  ∑ k, dproj dy wo (g k) k * w k

section blocks

variable (x0 : Vec Ideal S512x1024 .bf16) (x1 : Vec Ideal S512x3072 .bf16) (x2 : Vec Ideal S512x1024 .bf16) (x3 : Vec Ideal S512x1024 .bf16)
  (x4 : Vec Ideal S512x1024 .bf16) (x5 : Vec Ideal S1024x1024 .bf16) (x6 : Vec Ideal S512x1024 .bf16) (x7 : Vec Ideal S512x1024 .bf16) (x8 : Vec Ideal S1024x1024 .bf16)

/-- A row of the output's cotangent. -/
def dyr (r : Fin 512) (l : Fin 1024) : EReal := x0 (ix2 r l)
/-- The output weight. -/
def wor (k l : Fin 1024) : EReal := x8 (ix2 k l)

theorem piece9_10 (z : S256x1024.Idx) (r : Fin 512) (k : Fin 1024) (e0 : r.val = 256 + (z 0).val) (e1 : k.val = (z 1).val) :
    k0_pay18 (k0_pay31 x0 x1 x2 x3 x4 x5 x6 x7 x8) (k0_pay32 x0 x1 x2 x3 x4 x5 x6 x7 x8) z = dproj (dyr x0 r) (wor x8) (x1 (ix2 r (gcol 0 k))) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay18, k0_pay31, k0_pay32, k0_pay16, k0_pay17]
  simp only [l0, gcol0, half_word, sg_tanh]
  rfl

theorem piece9_00 (z : S256x1024.Idx) (r : Fin 512) (k : Fin 1024) (e0 : r.val = (z 0).val) (e1 : k.val = (z 1).val) :
    k0_pay4 (View.ld x0 r0_0) x8 (View.ld x1 r0_2) z = dproj (dyr x0 r) (wor x8) (x1 (ix2 r (gcol 0 k))) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay4, k0_pay2, k0_pay3]
  simp only [l0, gcol0, half_word, sg_tanh]
  rfl

theorem piece10_11 (z : S256x1024.Idx) (r : Fin 512) (k : Fin 1024) (e0 : r.val = 256 + (z 0).val) (e1 : k.val = (z 1).val) :
    k0_pay22 (k0_pay31 x0 x1 x2 x3 x4 x5 x6 x7 x8) (View.ld x1 r0_9) z = dproj (dyr x0 r) (wor x8) (x1 (ix2 r (gcol 1 k))) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay22, k0_pay31, k0_pay16, k0_pay21]
  simp only [l0, gcol1, half_word, sg_tanh]
  rfl

theorem piece10_01 (z : S256x1024.Idx) (r : Fin 512) (k : Fin 1024) (e0 : r.val = (z 0).val) (e1 : k.val = (z 1).val) :
    k0_pay8 (k0_pay29 x0 x1 x2 x3 x4 x5 x6 x7 x8) (View.ld x1 r0_3) z = dproj (dyr x0 r) (wor x8) (x1 (ix2 r (gcol 1 k))) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay8, k0_pay29, k0_pay2, k0_pay7]
  simp only [l0, gcol1, half_word, sg_tanh]
  rfl

theorem piece11_12 (z : S256x1024.Idx) (r : Fin 512) (k : Fin 1024) (e0 : r.val = 256 + (z 0).val) (e1 : k.val = (z 1).val) :
    k0_pay27 (k0_pay31 x0 x1 x2 x3 x4 x5 x6 x7 x8) (View.ld x1 r0_11) z = dproj (dyr x0 r) (wor x8) (x1 (ix2 r (gcol 2 k))) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay27, k0_pay31, k0_pay16, k0_pay26]
  simp only [l0, gcol2, half_word, sg_tanh]
  rfl

theorem piece11_02 (z : S256x1024.Idx) (r : Fin 512) (k : Fin 1024) (e0 : r.val = (z 0).val) (e1 : k.val = (z 1).val) :
    k0_pay13 (k0_pay29 x0 x1 x2 x3 x4 x5 x6 x7 x8) (k0_pay30 x0 x1 x2 x3 x4 x5 x6 x7 x8) (Ideal.ofBits .f32 0x3F000000#32) z = dproj (dyr x0 r) (wor x8) (x1 (ix2 r (gcol 2 k))) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay13, k0_pay29, k0_pay30, k0_pay2, k0_pay11, k0_pay12]
  simp only [l0, gcol2, half_word, sg_tanh]
  rfl

theorem piece12_12 (z : S256x1024.Idx) (r : Fin 512) (k : Fin 1024) (e0 : r.val = 256 + (z 0).val) (e1 : k.val = (z 1).val) :
    k0_pay28 (k0_pay31 x0 x1 x2 x3 x4 x5 x6 x7 x8) (View.ld x1 r0_11) (View.ld x4 r0_7) z = dgate (dyr x0 r) (wor x8) (x1 (ix2 r (gcol 2 k))) (x4 (ix2 r k)) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay28, k0_pay31, k0_pay16, k0_pay26]
  simp only [l0, gcol2, half_word, sg_tanh]
  rfl

theorem piece12_11 (z : S256x1024.Idx) (r : Fin 512) (k : Fin 1024) (e0 : r.val = 256 + (z 0).val) (e1 : k.val = (z 1).val) :
    k0_pay24 (k0_pay21 (View.ld x1 r0_9)) (k0_pay23 (k0_pay31 x0 x1 x2 x3 x4 x5 x6 x7 x8) (View.ld x3 r0_7)) z = dgate (dyr x0 r) (wor x8) (x1 (ix2 r (gcol 1 k))) (x3 (ix2 r k)) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay24, k0_pay21, k0_pay23, k0_pay31, k0_pay16]
  simp only [l0, gcol1, half_word, sg_tanh]
  rfl

theorem piece12_10 (z : S256x1024.Idx) (r : Fin 512) (k : Fin 1024) (e0 : r.val = 256 + (z 0).val) (e1 : k.val = (z 1).val) :
    k0_pay19 (k0_pay31 x0 x1 x2 x3 x4 x5 x6 x7 x8) (k0_pay32 x0 x1 x2 x3 x4 x5 x6 x7 x8) (View.ld x2 r0_7) z = dgate (dyr x0 r) (wor x8) (x1 (ix2 r (gcol 0 k))) (x2 (ix2 r k)) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay19, k0_pay31, k0_pay32, k0_pay16, k0_pay17]
  simp only [l0, gcol0, half_word, sg_tanh]
  rfl

theorem piece12_02 (z : S256x1024.Idx) (r : Fin 512) (k : Fin 1024) (e0 : r.val = (z 0).val) (e1 : k.val = (z 1).val) :
    k0_pay14 (k0_pay29 x0 x1 x2 x3 x4 x5 x6 x7 x8) (k0_pay30 x0 x1 x2 x3 x4 x5 x6 x7 x8) (Ideal.ofBits .f32 0x3F000000#32) (View.ld x4 r0_0) z = dgate (dyr x0 r) (wor x8) (x1 (ix2 r (gcol 2 k))) (x4 (ix2 r k)) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay14, k0_pay29, k0_pay30, k0_pay2, k0_pay11, k0_pay12]
  simp only [l0, gcol2, half_word, sg_tanh]
  rfl

theorem piece12_01 (z : S256x1024.Idx) (r : Fin 512) (k : Fin 1024) (e0 : r.val = (z 0).val) (e1 : k.val = (z 1).val) :
    k0_pay9 (k0_pay29 x0 x1 x2 x3 x4 x5 x6 x7 x8) (View.ld x1 r0_3) (View.ld x3 r0_0) z = dgate (dyr x0 r) (wor x8) (x1 (ix2 r (gcol 1 k))) (x3 (ix2 r k)) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay9, k0_pay29, k0_pay2, k0_pay7]
  simp only [l0, gcol1, half_word, sg_tanh]
  rfl

theorem piece12_00 (z : S256x1024.Idx) (r : Fin 512) (k : Fin 1024) (e0 : r.val = (z 0).val) (e1 : k.val = (z 1).val) :
    k0_pay5 (View.ld x0 r0_0) x8 (View.ld x1 r0_2) (View.ld x2 r0_0) z = dgate (dyr x0 r) (wor x8) (x1 (ix2 r (gcol 0 k))) (x2 (ix2 r k)) k := by
  obtain ⟨i, k', rfl⟩ : ∃ (i : Fin 256) (k' : Fin 1024), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay5, k0_pay2, k0_pay3]
  simp only [l0, gcol0, half_word, sg_tanh]
  rfl

theorem piece13_10 (z : S256x1024.Idx) (r : Fin 512) (k : Fin 1024) (e0 : r.val = 256 + (z 0).val) (e1 : k.val = (z 1).val) :
    k0_pay20 (k0_pay31 x0 x1 x2 x3 x4 x5 x6 x7 x8) (k0_pay32 x0 x1 x2 x3 x4 x5 x6 x7 x8) x5 z = dbranch (dyr x0 r) (wor x8) (fun l => x1 (ix2 r (gcol 0 l))) (fun l => x5 (ix2 k l)) := by
  obtain ⟨i, k', rfl⟩ : ∃ (i : Fin 256) (k' : Fin 1024), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay20, k0_pay31, k0_pay32, k0_pay16, k0_pay17, k0_pay18]
  simp only [l0, gcol0, half_word, sg_tanh]
  rfl

theorem piece13_00 (z : S256x1024.Idx) (r : Fin 512) (k : Fin 1024) (e0 : r.val = (z 0).val) (e1 : k.val = (z 1).val) :
    k0_pay6 (View.ld x0 r0_0) x8 (View.ld x1 r0_2) x5 z = dbranch (dyr x0 r) (wor x8) (fun l => x1 (ix2 r (gcol 0 l))) (fun l => x5 (ix2 k l)) := by
  obtain ⟨i, k', rfl⟩ : ∃ (i : Fin 256) (k' : Fin 1024), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay6, k0_pay4, k0_pay2, k0_pay3]
  simp only [l0, gcol0, half_word, sg_tanh]
  rfl

theorem piece14_11 (z : S256x512.Idx) (r : Fin 512) (k : Fin 512) (e0 : r.val = 256 + (z 0).val) (e1 : k.val = (z 1).val) :
    k0_pay25 (k0_pay22 (k0_pay31 x0 x1 x2 x3 x4 x5 x6 x7 x8) (View.ld x1 r0_9)) x6 z = dbranch (dyr x0 r) (wor x8) (fun l => x1 (ix2 r (gcol 1 l))) (fun l => x6 (ix2 k l)) := by
  obtain ⟨i, k', rfl⟩ : ∃ (i : Fin 256) (k' : Fin 512), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay25, k0_pay22, k0_pay31, k0_pay16, k0_pay21]
  simp only [l0, gcol1, half_word, sg_tanh]
  rfl

theorem piece14_01 (z : S256x512.Idx) (r : Fin 512) (k : Fin 512) (e0 : r.val = (z 0).val) (e1 : k.val = (z 1).val) :
    k0_pay10 (k0_pay29 x0 x1 x2 x3 x4 x5 x6 x7 x8) (View.ld x1 r0_3) x6 z = dbranch (dyr x0 r) (wor x8) (fun l => x1 (ix2 r (gcol 1 l))) (fun l => x6 (ix2 k l)) := by
  obtain ⟨i, k', rfl⟩ : ∃ (i : Fin 256) (k' : Fin 512), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay10, k0_pay8, k0_pay29, k0_pay2, k0_pay7]
  simp only [l0, gcol1, half_word, sg_tanh]
  rfl

theorem piece15_12 (z : S256x512.Idx) (r : Fin 512) (k : Fin 512) (e0 : r.val = 256 + (z 0).val) (e1 : k.val = (z 1).val) :
    k0_pay1 (k0_pay27 (k0_pay31 x0 x1 x2 x3 x4 x5 x6 x7 x8) (View.ld x1 r0_11)) x7 z = dbranch (dyr x0 r) (wor x8) (fun l => x1 (ix2 r (gcol 2 l))) (fun l => x7 (ix2 k l)) := by
  obtain ⟨i, k', rfl⟩ : ∃ (i : Fin 256) (k' : Fin 512), z = ix2 i k' := ⟨z 0, z 1, (by funext a; fin_cases a <;> rfl)⟩
  obtain rfl : k = k' := Fin.ext e1
  have e0' : r.val = 256 + i.val := e0
  have l0 : ∀ h, (⟨256 + i.val, h⟩ : Fin 512) = r := fun _ => Fin.ext e0'.symm
  pointwise [k0_pay1, k0_pay27, k0_pay31, k0_pay16, k0_pay26]
  simp only [l0, gcol2, half_word, sg_tanh]
  rfl

theorem piece15_02 (z : S256x512.Idx) (r : Fin 512) (k : Fin 512) (e0 : r.val = (z 0).val) (e1 : k.val = (z 1).val) :
    k0_pay15 (k0_pay29 x0 x1 x2 x3 x4 x5 x6 x7 x8) (k0_pay30 x0 x1 x2 x3 x4 x5 x6 x7 x8) (Ideal.ofBits .f32 0x3F000000#32) x7 z = dbranch (dyr x0 r) (wor x8) (fun l => x1 (ix2 r (gcol 2 l))) (fun l => x7 (ix2 k l)) := by
  obtain ⟨i, k', rfl⟩ : ∃ (i : Fin 256) (k' : Fin 512), z = ix2 i k' := ⟨z 0, z 1, (by funext a; fin_cases a <;> rfl)⟩
  obtain rfl : k = k' := Fin.ext e1
  have e0' : r.val = i.val := e0
  have l0 : ∀ h, (⟨i.val, h⟩ : Fin 512) = r := fun _ => Fin.ext e0'.symm
  pointwise [k0_pay15, k0_pay13, k0_pay12, k0_pay29, k0_pay30, k0_pay2, k0_pay11]
  simp only [l0, gcol2, half_word, sg_tanh]
  rfl

theorem block9 (y : S512x1024.Idx) (r : Fin 512) (k : Fin 1024) (hr : (y 0).val = r.val) (hk : (y 1).val = k.val) :
    out0_9 x0 x1 x2 x3 x4 x5 x6 x7 x8 y = dproj (dyr x0 r) (wor x8) (x1 (ix2 r (gcol 0 k))) k := by
  frame_out
  canon_tiles x h
  · exact piece9_10 x0 x1 x2 x3 x4 x5 x6 x7 x8 x r k (by omega) (by omega)
  · exact piece9_00 x0 x1 x8 x r k (by omega) (by omega)

theorem block10 (y : S512x1024.Idx) (r : Fin 512) (k : Fin 1024) (hr : (y 0).val = r.val) (hk : (y 1).val = k.val) :
    out0_10 x0 x1 x2 x3 x4 x5 x6 x7 x8 y = dproj (dyr x0 r) (wor x8) (x1 (ix2 r (gcol 1 k))) k := by
  frame_out
  canon_tiles x h
  · exact piece10_11 x0 x1 x2 x3 x4 x5 x6 x7 x8 x r k (by omega) (by omega)
  · exact piece10_01 x0 x1 x2 x3 x4 x5 x6 x7 x8 x r k (by omega) (by omega)

theorem block11 (y : S512x1024.Idx) (r : Fin 512) (k : Fin 1024) (hr : (y 0).val = r.val) (hk : (y 1).val = k.val) :
    out0_11 x0 x1 x2 x3 x4 x5 x6 x7 x8 y = dproj (dyr x0 r) (wor x8) (x1 (ix2 r (gcol 2 k))) k := by
  frame_out
  canon_tiles x h
  · exact piece11_12 x0 x1 x2 x3 x4 x5 x6 x7 x8 x r k (by omega) (by omega)
  · exact piece11_02 x0 x1 x2 x3 x4 x5 x6 x7 x8 x r k (by omega) (by omega)

theorem block12 (y : S512x3072.Idx) (r : Fin 512) (g : Fin 3) (k : Fin 1024) (hr : (y 0).val = r.val) (hk : (y 1).val = 1024 * g.val + k.val) :
    out0_12 x0 x1 x2 x3 x4 x5 x6 x7 x8 y = dgate (dyr x0 r) (wor x8) (x1 (ix2 r (gcol g k))) ((![x2, x3, x4] : Fin 3 → Vec Ideal S512x1024 .bf16) g (ix2 r k)) k := by
  frame_out
  canon_tiles x h
  · obtain rfl : g = 2 := by
      have := (x 1).isLt; have := k.isLt; apply Fin.ext; show g.val = 2; have h2 : (x 1).val < 1024 := (x 1).isLt; omega
    have h3 : k.val = (x 1).val := by
      have h4 : ((2 : Fin 3)).val = 2 := rfl
      omega
    exact piece12_12 x0 x1 x2 x3 x4 x5 x6 x7 x8 x r k (by omega) h3
  · obtain rfl : g = 1 := by
      have := (x 1).isLt; have := k.isLt; apply Fin.ext; show g.val = 1; have h2 : (x 1).val < 1024 := (x 1).isLt; omega
    have h3 : k.val = (x 1).val := by
      have h4 : ((1 : Fin 3)).val = 1 := rfl
      omega
    exact piece12_11 x0 x1 x2 x3 x4 x5 x6 x7 x8 x r k (by omega) h3
  · obtain rfl : g = 0 := by
      have := (x 1).isLt; have := k.isLt; apply Fin.ext; show g.val = 0; have h2 : (x 1).val < 1024 := (x 1).isLt; omega
    have h3 : k.val = (x 1).val := by
      have h4 : ((0 : Fin 3)).val = 0 := rfl
      omega
    exact piece12_10 x0 x1 x2 x3 x4 x5 x6 x7 x8 x r k (by omega) h3
  · obtain rfl : g = 2 := by
      have := (x 1).isLt; have := k.isLt; apply Fin.ext; show g.val = 2; have h2 : (x 1).val < 1024 := (x 1).isLt; omega
    have h3 : k.val = (x 1).val := by
      have h4 : ((2 : Fin 3)).val = 2 := rfl
      omega
    exact piece12_02 x0 x1 x2 x3 x4 x5 x6 x7 x8 x r k (by omega) h3
  · obtain rfl : g = 1 := by
      have := (x 1).isLt; have := k.isLt; apply Fin.ext; show g.val = 1; have h2 : (x 1).val < 1024 := (x 1).isLt; omega
    have h3 : k.val = (x 1).val := by
      have h4 : ((1 : Fin 3)).val = 1 := rfl
      omega
    exact piece12_01 x0 x1 x2 x3 x4 x5 x6 x7 x8 x r k (by omega) h3
  · obtain rfl : g = 0 := by
      have := (x 1).isLt; have := k.isLt; apply Fin.ext; show g.val = 0; have h2 : (x 1).val < 1024 := (x 1).isLt; omega
    have h3 : k.val = (x 1).val := by
      have h4 : ((0 : Fin 3)).val = 0 := rfl
      omega
    exact piece12_00 x0 x1 x2 x8 x r k (by omega) h3

theorem block13 (y : S512x1024.Idx) (r : Fin 512) (k : Fin 1024) (hr : (y 0).val = r.val) (hk : (y 1).val = k.val) :
    out0_13 x0 x1 x2 x3 x4 x5 x6 x7 x8 y = dbranch (dyr x0 r) (wor x8) (fun l => x1 (ix2 r (gcol 0 l))) (fun l => x5 (ix2 k l)) := by
  frame_out
  canon_tiles x h
  · exact piece13_10 x0 x1 x2 x3 x4 x5 x6 x7 x8 x r k (by omega) (by omega)
  · exact piece13_00 x0 x1 x5 x8 x r k (by omega) (by omega)

theorem block14 (y : S512x512.Idx) (r : Fin 512) (k : Fin 512) (hr : (y 0).val = r.val) (hk : (y 1).val = k.val) :
    out0_14 x0 x1 x2 x3 x4 x5 x6 x7 x8 y = dbranch (dyr x0 r) (wor x8) (fun l => x1 (ix2 r (gcol 1 l))) (fun l => x6 (ix2 k l)) := by
  frame_out
  canon_tiles x h
  · exact piece14_11 x0 x1 x2 x3 x4 x5 x6 x7 x8 x r k (by omega) (by omega)
  · exact piece14_01 x0 x1 x2 x3 x4 x5 x6 x7 x8 x r k (by omega) (by omega)

theorem block15 (y : S512x512.Idx) (r : Fin 512) (k : Fin 512) (hr : (y 0).val = r.val) (hk : (y 1).val = k.val) :
    out0_15 x0 x1 x2 x3 x4 x5 x6 x7 x8 y = dbranch (dyr x0 r) (wor x8) (fun l => x1 (ix2 r (gcol 2 l))) (fun l => x7 (ix2 k l)) := by
  frame_out
  canon_tiles x h
  · exact piece15_12 x0 x1 x2 x3 x4 x5 x6 x7 x8 x r k (by omega) (by omega)
  · exact piece15_02 x0 x1 x2 x3 x4 x5 x6 x7 x8 x r k (by omega) (by omega)

end blocks

end Cert.MixTail
-- ==== Proof.MixTailArrays.lean ====
module

public import proofs.«01_k».proof.Proof.MixTailKernel
public import Idealize.ShloMosaic.Lib.Pipeline.ReadBack

/-! What the mixer's gated sum gradient leaves in its seven results. -/

@[expose] public section

set_option maxRecDepth 16384

noncomputable section

namespace Cert.MixTail

open Cert.Kernel5Ideal Cert.Kernel5Ideal.Gen Cert.Sigmoid
open Idealize.ShloMosaic Idealize.ShloMosaic.TcCoe Idealize.SL.Sem
open Idealize.ShloMosaic.Pipeline (Dat)

/-- A branch's projection: its rows against its weight. -/
def proj {n : ℕ} (A : Fin 4096 → Fin n → EReal) (W : Fin n → Fin 1024 → EReal) (i : Fin 4096) (k : Fin 1024) : EReal := ∑ l, A i l * W l k

/-- The gate of a column of the three side by side, and its place in it. -/
def gateOf (l : Fin 3072) : Fin 3 := ⟨l.val / 1024, by omega⟩
def placeOf (l : Fin 3072) : Fin 1024 := ⟨l.val % 1024, Nat.mod_lt _ (by decide)⟩

theorem gcol_of (l : Fin 3072) : gcol (gateOf l) (placeOf l) = l := Fin.ext (by show 1024 * (l.val / 1024) + l.val % 1024 = l.val; omega)
theorem gateOf_gcol (g : Fin 3) (k : Fin 1024) : gateOf (gcol g k) = g := Fin.ext (by show (1024 * g.val + k.val) / 1024 = g.val; omega)
theorem placeOf_gcol (g : Fin 3) (k : Fin 1024) : placeOf (gcol g k) = k := Fin.ext (by show (1024 * g.val + k.val) % 1024 = k.val; omega)

section results

variable (DY : Fin 4096 → Fin 1024 → EReal) (G : Fin 4096 → Fin 3072 → EReal) (WO : Fin 1024 → Fin 1024 → EReal)

/-- The cotangents of the three projections. -/
def dprojAll (g : Fin 3) (i : Fin 4096) (k : Fin 1024) : EReal := dproj (DY i) WO (G i (gcol g k)) k
/-- The gates' gradient, the three side by side. -/
def dgateAll (Y : Fin 3 → Fin 4096 → Fin 1024 → EReal) (i : Fin 4096) (l : Fin 3072) : EReal :=
  dgate (DY i) WO (G i (gcol (gateOf l) (placeOf l))) (Y (gateOf l) i (placeOf l)) (placeOf l)
/-- The branches' gradients. -/
def dbranchAll {n : ℕ} (W : Fin n → Fin 1024 → EReal) (g : Fin 3) (i : Fin 4096) (d : Fin n) : EReal := dbranch (DY i) WO (fun l => G i (gcol g l)) (W d)

end results

/-- Row `r` of row tile `t`. -/
def trow (t : Fin cfg0.N) (r : Fin 512) : Fin 4096 := ⟨512 * t.val + r.val, by have := lt_of_lt_of_eq t.isLt N_0; omega⟩

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

theorem blk0 (c : Dev nD) (t : Fin cfg0.N) (i : Fin 512) (k : Fin 1024) : iblk m c 0 t (ix2 i k) = m ((c : Thread nD τ).loc main_arg0) (ix2 (trow t i) k) := by
  have h := idx t
  have ht : (trow t i).val = 512 * t.val + i.val := rfl
  rw [iblk]
  entry_read
  blk_point [h, ht]

theorem blk1 (c : Dev nD) (t : Fin cfg0.N) (i : Fin 512) (k : Fin 3072) : iblk m c 1 t (ix2 i k) = m ((c : Thread nD τ).loc main_arg1) (ix2 (trow t i) k) := by
  have h := idx t
  have ht : (trow t i).val = 512 * t.val + i.val := rfl
  rw [iblk]
  entry_read
  blk_point [h, ht]

theorem blk2 (c : Dev nD) (t : Fin cfg0.N) (i : Fin 512) (k : Fin 1024) : iblk m c 2 t (ix2 i k) = proj (n := 1024) (fun i l => m ((c : Thread nD τ).loc main_arg2) (ix2 i l)) (fun l k => m ((c : Thread nD τ).loc main_arg5) (ix2 l k)) (trow t i) k := by
  have h := idx t
  rw [iblk]
  entry_read
  have e : (win0_2.blk t).view.emb (ix2 i k) = ix2 (trow t i) k := by
    funext a
    fin_cases a
    · apply Fin.ext
      blk_simp [h]
      show t.val * 512 + i.val = 512 * t.val + i.val
      omega
    · apply Fin.ext
      blk_simp [h]
      rfl
  blk_simp [h]
  rw [e]
  pointwise []
  rfl

theorem blk3 (c : Dev nD) (t : Fin cfg0.N) (i : Fin 512) (k : Fin 1024) : iblk m c 3 t (ix2 i k) = proj (n := 512) (fun i l => m ((c : Thread nD τ).loc main_arg3) (ix2 i l)) (fun l k => m ((c : Thread nD τ).loc main_arg6) (ix2 l k)) (trow t i) k := by
  have h := idx t
  rw [iblk]
  entry_read
  have e : (win0_3.blk t).view.emb (ix2 i k) = ix2 (trow t i) k := by
    funext a
    fin_cases a
    · apply Fin.ext
      blk_simp [h]
      show t.val * 512 + i.val = 512 * t.val + i.val
      omega
    · apply Fin.ext
      blk_simp [h]
      rfl
  blk_simp [h]
  rw [e]
  pointwise []
  rfl

theorem blk4 (c : Dev nD) (t : Fin cfg0.N) (i : Fin 512) (k : Fin 1024) : iblk m c 4 t (ix2 i k) = proj (n := 512) (fun i l => m ((c : Thread nD τ).loc main_arg4) (ix2 i l)) (fun l k => m ((c : Thread nD τ).loc main_arg7) (ix2 l k)) (trow t i) k := by
  have h := idx t
  rw [iblk]
  entry_read
  have e : (win0_4.blk t).view.emb (ix2 i k) = ix2 (trow t i) k := by
    funext a
    fin_cases a
    · apply Fin.ext
      blk_simp [h]
      show t.val * 512 + i.val = 512 * t.val + i.val
      omega
    · apply Fin.ext
      blk_simp [h]
      rfl
  blk_simp [h]
  rw [e]
  pointwise []
  rfl

theorem blk5 (c : Dev nD) (t : Fin cfg0.N) (i : Fin 1024) (k : Fin 1024) : iblk m c 5 t (ix2 i k) = m ((c : Thread nD τ).loc main_arg5) (ix2 i k) := by
  have h := idx t
  rw [iblk]
  entry_read
  blk_point [h]

theorem blk6 (c : Dev nD) (t : Fin cfg0.N) (i : Fin 512) (k : Fin 1024) : iblk m c 6 t (ix2 i k) = m ((c : Thread nD τ).loc main_arg6) (ix2 i k) := by
  have h := idx t
  rw [iblk]
  entry_read
  blk_point [h]

theorem blk7 (c : Dev nD) (t : Fin cfg0.N) (i : Fin 512) (k : Fin 1024) : iblk m c 7 t (ix2 i k) = m ((c : Thread nD τ).loc main_arg7) (ix2 i k) := by
  have h := idx t
  rw [iblk]
  entry_read
  blk_point [h]

theorem blk8 (c : Dev nD) (t : Fin cfg0.N) (i : Fin 1024) (k : Fin 1024) : iblk m c 8 t (ix2 i k) = m ((c : Thread nD τ).loc main_arg8) (ix2 i k) := by
  have h := idx t
  rw [iblk]
  entry_read
  blk_point [h]

theorem block_at9 (c : Dev nD) (t : Fin cfg0.N) (y0 : Fin 512) (y1 : Fin 1024) :
    out0_9 (iblk m c 0 t) (iblk m c 1 t) (iblk m c 2 t) (iblk m c 3 t) (iblk m c 4 t) (iblk m c 5 t) (iblk m c 6 t) (iblk m c 7 t) (iblk m c 8 t) (ix2 y0 y1) = dprojAll (fun i l => m ((c : Thread nD τ).loc main_arg0) (ix2 i l)) (fun i l => m ((c : Thread nD τ).loc main_arg1) (ix2 i l)) (fun k l => m ((c : Thread nD τ).loc main_arg8) (ix2 k l)) 0 (trow t y0) y1 := by
  rw [block9 (iblk m c 0 t) (iblk m c 1 t) (iblk m c 2 t) (iblk m c 3 t) (iblk m c 4 t) (iblk m c 5 t) (iblk m c 6 t) (iblk m c 7 t) (iblk m c 8 t) (ix2 y0 y1) y0 y1 rfl rfl]
  simp only [dproj, dmix, dyr, wor, blk0, blk1, blk8, dprojAll]

theorem final9 (c : Dev nD) : (dats m 0 c).arrAt 9 cfg0.N = fun j => dprojAll (fun i l => m ((c : Thread nD τ).loc main_arg0) (ix2 i l)) (fun i l => m ((c : Thread nD τ).loc main_arg1) (ix2 i l)) (fun k l => m ((c : Thread nD τ).loc main_arg8) (ix2 k l)) 0 (j 0) (j 1) := by
  refine (dats m 0 c).arrAt_eq_of_covers 9 _ (by decide +kernel) fun t hf y => ?_
  have h := idx t
  blk_simp
  rw [after0_9]
  idx_vars y
  rw [block_at9 m c t y0 y1]
  congr 1 <;> (apply Fin.ext; blk_simp [h, trow] <;> try (dsimp only; omega))

theorem block_at10 (c : Dev nD) (t : Fin cfg0.N) (y0 : Fin 512) (y1 : Fin 1024) :
    out0_10 (iblk m c 0 t) (iblk m c 1 t) (iblk m c 2 t) (iblk m c 3 t) (iblk m c 4 t) (iblk m c 5 t) (iblk m c 6 t) (iblk m c 7 t) (iblk m c 8 t) (ix2 y0 y1) = dprojAll (fun i l => m ((c : Thread nD τ).loc main_arg0) (ix2 i l)) (fun i l => m ((c : Thread nD τ).loc main_arg1) (ix2 i l)) (fun k l => m ((c : Thread nD τ).loc main_arg8) (ix2 k l)) 1 (trow t y0) y1 := by
  rw [block10 (iblk m c 0 t) (iblk m c 1 t) (iblk m c 2 t) (iblk m c 3 t) (iblk m c 4 t) (iblk m c 5 t) (iblk m c 6 t) (iblk m c 7 t) (iblk m c 8 t) (ix2 y0 y1) y0 y1 rfl rfl]
  simp only [dproj, dmix, dyr, wor, blk0, blk1, blk8, dprojAll]

theorem final10 (c : Dev nD) : (dats m 0 c).arrAt 10 cfg0.N = fun j => dprojAll (fun i l => m ((c : Thread nD τ).loc main_arg0) (ix2 i l)) (fun i l => m ((c : Thread nD τ).loc main_arg1) (ix2 i l)) (fun k l => m ((c : Thread nD τ).loc main_arg8) (ix2 k l)) 1 (j 0) (j 1) := by
  refine (dats m 0 c).arrAt_eq_of_covers 10 _ (by decide +kernel) fun t hf y => ?_
  have h := idx t
  blk_simp
  rw [after0_10]
  idx_vars y
  rw [block_at10 m c t y0 y1]
  congr 1 <;> (apply Fin.ext; blk_simp [h, trow] <;> try (dsimp only; omega))

theorem block_at11 (c : Dev nD) (t : Fin cfg0.N) (y0 : Fin 512) (y1 : Fin 1024) :
    out0_11 (iblk m c 0 t) (iblk m c 1 t) (iblk m c 2 t) (iblk m c 3 t) (iblk m c 4 t) (iblk m c 5 t) (iblk m c 6 t) (iblk m c 7 t) (iblk m c 8 t) (ix2 y0 y1) = dprojAll (fun i l => m ((c : Thread nD τ).loc main_arg0) (ix2 i l)) (fun i l => m ((c : Thread nD τ).loc main_arg1) (ix2 i l)) (fun k l => m ((c : Thread nD τ).loc main_arg8) (ix2 k l)) 2 (trow t y0) y1 := by
  rw [block11 (iblk m c 0 t) (iblk m c 1 t) (iblk m c 2 t) (iblk m c 3 t) (iblk m c 4 t) (iblk m c 5 t) (iblk m c 6 t) (iblk m c 7 t) (iblk m c 8 t) (ix2 y0 y1) y0 y1 rfl rfl]
  simp only [dproj, dmix, dyr, wor, blk0, blk1, blk8, dprojAll]

theorem final11 (c : Dev nD) : (dats m 0 c).arrAt 11 cfg0.N = fun j => dprojAll (fun i l => m ((c : Thread nD τ).loc main_arg0) (ix2 i l)) (fun i l => m ((c : Thread nD τ).loc main_arg1) (ix2 i l)) (fun k l => m ((c : Thread nD τ).loc main_arg8) (ix2 k l)) 2 (j 0) (j 1) := by
  refine (dats m 0 c).arrAt_eq_of_covers 11 _ (by decide +kernel) fun t hf y => ?_
  have h := idx t
  blk_simp
  rw [after0_11]
  idx_vars y
  rw [block_at11 m c t y0 y1]
  congr 1 <;> (apply Fin.ext; blk_simp [h, trow] <;> try (dsimp only; omega))

theorem block_at12 (c : Dev nD) (t : Fin cfg0.N) (y0 : Fin 512) (y1 : Fin 3072) :
    out0_12 (iblk m c 0 t) (iblk m c 1 t) (iblk m c 2 t) (iblk m c 3 t) (iblk m c 4 t) (iblk m c 5 t) (iblk m c 6 t) (iblk m c 7 t) (iblk m c 8 t) (ix2 y0 y1) = dgateAll (fun i l => m ((c : Thread nD τ).loc main_arg0) (ix2 i l)) (fun i l => m ((c : Thread nD τ).loc main_arg1) (ix2 i l)) (fun k l => m ((c : Thread nD τ).loc main_arg8) (ix2 k l)) ![proj (n := 1024) (fun i l => m ((c : Thread nD τ).loc main_arg2) (ix2 i l)) (fun l k => m ((c : Thread nD τ).loc main_arg5) (ix2 l k)), proj (n := 512) (fun i l => m ((c : Thread nD τ).loc main_arg3) (ix2 i l)) (fun l k => m ((c : Thread nD τ).loc main_arg6) (ix2 l k)), proj (n := 512) (fun i l => m ((c : Thread nD τ).loc main_arg4) (ix2 i l)) (fun l k => m ((c : Thread nD τ).loc main_arg7) (ix2 l k))] (trow t y0) y1 := by
  rw [block12 (iblk m c 0 t) (iblk m c 1 t) (iblk m c 2 t) (iblk m c 3 t) (iblk m c 4 t) (iblk m c 5 t) (iblk m c 6 t) (iblk m c 7 t) (iblk m c 8 t) (ix2 y0 y1) y0 (gateOf y1) (placeOf y1) rfl (congrArg Fin.val (gcol_of y1)).symm]
  have hy : (![iblk m c 2 t, iblk m c 3 t, iblk m c 4 t] : Fin 3 → Vec Ideal S512x1024 .bf16) (gateOf y1) (ix2 y0 (placeOf y1)) =
      (![proj (n := 1024) (fun i l => m ((c : Thread nD τ).loc main_arg2) (ix2 i l)) (fun l k => m ((c : Thread nD τ).loc main_arg5) (ix2 l k)), proj (n := 512) (fun i l => m ((c : Thread nD τ).loc main_arg3) (ix2 i l)) (fun l k => m ((c : Thread nD τ).loc main_arg6) (ix2 l k)), proj (n := 512) (fun i l => m ((c : Thread nD τ).loc main_arg4) (ix2 i l)) (fun l k => m ((c : Thread nD τ).loc main_arg7) (ix2 l k))] : Fin 3 → Fin 4096 → Fin 1024 → EReal) (gateOf y1) (trow t y0) (placeOf y1) := by
    generalize gateOf y1 = g
    generalize placeOf y1 = k
    fin_cases g
    · exact blk2 m c t y0 k
    · exact blk3 m c t y0 k
    · exact blk4 m c t y0 k
  rw [hy]
  simp only [dgate, dmix, dyr, wor, blk0, blk1, blk8, dgateAll]

theorem final12 (c : Dev nD) : (dats m 0 c).arrAt 12 cfg0.N = fun j => dgateAll (fun i l => m ((c : Thread nD τ).loc main_arg0) (ix2 i l)) (fun i l => m ((c : Thread nD τ).loc main_arg1) (ix2 i l)) (fun k l => m ((c : Thread nD τ).loc main_arg8) (ix2 k l)) ![proj (n := 1024) (fun i l => m ((c : Thread nD τ).loc main_arg2) (ix2 i l)) (fun l k => m ((c : Thread nD τ).loc main_arg5) (ix2 l k)), proj (n := 512) (fun i l => m ((c : Thread nD τ).loc main_arg3) (ix2 i l)) (fun l k => m ((c : Thread nD τ).loc main_arg6) (ix2 l k)), proj (n := 512) (fun i l => m ((c : Thread nD τ).loc main_arg4) (ix2 i l)) (fun l k => m ((c : Thread nD τ).loc main_arg7) (ix2 l k))] (j 0) (j 1) := by
  refine (dats m 0 c).arrAt_eq_of_covers 12 _ (by decide +kernel) fun t hf y => ?_
  have h := idx t
  blk_simp
  rw [after0_12]
  idx_vars y
  rw [block_at12 m c t y0 y1]
  congr 1 <;> (apply Fin.ext; blk_simp [h, trow] <;> try (dsimp only; omega))

theorem block_at13 (c : Dev nD) (t : Fin cfg0.N) (y0 : Fin 512) (y1 : Fin 1024) :
    out0_13 (iblk m c 0 t) (iblk m c 1 t) (iblk m c 2 t) (iblk m c 3 t) (iblk m c 4 t) (iblk m c 5 t) (iblk m c 6 t) (iblk m c 7 t) (iblk m c 8 t) (ix2 y0 y1) = dbranchAll (fun i l => m ((c : Thread nD τ).loc main_arg0) (ix2 i l)) (fun i l => m ((c : Thread nD τ).loc main_arg1) (ix2 i l)) (fun k l => m ((c : Thread nD τ).loc main_arg8) (ix2 k l)) (n := 1024) (fun k l => m ((c : Thread nD τ).loc main_arg5) (ix2 k l)) 0 (trow t y0) y1 := by
  rw [block13 (iblk m c 0 t) (iblk m c 1 t) (iblk m c 2 t) (iblk m c 3 t) (iblk m c 4 t) (iblk m c 5 t) (iblk m c 6 t) (iblk m c 7 t) (iblk m c 8 t) (ix2 y0 y1) y0 y1 rfl rfl]
  simp only [dbranch, dproj, dmix, dyr, wor, blk0, blk1, blk5, blk8, dbranchAll]

theorem final13 (c : Dev nD) : (dats m 0 c).arrAt 13 cfg0.N = fun j => dbranchAll (fun i l => m ((c : Thread nD τ).loc main_arg0) (ix2 i l)) (fun i l => m ((c : Thread nD τ).loc main_arg1) (ix2 i l)) (fun k l => m ((c : Thread nD τ).loc main_arg8) (ix2 k l)) (n := 1024) (fun k l => m ((c : Thread nD τ).loc main_arg5) (ix2 k l)) 0 (j 0) (j 1) := by
  refine (dats m 0 c).arrAt_eq_of_covers 13 _ (by decide +kernel) fun t hf y => ?_
  have h := idx t
  blk_simp
  rw [after0_13]
  idx_vars y
  rw [block_at13 m c t y0 y1]
  congr 1 <;> (apply Fin.ext; blk_simp [h, trow] <;> try (dsimp only; omega))

theorem block_at14 (c : Dev nD) (t : Fin cfg0.N) (y0 : Fin 512) (y1 : Fin 512) :
    out0_14 (iblk m c 0 t) (iblk m c 1 t) (iblk m c 2 t) (iblk m c 3 t) (iblk m c 4 t) (iblk m c 5 t) (iblk m c 6 t) (iblk m c 7 t) (iblk m c 8 t) (ix2 y0 y1) = dbranchAll (fun i l => m ((c : Thread nD τ).loc main_arg0) (ix2 i l)) (fun i l => m ((c : Thread nD τ).loc main_arg1) (ix2 i l)) (fun k l => m ((c : Thread nD τ).loc main_arg8) (ix2 k l)) (n := 512) (fun k l => m ((c : Thread nD τ).loc main_arg6) (ix2 k l)) 1 (trow t y0) y1 := by
  rw [block14 (iblk m c 0 t) (iblk m c 1 t) (iblk m c 2 t) (iblk m c 3 t) (iblk m c 4 t) (iblk m c 5 t) (iblk m c 6 t) (iblk m c 7 t) (iblk m c 8 t) (ix2 y0 y1) y0 y1 rfl rfl]
  simp only [dbranch, dproj, dmix, dyr, wor, blk0, blk1, blk6, blk8, dbranchAll]

theorem final14 (c : Dev nD) : (dats m 0 c).arrAt 14 cfg0.N = fun j => dbranchAll (fun i l => m ((c : Thread nD τ).loc main_arg0) (ix2 i l)) (fun i l => m ((c : Thread nD τ).loc main_arg1) (ix2 i l)) (fun k l => m ((c : Thread nD τ).loc main_arg8) (ix2 k l)) (n := 512) (fun k l => m ((c : Thread nD τ).loc main_arg6) (ix2 k l)) 1 (j 0) (j 1) := by
  refine (dats m 0 c).arrAt_eq_of_covers 14 _ (by decide +kernel) fun t hf y => ?_
  have h := idx t
  blk_simp
  rw [after0_14]
  idx_vars y
  rw [block_at14 m c t y0 y1]
  congr 1 <;> (apply Fin.ext; blk_simp [h, trow] <;> try (dsimp only; omega))

theorem block_at15 (c : Dev nD) (t : Fin cfg0.N) (y0 : Fin 512) (y1 : Fin 512) :
    out0_15 (iblk m c 0 t) (iblk m c 1 t) (iblk m c 2 t) (iblk m c 3 t) (iblk m c 4 t) (iblk m c 5 t) (iblk m c 6 t) (iblk m c 7 t) (iblk m c 8 t) (ix2 y0 y1) = dbranchAll (fun i l => m ((c : Thread nD τ).loc main_arg0) (ix2 i l)) (fun i l => m ((c : Thread nD τ).loc main_arg1) (ix2 i l)) (fun k l => m ((c : Thread nD τ).loc main_arg8) (ix2 k l)) (n := 512) (fun k l => m ((c : Thread nD τ).loc main_arg7) (ix2 k l)) 2 (trow t y0) y1 := by
  rw [block15 (iblk m c 0 t) (iblk m c 1 t) (iblk m c 2 t) (iblk m c 3 t) (iblk m c 4 t) (iblk m c 5 t) (iblk m c 6 t) (iblk m c 7 t) (iblk m c 8 t) (ix2 y0 y1) y0 y1 rfl rfl]
  simp only [dbranch, dproj, dmix, dyr, wor, blk0, blk1, blk7, blk8, dbranchAll]

theorem final15 (c : Dev nD) : (dats m 0 c).arrAt 15 cfg0.N = fun j => dbranchAll (fun i l => m ((c : Thread nD τ).loc main_arg0) (ix2 i l)) (fun i l => m ((c : Thread nD τ).loc main_arg1) (ix2 i l)) (fun k l => m ((c : Thread nD τ).loc main_arg8) (ix2 k l)) (n := 512) (fun k l => m ((c : Thread nD τ).loc main_arg7) (ix2 k l)) 2 (j 0) (j 1) := by
  refine (dats m 0 c).arrAt_eq_of_covers 15 _ (by decide +kernel) fun t hf y => ?_
  have h := idx t
  blk_simp
  rw [after0_15]
  idx_vars y
  rw [block_at15 m c t y0 y1]
  congr 1 <;> (apply Fin.ext; blk_simp [h, trow] <;> try (dsimp only; omega))

end Cert.MixTail
-- ==== Proof.MixTailReference.lean ====
/-
  The derivative of the mixer's gated sum, as the reference's program computes it: a sum of the three branches' projections,
  each times its gate, projected by the output weight. Everything holds of every extended real.
-/
module

public import proofs.«01_k».proof.Proof.MixTailArrays
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.MixTail.Ref

open Cert.Reference5Ideal Cert.Reference5Ideal.Gen Cert.Reference5Ideal.Read
open Idealize.ShloMosaic Idealize.ShloMosaic.TcCoe Idealize.SL.Sem
open Cert.Sigmoid

variable (x0 : (⟨S4096x1024, .f32⟩ : BufTy).Contents (Elt Ideal)) (x1 : (⟨S4096x3072, .f32⟩ : BufTy).Contents (Elt Ideal))
  (x2 : (⟨S4096x1024, .f32⟩ : BufTy).Contents (Elt Ideal)) (x3 : (⟨S4096x512, .f32⟩ : BufTy).Contents (Elt Ideal)) (x4 : (⟨S4096x512, .f32⟩ : BufTy).Contents (Elt Ideal))
  (x5 : (⟨S1024x1024, .f32⟩ : BufTy).Contents (Elt Ideal)) (x6 : (⟨S512x1024, .f32⟩ : BufTy).Contents (Elt Ideal)) (x7 : (⟨S512x1024, .f32⟩ : BufTy).Contents (Elt Ideal))
  (x8 : (⟨S1024x1024, .f32⟩ : BufTy).Contents (Elt Ideal))

/-- The arrays row by row. -/
def dys (i : Fin 4096) (l : Fin 1024) : EReal := x0 (ix2 i l)
def gts (i : Fin 4096) (l : Fin 3072) : EReal := x1 (ix2 i l)
def wos (k l : Fin 1024) : EReal := x8 (ix2 k l)
/-- The branches' projections. -/
def ys : Fin 3 → Fin 4096 → Fin 1024 → EReal :=
  ![proj (fun i l => x2 (ix2 i l)) (fun l k => x5 (ix2 l k)), proj (fun i l => x3 (ix2 i l)) (fun l k => x6 (ix2 l k)), proj (fun i l => x4 (ix2 i l)) (fun l k => x7 (ix2 l k))]

theorem r9 (i : Fin 4096) (g : Fin 3) (k : Fin 1024) : val_main_v9 (F := Ideal) x1 (ix3 i g k) = sg (x1 (ix2 i (gcol g k))) := by
  pointwise [val_main_v9, val_main_v8, val_main_v7, val_main_v6, val_main_v5, val_main_v4, val_main_v3, val_main_cst, val_main_cst_0]
  rw [sg]
  congr 5
  funext a
  fin_cases a <;> (apply Fin.ext; simp [gcol] <;> omega)

theorem r14 (i : Fin 4096) (k : Fin 1024) : val_main_v14 (F := Ideal) x1 (ix2 i k) = sg (x1 (ix2 i (gcol 0 k))) := by
  rw [← r9]
  pointwise [val_main_v14, val_main_v13]

theorem r17 (i : Fin 4096) (k : Fin 1024) : val_main_v17 (F := Ideal) x1 (ix2 i k) = sg (x1 (ix2 i (gcol 1 k))) := by
  rw [← r9]
  pointwise [val_main_v17, val_main_v16]

theorem r21 (i : Fin 4096) (k : Fin 1024) : val_main_v21 (F := Ideal) x1 (ix2 i k) = sg (x1 (ix2 i (gcol 2 k))) := by
  rw [← r9]
  pointwise [val_main_v21, val_main_v20]

theorem r25 (i : Fin 4096) (k : Fin 1024) : val_main_v25 (F := Ideal) x0 x8 (ix2 i k) = dmix (dys x0 i) (wos x8) k := by
  pointwise [val_main_v25]
  rfl

theorem r35 (i : Fin 4096) (k : Fin 1024) : val_main_v35 (F := Ideal) x0 x1 x8 (ix2 i k) = dprojAll (dys x0) (gts x1) (wos x8) 0 i k := by
  pointwise [val_main_v35]
  rw [r25, r14, mul_comm]
  rfl

theorem r30 (i : Fin 4096) (k : Fin 1024) : val_main_v30 (F := Ideal) x0 x1 x8 (ix2 i k) = dprojAll (dys x0) (gts x1) (wos x8) 1 i k := by
  pointwise [val_main_v30]
  rw [r25, r17, mul_comm]
  rfl

theorem r26 (i : Fin 4096) (k : Fin 1024) : val_main_v26 (F := Ideal) x0 x1 x8 (ix2 i k) = dprojAll (dys x0) (gts x1) (wos x8) 2 i k := by
  pointwise [val_main_v26]
  rw [r25, r21, mul_comm]
  rfl

theorem r45 (i : Fin 4096) (k : Fin 1024) : val_main_v45 (F := Ideal) x0 x1 x8 (ix2 i k) = dprojAll (dys x0) (gts x1) (wos x8) 0 i k := by
  pointwise [val_main_v45]
  exact r35 x0 x1 x8 i k

theorem r46 (i : Fin 4096) (k : Fin 1024) : val_main_v46 (F := Ideal) x0 x1 x8 (ix2 i k) = dprojAll (dys x0) (gts x1) (wos x8) 1 i k := by
  pointwise [val_main_v46]
  exact r30 x0 x1 x8 i k

theorem r47 (i : Fin 4096) (k : Fin 1024) : val_main_v47 (F := Ideal) x0 x1 x8 (ix2 i k) = dprojAll (dys x0) (gts x1) (wos x8) 2 i k := by
  pointwise [val_main_v47]
  exact r26 x0 x1 x8 i k

theorem r49 (i : Fin 4096) (k : Fin 1024) :
    val_main_v49 (F := Ideal) x0 x1 x5 x8 (ix2 i k) = dbranchAll (dys x0) (gts x1) (wos x8) (fun k l => x5 (ix2 k l)) 0 i k := by
  pointwise [val_main_v49, val_main_v44]
  simp only [r35]
  rfl

theorem r50 (i : Fin 4096) (k : Fin 512) :
    val_main_v50 (F := Ideal) x0 x1 x6 x8 (ix2 i k) = dbranchAll (dys x0) (gts x1) (wos x8) (fun k l => x6 (ix2 k l)) 1 i k := by
  pointwise [val_main_v50, val_main_v43]
  simp only [r30]
  rfl

theorem r51 (i : Fin 4096) (k : Fin 512) :
    val_main_v51 (F := Ideal) x0 x1 x7 x8 (ix2 i k) = dbranchAll (dys x0) (gts x1) (wos x8) (fun k l => x7 (ix2 k l)) 2 i k := by
  pointwise [val_main_v51, val_main_v42]
  simp only [r26]
  rfl

theorem r12 (i : Fin 4096) (g : Fin 3) (k : Fin 1024) :
    val_main_v12 (F := Ideal) x1 (ix3 i g k) = sg (x1 (ix2 i (gcol g k))) * (1 - sg (x1 (ix2 i (gcol g k)))) := by
  pointwise [val_main_v12, val_main_v11, val_main_v10, val_main_cst_1]
  rw [r9]

theorem r27 (i : Fin 4096) (k : Fin 1024) : val_main_v27 (F := Ideal) x0 x4 x7 x8 (ix2 i k) = dmix (dys x0 i) (wos x8) k * ys x2 x3 x4 x5 x6 x7 2 i k := by
  pointwise [val_main_v27, val_main_v2]
  rw [r25]
  rfl

theorem r31 (i : Fin 4096) (k : Fin 1024) : val_main_v31 (F := Ideal) x0 x3 x6 x8 (ix2 i k) = dmix (dys x0 i) (wos x8) k * ys x2 x3 x4 x5 x6 x7 1 i k := by
  pointwise [val_main_v31, val_main_v1]
  rw [r25]
  rfl

theorem r36 (i : Fin 4096) (k : Fin 1024) : val_main_v36 (F := Ideal) x0 x2 x5 x8 (ix2 i k) = dmix (dys x0 i) (wos x8) k * ys x2 x3 x4 x5 x6 x7 0 i k := by
  pointwise [val_main_v36, val_main_v0]
  rw [r25]
  rfl

theorem r39 (i : Fin 4096) (g : Fin 3) (k : Fin 1024) :
    val_main_v39 (F := Ideal) x0 x2 x3 x4 x5 x6 x7 x8 (ix3 i g k) = dmix (dys x0 i) (wos x8) k * ys x2 x3 x4 x5 x6 x7 g i k := by
  have h0 := r36 x0 x2 x3 x4 x5 x6 x7 x8 i k
  have h1 := r31 x0 x2 x3 x4 x5 x6 x7 x8 i k
  have h2 := r27 x0 x2 x3 x4 x5 x6 x7 x8 i k
  fin_cases g
  · pointwise [val_main_v39, val_main_v38, val_main_v37, val_main_v34, val_main_v33, val_main_v32, val_main_v29, val_main_v28, val_main_cst_2, val_main_cst_3, val_main_cst_4]
    exact h0
  · pointwise [val_main_v39, val_main_v38, val_main_v37, val_main_v34, val_main_v33, val_main_v32, val_main_v29, val_main_v28, val_main_cst_2, val_main_cst_3, val_main_cst_4]
    exact h1
  · pointwise [val_main_v39, val_main_v38, val_main_v37, val_main_v34, val_main_v33, val_main_v32, val_main_v29, val_main_v28, val_main_cst_2, val_main_cst_3, val_main_cst_4]
    exact h2

theorem r48 (i : Fin 4096) (l : Fin 3072) :
    val_main_v48 (F := Ideal) x0 x1 x2 x3 x4 x5 x6 x7 x8 (ix2 i l) = dgateAll (dys x0) (gts x1) (wos x8) (ys x2 x3 x4 x5 x6 x7) i l := by
  pointwise [val_main_v48, val_main_v41, val_main_v40]
  rw [r39, r12, ← mul_assoc]
  rfl

end Cert.MixTail.Ref
-- ==== Proof.MixTail.lean ====
/-
  The backward kernel of the mixer's gated sum computes the derivative of the gated sum: the equation of the two programs, of every
  argument.
-/
module

public import proofs.«01_k».proof.Defs
public import proofs.«01_k».proof.Proof.MixTailArrays
public import proofs.«01_k».proof.Proof.MixTailReference
public import proofs.«01_k».proof.Proof.Gen.Kernel5Ideal.Value

@[expose] public section

set_option maxRecDepth 16384

noncomputable section

namespace Cert.MixTail

open Idealize.ShloMosaic Idealize.ShloMosaic.TcCoe Idealize.SL.Sem

set_option maxHeartbeats 4000000 in
theorem algebraic : Cert.algebraic_Kernel5Ideal_Reference5Ideal := by
  intro m ρ m' ρ' _ heq
  refine ⟨fun c => (Cert.Kernel5Ideal.Gen.dats m 0 c).arrAt 9 Cert.Kernel5Ideal.cfg0.N, fun c => (Cert.Kernel5Ideal.Gen.dats m 0 c).arrAt 10 Cert.Kernel5Ideal.cfg0.N, fun c => (Cert.Kernel5Ideal.Gen.dats m 0 c).arrAt 11 Cert.Kernel5Ideal.cfg0.N, fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N, fun c => (Cert.Kernel5Ideal.Gen.dats m 0 c).arrAt 15 Cert.Kernel5Ideal.cfg0.N, Cert.Kernel5Ideal.Value.run_blocks m ρ, ?_⟩
  refine (θ_run Cert.Reference5Ideal.defs _ _).mono (fun r h c => ?_) (Cert.Reference5Ideal.Value.run m' ρ')
  obtain ⟨h45, h46, h47, h48, h49, h50, h51, ha0, ha1, ha2, ha3, ha4, ha5, ha6, ha7, ha8⟩ := h c
  obtain ⟨e0, e1, e2, e3, e4, e5, e6, e7, e8⟩ := heq c
  refine ⟨(h45.trans (Cert.Reference5Ideal.Read.val_main_v45_eq _ _ _)).trans (Eq.trans ?_ (final9 m c).symm),
    (h46.trans (Cert.Reference5Ideal.Read.val_main_v46_eq _ _ _)).trans (Eq.trans ?_ (final10 m c).symm),
    (h47.trans (Cert.Reference5Ideal.Read.val_main_v47_eq _ _ _)).trans (Eq.trans ?_ (final11 m c).symm),
    (h48.trans (Cert.Reference5Ideal.Read.val_main_v48_eq _ _ _ _ _ _ _ _ _)).trans (Eq.trans ?_ (final12 m c).symm),
    (h49.trans (Cert.Reference5Ideal.Read.val_main_v49_eq _ _ _ _)).trans (Eq.trans ?_ (final13 m c).symm),
    (h50.trans (Cert.Reference5Ideal.Read.val_main_v50_eq _ _ _ _)).trans (Eq.trans ?_ (final14 m c).symm),
    (h51.trans (Cert.Reference5Ideal.Read.val_main_v51_eq _ _ _ _)).trans (Eq.trans ?_ (final15 m c).symm), ha0, ha1, ha2, ha3, ha4, ha5, ha6, ha7, ha8⟩
  · rw [e0, e1, e8]
    funext j
    idx_vars j
    exact Ref.r45 _ _ _ j0 j1
  · rw [e0, e1, e8]
    funext j
    idx_vars j
    exact Ref.r46 _ _ _ j0 j1
  · rw [e0, e1, e8]
    funext j
    idx_vars j
    exact Ref.r47 _ _ _ j0 j1
  · rw [e0, e1, e2, e3, e4, e5, e6, e7, e8]
    funext j
    idx_vars j
    exact Ref.r48 _ _ _ _ _ _ _ _ _ j0 j1
  · rw [e0, e1, e5, e8]
    funext j
    idx_vars j
    exact Ref.r49 _ _ _ _ j0 j1
  · rw [e0, e1, e6, e8]
    funext j
    idx_vars j
    exact Ref.r50 _ _ _ _ j0 j1
  · rw [e0, e1, e7, e8]
    funext j
    idx_vars j
    exact Ref.r51 _ _ _ _ j0 j1

end Cert.MixTail
-- ==== Proof.SwigluKernel.lean ====
/-
  What one tile of the gated feed-forward's gradient stores: the product by the output weight, fused with the gate's gradient.
-/
module

public import Idealize.ShloMosaic.Lib.Pipeline.ValueKit
public import proofs.«01_k».proof.Proof.Sigmoid
public import proofs.«01_k».proof.Proof.Gen.Kernel7Ideal.Frame

@[expose] public section

set_option maxRecDepth 16384

noncomputable section

namespace Cert.Swiglu

open Idealize.ShloMosaic Idealize.ShloMosaic.TcCoe Idealize.SL.Sem
open Cert.Kernel7Ideal Cert.Kernel7Ideal.Gen Cert.Sigmoid Cert.Reals

/-- The cotangent of the gated product. -/
def du (dz wo : Fin 1024 → ℝ) : ℝ := ∑ l, dz l * wo l
/-- The gradient of the gated half. -/
def dGate (d a b : ℝ) : ℝ := d * b * (sig a * (1 + a * (1 - sig a)))
/-- The gradient of the linear half. -/
def dLin (d a : ℝ) : ℝ := d * a * sig a
/-- Both, by half. -/
def dHalf (d a b : ℝ) (p : Fin 2) : ℝ := if p.val = 0 then dGate d a b else dLin d a

section blocks

variable (x0 : Vec Ideal S1024x1024 .bf16) (x1 : Vec Ideal S1408x1024 .bf16) (x2 : Vec Ideal S2x1x1024x1408 .bf16)
  (DZ : Fin 1024 → Fin 1024 → ℝ) (WO : Fin 1408 → Fin 1024 → ℝ) (A B : Fin 1024 → Fin 1408 → ℝ)
  (hz : ∀ r l, x0 (ix2 r l) = (DZ r l : EReal)) (hw : ∀ c l, x1 (ix2 c l) = (WO c l : EReal))
  (ha : ∀ r c, x2 (ix4 0 0 r c) = (A r c : EReal)) (hb : ∀ r c, x2 (ix4 1 0 r c) = (B r c : EReal))

include hz hw ha hb

theorem piece0_0 (z : S1x1x256x1408.Idx) (r : Fin 1024) (k : Fin 1408) (e0 : r.val = (z 2).val) (e1 : k.val = (z 3).val) :
    k0_pay6 (View.ld x0 r0_0) x1 (View.ld x2 r0_2) (View.ld x2 r0_3) z = (dGate (du (DZ r) (WO k)) (A r k) (B r k) : EReal) := by
  obtain ⟨u, v, i, k', rfl⟩ : ∃ (u v : Fin 1) (i : Fin 256) (k' : Fin 1408), z = ix4 u v i k' := ⟨z 0, z 1, z 2, z 3, (by funext a; fin_cases a <;> rfl)⟩
  obtain rfl : u = 0 := Subsingleton.elim _ _
  obtain rfl : v = 0 := Subsingleton.elim _ _
  obtain rfl : k = k' := Fin.ext e1
  have e0' : r.val = i.val := e0
  have l0 : ∀ h, (⟨i.val, h⟩ : Fin 1024) = r := fun _ => Fin.ext e0'.symm
  pointwise [k0_pay6, k0_pay3, k0_pay4, k0_pay5]
  simp only [l0, half_word, sg_tanh]
  simp only [hz, hw, ha, hb, sg_coe, ← EReal.coe_one, ← EReal.coe_mul, ← EReal.coe_add, ← EReal.coe_sub, sum_coe]
  rfl

theorem piece0_1 (z : S1x1x256x1408.Idx) (r : Fin 1024) (k : Fin 1408) (e0 : r.val = (z 2).val) (e1 : k.val = (z 3).val) :
    k0_pay8 (k0_pay7 (View.ld x0 r0_0) x1 (View.ld x2 r0_2)) z = (dLin (du (DZ r) (WO k)) (A r k) : EReal) := by
  obtain ⟨u, v, i, k', rfl⟩ : ∃ (u v : Fin 1) (i : Fin 256) (k' : Fin 1408), z = ix4 u v i k' := ⟨z 0, z 1, z 2, z 3, (by funext a; fin_cases a <;> rfl)⟩
  obtain rfl : u = 0 := Subsingleton.elim _ _
  obtain rfl : v = 0 := Subsingleton.elim _ _
  obtain rfl : k = k' := Fin.ext e1
  have e0' : r.val = i.val := e0
  have l0 : ∀ h, (⟨i.val, h⟩ : Fin 1024) = r := fun _ => Fin.ext e0'.symm
  pointwise [k0_pay8, k0_pay7, k0_pay3, k0_pay4, k0_pay5]
  simp only [l0, half_word, sg_tanh]
  simp only [hz, hw, ha, hb, sg_coe, ← EReal.coe_one, ← EReal.coe_mul, ← EReal.coe_add, ← EReal.coe_sub, sum_coe]
  rfl

theorem piece1_0 (z : S1x1x256x1408.Idx) (r : Fin 1024) (k : Fin 1408) (e0 : r.val = 256 + (z 2).val) (e1 : k.val = (z 3).val) :
    k0_pay12 (View.ld x0 r0_4) x1 (View.ld x2 r0_5) (View.ld x2 r0_6) z = (dGate (du (DZ r) (WO k)) (A r k) (B r k) : EReal) := by
  obtain ⟨u, v, i, k', rfl⟩ : ∃ (u v : Fin 1) (i : Fin 256) (k' : Fin 1408), z = ix4 u v i k' := ⟨z 0, z 1, z 2, z 3, (by funext a; fin_cases a <;> rfl)⟩
  obtain rfl : u = 0 := Subsingleton.elim _ _
  obtain rfl : v = 0 := Subsingleton.elim _ _
  obtain rfl : k = k' := Fin.ext e1
  have e0' : r.val = 256 + i.val := e0
  have l0 : ∀ h, (⟨256 + i.val, h⟩ : Fin 1024) = r := fun _ => Fin.ext e0'.symm
  pointwise [k0_pay12, k0_pay9, k0_pay10, k0_pay11]
  simp only [l0, half_word, sg_tanh]
  simp only [hz, hw, ha, hb, sg_coe, ← EReal.coe_one, ← EReal.coe_mul, ← EReal.coe_add, ← EReal.coe_sub, sum_coe]
  rfl

theorem piece1_1 (z : S1x1x256x1408.Idx) (r : Fin 1024) (k : Fin 1408) (e0 : r.val = 256 + (z 2).val) (e1 : k.val = (z 3).val) :
    k0_pay14 (k0_pay11 (View.ld x2 r0_5)) (k0_pay13 (View.ld x0 r0_4) x1 (View.ld x2 r0_5)) z = (dLin (du (DZ r) (WO k)) (A r k) : EReal) := by
  obtain ⟨u, v, i, k', rfl⟩ : ∃ (u v : Fin 1) (i : Fin 256) (k' : Fin 1408), z = ix4 u v i k' := ⟨z 0, z 1, z 2, z 3, (by funext a; fin_cases a <;> rfl)⟩
  obtain rfl : u = 0 := Subsingleton.elim _ _
  obtain rfl : v = 0 := Subsingleton.elim _ _
  obtain rfl : k = k' := Fin.ext e1
  have e0' : r.val = 256 + i.val := e0
  have l0 : ∀ h, (⟨256 + i.val, h⟩ : Fin 1024) = r := fun _ => Fin.ext e0'.symm
  pointwise [k0_pay14, k0_pay11, k0_pay13, k0_pay9, k0_pay10]
  simp only [l0, half_word, sg_tanh]
  simp only [hz, hw, ha, hb, sg_coe, ← EReal.coe_one, ← EReal.coe_mul, ← EReal.coe_add, ← EReal.coe_sub, sum_coe]
  rfl

theorem piece2_0 (z : S1x1x256x1408.Idx) (r : Fin 1024) (k : Fin 1408) (e0 : r.val = 512 + (z 2).val) (e1 : k.val = (z 3).val) :
    k0_pay19 (k0_pay18 (View.ld x0 r0_7) x1 (View.ld x2 r0_8) (View.ld x2 r0_9)) z = (dGate (du (DZ r) (WO k)) (A r k) (B r k) : EReal) := by
  obtain ⟨u, v, i, k', rfl⟩ : ∃ (u v : Fin 1) (i : Fin 256) (k' : Fin 1408), z = ix4 u v i k' := ⟨z 0, z 1, z 2, z 3, (by funext a; fin_cases a <;> rfl)⟩
  obtain rfl : u = 0 := Subsingleton.elim _ _
  obtain rfl : v = 0 := Subsingleton.elim _ _
  obtain rfl : k = k' := Fin.ext e1
  have e0' : r.val = 512 + i.val := e0
  have l0 : ∀ h, (⟨512 + i.val, h⟩ : Fin 1024) = r := fun _ => Fin.ext e0'.symm
  pointwise [k0_pay19, k0_pay18, k0_pay15, k0_pay16, k0_pay17]
  simp only [l0, half_word, sg_tanh]
  simp only [hz, hw, ha, hb, sg_coe, ← EReal.coe_one, ← EReal.coe_mul, ← EReal.coe_add, ← EReal.coe_sub, sum_coe]
  rfl

theorem piece2_1 (z : S1x1x256x1408.Idx) (r : Fin 1024) (k : Fin 1408) (e0 : r.val = 512 + (z 2).val) (e1 : k.val = (z 3).val) :
    k0_pay20 (k0_pay15 (View.ld x0 r0_7) x1) (k0_pay16 (View.ld x2 r0_8)) (k0_pay17 (View.ld x2 r0_8)) z = (dLin (du (DZ r) (WO k)) (A r k) : EReal) := by
  obtain ⟨u, v, i, k', rfl⟩ : ∃ (u v : Fin 1) (i : Fin 256) (k' : Fin 1408), z = ix4 u v i k' := ⟨z 0, z 1, z 2, z 3, (by funext a; fin_cases a <;> rfl)⟩
  obtain rfl : u = 0 := Subsingleton.elim _ _
  obtain rfl : v = 0 := Subsingleton.elim _ _
  obtain rfl : k = k' := Fin.ext e1
  have e0' : r.val = 512 + i.val := e0
  have l0 : ∀ h, (⟨512 + i.val, h⟩ : Fin 1024) = r := fun _ => Fin.ext e0'.symm
  pointwise [k0_pay20, k0_pay15, k0_pay16, k0_pay17]
  simp only [l0, half_word, sg_tanh]
  simp only [hz, hw, ha, hb, sg_coe, ← EReal.coe_one, ← EReal.coe_mul, ← EReal.coe_add, ← EReal.coe_sub, sum_coe]
  rfl

theorem piece3_0 (z : S1x1x256x1408.Idx) (r : Fin 1024) (k : Fin 1408) (e0 : r.val = 768 + (z 2).val) (e1 : k.val = (z 3).val) :
    k0_pay1 (k0_pay24 (View.ld x0 r0_10) x1 (View.ld x2 r0_11) (View.ld x2 r0_12)) z = (dGate (du (DZ r) (WO k)) (A r k) (B r k) : EReal) := by
  obtain ⟨u, v, i, k', rfl⟩ : ∃ (u v : Fin 1) (i : Fin 256) (k' : Fin 1408), z = ix4 u v i k' := ⟨z 0, z 1, z 2, z 3, (by funext a; fin_cases a <;> rfl)⟩
  obtain rfl : u = 0 := Subsingleton.elim _ _
  obtain rfl : v = 0 := Subsingleton.elim _ _
  obtain rfl : k = k' := Fin.ext e1
  have e0' : r.val = 768 + i.val := e0
  have l0 : ∀ h, (⟨768 + i.val, h⟩ : Fin 1024) = r := fun _ => Fin.ext e0'.symm
  pointwise [k0_pay1, k0_pay24, k0_pay21, k0_pay22, k0_pay23]
  simp only [l0, half_word, sg_tanh]
  simp only [hz, hw, ha, hb, sg_coe, ← EReal.coe_one, ← EReal.coe_mul, ← EReal.coe_add, ← EReal.coe_sub, sum_coe]
  rfl

theorem piece3_1 (z : S1x1x256x1408.Idx) (r : Fin 1024) (k : Fin 1408) (e0 : r.val = 768 + (z 2).val) (e1 : k.val = (z 3).val) :
    k0_pay2 (k0_pay21 (View.ld x0 r0_10) x1) (k0_pay22 (View.ld x2 r0_11)) (k0_pay23 (View.ld x2 r0_11)) z = (dLin (du (DZ r) (WO k)) (A r k) : EReal) := by
  obtain ⟨u, v, i, k', rfl⟩ : ∃ (u v : Fin 1) (i : Fin 256) (k' : Fin 1408), z = ix4 u v i k' := ⟨z 0, z 1, z 2, z 3, (by funext a; fin_cases a <;> rfl)⟩
  obtain rfl : u = 0 := Subsingleton.elim _ _
  obtain rfl : v = 0 := Subsingleton.elim _ _
  obtain rfl : k = k' := Fin.ext e1
  have e0' : r.val = 768 + i.val := e0
  have l0 : ∀ h, (⟨768 + i.val, h⟩ : Fin 1024) = r := fun _ => Fin.ext e0'.symm
  pointwise [k0_pay2, k0_pay21, k0_pay22, k0_pay23]
  simp only [l0, half_word, sg_tanh]
  simp only [hz, hw, ha, hb, sg_coe, ← EReal.coe_one, ← EReal.coe_mul, ← EReal.coe_add, ← EReal.coe_sub, sum_coe]
  rfl

theorem block (y : S2x1x1024x1408.Idx) (p : Fin 2) (r : Fin 1024) (k : Fin 1408) (hp : (y 0).val = p.val) (hr : (y 2).val = r.val) (hk : (y 3).val = k.val) :
    out0_3 x0 x1 x2 y = (dHalf (du (DZ r) (WO k)) (A r k) (B r k) p : EReal) := by
  frame_out
  canon_tiles x h
  · have e : p.val = 1 := by omega
    rw [dHalf, if_neg (by omega)]
    exact piece3_1 x0 x1 x2 DZ WO A B hz hw ha hb x r k (by omega) (by omega)
  · have e : p.val = 0 := by omega
    rw [dHalf, if_pos e]
    exact piece3_0 x0 x1 x2 DZ WO A B hz hw ha hb x r k (by omega) (by omega)
  · have e : p.val = 1 := by omega
    rw [dHalf, if_neg (by omega)]
    exact piece2_1 x0 x1 x2 DZ WO A B hz hw ha hb x r k (by omega) (by omega)
  · have e : p.val = 0 := by omega
    rw [dHalf, if_pos e]
    exact piece2_0 x0 x1 x2 DZ WO A B hz hw ha hb x r k (by omega) (by omega)
  · have e : p.val = 1 := by omega
    rw [dHalf, if_neg (by omega)]
    exact piece1_1 x0 x1 x2 DZ WO A B hz hw ha hb x r k (by omega) (by omega)
  · have e : p.val = 0 := by omega
    rw [dHalf, if_pos e]
    exact piece1_0 x0 x1 x2 DZ WO A B hz hw ha hb x r k (by omega) (by omega)
  · have e : p.val = 1 := by omega
    rw [dHalf, if_neg (by omega)]
    exact piece0_1 x0 x1 x2 DZ WO A B hz hw ha hb x r k (by omega) (by omega)
  · have e : p.val = 0 := by omega
    rw [dHalf, if_pos e]
    exact piece0_0 x0 x1 x2 DZ WO A B hz hw ha hb x r k (by omega) (by omega)

end blocks

end Cert.Swiglu
-- ==== Proof.SwigluArrays.lean ====
/-
  What the gated feed-forward's gradient leaves in its result.
-/
module

public import Idealize.ShloMosaic.Lib.Pipeline.ValueKit
public import Idealize.ShloMosaic.Lib.Pipeline.ReadBack
public import proofs.«01_k».proof.Proof.SwigluKernel

@[expose] public section

set_option maxRecDepth 16384

noncomputable section

namespace Cert.Swiglu

open Idealize.ShloMosaic Idealize.ShloMosaic.TcCoe Idealize.SL.Sem
open Idealize.ShloMosaic.Pipeline (Dat)
open Cert.Kernel7Ideal Cert.Kernel7Ideal.Gen Cert.Sigmoid Cert.Reals

variable (m : (ℓ : Loc nD τ sig) → Buf (Elt Ideal) ℓ)

theorem idx : ∀ t : Fin cfg0.N, win0_0.index t = ![t.val % 4, 0] ∧ win0_1.index t = ![t.val / 4, 0] ∧ win0_2.index t = ![0, t.val / 4, t.val % 4, 0] ∧ win0_3.index t = ![0, t.val / 4, t.val % 4, 0] :=
  (by decide +kernel : ∀ t : Fin grid0.N, _)

theorem lt8 (t : Fin cfg0.N) : t.val < 8 := lt_of_lt_of_eq t.isLt N_0

/-- Row `r` of row tile `t % 4`. -/
def frow (t : Fin cfg0.N) (r : Fin 1024) : Fin 4096 := ⟨1024 * (t.val % 4) + r.val, by have := lt8 t; omega⟩
/-- The half of the inner columns of a grid point. -/
def fside (t : Fin cfg0.N) : Fin 2 := ⟨t.val / 4, by have := lt8 t; omega⟩
/-- Column `k` of a half of the inner columns. -/
def fcol (f : Fin 2) (k : Fin 1408) : Fin 2816 := ⟨1408 * f.val + k.val, by omega⟩
/-- Inner column `k` of the gated (0) or the linear (1) branch among the input weight's columns. -/
def wcol (p : Fin 2) (k : Fin 2816) : Fin 5632 := ⟨2816 * p.val + k.val, by omega⟩

/-- The two branches before the gate, of extended reals. -/
def preE (H : Fin 4096 → Fin 1024 → EReal) (WI : Fin 1024 → Fin 5632 → EReal) (p : Fin 2) (i : Fin 4096) (k : Fin 2816) : EReal := ∑ l, H i l * WI l (wcol p k)

/-- The two branches before the gate. -/
def pre (H : Fin 4096 → Fin 1024 → ℝ) (WI : Fin 1024 → Fin 5632 → ℝ) (p : Fin 2) (i : Fin 4096) (k : Fin 2816) : ℝ := ∑ l, H i l * WI l (wcol p k)

theorem blk0 (c : Dev nD) (t : Fin cfg0.N) (i k : Fin 1024) : iblk m c 0 t (ix2 i k) = m ((c : Thread nD τ).loc main_arg0) (ix2 (frow t i) k) := by
  have h := idx t
  have ht : (frow t i).val = 1024 * (t.val % 4) + i.val := rfl
  rw [iblk]
  entry_read
  blk_point [h, ht]

theorem blk1 (c : Dev nD) (t : Fin cfg0.N) (i : Fin 1408) (k : Fin 1024) : iblk m c 1 t (ix2 i k) = m ((c : Thread nD τ).loc main_arg1) (ix2 (fcol (fside t) i) k) := by
  have h := idx t
  have ht : (fcol (fside t) i).val = 1408 * (t.val / 4) + i.val := rfl
  rw [iblk]
  entry_read
  blk_point [h, ht]

theorem blk2 (c : Dev nD) (t : Fin cfg0.N) (p : Fin 2) (i : Fin 1024) (k : Fin 1408) :
    iblk m c 2 t (ix4 p 0 i k) = preE (fun i l => m ((c : Thread nD τ).loc main_arg2) (ix2 i l)) (fun l k => m ((c : Thread nD τ).loc main_arg3) (ix2 l k)) p (frow t i) (fcol (fside t) k) := by
  have h := idx t
  rw [iblk]
  entry_read
  have e : (win0_2.blk t).view.emb (ix4 p 0 i k) = ix4 p (fside t) (frow t i) k := by
    funext a
    fin_cases a
    · apply Fin.ext
      blk_simp [h]
      rfl
    · apply Fin.ext
      blk_simp [h]
      rfl
    · apply Fin.ext
      blk_simp [h]
      show t.val % 4 * 1024 + i.val = 1024 * (t.val % 4) + i.val
      omega
    · apply Fin.ext
      blk_simp [h]
      rfl
  blk_simp [h]
  rw [e]
  pointwise []
  have e2 : ∀ h, (⟨(p.val * 2 + (fside t).val) * 1408 + k.val, h⟩ : Fin 5632) = wcol p (fcol (fside t) k) := fun h => Fin.ext (by
    show (p.val * 2 + (fside t).val) * 1408 + k.val = 2816 * p.val + (1408 * (fside t).val + k.val)
    omega)
  simp only [e2]
  rfl

variable (DZ : Fin 4096 → Fin 1024 → ℝ) (WO : Fin 2816 → Fin 1024 → ℝ) (H : Fin 4096 → Fin 1024 → ℝ) (WI : Fin 1024 → Fin 5632 → ℝ) (c : Dev nD)
  (hz : ∀ i k, m ((c : Thread nD τ).loc main_arg0) (ix2 i k) = (DZ i k : EReal)) (hw : ∀ i k, m ((c : Thread nD τ).loc main_arg1) (ix2 i k) = (WO i k : EReal))
  (hh : ∀ i k, m ((c : Thread nD τ).loc main_arg2) (ix2 i k) = (H i k : EReal)) (hi : ∀ i k, m ((c : Thread nD τ).loc main_arg3) (ix2 i k) = (WI i k : EReal))

/-- The gradient of the two branches before the gate: half `p`, inner column `k`, row `i`. -/
def dpre (p : Fin 2) (i : Fin 4096) (k : Fin 2816) : ℝ := dHalf (du (DZ i) (WO k)) (pre H WI 0 i k) (pre H WI 1 i k) p

include hz hw hh hi

theorem pre_at (t : Fin cfg0.N) (p : Fin 2) (i : Fin 1024) (k : Fin 1408) : iblk m c 2 t (ix4 p 0 i k) = (pre H WI p (frow t i) (fcol (fside t) k) : EReal) := by
  rw [blk2, preE]
  simp only [hh, hi, ← EReal.coe_mul, sum_coe]
  rfl

theorem block_at (t : Fin cfg0.N) (p : Fin 2) (i : Fin 1024) (k : Fin 1408) :
    out0_3 (iblk m c 0 t) (iblk m c 1 t) (iblk m c 2 t) (ix4 p 0 i k) = (dpre DZ WO H WI p (frow t i) (fcol (fside t) k) : EReal) :=
  block (iblk m c 0 t) (iblk m c 1 t) (iblk m c 2 t) (fun r => DZ (frow t r)) (fun k => WO (fcol (fside t) k)) (fun r k => pre H WI 0 (frow t r) (fcol (fside t) k))
    (fun r k => pre H WI 1 (frow t r) (fcol (fside t) k)) (fun r l => (blk0 m c t r l).trans (hz _ _)) (fun k l => (blk1 m c t k l).trans (hw _ _))
    (fun r k => pre_at m DZ WO H WI c hz hw hh hi t 0 r k) (fun r k => pre_at m DZ WO H WI c hz hw hh hi t 1 r k) (ix4 p 0 i k) p i k rfl rfl rfl

theorem final3 : (dats m 0 c).arrAt 3 cfg0.N = fun j => (dpre DZ WO H WI (j 0) (j 2) (fcol (j 1) (j 3)) : EReal) := by
  refine (dats m 0 c).arrAt_eq_of_covers 3 _ (by decide +kernel) fun t hf y => ?_
  have h := idx t
  blk_simp
  rw [after0_3]
  idx_vars y
  obtain rfl : y1 = 0 := Subsingleton.elim _ _
  rw [block_at m DZ WO H WI c hz hw hh hi t y0 y2 y3]
  congr 2 <;> (apply Fin.ext; blk_simp [h, frow, fside, fcol] <;> try (dsimp only; omega))

end Cert.Swiglu
-- ==== Proof.SwigluReference.lean ====
/-
  The derivative of the gated product, as the reference's program computes it, on finite arguments.
-/
module

public import Idealize.ShloMosaic.Lib.Pipeline.ValueKit
public import proofs.«01_k».proof.Proof.SwigluArrays
public import proofs.«01_k».proof.Proof.Gen.Reference7Ideal.Run
public import proofs.«01_k».proof.Proof.Gen.Reference7Ideal.Read

@[expose] public section

set_option maxRecDepth 16384

noncomputable section

namespace Cert.Swiglu.Ref

open Idealize.ShloMosaic Idealize.ShloMosaic.TcCoe Idealize.SL.Sem
open Cert.Reference7Ideal Cert.Reference7Ideal.Gen Cert.Reference7Ideal.Read
open Cert.Sigmoid Cert.Reals

variable (x0 : (⟨S4096x1024, .f32⟩ : BufTy).Contents (Elt Ideal)) (x1 : (⟨S2816x1024, .f32⟩ : BufTy).Contents (Elt Ideal))
  (x2 : (⟨S4096x1024, .f32⟩ : BufTy).Contents (Elt Ideal)) (x3 : (⟨S1024x5632, .f32⟩ : BufTy).Contents (Elt Ideal))
variable (DZ : Fin 4096 → Fin 1024 → ℝ) (WO : Fin 2816 → Fin 1024 → ℝ) (H : Fin 4096 → Fin 1024 → ℝ) (WI : Fin 1024 → Fin 5632 → ℝ)
  (hz : ∀ i k, x0 (ix2 i k) = (DZ i k : EReal)) (hw : ∀ i k, x1 (ix2 i k) = (WO i k : EReal))
  (hh : ∀ i k, x2 (ix2 i k) = (H i k : EReal)) (hi : ∀ i k, x3 (ix2 i k) = (WI i k : EReal))

theorem wcol0 (x : Fin 2816) (h : x.val < 5632) : (⟨x.val, h⟩ : Fin 5632) = wcol 0 x := Fin.ext (Nat.zero_add _).symm
theorem wcol1 (x : Fin 2816) (h : 2816 + x.val < 5632) : (⟨2816 + x.val, h⟩ : Fin 5632) = wcol 1 x := Fin.ext rfl

include hh hi

theorem r1 (i : Fin 4096) (k : Fin 2816) : val_main_v1 (F := Ideal) x2 x3 (ix2 i k) = (pre H WI 0 i k : EReal) := by
  pointwise [val_main_v1, val_main_v0]
  simp only [wcol0, hh, hi, ← EReal.coe_mul, sum_coe]
  rfl

theorem r2 (i : Fin 4096) (k : Fin 2816) : val_main_v2 (F := Ideal) x2 x3 (ix2 i k) = (pre H WI 1 i k : EReal) := by
  pointwise [val_main_v2, val_main_v0]
  simp only [wcol1, hh, hi, ← EReal.coe_mul, sum_coe]
  rfl

theorem rs (i : Fin 4096) (k : Fin 2816) : val_main_v3_2 (F := Ideal) x2 x3 (ix2 i k) = (sig (pre H WI 0 i k) : EReal) := by
  pointwise [val_main_v3_2, val_main_call0_v4, val_main_call0_v3, val_main_call0_v2, val_main_call0_v1, val_main_call0_v0, val_main_call0_cst, val_main_call0_cst_0]
  rw [r1 x2 x3 H WI hh hi, ← sg_coe]
  rfl

include hz hw

omit hh hi in
theorem r6 (i : Fin 4096) (k : Fin 2816) : val_main_v6 (F := Ideal) x0 x1 (ix2 i k) = (du (DZ i) (WO k) : EReal) := by
  pointwise [val_main_v6]
  simp only [hz, hw, ← EReal.coe_mul, sum_coe]
  rfl

theorem r7 (i : Fin 4096) (k : Fin 2816) : val_main_v7 (F := Ideal) x0 x1 x2 x3 (ix2 i k) = (dpre DZ WO H WI 1 i k : EReal) := by
  pointwise [val_main_v7, val_main_v3_0]
  rw [r1 x2 x3 H WI hh hi, rs x2 x3 H WI hh hi, r6 x0 x1 DZ WO hz hw, ← EReal.coe_mul, ← EReal.coe_mul]
  refine congrArg (fun r : ℝ => (r : EReal)) ?_
  rw [dpre, dHalf, if_neg (by decide), dLin]
  ring

theorem r9 (i : Fin 4096) (k : Fin 2816) : val_main_v9 (F := Ideal) x0 x1 x2 x3 (ix2 i k) = (dpre DZ WO H WI 0 i k : EReal) := by
  pointwise [val_main_v9, val_main_call1_v0, val_main_call1_v1, val_main_call1_v2, val_main_v8, val_main_v3_1, val_main_call0_v7, val_main_call0_v6, val_main_call0_cst_1]
  rw [r1 x2 x3 H WI hh hi, r2 x2 x3 H WI hh hi, rs x2 x3 H WI hh hi, r6 x0 x1 DZ WO hz hw]
  simp only [← EReal.coe_one, ← EReal.coe_mul, ← EReal.coe_sub, ← EReal.coe_add]
  refine congrArg (fun r : ℝ => (r : EReal)) ?_
  rw [dpre, dHalf, if_pos (by decide), dGate]
  ring

theorem r13 (p : Fin 2) (f : Fin 2) (i : Fin 4096) (k : Fin 1408) : val_main_v13 (F := Ideal) x0 x1 x2 x3 (ix4 p f i k) = (dpre DZ WO H WI p i (fcol f k) : EReal) := by
  have h9 := r9 x0 x1 x2 x3 DZ WO H WI hz hw hh hi i (fcol f k)
  have h7 := r7 x0 x1 x2 x3 DZ WO H WI hz hw hh hi i (fcol f k)
  pointwise [val_main_v13, val_main_v12, val_main_v11, val_main_v10]
  by_cases hp : p.val = 0
  · obtain rfl : p = 0 := Fin.ext hp
    rw [dif_pos (by show 0 * 2816 + f.val * 1408 + k.val < 2816; omega), ← h9]
    congr 2
    apply Fin.ext
    show 0 * 2816 + f.val * 1408 + k.val = 1408 * f.val + k.val
    omega
  · obtain rfl : p = 1 := Fin.ext (by have := p.isLt; show p.val = 1; omega)
    rw [dif_neg (by show ¬ (1 * 2816 + f.val * 1408 + k.val < 2816); omega), ← h7]
    congr 2
    apply Fin.ext
    show 1 * 2816 + f.val * 1408 + k.val - 2816 = 1408 * f.val + k.val
    omega

end Cert.Swiglu.Ref
-- ==== Proof.Swiglu.lean ====
/-
  The backward kernel of the gated feed-forward computes the derivative of the gated product: the equation of the two programs on
  finite arguments.
-/
module

public import proofs.«01_k».proof.Defs
public import proofs.«01_k».proof.Proof.SwigluArrays
public import proofs.«01_k».proof.Proof.SwigluReference
public import proofs.«01_k».proof.Proof.Gen.Kernel7Ideal.Value

@[expose] public section

set_option maxRecDepth 16384

noncomputable section

namespace Cert.Swiglu

open Idealize.ShloMosaic Idealize.ShloMosaic.TcCoe Idealize.SL.Sem
open Cert.Reals

/-- The side conditions of the precondition's own program. -/
instance preFacts : Cert.Pre_finite_swiglu.Facts := ⟨by decide, by decide, by decide⟩

/-- Finite arguments are casts of real arrays. -/
theorem reals (m : (ℓ : Loc Cert.Kernel7Ideal.nD Cert.Kernel7Ideal.τ Cert.Kernel7Ideal.sig) → Buf (Elt Ideal) ℓ) (h : Cert.Pre_Kernel7Ideal_finite_swiglu m) (c : Dev Cert.Kernel7Ideal.nD) :
    ∃ (DZ : Fin 4096 → Fin 1024 → ℝ) (WO : Fin 2816 → Fin 1024 → ℝ) (H : Fin 4096 → Fin 1024 → ℝ) (WI : Fin 1024 → Fin 5632 → ℝ),
      (∀ i k, m ((c : Thread Cert.Kernel7Ideal.nD Cert.Kernel7Ideal.τ).loc Cert.Kernel7Ideal.main_arg0) (ix2 i k) = (DZ i k : EReal))
      ∧ (∀ i k, m ((c : Thread Cert.Kernel7Ideal.nD Cert.Kernel7Ideal.τ).loc Cert.Kernel7Ideal.main_arg1) (ix2 i k) = (WO i k : EReal))
      ∧ (∀ i k, m ((c : Thread Cert.Kernel7Ideal.nD Cert.Kernel7Ideal.τ).loc Cert.Kernel7Ideal.main_arg2) (ix2 i k) = (H i k : EReal))
      ∧ (∀ i k, m ((c : Thread Cert.Kernel7Ideal.nD Cert.Kernel7Ideal.τ).loc Cert.Kernel7Ideal.main_arg3) (ix2 i k) = (WI i k : EReal)) := by
  obtain ⟨h0, h1, h2, h3⟩ := h c
  exact ⟨_, _, _, _, fun i k => (real_of_lt (congrFun h0 (ix2 i k))).symm, fun i k => (real_of_lt (congrFun h1 (ix2 i k))).symm, fun i k => (real_of_lt (congrFun h2 (ix2 i k))).symm, fun i k => (real_of_lt (congrFun h3 (ix2 i k))).symm⟩

set_option maxHeartbeats 4000000 in
theorem algebraic : Cert.algebraic_Kernel7Ideal_Reference7Ideal_pre_finite_swiglu := by
  intro m ρ m' ρ' hp heq
  refine ⟨fun c => (Cert.Kernel7Ideal.Gen.dats m 0 c).arrAt 3 Cert.Kernel7Ideal.cfg0.N, Cert.Kernel7Ideal.Value.run_blocks m ρ, ?_⟩
  refine (θ_run Cert.Reference7Ideal.defs _ _).mono (fun r h c => ?_) (Cert.Reference7Ideal.Value.run m' ρ')
  obtain ⟨h13, ha0, ha1, ha2, ha3⟩ := h c
  obtain ⟨e0, e1, e2, e3⟩ := heq c
  obtain ⟨DZ, WO, H, WI, hz, hw, hh, hi⟩ := reals m hp c
  refine ⟨(h13.trans (Cert.Reference7Ideal.Read.val_main_v13_eq _ _ _ _)).trans (Eq.trans ?_ (final3 m DZ WO H WI c hz hw hh hi).symm), ha0, ha1, ha2, ha3⟩
  · rw [e0, e1, e2, e3]
    funext j
    idx_vars j
    exact Ref.r13 _ _ _ _ DZ WO H WI hz hw hh hi j0 j1 j2 j3

end Cert.Swiglu
-- ==== Proof.NormGrad.lean ====
/-
  The gradient of a root-mean-square norm on real rows: the words the kernels use for it, and how its sums over tiles come together.
-/
module

public import Idealize.ShloMosaic.Lib.Pipeline.ValueKit
public import proofs.«01_k».proof.Proof.Sigmoid

@[expose] public section

set_option maxRecDepth 16384

noncomputable section

namespace Cert.NormGrad

open Idealize.ShloMosaic Idealize.ShloMosaic.TcCoe Idealize.SL.Sem
open Cert.Reals

/-- The normalised row. -/
def nrm (x : Fin 1024 → ℝ) (j : Fin 1024) : ℝ := x j * rinv x
/-- The gradient of the norm's input, `a` the cotangent times the scale. -/
def dxr (x a : Fin 1024 → ℝ) (j : Fin 1024) : ℝ := rinv x * (a j - nrm x j * ((∑ k, a k * nrm x k) / 1024))

theorem msq_eq (x : Fin 1024 → ℝ) : msq x = (∑ k, x k * x k) / 1024 + eps := by
  unfold msq; norm_num

theorem rsqrt_row (x : Fin 1024 → ℝ) : Ideal.rsqrt (((∑ k, x k * x k) / 1024 + eps : ℝ) : EReal) = (rinv x : EReal) := by
  rw [← msq_eq]; exact rsqrt_pos (msq_pos x)

theorem div_1024 (s : ℝ) : Ideal.div (s : EReal) ((1024 : ℝ) : EReal) = ((s / 1024 : ℝ) : EReal) := div_coe_coe (by norm_num) s

theorem inv1024_word : Ideal.ofBits .f32 0x3A800000#32 = ((1 / 1024 : ℝ) : EReal) := by
  simp [Ideal.ofBits, Ideal.ieee, -EReal.coe_mul]; norm_num

theorem inv2048_word : Ideal.ofBits .f32 0x3A000000#32 = ((1 / 2048 : ℝ) : EReal) := by
  simp [Ideal.ofBits, Ideal.ieee, -EReal.coe_mul]; norm_num

/-- The kernels' form of the norm's gradient is the derivative's. -/
theorem dxr_eq (x a : Fin 1024 → ℝ) (j : Fin 1024) :
    dxr x a j = a j * rinv x + x j * ((∑ k, x k * a k) * (-(1/2) * (rinv x / msq x)) / 1024)
        + (∑ k, x k * a k) * (-(1/2) * (rinv x / msq x)) / 1024 * x j := by
  have h := rms_grad x a j
  norm_num at h ⊢
  exact h

/-- The rows of a tile are its upper half's and its lower half's. -/
theorem sum_halves (f : Fin 512 → ℝ) : ∑ i : Fin 256, f ⟨i.val, by omega⟩ + ∑ i : Fin 256, f ⟨256 + i.val, by omega⟩ = ∑ i, f i := by
  rw [Fin.sum_univ_add (a := 256) (b := 256) f]; rfl

/-- The rows of all tiles are the array's. -/
theorem sum_tiles8 (f : Fin 4096 → ℝ) : ∑ t : Fin 8, ∑ i : Fin 512, f ⟨512 * t.val + i.val, by omega⟩ = ∑ i, f i := by
  rw [← Equiv.sum_comp (finProdFinEquiv (m := 8) (n := 512)) f, Fintype.sum_prod_type]
  refine Finset.sum_congr rfl fun t _ => Finset.sum_congr rfl fun i _ => congrArg f (Fin.ext ?_)
  simp [finProdFinEquiv]; omega

theorem sum_tiles16 (f : Fin 4096 → ℝ) : ∑ t : Fin 16, ∑ i : Fin 256, f ⟨256 * t.val + i.val, by omega⟩ = ∑ i, f i := by
  rw [← Equiv.sum_comp (finProdFinEquiv (m := 16) (n := 256)) f, Fintype.sum_prod_type]
  refine Finset.sum_congr rfl fun t _ => Finset.sum_congr rfl fun i _ => congrArg f (Fin.ext ?_)
  simp [finProdFinEquiv]; omega

/-- The gradient of a normalised row's source, the residual's added: `Y` the cotangent of the norm, `D` the residual's. -/
def dxAll {n : ℕ} (Y X D : Fin n → Fin 1024 → ℝ) (G : Fin 1024 → ℝ) (r : Fin n) (k : Fin 1024) : ℝ := dxr (X r) (fun j => Y r j * G j) k + D r k
/-- The gradient of a norm's scale. -/
def dgAll {n : ℕ} (Y X : Fin n → Fin 1024 → ℝ) (k : Fin 1024) : ℝ := ∑ r, Y r k * nrm (X r) k
/-- The gradient of a normalised branch, `Z` the cotangent of its norm. -/
def dfAll {n : ℕ} (Z X : Fin n → Fin 1024 → ℝ) (G : Fin 1024 → ℝ) (r : Fin n) (k : Fin 1024) : ℝ := dxr (X r) (fun j => Z r j * G j) k

/-- Four slices of 1408 columns are the 5632. -/
def at4 (q : Fin 4) (l : Fin 1408) : Fin 5632 := ⟨1408 * q.val + l.val, by omega⟩

theorem sum_slices (f : Fin 5632 → ℝ) : ∑ l, f (at4 0 l) + ∑ l, f (at4 1 l) + ∑ l, f (at4 2 l) + ∑ l, f (at4 3 l) = ∑ l, f l := by
  rw [← Equiv.sum_comp (finProdFinEquiv (m := 4) (n := 1408)) f, Fintype.sum_prod_type, Fin.sum_univ_four]
  have h : ∀ q l, f (finProdFinEquiv (m := 4) (n := 1408) (q, l)) = f (at4 q l) := fun q l => congrArg f (Fin.ext (by simp [finProdFinEquiv, at4]; omega))
  simp only [h]

theorem at0 (l : Fin 1408) (h) : (⟨l.val, h⟩ : Fin 5632) = at4 0 l := Fin.ext (Nat.zero_add _).symm
theorem at1 (l : Fin 1408) (h) : (⟨1408 + l.val, h⟩ : Fin 5632) = at4 1 l := Fin.ext rfl
theorem at2 (l : Fin 1408) (h) : (⟨2816 + l.val, h⟩ : Fin 5632) = at4 2 l := Fin.ext rfl
theorem at3 (l : Fin 1408) (h) : (⟨4224 + l.val, h⟩ : Fin 5632) = at4 3 l := Fin.ext rfl

/-- The cotangent of a feed-forward's normalised input: the product by the input weight. -/
def dyIn {n : ℕ} (DA : Fin n → Fin 5632 → ℝ) (WI : Fin 1024 → Fin 5632 → ℝ) (r : Fin n) (j : Fin 1024) : ℝ := ∑ l, DA r l * WI j l

theorem dyIn_slices {n : ℕ} (DA : Fin n → Fin 5632 → ℝ) (WI : Fin 1024 → Fin 5632 → ℝ) (r : Fin n) (j : Fin 1024) :
    dyIn DA WI r j = ∑ l, DA r (at4 0 l) * WI j (at4 0 l) + ∑ l, DA r (at4 1 l) * WI j (at4 1 l) + ∑ l, DA r (at4 2 l) * WI j (at4 2 l)
      + ∑ l, DA r (at4 3 l) * WI j (at4 3 l) := (sum_slices fun l => DA r l * WI j l).symm

end Cert.NormGrad
-- ==== Proof.FfnIn1Kernel.lean ====
/-
  What one tile of the first feed-forward's input gradient stores: the product by the input weight, fused with the norm's gradient.
-/
module

public import Idealize.ShloMosaic.Lib.Pipeline.ValueKit
public import proofs.«01_k».proof.Proof.NormGrad
public import proofs.«01_k».proof.Proof.Gen.Kernel9Ideal.Frame

@[expose] public section

set_option maxRecDepth 16384

noncomputable section

namespace Cert.FfnIn1

open Idealize.ShloMosaic Idealize.ShloMosaic.TcCoe Idealize.SL.Sem
open Cert.Kernel9Ideal Cert.Kernel9Ideal.Gen Cert.NormGrad Cert.Reals Cert.Sigmoid

section blocks

variable (x0 : Vec Ideal S4x512x1408 .bf16) (x1 : Vec Ideal S1024x5632 .bf16) (x2 : Vec Ideal S512x1024 .f32) (x3 : Vec Ideal S1x1024 .f32) (x4 : Vec Ideal S512x1024 .f32)
  (DA : Fin 512 → Fin 5632 → ℝ) (WI : Fin 1024 → Fin 5632 → ℝ) (X D : Fin 512 → Fin 1024 → ℝ) (G : Fin 1024 → ℝ)
  (ha : ∀ q r l, x0 (ix3 q r l) = (DA r (at4 q l) : EReal)) (hw : ∀ j l, x1 (ix2 j l) = (WI j l : EReal))
  (hx : ∀ r l, x2 (ix2 r l) = (X r l : EReal)) (hg : ∀ z l, x3 (ix2 z l) = (G l : EReal)) (hd : ∀ r l, x4 (ix2 r l) = (D r l : EReal))

include ha hw hx hg hd

theorem out5A (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : cond0_0 i)  (y : S512x1024.Idx) (r : Fin 512) (k : Fin 1024) (hr : (y 0).val = r.val) (hk : (y 1).val = k.val) :
    out0_A_5 c i arg1 harg1 arg2 harg2 arg3 harg3 arg4 harg4 arg5 harg5 arg6 harg6 arg7 harg7 hc0 x0 x1 x2 x3 x4 y = (dxAll (dyIn DA WI) X D G r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13]
    simp only [l0, at0, at1, at2, at3]
    simp only [ha, hw, hx, hg, hd, dfAll, dxAll, dyIn_slices, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13]
    simp only [l0, at0, at1, at2, at3]
    simp only [ha, hw, hx, hg, hd, dfAll, dxAll, dyIn_slices, k1024_word, eps_word, half_word, ← EReal.coe_one, ← EReal.coe_mul, ← EReal.coe_add, ← EReal.coe_sub, sum_coe, div_1024, rsqrt_row]
    rfl

theorem out5B (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : ¬cond0_0 i) (xo6 : Vec Ideal S1x1024 .f32) (y : S512x1024.Idx) (r : Fin 512) (k : Fin 1024) (hr : (y 0).val = r.val) (hk : (y 1).val = k.val) :
    out0_B_5 c i arg1 harg1 arg2 harg2 arg3 harg3 arg4 harg4 arg5 harg5 arg6 harg6 arg7 harg7 hc0 x0 x1 x2 x3 x4 xo6 y = (dxAll (dyIn DA WI) X D G r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13]
    simp only [l0, at0, at1, at2, at3]
    simp only [ha, hw, hx, hg, hd, dfAll, dxAll, dyIn_slices, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13]
    simp only [l0, at0, at1, at2, at3]
    simp only [ha, hw, hx, hg, hd, dfAll, dxAll, dyIn_slices, k1024_word, eps_word, half_word, ← EReal.coe_one, ← EReal.coe_mul, ← EReal.coe_add, ← EReal.coe_sub, sum_coe, div_1024, rsqrt_row]
    rfl

theorem out6A (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : cond0_0 i)  (k : Fin 1024) :
    out0_A_6 c i arg1 harg1 arg2 harg2 arg3 harg3 arg4 harg4 arg5 harg5 arg6 harg6 arg7 harg7 hc0 x0 x1 x2 x3 x4 (ix2 0 k) = (dgAll (dyIn DA WI) X k : EReal) := by
  frame_out
  pointwise [k0_pay1, k0_pay2, k0_pay3, k0_pay4, k0_pay5, k0_pay6, k0_pay7, k0_pay8, k0_pay9, k0_pay10, k0_pay11, k0_pay12, k0_pay13]
  simp only [at0, at1, at2, at3]
  simp only [ha, hw, hx, hg, hd, k1024_word, eps_word, half_word, ← EReal.coe_one, ← EReal.coe_mul, ← EReal.coe_add, ← EReal.coe_sub, sum_coe, div_1024, rsqrt_row]
  refine congrArg (fun r : ℝ => (r : EReal)) (Eq.trans ?_ (sum_halves (fun r => dyIn DA WI r k * nrm (X r) k)))
  simp only [dxAll, dyIn_slices]
  rfl

theorem out6B (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : ¬cond0_0 i) (xo6 : Vec Ideal S1x1024 .f32) (k : Fin 1024) :
    out0_B_6 c i arg1 harg1 arg2 harg2 arg3 harg3 arg4 harg4 arg5 harg5 arg6 harg6 arg7 harg7 hc0 x0 x1 x2 x3 x4 xo6 (ix2 0 k) = xo6 (ix2 0 k) + (dgAll (dyIn DA WI) X k : EReal) := by
  frame_out
  pointwise [k0_pay1, k0_pay2, k0_pay3, k0_pay4, k0_pay5, k0_pay6, k0_pay7, k0_pay8, k0_pay9, k0_pay10, k0_pay11, k0_pay12, k0_pay13]
  simp only [at0, at1, at2, at3]
  simp only [ha, hw, hx, hg, hd, k1024_word, eps_word, half_word, ← EReal.coe_one, ← EReal.coe_mul, ← EReal.coe_add, ← EReal.coe_sub, sum_coe, div_1024, rsqrt_row]
  refine (add_assoc _ _ _).trans (congrArg (xo6 (ix2 0 k) + ·) ?_)
  rw [← EReal.coe_add]
  refine congrArg (fun r : ℝ => (r : EReal)) (Eq.trans ?_ (sum_halves (fun r => dyIn DA WI r k * nrm (X r) k)))
  simp only [dxAll, dyIn_slices]
  rfl

end blocks

end Cert.FfnIn1
-- ==== Proof.FfnIn1Arrays.lean ====
/-
  What the input gradient of the first feed-forward stores over all its tiles.
-/
module

public import Idealize.ShloMosaic.Lib.Pipeline.ValueKit
public import Idealize.ShloMosaic.Lib.Pipeline.ReadBack
public import proofs.«01_k».proof.Proof.FfnIn1Kernel
public import proofs.«01_k».proof.Proof.Gen.Kernel9Ideal.Value

@[expose] public section

set_option maxRecDepth 16384

noncomputable section

namespace Cert.FfnIn1

open Idealize.ShloMosaic Idealize.ShloMosaic.TcCoe Idealize.SL.Sem
open Idealize.ShloMosaic.Pipeline (Dat)
open Cert.Kernel9Ideal Cert.Kernel9Ideal.Gen Cert.NormGrad Cert.Reals Cert.Sigmoid

variable (m : (ℓ : Loc nD τ sig) → Buf (Elt Ideal) ℓ)

theorem idx : ∀ t : Fin cfg0.N, win0_0.index t = ![0, t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem lt8 (t : Fin cfg0.N) : t.val < 8 := lt_of_lt_of_eq t.isLt N_0

/-- Row `r` of tile `t`. -/
def trow (t : Fin cfg0.N) (r : Fin 512) : Fin 4096 := ⟨512 * t.val + r.val, by have := lt8 t; omega⟩

variable (DA : Fin 4096 → Fin 5632 → ℝ) (WI : Fin 1024 → Fin 5632 → ℝ) (X D : Fin 4096 → Fin 1024 → ℝ) (G : Fin 1024 → ℝ) (c : Dev nD)
  (hDA : ∀ i k, m ((c : Thread nD τ).loc main_arg0) (ix2 i k) = (DA i k : EReal))
  (hWI : ∀ i k, m ((c : Thread nD τ).loc main_arg1) (ix2 i k) = (WI i k : EReal))
  (hX : ∀ i k, m ((c : Thread nD τ).loc main_arg2) (ix2 i k) = (X i k : EReal))
  (hG : ∀ i k, m ((c : Thread nD τ).loc main_arg3) (ix2 i k) = (G k : EReal))
  (hD : ∀ i k, m ((c : Thread nD τ).loc main_arg4) (ix2 i k) = (D i k : EReal))

theorem blk0 (t : Fin cfg0.N) (q : Fin 4) (i : Fin 512) (k : Fin 1408) : iblk m c 0 t (ix3 q i k) = m ((c : Thread nD τ).loc main_arg0) (ix2 (trow t i) (at4 q k)) := by
  have h := idx t
  rw [iblk]
  entry_read
  have e : (win0_0.blk t).view.emb (ix3 q i k) = ix3 q (trow t i) k := by
    funext a
    fin_cases a
    · apply Fin.ext
      blk_simp [h]
      rfl
    · apply Fin.ext
      blk_simp [h]
      show t.val * 512 + i.val = 512 * t.val + i.val
      omega
    · apply Fin.ext
      blk_simp [h]
      rfl
  blk_simp [h]
  rw [e]
  pointwise []
  have e2 : ∀ h, (⟨q.val * 1408 + k.val, h⟩ : Fin 5632) = at4 q k := fun h => Fin.ext (by
    show q.val * 1408 + k.val = 1408 * q.val + k.val
    omega)
  simp only [e2]

theorem blk1 (t : Fin cfg0.N) (i : Fin 1024) (k : Fin 5632) : iblk m c 1 t (ix2 i k) = m ((c : Thread nD τ).loc main_arg1) (ix2 i k) := by
  have h := idx t
  rw [iblk]
  entry_read
  blk_point [h]

theorem blk2 (t : Fin cfg0.N) (i : Fin 512) (k : Fin 1024) : iblk m c 2 t (ix2 i k) = m ((c : Thread nD τ).loc main_arg2) (ix2 (trow t i) k) := by
  have h := idx t
  have ht : (trow t i).val = 512 * t.val + i.val := rfl
  rw [iblk]
  entry_read
  blk_point [h, ht]

theorem blk3 (t : Fin cfg0.N) (i : Fin 1) (k : Fin 1024) : iblk m c 3 t (ix2 i k) = m ((c : Thread nD τ).loc main_arg3) (ix2 i k) := by
  have h := idx t
  rw [iblk]
  entry_read
  blk_point [h]

theorem blk4 (t : Fin cfg0.N) (i : Fin 512) (k : Fin 1024) : iblk m c 4 t (ix2 i k) = m ((c : Thread nD τ).loc main_arg4) (ix2 (trow t i) k) := by
  have h := idx t
  have ht : (trow t i).val = 512 * t.val + i.val := rfl
  rw [iblk]
  entry_read
  blk_point [h, ht]

include hDA hWI hX hG hD

theorem rows5 (t : Fin cfg0.N) (i : Fin 512) (k : Fin 1024) :
    (outsAt0 m c t.val t.isLt).1 (ix2 i k) = (dxAll (dyIn DA WI) X D G (trow t i) k : EReal) := by
  by_cases h : t.val % 8 = 0
  · rw [outsAt0_A m c t h]
    dsimp only
    exact out5A (iblk m c 0 t) (iblk m c 1 t) (iblk m c 2 t) (iblk m c 3 t) (iblk m c 4 t) (fun r => DA (trow t r)) WI (fun r => X (trow t r)) (fun r => D (trow t r)) G (fun q r l => (blk0 m c t q r l).trans (hDA _ _)) (fun j l => (blk1 m c t j l).trans (hWI _ _)) (fun r l => (blk2 m c t r l).trans (hX _ _)) (fun z l => (blk3 m c t z l).trans (hG _ _)) (fun r l => (blk4 m c t r l).trans (hD _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (ix2 i k) i k rfl rfl
  · rw [outsAt0_B m c t h]
    dsimp only
    generalize outsAt0 m c (t.val - 1) _ = xo
    exact out5B (iblk m c 0 t) (iblk m c 1 t) (iblk m c 2 t) (iblk m c 3 t) (iblk m c 4 t) (fun r => DA (trow t r)) WI (fun r => X (trow t r)) (fun r => D (trow t r)) G (fun q r l => (blk0 m c t q r l).trans (hDA _ _)) (fun j l => (blk1 m c t j l).trans (hWI _ _)) (fun r l => (blk2 m c t r l).trans (hX _ _)) (fun z l => (blk3 m c t z l).trans (hG _ _)) (fun r l => (blk4 m c t r l).trans (hD _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun g => h ((hcond0_0 t).mp g)) xo.2 (ix2 i k) i k rfl rfl

theorem final5 : (dats m 0 c).arrAt 5 cfg0.N = fun j => (dxAll (dyIn DA WI) X D G (j 0) (j 1) : EReal) := by
  refine (dats m 0 c).arrAt_eq_of_covers 5 _ (by decide +kernel) fun t hf y => ?_
  have h := idx t
  blk_simp
  rw [after0_5]
  idx_vars y
  rw [rows5 m DA WI X D G c hDA hWI hX hG hD t y0 y1]
  congr 2 <;> (apply Fin.ext; blk_simp [h, trow] <;> try (dsimp only; omega))

theorem first6 (t : Fin cfg0.N) (h : t.val % 8 = 0) (y : S1x1024.Idx) :
    (outsAt0 m c t.val t.isLt).2 y = 0 + (dgAll (dyIn (fun r => DA (trow t r)) WI) (fun r => X (trow t r)) (y 1) : EReal) := by
  rw [outsAt0_A m c t h, zero_add]
  dsimp only
  idx_vars y
  obtain rfl : y0 = 0 := Subsingleton.elim _ _
  exact out6A (iblk m c 0 t) (iblk m c 1 t) (iblk m c 2 t) (iblk m c 3 t) (iblk m c 4 t) (fun r => DA (trow t r)) WI (fun r => X (trow t r)) (fun r => D (trow t r)) G (fun q r l => (blk0 m c t q r l).trans (hDA _ _)) (fun j l => (blk1 m c t j l).trans (hWI _ _)) (fun r l => (blk2 m c t r l).trans (hX _ _)) (fun z l => (blk3 m c t z l).trans (hG _ _)) (fun r l => (blk4 m c t r l).trans (hD _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) y1

theorem next6 (t : Fin cfg0.N) (h : ¬ t.val % 8 = 0) (y : S1x1024.Idx) :
    (outsAt0 m c t.val t.isLt).2 y = (outsAt0 m c (t.val - 1) (Nat.lt_of_le_of_lt (Nat.sub_le _ _) t.isLt)).2 y + (dgAll (dyIn (fun r => DA (trow t r)) WI) (fun r => X (trow t r)) (y 1) : EReal) := by
  rw [outsAt0_B m c t h]
  dsimp only
  generalize outsAt0 m c (t.val - 1) _ = xo
  idx_vars y
  obtain rfl : y0 = 0 := Subsingleton.elim _ _
  exact out6B (iblk m c 0 t) (iblk m c 1 t) (iblk m c 2 t) (iblk m c 3 t) (iblk m c 4 t) (fun r => DA (trow t r)) WI (fun r => X (trow t r)) (fun r => D (trow t r)) G (fun q r l => (blk0 m c t q r l).trans (hDA _ _)) (fun j l => (blk1 m c t j l).trans (hWI _ _)) (fun r l => (blk2 m c t r l).trans (hX _ _)) (fun z l => (blk3 m c t z l).trans (hG _ _)) (fun r l => (blk4 m c t r l).trans (hD _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun g => h ((hcond0_0 t).mp g)) xo.2 y1

theorem final6 : (dats m 0 c).arrAt 6 cfg0.N = fun j => (dgAll (dyIn DA WI) X (j 1) : EReal) := by
  refine (dats m 0 c).arrAt_eq_of_covers 6 _ (by decide +kernel) fun t hf y => ?_
  have h := idx t
  blk_simp
  rw [after0_6, Pipeline.eq_sum_fin_of_reset_step_apply_of_flush (fun n h => (outsAt0 m c n h).2) 8 (fun _ => 0)
    (fun (t : Fin cfg0.N) (y : S1x1024.Idx) => (dgAll (dyIn (fun r => DA (trow t r)) WI) (fun r => X (trow t r)) (y 1) : EReal)) (first6 m DA WI X D G c hDA hWI hX hG hD) (next6 m DA WI X D G c hDA hWI hX hG hD) t ((flush0_6 t).mp hf) y, zero_add, sum_coe]
  have hs : ∀ s : Fin 8, 8 * (t.val / 8) + s.val = s.val := fun s => by have := lt8 t; omega
  unfold trow
  simp only [hs]
  idx_vars y

  refine (congrArg (fun r : ℝ => (r : EReal)) (sum_tiles8 (fun r => dyIn DA WI r y1 * nrm (X r) y1))).trans ?_
  exact congrArg (fun k : Fin 1024 => ((dgAll (dyIn DA WI) X k : ℝ) : EReal)) (Fin.ext (by blk_simp [h]))

end Cert.FfnIn1
-- ==== Proof.FfnIn1Reference.lean ====
/-
  The derivative of the first feed-forward's norm, as the reference's program computes it, on finite arguments.
-/
module

public import Idealize.ShloMosaic.Lib.Pipeline.ValueKit
public import proofs.«01_k».proof.Proof.NormGrad
public import proofs.«01_k».proof.Proof.Gen.Reference9Ideal.Run
public import proofs.«01_k».proof.Proof.Gen.Reference9Ideal.Read

@[expose] public section

set_option maxRecDepth 16384

noncomputable section

namespace Cert.FfnIn1.Ref

open Idealize.ShloMosaic Idealize.ShloMosaic.TcCoe Idealize.SL.Sem
open Cert.Reference9Ideal Cert.Reference9Ideal.Gen Cert.Reference9Ideal.Read
open Cert.NormGrad Cert.Reals Cert.Sigmoid

variable (x0 : (⟨S4096x5632, .f32⟩ : BufTy).Contents (Elt Ideal)) (DA : Fin 4096 → Fin 5632 → ℝ) (hDA : ∀ i k, x0 (ix2 i k) = (DA i k : EReal))
variable (x1 : (⟨S1024x5632, .f32⟩ : BufTy).Contents (Elt Ideal)) (WI : Fin 1024 → Fin 5632 → ℝ) (hWI : ∀ i k, x1 (ix2 i k) = (WI i k : EReal))
variable (x2 : (⟨S4096x1024, .f32⟩ : BufTy).Contents (Elt Ideal)) (X : Fin 4096 → Fin 1024 → ℝ) (hX : ∀ i k, x2 (ix2 i k) = (X i k : EReal))
variable (x3 : (⟨S1x1024, .f32⟩ : BufTy).Contents (Elt Ideal)) (G : Fin 1024 → ℝ) (hG : ∀ i k, x3 (ix2 i k) = (G k : EReal))
variable (x4 : (⟨S4096x1024, .f32⟩ : BufTy).Contents (Elt Ideal)) (D : Fin 4096 → Fin 1024 → ℝ) (hD : ∀ i k, x4 (ix2 i k) = (D i k : EReal))
include hDA hWI hX hG hD

theorem s6 (i : Fin 4096) (z : Fin 1) : val_main_v6 (F := Ideal) x2 (ix2 i z) = ((msq (X i) : ℝ) : EReal) := by
  pointwise [val_main_v6, val_main_v4, val_main_v5, val_main_v2, val_main_v3, val_main_cst_1, val_main_v1, val_main_cst_0, val_main_cst, val_main_v0]
  simp only [hDA, hWI, hX, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  exact (msq_eq _).symm

theorem s7 (i : Fin 4096) (z : Fin 1) : val_main_v7 (F := Ideal) x2 (ix2 i z) = ((rinv (X i) : ℝ) : EReal) := by
  pointwise [val_main_v7]
  simp only [s6 x0 DA hDA x1 WI hWI x2 X hX x3 G hG x4 D hD, hDA, hWI, hX, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  exact rsqrt_pos (msq_pos _)

theorem s12 (i : Fin 4096) (k : Fin 1024) : val_main_v12 (F := Ideal) x2 (ix2 i k) = ((nrm (X i) k : ℝ) : EReal) := by
  pointwise [val_main_v12, val_main_v11]
  simp only [s7 x0 DA hDA x1 WI hWI x2 X hX x3 G hG x4 D hD, hDA, hWI, hX, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s16 (i : Fin 4096) (k : Fin 1024) : val_main_v16 (F := Ideal) x0 x1 (ix2 i k) = ((dyIn DA WI i k : ℝ) : EReal) := by
  pointwise [val_main_v16]
  simp only [hDA, hWI, hX, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s19 (z : Fin 1) (k : Fin 1024) : val_main_v19 (F := Ideal) x0 x1 x2 (ix2 z k) = ((dgAll (dyIn DA WI) X k : ℝ) : EReal) := by
  pointwise [val_main_v19, val_main_v18, val_main_cst_3, val_main_v17]
  simp only [s12 x0 DA hDA x1 WI hWI x2 X hX x3 G hG x4 D hD, s16 x0 DA hDA x1 WI hWI x2 X hX x3 G hG x4 D hD, hDA, hWI, hX, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dgAll]
  exact Finset.sum_congr rfl fun r _ => mul_comm _ _

theorem s36 (i : Fin 4096) (k : Fin 1024) : val_main_v36 (F := Ideal) x0 x1 x2 x3 x4 (ix2 i k) = ((dxAll (dyIn DA WI) X D G i k : ℝ) : EReal) := by
  pointwise [val_main_v36, val_main_v34, val_main_v35, val_main_v27, val_main_v33, val_main_v32, val_main_v26, val_main_v31, val_main_v21, val_main_v25, val_main_cst_6, val_main_v30, val_main_v20, val_main_v28, val_main_v29, val_main_v10, val_main_v24, val_main_cst_5, val_main_v8, val_main_v9, val_main_v23, val_main_cst_2, val_main_cst_4, val_main_v22]
  simp only [s16 x0 DA hDA x1 WI hWI x2 X hX x3 G hG x4 D hD, s7 x0 DA hDA x1 WI hWI x2 X hX x3 G hG x4 D hD, s6 x0 DA hDA x1 WI hWI x2 X hX x3 G hG x4 D hD, hDA, hWI, hX, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dxAll, dxr_eq]
  ring

end Cert.FfnIn1.Ref
-- ==== Proof.FfnIn1.lean ====
/-
  The first feed-forward's backward input kernel computes the derivative: the equation of the two programs on finite arguments.
-/
module

public import proofs.«01_k».proof.Defs
public import proofs.«01_k».proof.Proof.FfnIn1Arrays
public import proofs.«01_k».proof.Proof.FfnIn1Reference
public import proofs.«01_k».proof.Proof.Gen.Kernel9Ideal.Value

@[expose] public section

set_option maxRecDepth 16384

noncomputable section

namespace Cert.FfnIn1

open Idealize.ShloMosaic Idealize.ShloMosaic.TcCoe Idealize.SL.Sem
open Cert.Reals

/-- The side conditions of the precondition's own program. -/
instance preFacts : Cert.Pre_finite_ffn1in.Facts := ⟨by decide, by decide, by decide, by decide⟩

/-- Finite arguments are casts of real arrays. -/
theorem reals (m : (ℓ : Loc Cert.Kernel9Ideal.nD Cert.Kernel9Ideal.τ Cert.Kernel9Ideal.sig) → Buf (Elt Ideal) ℓ) (h : Cert.Pre_Kernel9Ideal_finite_ffn1in m) (c : Dev Cert.Kernel9Ideal.nD) :
    ∃ (DA : Fin 4096 → Fin 5632 → ℝ) (WI : Fin 1024 → Fin 5632 → ℝ) (X : Fin 4096 → Fin 1024 → ℝ) (G : Fin 1024 → ℝ) (D : Fin 4096 → Fin 1024 → ℝ),
      (∀ i k, m ((c : Thread Cert.Kernel9Ideal.nD Cert.Kernel9Ideal.τ).loc Cert.Kernel9Ideal.main_arg0) (ix2 i k) = (DA i k : EReal))
      ∧ (∀ i k, m ((c : Thread Cert.Kernel9Ideal.nD Cert.Kernel9Ideal.τ).loc Cert.Kernel9Ideal.main_arg1) (ix2 i k) = (WI i k : EReal))
      ∧ (∀ i k, m ((c : Thread Cert.Kernel9Ideal.nD Cert.Kernel9Ideal.τ).loc Cert.Kernel9Ideal.main_arg2) (ix2 i k) = (X i k : EReal))
      ∧ (∀ i k, m ((c : Thread Cert.Kernel9Ideal.nD Cert.Kernel9Ideal.τ).loc Cert.Kernel9Ideal.main_arg3) (ix2 i k) = (G k : EReal))
      ∧ (∀ i k, m ((c : Thread Cert.Kernel9Ideal.nD Cert.Kernel9Ideal.τ).loc Cert.Kernel9Ideal.main_arg4) (ix2 i k) = (D i k : EReal)) := by
  obtain ⟨h0, h1, h2, h3, h4⟩ := h c
  refine ⟨fun i k => (m ((c : Thread Cert.Kernel9Ideal.nD Cert.Kernel9Ideal.τ).loc Cert.Kernel9Ideal.main_arg0) (ix2 i k)).toReal, fun i k => (m ((c : Thread Cert.Kernel9Ideal.nD Cert.Kernel9Ideal.τ).loc Cert.Kernel9Ideal.main_arg1) (ix2 i k)).toReal, fun i k => (m ((c : Thread Cert.Kernel9Ideal.nD Cert.Kernel9Ideal.τ).loc Cert.Kernel9Ideal.main_arg2) (ix2 i k)).toReal, fun k => (m ((c : Thread Cert.Kernel9Ideal.nD Cert.Kernel9Ideal.τ).loc Cert.Kernel9Ideal.main_arg3) (ix2 0 k)).toReal, fun i k => (m ((c : Thread Cert.Kernel9Ideal.nD Cert.Kernel9Ideal.τ).loc Cert.Kernel9Ideal.main_arg4) (ix2 i k)).toReal,
    fun i k => (real_of_lt (congrFun h0 (ix2 i k))).symm, fun i k => (real_of_lt (congrFun h1 (ix2 i k))).symm, fun i k => (real_of_lt (congrFun h2 (ix2 i k))).symm, fun i k => ?_, fun i k => (real_of_lt (congrFun h4 (ix2 i k))).symm⟩
  · obtain rfl : i = 0 := Subsingleton.elim _ _
    exact (real_of_lt (congrFun h3 (ix2 0 k))).symm

set_option maxHeartbeats 4000000 in
theorem algebraic : Cert.algebraic_Kernel9Ideal_Reference9Ideal_pre_finite_ffn1in := by
  intro m ρ m' ρ' hp heq
  refine ⟨fun c => (Cert.Kernel9Ideal.Gen.dats m 0 c).arrAt 5 Cert.Kernel9Ideal.cfg0.N, fun c => (Cert.Kernel9Ideal.Gen.dats m 0 c).arrAt 6 Cert.Kernel9Ideal.cfg0.N, Cert.Kernel9Ideal.Value.run_blocks m ρ, ?_⟩
  refine (θ_run Cert.Reference9Ideal.defs _ _).mono (fun r h c => ?_) (Cert.Reference9Ideal.Value.run m' ρ')
  obtain ⟨h36, h19, ha0, ha1, ha2, ha3, ha4⟩ := h c
  obtain ⟨e0, e1, e2, e3, e4⟩ := heq c
  obtain ⟨DA, WI, X, G, D, hDA, hWI, hX, hG, hD⟩ := reals m hp c
  refine ⟨(h36.trans (Cert.Reference9Ideal.Read.val_main_v36_eq m' c)).trans (Eq.trans ?_ (final5 m DA WI X D G c hDA hWI hX hG hD).symm),
    (h19.trans (Cert.Reference9Ideal.Read.val_main_v19_eq _ _ _)).trans (Eq.trans ?_ (final6 m DA WI X D G c hDA hWI hX hG hD).symm), ha0, ha1, ha2, ha3, ha4⟩
  · rw [e0, e1, e2, e3, e4]
    funext j
    idx_vars j
    exact Ref.s36 _ DA hDA _ WI hWI _ X hX _ G hG _ D hD j0 j1
  · rw [e0, e1, e2]
    funext j
    idx_vars j
    exact Ref.s19 _ DA hDA _ WI hWI _ X hX _ G hG _ D hD j0 j1

end Cert.FfnIn1
-- ==== Proof.FfnIn2Kernel.lean ====
/-
  What one tile of the second feed-forward's input gradient stores: the product by the input weight, fused with the gradients of its norm
  and of the norm that closed the mixer.
-/
module

public import Idealize.ShloMosaic.Lib.Pipeline.ValueKit
public import proofs.«01_k».proof.Proof.NormGrad
public import proofs.«01_k».proof.Proof.Gen.Kernel8Ideal.Frame

@[expose] public section

set_option maxRecDepth 16384

noncomputable section

namespace Cert.FfnIn2

open Idealize.ShloMosaic Idealize.ShloMosaic.TcCoe Idealize.SL.Sem
open Cert.Kernel8Ideal Cert.Kernel8Ideal.Gen Cert.NormGrad Cert.Reals Cert.Sigmoid

section blocks

variable (x0 : Vec Ideal S4x512x1408 .bf16) (x1 : Vec Ideal S1024x5632 .bf16) (x2 : Vec Ideal S512x1024 .f32) (x3 : Vec Ideal S1x1024 .f32) (x4 : Vec Ideal S512x1024 .f32) (x5 : Vec Ideal S512x1024 .f32) (x6 : Vec Ideal S1x1024 .f32)
  (DA : Fin 512 → Fin 5632 → ℝ) (WI : Fin 1024 → Fin 5632 → ℝ) (X D F : Fin 512 → Fin 1024 → ℝ) (G GF : Fin 1024 → ℝ)
  (ha : ∀ q r l, x0 (ix3 q r l) = (DA r (at4 q l) : EReal)) (hw : ∀ j l, x1 (ix2 j l) = (WI j l : EReal))
  (hx : ∀ r l, x2 (ix2 r l) = (X r l : EReal)) (hg : ∀ z l, x3 (ix2 z l) = (G l : EReal)) (hd : ∀ r l, x4 (ix2 r l) = (D r l : EReal))
  (hf : ∀ r l, x5 (ix2 r l) = (F r l : EReal)) (hgf : ∀ z l, x6 (ix2 z l) = (GF l : EReal))

include ha hw hx hg hd hf hgf

theorem out7A (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x1024 .f32) (harg11 : arg11.IsWhole) (hc0 : cond0_0 i)  (y : S512x1024.Idx) (r : Fin 512) (k : Fin 1024) (hr : (y 0).val = r.val) (hk : (y 1).val = k.val) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 y = (dxAll (dyIn DA WI) X D G r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [l0, at0, at1, at2, at3]
    simp only [ha, hw, hx, hg, hd, hf, hgf, dfAll, dxAll, dyIn_slices, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [l0, at0, at1, at2, at3]
    simp only [ha, hw, hx, hg, hd, hf, hgf, dfAll, dxAll, dyIn_slices, k1024_word, eps_word, half_word, ← EReal.coe_one, ← EReal.coe_mul, ← EReal.coe_add, ← EReal.coe_sub, sum_coe, div_1024, rsqrt_row]
    rfl

theorem out7B (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x1024 .f32) (harg11 : arg11.IsWhole) (hc0 : ¬cond0_0 i) (xo8 : Vec Ideal S1x1024 .f32) (xo10 : Vec Ideal S1x1024 .f32) (y : S512x1024.Idx) (r : Fin 512) (k : Fin 1024) (hr : (y 0).val = r.val) (hk : (y 1).val = k.val) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xo8 xo10 y = (dxAll (dyIn DA WI) X D G r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [l0, at0, at1, at2, at3]
    simp only [ha, hw, hx, hg, hd, hf, hgf, dfAll, dxAll, dyIn_slices, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [l0, at0, at1, at2, at3]
    simp only [ha, hw, hx, hg, hd, hf, hgf, dfAll, dxAll, dyIn_slices, k1024_word, eps_word, half_word, ← EReal.coe_one, ← EReal.coe_mul, ← EReal.coe_add, ← EReal.coe_sub, sum_coe, div_1024, rsqrt_row]
    rfl

theorem out8A (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x1024 .f32) (harg11 : arg11.IsWhole) (hc0 : cond0_0 i)  (k : Fin 1024) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 (ix2 0 k) = (dgAll (dyIn DA WI) X k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [at0, at1, at2, at3]
  simp only [ha, hw, hx, hg, hd, hf, hgf, k1024_word, eps_word, half_word, ← EReal.coe_one, ← EReal.coe_mul, ← EReal.coe_add, ← EReal.coe_sub, sum_coe, div_1024, rsqrt_row]
  refine congrArg (fun r : ℝ => (r : EReal)) (Eq.trans ?_ (sum_halves (fun r => dyIn DA WI r k * nrm (X r) k)))
  simp only [dxAll, dyIn_slices]
  rfl

theorem out8B (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x1024 .f32) (harg11 : arg11.IsWhole) (hc0 : ¬cond0_0 i) (xo8 : Vec Ideal S1x1024 .f32) (xo10 : Vec Ideal S1x1024 .f32) (k : Fin 1024) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 xo8 xo10 (ix2 0 k) = xo8 (ix2 0 k) + (dgAll (dyIn DA WI) X k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [at0, at1, at2, at3]
  simp only [ha, hw, hx, hg, hd, hf, hgf, k1024_word, eps_word, half_word, ← EReal.coe_one, ← EReal.coe_mul, ← EReal.coe_add, ← EReal.coe_sub, sum_coe, div_1024, rsqrt_row]
  refine (add_assoc _ _ _).trans (congrArg (xo8 (ix2 0 k) + ·) ?_)
  rw [← EReal.coe_add]
  refine congrArg (fun r : ℝ => (r : EReal)) (Eq.trans ?_ (sum_halves (fun r => dyIn DA WI r k * nrm (X r) k)))
  simp only [dxAll, dyIn_slices]
  rfl

theorem out9A (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x1024 .f32) (harg11 : arg11.IsWhole) (hc0 : cond0_0 i)  (y : S512x1024.Idx) (r : Fin 512) (k : Fin 1024) (hr : (y 0).val = r.val) (hk : (y 1).val = k.val) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 y = (dfAll (dxAll (dyIn DA WI) X D G) F GF r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [l0, at0, at1, at2, at3]
    simp only [ha, hw, hx, hg, hd, hf, hgf, dfAll, dxAll, dyIn_slices, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [l0, at0, at1, at2, at3]
    simp only [ha, hw, hx, hg, hd, hf, hgf, dfAll, dxAll, dyIn_slices, k1024_word, eps_word, half_word, ← EReal.coe_one, ← EReal.coe_mul, ← EReal.coe_add, ← EReal.coe_sub, sum_coe, div_1024, rsqrt_row]
    rfl

theorem out9B (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x1024 .f32) (harg11 : arg11.IsWhole) (hc0 : ¬cond0_0 i) (xo8 : Vec Ideal S1x1024 .f32) (xo10 : Vec Ideal S1x1024 .f32) (y : S512x1024.Idx) (r : Fin 512) (k : Fin 1024) (hr : (y 0).val = r.val) (hk : (y 1).val = k.val) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 xo8 xo10 y = (dfAll (dxAll (dyIn DA WI) X D G) F GF r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [l0, at0, at1, at2, at3]
    simp only [ha, hw, hx, hg, hd, hf, hgf, dfAll, dxAll, dyIn_slices, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [l0, at0, at1, at2, at3]
    simp only [ha, hw, hx, hg, hd, hf, hgf, dfAll, dxAll, dyIn_slices, k1024_word, eps_word, half_word, ← EReal.coe_one, ← EReal.coe_mul, ← EReal.coe_add, ← EReal.coe_sub, sum_coe, div_1024, rsqrt_row]
    rfl

theorem out10A (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x1024 .f32) (harg11 : arg11.IsWhole) (hc0 : cond0_0 i)  (k : Fin 1024) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 (ix2 0 k) = (dgAll (dxAll (dyIn DA WI) X D G) F k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [at0, at1, at2, at3]
  simp only [ha, hw, hx, hg, hd, hf, hgf, k1024_word, eps_word, half_word, ← EReal.coe_one, ← EReal.coe_mul, ← EReal.coe_add, ← EReal.coe_sub, sum_coe, div_1024, rsqrt_row]
  refine congrArg (fun r : ℝ => (r : EReal)) (Eq.trans ?_ (sum_halves (fun r => dxAll (dyIn DA WI) X D G r k * nrm (F r) k)))
  simp only [dxAll, dyIn_slices]
  rfl

theorem out10B (c : Dev nD) (i : grid0.Coords) (arg1 : Memref sig .tc .vmem S4x512x1408 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x1024 .f32) (harg11 : arg11.IsWhole) (hc0 : ¬cond0_0 i) (xo8 : Vec Ideal S1x1024 .f32) (xo10 : Vec Ideal S1x1024 .f32) (k : Fin 1024) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 xo8 xo10 (ix2 0 k) = xo10 (ix2 0 k) + (dgAll (dxAll (dyIn DA WI) X D G) F k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [at0, at1, at2, at3]
  simp only [ha, hw, hx, hg, hd, hf, hgf, k1024_word, eps_word, half_word, ← EReal.coe_one, ← EReal.coe_mul, ← EReal.coe_add, ← EReal.coe_sub, sum_coe, div_1024, rsqrt_row]
  refine (add_assoc _ _ _).trans (congrArg (xo10 (ix2 0 k) + ·) ?_)
  rw [← EReal.coe_add]
  refine congrArg (fun r : ℝ => (r : EReal)) (Eq.trans ?_ (sum_halves (fun r => dxAll (dyIn DA WI) X D G r k * nrm (F r) k)))
  simp only [dxAll, dyIn_slices]
  rfl

end blocks

end Cert.FfnIn2
-- ==== Proof.FfnIn2Arrays.lean ====
/-
  What the input gradient of the second feed-forward stores over all its tiles.
-/
module

public import Idealize.ShloMosaic.Lib.Pipeline.ValueKit
public import Idealize.ShloMosaic.Lib.Pipeline.ReadBack
public import proofs.«01_k».proof.Proof.FfnIn2Kernel
public import proofs.«01_k».proof.Proof.Gen.Kernel8Ideal.Value

@[expose] public section

set_option maxRecDepth 16384

noncomputable section

namespace Cert.FfnIn2

open Idealize.ShloMosaic Idealize.ShloMosaic.TcCoe Idealize.SL.Sem
open Idealize.ShloMosaic.Pipeline (Dat)
open Cert.Kernel8Ideal Cert.Kernel8Ideal.Gen Cert.NormGrad Cert.Reals Cert.Sigmoid

variable (m : (ℓ : Loc nD τ sig) → Buf (Elt Ideal) ℓ)

theorem idx : ∀ t : Fin cfg0.N, win0_0.index t = ![0, t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] ∧ win0_7.index t = ![t.val, 0] ∧ win0_8.index t = ![0, 0] ∧ win0_9.index t = ![t.val, 0] ∧ win0_10.index t = ![0, 0] :=
  (by decide +kernel : ∀ t : Fin grid0.N, _)

theorem lt8 (t : Fin cfg0.N) : t.val < 8 := lt_of_lt_of_eq t.isLt N_0

/-- Row `r` of tile `t`. -/
def trow (t : Fin cfg0.N) (r : Fin 512) : Fin 4096 := ⟨512 * t.val + r.val, by have := lt8 t; omega⟩

/-- The residual stream after the mixer. -/
def mixOut (X1 F : Fin 4096 → Fin 1024 → ℝ) (GF : Fin 1024 → ℝ) (r : Fin 4096) (j : Fin 1024) : ℝ := X1 r j + nrm (F r) j * GF j

variable (DA : Fin 4096 → Fin 5632 → ℝ) (WI : Fin 1024 → Fin 5632 → ℝ) (X1 F : Fin 4096 → Fin 1024 → ℝ) (GF G : Fin 1024 → ℝ) (D : Fin 4096 → Fin 1024 → ℝ) (c : Dev nD)
  (hDA : ∀ i k, m ((c : Thread nD τ).loc main_arg0) (ix2 i k) = (DA i k : EReal))
  (hWI : ∀ i k, m ((c : Thread nD τ).loc main_arg1) (ix2 i k) = (WI i k : EReal))
  (hX1 : ∀ i k, m ((c : Thread nD τ).loc main_arg2) (ix2 i k) = (X1 i k : EReal))
  (hF : ∀ i k, m ((c : Thread nD τ).loc main_arg3) (ix2 i k) = (F i k : EReal))
  (hGF : ∀ i k, m ((c : Thread nD τ).loc main_arg4) (ix2 i k) = (GF k : EReal))
  (hG : ∀ i k, m ((c : Thread nD τ).loc main_arg5) (ix2 i k) = (G k : EReal))
  (hD : ∀ i k, m ((c : Thread nD τ).loc main_arg6) (ix2 i k) = (D i k : EReal))

theorem blk0 (t : Fin cfg0.N) (q : Fin 4) (i : Fin 512) (k : Fin 1408) : iblk m c 0 t (ix3 q i k) = m ((c : Thread nD τ).loc main_arg0) (ix2 (trow t i) (at4 q k)) := by
  have h := idx t
  rw [iblk]
  entry_read
  have e : (win0_0.blk t).view.emb (ix3 q i k) = ix3 q (trow t i) k := by
    funext a
    fin_cases a
    · apply Fin.ext
      blk_simp [h]
      rfl
    · apply Fin.ext
      blk_simp [h]
      show t.val * 512 + i.val = 512 * t.val + i.val
      omega
    · apply Fin.ext
      blk_simp [h]
      rfl
  blk_simp [h]
  rw [e]
  pointwise []
  have e2 : ∀ h, (⟨q.val * 1408 + k.val, h⟩ : Fin 5632) = at4 q k := fun h => Fin.ext (by
    show q.val * 1408 + k.val = 1408 * q.val + k.val
    omega)
  simp only [e2]

theorem blk1 (t : Fin cfg0.N) (i : Fin 1024) (k : Fin 5632) : iblk m c 1 t (ix2 i k) = m ((c : Thread nD τ).loc main_arg1) (ix2 i k) := by
  have h := idx t
  rw [iblk]
  entry_read
  blk_point [h]

include hX1 hF hGF in
theorem blk2 (t : Fin cfg0.N) (i : Fin 512) (k : Fin 1024) : iblk m c 2 t (ix2 i k) = (mixOut X1 F GF (trow t i) k : EReal) := by
  have h := idx t
  rw [iblk]
  entry_read
  have e : (win0_2.blk t).view.emb (ix2 i k) = ix2 (trow t i) k := by
    funext a
    fin_cases a
    · apply Fin.ext
      blk_simp [h]
      show t.val * 512 + i.val = 512 * t.val + i.val
      omega
    · apply Fin.ext
      blk_simp [h]
      rfl
  blk_simp [h]
  rw [e]
  pointwise []
  simp only [hX1, hF, hGF, k1024_word, eps_word, half_word, ← EReal.coe_one, ← EReal.coe_mul, ← EReal.coe_add, ← EReal.coe_sub, sum_coe, div_1024, rsqrt_row]
  rfl

theorem blk3 (t : Fin cfg0.N) (i : Fin 1) (k : Fin 1024) : iblk m c 3 t (ix2 i k) = m ((c : Thread nD τ).loc main_arg5) (ix2 i k) := by
  have h := idx t
  rw [iblk]
  entry_read
  blk_point [h]

theorem blk4 (t : Fin cfg0.N) (i : Fin 512) (k : Fin 1024) : iblk m c 4 t (ix2 i k) = m ((c : Thread nD τ).loc main_arg6) (ix2 (trow t i) k) := by
  have h := idx t
  have ht : (trow t i).val = 512 * t.val + i.val := rfl
  rw [iblk]
  entry_read
  blk_point [h, ht]

theorem blk5 (t : Fin cfg0.N) (i : Fin 512) (k : Fin 1024) : iblk m c 5 t (ix2 i k) = m ((c : Thread nD τ).loc main_arg3) (ix2 (trow t i) k) := by
  have h := idx t
  have ht : (trow t i).val = 512 * t.val + i.val := rfl
  rw [iblk]
  entry_read
  blk_point [h, ht]

theorem blk6 (t : Fin cfg0.N) (i : Fin 1) (k : Fin 1024) : iblk m c 6 t (ix2 i k) = m ((c : Thread nD τ).loc main_arg4) (ix2 i k) := by
  have h := idx t
  rw [iblk]
  entry_read
  blk_point [h]

include hDA hWI hX1 hF hGF hG hD

theorem rows7 (t : Fin cfg0.N) (i : Fin 512) (k : Fin 1024) :
    (outsAt0 m c t.val t.isLt).1 (ix2 i k) = (dxAll (dyIn DA WI) (mixOut X1 F GF) D G (trow t i) k : EReal) := by
  by_cases h : t.val % 8 = 0
  · rw [outsAt0_A m c t h]
    dsimp only
    exact out7A (iblk m c 0 t) (iblk m c 1 t) (iblk m c 2 t) (iblk m c 3 t) (iblk m c 4 t) (iblk m c 5 t) (iblk m c 6 t) (fun r => DA (trow t r)) WI (fun r => mixOut X1 F GF (trow t r)) (fun r => D (trow t r)) (fun r => F (trow t r)) G GF (fun q r l => (blk0 m c t q r l).trans (hDA _ _)) (fun j l => (blk1 m c t j l).trans (hWI _ _)) (fun r l => blk2 m X1 F GF c hX1 hF hGF t r l) (fun z l => (blk3 m c t z l).trans (hG _ _)) (fun r l => (blk4 m c t r l).trans (hD _ _)) (fun r l => (blk5 m c t r l).trans (hF _ _)) (fun z l => (blk6 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (ix2 i k) i k rfl rfl
  · rw [outsAt0_B m c t h]
    dsimp only
    generalize outsAt0 m c (t.val - 1) _ = xo
    exact out7B (iblk m c 0 t) (iblk m c 1 t) (iblk m c 2 t) (iblk m c 3 t) (iblk m c 4 t) (iblk m c 5 t) (iblk m c 6 t) (fun r => DA (trow t r)) WI (fun r => mixOut X1 F GF (trow t r)) (fun r => D (trow t r)) (fun r => F (trow t r)) G GF (fun q r l => (blk0 m c t q r l).trans (hDA _ _)) (fun j l => (blk1 m c t j l).trans (hWI _ _)) (fun r l => blk2 m X1 F GF c hX1 hF hGF t r l) (fun z l => (blk3 m c t z l).trans (hG _ _)) (fun r l => (blk4 m c t r l).trans (hD _ _)) (fun r l => (blk5 m c t r l).trans (hF _ _)) (fun z l => (blk6 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.1 xo.2.2.2 (ix2 i k) i k rfl rfl

theorem final7 : (dats m 0 c).arrAt 7 cfg0.N = fun j => (dxAll (dyIn DA WI) (mixOut X1 F GF) D G (j 0) (j 1) : EReal) := by
  refine (dats m 0 c).arrAt_eq_of_covers 7 _ (by decide +kernel) fun t hf y => ?_
  have h := idx t
  blk_simp
  rw [after0_7]
  idx_vars y
  rw [rows7 m DA WI X1 F GF G D c hDA hWI hX1 hF hGF hG hD t y0 y1]
  congr 2 <;> (apply Fin.ext; blk_simp [h, trow] <;> try (dsimp only; omega))

theorem first8 (t : Fin cfg0.N) (h : t.val % 8 = 0) (y : S1x1024.Idx) :
    (outsAt0 m c t.val t.isLt).2.1 y = 0 + (dgAll (dyIn (fun r => DA (trow t r)) WI) (fun r => mixOut X1 F GF (trow t r)) (y 1) : EReal) := by
  rw [outsAt0_A m c t h, zero_add]
  dsimp only
  idx_vars y
  obtain rfl : y0 = 0 := Subsingleton.elim _ _
  exact out8A (iblk m c 0 t) (iblk m c 1 t) (iblk m c 2 t) (iblk m c 3 t) (iblk m c 4 t) (iblk m c 5 t) (iblk m c 6 t) (fun r => DA (trow t r)) WI (fun r => mixOut X1 F GF (trow t r)) (fun r => D (trow t r)) (fun r => F (trow t r)) G GF (fun q r l => (blk0 m c t q r l).trans (hDA _ _)) (fun j l => (blk1 m c t j l).trans (hWI _ _)) (fun r l => blk2 m X1 F GF c hX1 hF hGF t r l) (fun z l => (blk3 m c t z l).trans (hG _ _)) (fun r l => (blk4 m c t r l).trans (hD _ _)) (fun r l => (blk5 m c t r l).trans (hF _ _)) (fun z l => (blk6 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) y1

theorem next8 (t : Fin cfg0.N) (h : ¬ t.val % 8 = 0) (y : S1x1024.Idx) :
    (outsAt0 m c t.val t.isLt).2.1 y = (outsAt0 m c (t.val - 1) (Nat.lt_of_le_of_lt (Nat.sub_le _ _) t.isLt)).2.1 y + (dgAll (dyIn (fun r => DA (trow t r)) WI) (fun r => mixOut X1 F GF (trow t r)) (y 1) : EReal) := by
  rw [outsAt0_B m c t h]
  dsimp only
  generalize outsAt0 m c (t.val - 1) _ = xo
  idx_vars y
  obtain rfl : y0 = 0 := Subsingleton.elim _ _
  exact out8B (iblk m c 0 t) (iblk m c 1 t) (iblk m c 2 t) (iblk m c 3 t) (iblk m c 4 t) (iblk m c 5 t) (iblk m c 6 t) (fun r => DA (trow t r)) WI (fun r => mixOut X1 F GF (trow t r)) (fun r => D (trow t r)) (fun r => F (trow t r)) G GF (fun q r l => (blk0 m c t q r l).trans (hDA _ _)) (fun j l => (blk1 m c t j l).trans (hWI _ _)) (fun r l => blk2 m X1 F GF c hX1 hF hGF t r l) (fun z l => (blk3 m c t z l).trans (hG _ _)) (fun r l => (blk4 m c t r l).trans (hD _ _)) (fun r l => (blk5 m c t r l).trans (hF _ _)) (fun z l => (blk6 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.1 xo.2.2.2 y1

theorem final8 : (dats m 0 c).arrAt 8 cfg0.N = fun j => (dgAll (dyIn DA WI) (mixOut X1 F GF) (j 1) : EReal) := by
  refine (dats m 0 c).arrAt_eq_of_covers 8 _ (by decide +kernel) fun t hf y => ?_
  have h := idx t
  blk_simp
  rw [after0_8, Pipeline.eq_sum_fin_of_reset_step_apply_of_flush (fun n h => (outsAt0 m c n h).2.1) 8 (fun _ => 0)
    (fun (t : Fin cfg0.N) (y : S1x1024.Idx) => (dgAll (dyIn (fun r => DA (trow t r)) WI) (fun r => mixOut X1 F GF (trow t r)) (y 1) : EReal)) (first8 m DA WI X1 F GF G D c hDA hWI hX1 hF hGF hG hD) (next8 m DA WI X1 F GF G D c hDA hWI hX1 hF hGF hG hD) t ((flush0_8 t).mp hf) y, zero_add, sum_coe]
  have hs : ∀ s : Fin 8, 8 * (t.val / 8) + s.val = s.val := fun s => by have := lt8 t; omega
  unfold trow
  simp only [hs]
  idx_vars y

  refine (congrArg (fun r : ℝ => (r : EReal)) (sum_tiles8 (fun r => dyIn DA WI r y1 * nrm (mixOut X1 F GF r) y1))).trans ?_
  exact congrArg (fun k : Fin 1024 => ((dgAll (dyIn DA WI) (mixOut X1 F GF) k : ℝ) : EReal)) (Fin.ext (by blk_simp [h]))

theorem rows9 (t : Fin cfg0.N) (i : Fin 512) (k : Fin 1024) :
    (outsAt0 m c t.val t.isLt).2.2.1 (ix2 i k) = (dfAll (dxAll (dyIn DA WI) (mixOut X1 F GF) D G) F GF (trow t i) k : EReal) := by
  by_cases h : t.val % 8 = 0
  · rw [outsAt0_A m c t h]
    dsimp only
    exact out9A (iblk m c 0 t) (iblk m c 1 t) (iblk m c 2 t) (iblk m c 3 t) (iblk m c 4 t) (iblk m c 5 t) (iblk m c 6 t) (fun r => DA (trow t r)) WI (fun r => mixOut X1 F GF (trow t r)) (fun r => D (trow t r)) (fun r => F (trow t r)) G GF (fun q r l => (blk0 m c t q r l).trans (hDA _ _)) (fun j l => (blk1 m c t j l).trans (hWI _ _)) (fun r l => blk2 m X1 F GF c hX1 hF hGF t r l) (fun z l => (blk3 m c t z l).trans (hG _ _)) (fun r l => (blk4 m c t r l).trans (hD _ _)) (fun r l => (blk5 m c t r l).trans (hF _ _)) (fun z l => (blk6 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (ix2 i k) i k rfl rfl
  · rw [outsAt0_B m c t h]
    dsimp only
    generalize outsAt0 m c (t.val - 1) _ = xo
    exact out9B (iblk m c 0 t) (iblk m c 1 t) (iblk m c 2 t) (iblk m c 3 t) (iblk m c 4 t) (iblk m c 5 t) (iblk m c 6 t) (fun r => DA (trow t r)) WI (fun r => mixOut X1 F GF (trow t r)) (fun r => D (trow t r)) (fun r => F (trow t r)) G GF (fun q r l => (blk0 m c t q r l).trans (hDA _ _)) (fun j l => (blk1 m c t j l).trans (hWI _ _)) (fun r l => blk2 m X1 F GF c hX1 hF hGF t r l) (fun z l => (blk3 m c t z l).trans (hG _ _)) (fun r l => (blk4 m c t r l).trans (hD _ _)) (fun r l => (blk5 m c t r l).trans (hF _ _)) (fun z l => (blk6 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.1 xo.2.2.2 (ix2 i k) i k rfl rfl

theorem final9 : (dats m 0 c).arrAt 9 cfg0.N = fun j => (dfAll (dxAll (dyIn DA WI) (mixOut X1 F GF) D G) F GF (j 0) (j 1) : EReal) := by
  refine (dats m 0 c).arrAt_eq_of_covers 9 _ (by decide +kernel) fun t hf y => ?_
  have h := idx t
  blk_simp
  rw [after0_9]
  idx_vars y
  rw [rows9 m DA WI X1 F GF G D c hDA hWI hX1 hF hGF hG hD t y0 y1]
  congr 2 <;> (apply Fin.ext; blk_simp [h, trow] <;> try (dsimp only; omega))

theorem first10 (t : Fin cfg0.N) (h : t.val % 8 = 0) (y : S1x1024.Idx) :
    (outsAt0 m c t.val t.isLt).2.2.2 y = 0 + (dgAll (dxAll (dyIn (fun r => DA (trow t r)) WI) (fun r => mixOut X1 F GF (trow t r)) (fun r => D (trow t r)) G) (fun r => F (trow t r)) (y 1) : EReal) := by
  rw [outsAt0_A m c t h, zero_add]
  dsimp only
  idx_vars y
  obtain rfl : y0 = 0 := Subsingleton.elim _ _
  exact out10A (iblk m c 0 t) (iblk m c 1 t) (iblk m c 2 t) (iblk m c 3 t) (iblk m c 4 t) (iblk m c 5 t) (iblk m c 6 t) (fun r => DA (trow t r)) WI (fun r => mixOut X1 F GF (trow t r)) (fun r => D (trow t r)) (fun r => F (trow t r)) G GF (fun q r l => (blk0 m c t q r l).trans (hDA _ _)) (fun j l => (blk1 m c t j l).trans (hWI _ _)) (fun r l => blk2 m X1 F GF c hX1 hF hGF t r l) (fun z l => (blk3 m c t z l).trans (hG _ _)) (fun r l => (blk4 m c t r l).trans (hD _ _)) (fun r l => (blk5 m c t r l).trans (hF _ _)) (fun z l => (blk6 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) y1

theorem next10 (t : Fin cfg0.N) (h : ¬ t.val % 8 = 0) (y : S1x1024.Idx) :
    (outsAt0 m c t.val t.isLt).2.2.2 y = (outsAt0 m c (t.val - 1) (Nat.lt_of_le_of_lt (Nat.sub_le _ _) t.isLt)).2.2.2 y + (dgAll (dxAll (dyIn (fun r => DA (trow t r)) WI) (fun r => mixOut X1 F GF (trow t r)) (fun r => D (trow t r)) G) (fun r => F (trow t r)) (y 1) : EReal) := by
  rw [outsAt0_B m c t h]
  dsimp only
  generalize outsAt0 m c (t.val - 1) _ = xo
  idx_vars y
  obtain rfl : y0 = 0 := Subsingleton.elim _ _
  exact out10B (iblk m c 0 t) (iblk m c 1 t) (iblk m c 2 t) (iblk m c 3 t) (iblk m c 4 t) (iblk m c 5 t) (iblk m c 6 t) (fun r => DA (trow t r)) WI (fun r => mixOut X1 F GF (trow t r)) (fun r => D (trow t r)) (fun r => F (trow t r)) G GF (fun q r l => (blk0 m c t q r l).trans (hDA _ _)) (fun j l => (blk1 m c t j l).trans (hWI _ _)) (fun r l => blk2 m X1 F GF c hX1 hF hGF t r l) (fun z l => (blk3 m c t z l).trans (hG _ _)) (fun r l => (blk4 m c t r l).trans (hD _ _)) (fun r l => (blk5 m c t r l).trans (hF _ _)) (fun z l => (blk6 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.1 xo.2.2.2 y1

theorem final10 : (dats m 0 c).arrAt 10 cfg0.N = fun j => (dgAll (dxAll (dyIn DA WI) (mixOut X1 F GF) D G) F (j 1) : EReal) := by
  refine (dats m 0 c).arrAt_eq_of_covers 10 _ (by decide +kernel) fun t hf y => ?_
  have h := idx t
  blk_simp
  rw [after0_10, Pipeline.eq_sum_fin_of_reset_step_apply_of_flush (fun n h => (outsAt0 m c n h).2.2.2) 8 (fun _ => 0)
    (fun (t : Fin cfg0.N) (y : S1x1024.Idx) => (dgAll (dxAll (dyIn (fun r => DA (trow t r)) WI) (fun r => mixOut X1 F GF (trow t r)) (fun r => D (trow t r)) G) (fun r => F (trow t r)) (y 1) : EReal)) (first10 m DA WI X1 F GF G D c hDA hWI hX1 hF hGF hG hD) (next10 m DA WI X1 F GF G D c hDA hWI hX1 hF hGF hG hD) t ((flush0_10 t).mp hf) y, zero_add, sum_coe]
  have hs : ∀ s : Fin 8, 8 * (t.val / 8) + s.val = s.val := fun s => by have := lt8 t; omega
  unfold trow
  simp only [hs]
  idx_vars y

  refine (congrArg (fun r : ℝ => (r : EReal)) (sum_tiles8 (fun r => dxAll (dyIn DA WI) (mixOut X1 F GF) D G r y1 * nrm (F r) y1))).trans ?_
  exact congrArg (fun k : Fin 1024 => ((dgAll (dxAll (dyIn DA WI) (mixOut X1 F GF) D G) F k : ℝ) : EReal)) (Fin.ext (by blk_simp [h]))

end Cert.FfnIn2
-- ==== Proof.FfnIn2Reference.lean ====
/-
  The derivative of the second feed-forward's norm and of the mixer's before it, as the reference's program computes it, on finite
  arguments.
-/
module

public import Idealize.ShloMosaic.Lib.Pipeline.ValueKit
public import proofs.«01_k».proof.Proof.FfnIn2Arrays
public import proofs.«01_k».proof.Proof.Gen.Reference8Ideal.Run
public import proofs.«01_k».proof.Proof.Gen.Reference8Ideal.Read

@[expose] public section

set_option maxRecDepth 16384

noncomputable section

namespace Cert.FfnIn2.Ref

open Idealize.ShloMosaic Idealize.ShloMosaic.TcCoe Idealize.SL.Sem
open Cert.Reference8Ideal Cert.Reference8Ideal.Gen Cert.Reference8Ideal.Read
open Cert.NormGrad Cert.Reals Cert.Sigmoid
open Cert.FfnIn2

variable (x0 : (⟨S4096x5632, .f32⟩ : BufTy).Contents (Elt Ideal)) (DA : Fin 4096 → Fin 5632 → ℝ) (hDA : ∀ i k, x0 (ix2 i k) = (DA i k : EReal))
variable (x1 : (⟨S1024x5632, .f32⟩ : BufTy).Contents (Elt Ideal)) (WI : Fin 1024 → Fin 5632 → ℝ) (hWI : ∀ i k, x1 (ix2 i k) = (WI i k : EReal))
variable (x2 : (⟨S4096x1024, .f32⟩ : BufTy).Contents (Elt Ideal)) (X1 : Fin 4096 → Fin 1024 → ℝ) (hX1 : ∀ i k, x2 (ix2 i k) = (X1 i k : EReal))
variable (x3 : (⟨S4096x1024, .f32⟩ : BufTy).Contents (Elt Ideal)) (F : Fin 4096 → Fin 1024 → ℝ) (hF : ∀ i k, x3 (ix2 i k) = (F i k : EReal))
variable (x4 : (⟨S1x1024, .f32⟩ : BufTy).Contents (Elt Ideal)) (GF : Fin 1024 → ℝ) (hGF : ∀ i k, x4 (ix2 i k) = (GF k : EReal))
variable (x5 : (⟨S1x1024, .f32⟩ : BufTy).Contents (Elt Ideal)) (G : Fin 1024 → ℝ) (hG : ∀ i k, x5 (ix2 i k) = (G k : EReal))
variable (x6 : (⟨S4096x1024, .f32⟩ : BufTy).Contents (Elt Ideal)) (D : Fin 4096 → Fin 1024 → ℝ) (hD : ∀ i k, x6 (ix2 i k) = (D i k : EReal))
include hDA hWI hX1 hF hGF hG hD

theorem s6 (i : Fin 4096) (z : Fin 1) : val_main_v6 (F := Ideal) x3 (ix2 i z) = ((msq (F i) : ℝ) : EReal) := by
  pointwise [val_main_v6, val_main_v4, val_main_v5, val_main_v2, val_main_v3, val_main_cst_1, val_main_v1, val_main_cst_0, val_main_cst, val_main_v0]
  simp only [hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  exact (msq_eq _).symm

theorem s7 (i : Fin 4096) (z : Fin 1) : val_main_v7 (F := Ideal) x3 (ix2 i z) = ((rinv (F i) : ℝ) : EReal) := by
  pointwise [val_main_v7]
  simp only [s6 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  exact rsqrt_pos (msq_pos _)

theorem s12 (i : Fin 4096) (k : Fin 1024) : val_main_v12 (F := Ideal) x3 (ix2 i k) = ((nrm (F i) k : ℝ) : EReal) := by
  pointwise [val_main_v12, val_main_v11]
  simp only [s7 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s15 (i : Fin 4096) (k : Fin 1024) : val_main_v15 (F := Ideal) x2 x3 x4 (ix2 i k) = ((mixOut X1 F GF i k : ℝ) : EReal) := by
  pointwise [val_main_v15, val_main_v14, val_main_v13]
  simp only [s12 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s22 (i : Fin 4096) (z : Fin 1) : val_main_v22 (F := Ideal) x2 x3 x4 (ix2 i z) = ((msq ((mixOut X1 F GF) i) : ℝ) : EReal) := by
  pointwise [val_main_v22, val_main_v20, val_main_v21, val_main_v18, val_main_v19, val_main_cst_5, val_main_v17, val_main_cst_4, val_main_cst_3, val_main_v16]
  simp only [s15 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  exact (msq_eq _).symm

theorem s23 (i : Fin 4096) (z : Fin 1) : val_main_v23 (F := Ideal) x2 x3 x4 (ix2 i z) = ((rinv ((mixOut X1 F GF) i) : ℝ) : EReal) := by
  pointwise [val_main_v23]
  simp only [s22 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  exact rsqrt_pos (msq_pos _)

theorem s28 (i : Fin 4096) (k : Fin 1024) : val_main_v28 (F := Ideal) x2 x3 x4 (ix2 i k) = ((nrm ((mixOut X1 F GF) i) k : ℝ) : EReal) := by
  pointwise [val_main_v28, val_main_v27]
  simp only [s15 x0 DA hDA x1 WI hWI x2 X1 hX1 x3 F hF x4 GF hGF x5 G hG x6 D hD, s23 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s32 (i : Fin 4096) (k : Fin 1024) : val_main_v32 (F := Ideal) x0 x1 (ix2 i k) = ((dyIn DA WI i k : ℝ) : EReal) := by
  pointwise [val_main_v32]
  simp only [hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s35 (z : Fin 1) (k : Fin 1024) : val_main_v35 (F := Ideal) x0 x1 x2 x3 x4 (ix2 z k) = ((dgAll (dyIn DA WI) (mixOut X1 F GF) k : ℝ) : EReal) := by
  pointwise [val_main_v35, val_main_v34, val_main_cst_7, val_main_v33]
  simp only [s28 x0 DA hDA x1 WI hWI x2 X1 hX1 x3 F hF x4 GF hGF x5 G hG x6 D hD, s32 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dgAll]
  exact Finset.sum_congr rfl fun r _ => mul_comm _ _

theorem s52 (i : Fin 4096) (k : Fin 1024) : val_main_v52 (F := Ideal) x0 x1 x2 x3 x4 x5 x6 (ix2 i k) = ((dxAll (dyIn DA WI) (mixOut X1 F GF) D G i k : ℝ) : EReal) := by
  pointwise [val_main_v52, val_main_v50, val_main_v51, val_main_v43, val_main_v49, val_main_v48, val_main_v42, val_main_v47, val_main_v37, val_main_v41, val_main_cst_10, val_main_v46, val_main_v36, val_main_v44, val_main_v45, val_main_v26, val_main_v40, val_main_cst_9, val_main_v24, val_main_v25, val_main_v39, val_main_cst_6, val_main_cst_8, val_main_v38]
  simp only [s15 x0 DA hDA x1 WI hWI x2 X1 hX1 x3 F hF x4 GF hGF x5 G hG x6 D hD, s32 x0 DA hDA x1 WI hWI x2 X1 hX1 x3 F hF x4 GF hGF x5 G hG x6 D hD, s23 x0 DA hDA x1 WI hWI x2 X1 hX1 x3 F hF x4 GF hGF x5 G hG x6 D hD, s22 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dxAll, dxr_eq]
  ring

theorem s53 (i : Fin 4096) (k : Fin 1024) : val_main_v53 (F := Ideal) x0 x1 x2 x3 x4 x5 x6 (ix2 i k) = ((dxAll (dyIn DA WI) (mixOut X1 F GF) D G i k : ℝ) : EReal) := by
  pointwise [val_main_v53]
  simp only [s52 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]

theorem s56 (z : Fin 1) (k : Fin 1024) : val_main_v56 (F := Ideal) x0 x1 x2 x3 x4 x5 x6 (ix2 z k) = ((dgAll (dxAll (dyIn DA WI) (mixOut X1 F GF) D G) F k : ℝ) : EReal) := by
  pointwise [val_main_v56, val_main_v55, val_main_cst_11, val_main_v54]
  simp only [s12 x0 DA hDA x1 WI hWI x2 X1 hX1 x3 F hF x4 GF hGF x5 G hG x6 D hD, s53 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dgAll]
  exact Finset.sum_congr rfl fun r _ => mul_comm _ _

theorem s73 (i : Fin 4096) (k : Fin 1024) : val_main_v73 (F := Ideal) x0 x1 x2 x3 x4 x5 x6 (ix2 i k) = ((dfAll (dxAll (dyIn DA WI) (mixOut X1 F GF) D G) F GF i k : ℝ) : EReal) := by
  pointwise [val_main_v73, val_main_v72, val_main_v70, val_main_v71, val_main_v63, val_main_v69, val_main_v68, val_main_v58, val_main_v62, val_main_v67, val_main_v57, val_main_cst_14, val_main_v66, val_main_v64, val_main_v65, val_main_v10, val_main_v61, val_main_cst_13, val_main_v8, val_main_v9, val_main_v60, val_main_cst_2, val_main_cst_12, val_main_v59]
  simp only [s53 x0 DA hDA x1 WI hWI x2 X1 hX1 x3 F hF x4 GF hGF x5 G hG x6 D hD, s7 x0 DA hDA x1 WI hWI x2 X1 hX1 x3 F hF x4 GF hGF x5 G hG x6 D hD, s6 x0 DA hDA x1 WI hWI x2 X1 hX1 x3 F hF x4 GF hGF x5 G hG x6 D hD, hDA, hWI, hX1, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dfAll, dxr_eq]
  try ring

end Cert.FfnIn2.Ref
-- ==== Proof.FfnIn2.lean ====
/-
  The second feed-forward's backward input kernel computes the derivative: the equation of the two programs on finite arguments.
-/
module

public import proofs.«01_k».proof.Defs
public import proofs.«01_k».proof.Proof.FfnIn2Arrays
public import proofs.«01_k».proof.Proof.FfnIn2Reference
public import proofs.«01_k».proof.Proof.Gen.Kernel8Ideal.Value

@[expose] public section

set_option maxRecDepth 16384

noncomputable section

namespace Cert.FfnIn2

open Idealize.ShloMosaic Idealize.ShloMosaic.TcCoe Idealize.SL.Sem
open Cert.Reals

/-- The side conditions of the precondition's own program. -/
instance preFacts : Cert.Pre_finite_ffn2in.Facts := ⟨by decide, by decide, by decide, by decide⟩

/-- Finite arguments are casts of real arrays. -/
theorem reals (m : (ℓ : Loc Cert.Kernel8Ideal.nD Cert.Kernel8Ideal.τ Cert.Kernel8Ideal.sig) → Buf (Elt Ideal) ℓ) (h : Cert.Pre_Kernel8Ideal_finite_ffn2in m) (c : Dev Cert.Kernel8Ideal.nD) :
    ∃ (DA : Fin 4096 → Fin 5632 → ℝ) (WI : Fin 1024 → Fin 5632 → ℝ) (X1 : Fin 4096 → Fin 1024 → ℝ) (F : Fin 4096 → Fin 1024 → ℝ) (GF : Fin 1024 → ℝ) (G : Fin 1024 → ℝ) (D : Fin 4096 → Fin 1024 → ℝ),
      (∀ i k, m ((c : Thread Cert.Kernel8Ideal.nD Cert.Kernel8Ideal.τ).loc Cert.Kernel8Ideal.main_arg0) (ix2 i k) = (DA i k : EReal))
      ∧ (∀ i k, m ((c : Thread Cert.Kernel8Ideal.nD Cert.Kernel8Ideal.τ).loc Cert.Kernel8Ideal.main_arg1) (ix2 i k) = (WI i k : EReal))
      ∧ (∀ i k, m ((c : Thread Cert.Kernel8Ideal.nD Cert.Kernel8Ideal.τ).loc Cert.Kernel8Ideal.main_arg2) (ix2 i k) = (X1 i k : EReal))
      ∧ (∀ i k, m ((c : Thread Cert.Kernel8Ideal.nD Cert.Kernel8Ideal.τ).loc Cert.Kernel8Ideal.main_arg3) (ix2 i k) = (F i k : EReal))
      ∧ (∀ i k, m ((c : Thread Cert.Kernel8Ideal.nD Cert.Kernel8Ideal.τ).loc Cert.Kernel8Ideal.main_arg4) (ix2 i k) = (GF k : EReal))
      ∧ (∀ i k, m ((c : Thread Cert.Kernel8Ideal.nD Cert.Kernel8Ideal.τ).loc Cert.Kernel8Ideal.main_arg5) (ix2 i k) = (G k : EReal))
      ∧ (∀ i k, m ((c : Thread Cert.Kernel8Ideal.nD Cert.Kernel8Ideal.τ).loc Cert.Kernel8Ideal.main_arg6) (ix2 i k) = (D i k : EReal)) := by
  obtain ⟨h0, h1, h2, h3, h4, h5, h6⟩ := h c
  refine ⟨fun i k => (m ((c : Thread Cert.Kernel8Ideal.nD Cert.Kernel8Ideal.τ).loc Cert.Kernel8Ideal.main_arg0) (ix2 i k)).toReal, fun i k => (m ((c : Thread Cert.Kernel8Ideal.nD Cert.Kernel8Ideal.τ).loc Cert.Kernel8Ideal.main_arg1) (ix2 i k)).toReal, fun i k => (m ((c : Thread Cert.Kernel8Ideal.nD Cert.Kernel8Ideal.τ).loc Cert.Kernel8Ideal.main_arg2) (ix2 i k)).toReal, fun i k => (m ((c : Thread Cert.Kernel8Ideal.nD Cert.Kernel8Ideal.τ).loc Cert.Kernel8Ideal.main_arg3) (ix2 i k)).toReal, fun k => (m ((c : Thread Cert.Kernel8Ideal.nD Cert.Kernel8Ideal.τ).loc Cert.Kernel8Ideal.main_arg4) (ix2 0 k)).toReal, fun k => (m ((c : Thread Cert.Kernel8Ideal.nD Cert.Kernel8Ideal.τ).loc Cert.Kernel8Ideal.main_arg5) (ix2 0 k)).toReal, fun i k => (m ((c : Thread Cert.Kernel8Ideal.nD Cert.Kernel8Ideal.τ).loc Cert.Kernel8Ideal.main_arg6) (ix2 i k)).toReal,
    fun i k => (real_of_lt (congrFun h0 (ix2 i k))).symm, fun i k => (real_of_lt (congrFun h1 (ix2 i k))).symm, fun i k => (real_of_lt (congrFun h2 (ix2 i k))).symm, fun i k => (real_of_lt (congrFun h3 (ix2 i k))).symm, fun i k => ?_, fun i k => ?_, fun i k => (real_of_lt (congrFun h6 (ix2 i k))).symm⟩
  · obtain rfl : i = 0 := Subsingleton.elim _ _
    exact (real_of_lt (congrFun h4 (ix2 0 k))).symm
  · obtain rfl : i = 0 := Subsingleton.elim _ _
    exact (real_of_lt (congrFun h5 (ix2 0 k))).symm

set_option maxHeartbeats 4000000 in
theorem algebraic : Cert.algebraic_Kernel8Ideal_Reference8Ideal_pre_finite_ffn2in := by
  intro m ρ m' ρ' hp heq
  refine ⟨fun c => (Cert.Kernel8Ideal.Gen.dats m 0 c).arrAt 7 Cert.Kernel8Ideal.cfg0.N, fun c => (Cert.Kernel8Ideal.Gen.dats m 0 c).arrAt 8 Cert.Kernel8Ideal.cfg0.N, fun c => (Cert.Kernel8Ideal.Gen.dats m 0 c).arrAt 9 Cert.Kernel8Ideal.cfg0.N, fun c => (Cert.Kernel8Ideal.Gen.dats m 0 c).arrAt 10 Cert.Kernel8Ideal.cfg0.N, Cert.Kernel8Ideal.Value.run_blocks m ρ, ?_⟩
  refine (θ_run Cert.Reference8Ideal.defs _ _).mono (fun r h c => ?_) (Cert.Reference8Ideal.Value.run m' ρ')
  obtain ⟨h52, h35, h73, h56, ha0, ha1, ha2, ha3, ha4, ha5, ha6⟩ := h c
  obtain ⟨e0, e1, e2, e3, e4, e5, e6⟩ := heq c
  obtain ⟨DA, WI, X1, F, GF, G, D, hDA, hWI, hX1, hF, hGF, hG, hD⟩ := reals m hp c
  refine ⟨(h52.trans (Cert.Reference8Ideal.Read.val_main_v52_eq m' c)).trans (Eq.trans ?_ (final7 m DA WI X1 F GF G D c hDA hWI hX1 hF hGF hG hD).symm),
    (h35.trans (Cert.Reference8Ideal.Read.val_main_v35_eq _ _ _ _ _)).trans (Eq.trans ?_ (final8 m DA WI X1 F GF G D c hDA hWI hX1 hF hGF hG hD).symm),
    (h73.trans (Cert.Reference8Ideal.Read.val_main_v73_eq m' c)).trans (Eq.trans ?_ (final9 m DA WI X1 F GF G D c hDA hWI hX1 hF hGF hG hD).symm),
    (h56.trans (Cert.Reference8Ideal.Read.val_main_v56_eq m' c)).trans (Eq.trans ?_ (final10 m DA WI X1 F GF G D c hDA hWI hX1 hF hGF hG hD).symm), ha0, ha1, ha2, ha3, ha4, ha5, ha6⟩
  · rw [e0, e1, e2, e3, e4, e5, e6]
    funext j
    idx_vars j
    exact Ref.s52 _ DA hDA _ WI hWI _ X1 hX1 _ F hF _ GF hGF _ G hG _ D hD j0 j1
  · rw [e0, e1, e2, e3, e4]
    funext j
    idx_vars j
    exact Ref.s35 _ DA hDA _ WI hWI _ X1 hX1 _ F hF _ GF hGF _ G hG _ D hD j0 j1
  · rw [e0, e1, e2, e3, e4, e5, e6]
    funext j
    idx_vars j
    exact Ref.s73 _ DA hDA _ WI hWI _ X1 hX1 _ F hF _ GF hGF _ G hG _ D hD j0 j1
  · rw [e0, e1, e2, e3, e4, e5, e6]
    funext j
    idx_vars j
    exact Ref.s56 _ DA hDA _ WI hWI _ X1 hX1 _ F hF _ GF hGF _ G hG _ D hD j0 j1

end Cert.FfnIn2
-- ==== Proof.MixInKernel.lean ====
/-
  What one tile of the mixer's input gradient stores: the sum of the four branches' products by their weights, fused with the gradients of
  the norm and of the norm that closed the first feed-forward.
-/
module

public import Idealize.ShloMosaic.Lib.Pipeline.ValueKit
public import proofs.«01_k».proof.Proof.NormGrad
public import proofs.«01_k».proof.Proof.Gen.Kernel10Ideal.Frame

@[expose] public section

set_option maxRecDepth 16384

noncomputable section

namespace Cert.MixIn

open Idealize.ShloMosaic Idealize.ShloMosaic.TcCoe Idealize.SL.Sem
open Cert.Kernel10Ideal Cert.Kernel10Ideal.Gen Cert.NormGrad Cert.Reals Cert.Sigmoid

/-- The cotangent of the mixer's normalised input: the four branches' products by their weights. -/
def dy4 {n : ℕ} (P0 : Fin n → Fin 3200 → ℝ) (W0 : Fin 3200 → Fin 1024 → ℝ) (P1 : Fin n → Fin 512 → ℝ) (W1 : Fin 512 → Fin 1024 → ℝ) (P2 : Fin n → Fin 512 → ℝ) (W2 : Fin 512 → Fin 1024 → ℝ)
    (P3 : Fin n → Fin 3072 → ℝ) (W3 : Fin 3072 → Fin 1024 → ℝ) (r : Fin n) (j : Fin 1024) : ℝ :=
  ∑ l, P0 r l * W0 l j + ∑ l, P1 r l * W1 l j + ∑ l, P2 r l * W2 l j + ∑ l, P3 r l * W3 l j

section blocks

variable (x0 : Vec Ideal S256x3200 .bf16) (x1 : Vec Ideal S3200x1024 .bf16) (x2 : Vec Ideal S256x512 .bf16) (x3 : Vec Ideal S512x1024 .bf16) (x4 : Vec Ideal S256x512 .bf16) (x5 : Vec Ideal S512x1024 .bf16) (x6 : Vec Ideal S256x3072 .bf16) (x7 : Vec Ideal S3072x1024 .bf16) (x8 : Vec Ideal S256x1024 .f32) (x9 : Vec Ideal S1x1024 .f32) (x10 : Vec Ideal S256x1024 .f32) (x11 : Vec Ideal S256x1024 .f32) (x12 : Vec Ideal S1x1024 .f32)
  (P0 : Fin 256 → Fin 3200 → ℝ) (W0 : Fin 3200 → Fin 1024 → ℝ) (P1 : Fin 256 → Fin 512 → ℝ) (W1 : Fin 512 → Fin 1024 → ℝ) (P2 : Fin 256 → Fin 512 → ℝ) (W2 : Fin 512 → Fin 1024 → ℝ)
  (P3 : Fin 256 → Fin 3072 → ℝ) (W3 : Fin 3072 → Fin 1024 → ℝ) (X D F : Fin 256 → Fin 1024 → ℝ) (G GF : Fin 1024 → ℝ)
  (hp0 : ∀ r l, x0 (ix2 r l) = (P0 r l : EReal)) (hw0 : ∀ l j, x1 (ix2 l j) = (W0 l j : EReal))
  (hp1 : ∀ r l, x2 (ix2 r l) = (P1 r l : EReal)) (hw1 : ∀ l j, x3 (ix2 l j) = (W1 l j : EReal))
  (hp2 : ∀ r l, x4 (ix2 r l) = (P2 r l : EReal)) (hw2 : ∀ l j, x5 (ix2 l j) = (W2 l j : EReal))
  (hp3 : ∀ r l, x6 (ix2 r l) = (P3 r l : EReal)) (hw3 : ∀ l j, x7 (ix2 l j) = (W3 l j : EReal))
  (hx : ∀ r l, x8 (ix2 r l) = (X r l : EReal)) (hg : ∀ z l, x9 (ix2 z l) = (G l : EReal)) (hd : ∀ r l, x10 (ix2 r l) = (D r l : EReal))
  (hf : ∀ r l, x11 (ix2 r l) = (F r l : EReal)) (hgf : ∀ z l, x12 (ix2 z l) = (GF l : EReal))

include hp0 hw0 hp1 hw1 hp2 hw2 hp3 hw3 hx hg hd hf hgf

theorem out13A (c : Dev nD) (i : grid0.Coords) (arg1 : Memref sig .tc .vmem S256x3200 .bf16) (harg1 : arg1.IsWhole) (arg2 : Memref sig .tc .vmem S3200x1024 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S256x512 .bf16) (harg5 : arg5.IsWhole) (arg6 : Memref sig .tc .vmem S512x1024 .bf16) (harg6 : arg6.IsWhole) (arg7 : Memref sig .tc .vmem S256x3072 .bf16) (harg7 : arg7.IsWhole) (arg8 : Memref sig .tc .vmem S3072x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S256x1024 .bf16) (harg16 : arg16.IsWhole) (arg17 : Memref sig .tc .vmem S1x1024 .f32) (harg17 : arg17.IsWhole) (hc0 : cond0_0 i)  (y : S256x1024.Idx) (r : Fin 256) (k : Fin 1024) (hr : (y 0).val = r.val) (hk : (y 1).val = k.val) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 y = (dxAll (dy4 P0 W0 P1 W1 P2 W2 P3 W3) X D G r k : EReal) := by
  frame_out
  obtain ⟨i, k', rfl⟩ : ∃ (i : Fin 256) (k' : Fin 1024), y = ix2 i k' := ⟨y 0, y 1, (by funext a; fin_cases a <;> rfl)⟩
  obtain rfl : i = r := Fin.ext hr
  obtain rfl : k' = k := Fin.ext hk
  pointwise [k0_pay1, k0_pay2, k0_pay3, k0_pay4, k0_pay5, k0_pay6, k0_pay7, k0_pay8, k0_pay9, k0_pay10, k0_pay11, k0_pay12, k0_pay13, k0_pay14, k0_pay15, k0_pay16]
  simp only [hp0, hw0, hp1, hw1, hp2, hw2, hp3, hw3, hx, hg, hd, hf, hgf, k1024_word, eps_word, half_word, ← EReal.coe_one, ← EReal.coe_mul, ← EReal.coe_add, ← EReal.coe_sub, sum_coe, div_1024, rsqrt_row]
  rfl

theorem out13B (c : Dev nD) (i : grid0.Coords) (arg1 : Memref sig .tc .vmem S256x3200 .bf16) (harg1 : arg1.IsWhole) (arg2 : Memref sig .tc .vmem S3200x1024 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S256x512 .bf16) (harg5 : arg5.IsWhole) (arg6 : Memref sig .tc .vmem S512x1024 .bf16) (harg6 : arg6.IsWhole) (arg7 : Memref sig .tc .vmem S256x3072 .bf16) (harg7 : arg7.IsWhole) (arg8 : Memref sig .tc .vmem S3072x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S256x1024 .bf16) (harg16 : arg16.IsWhole) (arg17 : Memref sig .tc .vmem S1x1024 .f32) (harg17 : arg17.IsWhole) (hc0 : ¬cond0_0 i) (xo14 : Vec Ideal S1x1024 .f32) (xo16 : Vec Ideal S1x1024 .f32) (y : S256x1024.Idx) (r : Fin 256) (k : Fin 1024) (hr : (y 0).val = r.val) (hk : (y 1).val = k.val) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xo14 xo16 y = (dxAll (dy4 P0 W0 P1 W1 P2 W2 P3 W3) X D G r k : EReal) := by
  frame_out
  obtain ⟨i, k', rfl⟩ : ∃ (i : Fin 256) (k' : Fin 1024), y = ix2 i k' := ⟨y 0, y 1, (by funext a; fin_cases a <;> rfl)⟩
  obtain rfl : i = r := Fin.ext hr
  obtain rfl : k' = k := Fin.ext hk
  pointwise [k0_pay1, k0_pay2, k0_pay3, k0_pay4, k0_pay5, k0_pay6, k0_pay7, k0_pay8, k0_pay9, k0_pay10, k0_pay11, k0_pay12, k0_pay13, k0_pay14, k0_pay15, k0_pay16]
  simp only [hp0, hw0, hp1, hw1, hp2, hw2, hp3, hw3, hx, hg, hd, hf, hgf, k1024_word, eps_word, half_word, ← EReal.coe_one, ← EReal.coe_mul, ← EReal.coe_add, ← EReal.coe_sub, sum_coe, div_1024, rsqrt_row]
  rfl

theorem out14A (c : Dev nD) (i : grid0.Coords) (arg1 : Memref sig .tc .vmem S256x3200 .bf16) (harg1 : arg1.IsWhole) (arg2 : Memref sig .tc .vmem S3200x1024 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S256x512 .bf16) (harg5 : arg5.IsWhole) (arg6 : Memref sig .tc .vmem S512x1024 .bf16) (harg6 : arg6.IsWhole) (arg7 : Memref sig .tc .vmem S256x3072 .bf16) (harg7 : arg7.IsWhole) (arg8 : Memref sig .tc .vmem S3072x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S256x1024 .bf16) (harg16 : arg16.IsWhole) (arg17 : Memref sig .tc .vmem S1x1024 .f32) (harg17 : arg17.IsWhole) (hc0 : cond0_0 i)  (k : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 (ix2 0 k) = (dgAll (dy4 P0 W0 P1 W1 P2 W2 P3 W3) X k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  simp only [hp0, hw0, hp1, hw1, hp2, hw2, hp3, hw3, hx, hg, hd, hf, hgf, k1024_word, eps_word, half_word, ← EReal.coe_one, ← EReal.coe_mul, ← EReal.coe_add, ← EReal.coe_sub, sum_coe, div_1024, rsqrt_row]
  rfl

theorem out14B (c : Dev nD) (i : grid0.Coords) (arg1 : Memref sig .tc .vmem S256x3200 .bf16) (harg1 : arg1.IsWhole) (arg2 : Memref sig .tc .vmem S3200x1024 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S256x512 .bf16) (harg5 : arg5.IsWhole) (arg6 : Memref sig .tc .vmem S512x1024 .bf16) (harg6 : arg6.IsWhole) (arg7 : Memref sig .tc .vmem S256x3072 .bf16) (harg7 : arg7.IsWhole) (arg8 : Memref sig .tc .vmem S3072x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S256x1024 .bf16) (harg16 : arg16.IsWhole) (arg17 : Memref sig .tc .vmem S1x1024 .f32) (harg17 : arg17.IsWhole) (hc0 : ¬cond0_0 i) (xo14 : Vec Ideal S1x1024 .f32) (xo16 : Vec Ideal S1x1024 .f32) (k : Fin 1024) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xo14 xo16 (ix2 0 k) = xo14 (ix2 0 k) + (dgAll (dy4 P0 W0 P1 W1 P2 W2 P3 W3) X k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  simp only [hp0, hw0, hp1, hw1, hp2, hw2, hp3, hw3, hx, hg, hd, hf, hgf, k1024_word, eps_word, half_word, ← EReal.coe_one, ← EReal.coe_mul, ← EReal.coe_add, ← EReal.coe_sub, sum_coe, div_1024, rsqrt_row]
  rfl

theorem out15A (c : Dev nD) (i : grid0.Coords) (arg1 : Memref sig .tc .vmem S256x3200 .bf16) (harg1 : arg1.IsWhole) (arg2 : Memref sig .tc .vmem S3200x1024 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S256x512 .bf16) (harg5 : arg5.IsWhole) (arg6 : Memref sig .tc .vmem S512x1024 .bf16) (harg6 : arg6.IsWhole) (arg7 : Memref sig .tc .vmem S256x3072 .bf16) (harg7 : arg7.IsWhole) (arg8 : Memref sig .tc .vmem S3072x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S256x1024 .bf16) (harg16 : arg16.IsWhole) (arg17 : Memref sig .tc .vmem S1x1024 .f32) (harg17 : arg17.IsWhole) (hc0 : cond0_0 i)  (y : S256x1024.Idx) (r : Fin 256) (k : Fin 1024) (hr : (y 0).val = r.val) (hk : (y 1).val = k.val) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 y = (dfAll (fun r k => dxAll (dy4 P0 W0 P1 W1 P2 W2 P3 W3) X D G r k * (1 / 2)) F GF r k : EReal) := by
  frame_out
  obtain ⟨i, k', rfl⟩ : ∃ (i : Fin 256) (k' : Fin 1024), y = ix2 i k' := ⟨y 0, y 1, (by funext a; fin_cases a <;> rfl)⟩
  obtain rfl : i = r := Fin.ext hr
  obtain rfl : k' = k := Fin.ext hk
  pointwise [k0_pay1, k0_pay2, k0_pay3, k0_pay4, k0_pay5, k0_pay6, k0_pay7, k0_pay8, k0_pay9, k0_pay10, k0_pay11, k0_pay12, k0_pay13, k0_pay14, k0_pay15, k0_pay16]
  simp only [hp0, hw0, hp1, hw1, hp2, hw2, hp3, hw3, hx, hg, hd, hf, hgf, k1024_word, eps_word, half_word, ← EReal.coe_one, ← EReal.coe_mul, ← EReal.coe_add, ← EReal.coe_sub, sum_coe, div_1024, rsqrt_row]
  rfl

theorem out15B (c : Dev nD) (i : grid0.Coords) (arg1 : Memref sig .tc .vmem S256x3200 .bf16) (harg1 : arg1.IsWhole) (arg2 : Memref sig .tc .vmem S3200x1024 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S256x512 .bf16) (harg5 : arg5.IsWhole) (arg6 : Memref sig .tc .vmem S512x1024 .bf16) (harg6 : arg6.IsWhole) (arg7 : Memref sig .tc .vmem S256x3072 .bf16) (harg7 : arg7.IsWhole) (arg8 : Memref sig .tc .vmem S3072x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S256x1024 .bf16) (harg16 : arg16.IsWhole) (arg17 : Memref sig .tc .vmem S1x1024 .f32) (harg17 : arg17.IsWhole) (hc0 : ¬cond0_0 i) (xo14 : Vec Ideal S1x1024 .f32) (xo16 : Vec Ideal S1x1024 .f32) (y : S256x1024.Idx) (r : Fin 256) (k : Fin 1024) (hr : (y 0).val = r.val) (hk : (y 1).val = k.val) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xo14 xo16 y = (dfAll (fun r k => dxAll (dy4 P0 W0 P1 W1 P2 W2 P3 W3) X D G r k * (1 / 2)) F GF r k : EReal) := by
  frame_out
  obtain ⟨i, k', rfl⟩ : ∃ (i : Fin 256) (k' : Fin 1024), y = ix2 i k' := ⟨y 0, y 1, (by funext a; fin_cases a <;> rfl)⟩
  obtain rfl : i = r := Fin.ext hr
  obtain rfl : k' = k := Fin.ext hk
  pointwise [k0_pay1, k0_pay2, k0_pay3, k0_pay4, k0_pay5, k0_pay6, k0_pay7, k0_pay8, k0_pay9, k0_pay10, k0_pay11, k0_pay12, k0_pay13, k0_pay14, k0_pay15, k0_pay16]
  simp only [hp0, hw0, hp1, hw1, hp2, hw2, hp3, hw3, hx, hg, hd, hf, hgf, k1024_word, eps_word, half_word, ← EReal.coe_one, ← EReal.coe_mul, ← EReal.coe_add, ← EReal.coe_sub, sum_coe, div_1024, rsqrt_row]
  rfl

theorem out16A (c : Dev nD) (i : grid0.Coords) (arg1 : Memref sig .tc .vmem S256x3200 .bf16) (harg1 : arg1.IsWhole) (arg2 : Memref sig .tc .vmem S3200x1024 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S256x512 .bf16) (harg5 : arg5.IsWhole) (arg6 : Memref sig .tc .vmem S512x1024 .bf16) (harg6 : arg6.IsWhole) (arg7 : Memref sig .tc .vmem S256x3072 .bf16) (harg7 : arg7.IsWhole) (arg8 : Memref sig .tc .vmem S3072x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S256x1024 .bf16) (harg16 : arg16.IsWhole) (arg17 : Memref sig .tc .vmem S1x1024 .f32) (harg17 : arg17.IsWhole) (hc0 : cond0_0 i)  (k : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 (ix2 0 k) = (dgAll (fun r k => dxAll (dy4 P0 W0 P1 W1 P2 W2 P3 W3) X D G r k * (1 / 2)) F k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  simp only [hp0, hw0, hp1, hw1, hp2, hw2, hp3, hw3, hx, hg, hd, hf, hgf, k1024_word, eps_word, half_word, ← EReal.coe_one, ← EReal.coe_mul, ← EReal.coe_add, ← EReal.coe_sub, sum_coe, div_1024, rsqrt_row]
  rfl

theorem out16B (c : Dev nD) (i : grid0.Coords) (arg1 : Memref sig .tc .vmem S256x3200 .bf16) (harg1 : arg1.IsWhole) (arg2 : Memref sig .tc .vmem S3200x1024 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S256x512 .bf16) (harg5 : arg5.IsWhole) (arg6 : Memref sig .tc .vmem S512x1024 .bf16) (harg6 : arg6.IsWhole) (arg7 : Memref sig .tc .vmem S256x3072 .bf16) (harg7 : arg7.IsWhole) (arg8 : Memref sig .tc .vmem S3072x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S256x1024 .bf16) (harg16 : arg16.IsWhole) (arg17 : Memref sig .tc .vmem S1x1024 .f32) (harg17 : arg17.IsWhole) (hc0 : ¬cond0_0 i) (xo14 : Vec Ideal S1x1024 .f32) (xo16 : Vec Ideal S1x1024 .f32) (k : Fin 1024) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xo14 xo16 (ix2 0 k) = xo16 (ix2 0 k) + (dgAll (fun r k => dxAll (dy4 P0 W0 P1 W1 P2 W2 P3 W3) X D G r k * (1 / 2)) F k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  simp only [hp0, hw0, hp1, hw1, hp2, hw2, hp3, hw3, hx, hg, hd, hf, hgf, k1024_word, eps_word, half_word, ← EReal.coe_one, ← EReal.coe_mul, ← EReal.coe_add, ← EReal.coe_sub, sum_coe, div_1024, rsqrt_row]
  rfl

end blocks

end Cert.MixIn
-- ==== Proof.MixInArrays.lean ====
/-
  What the mixer's input gradient stores over all its tiles.
-/
module

public import Idealize.ShloMosaic.Lib.Pipeline.ValueKit
public import Idealize.ShloMosaic.Lib.Pipeline.ReadBack
public import proofs.«01_k».proof.Proof.MixInKernel
public import proofs.«01_k».proof.Proof.Gen.Kernel10Ideal.Value

@[expose] public section

set_option maxRecDepth 16384

noncomputable section

namespace Cert.MixIn

open Idealize.ShloMosaic Idealize.ShloMosaic.TcCoe Idealize.SL.Sem
open Idealize.ShloMosaic.Pipeline (Dat)
open Cert.Kernel10Ideal Cert.Kernel10Ideal.Gen Cert.NormGrad Cert.Reals Cert.Sigmoid

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![0, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] ∧ win0_13.index t = ![t.val, 0] ∧ win0_14.index t = ![0, 0] ∧ win0_15.index t = ![t.val, 0] ∧ win0_16.index t = ![0, 0] :=
  (by decide +kernel : ∀ t : Fin grid0.N, _)

theorem lt16 (t : Fin cfg0.N) : t.val < 16 := lt_of_lt_of_eq t.isLt N_0

/-- Row `r` of tile `t`. -/
def trow (t : Fin cfg0.N) (r : Fin 256) : Fin 4096 := ⟨256 * t.val + r.val, by have := lt16 t; omega⟩

/-- The gated branch's 3088 columns, padded with zeros to 3200. -/
def pad0 (f : Fin 7184 → ℝ) (l : Fin 3200) : ℝ := if l.val < 3088 then f ⟨l.val % 7184, Nat.mod_lt _ (by decide)⟩ else 0
/-- Column `l` of the branch that starts at `o`. -/
def from1 (l : Fin 512) : Fin 7184 := ⟨3088 + l.val, by omega⟩
def from2 (l : Fin 512) : Fin 7184 := ⟨3600 + l.val, by omega⟩
def from3 (l : Fin 3072) : Fin 7184 := ⟨4112 + l.val, by omega⟩
/-- The cotangent of the mixer's normalised input: the product by the input weight. -/
def dyMix (DZ : Fin 4096 → Fin 7184 → ℝ) (WI : Fin 1024 → Fin 7184 → ℝ) (r : Fin 4096) (j : Fin 1024) : ℝ :=
  dy4 (fun r => pad0 (DZ r)) (fun l j => pad0 (WI j) l) (fun r l => DZ r (from1 l)) (fun l j => WI j (from1 l)) (fun r l => DZ r (from2 l)) (fun l j => WI j (from2 l))
    (fun r l => DZ r (from3 l)) (fun l j => WI j (from3 l)) r j
/-- The residual stream after the first feed-forward. -/
def ffnOut (X0 F : Fin 4096 → Fin 1024 → ℝ) (GF : Fin 1024 → ℝ) (r : Fin 4096) (j : Fin 1024) : ℝ := X0 r j + 1 / 2 * (nrm (F r) j * GF j)

variable (DZ : Fin 4096 → Fin 7184 → ℝ) (WI : Fin 1024 → Fin 7184 → ℝ) (X0 F : Fin 4096 → Fin 1024 → ℝ) (GF G : Fin 1024 → ℝ) (D : Fin 4096 → Fin 1024 → ℝ) (c : Dev nD)
  (hDZ : ∀ i k, m ((c : Thread nD τ).loc main_arg0) (ix2 i k) = (DZ i k : EReal))
  (hWI : ∀ i k, m ((c : Thread nD τ).loc main_arg1) (ix2 i k) = (WI i k : EReal))
  (hX0 : ∀ i k, m ((c : Thread nD τ).loc main_arg2) (ix2 i k) = (X0 i k : EReal))
  (hF : ∀ i k, m ((c : Thread nD τ).loc main_arg3) (ix2 i k) = (F i k : EReal))
  (hGF : ∀ i k, m ((c : Thread nD τ).loc main_arg4) (ix2 i k) = (GF k : EReal))
  (hG : ∀ i k, m ((c : Thread nD τ).loc main_arg5) (ix2 i k) = (G k : EReal))
  (hD : ∀ i k, m ((c : Thread nD τ).loc main_arg6) (ix2 i k) = (D i k : EReal))

include hDZ in
theorem blk0 (t : Fin cfg0.N) (i : Fin 256) (k : Fin 3200) : iblk m c 0 t (ix2 i k) = (pad0 (DZ (trow t i)) k : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_0.blk t).view.emb (ix2 i k) = ix2 (trow t i) k := by
    funext a
    fin_cases a
    · apply Fin.ext
      blk_simp [h]
      show t.val * 256 + i.val = 256 * t.val + i.val
      omega
    · apply Fin.ext
      blk_simp [h]
      rfl
  blk_simp [h]
  rw [e]
  simp only [StableHlo.TRef.toBuf, StableHlo.TRef.ofBuf, cast_cast, cast_eq]
  pointwise []
  unfold pad0
  by_cases hk : k.val < 3088
  · rw [dif_pos hk, if_pos hk]
    exact (hDZ (trow t i) ⟨k.val, lt_trans hk (by decide)⟩).trans (congrArg (fun l => (DZ (trow t i) l : EReal)) (Fin.ext (Nat.mod_eq_of_lt (lt_trans hk (by decide))).symm))
  · rw [dif_neg hk, if_neg hk]
    show (((0#32 : BitVec 32).toInt : ℝ) : EReal) = _
    simp

include hWI in
theorem blk1 (t : Fin cfg0.N) (i : Fin 3200) (k : Fin 1024) : iblk m c 1 t (ix2 i k) = (pad0 (WI k) i : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_1.blk t).view.emb (ix2 i k) = ix2 i k := by
    funext a
    fin_cases a
    · apply Fin.ext
      blk_simp [h]
    · apply Fin.ext
      blk_simp [h]
  blk_simp [h]
  rw [e]
  simp only [StableHlo.TRef.toBuf, StableHlo.TRef.ofBuf, cast_cast, cast_eq]
  pointwise []
  unfold pad0
  by_cases hk : i.val < 3088
  · rw [dif_pos hk, if_pos hk]
    exact (hWI k ⟨i.val, lt_trans hk (by decide)⟩).trans (congrArg (fun l => (WI k l : EReal)) (Fin.ext (Nat.mod_eq_of_lt (lt_trans hk (by decide))).symm))
  · rw [dif_neg hk, if_neg hk]
    show (((0#32 : BitVec 32).toInt : ℝ) : EReal) = _
    simp

include hDZ in
theorem blk2 (t : Fin cfg0.N) (i : Fin 256) (k : Fin 512) : iblk m c 2 t (ix2 i k) = (DZ (trow t i) (from1 k) : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_2.blk t).view.emb (ix2 i k) = ix2 (trow t i) k := by
    funext a
    fin_cases a
    · apply Fin.ext
      blk_simp [h]
      show t.val * 256 + i.val = 256 * t.val + i.val
      omega
    · apply Fin.ext
      blk_simp [h]
      rfl
  blk_simp [h]
  rw [e]
  pointwise []
  exact hDZ _ _

include hWI in
theorem blk3 (t : Fin cfg0.N) (i : Fin 512) (k : Fin 1024) : iblk m c 3 t (ix2 i k) = (WI k (from1 i) : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_3.blk t).view.emb (ix2 i k) = ix2 i k := by
    funext a
    fin_cases a
    · apply Fin.ext
      blk_simp [h]
    · apply Fin.ext
      blk_simp [h]
  blk_simp [h]
  rw [e]
  pointwise []
  exact hWI _ _

include hDZ in
theorem blk4 (t : Fin cfg0.N) (i : Fin 256) (k : Fin 512) : iblk m c 4 t (ix2 i k) = (DZ (trow t i) (from2 k) : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_4.blk t).view.emb (ix2 i k) = ix2 (trow t i) k := by
    funext a
    fin_cases a
    · apply Fin.ext
      blk_simp [h]
      show t.val * 256 + i.val = 256 * t.val + i.val
      omega
    · apply Fin.ext
      blk_simp [h]
      rfl
  blk_simp [h]
  rw [e]
  pointwise []
  exact hDZ _ _

include hWI in
theorem blk5 (t : Fin cfg0.N) (i : Fin 512) (k : Fin 1024) : iblk m c 5 t (ix2 i k) = (WI k (from2 i) : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_5.blk t).view.emb (ix2 i k) = ix2 i k := by
    funext a
    fin_cases a
    · apply Fin.ext
      blk_simp [h]
    · apply Fin.ext
      blk_simp [h]
  blk_simp [h]
  rw [e]
  pointwise []
  exact hWI _ _

include hDZ in
theorem blk6 (t : Fin cfg0.N) (i : Fin 256) (k : Fin 3072) : iblk m c 6 t (ix2 i k) = (DZ (trow t i) (from3 k) : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_6.blk t).view.emb (ix2 i k) = ix2 (trow t i) k := by
    funext a
    fin_cases a
    · apply Fin.ext
      blk_simp [h]
      show t.val * 256 + i.val = 256 * t.val + i.val
      omega
    · apply Fin.ext
      blk_simp [h]
      rfl
  blk_simp [h]
  rw [e]
  pointwise []
  exact hDZ _ _

include hWI in
theorem blk7 (t : Fin cfg0.N) (i : Fin 3072) (k : Fin 1024) : iblk m c 7 t (ix2 i k) = (WI k (from3 i) : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_7.blk t).view.emb (ix2 i k) = ix2 i k := by
    funext a
    fin_cases a
    · apply Fin.ext
      blk_simp [h]
    · apply Fin.ext
      blk_simp [h]
  blk_simp [h]
  rw [e]
  pointwise []
  exact hWI _ _

include hX0 hF hGF in
theorem blk8 (t : Fin cfg0.N) (i : Fin 256) (k : Fin 1024) : iblk m c 8 t (ix2 i k) = (ffnOut X0 F GF (trow t i) k : EReal) := by
  have h := idx t
  rw [iblk]
  unfold V
  simp only [hostOps0, hostOps0_1, hostOps0_2, hostOps0_3, hostOps0_4, List.flatten_cons, List.flatten_nil, List.append_nil, List.cons_append, List.nil_append]
  entry_read
  have e : (win0_8.blk t).view.emb (ix2 i k) = ix2 (trow t i) k := by
    funext a
    fin_cases a
    · apply Fin.ext
      blk_simp [h]
      show t.val * 256 + i.val = 256 * t.val + i.val
      omega
    · apply Fin.ext
      blk_simp [h]
      rfl
  blk_simp [h]
  rw [e]
  pointwise []
  simp only [hX0, hF, hGF, k1024_word, eps_word, half_word, ← EReal.coe_one, ← EReal.coe_mul, ← EReal.coe_add, ← EReal.coe_sub, sum_coe, div_1024, rsqrt_row]
  rfl

theorem blk9 (t : Fin cfg0.N) (i : Fin 1) (k : Fin 1024) : iblk m c 9 t (ix2 i k) = m ((c : Thread nD τ).loc main_arg5) (ix2 i k) := by
  have h := idx t
  rw [iblk]
  entry_read
  blk_point [h]

theorem blk10 (t : Fin cfg0.N) (i : Fin 256) (k : Fin 1024) : iblk m c 10 t (ix2 i k) = m ((c : Thread nD τ).loc main_arg6) (ix2 (trow t i) k) := by
  have h := idx t
  have ht : (trow t i).val = 256 * t.val + i.val := rfl
  rw [iblk]
  entry_read
  blk_point [h, ht]

theorem blk11 (t : Fin cfg0.N) (i : Fin 256) (k : Fin 1024) : iblk m c 11 t (ix2 i k) = m ((c : Thread nD τ).loc main_arg3) (ix2 (trow t i) k) := by
  have h := idx t
  have ht : (trow t i).val = 256 * t.val + i.val := rfl
  rw [iblk]
  entry_read
  blk_point [h, ht]

theorem blk12 (t : Fin cfg0.N) (i : Fin 1) (k : Fin 1024) : iblk m c 12 t (ix2 i k) = m ((c : Thread nD τ).loc main_arg4) (ix2 i k) := by
  have h := idx t
  rw [iblk]
  entry_read
  blk_point [h]

include hDZ hWI hX0 hF hGF hG hD

theorem rows13 (t : Fin cfg0.N) (i : Fin 256) (k : Fin 1024) :
    (outsAt0 m c t.val t.isLt).1 (ix2 i k) = (dxAll (dyMix DZ WI) (ffnOut X0 F GF) D G (trow t i) k : EReal) := by
  by_cases h : t.val % 16 = 0
  · rw [outsAt0_A m c t h]
    dsimp only
    exact out13A (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l)) (fun r => ffnOut X0 F GF (trow t r)) (fun r => D (trow t r)) (fun r => F (trow t r)) G GF (fun r l => blk0 m DZ c hDZ t r l) (fun l j => blk1 m WI c hWI t l j) (fun r l => blk2 m DZ c hDZ t r l) (fun l j => blk3 m WI c hWI t l j) (fun r l => blk4 m DZ c hDZ t r l) (fun l j => blk5 m WI c hWI t l j) (fun r l => blk6 m DZ c hDZ t r l) (fun l j => blk7 m WI c hWI t l j) (fun r l => blk8 m X0 F GF c hX0 hF hGF t r l) (fun z l => (blk9 m c t z l).trans (hG _ _)) (fun r l => (blk10 m c t r l).trans (hD _ _)) (fun r l => (blk11 m c t r l).trans (hF _ _)) (fun z l => (blk12 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h) (ix2 i k) i k rfl rfl
  · rw [outsAt0_B m c t h]
    dsimp only
    generalize outsAt0 m c (t.val - 1) _ = xo
    exact out13B (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l)) (fun r => ffnOut X0 F GF (trow t r)) (fun r => D (trow t r)) (fun r => F (trow t r)) G GF (fun r l => blk0 m DZ c hDZ t r l) (fun l j => blk1 m WI c hWI t l j) (fun r l => blk2 m DZ c hDZ t r l) (fun l j => blk3 m WI c hWI t l j) (fun r l => blk4 m DZ c hDZ t r l) (fun l j => blk5 m WI c hWI t l j) (fun r l => blk6 m DZ c hDZ t r l) (fun l j => blk7 m WI c hWI t l j) (fun r l => blk8 m X0 F GF c hX0 hF hGF t r l) (fun z l => (blk9 m c t z l).trans (hG _ _)) (fun r l => (blk10 m c t r l).trans (hD _ _)) (fun r l => (blk11 m c t r l).trans (hF _ _)) (fun z l => (blk12 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun g => h ((hcond0_0 t).mp g)) xo.2.1 xo.2.2.2 (ix2 i k) i k rfl rfl

theorem final13 : (dats m 0 c).arrAt 13 cfg0.N = fun j => (dxAll (dyMix DZ WI) (ffnOut X0 F GF) D G (j 0) (j 1) : EReal) := by
  refine (dats m 0 c).arrAt_eq_of_covers 13 _ (by decide +kernel) fun t hf y => ?_
  have h := idx t
  blk_simp
  rw [after0_13]
  idx_vars y
  rw [rows13 m DZ WI X0 F GF G D c hDZ hWI hX0 hF hGF hG hD t y0 y1]
  congr 2 <;> (apply Fin.ext; blk_simp [h, trow] <;> try (dsimp only; omega))

theorem first14 (t : Fin cfg0.N) (h : t.val % 16 = 0) (y : S1x1024.Idx) :
    (outsAt0 m c t.val t.isLt).2.1 y = 0 + (dgAll (dy4 (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l))) (fun r => ffnOut X0 F GF (trow t r)) (y 1) : EReal) := by
  rw [outsAt0_A m c t h, zero_add]
  dsimp only
  idx_vars y
  obtain rfl : y0 = 0 := Subsingleton.elim _ _
  exact out14A (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l)) (fun r => ffnOut X0 F GF (trow t r)) (fun r => D (trow t r)) (fun r => F (trow t r)) G GF (fun r l => blk0 m DZ c hDZ t r l) (fun l j => blk1 m WI c hWI t l j) (fun r l => blk2 m DZ c hDZ t r l) (fun l j => blk3 m WI c hWI t l j) (fun r l => blk4 m DZ c hDZ t r l) (fun l j => blk5 m WI c hWI t l j) (fun r l => blk6 m DZ c hDZ t r l) (fun l j => blk7 m WI c hWI t l j) (fun r l => blk8 m X0 F GF c hX0 hF hGF t r l) (fun z l => (blk9 m c t z l).trans (hG _ _)) (fun r l => (blk10 m c t r l).trans (hD _ _)) (fun r l => (blk11 m c t r l).trans (hF _ _)) (fun z l => (blk12 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h) y1

theorem next14 (t : Fin cfg0.N) (h : ¬ t.val % 16 = 0) (y : S1x1024.Idx) :
    (outsAt0 m c t.val t.isLt).2.1 y = (outsAt0 m c (t.val - 1) (Nat.lt_of_le_of_lt (Nat.sub_le _ _) t.isLt)).2.1 y + (dgAll (dy4 (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l))) (fun r => ffnOut X0 F GF (trow t r)) (y 1) : EReal) := by
  rw [outsAt0_B m c t h]
  dsimp only
  generalize outsAt0 m c (t.val - 1) _ = xo
  idx_vars y
  obtain rfl : y0 = 0 := Subsingleton.elim _ _
  exact out14B (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l)) (fun r => ffnOut X0 F GF (trow t r)) (fun r => D (trow t r)) (fun r => F (trow t r)) G GF (fun r l => blk0 m DZ c hDZ t r l) (fun l j => blk1 m WI c hWI t l j) (fun r l => blk2 m DZ c hDZ t r l) (fun l j => blk3 m WI c hWI t l j) (fun r l => blk4 m DZ c hDZ t r l) (fun l j => blk5 m WI c hWI t l j) (fun r l => blk6 m DZ c hDZ t r l) (fun l j => blk7 m WI c hWI t l j) (fun r l => blk8 m X0 F GF c hX0 hF hGF t r l) (fun z l => (blk9 m c t z l).trans (hG _ _)) (fun r l => (blk10 m c t r l).trans (hD _ _)) (fun r l => (blk11 m c t r l).trans (hF _ _)) (fun z l => (blk12 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun g => h ((hcond0_0 t).mp g)) xo.2.1 xo.2.2.2 y1

theorem final14 : (dats m 0 c).arrAt 14 cfg0.N = fun j => (dgAll (dyMix DZ WI) (ffnOut X0 F GF) (j 1) : EReal) := by
  refine (dats m 0 c).arrAt_eq_of_covers 14 _ (by decide +kernel) fun t hf y => ?_
  have h := idx t
  blk_simp
  rw [after0_14, Pipeline.eq_sum_fin_of_reset_step_apply_of_flush (fun n h => (outsAt0 m c n h).2.1) 16 (fun _ => 0)
    (fun (t : Fin cfg0.N) (y : S1x1024.Idx) => (dgAll (dy4 (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l))) (fun r => ffnOut X0 F GF (trow t r)) (y 1) : EReal)) (first14 m DZ WI X0 F GF G D c hDZ hWI hX0 hF hGF hG hD) (next14 m DZ WI X0 F GF G D c hDZ hWI hX0 hF hGF hG hD) t ((flush0_14 t).mp hf) y, zero_add, sum_coe]
  have hs : ∀ s : Fin 16, 16 * (t.val / 16) + s.val = s.val := fun s => by have := lt16 t; omega
  unfold trow
  simp only [hs]
  idx_vars y

  refine (congrArg (fun r : ℝ => (r : EReal)) (sum_tiles16 (fun r => dyMix DZ WI r y1 * nrm (ffnOut X0 F GF r) y1))).trans ?_
  exact congrArg (fun k : Fin 1024 => ((dgAll (dyMix DZ WI) (ffnOut X0 F GF) k : ℝ) : EReal)) (Fin.ext (by blk_simp [h]))

theorem rows15 (t : Fin cfg0.N) (i : Fin 256) (k : Fin 1024) :
    (outsAt0 m c t.val t.isLt).2.2.1 (ix2 i k) = (dfAll (fun r k => dxAll (dyMix DZ WI) (ffnOut X0 F GF) D G r k * (1 / 2)) F GF (trow t i) k : EReal) := by
  by_cases h : t.val % 16 = 0
  · rw [outsAt0_A m c t h]
    dsimp only
    exact out15A (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l)) (fun r => ffnOut X0 F GF (trow t r)) (fun r => D (trow t r)) (fun r => F (trow t r)) G GF (fun r l => blk0 m DZ c hDZ t r l) (fun l j => blk1 m WI c hWI t l j) (fun r l => blk2 m DZ c hDZ t r l) (fun l j => blk3 m WI c hWI t l j) (fun r l => blk4 m DZ c hDZ t r l) (fun l j => blk5 m WI c hWI t l j) (fun r l => blk6 m DZ c hDZ t r l) (fun l j => blk7 m WI c hWI t l j) (fun r l => blk8 m X0 F GF c hX0 hF hGF t r l) (fun z l => (blk9 m c t z l).trans (hG _ _)) (fun r l => (blk10 m c t r l).trans (hD _ _)) (fun r l => (blk11 m c t r l).trans (hF _ _)) (fun z l => (blk12 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h) (ix2 i k) i k rfl rfl
  · rw [outsAt0_B m c t h]
    dsimp only
    generalize outsAt0 m c (t.val - 1) _ = xo
    exact out15B (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l)) (fun r => ffnOut X0 F GF (trow t r)) (fun r => D (trow t r)) (fun r => F (trow t r)) G GF (fun r l => blk0 m DZ c hDZ t r l) (fun l j => blk1 m WI c hWI t l j) (fun r l => blk2 m DZ c hDZ t r l) (fun l j => blk3 m WI c hWI t l j) (fun r l => blk4 m DZ c hDZ t r l) (fun l j => blk5 m WI c hWI t l j) (fun r l => blk6 m DZ c hDZ t r l) (fun l j => blk7 m WI c hWI t l j) (fun r l => blk8 m X0 F GF c hX0 hF hGF t r l) (fun z l => (blk9 m c t z l).trans (hG _ _)) (fun r l => (blk10 m c t r l).trans (hD _ _)) (fun r l => (blk11 m c t r l).trans (hF _ _)) (fun z l => (blk12 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun g => h ((hcond0_0 t).mp g)) xo.2.1 xo.2.2.2 (ix2 i k) i k rfl rfl

theorem final15 : (dats m 0 c).arrAt 15 cfg0.N = fun j => (dfAll (fun r k => dxAll (dyMix DZ WI) (ffnOut X0 F GF) D G r k * (1 / 2)) F GF (j 0) (j 1) : EReal) := by
  refine (dats m 0 c).arrAt_eq_of_covers 15 _ (by decide +kernel) fun t hf y => ?_
  have h := idx t
  blk_simp
  rw [after0_15]
  idx_vars y
  rw [rows15 m DZ WI X0 F GF G D c hDZ hWI hX0 hF hGF hG hD t y0 y1]
  congr 2 <;> (apply Fin.ext; blk_simp [h, trow] <;> try (dsimp only; omega))

theorem first16 (t : Fin cfg0.N) (h : t.val % 16 = 0) (y : S1x1024.Idx) :
    (outsAt0 m c t.val t.isLt).2.2.2 y = 0 + (dgAll (fun r k => dxAll (dy4 (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l))) (fun r => ffnOut X0 F GF (trow t r)) (fun r => D (trow t r)) G r k * (1 / 2)) (fun r => F (trow t r)) (y 1) : EReal) := by
  rw [outsAt0_A m c t h, zero_add]
  dsimp only
  idx_vars y
  obtain rfl : y0 = 0 := Subsingleton.elim _ _
  exact out16A (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l)) (fun r => ffnOut X0 F GF (trow t r)) (fun r => D (trow t r)) (fun r => F (trow t r)) G GF (fun r l => blk0 m DZ c hDZ t r l) (fun l j => blk1 m WI c hWI t l j) (fun r l => blk2 m DZ c hDZ t r l) (fun l j => blk3 m WI c hWI t l j) (fun r l => blk4 m DZ c hDZ t r l) (fun l j => blk5 m WI c hWI t l j) (fun r l => blk6 m DZ c hDZ t r l) (fun l j => blk7 m WI c hWI t l j) (fun r l => blk8 m X0 F GF c hX0 hF hGF t r l) (fun z l => (blk9 m c t z l).trans (hG _ _)) (fun r l => (blk10 m c t r l).trans (hD _ _)) (fun r l => (blk11 m c t r l).trans (hF _ _)) (fun z l => (blk12 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h) y1

theorem next16 (t : Fin cfg0.N) (h : ¬ t.val % 16 = 0) (y : S1x1024.Idx) :
    (outsAt0 m c t.val t.isLt).2.2.2 y = (outsAt0 m c (t.val - 1) (Nat.lt_of_le_of_lt (Nat.sub_le _ _) t.isLt)).2.2.2 y + (dgAll (fun r k => dxAll (dy4 (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l))) (fun r => ffnOut X0 F GF (trow t r)) (fun r => D (trow t r)) G r k * (1 / 2)) (fun r => F (trow t r)) (y 1) : EReal) := by
  rw [outsAt0_B m c t h]
  dsimp only
  generalize outsAt0 m c (t.val - 1) _ = xo
  idx_vars y
  obtain rfl : y0 = 0 := Subsingleton.elim _ _
  exact out16B (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l)) (fun r => ffnOut X0 F GF (trow t r)) (fun r => D (trow t r)) (fun r => F (trow t r)) G GF (fun r l => blk0 m DZ c hDZ t r l) (fun l j => blk1 m WI c hWI t l j) (fun r l => blk2 m DZ c hDZ t r l) (fun l j => blk3 m WI c hWI t l j) (fun r l => blk4 m DZ c hDZ t r l) (fun l j => blk5 m WI c hWI t l j) (fun r l => blk6 m DZ c hDZ t r l) (fun l j => blk7 m WI c hWI t l j) (fun r l => blk8 m X0 F GF c hX0 hF hGF t r l) (fun z l => (blk9 m c t z l).trans (hG _ _)) (fun r l => (blk10 m c t r l).trans (hD _ _)) (fun r l => (blk11 m c t r l).trans (hF _ _)) (fun z l => (blk12 m c t z l).trans (hGF _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun g => h ((hcond0_0 t).mp g)) xo.2.1 xo.2.2.2 y1

theorem final16 : (dats m 0 c).arrAt 16 cfg0.N = fun j => (dgAll (fun r k => dxAll (dyMix DZ WI) (ffnOut X0 F GF) D G r k * (1 / 2)) F (j 1) : EReal) := by
  refine (dats m 0 c).arrAt_eq_of_covers 16 _ (by decide +kernel) fun t hf y => ?_
  have h := idx t
  blk_simp
  rw [after0_16, Pipeline.eq_sum_fin_of_reset_step_apply_of_flush (fun n h => (outsAt0 m c n h).2.2.2) 16 (fun _ => 0)
    (fun (t : Fin cfg0.N) (y : S1x1024.Idx) => (dgAll (fun r k => dxAll (dy4 (fun r => pad0 (DZ (trow t r))) (fun l j => pad0 (WI j) l) (fun r l => DZ (trow t r) (from1 l)) (fun l j => WI j (from1 l)) (fun r l => DZ (trow t r) (from2 l)) (fun l j => WI j (from2 l)) (fun r l => DZ (trow t r) (from3 l)) (fun l j => WI j (from3 l))) (fun r => ffnOut X0 F GF (trow t r)) (fun r => D (trow t r)) G r k * (1 / 2)) (fun r => F (trow t r)) (y 1) : EReal)) (first16 m DZ WI X0 F GF G D c hDZ hWI hX0 hF hGF hG hD) (next16 m DZ WI X0 F GF G D c hDZ hWI hX0 hF hGF hG hD) t ((flush0_16 t).mp hf) y, zero_add, sum_coe]
  have hs : ∀ s : Fin 16, 16 * (t.val / 16) + s.val = s.val := fun s => by have := lt16 t; omega
  unfold trow
  simp only [hs]
  idx_vars y

  refine (congrArg (fun r : ℝ => (r : EReal)) (sum_tiles16 (fun r => dxAll (dyMix DZ WI) (ffnOut X0 F GF) D G r y1 * (1 / 2) * nrm (F r) y1))).trans ?_
  exact congrArg (fun k : Fin 1024 => ((dgAll (fun r k => dxAll (dyMix DZ WI) (ffnOut X0 F GF) D G r k * (1 / 2)) F k : ℝ) : EReal)) (Fin.ext (by blk_simp [h]))

end Cert.MixIn
-- ==== Proof.MixInDot.lean ====
/-
  The cotangent of the mixer's normalised input: the four branches' products, the first padded with zeros, are the product over all
  7184 columns.
-/
module

public import proofs.«01_k».proof.Proof.MixInArrays

@[expose] public section

set_option maxRecDepth 16384

noncomputable section

namespace Cert.MixIn

theorem pad0_low (f : Fin 7184 → ℝ) (l : Fin 3088) : pad0 f (Fin.castAdd 112 l) = f ⟨l.val, by omega⟩ := by
  rw [pad0, if_pos (show (Fin.castAdd 112 l).val < 3088 from l.isLt)]
  exact congrArg f (Fin.ext (Nat.mod_eq_of_lt (by have := l.isLt; show l.val < 7184; omega)))

theorem pad0_high (f : Fin 7184 → ℝ) (l : Fin 112) : pad0 f (Fin.natAdd 3088 l) = 0 := by
  rw [pad0, if_neg]
  show ¬ (3088 + l.val < 3088)
  omega

theorem sum_pad (f g : Fin 7184 → ℝ) : ∑ l, pad0 f l * pad0 g l = ∑ l : Fin 3088, f ⟨l.val, by omega⟩ * g ⟨l.val, by omega⟩ := by
  rw [Fin.sum_univ_add (a := 3088) (b := 112) (fun l => pad0 f l * pad0 g l)]
  simp only [pad0_low, pad0_high, zero_mul, Finset.sum_const_zero, add_zero]

theorem sum_branches (h : Fin 7184 → ℝ) :
    ∑ l, h l = ∑ l : Fin 3088, h ⟨l.val, by omega⟩ + ∑ l, h (from1 l) + ∑ l, h (from2 l) + ∑ l, h (from3 l) := by
  rw [Fin.sum_univ_add (a := 3088) (b := 4096) h, Fin.sum_univ_add (a := 512) (b := 3584) (fun l => h (Fin.natAdd 3088 l)),
    Fin.sum_univ_add (a := 512) (b := 3072) (fun l => h (Fin.natAdd 3088 (Fin.natAdd 512 l))), ← add_assoc, ← add_assoc]
  refine congr (congrArg _ (congr (congrArg _ (congr (congrArg _ ?_) ?_)) ?_)) ?_
  · exact Finset.sum_congr rfl fun l _ => congrArg h (Fin.ext rfl)
  · exact Finset.sum_congr rfl fun l _ => congrArg h (Fin.ext rfl)
  · exact Finset.sum_congr rfl fun l _ => congrArg h (Fin.ext (by show 3088 + (512 + l.val) = 3600 + l.val; omega))
  · exact Finset.sum_congr rfl fun l _ => congrArg h (Fin.ext (by show 3088 + (512 + (512 + l.val)) = 4112 + l.val; omega))

theorem dyMix_eq (DZ : Fin 4096 → Fin 7184 → ℝ) (WI : Fin 1024 → Fin 7184 → ℝ) (r : Fin 4096) (j : Fin 1024) :
    dyMix DZ WI r j = ∑ l, DZ r l * WI j l := by
  rw [sum_branches (fun l => DZ r l * WI j l), dyMix, dy4, sum_pad]

end Cert.MixIn
-- ==== Proof.MixInReference.lean ====
/-
  The derivative of the mixer's norm and of the first feed-forward's after it, as the reference's program computes it, on finite
  arguments.
-/
module

public import Idealize.ShloMosaic.Lib.Pipeline.ValueKit
public import proofs.«01_k».proof.Proof.MixInDot
public import proofs.«01_k».proof.Proof.Gen.Reference10Ideal.Run
public import proofs.«01_k».proof.Proof.Gen.Reference10Ideal.Read

@[expose] public section

set_option maxRecDepth 16384

noncomputable section

namespace Cert.MixIn.Ref

open Idealize.ShloMosaic Idealize.ShloMosaic.TcCoe Idealize.SL.Sem
open Cert.Reference10Ideal Cert.Reference10Ideal.Gen Cert.Reference10Ideal.Read
open Cert.NormGrad Cert.Reals Cert.Sigmoid
open Cert.MixIn

variable (x0 : (⟨S4096x7184, .f32⟩ : BufTy).Contents (Elt Ideal)) (DZ : Fin 4096 → Fin 7184 → ℝ) (hDZ : ∀ i k, x0 (ix2 i k) = (DZ i k : EReal))
variable (x1 : (⟨S1024x7184, .f32⟩ : BufTy).Contents (Elt Ideal)) (WI : Fin 1024 → Fin 7184 → ℝ) (hWI : ∀ i k, x1 (ix2 i k) = (WI i k : EReal))
variable (x2 : (⟨S4096x1024, .f32⟩ : BufTy).Contents (Elt Ideal)) (X0 : Fin 4096 → Fin 1024 → ℝ) (hX0 : ∀ i k, x2 (ix2 i k) = (X0 i k : EReal))
variable (x3 : (⟨S4096x1024, .f32⟩ : BufTy).Contents (Elt Ideal)) (F : Fin 4096 → Fin 1024 → ℝ) (hF : ∀ i k, x3 (ix2 i k) = (F i k : EReal))
variable (x4 : (⟨S1x1024, .f32⟩ : BufTy).Contents (Elt Ideal)) (GF : Fin 1024 → ℝ) (hGF : ∀ i k, x4 (ix2 i k) = (GF k : EReal))
variable (x5 : (⟨S1x1024, .f32⟩ : BufTy).Contents (Elt Ideal)) (G : Fin 1024 → ℝ) (hG : ∀ i k, x5 (ix2 i k) = (G k : EReal))
variable (x6 : (⟨S4096x1024, .f32⟩ : BufTy).Contents (Elt Ideal)) (D : Fin 4096 → Fin 1024 → ℝ) (hD : ∀ i k, x6 (ix2 i k) = (D i k : EReal))
include hDZ hWI hX0 hF hGF hG hD

theorem s6 (i : Fin 4096) (z : Fin 1) : val_main_v6 (F := Ideal) x3 (ix2 i z) = ((msq (F i) : ℝ) : EReal) := by
  pointwise [val_main_v6, val_main_v4, val_main_v5, val_main_v2, val_main_v3, val_main_cst_1, val_main_v1, val_main_cst_0, val_main_cst, val_main_v0]
  simp only [hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  exact (msq_eq _).symm

theorem s7 (i : Fin 4096) (z : Fin 1) : val_main_v7 (F := Ideal) x3 (ix2 i z) = ((rinv (F i) : ℝ) : EReal) := by
  pointwise [val_main_v7]
  simp only [s6 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  exact rsqrt_pos (msq_pos _)

theorem s12 (i : Fin 4096) (k : Fin 1024) : val_main_v12 (F := Ideal) x3 (ix2 i k) = ((nrm (F i) k : ℝ) : EReal) := by
  pointwise [val_main_v12, val_main_v11]
  simp only [s7 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s17 (i : Fin 4096) (k : Fin 1024) : val_main_v17 (F := Ideal) x2 x3 x4 (ix2 i k) = ((ffnOut X0 F GF i k : ℝ) : EReal) := by
  pointwise [val_main_v17, val_main_v16, val_main_v14, val_main_v15, val_main_v13, val_main_cst_3]
  simp only [s12 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s24 (i : Fin 4096) (z : Fin 1) : val_main_v24 (F := Ideal) x2 x3 x4 (ix2 i z) = ((msq ((ffnOut X0 F GF) i) : ℝ) : EReal) := by
  pointwise [val_main_v24, val_main_v22, val_main_v23, val_main_v20, val_main_v21, val_main_cst_6, val_main_v19, val_main_cst_5, val_main_cst_4, val_main_v18]
  simp only [s17 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  exact (msq_eq _).symm

theorem s25 (i : Fin 4096) (z : Fin 1) : val_main_v25 (F := Ideal) x2 x3 x4 (ix2 i z) = ((rinv ((ffnOut X0 F GF) i) : ℝ) : EReal) := by
  pointwise [val_main_v25]
  simp only [s24 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  exact rsqrt_pos (msq_pos _)

theorem s30 (i : Fin 4096) (k : Fin 1024) : val_main_v30 (F := Ideal) x2 x3 x4 (ix2 i k) = ((nrm ((ffnOut X0 F GF) i) k : ℝ) : EReal) := by
  pointwise [val_main_v30, val_main_v29]
  simp only [s17 x0 DZ hDZ x1 WI hWI x2 X0 hX0 x3 F hF x4 GF hGF x5 G hG x6 D hD, s25 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  rfl

theorem s34 (i : Fin 4096) (k : Fin 1024) : val_main_v34 (F := Ideal) x0 x1 (ix2 i k) = ((dyMix DZ WI i k : ℝ) : EReal) := by
  pointwise [val_main_v34]
  simp only [hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  exact (dyMix_eq DZ WI i k).symm

theorem s37 (z : Fin 1) (k : Fin 1024) : val_main_v37 (F := Ideal) x0 x1 x2 x3 x4 (ix2 z k) = ((dgAll (dyMix DZ WI) (ffnOut X0 F GF) k : ℝ) : EReal) := by
  pointwise [val_main_v37, val_main_v36, val_main_cst_8, val_main_v35]
  simp only [s30 x0 DZ hDZ x1 WI hWI x2 X0 hX0 x3 F hF x4 GF hGF x5 G hG x6 D hD, s34 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dgAll]
  exact Finset.sum_congr rfl fun r _ => mul_comm _ _

theorem s54 (i : Fin 4096) (k : Fin 1024) : val_main_v54 (F := Ideal) x0 x1 x2 x3 x4 x5 x6 (ix2 i k) = ((dxAll (dyMix DZ WI) (ffnOut X0 F GF) D G i k : ℝ) : EReal) := by
  pointwise [val_main_v54, val_main_v52, val_main_v53, val_main_v45, val_main_v51, val_main_v50, val_main_v44, val_main_v49, val_main_v39, val_main_v43, val_main_cst_11, val_main_v48, val_main_v38, val_main_v46, val_main_v47, val_main_v28, val_main_v42, val_main_cst_10, val_main_v26, val_main_v27, val_main_v41, val_main_cst_7, val_main_cst_9, val_main_v40]
  simp only [s17 x0 DZ hDZ x1 WI hWI x2 X0 hX0 x3 F hF x4 GF hGF x5 G hG x6 D hD, s34 x0 DZ hDZ x1 WI hWI x2 X0 hX0 x3 F hF x4 GF hGF x5 G hG x6 D hD, s25 x0 DZ hDZ x1 WI hWI x2 X0 hX0 x3 F hF x4 GF hGF x5 G hG x6 D hD, s24 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dxAll, dxr_eq]
  ring

theorem s55 (i : Fin 4096) (k : Fin 1024) : val_main_v55 (F := Ideal) x0 x1 x2 x3 x4 x5 x6 (ix2 i k) = ((dxAll (dyMix DZ WI) (ffnOut X0 F GF) D G i k : ℝ) : EReal) := by
  pointwise [val_main_v55]
  simp only [s54 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]

theorem s57 (i : Fin 4096) (k : Fin 1024) : val_main_v57 (F := Ideal) x0 x1 x2 x3 x4 x5 x6 (ix2 i k) = ((dxAll (dyMix DZ WI) (ffnOut X0 F GF) D G i k * (1 / 2) : ℝ) : EReal) := by
  pointwise [val_main_v57, val_main_v56, val_main_cst_12]
  simp only [s55 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  ring

theorem s60 (z : Fin 1) (k : Fin 1024) : val_main_v60 (F := Ideal) x0 x1 x2 x3 x4 x5 x6 (ix2 z k) = ((dgAll (fun r j => dxAll (dyMix DZ WI) (ffnOut X0 F GF) D G r j * (1 / 2)) F k : ℝ) : EReal) := by
  pointwise [val_main_v60, val_main_v59, val_main_cst_13, val_main_v58]
  simp only [s12 x0 DZ hDZ x1 WI hWI x2 X0 hX0 x3 F hF x4 GF hGF x5 G hG x6 D hD, s57 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dgAll]
  exact Finset.sum_congr rfl fun r _ => mul_comm _ _

theorem s77 (i : Fin 4096) (k : Fin 1024) : val_main_v77 (F := Ideal) x0 x1 x2 x3 x4 x5 x6 (ix2 i k) = ((dfAll (fun r j => dxAll (dyMix DZ WI) (ffnOut X0 F GF) D G r j * (1 / 2)) F GF i k : ℝ) : EReal) := by
  pointwise [val_main_v77, val_main_v76, val_main_v74, val_main_v75, val_main_v67, val_main_v73, val_main_v72, val_main_v62, val_main_v66, val_main_v71, val_main_v61, val_main_cst_16, val_main_v70, val_main_v68, val_main_v69, val_main_v10, val_main_v65, val_main_cst_15, val_main_v8, val_main_v9, val_main_v64, val_main_cst_2, val_main_cst_14, val_main_v63]
  simp only [s57 x0 DZ hDZ x1 WI hWI x2 X0 hX0 x3 F hF x4 GF hGF x5 G hG x6 D hD, s7 x0 DZ hDZ x1 WI hWI x2 X0 hX0 x3 F hF x4 GF hGF x5 G hG x6 D hD, s6 x0 DZ hDZ x1 WI hWI x2 X0 hX0 x3 F hF x4 GF hGF x5 G hG x6 D hD, hDZ, hWI, hX0, hF, hGF, hG, hD, ← EReal.coe_one, ← EReal.coe_mul, ← EReal.coe_sub, sum_coe, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dfAll, dxr_eq]
  try ring

end Cert.MixIn.Ref
-- ==== Proof.MixIn.lean ====
/-
  The mixer's backward input kernel computes the derivative: the equation of the two programs on finite arguments.
-/
module

public import proofs.«01_k».proof.Defs
public import proofs.«01_k».proof.Proof.MixInArrays
public import proofs.«01_k».proof.Proof.MixInReference
public import proofs.«01_k».proof.Proof.Gen.Kernel10Ideal.Value

@[expose] public section

set_option maxRecDepth 16384

noncomputable section

namespace Cert.MixIn

open Idealize.ShloMosaic Idealize.ShloMosaic.TcCoe Idealize.SL.Sem
open Cert.Reals

/-- The side conditions of the precondition's own program. -/
instance preFacts : Cert.Pre_finite_mixin.Facts := ⟨by decide, by decide, by decide, by decide⟩

/-- Finite arguments are casts of real arrays. -/
theorem reals (m : (ℓ : Loc Cert.Kernel10Ideal.nD Cert.Kernel10Ideal.τ Cert.Kernel10Ideal.sig) → Buf (Elt Ideal) ℓ) (h : Cert.Pre_Kernel10Ideal_finite_mixin m) (c : Dev Cert.Kernel10Ideal.nD) :
    ∃ (DZ : Fin 4096 → Fin 7184 → ℝ) (WI : Fin 1024 → Fin 7184 → ℝ) (X0 : Fin 4096 → Fin 1024 → ℝ) (F : Fin 4096 → Fin 1024 → ℝ) (GF : Fin 1024 → ℝ) (G : Fin 1024 → ℝ) (D : Fin 4096 → Fin 1024 → ℝ),
      (∀ i k, m ((c : Thread Cert.Kernel10Ideal.nD Cert.Kernel10Ideal.τ).loc Cert.Kernel10Ideal.main_arg0) (ix2 i k) = (DZ i k : EReal))
      ∧ (∀ i k, m ((c : Thread Cert.Kernel10Ideal.nD Cert.Kernel10Ideal.τ).loc Cert.Kernel10Ideal.main_arg1) (ix2 i k) = (WI i k : EReal))
      ∧ (∀ i k, m ((c : Thread Cert.Kernel10Ideal.nD Cert.Kernel10Ideal.τ).loc Cert.Kernel10Ideal.main_arg2) (ix2 i k) = (X0 i k : EReal))
      ∧ (∀ i k, m ((c : Thread Cert.Kernel10Ideal.nD Cert.Kernel10Ideal.τ).loc Cert.Kernel10Ideal.main_arg3) (ix2 i k) = (F i k : EReal))
      ∧ (∀ i k, m ((c : Thread Cert.Kernel10Ideal.nD Cert.Kernel10Ideal.τ).loc Cert.Kernel10Ideal.main_arg4) (ix2 i k) = (GF k : EReal))
      ∧ (∀ i k, m ((c : Thread Cert.Kernel10Ideal.nD Cert.Kernel10Ideal.τ).loc Cert.Kernel10Ideal.main_arg5) (ix2 i k) = (G k : EReal))
      ∧ (∀ i k, m ((c : Thread Cert.Kernel10Ideal.nD Cert.Kernel10Ideal.τ).loc Cert.Kernel10Ideal.main_arg6) (ix2 i k) = (D i k : EReal)) := by
  obtain ⟨h0, h1, h2, h3, h4, h5, h6⟩ := h c
  refine ⟨fun i k => (m ((c : Thread Cert.Kernel10Ideal.nD Cert.Kernel10Ideal.τ).loc Cert.Kernel10Ideal.main_arg0) (ix2 i k)).toReal, fun i k => (m ((c : Thread Cert.Kernel10Ideal.nD Cert.Kernel10Ideal.τ).loc Cert.Kernel10Ideal.main_arg1) (ix2 i k)).toReal, fun i k => (m ((c : Thread Cert.Kernel10Ideal.nD Cert.Kernel10Ideal.τ).loc Cert.Kernel10Ideal.main_arg2) (ix2 i k)).toReal, fun i k => (m ((c : Thread Cert.Kernel10Ideal.nD Cert.Kernel10Ideal.τ).loc Cert.Kernel10Ideal.main_arg3) (ix2 i k)).toReal, fun k => (m ((c : Thread Cert.Kernel10Ideal.nD Cert.Kernel10Ideal.τ).loc Cert.Kernel10Ideal.main_arg4) (ix2 0 k)).toReal, fun k => (m ((c : Thread Cert.Kernel10Ideal.nD Cert.Kernel10Ideal.τ).loc Cert.Kernel10Ideal.main_arg5) (ix2 0 k)).toReal, fun i k => (m ((c : Thread Cert.Kernel10Ideal.nD Cert.Kernel10Ideal.τ).loc Cert.Kernel10Ideal.main_arg6) (ix2 i k)).toReal,
    fun i k => (real_of_lt (congrFun h0 (ix2 i k))).symm, fun i k => (real_of_lt (congrFun h1 (ix2 i k))).symm, fun i k => (real_of_lt (congrFun h2 (ix2 i k))).symm, fun i k => (real_of_lt (congrFun h3 (ix2 i k))).symm, fun i k => ?_, fun i k => ?_, fun i k => (real_of_lt (congrFun h6 (ix2 i k))).symm⟩
  · obtain rfl : i = 0 := Subsingleton.elim _ _
    exact (real_of_lt (congrFun h4 (ix2 0 k))).symm
  · obtain rfl : i = 0 := Subsingleton.elim _ _
    exact (real_of_lt (congrFun h5 (ix2 0 k))).symm

set_option maxHeartbeats 4000000 in
theorem algebraic : Cert.algebraic_Kernel10Ideal_Reference10Ideal_pre_finite_mixin := by
  intro m ρ m' ρ' hp heq
  refine ⟨fun c => (Cert.Kernel10Ideal.Gen.dats m 0 c).arrAt 13 Cert.Kernel10Ideal.cfg0.N, fun c => (Cert.Kernel10Ideal.Gen.dats m 0 c).arrAt 14 Cert.Kernel10Ideal.cfg0.N, fun c => (Cert.Kernel10Ideal.Gen.dats m 0 c).arrAt 15 Cert.Kernel10Ideal.cfg0.N, fun c => (Cert.Kernel10Ideal.Gen.dats m 0 c).arrAt 16 Cert.Kernel10Ideal.cfg0.N, Cert.Kernel10Ideal.Value.run_blocks m ρ, ?_⟩
  refine (θ_run Cert.Reference10Ideal.defs _ _).mono (fun r h c => ?_) (Cert.Reference10Ideal.Value.run m' ρ')
  obtain ⟨h54, h37, h77, h60, ha0, ha1, ha2, ha3, ha4, ha5, ha6⟩ := h c
  obtain ⟨e0, e1, e2, e3, e4, e5, e6⟩ := heq c
  obtain ⟨DZ, WI, X0, F, GF, G, D, hDZ, hWI, hX0, hF, hGF, hG, hD⟩ := reals m hp c
  refine ⟨(h54.trans (Cert.Reference10Ideal.Read.val_main_v54_eq m' c)).trans (Eq.trans ?_ (final13 m DZ WI X0 F GF G D c hDZ hWI hX0 hF hGF hG hD).symm),
    (h37.trans (Cert.Reference10Ideal.Read.val_main_v37_eq _ _ _ _ _)).trans (Eq.trans ?_ (final14 m DZ WI X0 F GF G D c hDZ hWI hX0 hF hGF hG hD).symm),
    (h77.trans (Cert.Reference10Ideal.Read.val_main_v77_eq m' c)).trans (Eq.trans ?_ (final15 m DZ WI X0 F GF G D c hDZ hWI hX0 hF hGF hG hD).symm),
    (h60.trans (Cert.Reference10Ideal.Read.val_main_v60_eq m' c)).trans (Eq.trans ?_ (final16 m DZ WI X0 F GF G D c hDZ hWI hX0 hF hGF hG hD).symm), ha0, ha1, ha2, ha3, ha4, ha5, ha6⟩
  · rw [e0, e1, e2, e3, e4, e5, e6]
    funext j
    idx_vars j
    exact Ref.s54 _ DZ hDZ _ WI hWI _ X0 hX0 _ F hF _ GF hGF _ G hG _ D hD j0 j1
  · rw [e0, e1, e2, e3, e4]
    funext j
    idx_vars j
    exact Ref.s37 _ DZ hDZ _ WI hWI _ X0 hX0 _ F hF _ GF hGF _ G hG _ D hD j0 j1
  · rw [e0, e1, e2, e3, e4, e5, e6]
    funext j
    idx_vars j
    exact Ref.s77 _ DZ hDZ _ WI hWI _ X0 hX0 _ F hF _ GF hGF _ G hG _ D hD j0 j1
  · rw [e0, e1, e2, e3, e4, e5, e6]
    funext j
    idx_vars j
    exact Ref.s60 _ DZ hDZ _ WI hWI _ X0 hX0 _ F hF _ GF hGF _ G hG _ D hD j0 j1

end Cert.MixIn
-- ==== Proof.OutLossKernel.lean ====
/-
  What one tile of the last block's kernel stores: the output product, its norm, the final norm, the loss, and the gradients of all of
  them.
-/
module

public import Idealize.ShloMosaic.Lib.Pipeline.ValueKit
public import proofs.«01_k».proof.Proof.NormGrad
public import proofs.«01_k».proof.Proof.Gen.Kernel6Ideal.Frame

@[expose] public section

set_option maxRecDepth 16384

noncomputable section

namespace Cert.OutLoss

open Idealize.ShloMosaic Idealize.ShloMosaic.TcCoe Idealize.SL.Sem
open Cert.Kernel6Ideal Cert.Kernel6Ideal.Gen Cert.NormGrad Cert.Reals Cert.Sigmoid

/-- The branch: the gated product by the output weight. -/
def lin {n : ℕ} (U : Fin n → Fin 2816 → ℝ) (W : Fin 2816 → Fin 1024 → ℝ) (r : Fin n) (j : Fin 1024) : ℝ := ∑ l, U r l * W l j

section defs
variable {n : ℕ} (U : Fin n → Fin 2816 → ℝ) (W : Fin 2816 → Fin 1024 → ℝ) (X : Fin n → Fin 1024 → ℝ) (GP GF : Fin 1024 → ℝ) (T : Fin n → Fin 1024 → ℝ)

/-- The residual stream before the final norm. -/
def preNorm (r : Fin n) (j : Fin 1024) : ℝ := X r j + 1 / 2 * (nrm (lin U W r) j * GP j)
/-- The output less the target. -/
def resid (r : Fin n) (j : Fin 1024) : ℝ := nrm (preNorm U W X GP r) j * GF j - T r j
/-- The cotangent of the output. -/
def dOut (r : Fin n) (j : Fin 1024) : ℝ := resid U W X GP GF T r j * (1 / 1024)
/-- The cotangent of the branch's norm. -/
def dBranch (r : Fin n) (j : Fin 1024) : ℝ := dfAll (dOut U W X GP GF T) (preNorm U W X GP) GF r j * (1 / 2)
/-- Half the sum over the rows of the mean square of what is left of the target. -/
def lossOf : ℝ := 1 / 2048 * ∑ r, ∑ j, resid U W X GP GF T r j * resid U W X GP GF T r j

end defs

section blocks

variable (x0 : Vec Ideal S512x2816 .bf16) (x1 : Vec Ideal S2816x1024 .bf16) (x2 : Vec Ideal S512x1024 .f32) (x3 : Vec Ideal S1x1024 .f32) (x4 : Vec Ideal S1x1024 .f32) (x5 : Vec Ideal S512x1024 .f32)
  (U : Fin 512 → Fin 2816 → ℝ) (W : Fin 2816 → Fin 1024 → ℝ) (X T : Fin 512 → Fin 1024 → ℝ) (GP GF : Fin 1024 → ℝ)
  (hu : ∀ r l, x0 (ix2 r l) = (U r l : EReal)) (hw : ∀ l j, x1 (ix2 l j) = (W l j : EReal)) (hx : ∀ r l, x2 (ix2 r l) = (X r l : EReal))
  (hgp : ∀ z l, x3 (ix2 z l) = (GP l : EReal)) (hgf : ∀ z l, x4 (ix2 z l) = (GF l : EReal)) (ht : ∀ r l, x5 (ix2 r l) = (T r l : EReal))

include hu hw hx hgp hgf ht

theorem out6A (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : cond0_0 i)  (y : S512x1024.Idx) (r : Fin 512) (k : Fin 1024) (hr : (y 0).val = r.val) (hk : (y 1).val = k.val) :
    out0_A_6 c i arg1 harg1 arg2 harg2 arg3 harg3 arg4 harg4 arg5 harg5 arg6 harg6 arg7 harg7 arg8 harg8 arg9 harg9 arg10 harg10 arg11 harg11 hc0 x0 x1 x2 x3 x4 x5 y = (dfAll (dBranch U W X GP GF T) (lin U W) GP r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [l0]
    simp only [hu, hw, hx, hgp, hgf, ht, inv1024_word, inv2048_word, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [l0]
    simp only [hu, hw, hx, hgp, hgf, ht, inv1024_word, inv2048_word, k1024_word, eps_word, half_word, ← EReal.coe_one, ← EReal.coe_mul, ← EReal.coe_add, ← EReal.coe_sub, sum_coe, div_1024, rsqrt_row]
    rfl

theorem out6B (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : ¬cond0_0 i) (xo8 : Vec Ideal S1x1024 .f32) (xo9 : Vec Ideal S1x1024 .f32) (xo10 : Vec Ideal S8x128 .f32) (y : S512x1024.Idx) (r : Fin 512) (k : Fin 1024) (hr : (y 0).val = r.val) (hk : (y 1).val = k.val) :
    out0_B_6 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 y = (dfAll (dBranch U W X GP GF T) (lin U W) GP r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [l0]
    simp only [hu, hw, hx, hgp, hgf, ht, inv1024_word, inv2048_word, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [l0]
    simp only [hu, hw, hx, hgp, hgf, ht, inv1024_word, inv2048_word, k1024_word, eps_word, half_word, ← EReal.coe_one, ← EReal.coe_mul, ← EReal.coe_add, ← EReal.coe_sub, sum_coe, div_1024, rsqrt_row]
    rfl

theorem out7A (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : cond0_0 i)  (y : S512x1024.Idx) (r : Fin 512) (k : Fin 1024) (hr : (y 0).val = r.val) (hk : (y 1).val = k.val) :
    out0_A_7 c i arg1 harg1 arg2 harg2 arg3 harg3 arg4 harg4 arg5 harg5 arg6 harg6 arg7 harg7 arg8 harg8 arg9 harg9 arg10 harg10 arg11 harg11 hc0 x0 x1 x2 x3 x4 x5 y = (dfAll (dOut U W X GP GF T) (preNorm U W X GP) GF r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [l0]
    simp only [hu, hw, hx, hgp, hgf, ht, inv1024_word, inv2048_word, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [l0]
    simp only [hu, hw, hx, hgp, hgf, ht, inv1024_word, inv2048_word, k1024_word, eps_word, half_word, ← EReal.coe_one, ← EReal.coe_mul, ← EReal.coe_add, ← EReal.coe_sub, sum_coe, div_1024, rsqrt_row]
    rfl

theorem out7B (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : ¬cond0_0 i) (xo8 : Vec Ideal S1x1024 .f32) (xo9 : Vec Ideal S1x1024 .f32) (xo10 : Vec Ideal S8x128 .f32) (y : S512x1024.Idx) (r : Fin 512) (k : Fin 1024) (hr : (y 0).val = r.val) (hk : (y 1).val = k.val) :
    out0_B_7 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 y = (dfAll (dOut U W X GP GF T) (preNorm U W X GP) GF r k : EReal) := by
  frame_out
  canon_tiles x h
  · obtain ⟨i, k', rfl⟩ : ∃ (i : Fin 256) (k' : Fin 1024), x = ix2 i k' := ⟨x 0, x 1, (by funext a; fin_cases a <;> rfl)⟩
    have e0 : r.val = 256 + i.val := by
      have g : (ix2 i k' 0).val = i.val := rfl
      omega
    have e1 : k = k' := Fin.ext (by
      have g : (ix2 i k' 1).val = k'.val := rfl
      omega)
    subst e1
    have l0 : ∀ h, (⟨256 + i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [l0]
    simp only [hu, hw, hx, hgp, hgf, ht, inv1024_word, inv2048_word, k1024_word, eps_word, half_word, ← EReal.coe_one, ← EReal.coe_mul, ← EReal.coe_add, ← EReal.coe_sub, sum_coe, div_1024, rsqrt_row]
    rfl
  · obtain ⟨i, k', rfl⟩ : ∃ (i : Fin 256) (k' : Fin 1024), x = ix2 i k' := ⟨x 0, x 1, (by funext a; fin_cases a <;> rfl)⟩
    have e0 : r.val = i.val := by
      have g : (ix2 i k' 0).val = i.val := rfl
      omega
    have e1 : k = k' := Fin.ext (by
      have g : (ix2 i k' 1).val = k'.val := rfl
      omega)
    subst e1
    have l0 : ∀ h, (⟨i.val, h⟩ : Fin 512) = r := fun _ => Fin.ext e0.symm
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    simp only [l0]
    simp only [hu, hw, hx, hgp, hgf, ht, inv1024_word, inv2048_word, k1024_word, eps_word, half_word, ← EReal.coe_one, ← EReal.coe_mul, ← EReal.coe_add, ← EReal.coe_sub, sum_coe, div_1024, rsqrt_row]
    rfl

theorem out8A (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : cond0_0 i)  (k : Fin 1024) :
    out0_A_8 c i arg1 harg1 arg2 harg2 arg3 harg3 arg4 harg4 arg5 harg5 arg6 harg6 arg7 harg7 arg8 harg8 arg9 harg9 arg10 harg10 arg11 harg11 hc0 x0 x1 x2 x3 x4 x5 (ix2 0 k) = (dgAll (dBranch U W X GP GF T) (lin U W) k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp only [hu, hw, hx, hgp, hgf, ht, inv1024_word, inv2048_word, k1024_word, eps_word, half_word, ← EReal.coe_one, ← EReal.coe_mul, ← EReal.coe_add, ← EReal.coe_sub, sum_coe, div_1024, rsqrt_row]
  refine congrArg (fun r : ℝ => (r : EReal)) (Eq.trans ?_ (sum_halves (fun r => dBranch U W X GP GF T r k * nrm (lin U W r) k)))
  rfl

theorem out8B (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : ¬cond0_0 i) (xo8 : Vec Ideal S1x1024 .f32) (xo9 : Vec Ideal S1x1024 .f32) (xo10 : Vec Ideal S8x128 .f32) (k : Fin 1024) :
    out0_B_8 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 (ix2 0 k) = xo8 (ix2 0 k) + (dgAll (dBranch U W X GP GF T) (lin U W) k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp only [hu, hw, hx, hgp, hgf, ht, inv1024_word, inv2048_word, k1024_word, eps_word, half_word, ← EReal.coe_one, ← EReal.coe_mul, ← EReal.coe_add, ← EReal.coe_sub, sum_coe, div_1024, rsqrt_row]
  refine (add_assoc _ _ _).trans (congrArg (xo8 (ix2 0 k) + ·) ?_)
  rw [← EReal.coe_add]
  refine congrArg (fun r : ℝ => (r : EReal)) (Eq.trans ?_ (sum_halves (fun r => dBranch U W X GP GF T r k * nrm (lin U W r) k)))
  rfl

theorem out9A (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : cond0_0 i)  (k : Fin 1024) :
    out0_A_9 c i arg1 harg1 arg2 harg2 arg3 harg3 arg4 harg4 arg5 harg5 arg6 harg6 arg7 harg7 arg8 harg8 arg9 harg9 arg10 harg10 arg11 harg11 hc0 x0 x1 x2 x3 x4 x5 (ix2 0 k) = (dgAll (dOut U W X GP GF T) (preNorm U W X GP) k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp only [hu, hw, hx, hgp, hgf, ht, inv1024_word, inv2048_word, k1024_word, eps_word, half_word, ← EReal.coe_one, ← EReal.coe_mul, ← EReal.coe_add, ← EReal.coe_sub, sum_coe, div_1024, rsqrt_row]
  refine congrArg (fun r : ℝ => (r : EReal)) (Eq.trans ?_ (sum_halves (fun r => dOut U W X GP GF T r k * nrm (preNorm U W X GP r) k)))
  rfl

theorem out9B (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : ¬cond0_0 i) (xo8 : Vec Ideal S1x1024 .f32) (xo9 : Vec Ideal S1x1024 .f32) (xo10 : Vec Ideal S8x128 .f32) (k : Fin 1024) :
    out0_B_9 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 (ix2 0 k) = xo9 (ix2 0 k) + (dgAll (dOut U W X GP GF T) (preNorm U W X GP) k : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp only [hu, hw, hx, hgp, hgf, ht, inv1024_word, inv2048_word, k1024_word, eps_word, half_word, ← EReal.coe_one, ← EReal.coe_mul, ← EReal.coe_add, ← EReal.coe_sub, sum_coe, div_1024, rsqrt_row]
  refine (add_assoc _ _ _).trans (congrArg (xo9 (ix2 0 k) + ·) ?_)
  rw [← EReal.coe_add]
  refine congrArg (fun r : ℝ => (r : EReal)) (Eq.trans ?_ (sum_halves (fun r => dOut U W X GP GF T r k * nrm (preNorm U W X GP r) k)))
  rfl

theorem out10A (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : cond0_0 i)  (a : Fin 8) (b : Fin 128) :
    out0_A_10 c i arg1 harg1 arg2 harg2 arg3 harg3 arg4 harg4 arg5 harg5 arg6 harg6 arg7 harg7 arg8 harg8 arg9 harg9 arg10 harg10 arg11 harg11 hc0 x0 x1 x2 x3 x4 x5 (ix2 a b) = (lossOf U W X GP GF T : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp only [hu, hw, hx, hgp, hgf, ht, inv1024_word, inv2048_word, k1024_word, eps_word, half_word, ← EReal.coe_one, ← EReal.coe_mul, ← EReal.coe_add, ← EReal.coe_sub, sum_coe, div_1024, rsqrt_row]
  refine congrArg (fun r : ℝ => (r : EReal)) ?_
  rw [← mul_add]
  exact congrArg (fun r : ℝ => 1 / 2048 * r) (sum_halves (fun r => ∑ k, resid U W X GP GF T r k * resid U W X GP GF T r k))

theorem out10B (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128 .f32) (harg11 : arg11.IsWhole) (hc0 : ¬cond0_0 i) (xo8 : Vec Ideal S1x1024 .f32) (xo9 : Vec Ideal S1x1024 .f32) (xo10 : Vec Ideal S8x128 .f32) (a : Fin 8) (b : Fin 128) :
    out0_B_10 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 (ix2 a b) = xo10 (ix2 a b) + (lossOf U W X GP GF T : EReal) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp only [hu, hw, hx, hgp, hgf, ht, inv1024_word, inv2048_word, k1024_word, eps_word, half_word, ← EReal.coe_one, ← EReal.coe_mul, ← EReal.coe_add, ← EReal.coe_sub, sum_coe, div_1024, rsqrt_row]
  refine (add_assoc _ _ _).trans (congrArg (xo10 (ix2 a b) + ·) ?_)
  rw [← EReal.coe_add]
  refine congrArg (fun r : ℝ => (r : EReal)) ?_
  rw [← mul_add]
  exact congrArg (fun r : ℝ => 1 / 2048 * r) (sum_halves (fun r => ∑ k, resid U W X GP GF T r k * resid U W X GP GF T r k))

end blocks

end Cert.OutLoss
-- ==== Proof.OutLossArrays.lean ====
/-
  What the last block's kernel stores over all its tiles.
-/
module

public import Idealize.ShloMosaic.Lib.Pipeline.ValueKit
public import Idealize.ShloMosaic.Lib.Pipeline.ReadBack
public import proofs.«01_k».proof.Proof.OutLossKernel
public import proofs.«01_k».proof.Proof.Gen.Kernel6Ideal.Value

@[expose] public section

set_option maxRecDepth 16384

noncomputable section

namespace Cert.OutLoss

open Idealize.ShloMosaic Idealize.ShloMosaic.TcCoe Idealize.SL.Sem
open Idealize.ShloMosaic.Pipeline (Dat)
open Cert.Kernel6Ideal Cert.Kernel6Ideal.Gen Cert.NormGrad Cert.Reals Cert.Sigmoid

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] ∧ win0_8.index t = ![0, 0] ∧ win0_9.index t = ![0, 0] ∧ win0_10.index t = ![0, 0] :=
  (by decide +kernel : ∀ t : Fin grid0.N, _)

theorem lt8 (t : Fin cfg0.N) : t.val < 8 := lt_of_lt_of_eq t.isLt N_0

/-- Row `r` of tile `t`. -/
def trow (t : Fin cfg0.N) (r : Fin 512) : Fin 4096 := ⟨512 * t.val + r.val, by have := lt8 t; omega⟩

variable (U : Fin 4096 → Fin 2816 → ℝ) (W : Fin 2816 → Fin 1024 → ℝ) (X : Fin 4096 → Fin 1024 → ℝ) (GP GF : Fin 1024 → ℝ) (T : Fin 4096 → Fin 1024 → ℝ) (c : Dev nD)
  (hU : ∀ i k, m ((c : Thread nD τ).loc main_arg0) (ix2 i k) = (U i k : EReal))
  (hW : ∀ i k, m ((c : Thread nD τ).loc main_arg1) (ix2 i k) = (W i k : EReal))
  (hX : ∀ i k, m ((c : Thread nD τ).loc main_arg2) (ix2 i k) = (X i k : EReal))
  (hGP : ∀ i k, m ((c : Thread nD τ).loc main_arg3) (ix2 i k) = (GP k : EReal))
  (hGF : ∀ i k, m ((c : Thread nD τ).loc main_arg4) (ix2 i k) = (GF k : EReal))
  (hT : ∀ i k, m ((c : Thread nD τ).loc main_arg5) (ix2 i k) = (T i k : EReal))

theorem blk0 (t : Fin cfg0.N) (i : Fin 512) (k : Fin 2816) : iblk m c 0 t (ix2 i k) = m ((c : Thread nD τ).loc main_arg0) (ix2 (trow t i) k) := by
  have h := idx t
  have ht : (trow t i).val = 512 * t.val + i.val := rfl
  rw [iblk]
  entry_read
  blk_point [h, ht]

theorem blk1 (t : Fin cfg0.N) (i : Fin 2816) (k : Fin 1024) : iblk m c 1 t (ix2 i k) = m ((c : Thread nD τ).loc main_arg1) (ix2 i k) := by
  have h := idx t
  rw [iblk]
  entry_read
  blk_point [h]

theorem blk2 (t : Fin cfg0.N) (i : Fin 512) (k : Fin 1024) : iblk m c 2 t (ix2 i k) = m ((c : Thread nD τ).loc main_arg2) (ix2 (trow t i) k) := by
  have h := idx t
  have ht : (trow t i).val = 512 * t.val + i.val := rfl
  rw [iblk]
  entry_read
  blk_point [h, ht]

theorem blk3 (t : Fin cfg0.N) (i : Fin 1) (k : Fin 1024) : iblk m c 3 t (ix2 i k) = m ((c : Thread nD τ).loc main_arg3) (ix2 i k) := by
  have h := idx t
  rw [iblk]
  entry_read
  blk_point [h]

theorem blk4 (t : Fin cfg0.N) (i : Fin 1) (k : Fin 1024) : iblk m c 4 t (ix2 i k) = m ((c : Thread nD τ).loc main_arg4) (ix2 i k) := by
  have h := idx t
  rw [iblk]
  entry_read
  blk_point [h]

theorem blk5 (t : Fin cfg0.N) (i : Fin 512) (k : Fin 1024) : iblk m c 5 t (ix2 i k) = m ((c : Thread nD τ).loc main_arg5) (ix2 (trow t i) k) := by
  have h := idx t
  have ht : (trow t i).val = 512 * t.val + i.val := rfl
  rw [iblk]
  entry_read
  blk_point [h, ht]

include hU hW hX hGP hGF hT

theorem rows6 (t : Fin cfg0.N) (i : Fin 512) (k : Fin 1024) :
    (outsAt0 m c t.val t.isLt).1 (ix2 i k) = (dfAll (dBranch U W X GP GF T) (lin U W) GP (trow t i) k : EReal) := by
  by_cases h : t.val % 8 = 0
  · rw [outsAt0_A m c t h]
    dsimp only
    exact out6A (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (ix2 i k) i k rfl rfl
  · rw [outsAt0_B m c t h]
    dsimp only
    generalize outsAt0 m c (t.val - 1) _ = xo
    exact out6B (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.2.1 xo.2.2.2.1 xo.2.2.2.2 (ix2 i k) i k rfl rfl

theorem final6 : (dats m 0 c).arrAt 6 cfg0.N = fun j => (dfAll (dBranch U W X GP GF T) (lin U W) GP (j 0) (j 1) : EReal) := by
  refine (dats m 0 c).arrAt_eq_of_covers 6 _ (by decide +kernel) fun t hf y => ?_
  have h := idx t
  blk_simp
  rw [after0_6]
  idx_vars y
  rw [rows6 m U W X GP GF T c hU hW hX hGP hGF hT t y0 y1]
  congr 2 <;> (apply Fin.ext; blk_simp [h, trow] <;> try (dsimp only; omega))

theorem rows7 (t : Fin cfg0.N) (i : Fin 512) (k : Fin 1024) :
    (outsAt0 m c t.val t.isLt).2.1 (ix2 i k) = (dfAll (dOut U W X GP GF T) (preNorm U W X GP) GF (trow t i) k : EReal) := by
  by_cases h : t.val % 8 = 0
  · rw [outsAt0_A m c t h]
    dsimp only
    exact out7A (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (ix2 i k) i k rfl rfl
  · rw [outsAt0_B m c t h]
    dsimp only
    generalize outsAt0 m c (t.val - 1) _ = xo
    exact out7B (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.2.1 xo.2.2.2.1 xo.2.2.2.2 (ix2 i k) i k rfl rfl

theorem final7 : (dats m 0 c).arrAt 7 cfg0.N = fun j => (dfAll (dOut U W X GP GF T) (preNorm U W X GP) GF (j 0) (j 1) : EReal) := by
  refine (dats m 0 c).arrAt_eq_of_covers 7 _ (by decide +kernel) fun t hf y => ?_
  have h := idx t
  blk_simp
  rw [after0_7]
  idx_vars y
  rw [rows7 m U W X GP GF T c hU hW hX hGP hGF hT t y0 y1]
  congr 2 <;> (apply Fin.ext; blk_simp [h, trow] <;> try (dsimp only; omega))

theorem first8 (t : Fin cfg0.N) (h : t.val % 8 = 0) (y : S1x1024.Idx) :
    (outsAt0 m c t.val t.isLt).2.2.1 y = 0 + (dgAll (dBranch (fun r => U (trow t r)) W (fun r => X (trow t r)) GP GF (fun r => T (trow t r))) (lin (fun r => U (trow t r)) W) (y 1) : EReal) := by
  rw [outsAt0_A m c t h, zero_add]
  dsimp only
  idx_vars y
  obtain rfl : y0 = 0 := Subsingleton.elim _ _
  exact out8A (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) y1

theorem next8 (t : Fin cfg0.N) (h : ¬ t.val % 8 = 0) (y : S1x1024.Idx) :
    (outsAt0 m c t.val t.isLt).2.2.1 y = (outsAt0 m c (t.val - 1) (Nat.lt_of_le_of_lt (Nat.sub_le _ _) t.isLt)).2.2.1 y + (dgAll (dBranch (fun r => U (trow t r)) W (fun r => X (trow t r)) GP GF (fun r => T (trow t r))) (lin (fun r => U (trow t r)) W) (y 1) : EReal) := by
  rw [outsAt0_B m c t h]
  dsimp only
  generalize outsAt0 m c (t.val - 1) _ = xo
  idx_vars y
  obtain rfl : y0 = 0 := Subsingleton.elim _ _
  exact out8B (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.2.1 xo.2.2.2.1 xo.2.2.2.2 y1

theorem final8 : (dats m 0 c).arrAt 8 cfg0.N = fun j => (dgAll (dBranch U W X GP GF T) (lin U W) (j 1) : EReal) := by
  refine (dats m 0 c).arrAt_eq_of_covers 8 _ (by decide +kernel) fun t hf y => ?_
  have h := idx t
  blk_simp
  rw [after0_8, Pipeline.eq_sum_fin_of_reset_step_apply_of_flush (fun n h => (outsAt0 m c n h).2.2.1) 8 (fun _ => 0)
    (fun (t : Fin cfg0.N) (y : S1x1024.Idx) => (dgAll (dBranch (fun r => U (trow t r)) W (fun r => X (trow t r)) GP GF (fun r => T (trow t r))) (lin (fun r => U (trow t r)) W) (y 1) : EReal)) (first8 m U W X GP GF T c hU hW hX hGP hGF hT) (next8 m U W X GP GF T c hU hW hX hGP hGF hT) t ((flush0_8 t).mp hf) y, zero_add, sum_coe]
  have hs : ∀ s : Fin 8, 8 * (t.val / 8) + s.val = s.val := fun s => by have := lt8 t; omega
  unfold trow
  simp only [hs]
  idx_vars y

  refine (congrArg (fun r : ℝ => (r : EReal)) (sum_tiles8 (fun r => dBranch U W X GP GF T r y1 * nrm (lin U W r) y1))).trans ?_
  exact congrArg (fun k : Fin 1024 => ((dgAll (dBranch U W X GP GF T) (lin U W) k : ℝ) : EReal)) (Fin.ext (by blk_simp [h]))

theorem first9 (t : Fin cfg0.N) (h : t.val % 8 = 0) (y : S1x1024.Idx) :
    (outsAt0 m c t.val t.isLt).2.2.2.1 y = 0 + (dgAll (dOut (fun r => U (trow t r)) W (fun r => X (trow t r)) GP GF (fun r => T (trow t r))) (preNorm (fun r => U (trow t r)) W (fun r => X (trow t r)) GP) (y 1) : EReal) := by
  rw [outsAt0_A m c t h, zero_add]
  dsimp only
  idx_vars y
  obtain rfl : y0 = 0 := Subsingleton.elim _ _
  exact out9A (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) y1

theorem next9 (t : Fin cfg0.N) (h : ¬ t.val % 8 = 0) (y : S1x1024.Idx) :
    (outsAt0 m c t.val t.isLt).2.2.2.1 y = (outsAt0 m c (t.val - 1) (Nat.lt_of_le_of_lt (Nat.sub_le _ _) t.isLt)).2.2.2.1 y + (dgAll (dOut (fun r => U (trow t r)) W (fun r => X (trow t r)) GP GF (fun r => T (trow t r))) (preNorm (fun r => U (trow t r)) W (fun r => X (trow t r)) GP) (y 1) : EReal) := by
  rw [outsAt0_B m c t h]
  dsimp only
  generalize outsAt0 m c (t.val - 1) _ = xo
  idx_vars y
  obtain rfl : y0 = 0 := Subsingleton.elim _ _
  exact out9B (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.2.1 xo.2.2.2.1 xo.2.2.2.2 y1

theorem final9 : (dats m 0 c).arrAt 9 cfg0.N = fun j => (dgAll (dOut U W X GP GF T) (preNorm U W X GP) (j 1) : EReal) := by
  refine (dats m 0 c).arrAt_eq_of_covers 9 _ (by decide +kernel) fun t hf y => ?_
  have h := idx t
  blk_simp
  rw [after0_9, Pipeline.eq_sum_fin_of_reset_step_apply_of_flush (fun n h => (outsAt0 m c n h).2.2.2.1) 8 (fun _ => 0)
    (fun (t : Fin cfg0.N) (y : S1x1024.Idx) => (dgAll (dOut (fun r => U (trow t r)) W (fun r => X (trow t r)) GP GF (fun r => T (trow t r))) (preNorm (fun r => U (trow t r)) W (fun r => X (trow t r)) GP) (y 1) : EReal)) (first9 m U W X GP GF T c hU hW hX hGP hGF hT) (next9 m U W X GP GF T c hU hW hX hGP hGF hT) t ((flush0_9 t).mp hf) y, zero_add, sum_coe]
  have hs : ∀ s : Fin 8, 8 * (t.val / 8) + s.val = s.val := fun s => by have := lt8 t; omega
  unfold trow
  simp only [hs]
  idx_vars y

  refine (congrArg (fun r : ℝ => (r : EReal)) (sum_tiles8 (fun r => dOut U W X GP GF T r y1 * nrm (preNorm U W X GP r) y1))).trans ?_
  exact congrArg (fun k : Fin 1024 => ((dgAll (dOut U W X GP GF T) (preNorm U W X GP) k : ℝ) : EReal)) (Fin.ext (by blk_simp [h]))

theorem first10 (t : Fin cfg0.N) (h : t.val % 8 = 0) (y : S8x128.Idx) :
    (outsAt0 m c t.val t.isLt).2.2.2.2 y = 0 + (lossOf (fun r => U (trow t r)) W (fun r => X (trow t r)) GP GF (fun r => T (trow t r)) : EReal) := by
  rw [outsAt0_A m c t h, zero_add]
  dsimp only
  idx_vars y
  exact out10A (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) y0 y1

theorem next10 (t : Fin cfg0.N) (h : ¬ t.val % 8 = 0) (y : S8x128.Idx) :
    (outsAt0 m c t.val t.isLt).2.2.2.2 y = (outsAt0 m c (t.val - 1) (Nat.lt_of_le_of_lt (Nat.sub_le _ _) t.isLt)).2.2.2.2 y + (lossOf (fun r => U (trow t r)) W (fun r => X (trow t r)) GP GF (fun r => T (trow t r)) : EReal) := by
  rw [outsAt0_B m c t h]
  dsimp only
  generalize outsAt0 m c (t.val - 1) _ = xo
  idx_vars y
  exact out10B (iblk m c 0 t) (iblk m c 1 t) (iblk m c 2 t) (iblk m c 3 t) (iblk m c 4 t) (iblk m c 5 t) (fun r => U (trow t r)) W (fun r => X (trow t r)) (fun r => T (trow t r)) GP GF (fun r l => (blk0 m c t r l).trans (hU _ _)) (fun r l => (blk1 m c t r l).trans (hW _ _)) (fun r l => (blk2 m c t r l).trans (hX _ _)) (fun z l => (blk3 m c t z l).trans (hGP _ _)) (fun z l => (blk4 m c t z l).trans (hGF _ _)) (fun r l => (blk5 m c t r l).trans (hT _ _)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun g => h ((hcond0_0 t).mp g)) xo.2.2.1 xo.2.2.2.1 xo.2.2.2.2 y0 y1

theorem final10 : (dats m 0 c).arrAt 10 cfg0.N = fun j => (lossOf U W X GP GF T : EReal) := by
  refine (dats m 0 c).arrAt_eq_of_covers 10 _ (by decide +kernel) fun t hf y => ?_
  have h := idx t
  blk_simp
  rw [after0_10, Pipeline.eq_sum_fin_of_reset_step_apply_of_flush (fun n h => (outsAt0 m c n h).2.2.2.2) 8 (fun _ => 0)
    (fun (t : Fin cfg0.N) (y : S8x128.Idx) => (lossOf (fun r => U (trow t r)) W (fun r => X (trow t r)) GP GF (fun r => T (trow t r)) : EReal)) (first10 m U W X GP GF T c hU hW hX hGP hGF hT) (next10 m U W X GP GF T c hU hW hX hGP hGF hT) t ((flush0_10 t).mp hf) y, zero_add, sum_coe]
  have hs : ∀ s : Fin 8, 8 * (t.val / 8) + s.val = s.val := fun s => by have := lt8 t; omega
  unfold trow
  simp only [hs]
  idx_vars y

  refine congrArg (fun r : ℝ => (r : EReal)) ?_
  refine (Finset.mul_sum _ _ _).symm.trans (congrArg (fun r : ℝ => 1 / 2048 * r) ?_)
  exact sum_tiles8 (fun r => ∑ j, resid U W X GP GF T r j * resid U W X GP GF T r j)

end Cert.OutLoss
-- ==== Proof.OutLossRun.lean ====
/-
  The run of the reference of the output's loss: its operations in order, the value of each as a function of the arguments, and the
  results of a run as those values.
-/
module

public import proofs.«01_k».proof.Proof.Gen.Reference6Ideal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.OutLoss.Run

open Cert.Reference6Ideal Cert.Reference6Ideal.Gen Idealize.ShloMosaic Idealize.ShloMosaic.TcCoe Idealize.SL.Sem Idealize.ShloMosaic.StableHlo

/-- The contents of an array of the type `t`, its elements in `F`. -/
abbrev A (t : BufTy) (F : FTy → Type) : Type := t.Contents (Elt F)

variable {F : FTy → Type} [FloatOps F]

/-- The operations, in order. -/
abbrev ops : List (HloOp τ sig (Elt F)) :=
  [ binary main_arg0 main_arg1 main_v0 ((fun l r => Host.dotGeneral dot_S4096x2816_S2816x1024_S4096x1024_1_0_0_1_n_n none l r) : A ⟨S4096x2816, .f32⟩ F → A ⟨S2816x1024, .f32⟩ F → A ⟨S4096x1024, .f32⟩ F),
    binary main_v0 main_v0 main_v1 (mulf : A ⟨S4096x1024, .f32⟩ F → A ⟨S4096x1024, .f32⟩ F → A ⟨S4096x1024, .f32⟩ F),
    nullary main_cst (constant S_ .f32 0x00000000#32),
    binary main_v1 main_cst main_v2 ((fun x v => Host.reduceAdd x v reducesTo_S4096x1024_S4096_d1 h_S_) : A ⟨S4096x1024, .f32⟩ F → A ⟨S_, .f32⟩ F → A ⟨S4096, .f32⟩ F),
    unary main_v2 main_v3 (broadcastInDim S4096x1 ![0] bcast_S4096_S4096x1_0 : A ⟨S4096, .f32⟩ F → A ⟨S4096x1, .f32⟩ F),
    nullary main_cst_0 (constant S_ .f32 0x44800000#32),
    unary main_cst_0 main_v4 (broadcastInDim S4096x1 ![] bcast_S_S4096x1 : A ⟨S_, .f32⟩ F → A ⟨S4096x1, .f32⟩ F),
    binary main_v3 main_v4 main_v5 (Host.divf : A ⟨S4096x1, .f32⟩ F → A ⟨S4096x1, .f32⟩ F → A ⟨S4096x1, .f32⟩ F),
    nullary main_cst_1 (constant S_ .f32 0x358637BD#32),
    unary main_cst_1 main_v6 (broadcastInDim S4096x1 ![] bcast_S_S4096x1 : A ⟨S_, .f32⟩ F → A ⟨S4096x1, .f32⟩ F),
    binary main_v5 main_v6 main_v7 (addf : A ⟨S4096x1, .f32⟩ F → A ⟨S4096x1, .f32⟩ F → A ⟨S4096x1, .f32⟩ F),
    unary main_v7 main_v8 (Host.rsqrt : A ⟨S4096x1, .f32⟩ F → A ⟨S4096x1, .f32⟩ F),
    binary main_v8 main_v7 main_v9 (Host.divf : A ⟨S4096x1, .f32⟩ F → A ⟨S4096x1, .f32⟩ F → A ⟨S4096x1, .f32⟩ F),
    nullary main_cst_2 (constant S_ .f32 0xBF000000#32),
    unary main_cst_2 main_v10 (broadcastInDim S4096x1 ![] bcast_S_S4096x1 : A ⟨S_, .f32⟩ F → A ⟨S4096x1, .f32⟩ F),
    binary main_v10 main_v9 main_v11 (mulf : A ⟨S4096x1, .f32⟩ F → A ⟨S4096x1, .f32⟩ F → A ⟨S4096x1, .f32⟩ F),
    unary main_v8 main_v12 (broadcastInDim S4096x1024 ![0, 1] bcast_S4096x1_S4096x1024_0_1 : A ⟨S4096x1, .f32⟩ F → A ⟨S4096x1024, .f32⟩ F),
    binary main_v0 main_v12 main_v13 (mulf : A ⟨S4096x1024, .f32⟩ F → A ⟨S4096x1024, .f32⟩ F → A ⟨S4096x1024, .f32⟩ F),
    unary main_arg3 main_v14 (broadcastInDim S4096x1024 ![0, 1] bcast_S1x1024_S4096x1024_0_1 : A ⟨S1x1024, .f32⟩ F → A ⟨S4096x1024, .f32⟩ F),
    binary main_v13 main_v14 main_v15 (mulf : A ⟨S4096x1024, .f32⟩ F → A ⟨S4096x1024, .f32⟩ F → A ⟨S4096x1024, .f32⟩ F),
    nullary main_cst_3 (constant S_ .f32 0x3F000000#32),
    unary main_cst_3 main_v16 (broadcastInDim S4096x1024 ![] bcast_S_S4096x1024 : A ⟨S_, .f32⟩ F → A ⟨S4096x1024, .f32⟩ F),
    binary main_v16 main_v15 main_v17 (mulf : A ⟨S4096x1024, .f32⟩ F → A ⟨S4096x1024, .f32⟩ F → A ⟨S4096x1024, .f32⟩ F),
    binary main_arg2 main_v17 main_v18 (addf : A ⟨S4096x1024, .f32⟩ F → A ⟨S4096x1024, .f32⟩ F → A ⟨S4096x1024, .f32⟩ F),
    binary main_v18 main_v18 main_v19 (mulf : A ⟨S4096x1024, .f32⟩ F → A ⟨S4096x1024, .f32⟩ F → A ⟨S4096x1024, .f32⟩ F),
    nullary main_cst_4 (constant S_ .f32 0x00000000#32),
    binary main_v19 main_cst_4 main_v20 ((fun x v => Host.reduceAdd x v reducesTo_S4096x1024_S4096_d1 h_S_) : A ⟨S4096x1024, .f32⟩ F → A ⟨S_, .f32⟩ F → A ⟨S4096, .f32⟩ F),
    unary main_v20 main_v21 (broadcastInDim S4096x1 ![0] bcast_S4096_S4096x1_0 : A ⟨S4096, .f32⟩ F → A ⟨S4096x1, .f32⟩ F),
    nullary main_cst_5 (constant S_ .f32 0x44800000#32),
    unary main_cst_5 main_v22 (broadcastInDim S4096x1 ![] bcast_S_S4096x1 : A ⟨S_, .f32⟩ F → A ⟨S4096x1, .f32⟩ F),
    binary main_v21 main_v22 main_v23 (Host.divf : A ⟨S4096x1, .f32⟩ F → A ⟨S4096x1, .f32⟩ F → A ⟨S4096x1, .f32⟩ F),
    nullary main_cst_6 (constant S_ .f32 0x358637BD#32),
    unary main_cst_6 main_v24 (broadcastInDim S4096x1 ![] bcast_S_S4096x1 : A ⟨S_, .f32⟩ F → A ⟨S4096x1, .f32⟩ F),
    binary main_v23 main_v24 main_v25 (addf : A ⟨S4096x1, .f32⟩ F → A ⟨S4096x1, .f32⟩ F → A ⟨S4096x1, .f32⟩ F),
    unary main_v25 main_v26 (Host.rsqrt : A ⟨S4096x1, .f32⟩ F → A ⟨S4096x1, .f32⟩ F),
    binary main_v26 main_v25 main_v27 (Host.divf : A ⟨S4096x1, .f32⟩ F → A ⟨S4096x1, .f32⟩ F → A ⟨S4096x1, .f32⟩ F),
    nullary main_cst_7 (constant S_ .f32 0xBF000000#32),
    unary main_cst_7 main_v28 (broadcastInDim S4096x1 ![] bcast_S_S4096x1 : A ⟨S_, .f32⟩ F → A ⟨S4096x1, .f32⟩ F),
    binary main_v28 main_v27 main_v29 (mulf : A ⟨S4096x1, .f32⟩ F → A ⟨S4096x1, .f32⟩ F → A ⟨S4096x1, .f32⟩ F),
    unary main_v26 main_v30 (broadcastInDim S4096x1024 ![0, 1] bcast_S4096x1_S4096x1024_0_1 : A ⟨S4096x1, .f32⟩ F → A ⟨S4096x1024, .f32⟩ F),
    binary main_v18 main_v30 main_v31 (mulf : A ⟨S4096x1024, .f32⟩ F → A ⟨S4096x1024, .f32⟩ F → A ⟨S4096x1024, .f32⟩ F),
    unary main_arg4 main_v32 (broadcastInDim S4096x1024 ![0, 1] bcast_S1x1024_S4096x1024_0_1 : A ⟨S1x1024, .f32⟩ F → A ⟨S4096x1024, .f32⟩ F),
    binary main_v31 main_v32 main_v33 (mulf : A ⟨S4096x1024, .f32⟩ F → A ⟨S4096x1024, .f32⟩ F → A ⟨S4096x1024, .f32⟩ F),
    binary main_v33 main_arg5 main_v34 (subf : A ⟨S4096x1024, .f32⟩ F → A ⟨S4096x1024, .f32⟩ F → A ⟨S4096x1024, .f32⟩ F),
    binary main_v34 main_v34 main_v35 (mulf : A ⟨S4096x1024, .f32⟩ F → A ⟨S4096x1024, .f32⟩ F → A ⟨S4096x1024, .f32⟩ F),
    nullary main_cst_8 (constant S_ .f32 0x40000000#32),
    unary main_cst_8 main_v36 (broadcastInDim S4096x1024 ![] bcast_S_S4096x1024 : A ⟨S_, .f32⟩ F → A ⟨S4096x1024, .f32⟩ F),
    binary main_v36 main_v34 main_v37 (mulf : A ⟨S4096x1024, .f32⟩ F → A ⟨S4096x1024, .f32⟩ F → A ⟨S4096x1024, .f32⟩ F),
    nullary main_cst_9 (constant S_ .f32 0x00000000#32),
    binary main_v35 main_cst_9 main_v38 ((fun x v => Host.reduceAdd x v reducesTo_S4096x1024_S4096_d1 h_S_) : A ⟨S4096x1024, .f32⟩ F → A ⟨S_, .f32⟩ F → A ⟨S4096, .f32⟩ F),
    nullary main_cst_10 (constant S_ .f32 0x44800000#32),
    unary main_cst_10 main_v39 (broadcastInDim S4096 ![] bcast_S_S4096 : A ⟨S_, .f32⟩ F → A ⟨S4096, .f32⟩ F),
    binary main_v38 main_v39 main_v40 (Host.divf : A ⟨S4096, .f32⟩ F → A ⟨S4096, .f32⟩ F → A ⟨S4096, .f32⟩ F),
    nullary main_cst_11 (constant S_ .f32 0x00000000#32),
    binary main_v40 main_cst_11 main_v41 ((fun x v => Host.reduceAdd x v reducesTo_S4096_S_d0 h_S_) : A ⟨S4096, .f32⟩ F → A ⟨S_, .f32⟩ F → A ⟨S_, .f32⟩ F),
    nullary main_cst_12 (constant S_ .f32 0x3F000000#32),
    binary main_cst_12 main_v41 main_v42 (mulf : A ⟨S_, .f32⟩ F → A ⟨S_, .f32⟩ F → A ⟨S_, .f32⟩ F),
    nullary main_cst_13 (constant S_ .f32 0x3F000000#32),
    nullary main_cst_14 (constant S_ .f32 0x3F800000#32),
    binary main_cst_13 main_cst_14 main_v43 (mulf : A ⟨S_, .f32⟩ F → A ⟨S_, .f32⟩ F → A ⟨S_, .f32⟩ F),
    unary main_v43 main_v44 (broadcastInDim S4096 ![] bcast_S_S4096 : A ⟨S_, .f32⟩ F → A ⟨S4096, .f32⟩ F),
    nullary main_cst_15 (constant S_ .f32 0x44800000#32),
    unary main_cst_15 main_v45 (broadcastInDim S4096 ![] bcast_S_S4096 : A ⟨S_, .f32⟩ F → A ⟨S4096, .f32⟩ F),
    binary main_v44 main_v45 main_v46 (Host.divf : A ⟨S4096, .f32⟩ F → A ⟨S4096, .f32⟩ F → A ⟨S4096, .f32⟩ F),
    unary main_v46 main_v47 (broadcastInDim S4096x1024 ![0] bcast_S4096_S4096x1024_0 : A ⟨S4096, .f32⟩ F → A ⟨S4096x1024, .f32⟩ F),
    binary main_v47 main_v37 main_v48 (mulf : A ⟨S4096x1024, .f32⟩ F → A ⟨S4096x1024, .f32⟩ F → A ⟨S4096x1024, .f32⟩ F),
    binary main_v31 main_v48 main_v49 (mulf : A ⟨S4096x1024, .f32⟩ F → A ⟨S4096x1024, .f32⟩ F → A ⟨S4096x1024, .f32⟩ F),
    nullary main_cst_16 (constant S_ .f32 0x00000000#32),
    binary main_v49 main_cst_16 main_v50 ((fun x v => Host.reduceAdd x v reducesTo_S4096x1024_S1024_d0 h_S_) : A ⟨S4096x1024, .f32⟩ F → A ⟨S_, .f32⟩ F → A ⟨S1024, .f32⟩ F),
    reshape main_v50 main_v51 (rfl : (.f32 : EltTy) = .f32) shapeCasts_S1024_S1x1024,
    unary main_arg4 main_v52 (broadcastInDim S4096x1024 ![0, 1] bcast_S1x1024_S4096x1024_0_1 : A ⟨S1x1024, .f32⟩ F → A ⟨S4096x1024, .f32⟩ F),
    binary main_v48 main_v52 main_v53 (mulf : A ⟨S4096x1024, .f32⟩ F → A ⟨S4096x1024, .f32⟩ F → A ⟨S4096x1024, .f32⟩ F),
    binary main_v18 main_v53 main_v54 (mulf : A ⟨S4096x1024, .f32⟩ F → A ⟨S4096x1024, .f32⟩ F → A ⟨S4096x1024, .f32⟩ F),
    nullary main_cst_17 (constant S_ .f32 0x00000000#32),
    binary main_v54 main_cst_17 main_v55 ((fun x v => Host.reduceAdd x v reducesTo_S4096x1024_S4096_d1 h_S_) : A ⟨S4096x1024, .f32⟩ F → A ⟨S_, .f32⟩ F → A ⟨S4096, .f32⟩ F),
    reshape main_v55 main_v56 (rfl : (.f32 : EltTy) = .f32) shapeCasts_S4096_S4096x1,
    unary main_v26 main_v57 (broadcastInDim S4096x1024 ![0, 1] bcast_S4096x1_S4096x1024_0_1 : A ⟨S4096x1, .f32⟩ F → A ⟨S4096x1024, .f32⟩ F),
    binary main_v53 main_v57 main_v58 (mulf : A ⟨S4096x1024, .f32⟩ F → A ⟨S4096x1024, .f32⟩ F → A ⟨S4096x1024, .f32⟩ F),
    binary main_v56 main_v29 main_v59 (mulf : A ⟨S4096x1, .f32⟩ F → A ⟨S4096x1, .f32⟩ F → A ⟨S4096x1, .f32⟩ F),
    nullary main_cst_18 (constant S_ .f32 0x44800000#32),
    unary main_cst_18 main_v60 (broadcastInDim S4096x1 ![] bcast_S_S4096x1 : A ⟨S_, .f32⟩ F → A ⟨S4096x1, .f32⟩ F),
    binary main_v59 main_v60 main_v61 (Host.divf : A ⟨S4096x1, .f32⟩ F → A ⟨S4096x1, .f32⟩ F → A ⟨S4096x1, .f32⟩ F),
    nullary main_cst_19 (constant S_ .f32 0x00000000#32),
    binary main_v61 main_cst_19 main_v62 ((fun x v => Host.reduceAdd x v reducesTo_S4096x1_S4096_d1 h_S_) : A ⟨S4096x1, .f32⟩ F → A ⟨S_, .f32⟩ F → A ⟨S4096, .f32⟩ F),
    unary main_v62 main_v63 (broadcastInDim S4096x1024 ![0] bcast_S4096_S4096x1024_0 : A ⟨S4096, .f32⟩ F → A ⟨S4096x1024, .f32⟩ F),
    binary main_v18 main_v63 main_v64 (mulf : A ⟨S4096x1024, .f32⟩ F → A ⟨S4096x1024, .f32⟩ F → A ⟨S4096x1024, .f32⟩ F),
    binary main_v58 main_v64 main_v65 (addf : A ⟨S4096x1024, .f32⟩ F → A ⟨S4096x1024, .f32⟩ F → A ⟨S4096x1024, .f32⟩ F),
    binary main_v63 main_v18 main_v66 (mulf : A ⟨S4096x1024, .f32⟩ F → A ⟨S4096x1024, .f32⟩ F → A ⟨S4096x1024, .f32⟩ F),
    binary main_v65 main_v66 main_v67 (addf : A ⟨S4096x1024, .f32⟩ F → A ⟨S4096x1024, .f32⟩ F → A ⟨S4096x1024, .f32⟩ F),
    nullary main_cst_20 (constant S_ .f32 0x3F000000#32),
    unary main_cst_20 main_v68 (broadcastInDim S4096x1024 ![] bcast_S_S4096x1024 : A ⟨S_, .f32⟩ F → A ⟨S4096x1024, .f32⟩ F),
    binary main_v68 main_v67 main_v69 (mulf : A ⟨S4096x1024, .f32⟩ F → A ⟨S4096x1024, .f32⟩ F → A ⟨S4096x1024, .f32⟩ F),
    binary main_v13 main_v69 main_v70 (mulf : A ⟨S4096x1024, .f32⟩ F → A ⟨S4096x1024, .f32⟩ F → A ⟨S4096x1024, .f32⟩ F),
    nullary main_cst_21 (constant S_ .f32 0x00000000#32),
    binary main_v70 main_cst_21 main_v71 ((fun x v => Host.reduceAdd x v reducesTo_S4096x1024_S1024_d0 h_S_) : A ⟨S4096x1024, .f32⟩ F → A ⟨S_, .f32⟩ F → A ⟨S1024, .f32⟩ F),
    reshape main_v71 main_v72 (rfl : (.f32 : EltTy) = .f32) shapeCasts_S1024_S1x1024,
    unary main_arg3 main_v73 (broadcastInDim S4096x1024 ![0, 1] bcast_S1x1024_S4096x1024_0_1 : A ⟨S1x1024, .f32⟩ F → A ⟨S4096x1024, .f32⟩ F),
    binary main_v69 main_v73 main_v74 (mulf : A ⟨S4096x1024, .f32⟩ F → A ⟨S4096x1024, .f32⟩ F → A ⟨S4096x1024, .f32⟩ F),
    binary main_v0 main_v74 main_v75 (mulf : A ⟨S4096x1024, .f32⟩ F → A ⟨S4096x1024, .f32⟩ F → A ⟨S4096x1024, .f32⟩ F),
    nullary main_cst_22 (constant S_ .f32 0x00000000#32),
    binary main_v75 main_cst_22 main_v76 ((fun x v => Host.reduceAdd x v reducesTo_S4096x1024_S4096_d1 h_S_) : A ⟨S4096x1024, .f32⟩ F → A ⟨S_, .f32⟩ F → A ⟨S4096, .f32⟩ F),
    reshape main_v76 main_v77 (rfl : (.f32 : EltTy) = .f32) shapeCasts_S4096_S4096x1,
    unary main_v8 main_v78 (broadcastInDim S4096x1024 ![0, 1] bcast_S4096x1_S4096x1024_0_1 : A ⟨S4096x1, .f32⟩ F → A ⟨S4096x1024, .f32⟩ F),
    binary main_v74 main_v78 main_v79 (mulf : A ⟨S4096x1024, .f32⟩ F → A ⟨S4096x1024, .f32⟩ F → A ⟨S4096x1024, .f32⟩ F),
    binary main_v77 main_v11 main_v80 (mulf : A ⟨S4096x1, .f32⟩ F → A ⟨S4096x1, .f32⟩ F → A ⟨S4096x1, .f32⟩ F),
    nullary main_cst_23 (constant S_ .f32 0x44800000#32),
    unary main_cst_23 main_v81 (broadcastInDim S4096x1 ![] bcast_S_S4096x1 : A ⟨S_, .f32⟩ F → A ⟨S4096x1, .f32⟩ F),
    binary main_v80 main_v81 main_v82 (Host.divf : A ⟨S4096x1, .f32⟩ F → A ⟨S4096x1, .f32⟩ F → A ⟨S4096x1, .f32⟩ F),
    nullary main_cst_24 (constant S_ .f32 0x00000000#32),
    binary main_v82 main_cst_24 main_v83 ((fun x v => Host.reduceAdd x v reducesTo_S4096x1_S4096_d1 h_S_) : A ⟨S4096x1, .f32⟩ F → A ⟨S_, .f32⟩ F → A ⟨S4096, .f32⟩ F),
    unary main_v83 main_v84 (broadcastInDim S4096x1024 ![0] bcast_S4096_S4096x1024_0 : A ⟨S4096, .f32⟩ F → A ⟨S4096x1024, .f32⟩ F),
    binary main_v0 main_v84 main_v85 (mulf : A ⟨S4096x1024, .f32⟩ F → A ⟨S4096x1024, .f32⟩ F → A ⟨S4096x1024, .f32⟩ F),
    binary main_v79 main_v85 main_v86 (addf : A ⟨S4096x1024, .f32⟩ F → A ⟨S4096x1024, .f32⟩ F → A ⟨S4096x1024, .f32⟩ F),
    binary main_v84 main_v0 main_v87 (mulf : A ⟨S4096x1024, .f32⟩ F → A ⟨S4096x1024, .f32⟩ F → A ⟨S4096x1024, .f32⟩ F),
    binary main_v86 main_v87 main_v88 (addf : A ⟨S4096x1024, .f32⟩ F → A ⟨S4096x1024, .f32⟩ F → A ⟨S4096x1024, .f32⟩ F),
    unary main_v88 main_v89 ((truncf .bf16 · bitsLt_bf16_f32) : A ⟨S4096x1024, .f32⟩ F → A ⟨S4096x1024, .bf16⟩ F),
    unary main_v42 main_v90 (broadcastInDim S8x128 ![] bcast_S_S8x128 : A ⟨S_, .f32⟩ F → A ⟨S8x128, .f32⟩ F) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., nullary_bufs_sub .., unary_bufs_sub .., binary_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub .., unary_bufs_sub ..⟩

section stages

variable (x0 : A ⟨S4096x2816, .f32⟩ F) (x1 : A ⟨S2816x1024, .f32⟩ F) (x2 : A ⟨S4096x1024, .f32⟩ F) (x3 : A ⟨S1x1024, .f32⟩ F) (x4 : A ⟨S1x1024, .f32⟩ F) (x5 : A ⟨S4096x1024, .f32⟩ F)

def val_main_v0 : A ⟨S4096x1024, .f32⟩ F :=
  Host.dotGeneral dot_S4096x2816_S2816x1024_S4096x1024_1_0_0_1_n_n none (x0) (x1)

def val_main_v1 : A ⟨S4096x1024, .f32⟩ F :=
  mulf (val_main_v0 (F := F) x0 x1) (val_main_v0 (F := F) x0 x1)

def val_main_cst : A ⟨S_, .f32⟩ F :=
  constant S_ .f32 0x00000000#32

def val_main_v2 : A ⟨S4096, .f32⟩ F :=
  Host.reduceAdd (val_main_v1 (F := F) x0 x1) (val_main_cst (F := F)) reducesTo_S4096x1024_S4096_d1 h_S_

def val_main_v3 : A ⟨S4096x1, .f32⟩ F :=
  broadcastInDim S4096x1 ![0] bcast_S4096_S4096x1_0 (val_main_v2 (F := F) x0 x1)

def val_main_cst_0 : A ⟨S_, .f32⟩ F :=
  constant S_ .f32 0x44800000#32

def val_main_v4 : A ⟨S4096x1, .f32⟩ F :=
  broadcastInDim S4096x1 ![] bcast_S_S4096x1 (val_main_cst_0 (F := F))

def val_main_v5 : A ⟨S4096x1, .f32⟩ F :=
  Host.divf (val_main_v3 (F := F) x0 x1) (val_main_v4 (F := F))

def val_main_cst_1 : A ⟨S_, .f32⟩ F :=
  constant S_ .f32 0x358637BD#32

def val_main_v6 : A ⟨S4096x1, .f32⟩ F :=
  broadcastInDim S4096x1 ![] bcast_S_S4096x1 (val_main_cst_1 (F := F))

def val_main_v7 : A ⟨S4096x1, .f32⟩ F :=
  addf (val_main_v5 (F := F) x0 x1) (val_main_v6 (F := F))

def val_main_v8 : A ⟨S4096x1, .f32⟩ F :=
  Host.rsqrt (val_main_v7 (F := F) x0 x1)

def val_main_v9 : A ⟨S4096x1, .f32⟩ F :=
  Host.divf (val_main_v8 (F := F) x0 x1) (val_main_v7 (F := F) x0 x1)

def val_main_cst_2 : A ⟨S_, .f32⟩ F :=
  constant S_ .f32 0xBF000000#32

def val_main_v10 : A ⟨S4096x1, .f32⟩ F :=
  broadcastInDim S4096x1 ![] bcast_S_S4096x1 (val_main_cst_2 (F := F))

def val_main_v11 : A ⟨S4096x1, .f32⟩ F :=
  mulf (val_main_v10 (F := F)) (val_main_v9 (F := F) x0 x1)

def val_main_v12 : A ⟨S4096x1024, .f32⟩ F :=
  broadcastInDim S4096x1024 ![0, 1] bcast_S4096x1_S4096x1024_0_1 (val_main_v8 (F := F) x0 x1)

def val_main_v13 : A ⟨S4096x1024, .f32⟩ F :=
  mulf (val_main_v0 (F := F) x0 x1) (val_main_v12 (F := F) x0 x1)

def val_main_v14 : A ⟨S4096x1024, .f32⟩ F :=
  broadcastInDim S4096x1024 ![0, 1] bcast_S1x1024_S4096x1024_0_1 (x3)

def val_main_v15 : A ⟨S4096x1024, .f32⟩ F :=
  mulf (val_main_v13 (F := F) x0 x1) (val_main_v14 (F := F) x3)

def val_main_cst_3 : A ⟨S_, .f32⟩ F :=
  constant S_ .f32 0x3F000000#32

def val_main_v16 : A ⟨S4096x1024, .f32⟩ F :=
  broadcastInDim S4096x1024 ![] bcast_S_S4096x1024 (val_main_cst_3 (F := F))

def val_main_v17 : A ⟨S4096x1024, .f32⟩ F :=
  mulf (val_main_v16 (F := F)) (val_main_v15 (F := F) x0 x1 x3)

def val_main_v18 : A ⟨S4096x1024, .f32⟩ F :=
  addf (x2) (val_main_v17 (F := F) x0 x1 x3)

def val_main_v19 : A ⟨S4096x1024, .f32⟩ F :=
  mulf (val_main_v18 (F := F) x0 x1 x2 x3) (val_main_v18 (F := F) x0 x1 x2 x3)

def val_main_cst_4 : A ⟨S_, .f32⟩ F :=
  constant S_ .f32 0x00000000#32

def val_main_v20 : A ⟨S4096, .f32⟩ F :=
  Host.reduceAdd (val_main_v19 (F := F) x0 x1 x2 x3) (val_main_cst_4 (F := F)) reducesTo_S4096x1024_S4096_d1 h_S_

def val_main_v21 : A ⟨S4096x1, .f32⟩ F :=
  broadcastInDim S4096x1 ![0] bcast_S4096_S4096x1_0 (val_main_v20 (F := F) x0 x1 x2 x3)

def val_main_cst_5 : A ⟨S_, .f32⟩ F :=
  constant S_ .f32 0x44800000#32

def val_main_v22 : A ⟨S4096x1, .f32⟩ F :=
  broadcastInDim S4096x1 ![] bcast_S_S4096x1 (val_main_cst_5 (F := F))

def val_main_v23 : A ⟨S4096x1, .f32⟩ F :=
  Host.divf (val_main_v21 (F := F) x0 x1 x2 x3) (val_main_v22 (F := F))

def val_main_cst_6 : A ⟨S_, .f32⟩ F :=
  constant S_ .f32 0x358637BD#32

def val_main_v24 : A ⟨S4096x1, .f32⟩ F :=
  broadcastInDim S4096x1 ![] bcast_S_S4096x1 (val_main_cst_6 (F := F))

def val_main_v25 : A ⟨S4096x1, .f32⟩ F :=
  addf (val_main_v23 (F := F) x0 x1 x2 x3) (val_main_v24 (F := F))

def val_main_v26 : A ⟨S4096x1, .f32⟩ F :=
  Host.rsqrt (val_main_v25 (F := F) x0 x1 x2 x3)

def val_main_v27 : A ⟨S4096x1, .f32⟩ F :=
  Host.divf (val_main_v26 (F := F) x0 x1 x2 x3) (val_main_v25 (F := F) x0 x1 x2 x3)

def val_main_cst_7 : A ⟨S_, .f32⟩ F :=
  constant S_ .f32 0xBF000000#32

def val_main_v28 : A ⟨S4096x1, .f32⟩ F :=
  broadcastInDim S4096x1 ![] bcast_S_S4096x1 (val_main_cst_7 (F := F))

def val_main_v29 : A ⟨S4096x1, .f32⟩ F :=
  mulf (val_main_v28 (F := F)) (val_main_v27 (F := F) x0 x1 x2 x3)

def val_main_v30 : A ⟨S4096x1024, .f32⟩ F :=
  broadcastInDim S4096x1024 ![0, 1] bcast_S4096x1_S4096x1024_0_1 (val_main_v26 (F := F) x0 x1 x2 x3)

def val_main_v31 : A ⟨S4096x1024, .f32⟩ F :=
  mulf (val_main_v18 (F := F) x0 x1 x2 x3) (val_main_v30 (F := F) x0 x1 x2 x3)

def val_main_v32 : A ⟨S4096x1024, .f32⟩ F :=
  broadcastInDim S4096x1024 ![0, 1] bcast_S1x1024_S4096x1024_0_1 (x4)

def val_main_v33 : A ⟨S4096x1024, .f32⟩ F :=
  mulf (val_main_v31 (F := F) x0 x1 x2 x3) (val_main_v32 (F := F) x4)

def val_main_v34 : A ⟨S4096x1024, .f32⟩ F :=
  subf (val_main_v33 (F := F) x0 x1 x2 x3 x4) (x5)

def val_main_v35 : A ⟨S4096x1024, .f32⟩ F :=
  mulf (val_main_v34 (F := F) x0 x1 x2 x3 x4 x5) (val_main_v34 (F := F) x0 x1 x2 x3 x4 x5)

def val_main_cst_8 : A ⟨S_, .f32⟩ F :=
  constant S_ .f32 0x40000000#32

def val_main_v36 : A ⟨S4096x1024, .f32⟩ F :=
  broadcastInDim S4096x1024 ![] bcast_S_S4096x1024 (val_main_cst_8 (F := F))

def val_main_v37 : A ⟨S4096x1024, .f32⟩ F :=
  mulf (val_main_v36 (F := F)) (val_main_v34 (F := F) x0 x1 x2 x3 x4 x5)

def val_main_cst_9 : A ⟨S_, .f32⟩ F :=
  constant S_ .f32 0x00000000#32

def val_main_v38 : A ⟨S4096, .f32⟩ F :=
  Host.reduceAdd (val_main_v35 (F := F) x0 x1 x2 x3 x4 x5) (val_main_cst_9 (F := F)) reducesTo_S4096x1024_S4096_d1 h_S_

def val_main_cst_10 : A ⟨S_, .f32⟩ F :=
  constant S_ .f32 0x44800000#32

def val_main_v39 : A ⟨S4096, .f32⟩ F :=
  broadcastInDim S4096 ![] bcast_S_S4096 (val_main_cst_10 (F := F))

def val_main_v40 : A ⟨S4096, .f32⟩ F :=
  Host.divf (val_main_v38 (F := F) x0 x1 x2 x3 x4 x5) (val_main_v39 (F := F))

def val_main_cst_11 : A ⟨S_, .f32⟩ F :=
  constant S_ .f32 0x00000000#32

def val_main_v41 : A ⟨S_, .f32⟩ F :=
  Host.reduceAdd (val_main_v40 (F := F) x0 x1 x2 x3 x4 x5) (val_main_cst_11 (F := F)) reducesTo_S4096_S_d0 h_S_

def val_main_cst_12 : A ⟨S_, .f32⟩ F :=
  constant S_ .f32 0x3F000000#32

def val_main_v42 : A ⟨S_, .f32⟩ F :=
  mulf (val_main_cst_12 (F := F)) (val_main_v41 (F := F) x0 x1 x2 x3 x4 x5)

def val_main_cst_13 : A ⟨S_, .f32⟩ F :=
  constant S_ .f32 0x3F000000#32

def val_main_cst_14 : A ⟨S_, .f32⟩ F :=
  constant S_ .f32 0x3F800000#32

def val_main_v43 : A ⟨S_, .f32⟩ F :=
  mulf (val_main_cst_13 (F := F)) (val_main_cst_14 (F := F))

def val_main_v44 : A ⟨S4096, .f32⟩ F :=
  broadcastInDim S4096 ![] bcast_S_S4096 (val_main_v43 (F := F))

def val_main_cst_15 : A ⟨S_, .f32⟩ F :=
  constant S_ .f32 0x44800000#32

def val_main_v45 : A ⟨S4096, .f32⟩ F :=
  broadcastInDim S4096 ![] bcast_S_S4096 (val_main_cst_15 (F := F))

def val_main_v46 : A ⟨S4096, .f32⟩ F :=
  Host.divf (val_main_v44 (F := F)) (val_main_v45 (F := F))

def val_main_v47 : A ⟨S4096x1024, .f32⟩ F :=
  broadcastInDim S4096x1024 ![0] bcast_S4096_S4096x1024_0 (val_main_v46 (F := F))

def val_main_v48 : A ⟨S4096x1024, .f32⟩ F :=
  mulf (val_main_v47 (F := F)) (val_main_v37 (F := F) x0 x1 x2 x3 x4 x5)

def val_main_v49 : A ⟨S4096x1024, .f32⟩ F :=
  mulf (val_main_v31 (F := F) x0 x1 x2 x3) (val_main_v48 (F := F) x0 x1 x2 x3 x4 x5)

def val_main_cst_16 : A ⟨S_, .f32⟩ F :=
  constant S_ .f32 0x00000000#32

def val_main_v50 : A ⟨S1024, .f32⟩ F :=
  Host.reduceAdd (val_main_v49 (F := F) x0 x1 x2 x3 x4 x5) (val_main_cst_16 (F := F)) reducesTo_S4096x1024_S1024_d0 h_S_

def val_main_v51 : A ⟨S1x1024, .f32⟩ F :=
  shapeCast _ (val_main_v50 (F := F) x0 x1 x2 x3 x4 x5) shapeCasts_S1024_S1x1024

def val_main_v52 : A ⟨S4096x1024, .f32⟩ F :=
  broadcastInDim S4096x1024 ![0, 1] bcast_S1x1024_S4096x1024_0_1 (x4)

def val_main_v53 : A ⟨S4096x1024, .f32⟩ F :=
  mulf (val_main_v48 (F := F) x0 x1 x2 x3 x4 x5) (val_main_v52 (F := F) x4)

def val_main_v54 : A ⟨S4096x1024, .f32⟩ F :=
  mulf (val_main_v18 (F := F) x0 x1 x2 x3) (val_main_v53 (F := F) x0 x1 x2 x3 x4 x5)

def val_main_cst_17 : A ⟨S_, .f32⟩ F :=
  constant S_ .f32 0x00000000#32

def val_main_v55 : A ⟨S4096, .f32⟩ F :=
  Host.reduceAdd (val_main_v54 (F := F) x0 x1 x2 x3 x4 x5) (val_main_cst_17 (F := F)) reducesTo_S4096x1024_S4096_d1 h_S_

def val_main_v56 : A ⟨S4096x1, .f32⟩ F :=
  shapeCast _ (val_main_v55 (F := F) x0 x1 x2 x3 x4 x5) shapeCasts_S4096_S4096x1

def val_main_v57 : A ⟨S4096x1024, .f32⟩ F :=
  broadcastInDim S4096x1024 ![0, 1] bcast_S4096x1_S4096x1024_0_1 (val_main_v26 (F := F) x0 x1 x2 x3)

def val_main_v58 : A ⟨S4096x1024, .f32⟩ F :=
  mulf (val_main_v53 (F := F) x0 x1 x2 x3 x4 x5) (val_main_v57 (F := F) x0 x1 x2 x3)

def val_main_v59 : A ⟨S4096x1, .f32⟩ F :=
  mulf (val_main_v56 (F := F) x0 x1 x2 x3 x4 x5) (val_main_v29 (F := F) x0 x1 x2 x3)

def val_main_cst_18 : A ⟨S_, .f32⟩ F :=
  constant S_ .f32 0x44800000#32

def val_main_v60 : A ⟨S4096x1, .f32⟩ F :=
  broadcastInDim S4096x1 ![] bcast_S_S4096x1 (val_main_cst_18 (F := F))

def val_main_v61 : A ⟨S4096x1, .f32⟩ F :=
  Host.divf (val_main_v59 (F := F) x0 x1 x2 x3 x4 x5) (val_main_v60 (F := F))

def val_main_cst_19 : A ⟨S_, .f32⟩ F :=
  constant S_ .f32 0x00000000#32

def val_main_v62 : A ⟨S4096, .f32⟩ F :=
  Host.reduceAdd (val_main_v61 (F := F) x0 x1 x2 x3 x4 x5) (val_main_cst_19 (F := F)) reducesTo_S4096x1_S4096_d1 h_S_

def val_main_v63 : A ⟨S4096x1024, .f32⟩ F :=
  broadcastInDim S4096x1024 ![0] bcast_S4096_S4096x1024_0 (val_main_v62 (F := F) x0 x1 x2 x3 x4 x5)

def val_main_v64 : A ⟨S4096x1024, .f32⟩ F :=
  mulf (val_main_v18 (F := F) x0 x1 x2 x3) (val_main_v63 (F := F) x0 x1 x2 x3 x4 x5)

def val_main_v65 : A ⟨S4096x1024, .f32⟩ F :=
  addf (val_main_v58 (F := F) x0 x1 x2 x3 x4 x5) (val_main_v64 (F := F) x0 x1 x2 x3 x4 x5)

def val_main_v66 : A ⟨S4096x1024, .f32⟩ F :=
  mulf (val_main_v63 (F := F) x0 x1 x2 x3 x4 x5) (val_main_v18 (F := F) x0 x1 x2 x3)

def val_main_v67 : A ⟨S4096x1024, .f32⟩ F :=
  addf (val_main_v65 (F := F) x0 x1 x2 x3 x4 x5) (val_main_v66 (F := F) x0 x1 x2 x3 x4 x5)

def val_main_cst_20 : A ⟨S_, .f32⟩ F :=
  constant S_ .f32 0x3F000000#32

def val_main_v68 : A ⟨S4096x1024, .f32⟩ F :=
  broadcastInDim S4096x1024 ![] bcast_S_S4096x1024 (val_main_cst_20 (F := F))

def val_main_v69 : A ⟨S4096x1024, .f32⟩ F :=
  mulf (val_main_v68 (F := F)) (val_main_v67 (F := F) x0 x1 x2 x3 x4 x5)

def val_main_v70 : A ⟨S4096x1024, .f32⟩ F :=
  mulf (val_main_v13 (F := F) x0 x1) (val_main_v69 (F := F) x0 x1 x2 x3 x4 x5)

def val_main_cst_21 : A ⟨S_, .f32⟩ F :=
  constant S_ .f32 0x00000000#32

def val_main_v71 : A ⟨S1024, .f32⟩ F :=
  Host.reduceAdd (val_main_v70 (F := F) x0 x1 x2 x3 x4 x5) (val_main_cst_21 (F := F)) reducesTo_S4096x1024_S1024_d0 h_S_

def val_main_v72 : A ⟨S1x1024, .f32⟩ F :=
  shapeCast _ (val_main_v71 (F := F) x0 x1 x2 x3 x4 x5) shapeCasts_S1024_S1x1024

def val_main_v73 : A ⟨S4096x1024, .f32⟩ F :=
  broadcastInDim S4096x1024 ![0, 1] bcast_S1x1024_S4096x1024_0_1 (x3)

def val_main_v74 : A ⟨S4096x1024, .f32⟩ F :=
  mulf (val_main_v69 (F := F) x0 x1 x2 x3 x4 x5) (val_main_v73 (F := F) x3)

def val_main_v75 : A ⟨S4096x1024, .f32⟩ F :=
  mulf (val_main_v0 (F := F) x0 x1) (val_main_v74 (F := F) x0 x1 x2 x3 x4 x5)

def val_main_cst_22 : A ⟨S_, .f32⟩ F :=
  constant S_ .f32 0x00000000#32

def val_main_v76 : A ⟨S4096, .f32⟩ F :=
  Host.reduceAdd (val_main_v75 (F := F) x0 x1 x2 x3 x4 x5) (val_main_cst_22 (F := F)) reducesTo_S4096x1024_S4096_d1 h_S_

def val_main_v77 : A ⟨S4096x1, .f32⟩ F :=
  shapeCast _ (val_main_v76 (F := F) x0 x1 x2 x3 x4 x5) shapeCasts_S4096_S4096x1

def val_main_v78 : A ⟨S4096x1024, .f32⟩ F :=
  broadcastInDim S4096x1024 ![0, 1] bcast_S4096x1_S4096x1024_0_1 (val_main_v8 (F := F) x0 x1)

def val_main_v79 : A ⟨S4096x1024, .f32⟩ F :=
  mulf (val_main_v74 (F := F) x0 x1 x2 x3 x4 x5) (val_main_v78 (F := F) x0 x1)

def val_main_v80 : A ⟨S4096x1, .f32⟩ F :=
  mulf (val_main_v77 (F := F) x0 x1 x2 x3 x4 x5) (val_main_v11 (F := F) x0 x1)

def val_main_cst_23 : A ⟨S_, .f32⟩ F :=
  constant S_ .f32 0x44800000#32

def val_main_v81 : A ⟨S4096x1, .f32⟩ F :=
  broadcastInDim S4096x1 ![] bcast_S_S4096x1 (val_main_cst_23 (F := F))

def val_main_v82 : A ⟨S4096x1, .f32⟩ F :=
  Host.divf (val_main_v80 (F := F) x0 x1 x2 x3 x4 x5) (val_main_v81 (F := F))

def val_main_cst_24 : A ⟨S_, .f32⟩ F :=
  constant S_ .f32 0x00000000#32

def val_main_v83 : A ⟨S4096, .f32⟩ F :=
  Host.reduceAdd (val_main_v82 (F := F) x0 x1 x2 x3 x4 x5) (val_main_cst_24 (F := F)) reducesTo_S4096x1_S4096_d1 h_S_

def val_main_v84 : A ⟨S4096x1024, .f32⟩ F :=
  broadcastInDim S4096x1024 ![0] bcast_S4096_S4096x1024_0 (val_main_v83 (F := F) x0 x1 x2 x3 x4 x5)

def val_main_v85 : A ⟨S4096x1024, .f32⟩ F :=
  mulf (val_main_v0 (F := F) x0 x1) (val_main_v84 (F := F) x0 x1 x2 x3 x4 x5)

def val_main_v86 : A ⟨S4096x1024, .f32⟩ F :=
  addf (val_main_v79 (F := F) x0 x1 x2 x3 x4 x5) (val_main_v85 (F := F) x0 x1 x2 x3 x4 x5)

def val_main_v87 : A ⟨S4096x1024, .f32⟩ F :=
  mulf (val_main_v84 (F := F) x0 x1 x2 x3 x4 x5) (val_main_v0 (F := F) x0 x1)

def val_main_v88 : A ⟨S4096x1024, .f32⟩ F :=
  addf (val_main_v86 (F := F) x0 x1 x2 x3 x4 x5) (val_main_v87 (F := F) x0 x1 x2 x3 x4 x5)

def val_main_v89 : A ⟨S4096x1024, .bf16⟩ F :=
  truncf .bf16 (val_main_v88 (F := F) x0 x1 x2 x3 x4 x5) bitsLt_bf16_f32

def val_main_v90 : A ⟨S8x128, .f32⟩ F :=
  broadcastInDim S8x128 ![] bcast_S_S8x128 (val_main_v42 (F := F) x0 x1 x2 x3 x4 x5)

end stages

set_option maxRecDepth 8192 in
set_option maxHeartbeats 46800000 in
/-- The run: it ends, each result at its stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v90) = val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v89).trans (by after_results_simp <;> rfl),
      (h c main_v67).trans (by after_results_simp <;> rfl),
      (h c main_v72).trans (by after_results_simp <;> rfl),
      (h c main_v51).trans (by after_results_simp <;> rfl),
      (h c main_v90).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.OutLoss.Run
-- ==== Proof.OutLossReference.lean ====
/-
  The derivative of the loss, of the output's norm and of the last branch's, as the reference's program computes it, on finite
  arguments.
-/
module

public import Idealize.ShloMosaic.Lib.Pipeline.ValueKit
public import proofs.«01_k».proof.Proof.OutLossKernel
public import proofs.«01_k».proof.Proof.OutLossRun

@[expose] public section

set_option maxRecDepth 16384

noncomputable section

namespace Cert.OutLoss.Ref

open Idealize.ShloMosaic Idealize.ShloMosaic.TcCoe Idealize.SL.Sem
open Cert.Reference6Ideal Cert.Reference6Ideal.Gen Cert.OutLoss.Run
open Cert.NormGrad Cert.Reals Cert.Sigmoid
open Cert.OutLoss

theorem two_word : Ideal.ofBits .f32 0x40000000#32 = ((2 : ℝ) : EReal) := by
  simp [Ideal.ofBits, Ideal.ieee, -EReal.coe_mul]; norm_num

variable (x0 : (⟨S4096x2816, .f32⟩ : BufTy).Contents (Elt Ideal)) (U : Fin 4096 → Fin 2816 → ℝ) (hU : ∀ i k, x0 (ix2 i k) = (U i k : EReal))
variable (x1 : (⟨S2816x1024, .f32⟩ : BufTy).Contents (Elt Ideal)) (W : Fin 2816 → Fin 1024 → ℝ) (hW : ∀ i k, x1 (ix2 i k) = (W i k : EReal))
variable (x2 : (⟨S4096x1024, .f32⟩ : BufTy).Contents (Elt Ideal)) (X : Fin 4096 → Fin 1024 → ℝ) (hX : ∀ i k, x2 (ix2 i k) = (X i k : EReal))
variable (x3 : (⟨S1x1024, .f32⟩ : BufTy).Contents (Elt Ideal)) (GP : Fin 1024 → ℝ) (hGP : ∀ i k, x3 (ix2 i k) = (GP k : EReal))
variable (x4 : (⟨S1x1024, .f32⟩ : BufTy).Contents (Elt Ideal)) (GF : Fin 1024 → ℝ) (hGF : ∀ i k, x4 (ix2 i k) = (GF k : EReal))
variable (x5 : (⟨S4096x1024, .f32⟩ : BufTy).Contents (Elt Ideal)) (T : Fin 4096 → Fin 1024 → ℝ) (hT : ∀ i k, x5 (ix2 i k) = (T i k : EReal))
include hU hW hX hGP hGF hT

theorem s0 (i : Fin 4096) (k : Fin 1024) : val_main_v0 (F := Ideal) x0 x1 (ix2 i k) = ((lin U W i k : ℝ) : EReal) := by
  pointwise [val_main_v0]
  simp only [hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  rfl

theorem s7 (i : Fin 4096) (z : Fin 1) : val_main_v7 (F := Ideal) x0 x1 (ix2 i z) = ((msq ((lin U W) i) : ℝ) : EReal) := by
  pointwise [val_main_v7, val_main_v5, val_main_v6, val_main_v3, val_main_v4, val_main_cst_1, val_main_v2, val_main_cst_0, val_main_cst, val_main_v1]
  simp only [s0 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  exact (msq_eq _).symm

theorem s8 (i : Fin 4096) (z : Fin 1) : val_main_v8 (F := Ideal) x0 x1 (ix2 i z) = ((rinv ((lin U W) i) : ℝ) : EReal) := by
  pointwise [val_main_v8]
  simp only [s7 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  exact rsqrt_pos (msq_pos _)

theorem s13 (i : Fin 4096) (k : Fin 1024) : val_main_v13 (F := Ideal) x0 x1 (ix2 i k) = ((nrm ((lin U W) i) k : ℝ) : EReal) := by
  pointwise [val_main_v13, val_main_v12]
  simp only [s0 x0 U hU x1 W hW x2 X hX x3 GP hGP x4 GF hGF x5 T hT, s8 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  rfl

theorem s18 (i : Fin 4096) (k : Fin 1024) : val_main_v18 (F := Ideal) x0 x1 x2 x3 (ix2 i k) = ((preNorm U W X GP i k : ℝ) : EReal) := by
  pointwise [val_main_v18, val_main_v17, val_main_v15, val_main_v16, val_main_v14, val_main_cst_3]
  simp only [s13 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  rfl

theorem s25 (i : Fin 4096) (z : Fin 1) : val_main_v25 (F := Ideal) x0 x1 x2 x3 (ix2 i z) = ((msq ((preNorm U W X GP) i) : ℝ) : EReal) := by
  pointwise [val_main_v25, val_main_v23, val_main_v24, val_main_v21, val_main_v22, val_main_cst_6, val_main_v20, val_main_cst_5, val_main_cst_4, val_main_v19]
  simp only [s18 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  exact (msq_eq _).symm

theorem s26 (i : Fin 4096) (z : Fin 1) : val_main_v26 (F := Ideal) x0 x1 x2 x3 (ix2 i z) = ((rinv ((preNorm U W X GP) i) : ℝ) : EReal) := by
  pointwise [val_main_v26]
  simp only [s25 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  exact rsqrt_pos (msq_pos _)

theorem s31 (i : Fin 4096) (k : Fin 1024) : val_main_v31 (F := Ideal) x0 x1 x2 x3 (ix2 i k) = ((nrm ((preNorm U W X GP) i) k : ℝ) : EReal) := by
  pointwise [val_main_v31, val_main_v30]
  simp only [s18 x0 U hU x1 W hW x2 X hX x3 GP hGP x4 GF hGF x5 T hT, s26 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  rfl

theorem s34 (i : Fin 4096) (k : Fin 1024) : val_main_v34 (F := Ideal) x0 x1 x2 x3 x4 x5 (ix2 i k) = ((resid U W X GP GF T i k : ℝ) : EReal) := by
  pointwise [val_main_v34, val_main_v33, val_main_v32]
  simp only [s31 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  rfl

theorem s48 (i : Fin 4096) (k : Fin 1024) : val_main_v48 (F := Ideal) x0 x1 x2 x3 x4 x5 (ix2 i k) = ((dOut U W X GP GF T i k : ℝ) : EReal) := by
  pointwise [val_main_v48, val_main_v37, val_main_v47, val_main_v36, val_main_v46, val_main_cst_8, val_main_v44, val_main_v45, val_main_v43, val_main_cst_15, val_main_cst_13, val_main_cst_14]
  simp only [s34 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dOut]
  ring

theorem s51 (z : Fin 1) (k : Fin 1024) : val_main_v51 (F := Ideal) x0 x1 x2 x3 x4 x5 (ix2 z k) = ((dgAll (dOut U W X GP GF T) (preNorm U W X GP) k : ℝ) : EReal) := by
  pointwise [val_main_v51, val_main_v50, val_main_cst_16, val_main_v49]
  simp only [s31 x0 U hU x1 W hW x2 X hX x3 GP hGP x4 GF hGF x5 T hT, s48 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dgAll]
  exact Finset.sum_congr rfl fun r _ => mul_comm _ _

theorem s67 (i : Fin 4096) (k : Fin 1024) : val_main_v67 (F := Ideal) x0 x1 x2 x3 x4 x5 (ix2 i k) = ((dfAll (dOut U W X GP GF T) (preNorm U W X GP) GF i k : ℝ) : EReal) := by
  pointwise [val_main_v67, val_main_v65, val_main_v66, val_main_v58, val_main_v64, val_main_v63, val_main_v53, val_main_v57, val_main_v62, val_main_v52, val_main_cst_19, val_main_v61, val_main_v59, val_main_v60, val_main_v29, val_main_v56, val_main_cst_18, val_main_v27, val_main_v28, val_main_v55, val_main_cst_7, val_main_cst_17, val_main_v54]
  simp only [s18 x0 U hU x1 W hW x2 X hX x3 GP hGP x4 GF hGF x5 T hT, s48 x0 U hU x1 W hW x2 X hX x3 GP hGP x4 GF hGF x5 T hT, s26 x0 U hU x1 W hW x2 X hX x3 GP hGP x4 GF hGF x5 T hT, s25 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dfAll, dxr_eq]
  try ring

theorem s69 (i : Fin 4096) (k : Fin 1024) : val_main_v69 (F := Ideal) x0 x1 x2 x3 x4 x5 (ix2 i k) = ((dBranch U W X GP GF T i k : ℝ) : EReal) := by
  pointwise [val_main_v69, val_main_v68, val_main_cst_20]
  simp only [s67 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dBranch]
  ring

theorem s72 (z : Fin 1) (k : Fin 1024) : val_main_v72 (F := Ideal) x0 x1 x2 x3 x4 x5 (ix2 z k) = ((dgAll (dBranch U W X GP GF T) (lin U W) k : ℝ) : EReal) := by
  pointwise [val_main_v72, val_main_v71, val_main_cst_21, val_main_v70]
  simp only [s13 x0 U hU x1 W hW x2 X hX x3 GP hGP x4 GF hGF x5 T hT, s69 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dgAll]
  exact Finset.sum_congr rfl fun r _ => mul_comm _ _

theorem s89 (i : Fin 4096) (k : Fin 1024) : val_main_v89 (F := Ideal) x0 x1 x2 x3 x4 x5 (ix2 i k) = ((dfAll (dBranch U W X GP GF T) (lin U W) GP i k : ℝ) : EReal) := by
  pointwise [val_main_v89, val_main_v88, val_main_v86, val_main_v87, val_main_v79, val_main_v85, val_main_v84, val_main_v74, val_main_v78, val_main_v83, val_main_v73, val_main_cst_24, val_main_v82, val_main_v80, val_main_v81, val_main_v11, val_main_v77, val_main_cst_23, val_main_v10, val_main_v9, val_main_v76, val_main_cst_2, val_main_cst_22, val_main_v75]
  simp only [s0 x0 U hU x1 W hW x2 X hX x3 GP hGP x4 GF hGF x5 T hT, s69 x0 U hU x1 W hW x2 X hX x3 GP hGP x4 GF hGF x5 T hT, s8 x0 U hU x1 W hW x2 X hX x3 GP hGP x4 GF hGF x5 T hT, s7 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [dfAll, dxr_eq]
  try ring

theorem s90 (a : Fin 8) (b : Fin 128) : val_main_v90 (F := Ideal) x0 x1 x2 x3 x4 x5 (ix2 a b) = ((lossOf U W X GP GF T : ℝ) : EReal) := by
  pointwise [val_main_v90, val_main_v42, val_main_cst_12, val_main_v41, val_main_cst_11, val_main_v40, val_main_v38, val_main_v39, val_main_cst_9, val_main_v35, val_main_cst_10]
  simp only [s34 x0 U hU x1 W hW x2 X hX x3 GP hGP x4 GF hGF x5 T hT, hU, hW, hX, hGP, hGF, hT, ← EReal.coe_one, ← EReal.coe_mul, ← EReal.coe_sub, sum_coe, two_word, half_word, neg_half_word, k1024_word, eps_word, ← EReal.coe_add,
    div_1024, div_coe_coe (msq_pos _).ne', Fin.sum_univ_one, Finset.univ_unique, Finset.sum_singleton, Nat.cast_ofNat]
  refine congrArg (fun r : ℝ => (r : EReal)) ?_
  rw [lossOf, ← Finset.sum_div]
  ring

end Cert.OutLoss.Ref
-- ==== Proof.OutLoss.lean ====
/-
  The output's loss kernel computes the loss and its derivative: the equation of the two programs on finite arguments.
-/
module

public import proofs.«01_k».proof.Defs
public import proofs.«01_k».proof.Proof.OutLossArrays
public import proofs.«01_k».proof.Proof.OutLossReference
public import proofs.«01_k».proof.Proof.Gen.Kernel6Ideal.Value

@[expose] public section

set_option maxRecDepth 16384

noncomputable section

namespace Cert.OutLoss

open Idealize.ShloMosaic Idealize.ShloMosaic.TcCoe Idealize.SL.Sem
open Cert.Reals

/-- The side conditions of the precondition's own program. -/
instance preFacts : Cert.Pre_finite_outloss.Facts := ⟨by decide, by decide, by decide, by decide⟩

/-- Finite arguments are casts of real arrays. -/
theorem reals (m : (ℓ : Loc Cert.Kernel6Ideal.nD Cert.Kernel6Ideal.τ Cert.Kernel6Ideal.sig) → Buf (Elt Ideal) ℓ) (h : Cert.Pre_Kernel6Ideal_finite_outloss m) (c : Dev Cert.Kernel6Ideal.nD) :
    ∃ (U : Fin 4096 → Fin 2816 → ℝ) (W : Fin 2816 → Fin 1024 → ℝ) (X : Fin 4096 → Fin 1024 → ℝ) (GP : Fin 1024 → ℝ) (GF : Fin 1024 → ℝ) (T : Fin 4096 → Fin 1024 → ℝ),
      (∀ i k, m ((c : Thread Cert.Kernel6Ideal.nD Cert.Kernel6Ideal.τ).loc Cert.Kernel6Ideal.main_arg0) (ix2 i k) = (U i k : EReal))
      ∧ (∀ i k, m ((c : Thread Cert.Kernel6Ideal.nD Cert.Kernel6Ideal.τ).loc Cert.Kernel6Ideal.main_arg1) (ix2 i k) = (W i k : EReal))
      ∧ (∀ i k, m ((c : Thread Cert.Kernel6Ideal.nD Cert.Kernel6Ideal.τ).loc Cert.Kernel6Ideal.main_arg2) (ix2 i k) = (X i k : EReal))
      ∧ (∀ i k, m ((c : Thread Cert.Kernel6Ideal.nD Cert.Kernel6Ideal.τ).loc Cert.Kernel6Ideal.main_arg3) (ix2 i k) = (GP k : EReal))
      ∧ (∀ i k, m ((c : Thread Cert.Kernel6Ideal.nD Cert.Kernel6Ideal.τ).loc Cert.Kernel6Ideal.main_arg4) (ix2 i k) = (GF k : EReal))
      ∧ (∀ i k, m ((c : Thread Cert.Kernel6Ideal.nD Cert.Kernel6Ideal.τ).loc Cert.Kernel6Ideal.main_arg5) (ix2 i k) = (T i k : EReal)) := by
  obtain ⟨h0, h1, h2, h3, h4, h5⟩ := h c
  refine ⟨fun i k => (m ((c : Thread Cert.Kernel6Ideal.nD Cert.Kernel6Ideal.τ).loc Cert.Kernel6Ideal.main_arg0) (ix2 i k)).toReal, fun i k => (m ((c : Thread Cert.Kernel6Ideal.nD Cert.Kernel6Ideal.τ).loc Cert.Kernel6Ideal.main_arg1) (ix2 i k)).toReal, fun i k => (m ((c : Thread Cert.Kernel6Ideal.nD Cert.Kernel6Ideal.τ).loc Cert.Kernel6Ideal.main_arg2) (ix2 i k)).toReal, fun k => (m ((c : Thread Cert.Kernel6Ideal.nD Cert.Kernel6Ideal.τ).loc Cert.Kernel6Ideal.main_arg3) (ix2 0 k)).toReal, fun k => (m ((c : Thread Cert.Kernel6Ideal.nD Cert.Kernel6Ideal.τ).loc Cert.Kernel6Ideal.main_arg4) (ix2 0 k)).toReal, fun i k => (m ((c : Thread Cert.Kernel6Ideal.nD Cert.Kernel6Ideal.τ).loc Cert.Kernel6Ideal.main_arg5) (ix2 i k)).toReal,
    fun i k => (real_of_lt (congrFun h0 (ix2 i k))).symm, fun i k => (real_of_lt (congrFun h1 (ix2 i k))).symm, fun i k => (real_of_lt (congrFun h2 (ix2 i k))).symm, fun i k => ?_, fun i k => ?_, fun i k => (real_of_lt (congrFun h5 (ix2 i k))).symm⟩
  · obtain rfl : i = 0 := Subsingleton.elim _ _
    exact (real_of_lt (congrFun h3 (ix2 0 k))).symm
  · obtain rfl : i = 0 := Subsingleton.elim _ _
    exact (real_of_lt (congrFun h4 (ix2 0 k))).symm

set_option maxHeartbeats 4000000 in
theorem algebraic : Cert.algebraic_Kernel6Ideal_Reference6Ideal_pre_finite_outloss := by
  intro m ρ m' ρ' hp heq
  refine ⟨fun c => (Cert.Kernel6Ideal.Gen.dats m 0 c).arrAt 6 Cert.Kernel6Ideal.cfg0.N, fun c => (Cert.Kernel6Ideal.Gen.dats m 0 c).arrAt 7 Cert.Kernel6Ideal.cfg0.N, fun c => (Cert.Kernel6Ideal.Gen.dats m 0 c).arrAt 8 Cert.Kernel6Ideal.cfg0.N, fun c => (Cert.Kernel6Ideal.Gen.dats m 0 c).arrAt 9 Cert.Kernel6Ideal.cfg0.N, fun c => (Cert.Kernel6Ideal.Gen.dats m 0 c).arrAt 10 Cert.Kernel6Ideal.cfg0.N, Cert.Kernel6Ideal.Value.run_blocks m ρ, ?_⟩
  refine (θ_run Cert.Reference6Ideal.defs _ _).mono (fun r h c => ?_) (Run.run m' ρ')
  obtain ⟨h89, h67, h72, h51, h90, ha0, ha1, ha2, ha3, ha4, ha5⟩ := h c
  obtain ⟨e0, e1, e2, e3, e4, e5⟩ := heq c
  obtain ⟨U, W, X, GP, GF, T, hU, hW, hX, hGP, hGF, hT⟩ := reals m hp c
  refine ⟨h89.trans (Eq.trans ?_ (final6 m U W X GP GF T c hU hW hX hGP hGF hT).symm),
    h67.trans (Eq.trans ?_ (final7 m U W X GP GF T c hU hW hX hGP hGF hT).symm),
    h72.trans (Eq.trans ?_ (final8 m U W X GP GF T c hU hW hX hGP hGF hT).symm),
    h51.trans (Eq.trans ?_ (final9 m U W X GP GF T c hU hW hX hGP hGF hT).symm),
    h90.trans (Eq.trans ?_ (final10 m U W X GP GF T c hU hW hX hGP hGF hT).symm), ha0, ha1, ha2, ha3, ha4, ha5⟩
  · rw [e0, e1, e2, e3, e4, e5]
    funext j
    idx_vars j
    exact Ref.s89 _ U hU _ W hW _ X hX _ GP hGP _ GF hGF _ T hT j0 j1
  · rw [e0, e1, e2, e3, e4, e5]
    funext j
    idx_vars j
    exact Ref.s67 _ U hU _ W hW _ X hX _ GP hGP _ GF hGF _ T hT j0 j1
  · rw [e0, e1, e2, e3, e4, e5]
    funext j
    idx_vars j
    exact Ref.s72 _ U hU _ W hW _ X hX _ GP hGP _ GF hGF _ T hT j0 j1
  · rw [e0, e1, e2, e3, e4, e5]
    funext j
    idx_vars j
    exact Ref.s51 _ U hU _ W hW _ X hX _ GP hGP _ GF hGF _ T hT j0 j1
  · rw [e0, e1, e2, e3, e4, e5]
    funext j
    idx_vars j
    exact Ref.s90 _ U hU _ W hW _ X hX _ GP hGP _ GF hGF _ T hT j0 j1

end Cert.OutLoss
-- ==== Proof.XattnFwdReals.lean ====
/-
  The cross attention itself: the softmax of a query's scores, against the values.
-/
module

public import Idealize.ShloMosaic.Lib.Pipeline.ValueKit
public import proofs.«01_k».proof.Proof.CrossAttentionReals

@[expose] public section

set_option maxRecDepth 16384

noncomputable section

namespace Cert.CrossAttention

open Idealize.ShloMosaic Idealize.ShloMosaic.TcCoe Idealize.SL.Sem
open Cert.Reals

/-- One query's result in one head. -/
def att (q : Fin 128 → ℝ) (k v : Fin 256 → Fin 128 → ℝ) (d : Fin 128) : ℝ := ∑ j, soft (score q k) j * v j d

/-- A query's result over the four heads. -/
def attn (q : Fin 512 → ℝ) (kv : Fin 256 → Fin 1024 → ℝ) (c : Fin 512) : ℝ :=
  att (lanes q ⟨c.val / 128, by omega⟩) (keys kv ⟨c.val / 128, by omega⟩) (vals kv ⟨c.val / 128, by omega⟩) ⟨c.val % 128, by omega⟩

theorem attn_head (q : Fin 512 → ℝ) (kv : Fin 256 → Fin 1024 → ℝ) (h : Fin 4) (d : Fin 128) (c : Fin 512) (hc : c.val = 128 * h.val + d.val) :
    attn q kv c = att (lanes q h) (keys kv h) (vals kv h) d := by
  have e : (⟨c.val / 128, by omega⟩ : Fin 4) = h := Fin.ext (by dsimp only; omega)
  have e' : (⟨c.val % 128, by omega⟩ : Fin 128) = d := Fin.ext (by dsimp only; omega)
  rw [attn, e, e']

end Cert.CrossAttention
-- ==== Proof.XattnFwdArrays.lean ====
/-
  What the cross attention's forward kernel leaves in its result.
-/
module

public import Idealize.ShloMosaic.Lib.Pipeline.ValueKit
public import proofs.«01_k».proof.Proof.XattnFwdReals
public import proofs.«01_k».proof.Proof.Gen.Kernel14Ideal.Value

@[expose] public section

set_option maxRecDepth 16384

noncomputable section

namespace Cert.XattnFwd

open Idealize.ShloMosaic Idealize.ShloMosaic.TcCoe Idealize.SL.Sem
open Cert.Kernel14Ideal Cert.Kernel14Ideal.Gen
open Idealize.ShloMosaic.Pipeline (Dat)
open Cert.Reals Cert.CrossAttention

section head

variable (q : Vec Ideal S512x128 .bf16) (k v : Vec Ideal S256x128 .bf16) (Q : Fin 512 → Fin 128 → ℝ) (K V : Fin 256 → Fin 128 → ℝ)
  (hq : ∀ i d, q (ix2 i d) = (Q i d : EReal)) (hk : ∀ j d, k (ix2 j d) = (K j d : EReal)) (hv : ∀ j d, v (ix2 j d) = (V j d : EReal))

include hq hk hv

theorem head0 (i : Fin 512) (d : Fin 128) : k0_pay2 (F := Ideal) k v q (ix2 i d) = (att (Q i) K V d : EReal) := by
  have s := soft_coe (score (Q i) K)
  unfold score at s
  pointwise [k0_pay2]
  simp only [hq, hk, hv, ← EReal.coe_mul, sum_coe, scale_word, neg_inf_word]
  simp only [s, ← EReal.coe_mul, sum_coe]
  rfl

theorem head1 (i : Fin 512) (d : Fin 128) : k0_pay6 (F := Ideal) (k0_pay3 v) (k0_pay4 k q) (k0_pay5 k q) (ix2 i d) = (att (Q i) K V d : EReal) := by
  have s := soft_coe (score (Q i) K)
  unfold score at s
  pointwise [k0_pay6, k0_pay3, k0_pay4, k0_pay5]
  simp only [hq, hk, hv, ← EReal.coe_mul, sum_coe, scale_word, neg_inf_word]
  simp only [s, ← EReal.coe_mul, sum_coe]
  rfl

theorem head2 (i : Fin 512) (d : Fin 128) : k0_pay7 (F := Ideal) k v q (ix2 i d) = (att (Q i) K V d : EReal) := by
  have s := soft_coe (score (Q i) K)
  unfold score at s
  pointwise [k0_pay7]
  simp only [hq, hk, hv, ← EReal.coe_mul, sum_coe, scale_word, neg_inf_word]
  simp only [s, ← EReal.coe_mul, sum_coe]
  rfl

theorem head3 (i : Fin 512) (d : Fin 128) : k0_pay1 (F := Ideal) k v q (ix2 i d) = (att (Q i) K V d : EReal) := by
  have s := soft_coe (score (Q i) K)
  unfold score at s
  pointwise [k0_pay1]
  simp only [hq, hk, hv, ← EReal.coe_mul, sum_coe, scale_word, neg_inf_word]
  simp only [s, ← EReal.coe_mul, sum_coe]
  rfl

end head

section tile

theorem ld_lanes {x : Vec Ideal S512x512 .bf16} {X : Fin 512 → Fin 512 → ℝ} (hx : ∀ i d, x (ix2 i d) = (X i d : EReal)) (h : Fin 4) {o : ℕ} (ho : o = 128 * h.val)
    (inb) (i : Fin 512) (d : Fin 128) : View.ld x (Rect.unit (s := S512x512) ![0, o] ![512, 128] inb) (ix2 i d) = (lanes (X i) h d : EReal) := by
  subst ho
  exact (View.ld_unit_apply_of x _ _ _ _ (ix2 i ⟨128 * h.val + d.val, by omega⟩) (by intro a; fin_cases a <;> simp)).trans (hx _ _)

theorem ld_keys {x : Vec Ideal S256x1024 .bf16} {X : Fin 256 → Fin 1024 → ℝ} (hx : ∀ i d, x (ix2 i d) = (X i d : EReal)) (h : Fin 4) {o : ℕ} (ho : o = 128 * h.val)
    (inb) (i : Fin 256) (d : Fin 128) : View.ld x (Rect.unit (s := S256x1024) ![0, o] ![256, 128] inb) (ix2 i d) = (keys X h i d : EReal) := by
  subst ho
  exact (View.ld_unit_apply_of x _ _ _ _ (ix2 i ⟨128 * h.val + d.val, by omega⟩) (by intro a; fin_cases a <;> simp)).trans (hx _ _)

theorem ld_vals {x : Vec Ideal S256x1024 .bf16} {X : Fin 256 → Fin 1024 → ℝ} (hx : ∀ i d, x (ix2 i d) = (X i d : EReal)) (h : Fin 4) {o : ℕ} (ho : o = 512 + 128 * h.val)
    (inb) (i : Fin 256) (d : Fin 128) : View.ld x (Rect.unit (s := S256x1024) ![0, o] ![256, 128] inb) (ix2 i d) = (vals X h i d : EReal) := by
  subst ho
  exact (View.ld_unit_apply_of x _ _ _ _ (ix2 i ⟨512 + 128 * h.val + d.val, by omega⟩) (by intro a; fin_cases a <;> simp)).trans (hx _ _)

variable {x0 : Vec Ideal S512x512 .bf16} {x1 : Vec Ideal S256x1024 .bf16} {Q : Fin 512 → Fin 512 → ℝ} {KV : Fin 256 → Fin 1024 → ℝ}
  (hq : ∀ i d, x0 (ix2 i d) = (Q i d : EReal)) (hkv : ∀ i d, x1 (ix2 i d) = (KV i d : EReal))

include hq hkv

theorem out2 (y : S512x512.Idx) : out0_2 x0 x1 y = (attn (Q (y 0)) KV (y 1) : EReal) := by
  frame_out
  canon_tiles x h
  · obtain ⟨i, d, rfl⟩ : ∃ (i : Fin 512) (d : Fin 128), x = ix2 i d := ⟨x 0, x 1, (by funext a; fin_cases a <;> rfl)⟩
    have e0 : y 0 = i := Fin.ext h0
    rw [e0]
    refine (head3 _ _ _ (fun i => lanes (Q i) 3) (keys KV 3) (vals KV 3) (ld_lanes hq 3 (o := 384) rfl _) (ld_keys hkv 3 (o := 384) rfl _) (ld_vals hkv 3 (o := 896) rfl _) i d).trans ?_
    exact congrArg (fun r : ℝ => (r : EReal)) (attn_head _ _ 3 d _ (by
      have g : (ix2 i d 1).val = d.val := rfl
      simp only [Fin.isValue, Fin.val_zero, Fin.val_one] at *
      omega)).symm
  · obtain ⟨i, d, rfl⟩ : ∃ (i : Fin 512) (d : Fin 128), x = ix2 i d := ⟨x 0, x 1, (by funext a; fin_cases a <;> rfl)⟩
    have e0 : y 0 = i := Fin.ext h0
    rw [e0]
    refine (head2 _ _ _ (fun i => lanes (Q i) 2) (keys KV 2) (vals KV 2) (ld_lanes hq 2 (o := 256) rfl _) (ld_keys hkv 2 (o := 256) rfl _) (ld_vals hkv 2 (o := 768) rfl _) i d).trans ?_
    exact congrArg (fun r : ℝ => (r : EReal)) (attn_head _ _ 2 d _ (by
      have g : (ix2 i d 1).val = d.val := rfl
      simp only [Fin.isValue, Fin.val_zero, Fin.val_one] at *
      omega)).symm
  · obtain ⟨i, d, rfl⟩ : ∃ (i : Fin 512) (d : Fin 128), x = ix2 i d := ⟨x 0, x 1, (by funext a; fin_cases a <;> rfl)⟩
    have e0 : y 0 = i := Fin.ext h0
    rw [e0]
    refine (head1 _ _ _ (fun i => lanes (Q i) 1) (keys KV 1) (vals KV 1) (ld_lanes hq 1 (o := 128) rfl _) (ld_keys hkv 1 (o := 128) rfl _) (ld_vals hkv 1 (o := 640) rfl _) i d).trans ?_
    exact congrArg (fun r : ℝ => (r : EReal)) (attn_head _ _ 1 d _ (by
      have g : (ix2 i d 1).val = d.val := rfl
      simp only [Fin.isValue, Fin.val_zero, Fin.val_one] at *
      omega)).symm
  · obtain ⟨i, d, rfl⟩ : ∃ (i : Fin 512) (d : Fin 128), x = ix2 i d := ⟨x 0, x 1, (by funext a; fin_cases a <;> rfl)⟩
    have e0 : y 0 = i := Fin.ext h0
    rw [e0]
    refine (head0 _ _ _ (fun i => lanes (Q i) 0) (keys KV 0) (vals KV 0) (ld_lanes hq 0 (o := 0) rfl _) (ld_keys hkv 0 (o := 0) rfl _) (ld_vals hkv 0 (o := 512) rfl _) i d).trans ?_
    exact congrArg (fun r : ℝ => (r : EReal)) (attn_head _ _ 0 d _ (by
      have g : (ix2 i d 1).val = d.val := rfl
      simp only [Fin.isValue, Fin.val_zero, Fin.val_one] at *
      omega)).symm

end tile

section arrays

variable (m : (ℓ : Loc nD τ sig) → Buf (Elt Ideal) ℓ)

theorem idx : ∀ t : Fin cfg0.N, win0_0.index t = ![t.val, 1] ∧ win0_1.index t = ![0, 0] ∧ win0_2.index t = ![t.val, 0] :=
  (by decide +kernel : ∀ t : Fin grid0.N, _)

theorem lt8 (t : Fin cfg0.N) : t.val < 8 := lt_of_lt_of_eq t.isLt N_0

variable (PX : Fin 4096 → Fin 1024 → ℝ) (KV : Fin 256 → Fin 1024 → ℝ) (c : Dev nD)
  (hx : ∀ i k, m ((c : Thread nD τ).loc main_arg0) (ix2 i k) = (PX i k : EReal)) (hkv : ∀ i k, m ((c : Thread nD τ).loc main_arg1) (ix2 i k) = (KV i k : EReal))

/-- The queries: the second half of the projection's columns. -/
def queries (PX : Fin 4096 → Fin 1024 → ℝ) (i : Fin 4096) (k : Fin 512) : ℝ := PX i ⟨512 + k.val, by omega⟩

/-- Row tile `t` of an array. -/
def rows (X : Fin 4096 → Fin 512 → ℝ) (t : Fin cfg0.N) (i : Fin 512) : Fin 512 → ℝ := X ⟨512 * t.val + i.val, by have := lt8 t; omega⟩

include hx in
theorem blk0 (t : Fin cfg0.N) (i k : Fin 512) : iblk m c 0 t (ix2 i k) = (rows (queries PX) t i k : EReal) := by
  have h := idx t
  have e : (win0_0.blk t).view.emb (ix2 i k) = ix2 (⟨512 * t.val + i.val, by have := lt8 t; omega⟩ : Fin 4096) (⟨512 + k.val, by omega⟩ : Fin 1024) := by
    funext a
    fin_cases a
    · apply Fin.ext
      blk_simp [h]
      show t.val * 512 + i.val = 512 * t.val + i.val
      omega
    · apply Fin.ext
      blk_simp [h]
      rfl
  rw [iblk]
  entry_read
  blk_simp [h]
  rw [e]
  pointwise []
  exact hx _ _

include hkv in
theorem blk1 (t : Fin cfg0.N) (i : Fin 256) (k : Fin 1024) : iblk m c 1 t (ix2 i k) = (KV i k : EReal) := by
  have h := idx t
  have e : (win0_1.blk t).view.emb (ix2 i k) = ix2 i k := by
    funext a
    fin_cases a <;> (apply Fin.ext; blk_simp [h])
  rw [iblk]
  entry_read
  blk_simp [h]
  rw [e]
  pointwise []
  exact hkv _ _

include hx hkv

theorem final2 : (dats m 0 c).arrAt 2 cfg0.N = fun j => (attn (queries PX (j 0)) KV (j 1) : EReal) := by
  refine (dats m 0 c).arrAt_eq_of_covers 2 _ (by decide +kernel) fun t hf y => ?_
  have h := idx t
  blk_simp
  rw [after0_2, out2 (Q := rows (queries PX) t) (KV := KV) (blk0 m PX c hx t) (blk1 m KV c hkv t) y]
  idx_vars y
  unfold rows
  congr 2 <;> (try congr 1) <;> (apply Fin.ext; blk_simp [h] <;> try (dsimp only; omega))

end arrays

end Cert.XattnFwd
-- ==== Proof.XattnFwdReference.lean ====
/-
  The cross attention, as the reference's program computes it, on finite arguments.
-/
module

public import Idealize.ShloMosaic.Lib.Pipeline.ValueKit
public import proofs.«01_k».proof.Proof.XattnFwdReals
public import proofs.«01_k».proof.Proof.Gen.Reference14Ideal.Run
public import proofs.«01_k».proof.Proof.Gen.Reference14Ideal.Read

@[expose] public section

set_option maxRecDepth 16384

noncomputable section

namespace Cert.XattnFwd.Ref

open Idealize.ShloMosaic Idealize.ShloMosaic.TcCoe Idealize.SL.Sem
open Cert.Reference14Ideal Cert.Reference14Ideal.Gen Cert.Reference14Ideal.Read
open Cert.Reals Cert.CrossAttention

variable (x : (⟨S4096x1024, .f32⟩ : BufTy).Contents (Elt Ideal)) (kv : (⟨S256x1024, .f32⟩ : BufTy).Contents (Elt Ideal))
variable (Q : Fin 4096 → Fin 512 → ℝ) (KV : Fin 256 → Fin 1024 → ℝ)
variable (hq : ∀ (i : Fin 4096) (k : Fin 512), x (ix2 i (⟨512 + k.val, Nat.add_lt_add_left k.isLt 512⟩ : Fin 1024)) = (Q i k : EReal))
  (hkv : ∀ i k, kv (ix2 i k) = (KV i k : EReal))

include hq in
theorem r2 (i : Fin 4096) (h : Fin 4) (d : Fin 128) : val_main_v2 (F := Ideal) x (ix3 i h d) = (lanes (Q i) h d : EReal) := by
  rw [lanes, ← hq]
  pointwise [val_main_v2, val_main_v1]
  blk_point []

include hkv in
theorem r5 (j : Fin 256) (h : Fin 4) (d : Fin 128) : val_main_v5 (F := Ideal) kv (ix3 j h d) = (keys KV h j d : EReal) := by
  rw [keys, ← hkv]
  pointwise [val_main_v5, val_main_v3]
  blk_point []

include hkv in
theorem r6 (j : Fin 256) (h : Fin 4) (d : Fin 128) : val_main_v6 (F := Ideal) kv (ix3 j h d) = (vals KV h j d : EReal) := by
  rw [vals, ← hkv]
  pointwise [val_main_v6, val_main_v4]
  blk_point []

include hq hkv in
theorem r9 (h : Fin 4) (i : Fin 4096) (j : Fin 256) : val_main_v9 (F := Ideal) x kv (ix3 h i j) = (score (lanes (Q i) h) (keys KV h) j : EReal) := by
  pointwise [val_main_v9, val_main_v8, val_main_v7, val_main_cst]
  simp only [r2 x Q hq, r5 kv KV hkv, ← EReal.coe_mul, sum_coe, scale_word]
  rfl

theorem r10 (h : Fin 4) (i : Fin 4096) :
    val_main_v10 (F := Ideal) x kv (ix2 h i) = Finset.univ.fold max (⊥ : EReal) fun j => val_main_v9 (F := Ideal) x kv (ix3 h i j) := by
  unfold val_main_v10
  generalize val_main_v9 (F := Ideal) x kv = s
  pointwise [val_main_cst_0]
  rw [neg_inf_word]

theorem r12 (h : Fin 4) (i : Fin 4096) : val_main_v12 (F := Ideal) x kv (ix2 h i) = val_main_v10 (F := Ideal) x kv (ix2 h i) := by
  rw [val_main_v12_apply, val_main_v11_apply, val_main_cst_1_apply]
  generalize val_main_v10 (F := Ideal) x kv (ix2 h i) = b
  change max (Ideal.ofBits .f32 0xFF800000#32) b = b
  rw [neg_inf_word]
  exact max_eq_right bot_le

include hq hkv in
theorem r14 (h : Fin 4) (i : Fin 4096) : ∃ M : ℝ, ∀ j : Fin 256, val_main_v14 (F := Ideal) x kv (ix3 h i j) = (M : EReal) := by
  obtain ⟨M, hM⟩ := fold_max_coe (score (lanes (Q i) h) (keys KV h))
  refine ⟨M, fun j => ?_⟩
  pointwise [val_main_v14, val_main_v13]
  rw [r12, r10]
  simp only [r9 x kv Q KV hq hkv]
  exact hM

/-- The row's greatest score. -/
def top (h : Fin 4) (i : Fin 4096) : ℝ := (r14 x kv Q KV hq hkv h i).choose

theorem r16 (h : Fin 4) (i : Fin 4096) (j : Fin 256) :
    val_main_v16 (F := Ideal) x kv (ix3 h i j) = (Real.exp (score (lanes (Q i) h) (keys KV h) j - top x kv Q KV hq hkv h i) : EReal) := by
  pointwise [val_main_v16, val_main_v15]
  rw [r9 x kv Q KV hq hkv, (r14 x kv Q KV hq hkv h i).choose_spec j, ← EReal.coe_sub, Ideal.exp_coe]
  rfl

theorem r17 (h : Fin 4) (i : Fin 4096) :
    val_main_v17 (F := Ideal) x kv (ix2 h i) = ((∑ j, Real.exp (score (lanes (Q i) h) (keys KV h) j - top x kv Q KV hq hkv h i) : ℝ) : EReal) := by
  pointwise [val_main_v17, val_main_cst_2]
  simp only [r16 x kv Q KV hq hkv, sum_coe]

theorem r17_ne (h : Fin 4) (i : Fin 4096) : ∑ j, Real.exp (score (lanes (Q i) h) (keys KV h) j - top x kv Q KV hq hkv h i) ≠ 0 :=
  (sum_exp_pos fun j => score (lanes (Q i) h) (keys KV h) j - top x kv Q KV hq hkv h i).ne'

include hq hkv in
theorem r20 (h : Fin 4) (i : Fin 4096) (j : Fin 256) : val_main_v20 (F := Ideal) x kv (ix3 h i j) = (soft (score (lanes (Q i) h) (keys KV h)) j : EReal) := by
  pointwise [val_main_v20, val_main_v19, val_main_v18]
  rw [r16 x kv Q KV hq hkv, r17 x kv Q KV hq hkv, div_coe_coe (r17_ne x kv Q KV hq hkv h i), soft_shift]

include hq hkv in
/-- The attention's result. -/
theorem r24 (i : Fin 4096) (k : Fin 512) : val_main_v24 (F := Ideal) x kv (ix2 i k) = (attn (Q i) KV k : EReal) := by
  pointwise [val_main_v24, val_main_v23, val_main_v22, val_main_v21]
  simp only [r20 x kv Q KV hq hkv, r6 kv KV hkv, ← EReal.coe_mul, sum_coe]
  rw [attn, att]
  refine congrArg (fun r : ℝ => (r : EReal)) (Finset.sum_congr rfl fun j _ => ?_)
  first
    | rfl
    | exact mul_comm _ _

end Cert.XattnFwd.Ref
-- ==== Proof.XattnFwd.lean ====
/-
  The forward kernel of the cross attention computes softmax attention over the memory's keys and values.
-/
module

public import proofs.«01_k».proof.Defs
public import proofs.«01_k».proof.Proof.XattnFwdArrays
public import proofs.«01_k».proof.Proof.XattnFwdReference

@[expose] public section

set_option maxRecDepth 16384

noncomputable section

namespace Cert.XattnFwd

open Idealize.ShloMosaic Idealize.ShloMosaic.TcCoe Idealize.SL.Sem
open Cert.Reals Cert.CrossAttention

/-- The side conditions of the precondition's own program. -/
instance preFacts : Cert.Pre_finite_xattnfwd.Facts := ⟨by decide, by decide⟩

/-- Finite arguments are casts of real arrays. -/
theorem reals (m : (ℓ : Loc Cert.Kernel14Ideal.nD Cert.Kernel14Ideal.τ Cert.Kernel14Ideal.sig) → Buf (Elt Ideal) ℓ) (h : Cert.Pre_Kernel14Ideal_finite_xattnfwd m) (c : Dev Cert.Kernel14Ideal.nD) :
    ∃ (PX : Fin 4096 → Fin 1024 → ℝ) (KV : Fin 256 → Fin 1024 → ℝ),
      (∀ i k, m ((c : Thread Cert.Kernel14Ideal.nD Cert.Kernel14Ideal.τ).loc Cert.Kernel14Ideal.main_arg0) (ix2 i k) = (PX i k : EReal)) ∧ (∀ i k, m ((c : Thread Cert.Kernel14Ideal.nD Cert.Kernel14Ideal.τ).loc Cert.Kernel14Ideal.main_arg1) (ix2 i k) = (KV i k : EReal)) := by
  obtain ⟨h0, h1⟩ := h c
  exact ⟨_, _, fun i k => (real_of_lt (congrFun h0 (ix2 i k))).symm, fun i k => (real_of_lt (congrFun h1 (ix2 i k))).symm⟩

set_option maxHeartbeats 4000000 in
theorem algebraic : Cert.algebraic_Kernel14Ideal_Reference14Ideal_pre_finite_xattnfwd := by
  intro m ρ m' ρ' hp heq
  refine ⟨fun c => (Cert.Kernel14Ideal.Gen.dats m 0 c).arrAt 2 Cert.Kernel14Ideal.cfg0.N, Cert.Kernel14Ideal.Value.run_blocks m ρ, ?_⟩
  refine (θ_run Cert.Reference14Ideal.defs _ _).mono (fun r h c => ?_) (Cert.Reference14Ideal.Value.run m' ρ')
  obtain ⟨h24, ha0, ha1⟩ := h c
  obtain ⟨e0, e1⟩ := heq c
  obtain ⟨PX, KV, hx, hkv⟩ := reals m hp c
  refine ⟨(h24.trans (Cert.Reference14Ideal.Read.val_main_v24_eq _ _)).trans (Eq.trans ?_ (final2 m PX KV c hx hkv).symm), ha0, ha1⟩
  · rw [e0, e1]
    funext j
    idx_vars j
    exact Ref.r24 _ _ (queries PX) KV (fun i k => hx i ⟨512 + k.val, by omega⟩) hkv j0 j1

end Cert.XattnFwd
-- ==== Proof.Rows.lean ====
/-
  The forward norms, products and gates, row by row, over the extended reals: nothing here asks for finiteness.
-/
module

public import Idealize.ShloMosaic.Lib.Pipeline.ValueKit
public import proofs.«01_k».proof.Proof.Sigmoid

@[expose] public section

set_option maxRecDepth 16384

noncomputable section

namespace Cert.Rows

open Idealize.ShloMosaic Idealize.ShloMosaic.TcCoe Idealize.SL.Sem
open Cert.Sigmoid

/-- A product of two matrices. -/
def mm {n p q : ℕ} (A : Fin n → Fin p → EReal) (B : Fin p → Fin q → EReal) (i : Fin n) (k : Fin q) : EReal := ∑ l, A i l * B l k

/-- The root-mean-square norm of a matrix's rows, with its gain. -/
def norm {n : ℕ} (X : Fin n → Fin 1024 → EReal) (g : Fin 1024 → EReal) (i : Fin n) (k : Fin 1024) : EReal :=
  X i k * Ideal.rsqrt (Ideal.div (∑ l, X i l * X i l) (Ideal.ofBits .f32 0x44800000#32) + Ideal.ofBits .f32 0x358637BD#32) * g k

/-- A residual with half of the normed branch. -/
def halfResid {n : ℕ} (X F : Fin n → Fin 1024 → EReal) (g : Fin 1024 → EReal) (i : Fin n) (k : Fin 1024) : EReal :=
  X i k + Ideal.ofBits .f32 0x3F000000#32 * norm F g i k

/-- A residual with the normed branch. -/
def resid {n : ℕ} (X F : Fin n → Fin 1024 → EReal) (g : Fin 1024 → EReal) (i : Fin n) (k : Fin 1024) : EReal := X i k + norm F g i k

/-- Three branches, each under the sigmoid of its gate, summed. -/
def merge {n : ℕ} (Ga Gb Gc A B C : Fin n → Fin 1024 → EReal) (i : Fin n) (k : Fin 1024) : EReal :=
  sg (Ga i k) * A i k + sg (Gb i k) * B i k + sg (Gc i k) * C i k

/-- The first of three gates side by side. -/
def gate0 {n : ℕ} (G : Fin n → Fin 3072 → EReal) (i : Fin n) (k : Fin 1024) : EReal := G i ⟨k.val, by omega⟩

/-- The second gate. -/
def gate1 {n : ℕ} (G : Fin n → Fin 3072 → EReal) (i : Fin n) (k : Fin 1024) : EReal := G i ⟨1024 + k.val, by omega⟩

/-- The third gate. -/
def gate2 {n : ℕ} (G : Fin n → Fin 3072 → EReal) (i : Fin n) (k : Fin 1024) : EReal := G i ⟨2048 + k.val, by omega⟩

/-- `a · σ(a) · b`. -/
def swi {n q : ℕ} (A B : Fin n → Fin q → EReal) (i : Fin n) (k : Fin q) : EReal := A i k * sg (A i k) * B i k

end Cert.Rows
-- ==== Proof.NormFwdArrays.lean ====
/-
  What the forward kernel of a norm leaves in its results.
-/
module

public import Idealize.ShloMosaic.Lib.Pipeline.ValueKit
public import proofs.«01_k».proof.Proof.Rows
public import proofs.«01_k».proof.Proof.Gen.Kernel15Ideal.Value

@[expose] public section

set_option maxRecDepth 16384

noncomputable section

namespace Cert.NormFwd

open Idealize.ShloMosaic Idealize.ShloMosaic.TcCoe Idealize.SL.Sem
open Cert.Kernel15Ideal Cert.Kernel15Ideal.Gen
open Idealize.ShloMosaic.Pipeline (Dat)
open Cert.Rows Cert.Sigmoid

section tile

variable (x0 : Vec Ideal S512x1024 .f32) (x1 : Vec Ideal S1x1024 .f32)

theorem out2 (i : Fin 512) (k : Fin 1024) : out0_2 x0 x1 (ix2 i k) = norm (fun i l => x0 (ix2 i l)) (fun l => x1 (ix2 0 l)) i k := by
  frame_out
  pointwise [k0_pay1]
  rfl

end tile

section arrays

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem lt8 (t : Fin cfg0.N) : t.val < 8 := lt_of_lt_of_eq t.isLt N_0

/-- Row `i` of tile `t`. -/
def trow (t : Fin cfg0.N) (i : Fin 512) : Fin 4096 := ⟨512 * t.val + i.val, by have := lt8 t; omega⟩

variable (c : Dev nD)

theorem blk0 (t : Fin cfg0.N) (i : Fin 512) (k : Fin 1024) : iblk m c 0 t (ix2 i k) = m ((c : Thread nD τ).loc main_arg0) (ix2 (trow t i) k) := by
  have h := idx t
  rw [iblk]
  entry_read
  blk_point [h, trow]

theorem blk1 (t : Fin cfg0.N) (i : Fin 1) (k : Fin 1024) : iblk m c 1 t (ix2 i k) = m ((c : Thread nD τ).loc main_arg1) (ix2 i k) := by
  have h := idx t
  rw [iblk]
  entry_read
  blk_point [h, trow]

theorem block2 (t : Fin cfg0.N) (i : Fin 512) (k : Fin 1024) : out0_2 (iblk m c 0 t) (iblk m c 1 t) (ix2 i k) = norm (fun i l => m ((c : Thread nD τ).loc main_arg0) (ix2 i l)) (fun l => m ((c : Thread nD τ).loc main_arg1) (ix2 0 l)) (trow t i) k := by
  rw [out2]
  simp only [blk0, blk1]
  rfl

theorem final2 : (dats m 0 c).arrAt 2 cfg0.N = fun j => norm (fun i l => m ((c : Thread nD τ).loc main_arg0) (ix2 i l)) (fun l => m ((c : Thread nD τ).loc main_arg1) (ix2 0 l)) (j 0) (j 1) := by
  refine (dats m 0 c).arrAt_eq_of_covers 2 _ (by decide +kernel) fun t hf y => ?_
  have h := idx t
  blk_simp
  rw [after0_2]
  idx_vars y
  rw [block2 m c t y0 y1]
  congr 1 <;> (apply Fin.ext; blk_simp [h, trow] <;> try (dsimp only; omega))

end arrays

end Cert.NormFwd
-- ==== Proof.NormFwdReference.lean ====
/-
  What the forward kernel of a norm leaves in its results.
-/
module

public import Idealize.ShloMosaic.Lib.Pipeline.ValueKit
public import proofs.«01_k».proof.Proof.Rows
public import proofs.«01_k».proof.Proof.Gen.Reference15Ideal.Run
public import proofs.«01_k».proof.Proof.Gen.Reference15Ideal.Read

@[expose] public section

set_option maxRecDepth 16384

noncomputable section

namespace Cert.NormFwd.Ref

open Idealize.ShloMosaic Idealize.ShloMosaic.TcCoe Idealize.SL.Sem
open Cert.Reference15Ideal Cert.Reference15Ideal.Gen Cert.Reference15Ideal.Read
open Cert.Rows Cert.Sigmoid

variable (x0 : (⟨S4096x1024, .f32⟩ : BufTy).Contents (Elt Ideal)) (x1 : (⟨S1x1024, .f32⟩ : BufTy).Contents (Elt Ideal))

theorem s12 (i : Fin 4096) (k : Fin 1024) : val_main_v12 (F := Ideal) x0 x1 (ix2 i k) = norm (fun i l => x0 (ix2 i l)) (fun l => x1 (ix2 0 l)) i k := by
  pointwise [val_main_v12, val_main_v11, val_main_v10, val_main_v9, val_main_v8, val_main_v7, val_main_v6, val_main_v4, val_main_v5, val_main_v2, val_main_v3, val_main_cst_1, val_main_v1, val_main_cst_0, val_main_cst, val_main_v0]
  rfl

end Cert.NormFwd.Ref
-- ==== Proof.NormFwd.lean ====
/-
  The equation of the two programs: what the forward kernel of a norm leaves is what the reference computes.
-/
module

public import proofs.«01_k».proof.Defs
public import proofs.«01_k».proof.Proof.NormFwdArrays
public import proofs.«01_k».proof.Proof.NormFwdReference

@[expose] public section

set_option maxRecDepth 16384

noncomputable section

namespace Cert.NormFwd

open Idealize.ShloMosaic Idealize.ShloMosaic.TcCoe Idealize.SL.Sem

set_option maxHeartbeats 4000000 in
theorem algebraic : Cert.algebraic_Kernel15Ideal_Reference15Ideal := by
  intro m ρ m' ρ' _ heq
  refine ⟨fun c => (Cert.Kernel15Ideal.Gen.dats m 0 c).arrAt 2 Cert.Kernel15Ideal.cfg0.N, Cert.Kernel15Ideal.Value.run_blocks m ρ, ?_⟩
  refine (θ_run Cert.Reference15Ideal.defs _ _).mono (fun r h c => ?_) (Cert.Reference15Ideal.Value.run m' ρ')
  obtain ⟨h12, ha0, ha1⟩ := h c
  obtain ⟨e0, e1⟩ := heq c
  refine ⟨(h12.trans (Cert.Reference15Ideal.Read.val_main_v12_eq _ _)).trans (Eq.trans ?_ (final2 m c).symm), ha0, ha1⟩
  · rw [e0, e1]
    funext j
    idx_vars j
    exact Ref.s12 _ _ j0 j1

end Cert.NormFwd
-- ==== Proof.FfnOutFwdArrays.lean ====
/-
  What the forward kernel of a feed-forward's second product, its norm, the residual and the next norm leaves in its results.
-/
module

public import Idealize.ShloMosaic.Lib.Pipeline.ValueKit
public import proofs.«01_k».proof.Proof.Rows
public import proofs.«01_k».proof.Proof.Gen.Kernel16Ideal.Value

@[expose] public section

set_option maxRecDepth 16384

noncomputable section

namespace Cert.FfnOutFwd

open Idealize.ShloMosaic Idealize.ShloMosaic.TcCoe Idealize.SL.Sem
open Cert.Kernel16Ideal Cert.Kernel16Ideal.Gen
open Idealize.ShloMosaic.Pipeline (Dat)
open Cert.Rows Cert.Sigmoid

theorem p2 (v0 : Vec Ideal S256x2816 .bf16) (v2 : Vec Ideal S2816x1024 .bf16) (i : Fin 256) (k : Fin 1024) : k0_pay2 (F := Ideal) v0 v2 (ix2 i k) = (mm (fun i l => v0 (ix2 i l)) (fun i l => v2 (ix2 i l))) i k := by
  pointwise [k0_pay2]
  rfl

theorem p3 (v0 : Vec Ideal S256x2816 .bf16) (v2 : Vec Ideal S2816x1024 .bf16) (v15 : Vec Ideal S256x1024 .f32) (v16 : Vec Ideal S1x1024 .f32) (i : Fin 256) (k : Fin 1024) : k0_pay3 (F := Ideal) v0 v2 v15 v16 (ix2 i k) = (halfResid (fun i l => v15 (ix2 i l)) (mm (fun i l => v0 (ix2 i l)) (fun i l => v2 (ix2 i l))) (fun l => v16 (ix2 0 l))) i k := by
  pointwise [k0_pay3]
  simp only [p2]
  rfl

theorem p4 (v0 : Vec Ideal S256x2816 .bf16) (v2 : Vec Ideal S2816x1024 .bf16) (v15 : Vec Ideal S256x1024 .f32) (v16 : Vec Ideal S1x1024 .f32) (v32 : Vec Ideal S1x1024 .f32) (i : Fin 256) (k : Fin 1024) : k0_pay4 (F := Ideal) v0 v2 v15 v16 v32 (ix2 i k) = norm (halfResid (fun i l => v15 (ix2 i l)) (mm (fun i l => v0 (ix2 i l)) (fun i l => v2 (ix2 i l))) (fun l => v16 (ix2 0 l))) (fun l => v32 (ix2 0 l)) i k := by
  pointwise [k0_pay4]
  simp only [p3]
  rfl

theorem p5 (v0 : Vec Ideal S256x2816 .bf16) (v2 : Vec Ideal S2816x1024 .bf16) (i : Fin 256) (k : Fin 1024) : k0_pay5 (F := Ideal) v0 v2 (ix2 i k) = (mm (fun i l => v0 (ix2 i l)) (fun i l => v2 (ix2 i l))) i k := by
  pointwise [k0_pay5]
  rfl

theorem p6 (v0 : Vec Ideal S256x2816 .bf16) (v2 : Vec Ideal S2816x1024 .bf16) (v15 : Vec Ideal S256x1024 .f32) (v16 : Vec Ideal S1x1024 .f32) (i : Fin 256) (k : Fin 1024) : k0_pay6 (F := Ideal) v0 v2 v15 v16 (ix2 i k) = (halfResid (fun i l => v15 (ix2 i l)) (mm (fun i l => v0 (ix2 i l)) (fun i l => v2 (ix2 i l))) (fun l => v16 (ix2 0 l))) i k := by
  pointwise [k0_pay6]
  simp only [p5]
  rfl

theorem p7 (v0 : Vec Ideal S256x2816 .bf16) (v2 : Vec Ideal S2816x1024 .bf16) (v15 : Vec Ideal S256x1024 .f32) (v16 : Vec Ideal S1x1024 .f32) (v32 : Vec Ideal S1x1024 .f32) (i : Fin 256) (k : Fin 1024) : k0_pay1 (F := Ideal) (k0_pay7 (F := Ideal) v0 v2 v15 v16 v32) (ix2 i k) = norm (halfResid (fun i l => v15 (ix2 i l)) (mm (fun i l => v0 (ix2 i l)) (fun i l => v2 (ix2 i l))) (fun l => v16 (ix2 0 l))) (fun l => v32 (ix2 0 l)) i k := by
  pointwise [k0_pay7, k0_pay1]
  simp only [p6]
  rfl

section tile

variable (x0 : Vec Ideal S512x2816 .bf16) (x1 : Vec Ideal S2816x1024 .bf16) (x2 : Vec Ideal S512x1024 .f32) (x3 : Vec Ideal S1x1024 .f32) (x4 : Vec Ideal S1x1024 .f32)

theorem out5 (i : Fin 512) (k : Fin 1024) : out0_5 x0 x1 x2 x3 x4 (ix2 i k) = (mm (fun i l => x0 (ix2 i l)) (fun i l => x1 (ix2 i l))) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (p5 _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (p2 _ _ i' k').trans ?_
    pointwise []
    try rfl

theorem out6 (i : Fin 512) (k : Fin 1024) : out0_6 x0 x1 x2 x3 x4 (ix2 i k) = (halfResid (fun i l => x2 (ix2 i l)) (mm (fun i l => x0 (ix2 i l)) (fun i l => x1 (ix2 i l))) (fun l => x3 (ix2 0 l))) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (p6 _ _ _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (p3 _ _ _ _ i' k').trans ?_
    pointwise []
    try rfl

theorem out7 (i : Fin 512) (k : Fin 1024) : out0_7 x0 x1 x2 x3 x4 (ix2 i k) = norm (halfResid (fun i l => x2 (ix2 i l)) (mm (fun i l => x0 (ix2 i l)) (fun i l => x1 (ix2 i l))) (fun l => x3 (ix2 0 l))) (fun l => x4 (ix2 0 l)) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (p7 _ _ _ _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (p4 _ _ _ _ _ i' k').trans ?_
    pointwise []
    try rfl

end tile

section arrays

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

theorem lt8 (t : Fin cfg0.N) : t.val < 8 := lt_of_lt_of_eq t.isLt N_0

/-- Row `i` of tile `t`. -/
def trow (t : Fin cfg0.N) (i : Fin 512) : Fin 4096 := ⟨512 * t.val + i.val, by have := lt8 t; omega⟩

variable (c : Dev nD)

theorem blk0 (t : Fin cfg0.N) (i : Fin 512) (k : Fin 2816) : iblk m c 0 t (ix2 i k) = m ((c : Thread nD τ).loc main_arg0) (ix2 (trow t i) k) := by
  have h := idx t
  have e : (win0_0.blk t).view.emb (ix2 i k) = ix2 (trow t i) k := by
    funext a
    fin_cases a
    · apply Fin.ext
      blk_simp [h]
      show t.val * 512 + i.val = 512 * t.val + i.val
      omega
    · apply Fin.ext
      blk_simp [h]
      rfl
  rw [iblk]
  entry_read
  blk_simp [h]
  rw [e]
  pointwise []

theorem blk1 (t : Fin cfg0.N) (i : Fin 2816) (k : Fin 1024) : iblk m c 1 t (ix2 i k) = m ((c : Thread nD τ).loc main_arg1) (ix2 i k) := by
  have h := idx t
  have e : (win0_1.blk t).view.emb (ix2 i k) = ix2 i k := by
    funext a
    fin_cases a
    · apply Fin.ext
      blk_simp [h]
    · apply Fin.ext
      blk_simp [h]
  rw [iblk]
  entry_read
  blk_simp [h]
  rw [e]
  pointwise []

theorem blk2 (t : Fin cfg0.N) (i : Fin 512) (k : Fin 1024) : iblk m c 2 t (ix2 i k) = m ((c : Thread nD τ).loc main_arg2) (ix2 (trow t i) k) := by
  have h := idx t
  rw [iblk]
  entry_read
  blk_point [h, trow]

theorem blk3 (t : Fin cfg0.N) (i : Fin 1) (k : Fin 1024) : iblk m c 3 t (ix2 i k) = m ((c : Thread nD τ).loc main_arg3) (ix2 i k) := by
  have h := idx t
  rw [iblk]
  entry_read
  blk_point [h, trow]

theorem blk4 (t : Fin cfg0.N) (i : Fin 1) (k : Fin 1024) : iblk m c 4 t (ix2 i k) = m ((c : Thread nD τ).loc main_arg4) (ix2 i k) := by
  have h := idx t
  rw [iblk]
  entry_read
  blk_point [h, trow]

theorem block5 (t : Fin cfg0.N) (i : Fin 512) (k : Fin 1024) : out0_5 (iblk m c 0 t) (iblk m c 1 t) (iblk m c 2 t) (iblk m c 3 t) (iblk m c 4 t) (ix2 i k) = (mm (fun i l => m ((c : Thread nD τ).loc main_arg0) (ix2 i l)) (fun i l => m ((c : Thread nD τ).loc main_arg1) (ix2 i l))) (trow t i) k := by
  rw [out5]
  simp only [blk0, blk1, blk2, blk3, blk4]
  rfl

theorem final5 : (dats m 0 c).arrAt 5 cfg0.N = fun j => (mm (fun i l => m ((c : Thread nD τ).loc main_arg0) (ix2 i l)) (fun i l => m ((c : Thread nD τ).loc main_arg1) (ix2 i l))) (j 0) (j 1) := by
  refine (dats m 0 c).arrAt_eq_of_covers 5 _ (by decide +kernel) fun t hf y => ?_
  have h := idx t
  blk_simp
  rw [after0_5]
  idx_vars y
  rw [block5 m c t y0 y1]
  congr 1 <;> (apply Fin.ext; blk_simp [h, trow] <;> try (dsimp only; omega))

theorem block6 (t : Fin cfg0.N) (i : Fin 512) (k : Fin 1024) : out0_6 (iblk m c 0 t) (iblk m c 1 t) (iblk m c 2 t) (iblk m c 3 t) (iblk m c 4 t) (ix2 i k) = (halfResid (fun i l => m ((c : Thread nD τ).loc main_arg2) (ix2 i l)) (mm (fun i l => m ((c : Thread nD τ).loc main_arg0) (ix2 i l)) (fun i l => m ((c : Thread nD τ).loc main_arg1) (ix2 i l))) (fun l => m ((c : Thread nD τ).loc main_arg3) (ix2 0 l))) (trow t i) k := by
  rw [out6]
  simp only [blk0, blk1, blk2, blk3, blk4]
  rfl

theorem final6 : (dats m 0 c).arrAt 6 cfg0.N = fun j => (halfResid (fun i l => m ((c : Thread nD τ).loc main_arg2) (ix2 i l)) (mm (fun i l => m ((c : Thread nD τ).loc main_arg0) (ix2 i l)) (fun i l => m ((c : Thread nD τ).loc main_arg1) (ix2 i l))) (fun l => m ((c : Thread nD τ).loc main_arg3) (ix2 0 l))) (j 0) (j 1) := by
  refine (dats m 0 c).arrAt_eq_of_covers 6 _ (by decide +kernel) fun t hf y => ?_
  have h := idx t
  blk_simp
  rw [after0_6]
  idx_vars y
  rw [block6 m c t y0 y1]
  congr 1 <;> (apply Fin.ext; blk_simp [h, trow] <;> try (dsimp only; omega))

theorem block7 (t : Fin cfg0.N) (i : Fin 512) (k : Fin 1024) : out0_7 (iblk m c 0 t) (iblk m c 1 t) (iblk m c 2 t) (iblk m c 3 t) (iblk m c 4 t) (ix2 i k) = norm (halfResid (fun i l => m ((c : Thread nD τ).loc main_arg2) (ix2 i l)) (mm (fun i l => m ((c : Thread nD τ).loc main_arg0) (ix2 i l)) (fun i l => m ((c : Thread nD τ).loc main_arg1) (ix2 i l))) (fun l => m ((c : Thread nD τ).loc main_arg3) (ix2 0 l))) (fun l => m ((c : Thread nD τ).loc main_arg4) (ix2 0 l)) (trow t i) k := by
  rw [out7]
  simp only [blk0, blk1, blk2, blk3, blk4]
  rfl

theorem final7 : (dats m 0 c).arrAt 7 cfg0.N = fun j => norm (halfResid (fun i l => m ((c : Thread nD τ).loc main_arg2) (ix2 i l)) (mm (fun i l => m ((c : Thread nD τ).loc main_arg0) (ix2 i l)) (fun i l => m ((c : Thread nD τ).loc main_arg1) (ix2 i l))) (fun l => m ((c : Thread nD τ).loc main_arg3) (ix2 0 l))) (fun l => m ((c : Thread nD τ).loc main_arg4) (ix2 0 l)) (j 0) (j 1) := by
  refine (dats m 0 c).arrAt_eq_of_covers 7 _ (by decide +kernel) fun t hf y => ?_
  have h := idx t
  blk_simp
  rw [after0_7]
  idx_vars y
  rw [block7 m c t y0 y1]
  congr 1 <;> (apply Fin.ext; blk_simp [h, trow] <;> try (dsimp only; omega))

end arrays

end Cert.FfnOutFwd
-- ==== Proof.FfnOutFwdReference.lean ====
/-
  What the forward kernel of a feed-forward's second product, its norm, the residual and the next norm leaves in its results.
-/
module

public import Idealize.ShloMosaic.Lib.Pipeline.ValueKit
public import proofs.«01_k».proof.Proof.Rows
public import proofs.«01_k».proof.Proof.Gen.Reference16Ideal.Run
public import proofs.«01_k».proof.Proof.Gen.Reference16Ideal.Read

@[expose] public section

set_option maxRecDepth 16384

noncomputable section

namespace Cert.FfnOutFwd.Ref

open Idealize.ShloMosaic Idealize.ShloMosaic.TcCoe Idealize.SL.Sem
open Cert.Reference16Ideal Cert.Reference16Ideal.Gen Cert.Reference16Ideal.Read
open Cert.Rows Cert.Sigmoid

variable (x0 : (⟨S4096x2816, .f32⟩ : BufTy).Contents (Elt Ideal)) (x1 : (⟨S2816x1024, .f32⟩ : BufTy).Contents (Elt Ideal)) (x2 : (⟨S4096x1024, .f32⟩ : BufTy).Contents (Elt Ideal)) (x3 : (⟨S1x1024, .f32⟩ : BufTy).Contents (Elt Ideal)) (x4 : (⟨S1x1024, .f32⟩ : BufTy).Contents (Elt Ideal))

theorem s0 (i : Fin 4096) (k : Fin 1024) : val_main_v0 (F := Ideal) x0 x1 (ix2 i k) = (mm (fun i l => x0 (ix2 i l)) (fun i l => x1 (ix2 i l))) i k := by
  pointwise [val_main_v0]
  rfl

theorem s15 (i : Fin 4096) (k : Fin 1024) : val_main_v15 (F := Ideal) x0 x1 x2 x3 (ix2 i k) = (halfResid (fun i l => x2 (ix2 i l)) (mm (fun i l => x0 (ix2 i l)) (fun i l => x1 (ix2 i l))) (fun l => x3 (ix2 0 l))) i k := by
  pointwise [val_main_v15, val_main_v14, val_main_v12, val_main_v13, val_main_v10, val_main_v11, val_main_cst_2, val_main_v9, val_main_v8, val_main_v7, val_main_v5, val_main_v6, val_main_v3, val_main_v4, val_main_cst_1, val_main_v2, val_main_cst_0, val_main_cst, val_main_v1]
  simp only [s0]
  rfl

theorem s28 (i : Fin 4096) (k : Fin 1024) : val_main_v28 (F := Ideal) x0 x1 x2 x3 x4 (ix2 i k) = norm (halfResid (fun i l => x2 (ix2 i l)) (mm (fun i l => x0 (ix2 i l)) (fun i l => x1 (ix2 i l))) (fun l => x3 (ix2 0 l))) (fun l => x4 (ix2 0 l)) i k := by
  pointwise [val_main_v28, val_main_v27, val_main_v25, val_main_v26, val_main_v24, val_main_v23, val_main_v22, val_main_v20, val_main_v21, val_main_v18, val_main_v19, val_main_cst_5, val_main_v17, val_main_cst_4, val_main_cst_3, val_main_v16]
  simp only [s15]
  rfl

end Cert.FfnOutFwd.Ref
-- ==== Proof.FfnOutFwd.lean ====
/-
  The equation of the two programs: what the forward kernel of a feed-forward's second product, its norm, the residual and the next norm leaves is what the reference computes.
-/
module

public import proofs.«01_k».proof.Defs
public import proofs.«01_k».proof.Proof.FfnOutFwdArrays
public import proofs.«01_k».proof.Proof.FfnOutFwdReference

@[expose] public section

set_option maxRecDepth 16384

noncomputable section

namespace Cert.FfnOutFwd

open Idealize.ShloMosaic Idealize.ShloMosaic.TcCoe Idealize.SL.Sem

set_option maxHeartbeats 4000000 in
theorem algebraic : Cert.algebraic_Kernel16Ideal_Reference16Ideal := by
  intro m ρ m' ρ' _ heq
  refine ⟨fun c => (Cert.Kernel16Ideal.Gen.dats m 0 c).arrAt 5 Cert.Kernel16Ideal.cfg0.N, fun c => (Cert.Kernel16Ideal.Gen.dats m 0 c).arrAt 6 Cert.Kernel16Ideal.cfg0.N, fun c => (Cert.Kernel16Ideal.Gen.dats m 0 c).arrAt 7 Cert.Kernel16Ideal.cfg0.N, Cert.Kernel16Ideal.Value.run_blocks m ρ, ?_⟩
  refine (θ_run Cert.Reference16Ideal.defs _ _).mono (fun r h c => ?_) (Cert.Reference16Ideal.Value.run m' ρ')
  obtain ⟨h0, h15, h28, ha0, ha1, ha2, ha3, ha4⟩ := h c
  obtain ⟨e0, e1, e2, e3, e4⟩ := heq c
  refine ⟨(h0.trans (Cert.Reference16Ideal.Read.val_main_v0_eq _ _)).trans (Eq.trans ?_ (final5 m c).symm),
    (h15.trans (Cert.Reference16Ideal.Read.val_main_v15_eq _ _ _ _)).trans (Eq.trans ?_ (final6 m c).symm),
    (h28.trans (Cert.Reference16Ideal.Read.val_main_v28_eq _ _ _ _ _)).trans (Eq.trans ?_ (final7 m c).symm), ha0, ha1, ha2, ha3, ha4⟩
  · rw [e0, e1]
    funext j
    idx_vars j
    exact Ref.s0 _ _ j0 j1
  · rw [e0, e1, e2, e3]
    funext j
    idx_vars j
    exact Ref.s15 _ _ _ _ j0 j1
  · rw [e0, e1, e2, e3, e4]
    funext j
    idx_vars j
    exact Ref.s28 _ _ _ _ _ j0 j1

end Cert.FfnOutFwd
-- ==== Proof.FfnInFwdArrays.lean ====
/-
  What the forward kernel of a feed-forward's first product and its gate leaves in its results.
-/
module

public import Idealize.ShloMosaic.Lib.Pipeline.ValueKit
public import proofs.«01_k».proof.Proof.Rows
public import proofs.«01_k».proof.Proof.Gen.Kernel17Ideal.Value

@[expose] public section

set_option maxRecDepth 16384

noncomputable section

namespace Cert.FfnInFwd

open Idealize.ShloMosaic Idealize.ShloMosaic.TcCoe Idealize.SL.Sem
open Cert.Kernel17Ideal Cert.Kernel17Ideal.Gen
open Idealize.ShloMosaic.Pipeline (Dat)
open Cert.Rows Cert.Sigmoid

theorem a0 (v0 : Vec Ideal S256x1024 .bf16) (va : Vec Ideal S1024x1408 .bf16) (i : Fin 256) (k : Fin 1408) : k0_pay6 (F := Ideal) v0 va (ix4 0 0 i k) = (mm (fun i l => v0 (ix2 i l)) (fun i l => va (ix2 i l))) i k := by
  pointwise [k0_pay6, k0_pay7, k0_pay8, k0_pay3, k0_pay4, k0_pay5]
  rfl

theorem b0 (v0 : Vec Ideal S256x1024 .bf16) (vb : Vec Ideal S1024x1408 .bf16) (i : Fin 256) (k : Fin 1408) : k0_pay7 (F := Ideal) v0 vb (ix4 0 0 i k) = (mm (fun i l => v0 (ix2 i l)) (fun i l => vb (ix2 i l))) i k := by
  pointwise [k0_pay6, k0_pay7, k0_pay8, k0_pay3, k0_pay4, k0_pay5]
  rfl

theorem s0 (v0 : Vec Ideal S256x1024 .bf16) (va : Vec Ideal S1024x1408 .bf16) (vb : Vec Ideal S1024x1408 .bf16) (i : Fin 256) (k : Fin 1408) : k0_pay8 (F := Ideal) v0 va vb (ix2 i k) = swi (mm (fun i l => v0 (ix2 i l)) (fun i l => va (ix2 i l))) (mm (fun i l => v0 (ix2 i l)) (fun i l => vb (ix2 i l))) i k := by
  pointwise [k0_pay6, k0_pay7, k0_pay8, k0_pay3, k0_pay4, k0_pay5]
  simp only [half_word, sg_tanh]
  rfl

theorem a256 (v0 : Vec Ideal S256x1024 .bf16) (va : Vec Ideal S1024x1408 .bf16) (i : Fin 256) (k : Fin 1408) : k0_pay12 (F := Ideal) (k0_pay9 (F := Ideal) v0) va (ix4 0 0 i k) = (mm (fun i l => v0 (ix2 i l)) (fun i l => va (ix2 i l))) i k := by
  pointwise [k0_pay9, k0_pay10, k0_pay11, k0_pay12, k0_pay13, k0_pay14]
  rfl

theorem b256 (v0 : Vec Ideal S256x1024 .bf16) (vb : Vec Ideal S1024x1408 .bf16) (i : Fin 256) (k : Fin 1408) : k0_pay13 (F := Ideal) (k0_pay9 (F := Ideal) v0) vb (ix4 0 0 i k) = (mm (fun i l => v0 (ix2 i l)) (fun i l => vb (ix2 i l))) i k := by
  pointwise [k0_pay9, k0_pay10, k0_pay11, k0_pay12, k0_pay13, k0_pay14]
  rfl

theorem s256 (v0 : Vec Ideal S256x1024 .bf16) (va : Vec Ideal S1024x1408 .bf16) (vb : Vec Ideal S1024x1408 .bf16) (i : Fin 256) (k : Fin 1408) : k0_pay14 (F := Ideal) (k0_pay9 (F := Ideal) v0) va vb (ix2 i k) = swi (mm (fun i l => v0 (ix2 i l)) (fun i l => va (ix2 i l))) (mm (fun i l => v0 (ix2 i l)) (fun i l => vb (ix2 i l))) i k := by
  pointwise [k0_pay9, k0_pay10, k0_pay11, k0_pay12, k0_pay13, k0_pay14]
  simp only [half_word, sg_tanh]
  rfl

theorem a512 (v0 : Vec Ideal S256x1024 .bf16) (va : Vec Ideal S1024x1408 .bf16) (i : Fin 256) (k : Fin 1408) : k0_pay18 (F := Ideal) (k0_pay16 (F := Ideal) v0 va) (ix4 0 0 i k) = (mm (fun i l => v0 (ix2 i l)) (fun i l => va (ix2 i l))) i k := by
  pointwise [k0_pay15, k0_pay16, k0_pay17, k0_pay18, k0_pay19, k0_pay20]
  rfl

theorem b512 (v0 : Vec Ideal S256x1024 .bf16) (vb : Vec Ideal S1024x1408 .bf16) (i : Fin 256) (k : Fin 1408) : k0_pay19 (F := Ideal) (k0_pay17 (F := Ideal) v0 vb) (ix4 0 0 i k) = (mm (fun i l => v0 (ix2 i l)) (fun i l => vb (ix2 i l))) i k := by
  pointwise [k0_pay15, k0_pay16, k0_pay17, k0_pay18, k0_pay19, k0_pay20]
  rfl

theorem s512 (v0 : Vec Ideal S256x1024 .bf16) (va : Vec Ideal S1024x1408 .bf16) (vb : Vec Ideal S1024x1408 .bf16) (i : Fin 256) (k : Fin 1408) : k0_pay20 (F := Ideal) (k0_pay16 (F := Ideal) v0 va) (k0_pay17 (F := Ideal) v0 vb) (ix2 i k) = swi (mm (fun i l => v0 (ix2 i l)) (fun i l => va (ix2 i l))) (mm (fun i l => v0 (ix2 i l)) (fun i l => vb (ix2 i l))) i k := by
  pointwise [k0_pay15, k0_pay16, k0_pay17, k0_pay18, k0_pay19, k0_pay20]
  simp only [half_word, sg_tanh]
  rfl

theorem a768 (v0 : Vec Ideal S256x1024 .bf16) (va : Vec Ideal S1024x1408 .bf16) (i : Fin 256) (k : Fin 1408) : k0_pay24 (F := Ideal) v0 va (ix4 0 0 i k) = (mm (fun i l => v0 (ix2 i l)) (fun i l => va (ix2 i l))) i k := by
  pointwise [k0_pay1, k0_pay2, k0_pay21, k0_pay22, k0_pay23, k0_pay24]
  rfl

theorem b768 (v0 : Vec Ideal S256x1024 .bf16) (vb : Vec Ideal S1024x1408 .bf16) (i : Fin 256) (k : Fin 1408) : k0_pay1 (F := Ideal) (k0_pay23 (F := Ideal) v0 vb) (ix4 0 0 i k) = (mm (fun i l => v0 (ix2 i l)) (fun i l => vb (ix2 i l))) i k := by
  pointwise [k0_pay1, k0_pay2, k0_pay21, k0_pay22, k0_pay23, k0_pay24]
  rfl

theorem s768 (v0 : Vec Ideal S256x1024 .bf16) (va : Vec Ideal S1024x1408 .bf16) (vb : Vec Ideal S1024x1408 .bf16) (i : Fin 256) (k : Fin 1408) : k0_pay2 (F := Ideal) (k0_pay22 (F := Ideal) v0 va) (k0_pay23 (F := Ideal) v0 vb) (ix2 i k) = swi (mm (fun i l => v0 (ix2 i l)) (fun i l => va (ix2 i l))) (mm (fun i l => v0 (ix2 i l)) (fun i l => vb (ix2 i l))) i k := by
  pointwise [k0_pay1, k0_pay2, k0_pay21, k0_pay22, k0_pay23, k0_pay24]
  simp only [half_word, sg_tanh]
  rfl

/-- One of two arrays. -/
def either (p : Fin 2) (A B : Fin 1024 → Fin 1408 → EReal) : Fin 1024 → Fin 1408 → EReal := if p.val = 0 then A else B

section tile

variable (x0 : Vec Ideal S1024x1024 .bf16) (x1 x2 : Vec Ideal S1024x1408 .bf16)

theorem out3 (y : S2x1x1024x1408.Idx) (p : Fin 2) (r : Fin 1024) (k : Fin 1408) (hp : (y 0).val = p.val) (hr : (y 2).val = r.val) (hk : (y 3).val = k.val) :
    out0_3 x0 x1 x2 y = either p (mm (fun i l => x0 (ix2 i l)) (fun i l => x1 (ix2 i l))) (mm (fun i l => x0 (ix2 i l)) (fun i l => x2 (ix2 i l))) r k := by
  frame_out
  canon_tiles x h
  · obtain ⟨i', k', rfl⟩ : ∃ (i' : Fin 256) (k' : Fin 1408), x = ix4 0 0 i' k' := ⟨x 2, x 3, (by
      funext a
      fin_cases a
      · exact Subsingleton.elim (α := Fin 1) _ _
      · exact Subsingleton.elim (α := Fin 1) _ _
      · rfl
      · rfl)⟩
    have g0 : ((ix4 0 0 i' k' : S1x1x256x1408.Idx) 0).val = 0 := rfl
    have g2 : ((ix4 0 0 i' k' : S1x1x256x1408.Idx) 2).val = i'.val := rfl
    have g3 : ((ix4 0 0 i' k' : S1x1x256x1408.Idx) 3).val = k'.val := rfl
    have er : r = (⟨768 + i'.val, by omega⟩ : Fin 1024) := Fin.ext (by dsimp only; omega)
    have ek : k = k' := Fin.ext (by omega)
    rw [er, ek, either, if_neg (by omega)]
    refine (b768 _ _ i' k').trans ?_
    pointwise []
    try rfl
  · obtain ⟨i', k', rfl⟩ : ∃ (i' : Fin 256) (k' : Fin 1408), x = ix4 0 0 i' k' := ⟨x 2, x 3, (by
      funext a
      fin_cases a
      · exact Subsingleton.elim (α := Fin 1) _ _
      · exact Subsingleton.elim (α := Fin 1) _ _
      · rfl
      · rfl)⟩
    have g0 : ((ix4 0 0 i' k' : S1x1x256x1408.Idx) 0).val = 0 := rfl
    have g2 : ((ix4 0 0 i' k' : S1x1x256x1408.Idx) 2).val = i'.val := rfl
    have g3 : ((ix4 0 0 i' k' : S1x1x256x1408.Idx) 3).val = k'.val := rfl
    have er : r = (⟨768 + i'.val, by omega⟩ : Fin 1024) := Fin.ext (by dsimp only; omega)
    have ek : k = k' := Fin.ext (by omega)
    rw [er, ek, either, if_pos (by omega)]
    refine (a768 _ _ i' k').trans ?_
    pointwise []
    try rfl
  · obtain ⟨i', k', rfl⟩ : ∃ (i' : Fin 256) (k' : Fin 1408), x = ix4 0 0 i' k' := ⟨x 2, x 3, (by
      funext a
      fin_cases a
      · exact Subsingleton.elim (α := Fin 1) _ _
      · exact Subsingleton.elim (α := Fin 1) _ _
      · rfl
      · rfl)⟩
    have g0 : ((ix4 0 0 i' k' : S1x1x256x1408.Idx) 0).val = 0 := rfl
    have g2 : ((ix4 0 0 i' k' : S1x1x256x1408.Idx) 2).val = i'.val := rfl
    have g3 : ((ix4 0 0 i' k' : S1x1x256x1408.Idx) 3).val = k'.val := rfl
    have er : r = (⟨512 + i'.val, by omega⟩ : Fin 1024) := Fin.ext (by dsimp only; omega)
    have ek : k = k' := Fin.ext (by omega)
    rw [er, ek, either, if_neg (by omega)]
    refine (b512 _ _ i' k').trans ?_
    pointwise []
    try rfl
  · obtain ⟨i', k', rfl⟩ : ∃ (i' : Fin 256) (k' : Fin 1408), x = ix4 0 0 i' k' := ⟨x 2, x 3, (by
      funext a
      fin_cases a
      · exact Subsingleton.elim (α := Fin 1) _ _
      · exact Subsingleton.elim (α := Fin 1) _ _
      · rfl
      · rfl)⟩
    have g0 : ((ix4 0 0 i' k' : S1x1x256x1408.Idx) 0).val = 0 := rfl
    have g2 : ((ix4 0 0 i' k' : S1x1x256x1408.Idx) 2).val = i'.val := rfl
    have g3 : ((ix4 0 0 i' k' : S1x1x256x1408.Idx) 3).val = k'.val := rfl
    have er : r = (⟨512 + i'.val, by omega⟩ : Fin 1024) := Fin.ext (by dsimp only; omega)
    have ek : k = k' := Fin.ext (by omega)
    rw [er, ek, either, if_pos (by omega)]
    refine (a512 _ _ i' k').trans ?_
    pointwise []
    try rfl
  · obtain ⟨i', k', rfl⟩ : ∃ (i' : Fin 256) (k' : Fin 1408), x = ix4 0 0 i' k' := ⟨x 2, x 3, (by
      funext a
      fin_cases a
      · exact Subsingleton.elim (α := Fin 1) _ _
      · exact Subsingleton.elim (α := Fin 1) _ _
      · rfl
      · rfl)⟩
    have g0 : ((ix4 0 0 i' k' : S1x1x256x1408.Idx) 0).val = 0 := rfl
    have g2 : ((ix4 0 0 i' k' : S1x1x256x1408.Idx) 2).val = i'.val := rfl
    have g3 : ((ix4 0 0 i' k' : S1x1x256x1408.Idx) 3).val = k'.val := rfl
    have er : r = (⟨256 + i'.val, by omega⟩ : Fin 1024) := Fin.ext (by dsimp only; omega)
    have ek : k = k' := Fin.ext (by omega)
    rw [er, ek, either, if_neg (by omega)]
    refine (b256 _ _ i' k').trans ?_
    pointwise []
    try rfl
  · obtain ⟨i', k', rfl⟩ : ∃ (i' : Fin 256) (k' : Fin 1408), x = ix4 0 0 i' k' := ⟨x 2, x 3, (by
      funext a
      fin_cases a
      · exact Subsingleton.elim (α := Fin 1) _ _
      · exact Subsingleton.elim (α := Fin 1) _ _
      · rfl
      · rfl)⟩
    have g0 : ((ix4 0 0 i' k' : S1x1x256x1408.Idx) 0).val = 0 := rfl
    have g2 : ((ix4 0 0 i' k' : S1x1x256x1408.Idx) 2).val = i'.val := rfl
    have g3 : ((ix4 0 0 i' k' : S1x1x256x1408.Idx) 3).val = k'.val := rfl
    have er : r = (⟨256 + i'.val, by omega⟩ : Fin 1024) := Fin.ext (by dsimp only; omega)
    have ek : k = k' := Fin.ext (by omega)
    rw [er, ek, either, if_pos (by omega)]
    refine (a256 _ _ i' k').trans ?_
    pointwise []
    try rfl
  · obtain ⟨i', k', rfl⟩ : ∃ (i' : Fin 256) (k' : Fin 1408), x = ix4 0 0 i' k' := ⟨x 2, x 3, (by
      funext a
      fin_cases a
      · exact Subsingleton.elim (α := Fin 1) _ _
      · exact Subsingleton.elim (α := Fin 1) _ _
      · rfl
      · rfl)⟩
    have g0 : ((ix4 0 0 i' k' : S1x1x256x1408.Idx) 0).val = 0 := rfl
    have g2 : ((ix4 0 0 i' k' : S1x1x256x1408.Idx) 2).val = i'.val := rfl
    have g3 : ((ix4 0 0 i' k' : S1x1x256x1408.Idx) 3).val = k'.val := rfl
    have er : r = (⟨i'.val, by omega⟩ : Fin 1024) := Fin.ext (by dsimp only; omega)
    have ek : k = k' := Fin.ext (by omega)
    rw [er, ek, either, if_neg (by omega)]
    refine (b0 _ _ i' k').trans ?_
    pointwise []
    try rfl
  · obtain ⟨i', k', rfl⟩ : ∃ (i' : Fin 256) (k' : Fin 1408), x = ix4 0 0 i' k' := ⟨x 2, x 3, (by
      funext a
      fin_cases a
      · exact Subsingleton.elim (α := Fin 1) _ _
      · exact Subsingleton.elim (α := Fin 1) _ _
      · rfl
      · rfl)⟩
    have g0 : ((ix4 0 0 i' k' : S1x1x256x1408.Idx) 0).val = 0 := rfl
    have g2 : ((ix4 0 0 i' k' : S1x1x256x1408.Idx) 2).val = i'.val := rfl
    have g3 : ((ix4 0 0 i' k' : S1x1x256x1408.Idx) 3).val = k'.val := rfl
    have er : r = (⟨i'.val, by omega⟩ : Fin 1024) := Fin.ext (by dsimp only; omega)
    have ek : k = k' := Fin.ext (by omega)
    rw [er, ek, either, if_pos (by omega)]
    refine (a0 _ _ i' k').trans ?_
    pointwise []
    try rfl

theorem out4 (i : Fin 1024) (k : Fin 1408) :
    out0_4 x0 x1 x2 (ix2 i k) = swi (mm (fun i l => x0 (ix2 i l)) (fun i l => x1 (ix2 i l))) (mm (fun i l => x0 (ix2 i l)) (fun i l => x2 (ix2 i l))) i k := by
  generalize hy : (ix2 i k : S1024x1408.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1408), x = ix2 i' k' := ⟨x 0, x 1, (by funext a; fin_cases a <;> rfl)⟩
    have e0 : y 0 = (⟨768 + i'.val, by omega⟩ : Fin 1024) := Fin.ext h0
    have e1 : y 1 = k' := Fin.ext h1
    rw [e0, e1]
    refine (s768 _ _ _ i' k').trans ?_
    pointwise []
    try rfl
  · obtain ⟨i', k', rfl⟩ : ∃ (i' : Fin 256) (k' : Fin 1408), x = ix2 i' k' := ⟨x 0, x 1, (by funext a; fin_cases a <;> rfl)⟩
    have e0 : y 0 = (⟨512 + i'.val, by omega⟩ : Fin 1024) := Fin.ext h0
    have e1 : y 1 = k' := Fin.ext h1
    rw [e0, e1]
    refine (s512 _ _ _ i' k').trans ?_
    pointwise []
    try rfl
  · obtain ⟨i', k', rfl⟩ : ∃ (i' : Fin 256) (k' : Fin 1408), x = ix2 i' k' := ⟨x 0, x 1, (by funext a; fin_cases a <;> rfl)⟩
    have e0 : y 0 = (⟨256 + i'.val, by omega⟩ : Fin 1024) := Fin.ext h0
    have e1 : y 1 = k' := Fin.ext h1
    rw [e0, e1]
    refine (s256 _ _ _ i' k').trans ?_
    pointwise []
    try rfl
  · obtain ⟨i', k', rfl⟩ : ∃ (i' : Fin 256) (k' : Fin 1408), x = ix2 i' k' := ⟨x 0, x 1, (by funext a; fin_cases a <;> rfl)⟩
    have e0 : y 0 = (⟨i'.val, by omega⟩ : Fin 1024) := Fin.ext h0
    have e1 : y 1 = k' := Fin.ext h1
    rw [e0, e1]
    refine (s0 _ _ _ i' k').trans ?_
    pointwise []
    try rfl

end tile

/-- Column `k` of a half of the inner columns. -/
def fcol (f : Fin 2) (k : Fin 1408) : Fin 2816 := ⟨1408 * f.val + k.val, by omega⟩

/-- Inner column `k` of the gated (0) or the linear (1) branch among the input weight's columns. -/
def wcol (p : Fin 2) (k : Fin 2816) : Fin 5632 := ⟨2816 * p.val + k.val, by omega⟩

/-- A branch before the gate. -/
def inner (H : Fin 4096 → Fin 1024 → EReal) (W : Fin 1024 → Fin 5632 → EReal) (p : Fin 2) (i : Fin 4096) (k : Fin 2816) : EReal :=
  mm H (fun l k => W l (wcol p k)) i k

/-- The gated product of the branches. -/
def gated (H : Fin 4096 → Fin 1024 → EReal) (W : Fin 1024 → Fin 5632 → EReal) (i : Fin 4096) (k : Fin 2816) : EReal :=
  swi (inner H W 0) (inner H W 1) i k

section arrays

variable (m : (ℓ : Loc nD τ sig) → Buf (Elt Ideal) ℓ)

theorem idx : ∀ t : Fin cfg0.N, win0_0.index t = ![t.val % 4, 0] ∧ win0_1.index t = ![0, t.val / 4] ∧ win0_2.index t = ![0, 2 + t.val / 4] ∧ win0_3.index t = ![0, t.val / 4, t.val % 4, 0] ∧ win0_4.index t = ![t.val % 4, t.val / 4] :=
  (by decide +kernel : ∀ t : Fin grid0.N, _)

theorem lt8 (t : Fin cfg0.N) : t.val < 8 := lt_of_lt_of_eq t.isLt N_0

/-- Row `r` of row tile `t % 4`. -/
def frow (t : Fin cfg0.N) (r : Fin 1024) : Fin 4096 := ⟨1024 * (t.val % 4) + r.val, by have := lt8 t; omega⟩

/-- The half of the inner columns of a grid point. -/
def fside (t : Fin cfg0.N) : Fin 2 := ⟨t.val / 4, by have := lt8 t; omega⟩

variable (c : Dev nD)

theorem blk0 (t : Fin cfg0.N) (i : Fin 1024) (k : Fin 1024) : iblk m c 0 t (ix2 i k) = m ((c : Thread nD τ).loc main_arg0) (ix2 (frow t i) k) := by
  have h := idx t
  have e : (win0_0.blk t).view.emb (ix2 i k) = ix2 (frow t i) k := by
    funext a
    fin_cases a
    · apply Fin.ext
      blk_simp [h]
      show t.val % 4 * 1024 + i.val = 1024 * (t.val % 4) + i.val
      omega
    · apply Fin.ext
      blk_simp [h]
      rfl
  rw [iblk]
  entry_read
  blk_simp [h]
  rw [e]
  pointwise []

theorem blk1 (t : Fin cfg0.N) (i : Fin 1024) (k : Fin 1408) : iblk m c 1 t (ix2 i k) = m ((c : Thread nD τ).loc main_arg1) (ix2 i (wcol 0 (fcol (fside t) k))) := by
  have h := idx t
  have e : (win0_1.blk t).view.emb (ix2 i k) = ix2 i (wcol 0 (fcol (fside t) k)) := by
    funext a
    fin_cases a
    · apply Fin.ext
      blk_simp [h]
      rfl
    · apply Fin.ext
      blk_simp [h]
      show t.val / 4 * 1408 + k.val = 2816 * 0 + (1408 * (t.val / 4) + k.val)
      omega
  rw [iblk]
  entry_read
  blk_simp [h]
  rw [e]
  pointwise []

theorem blk2 (t : Fin cfg0.N) (i : Fin 1024) (k : Fin 1408) : iblk m c 2 t (ix2 i k) = m ((c : Thread nD τ).loc main_arg1) (ix2 i (wcol 1 (fcol (fside t) k))) := by
  have h := idx t
  have e : (win0_2.blk t).view.emb (ix2 i k) = ix2 i (wcol 1 (fcol (fside t) k)) := by
    funext a
    fin_cases a
    · apply Fin.ext
      blk_simp [h]
      rfl
    · apply Fin.ext
      blk_simp [h]
      show (2 + t.val / 4) * 1408 + k.val = 2816 * 1 + (1408 * (t.val / 4) + k.val)
      omega
  rw [iblk]
  entry_read
  blk_simp [h]
  rw [e]
  pointwise []

theorem block3 (t : Fin cfg0.N) (p : Fin 2) (i : Fin 1024) (k : Fin 1408) : out0_3 (iblk m c 0 t) (iblk m c 1 t) (iblk m c 2 t) (ix4 p 0 i k) = inner (fun i l => m ((c : Thread nD τ).loc main_arg0) (ix2 i l)) (fun i l => m ((c : Thread nD τ).loc main_arg1) (ix2 i l)) p (frow t i) (fcol (fside t) k) := by
  rw [out3 _ _ _ (ix4 p 0 i k) p i k rfl rfl rfl]
  simp only [blk0, blk1, blk2]
  fin_cases p <;> rfl

theorem block4 (t : Fin cfg0.N) (i : Fin 1024) (k : Fin 1408) : out0_4 (iblk m c 0 t) (iblk m c 1 t) (iblk m c 2 t) (ix2 i k) = gated (fun i l => m ((c : Thread nD τ).loc main_arg0) (ix2 i l)) (fun i l => m ((c : Thread nD τ).loc main_arg1) (ix2 i l)) (frow t i) (fcol (fside t) k) := by
  rw [out4]
  simp only [blk0, blk1, blk2]
  rfl

theorem final3 : (dats m 0 c).arrAt 3 cfg0.N = fun j => inner (fun i l => m ((c : Thread nD τ).loc main_arg0) (ix2 i l)) (fun i l => m ((c : Thread nD τ).loc main_arg1) (ix2 i l)) (j 0) (j 2) (fcol (j 1) (j 3)) := by
  refine (dats m 0 c).arrAt_eq_of_covers 3 _ (by decide +kernel) fun t hf y => ?_
  have h := idx t
  blk_simp
  rw [after0_3]
  idx_vars y
  obtain rfl : y1 = 0 := Subsingleton.elim _ _
  rw [block3 m c t y0 y2 y3]
  congr 1 <;> (apply Fin.ext; blk_simp [h, frow, fside, fcol] <;> try (dsimp only; omega))

theorem final4 : (dats m 0 c).arrAt 4 cfg0.N = fun j => gated (fun i l => m ((c : Thread nD τ).loc main_arg0) (ix2 i l)) (fun i l => m ((c : Thread nD τ).loc main_arg1) (ix2 i l)) (j 0) (j 1) := by
  refine (dats m 0 c).arrAt_eq_of_covers 4 _ (by decide +kernel) fun t hf y => ?_
  have h := idx t
  blk_simp
  rw [after0_4]
  idx_vars y
  rw [block4 m c t y0 y1]
  congr 1 <;> (apply Fin.ext; blk_simp [h, frow, fside, fcol] <;> try (dsimp only; omega))

end arrays

end Cert.FfnInFwd
-- ==== Proof.FfnInFwdReference.lean ====
/-
  What the forward kernel of a feed-forward's first product and its gate leaves in its results.
-/
module

public import Idealize.ShloMosaic.Lib.Pipeline.ValueKit
public import proofs.«01_k».proof.Proof.FfnInFwdArrays
public import proofs.«01_k».proof.Proof.Gen.Reference17Ideal.Run
public import proofs.«01_k».proof.Proof.Gen.Reference17Ideal.Read

@[expose] public section

set_option maxRecDepth 16384

noncomputable section

namespace Cert.FfnInFwd.Ref

open Idealize.ShloMosaic Idealize.ShloMosaic.TcCoe Idealize.SL.Sem
open Cert.Reference17Ideal Cert.Reference17Ideal.Gen Cert.Reference17Ideal.Read
open Cert.Rows Cert.Sigmoid Cert.FfnInFwd

variable (x0 : (⟨S4096x1024, .f32⟩ : BufTy).Contents (Elt Ideal)) (x1 : (⟨S1024x5632, .f32⟩ : BufTy).Contents (Elt Ideal))

theorem s5 (p f : Fin 2) (i : Fin 4096) (k : Fin 1408) : val_main_v5 (F := Ideal) x0 x1 (ix4 p f i k) = inner (fun i l => x0 (ix2 i l)) (fun i l => x1 (ix2 i l)) p i (fcol f k) := by
  pointwise [val_main_v5, val_main_v4, val_main_v3, val_main_v0]
  show _ = ∑ l : Fin 1024, x0 (ix2 i l) * x1 (ix2 l (wcol p (fcol f k)))
  refine Finset.sum_congr rfl fun l _ => ?_
  congr 2 <;> congr 1 <;> (apply Fin.ext; simp only [wcol, fcol]; omega)

theorem s8 (i : Fin 4096) (k : Fin 2816) : val_main_v8 (F := Ideal) x0 x1 (ix2 i k) = gated (fun i l => x0 (ix2 i l)) (fun i l => x1 (ix2 i l)) i k := by
  have e0 : (⟨k.val, by omega⟩ : Fin 5632) = wcol 0 k := Fin.ext (by simp [wcol])
  pointwise [val_main_v8, val_main_v7, val_main_v6, val_main_call0_v5, val_main_call0_v4, val_main_call0_v3, val_main_call0_v2, val_main_call0_v1, val_main_call0_v0, val_main_call0_cst, val_main_call0_cst_0, val_main_v1, val_main_v2, val_main_v0]
  simp only [e0]
  rfl

end Cert.FfnInFwd.Ref
-- ==== Proof.FfnInFwd.lean ====
/-
  The forward kernel of the first feed-forward's first product and gate: the equation of the two programs.
-/
module

public import proofs.«01_k».proof.Defs
public import proofs.«01_k».proof.Proof.FfnInFwdArrays
public import proofs.«01_k».proof.Proof.FfnInFwdReference

@[expose] public section

set_option maxRecDepth 16384

noncomputable section

namespace Cert.FfnInFwd

open Idealize.ShloMosaic Idealize.ShloMosaic.TcCoe Idealize.SL.Sem

set_option maxHeartbeats 4000000 in
theorem algebraic : Cert.algebraic_Kernel17Ideal_Reference17Ideal := by
  intro m ρ m' ρ' _ heq
  refine ⟨fun c => (Cert.Kernel17Ideal.Gen.dats m 0 c).arrAt 3 Cert.Kernel17Ideal.cfg0.N, fun c => (Cert.Kernel17Ideal.Gen.dats m 0 c).arrAt 4 Cert.Kernel17Ideal.cfg0.N, Cert.Kernel17Ideal.Value.run_blocks m ρ, ?_⟩
  refine (θ_run Cert.Reference17Ideal.defs _ _).mono (fun r h c => ?_) (Cert.Reference17Ideal.Value.run m' ρ')
  obtain ⟨h5, h8, ha0, ha1⟩ := h c
  obtain ⟨e0, e1⟩ := heq c
  refine ⟨(h5.trans (Cert.Reference17Ideal.Read.val_main_v5_eq _ _)).trans (Eq.trans ?_ (final3 m c).symm),
    (h8.trans (Cert.Reference17Ideal.Read.val_main_v8_eq _ _)).trans (Eq.trans ?_ (final4 m c).symm), ha0, ha1⟩
  · rw [e0, e1]
    funext j
    idx_vars j
    exact Ref.s5 _ _ j0 j1 j2 j3
  · rw [e0, e1]
    funext j
    idx_vars j
    exact Ref.s8 _ _ j0 j1

end Cert.FfnInFwd
-- ==== Proof.MixTailFwdArrays.lean ====
/-
  What the forward kernel of the mixer's tail leaves in its results.
-/
module

public import Idealize.ShloMosaic.Lib.Pipeline.ValueKit
public import proofs.«01_k».proof.Proof.Rows
public import proofs.«01_k».proof.Proof.Gen.Kernel18Ideal.Value

@[expose] public section

set_option maxRecDepth 16384

noncomputable section

namespace Cert.MixTailFwd

open Idealize.ShloMosaic Idealize.ShloMosaic.TcCoe Idealize.SL.Sem
open Cert.Kernel18Ideal Cert.Kernel18Ideal.Gen
open Idealize.ShloMosaic.Pipeline (Dat)
open Cert.Rows Cert.Sigmoid

section pieces

variable (a : Vec Ideal S256x1024 .bf16) (wa : Vec Ideal S1024x1024 .bf16) (b : Vec Ideal S256x512 .bf16) (wb : Vec Ideal S512x1024 .bf16) (d : Vec Ideal S256x512 .bf16) (wc : Vec Ideal S512x1024 .bf16) (ga : Vec Ideal S256x1024 .bf16) (gb : Vec Ideal S256x1024 .bf16) (gc : Vec Ideal S256x1024 .bf16) (wo : Vec Ideal S1024x1024 .bf16) (x : Vec Ideal S256x1024 .f32) (gp : Vec Ideal S1x1024 .f32) (gn : Vec Ideal S1x1024 .f32)

theorem ya1 (i : Fin 256) (k : Fin 1024) : k0_pay3 (F := Ideal) a wa (ix2 i k) = (mm (fun i l => a (ix2 i l)) (fun i l => wa (ix2 i l))) i k := by
  pointwise [k0_pay3, k0_pay2]
  rfl

theorem yb1 (i : Fin 256) (k : Fin 1024) : k0_pay6 (F := Ideal) b wb (ix2 i k) = (mm (fun i l => b (ix2 i l)) (fun i l => wb (ix2 i l))) i k := by
  pointwise [k0_pay6, k0_pay5]
  rfl

theorem yc1 (i : Fin 256) (k : Fin 1024) : k0_pay9 (F := Ideal) d wc (ix2 i k) = (mm (fun i l => d (ix2 i l)) (fun i l => wc (ix2 i l))) i k := by
  pointwise [k0_pay9, k0_pay8]
  rfl

theorem mg1 (i : Fin 256) (k : Fin 1024) : k0_pay10 (F := Ideal) (k0_pay4 a wa ga) (k0_pay5 b wb) (k0_pay7 gb) (Ideal.ofBits .f32 0x3F000000#32) d wc gc (ix2 i k) = (merge (fun i l => ga (ix2 i l)) (fun i l => gb (ix2 i l)) (fun i l => gc (ix2 i l)) (mm (fun i l => a (ix2 i l)) (fun i l => wa (ix2 i l))) (mm (fun i l => b (ix2 i l)) (fun i l => wb (ix2 i l))) (mm (fun i l => d (ix2 i l)) (fun i l => wc (ix2 i l)))) i k := by
  pointwise [k0_pay10, k0_pay4, k0_pay2, k0_pay5, k0_pay7, k0_pay8]
  simp only [half_word, sg_tanh]
  rfl

theorem yy1 (i : Fin 256) (k : Fin 1024) : k0_pay11 (F := Ideal) (k0_pay4 a wa ga) (k0_pay5 b wb) (k0_pay7 gb) (Ideal.ofBits .f32 0x3F000000#32) d wc gc wo (ix2 i k) = (mm (merge (fun i l => ga (ix2 i l)) (fun i l => gb (ix2 i l)) (fun i l => gc (ix2 i l)) (mm (fun i l => a (ix2 i l)) (fun i l => wa (ix2 i l))) (mm (fun i l => b (ix2 i l)) (fun i l => wb (ix2 i l))) (mm (fun i l => d (ix2 i l)) (fun i l => wc (ix2 i l)))) (fun i l => wo (ix2 i l))) i k := by
  pointwise [k0_pay11]
  simp only [mg1]
  rfl

theorem xx1 (i : Fin 256) (k : Fin 1024) : k0_pay14 (F := Ideal) (k0_pay11 (k0_pay4 a wa ga) (k0_pay5 b wb) (k0_pay7 gb) (Ideal.ofBits .f32 0x3F000000#32) d wc gc wo) (k0_pay12 (k0_pay4 a wa ga) (k0_pay5 b wb) (k0_pay7 gb) (Ideal.ofBits .f32 0x3F000000#32) d wc gc wo) k0_pay13 x gp (ix2 i k) = (resid (fun i l => x (ix2 i l)) (mm (merge (fun i l => ga (ix2 i l)) (fun i l => gb (ix2 i l)) (fun i l => gc (ix2 i l)) (mm (fun i l => a (ix2 i l)) (fun i l => wa (ix2 i l))) (mm (fun i l => b (ix2 i l)) (fun i l => wb (ix2 i l))) (mm (fun i l => d (ix2 i l)) (fun i l => wc (ix2 i l)))) (fun i l => wo (ix2 i l))) (fun l => gp (ix2 0 l))) i k := by
  pointwise [k0_pay14, k0_pay12, k0_pay13]
  simp only [yy1]
  rfl

theorem hh1 (i : Fin 256) (k : Fin 1024) : k0_pay15 (F := Ideal) (k0_pay11 (k0_pay4 a wa ga) (k0_pay5 b wb) (k0_pay7 gb) (Ideal.ofBits .f32 0x3F000000#32) d wc gc wo) (k0_pay12 (k0_pay4 a wa ga) (k0_pay5 b wb) (k0_pay7 gb) (Ideal.ofBits .f32 0x3F000000#32) d wc gc wo) k0_pay13 x gp gn (ix2 i k) = norm (resid (fun i l => x (ix2 i l)) (mm (merge (fun i l => ga (ix2 i l)) (fun i l => gb (ix2 i l)) (fun i l => gc (ix2 i l)) (mm (fun i l => a (ix2 i l)) (fun i l => wa (ix2 i l))) (mm (fun i l => b (ix2 i l)) (fun i l => wb (ix2 i l))) (mm (fun i l => d (ix2 i l)) (fun i l => wc (ix2 i l)))) (fun i l => wo (ix2 i l))) (fun l => gp (ix2 0 l))) (fun l => gn (ix2 0 l)) i k := by
  pointwise [k0_pay15]
  simp only [xx1]
  rfl

theorem ya2 (i : Fin 256) (k : Fin 1024) : k0_pay17 (F := Ideal) a wa (ix2 i k) = (mm (fun i l => a (ix2 i l)) (fun i l => wa (ix2 i l))) i k := by
  pointwise [k0_pay17, k0_pay16]
  rfl

theorem yb2 (i : Fin 256) (k : Fin 1024) : k0_pay20 (F := Ideal) b wb (ix2 i k) = (mm (fun i l => b (ix2 i l)) (fun i l => wb (ix2 i l))) i k := by
  pointwise [k0_pay20, k0_pay19]
  rfl

theorem yc2 (i : Fin 256) (k : Fin 1024) : k0_pay23 (F := Ideal) d wc (ix2 i k) = (mm (fun i l => d (ix2 i l)) (fun i l => wc (ix2 i l))) i k := by
  pointwise [k0_pay23, k0_pay22]
  rfl

theorem mg2 (i : Fin 256) (k : Fin 1024) : k0_pay24 (F := Ideal) (k0_pay21 (k0_pay16 a wa) (k0_pay18 ga) b wb gb) (k0_pay22 d wc) gc (ix2 i k) = (merge (fun i l => ga (ix2 i l)) (fun i l => gb (ix2 i l)) (fun i l => gc (ix2 i l)) (mm (fun i l => a (ix2 i l)) (fun i l => wa (ix2 i l))) (mm (fun i l => b (ix2 i l)) (fun i l => wb (ix2 i l))) (mm (fun i l => d (ix2 i l)) (fun i l => wc (ix2 i l)))) i k := by
  pointwise [k0_pay24, k0_pay21, k0_pay16, k0_pay18, k0_pay19, k0_pay22]
  simp only [half_word, sg_tanh]
  rfl

theorem yy2 (i : Fin 256) (k : Fin 1024) : k0_pay25 (F := Ideal) (k0_pay21 (k0_pay16 a wa) (k0_pay18 ga) b wb gb) (k0_pay22 d wc) gc wo (ix2 i k) = (mm (merge (fun i l => ga (ix2 i l)) (fun i l => gb (ix2 i l)) (fun i l => gc (ix2 i l)) (mm (fun i l => a (ix2 i l)) (fun i l => wa (ix2 i l))) (mm (fun i l => b (ix2 i l)) (fun i l => wb (ix2 i l))) (mm (fun i l => d (ix2 i l)) (fun i l => wc (ix2 i l)))) (fun i l => wo (ix2 i l))) i k := by
  pointwise [k0_pay25]
  simp only [mg2]
  rfl

theorem xx2 (i : Fin 256) (k : Fin 1024) : k0_pay26 (F := Ideal) (k0_pay21 (k0_pay16 a wa) (k0_pay18 ga) b wb gb) (k0_pay22 d wc) gc wo x gp (ix2 i k) = (resid (fun i l => x (ix2 i l)) (mm (merge (fun i l => ga (ix2 i l)) (fun i l => gb (ix2 i l)) (fun i l => gc (ix2 i l)) (mm (fun i l => a (ix2 i l)) (fun i l => wa (ix2 i l))) (mm (fun i l => b (ix2 i l)) (fun i l => wb (ix2 i l))) (mm (fun i l => d (ix2 i l)) (fun i l => wc (ix2 i l)))) (fun i l => wo (ix2 i l))) (fun l => gp (ix2 0 l))) i k := by
  pointwise [k0_pay26]
  simp only [yy2]
  rfl

theorem hh2 (i : Fin 256) (k : Fin 1024) : k0_pay1 (F := Ideal) (k0_pay26 (k0_pay21 (k0_pay16 a wa) (k0_pay18 ga) b wb gb) (k0_pay22 d wc) gc wo x gp) (k0_pay27 (k0_pay21 (k0_pay16 a wa) (k0_pay18 ga) b wb gb) (k0_pay22 d wc) gc wo x gp) gn (ix2 i k) = norm (resid (fun i l => x (ix2 i l)) (mm (merge (fun i l => ga (ix2 i l)) (fun i l => gb (ix2 i l)) (fun i l => gc (ix2 i l)) (mm (fun i l => a (ix2 i l)) (fun i l => wa (ix2 i l))) (mm (fun i l => b (ix2 i l)) (fun i l => wb (ix2 i l))) (mm (fun i l => d (ix2 i l)) (fun i l => wc (ix2 i l)))) (fun i l => wo (ix2 i l))) (fun l => gp (ix2 0 l))) (fun l => gn (ix2 0 l)) i k := by
  pointwise [k0_pay1, k0_pay27]
  simp only [xx2]
  rfl

end pieces

section tile

variable (x0 : Vec Ideal S512x1024 .bf16) (x1 : Vec Ideal S512x512 .bf16) (x2 : Vec Ideal S512x512 .bf16) (x3 : Vec Ideal S512x3072 .bf16) (x4 : Vec Ideal S1024x1024 .bf16) (x5 : Vec Ideal S512x1024 .bf16) (x6 : Vec Ideal S512x1024 .bf16) (x7 : Vec Ideal S1024x1024 .bf16) (x8 : Vec Ideal S512x1024 .f32) (x9 : Vec Ideal S1x1024 .f32) (x10 : Vec Ideal S1x1024 .f32)

theorem out11 (i : Fin 512) (k : Fin 1024) : out0_11 x0 x1 x2 x3 x4 x5 x6 x7 x8 x9 x10 (ix2 i k) = (mm (fun i l => x0 (ix2 i l)) (fun i l => x4 (ix2 i l))) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (ya2 _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (ya1 _ _ i' k').trans ?_
    pointwise []
    try rfl

theorem out12 (i : Fin 512) (k : Fin 1024) : out0_12 x0 x1 x2 x3 x4 x5 x6 x7 x8 x9 x10 (ix2 i k) = (mm (fun i l => x1 (ix2 i l)) (fun i l => x5 (ix2 i l))) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (yb2 _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (yb1 _ _ i' k').trans ?_
    pointwise []
    try rfl

theorem out13 (i : Fin 512) (k : Fin 1024) : out0_13 x0 x1 x2 x3 x4 x5 x6 x7 x8 x9 x10 (ix2 i k) = (mm (fun i l => x2 (ix2 i l)) (fun i l => x6 (ix2 i l))) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (yc2 _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (yc1 _ _ i' k').trans ?_
    pointwise []
    try rfl

theorem out14 (i : Fin 512) (k : Fin 1024) : out0_14 x0 x1 x2 x3 x4 x5 x6 x7 x8 x9 x10 (ix2 i k) = (merge (gate0 (fun i l => x3 (ix2 i l))) (gate1 (fun i l => x3 (ix2 i l))) (gate2 (fun i l => x3 (ix2 i l))) (mm (fun i l => x0 (ix2 i l)) (fun i l => x4 (ix2 i l))) (mm (fun i l => x1 (ix2 i l)) (fun i l => x5 (ix2 i l))) (mm (fun i l => x2 (ix2 i l)) (fun i l => x6 (ix2 i l)))) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (mg2 _ _ _ _ _ _ _ _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (mg1 _ _ _ _ _ _ _ _ _ i' k').trans ?_
    pointwise []
    try rfl

theorem out15 (i : Fin 512) (k : Fin 1024) : out0_15 x0 x1 x2 x3 x4 x5 x6 x7 x8 x9 x10 (ix2 i k) = (mm (merge (gate0 (fun i l => x3 (ix2 i l))) (gate1 (fun i l => x3 (ix2 i l))) (gate2 (fun i l => x3 (ix2 i l))) (mm (fun i l => x0 (ix2 i l)) (fun i l => x4 (ix2 i l))) (mm (fun i l => x1 (ix2 i l)) (fun i l => x5 (ix2 i l))) (mm (fun i l => x2 (ix2 i l)) (fun i l => x6 (ix2 i l)))) (fun i l => x7 (ix2 i l))) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (yy2 _ _ _ _ _ _ _ _ _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (yy1 _ _ _ _ _ _ _ _ _ _ i' k').trans ?_
    pointwise []
    try rfl

theorem out16 (i : Fin 512) (k : Fin 1024) : out0_16 x0 x1 x2 x3 x4 x5 x6 x7 x8 x9 x10 (ix2 i k) = (resid (fun i l => x8 (ix2 i l)) (mm (merge (gate0 (fun i l => x3 (ix2 i l))) (gate1 (fun i l => x3 (ix2 i l))) (gate2 (fun i l => x3 (ix2 i l))) (mm (fun i l => x0 (ix2 i l)) (fun i l => x4 (ix2 i l))) (mm (fun i l => x1 (ix2 i l)) (fun i l => x5 (ix2 i l))) (mm (fun i l => x2 (ix2 i l)) (fun i l => x6 (ix2 i l)))) (fun i l => x7 (ix2 i l))) (fun l => x9 (ix2 0 l))) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (xx2 _ _ _ _ _ _ _ _ _ _ _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (xx1 _ _ _ _ _ _ _ _ _ _ _ _ i' k').trans ?_
    pointwise []
    try rfl

theorem out17 (i : Fin 512) (k : Fin 1024) : out0_17 x0 x1 x2 x3 x4 x5 x6 x7 x8 x9 x10 (ix2 i k) = norm (resid (fun i l => x8 (ix2 i l)) (mm (merge (gate0 (fun i l => x3 (ix2 i l))) (gate1 (fun i l => x3 (ix2 i l))) (gate2 (fun i l => x3 (ix2 i l))) (mm (fun i l => x0 (ix2 i l)) (fun i l => x4 (ix2 i l))) (mm (fun i l => x1 (ix2 i l)) (fun i l => x5 (ix2 i l))) (mm (fun i l => x2 (ix2 i l)) (fun i l => x6 (ix2 i l)))) (fun i l => x7 (ix2 i l))) (fun l => x9 (ix2 0 l))) (fun l => x10 (ix2 0 l)) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (hh2 _ _ _ _ _ _ _ _ _ _ _ _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (hh1 _ _ _ _ _ _ _ _ _ _ _ _ _ i' k').trans ?_
    pointwise []
    try rfl

end tile

section arrays

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![t.val, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

theorem lt8 (t : Fin cfg0.N) : t.val < 8 := lt_of_lt_of_eq t.isLt N_0

/-- Row `i` of tile `t`. -/
def trow (t : Fin cfg0.N) (i : Fin 512) : Fin 4096 := ⟨512 * t.val + i.val, by have := lt8 t; omega⟩

variable (c : Dev nD)

theorem blk0 (t : Fin cfg0.N) (i : Fin 512) (k : Fin 1024) : iblk m c 0 t (ix2 i k) = m ((c : Thread nD τ).loc main_arg0) (ix2 (trow t i) k) := by
  have h := idx t
  have e : (win0_0.blk t).view.emb (ix2 i k) = ix2 (trow t i) k := by
    funext a
    fin_cases a
    · apply Fin.ext
      blk_simp [h]
      show t.val * 512 + i.val = 512 * t.val + i.val
      omega
    · apply Fin.ext
      blk_simp [h]
      rfl
  rw [iblk]
  entry_read
  blk_simp [h]
  rw [e]
  pointwise []

theorem blk1 (t : Fin cfg0.N) (i : Fin 512) (k : Fin 512) : iblk m c 1 t (ix2 i k) = m ((c : Thread nD τ).loc main_arg1) (ix2 (trow t i) k) := by
  have h := idx t
  have e : (win0_1.blk t).view.emb (ix2 i k) = ix2 (trow t i) k := by
    funext a
    fin_cases a
    · apply Fin.ext
      blk_simp [h]
      show t.val * 512 + i.val = 512 * t.val + i.val
      omega
    · apply Fin.ext
      blk_simp [h]
      rfl
  rw [iblk]
  entry_read
  blk_simp [h]
  rw [e]
  pointwise []

theorem blk2 (t : Fin cfg0.N) (i : Fin 512) (k : Fin 512) : iblk m c 2 t (ix2 i k) = m ((c : Thread nD τ).loc main_arg2) (ix2 (trow t i) k) := by
  have h := idx t
  have e : (win0_2.blk t).view.emb (ix2 i k) = ix2 (trow t i) k := by
    funext a
    fin_cases a
    · apply Fin.ext
      blk_simp [h]
      show t.val * 512 + i.val = 512 * t.val + i.val
      omega
    · apply Fin.ext
      blk_simp [h]
      rfl
  rw [iblk]
  entry_read
  blk_simp [h]
  rw [e]
  pointwise []

theorem blk3 (t : Fin cfg0.N) (i : Fin 512) (k : Fin 3072) : iblk m c 3 t (ix2 i k) = m ((c : Thread nD τ).loc main_arg3) (ix2 (trow t i) k) := by
  have h := idx t
  have e : (win0_3.blk t).view.emb (ix2 i k) = ix2 (trow t i) k := by
    funext a
    fin_cases a
    · apply Fin.ext
      blk_simp [h]
      show t.val * 512 + i.val = 512 * t.val + i.val
      omega
    · apply Fin.ext
      blk_simp [h]
      rfl
  rw [iblk]
  entry_read
  blk_simp [h]
  rw [e]
  pointwise []

theorem blk4 (t : Fin cfg0.N) (i : Fin 1024) (k : Fin 1024) : iblk m c 4 t (ix2 i k) = m ((c : Thread nD τ).loc main_arg4) (ix2 i k) := by
  have h := idx t
  have e : (win0_4.blk t).view.emb (ix2 i k) = ix2 i k := by
    funext a
    fin_cases a
    · apply Fin.ext
      blk_simp [h]
    · apply Fin.ext
      blk_simp [h]
  rw [iblk]
  entry_read
  blk_simp [h]
  rw [e]
  pointwise []

theorem blk5 (t : Fin cfg0.N) (i : Fin 512) (k : Fin 1024) : iblk m c 5 t (ix2 i k) = m ((c : Thread nD τ).loc main_arg5) (ix2 i k) := by
  have h := idx t
  have e : (win0_5.blk t).view.emb (ix2 i k) = ix2 i k := by
    funext a
    fin_cases a
    · apply Fin.ext
      blk_simp [h]
    · apply Fin.ext
      blk_simp [h]
  rw [iblk]
  entry_read
  blk_simp [h]
  rw [e]
  pointwise []

theorem blk6 (t : Fin cfg0.N) (i : Fin 512) (k : Fin 1024) : iblk m c 6 t (ix2 i k) = m ((c : Thread nD τ).loc main_arg6) (ix2 i k) := by
  have h := idx t
  have e : (win0_6.blk t).view.emb (ix2 i k) = ix2 i k := by
    funext a
    fin_cases a
    · apply Fin.ext
      blk_simp [h]
    · apply Fin.ext
      blk_simp [h]
  rw [iblk]
  entry_read
  blk_simp [h]
  rw [e]
  pointwise []

theorem blk7 (t : Fin cfg0.N) (i : Fin 1024) (k : Fin 1024) : iblk m c 7 t (ix2 i k) = m ((c : Thread nD τ).loc main_arg7) (ix2 i k) := by
  have h := idx t
  have e : (win0_7.blk t).view.emb (ix2 i k) = ix2 i k := by
    funext a
    fin_cases a
    · apply Fin.ext
      blk_simp [h]
    · apply Fin.ext
      blk_simp [h]
  rw [iblk]
  entry_read
  blk_simp [h]
  rw [e]
  pointwise []

theorem blk8 (t : Fin cfg0.N) (i : Fin 512) (k : Fin 1024) : iblk m c 8 t (ix2 i k) = m ((c : Thread nD τ).loc main_arg8) (ix2 (trow t i) k) := by
  have h := idx t
  rw [iblk]
  entry_read
  blk_point [h, trow]

theorem blk9 (t : Fin cfg0.N) (i : Fin 1) (k : Fin 1024) : iblk m c 9 t (ix2 i k) = m ((c : Thread nD τ).loc main_arg9) (ix2 i k) := by
  have h := idx t
  rw [iblk]
  entry_read
  blk_point [h, trow]

theorem blk10 (t : Fin cfg0.N) (i : Fin 1) (k : Fin 1024) : iblk m c 10 t (ix2 i k) = m ((c : Thread nD τ).loc main_arg10) (ix2 i k) := by
  have h := idx t
  rw [iblk]
  entry_read
  blk_point [h, trow]

/-- The gated sum of the three branches. -/
abbrev mergedA := merge (gate0 (fun i l => m ((c : Thread nD τ).loc main_arg3) (ix2 i l))) (gate1 (fun i l => m ((c : Thread nD τ).loc main_arg3) (ix2 i l))) (gate2 (fun i l => m ((c : Thread nD τ).loc main_arg3) (ix2 i l))) (mm (fun i l => m ((c : Thread nD τ).loc main_arg0) (ix2 i l)) (fun i l => m ((c : Thread nD τ).loc main_arg4) (ix2 i l))) (mm (fun i l => m ((c : Thread nD τ).loc main_arg1) (ix2 i l)) (fun i l => m ((c : Thread nD τ).loc main_arg5) (ix2 i l))) (mm (fun i l => m ((c : Thread nD τ).loc main_arg2) (ix2 i l)) (fun i l => m ((c : Thread nD τ).loc main_arg6) (ix2 i l)))

/-- Its product with the last weight. -/
abbrev mixA := mm (mergedA m c) (fun i l => m ((c : Thread nD τ).loc main_arg7) (ix2 i l))

/-- The residual stream after the mixer. -/
abbrev hidA := resid (fun i l => m ((c : Thread nD τ).loc main_arg8) (ix2 i l)) (mixA m c) (fun l => m ((c : Thread nD τ).loc main_arg9) (ix2 0 l))

theorem block11 (t : Fin cfg0.N) (i : Fin 512) (k : Fin 1024) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k) = (mm (fun i l => m ((c : Thread nD τ).loc main_arg0) (ix2 i l)) (fun i l => m ((c : Thread nD τ).loc main_arg4) (ix2 i l))) (trow t i) k := by
  rw [out11]
  simp only [blk0, blk1, blk2, blk3, blk4, blk5, blk6, blk7, blk8, blk9, blk10]
  rfl

theorem final11 : (dats m 0 c).arrAt 11 cfg0.N = fun j => (mm (fun i l => m ((c : Thread nD τ).loc main_arg0) (ix2 i l)) (fun i l => m ((c : Thread nD τ).loc main_arg4) (ix2 i l))) (j 0) (j 1) := by
  refine (dats m 0 c).arrAt_eq_of_covers 11 _ (by decide +kernel) fun t hf y => ?_
  have h := idx t
  blk_simp
  rw [after0_11]
  idx_vars y
  rw [block11 m c t y0 y1]
  congr 1 <;> (apply Fin.ext; blk_simp [h, trow] <;> try (dsimp only; omega))

theorem block12 (t : Fin cfg0.N) (i : Fin 512) (k : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k) = (mm (fun i l => m ((c : Thread nD τ).loc main_arg1) (ix2 i l)) (fun i l => m ((c : Thread nD τ).loc main_arg5) (ix2 i l))) (trow t i) k := by
  rw [out12]
  simp only [blk0, blk1, blk2, blk3, blk4, blk5, blk6, blk7, blk8, blk9, blk10]
  rfl

theorem final12 : (dats m 0 c).arrAt 12 cfg0.N = fun j => (mm (fun i l => m ((c : Thread nD τ).loc main_arg1) (ix2 i l)) (fun i l => m ((c : Thread nD τ).loc main_arg5) (ix2 i l))) (j 0) (j 1) := by
  refine (dats m 0 c).arrAt_eq_of_covers 12 _ (by decide +kernel) fun t hf y => ?_
  have h := idx t
  blk_simp
  rw [after0_12]
  idx_vars y
  rw [block12 m c t y0 y1]
  congr 1 <;> (apply Fin.ext; blk_simp [h, trow] <;> try (dsimp only; omega))

theorem block13 (t : Fin cfg0.N) (i : Fin 512) (k : Fin 1024) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k) = (mm (fun i l => m ((c : Thread nD τ).loc main_arg2) (ix2 i l)) (fun i l => m ((c : Thread nD τ).loc main_arg6) (ix2 i l))) (trow t i) k := by
  rw [out13]
  simp only [blk0, blk1, blk2, blk3, blk4, blk5, blk6, blk7, blk8, blk9, blk10]
  rfl

theorem final13 : (dats m 0 c).arrAt 13 cfg0.N = fun j => (mm (fun i l => m ((c : Thread nD τ).loc main_arg2) (ix2 i l)) (fun i l => m ((c : Thread nD τ).loc main_arg6) (ix2 i l))) (j 0) (j 1) := by
  refine (dats m 0 c).arrAt_eq_of_covers 13 _ (by decide +kernel) fun t hf y => ?_
  have h := idx t
  blk_simp
  rw [after0_13]
  idx_vars y
  rw [block13 m c t y0 y1]
  congr 1 <;> (apply Fin.ext; blk_simp [h, trow] <;> try (dsimp only; omega))

theorem block14 (t : Fin cfg0.N) (i : Fin 512) (k : Fin 1024) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k) = (mergedA m c) (trow t i) k := by
  rw [out14]
  simp only [blk0, blk1, blk2, blk3, blk4, blk5, blk6, blk7, blk8, blk9, blk10]
  rfl

theorem final14 : (dats m 0 c).arrAt 14 cfg0.N = fun j => (mergedA m c) (j 0) (j 1) := by
  refine (dats m 0 c).arrAt_eq_of_covers 14 _ (by decide +kernel) fun t hf y => ?_
  have h := idx t
  blk_simp
  rw [after0_14]
  idx_vars y
  rw [block14 m c t y0 y1]
  congr 1 <;> (apply Fin.ext; blk_simp [h, trow] <;> try (dsimp only; omega))

theorem block15 (t : Fin cfg0.N) (i : Fin 512) (k : Fin 1024) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k) = (mixA m c) (trow t i) k := by
  rw [out15]
  simp only [blk0, blk1, blk2, blk3, blk4, blk5, blk6, blk7, blk8, blk9, blk10]
  rfl

theorem final15 : (dats m 0 c).arrAt 15 cfg0.N = fun j => (mixA m c) (j 0) (j 1) := by
  refine (dats m 0 c).arrAt_eq_of_covers 15 _ (by decide +kernel) fun t hf y => ?_
  have h := idx t
  blk_simp
  rw [after0_15]
  idx_vars y
  rw [block15 m c t y0 y1]
  congr 1 <;> (apply Fin.ext; blk_simp [h, trow] <;> try (dsimp only; omega))

theorem block16 (t : Fin cfg0.N) (i : Fin 512) (k : Fin 1024) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k) = (hidA m c) (trow t i) k := by
  rw [out16]
  simp only [blk0, blk1, blk2, blk3, blk4, blk5, blk6, blk7, blk8, blk9, blk10]
  rfl

theorem final16 : (dats m 0 c).arrAt 16 cfg0.N = fun j => (hidA m c) (j 0) (j 1) := by
  refine (dats m 0 c).arrAt_eq_of_covers 16 _ (by decide +kernel) fun t hf y => ?_
  have h := idx t
  blk_simp
  rw [after0_16]
  idx_vars y
  rw [block16 m c t y0 y1]
  congr 1 <;> (apply Fin.ext; blk_simp [h, trow] <;> try (dsimp only; omega))

theorem block17 (t : Fin cfg0.N) (i : Fin 512) (k : Fin 1024) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k) = norm (hidA m c) (fun l => m ((c : Thread nD τ).loc main_arg10) (ix2 0 l)) (trow t i) k := by
  rw [out17]
  simp only [blk0, blk1, blk2, blk3, blk4, blk5, blk6, blk7, blk8, blk9, blk10]
  rfl

theorem final17 : (dats m 0 c).arrAt 17 cfg0.N = fun j => norm (hidA m c) (fun l => m ((c : Thread nD τ).loc main_arg10) (ix2 0 l)) (j 0) (j 1) := by
  refine (dats m 0 c).arrAt_eq_of_covers 17 _ (by decide +kernel) fun t hf y => ?_
  have h := idx t
  blk_simp
  rw [after0_17]
  idx_vars y
  rw [block17 m c t y0 y1]
  congr 1 <;> (apply Fin.ext; blk_simp [h, trow] <;> try (dsimp only; omega))

end arrays

end Cert.MixTailFwd
-- ==== Proof.MixTailFwdReference.lean ====
/-
  What the forward kernel of the mixer's tail leaves in its results.
-/
module

public import Idealize.ShloMosaic.Lib.Pipeline.ValueKit
public import proofs.«01_k».proof.Proof.Rows
public import proofs.«01_k».proof.Proof.Gen.Reference18Ideal.Run
public import proofs.«01_k».proof.Proof.Gen.Reference18Ideal.Read

@[expose] public section

set_option maxRecDepth 16384

noncomputable section

namespace Cert.MixTailFwd.Ref

open Idealize.ShloMosaic Idealize.ShloMosaic.TcCoe Idealize.SL.Sem
open Cert.Reference18Ideal Cert.Reference18Ideal.Gen Cert.Reference18Ideal.Read
open Cert.Rows Cert.Sigmoid

variable (x0 : (⟨S4096x1024, .f32⟩ : BufTy).Contents (Elt Ideal)) (x1 : (⟨S4096x512, .f32⟩ : BufTy).Contents (Elt Ideal)) (x2 : (⟨S4096x512, .f32⟩ : BufTy).Contents (Elt Ideal)) (x3 : (⟨S4096x3072, .f32⟩ : BufTy).Contents (Elt Ideal)) (x4 : (⟨S1024x1024, .f32⟩ : BufTy).Contents (Elt Ideal)) (x5 : (⟨S512x1024, .f32⟩ : BufTy).Contents (Elt Ideal)) (x6 : (⟨S512x1024, .f32⟩ : BufTy).Contents (Elt Ideal)) (x7 : (⟨S1024x1024, .f32⟩ : BufTy).Contents (Elt Ideal)) (x8 : (⟨S4096x1024, .f32⟩ : BufTy).Contents (Elt Ideal)) (x9 : (⟨S1x1024, .f32⟩ : BufTy).Contents (Elt Ideal)) (x10 : (⟨S1x1024, .f32⟩ : BufTy).Contents (Elt Ideal))

theorem s35 (i : Fin 4096) (k : Fin 1024) : val_main_v35 (F := Ideal) x0 x4 (ix2 i k) = (mm (fun i l => x0 (ix2 i l)) (fun i l => x4 (ix2 i l))) i k := by
  pointwise [val_main_v35, val_main_v0]
  rfl

theorem s36 (i : Fin 4096) (k : Fin 1024) : val_main_v36 (F := Ideal) x1 x5 (ix2 i k) = (mm (fun i l => x1 (ix2 i l)) (fun i l => x5 (ix2 i l))) i k := by
  pointwise [val_main_v36, val_main_v1]
  rfl

theorem s37 (i : Fin 4096) (k : Fin 1024) : val_main_v37 (F := Ideal) x2 x6 (ix2 i k) = (mm (fun i l => x2 (ix2 i l)) (fun i l => x6 (ix2 i l))) i k := by
  pointwise [val_main_v37, val_main_v2]
  rfl

theorem s38 (i : Fin 4096) (k : Fin 1024) : val_main_v38 (F := Ideal) x0 x1 x2 x3 x4 x5 x6 (ix2 i k) = (merge (gate0 (fun i l => x3 (ix2 i l))) (gate1 (fun i l => x3 (ix2 i l))) (gate2 (fun i l => x3 (ix2 i l))) (mm (fun i l => x0 (ix2 i l)) (fun i l => x4 (ix2 i l))) (mm (fun i l => x1 (ix2 i l)) (fun i l => x5 (ix2 i l))) (mm (fun i l => x2 (ix2 i l)) (fun i l => x6 (ix2 i l)))) i k := by
  pointwise [val_main_v38, val_main_v20, val_main_v16, val_main_v19, val_main_v12, val_main_v15, val_main_v18, val_main_v2, val_main_v0, val_main_v11, val_main_v1, val_main_v14, val_main_v17, val_main_v10, val_main_v13, val_main_v9, val_main_v7, val_main_v8, val_main_v5, val_main_v6, val_main_cst_0, val_main_v4, val_main_cst, val_main_v3]
  rfl

theorem s21 (i : Fin 4096) (k : Fin 1024) : val_main_v21 (F := Ideal) x0 x1 x2 x3 x4 x5 x6 x7 (ix2 i k) = (mm (merge (gate0 (fun i l => x3 (ix2 i l))) (gate1 (fun i l => x3 (ix2 i l))) (gate2 (fun i l => x3 (ix2 i l))) (mm (fun i l => x0 (ix2 i l)) (fun i l => x4 (ix2 i l))) (mm (fun i l => x1 (ix2 i l)) (fun i l => x5 (ix2 i l))) (mm (fun i l => x2 (ix2 i l)) (fun i l => x6 (ix2 i l)))) (fun i l => x7 (ix2 i l))) i k := by
  pointwise [val_main_v21, val_main_v20, val_main_v16, val_main_v19, val_main_v12, val_main_v15, val_main_v18, val_main_v2, val_main_v0, val_main_v11, val_main_v1, val_main_v14, val_main_v17, val_main_v10, val_main_v13, val_main_v9, val_main_v7, val_main_v8, val_main_v5, val_main_v6, val_main_cst_0, val_main_v4, val_main_cst, val_main_v3]
  rfl

theorem s34 (i : Fin 4096) (k : Fin 1024) : val_main_v34 (F := Ideal) x0 x1 x2 x3 x4 x5 x6 x7 x8 x9 (ix2 i k) = (resid (fun i l => x8 (ix2 i l)) (mm (merge (gate0 (fun i l => x3 (ix2 i l))) (gate1 (fun i l => x3 (ix2 i l))) (gate2 (fun i l => x3 (ix2 i l))) (mm (fun i l => x0 (ix2 i l)) (fun i l => x4 (ix2 i l))) (mm (fun i l => x1 (ix2 i l)) (fun i l => x5 (ix2 i l))) (mm (fun i l => x2 (ix2 i l)) (fun i l => x6 (ix2 i l)))) (fun i l => x7 (ix2 i l))) (fun l => x9 (ix2 0 l))) i k := by
  pointwise [val_main_v34, val_main_v33, val_main_v31, val_main_v32, val_main_v30, val_main_v29, val_main_v28, val_main_v26, val_main_v27, val_main_v24, val_main_v25, val_main_cst_3, val_main_v23, val_main_cst_2, val_main_cst_1, val_main_v22]
  simp only [s21]
  rfl

theorem s51 (i : Fin 4096) (k : Fin 1024) : val_main_v51 (F := Ideal) x0 x1 x2 x3 x4 x5 x6 x7 x8 x9 x10 (ix2 i k) = norm (resid (fun i l => x8 (ix2 i l)) (mm (merge (gate0 (fun i l => x3 (ix2 i l))) (gate1 (fun i l => x3 (ix2 i l))) (gate2 (fun i l => x3 (ix2 i l))) (mm (fun i l => x0 (ix2 i l)) (fun i l => x4 (ix2 i l))) (mm (fun i l => x1 (ix2 i l)) (fun i l => x5 (ix2 i l))) (mm (fun i l => x2 (ix2 i l)) (fun i l => x6 (ix2 i l)))) (fun i l => x7 (ix2 i l))) (fun l => x9 (ix2 0 l))) (fun l => x10 (ix2 0 l)) i k := by
  pointwise [val_main_v51, val_main_v50, val_main_v48, val_main_v49, val_main_v47, val_main_v46, val_main_v45, val_main_v43, val_main_v44, val_main_v41, val_main_v42, val_main_cst_6, val_main_v40, val_main_cst_5, val_main_cst_4, val_main_v39]
  simp only [s34]
  rfl

end Cert.MixTailFwd.Ref
-- ==== Proof.MixTailFwd.lean ====
/-
  The equation of the two programs: what the forward kernel of the mixer's tail leaves is what the reference computes.
-/
module

public import proofs.«01_k».proof.Defs
public import proofs.«01_k».proof.Proof.MixTailFwdArrays
public import proofs.«01_k».proof.Proof.MixTailFwdReference

@[expose] public section

set_option maxRecDepth 16384

noncomputable section

namespace Cert.MixTailFwd

open Idealize.ShloMosaic Idealize.ShloMosaic.TcCoe Idealize.SL.Sem

set_option maxHeartbeats 4000000 in
theorem algebraic : Cert.algebraic_Kernel18Ideal_Reference18Ideal := by
  intro m ρ m' ρ' _ heq
  refine ⟨fun c => (Cert.Kernel18Ideal.Gen.dats m 0 c).arrAt 11 Cert.Kernel18Ideal.cfg0.N, fun c => (Cert.Kernel18Ideal.Gen.dats m 0 c).arrAt 12 Cert.Kernel18Ideal.cfg0.N, fun c => (Cert.Kernel18Ideal.Gen.dats m 0 c).arrAt 13 Cert.Kernel18Ideal.cfg0.N, fun c => (Cert.Kernel18Ideal.Gen.dats m 0 c).arrAt 14 Cert.Kernel18Ideal.cfg0.N, fun c => (Cert.Kernel18Ideal.Gen.dats m 0 c).arrAt 15 Cert.Kernel18Ideal.cfg0.N, fun c => (Cert.Kernel18Ideal.Gen.dats m 0 c).arrAt 16 Cert.Kernel18Ideal.cfg0.N, fun c => (Cert.Kernel18Ideal.Gen.dats m 0 c).arrAt 17 Cert.Kernel18Ideal.cfg0.N, Cert.Kernel18Ideal.Value.run_blocks m ρ, ?_⟩
  refine (θ_run Cert.Reference18Ideal.defs _ _).mono (fun r h c => ?_) (Cert.Reference18Ideal.Value.run m' ρ')
  obtain ⟨h35, h36, h37, h38, h21, h34, h51, ha0, ha1, ha2, ha3, ha4, ha5, ha6, ha7, ha8, ha9, ha10⟩ := h c
  obtain ⟨e0, e1, e2, e3, e4, e5, e6, e7, e8, e9, e10⟩ := heq c
  refine ⟨(h35.trans (Cert.Reference18Ideal.Read.val_main_v35_eq _ _)).trans (Eq.trans ?_ (final11 m c).symm),
    (h36.trans (Cert.Reference18Ideal.Read.val_main_v36_eq _ _)).trans (Eq.trans ?_ (final12 m c).symm),
    (h37.trans (Cert.Reference18Ideal.Read.val_main_v37_eq _ _)).trans (Eq.trans ?_ (final13 m c).symm),
    (h38.trans (Cert.Reference18Ideal.Read.val_main_v38_eq _ _ _ _ _ _ _)).trans (Eq.trans ?_ (final14 m c).symm),
    (h21.trans (Cert.Reference18Ideal.Read.val_main_v21_eq _ _ _ _ _ _ _ _)).trans (Eq.trans ?_ (final15 m c).symm),
    (h34.trans (Cert.Reference18Ideal.Read.val_main_v34_eq m' c)).trans (Eq.trans ?_ (final16 m c).symm),
    (h51.trans (Cert.Reference18Ideal.Read.val_main_v51_eq m' c)).trans (Eq.trans ?_ (final17 m c).symm), ha0, ha1, ha2, ha3, ha4, ha5, ha6, ha7, ha8, ha9, ha10⟩
  · rw [e0, e4]
    funext j
    idx_vars j
    exact Ref.s35 _ _ j0 j1
  · rw [e1, e5]
    funext j
    idx_vars j
    exact Ref.s36 _ _ j0 j1
  · rw [e2, e6]
    funext j
    idx_vars j
    exact Ref.s37 _ _ j0 j1
  · rw [e0, e1, e2, e3, e4, e5, e6]
    funext j
    idx_vars j
    exact Ref.s38 _ _ _ _ _ _ _ j0 j1
  · rw [e0, e1, e2, e3, e4, e5, e6, e7]
    funext j
    idx_vars j
    exact Ref.s21 _ _ _ _ _ _ _ _ j0 j1
  · rw [e0, e1, e2, e3, e4, e5, e6, e7, e8, e9]
    funext j
    idx_vars j
    exact Ref.s34 _ _ _ _ _ _ _ _ _ _ j0 j1
  · rw [e0, e1, e2, e3, e4, e5, e6, e7, e8, e9, e10]
    funext j
    idx_vars j
    exact Ref.s51 _ _ _ _ _ _ _ _ _ _ _ j0 j1

end Cert.MixTailFwd
-- ==== Proof.PoolFwdArrays.lean ====
/-
  What one row tile of the pooling's forward kernel computes and what the kernel leaves in its result.
-/
module

public import Idealize.ShloMosaic.Lib.Pipeline.ValueKit
public import proofs.«01_k».proof.Proof.PoolArrays
public import proofs.«01_k».proof.Proof.Gen.Kernel13Ideal.Value

@[expose] public section

set_option maxRecDepth 16384

noncomputable section

namespace Cert.PoolFwd

open Idealize.ShloMosaic Idealize.ShloMosaic.TcCoe Idealize.SL.Sem
open Cert.Kernel13Ideal Cert.Kernel13Ideal.Gen
open Idealize.ShloMosaic.Pipeline (Dat)
open Cert.Reals
open Cert.Pool (width lane half cut past count back_double k2_word k4_word k8_word k16_word count_pos width_pos mixv past_ext lane0 lane1 lane2 lane3 grp col lane_grp grp_lane col_lane mixed cols cols_lt)

section roll

variable (x : Vec Ideal S528x512 .f32) (ev : ℕ → Fin 512 → ℝ)

theorem past2 (hx : ∀ r l, x (ix2 r l) = (ev r.val l : EReal)) (r : Fin 528) (l : Fin 512) (h : 1 ≤ r.val) :
    k0_pay7 (F := Ideal) x (ix2 r l) = ((∑ j ∈ Finset.range 2, ev (r.val - j) l : ℝ) : EReal) := by
  pointwise [k0_pay7]
  rw [hx, hx, ← EReal.coe_add, Finset.sum_range_succ, Finset.sum_range_one]
  congr 3
  show (r.val + _) % 528 = _
  omega

theorem past4 (hx : ∀ r l, x (ix2 r l) = (ev r.val l : EReal)) (r : Fin 528) (l : Fin 512) (h : 3 ≤ r.val) :
    k0_pay8 (F := Ideal) x (ix2 r l) = ((∑ j ∈ Finset.range 4, ev (r.val - j) l : ℝ) : EReal) := by
  pointwise [k0_pay8]
  rw [past2 x ev hx _ _ (by omega), past2 x ev hx _ _ (by dsimp only; omega), ← EReal.coe_add,
    show 4 = 2 + 2 from rfl, back_double (fun s => ev s l)]
  congr 2
  refine Finset.sum_congr rfl fun j _ => congrArg (ev · l) ?_
  dsimp only
  omega

theorem past8 (hx : ∀ r l, x (ix2 r l) = (ev r.val l : EReal)) (r : Fin 528) (l : Fin 512) (h : 7 ≤ r.val) :
    k0_pay9 (F := Ideal) x (ix2 r l) = ((∑ j ∈ Finset.range 8, ev (r.val - j) l : ℝ) : EReal) := by
  pointwise [k0_pay9]
  rw [past4 x ev hx _ _ (by omega), past4 x ev hx _ _ (by dsimp only; omega), ← EReal.coe_add,
    show 8 = 4 + 4 from rfl, back_double (fun s => ev s l)]
  congr 2
  refine Finset.sum_congr rfl fun j _ => congrArg (ev · l) ?_
  dsimp only
  omega

theorem past16 (hx : ∀ r l, x (ix2 r l) = (ev r.val l : EReal)) (r : Fin 528) (a : Fin 128) (h : 15 ≤ r.val) :
    k0_pay13 (F := Ideal) x (ix2 r a) = ((∑ j ∈ Finset.range 16, ev (r.val - j) (lane 3 a) : ℝ) : EReal) := by
  pointwise [k0_pay13]
  rw [past8 x ev hx _ _ (by omega), past8 x ev hx _ _ (by dsimp only; omega), ← EReal.coe_add,
    show 16 = 8 + 8 from rfl, back_double (fun s => ev s (lane 3 a))]
  congr 2
  refine Finset.sum_congr rfl fun j _ => congrArg (ev · (lane 3 a)) ?_
  dsimp only
  omega

end roll

section rows

variable (i : grid0.Coords) (T : ℕ)

theorem pos_at (hT : (i 0).val = T) (hT8 : T < 8) (r : Fin 512) (z : Fin 1) :
    k0_pay14 (F := Ideal) i (ix2 r z) = (((512 * T + r.val : ℕ) + 1 : ℝ) : EReal) := by
  pointwise [k0_pay14]
  have e : IntOp.addi (IntOp.addi (Scalar.muli (BitVec.ofNat 32 (i 0).val) 512#32) (BitVec.ofNat 32 r.val)) 1#32
      = BitVec.ofNat 32 (512 * T + r.val + 1) := by
    rw [hT, mul_comm 512]
    show BitVec.ofNat 32 T * BitVec.ofNat 32 512 + BitVec.ofNat 32 r.val + BitVec.ofNat 32 1 = _
    rw [← BitVec.ofNat_mul, ← BitVec.ofNat_add, ← BitVec.ofNat_add]
  rw [e, Cert.Window.sitofp_ofNat _ (by omega)]
  push_cast
  rfl

theorem inv2 (hT : (i 0).val = T) (hT8 : T < 8) (r : Fin 512) (z : Fin 1) :
    k0_pay16 (F := Ideal) (k0_pay14 i) (ix2 r z) = ((1 / count (width 2) (512 * T + r.val) : ℝ) : EReal) := by
  pointwise [k0_pay16]
  rw [pos_at i T hT hT8, k8_word, ← div_coe_coe (count_pos _ _ (width_pos 2)).ne', EReal.coe_one]
  exact congrArg (Ideal.div 1) (EReal.coe_strictMono.monotone.map_min (a := ((512 * T + r.val : ℕ) : ℝ) + 1) (b := 8)).symm

theorem inv3 (hT : (i 0).val = T) (hT8 : T < 8) (r : Fin 512) (z : Fin 1) :
    k0_pay17 (F := Ideal) (k0_pay14 i) (ix2 r z) = ((1 / count (width 3) (512 * T + r.val) : ℝ) : EReal) := by
  pointwise [k0_pay17]
  rw [pos_at i T hT hT8, k16_word, ← div_coe_coe (count_pos _ _ (width_pos 3)).ne', EReal.coe_one]
  exact congrArg (Ideal.div 1) (EReal.coe_strictMono.monotone.map_min (a := ((512 * T + r.val : ℕ) : ℝ) + 1) (b := 16)).symm

end rows

section ext

variable (i : grid0.Coords) (T : ℕ) (v : View sig .tc .vmem S528x512 .f32) (p : Vec Ideal S512x512 .bf16) (pb : Vec Ideal S16x512 .bf16)
  (f : Fin 512 → ℕ → ℝ)

theorem sel_at (hT : (i 0).val = T) (hT8 : T < 8) (hb : 0 < T → ∀ j l, pb (ix2 j l) = (f l (512 * T + j.val - 16) : EReal)) (j : Fin 16) (l : Fin 512) :
    k0_pay5 (F := Ideal) i pb (ix2 j l) = ((if 0 < T then f l (512 * T + j.val - 16) else 0 : ℝ) : EReal) := by
  pointwise [k0_pay5]
  rw [hT]
  rcases Nat.eq_zero_or_pos T with h | h
  · rw [if_neg (by omega), h]
    rfl
  · rw [if_pos h, hb h, (by decide : ∀ T : Fin 8, 0 < T.val → Scalar.cmpi .sgt (BitVec.ofNat 32 T.val) 0#32 = 1#1) ⟨T, hT8⟩ h]
    rfl

theorem ext_at (hT : (i 0).val = T) (hT8 : T < 8) (hp : ∀ r l, p (ix2 r l) = (f l (512 * T + r.val) : EReal))
    (hb : 0 < T → ∀ j l, pb (ix2 j l) = (f l (512 * T + j.val - 16) : EReal)) (r : Fin 528) (l : Fin 512) :
    (v.readCov (Val := Elt Ideal) [⟨Rect.unit ![16, 0] ![512, 512] inb_S528x512_S512x512_16_0, k0_pay6 p⟩,
        ⟨Rect.unit ![0, 0] ![16, 512] inb_S528x512_S16x512_0_0, k0_pay5 i pb⟩]
      (Rect.unit (s := S528x512) ![0, 0] ![528, 512] inb_S528x512_S528x512_0_0).toLoadRect : Vec Ideal S528x512 .f32) (ix2 r l)
      = ((if 16 ≤ 512 * T + r.val then f l (512 * T + r.val - 16) else 0 : ℝ) : EReal) := by
  rw [Cert.Tiles.readCov_at v _ _ r l r l (Nat.zero_add _).symm (Nat.zero_add _).symm]
  by_cases h : 16 ≤ r.val
  · rw [Cert.Tiles.canon_in _ _ _ r l (⟨r.val - 16, by omega⟩ : Fin 512) l (by dsimp only; omega) (Nat.zero_add _).symm, if_pos (by omega)]
    pointwise [k0_pay6, k0_pay4]
    rw [hp]
    dsimp only
    congr 2
    omega
  · rw [Cert.Tiles.canon_out _ _ _ _ _ (.inl (by omega)), Cert.Tiles.canon_in _ _ _ r l (⟨r.val, by omega⟩ : Fin 16) l (Nat.zero_add _).symm (Nat.zero_add _).symm,
      sel_at i T pb f hT hT8 hb]
    dsimp only
    rcases Nat.eq_zero_or_pos T with h' | h'
    · rw [if_neg (by omega), if_neg (by omega)]
    · rw [if_pos h', if_pos (by omega)]

end ext

/-- The pooled lanes after the grouped matrix and the scale, of columns. -/
def outv (f : Fin 512 → ℕ → ℝ) (M : Fin 4 → Fin 128 → Fin 128 → ℝ) (S : Fin 512 → ℝ) (l : Fin 512) (t : ℕ) : ℝ :=
  (∑ a, mixv f (grp l) a t * M (grp l) a (col l)) * S l

section group

variable (i : grid0.Coords) (T : ℕ) (x : Vec Ideal S528x512 .f32) (p : Vec Ideal S512x512 .bf16) (W : Vec Ideal S1x128x128 .bf16) (s : Vec Ideal S1x128 .f32)
  (f : Fin 512 → ℕ → ℝ) (M : Fin 4 → Fin 128 → Fin 128 → ℝ) (S : Fin 512 → ℝ)
  (hT : (i 0).val = T) (hT8 : T < 8) (hx : ∀ r l, x (ix2 r l) = ((if 16 ≤ 512 * T + r.val then f l (512 * T + r.val - 16) else 0 : ℝ) : EReal)) (hp : ∀ r l, p (ix2 r l) = (f l (512 * T + r.val) : EReal))

include hT hT8 hx hp

theorem out0_at (hs : ∀ z a, s (ix2 z a) = (S (lane 0 a) : EReal)) (hw : ∀ z a d, W (ix3 z a d) = (M 0 a d : EReal)) (r : Fin 512) (d : Fin 128) :
    k0_pay18 (F := Ideal) (k0_pay4 p) (k0_pay10 x) (k0_pay15 i) (Scalar.ofBits .f32 0x3F800000#32) W s (ix2 r d) = (outv f M S (lane 0 d) (512 * T + r.val) : EReal) := by
  have iv : Ideal.div 1 (min (k0_pay14 (F := Ideal) i (ix2 r 0)) (Ideal.ofBits .f32 0x40000000#32)) = ((1 / count (width 0) (512 * T + r.val) : ℝ) : EReal) := by
    rw [pos_at i T hT hT8, k2_word, ← div_coe_coe (count_pos _ _ (width_pos 0)).ne', EReal.coe_one]
    exact congrArg (Ideal.div 1) (EReal.coe_strictMono.monotone.map_min (a := ((512 * T + r.val : ℕ) : ℝ) + 1) (b := 2)).symm
  have pt : ∀ a : Fin 128, past (f (lane 0 a)) 2 (512 * T + r.val) * (1 / count (width 0) (512 * T + r.val)) - f (lane 0 a) (512 * T + r.val) = mixv f 0 a (512 * T + r.val) := fun a => by
    rw [mul_one_div]
    rfl
  have px : ∀ a : Fin 128, k0_pay10 (F := Ideal) x (ix2 (⟨16 + r.val, by omega⟩ : Fin 528) a) = (past (f (lane 0 a)) 2 (512 * T + r.val) : EReal) := fun a => by
    pointwise [k0_pay10]
    simp only [lane0]
    rw [past2 x (fun r l => if 16 ≤ 512 * T + r then f l (512 * T + r - 16) else 0) hx _ _ (by dsimp only; omega)]
    exact congrArg (fun r : ℝ => (r : EReal)) (past_ext (f (lane 0 a)) 2 T r.val (by omega))
  pointwise [k0_pay18, k0_pay15, k0_pay4]
  simp only [lane0, px, hp, hs, hw, iv, ← EReal.coe_mul, ← EReal.coe_sub, sum_coe, pt]
  rw [outv, grp_lane, col_lane]

theorem out1_at (hs : ∀ z a, s (ix2 z a) = (S (lane 1 a) : EReal)) (hw : ∀ z a d, W (ix3 z a d) = (M 1 a d : EReal)) (r : Fin 512) (d : Fin 128) :
    k0_pay1 (F := Ideal) (k0_pay19 (k0_pay4 p) (k0_pay11 x) (k0_pay14 i) W) (k0_pay20 s) (ix2 r d) = (outv f M S (lane 1 d) (512 * T + r.val) : EReal) := by
  have iv : Ideal.div 1 (min (k0_pay14 (F := Ideal) i (ix2 r 0)) (Ideal.ofBits .f32 0x40800000#32)) = ((1 / count (width 1) (512 * T + r.val) : ℝ) : EReal) := by
    rw [pos_at i T hT hT8, k4_word, ← div_coe_coe (count_pos _ _ (width_pos 1)).ne', EReal.coe_one]
    exact congrArg (Ideal.div 1) (EReal.coe_strictMono.monotone.map_min (a := ((512 * T + r.val : ℕ) : ℝ) + 1) (b := 4)).symm
  have pt : ∀ a : Fin 128, past (f (lane 1 a)) 4 (512 * T + r.val) * (1 / count (width 1) (512 * T + r.val)) - f (lane 1 a) (512 * T + r.val) = mixv f 1 a (512 * T + r.val) := fun a => by
    rw [mul_one_div]
    rfl
  have px : ∀ a : Fin 128, k0_pay11 (F := Ideal) x (ix2 (⟨16 + r.val, by omega⟩ : Fin 528) a) = (past (f (lane 1 a)) 4 (512 * T + r.val) : EReal) := fun a => by
    pointwise [k0_pay11]
    simp only [lane1]
    rw [past4 x (fun r l => if 16 ≤ 512 * T + r then f l (512 * T + r - 16) else 0) hx _ _ (by dsimp only; omega)]
    exact congrArg (fun r : ℝ => (r : EReal)) (past_ext (f (lane 1 a)) 4 T r.val (by omega))
  pointwise [k0_pay1, k0_pay19, k0_pay20, k0_pay4]
  simp only [lane1, px, hp, hs, hw, iv, ← EReal.coe_mul, ← EReal.coe_sub, sum_coe, pt]
  rw [outv, grp_lane, col_lane]

theorem out2_at (hs : ∀ z a, s (ix2 z a) = (S (lane 2 a) : EReal)) (hw : ∀ z a d, W (ix3 z a d) = (M 2 a d : EReal)) (r : Fin 512) (d : Fin 128) :
    k0_pay2 (F := Ideal) (k0_pay4 p) (k0_pay12 x) (k0_pay16 (k0_pay14 i)) W s (ix2 r d) = (outv f M S (lane 2 d) (512 * T + r.val) : EReal) := by
  have pt : ∀ a : Fin 128, past (f (lane 2 a)) 8 (512 * T + r.val) * (1 / count (width 2) (512 * T + r.val)) - f (lane 2 a) (512 * T + r.val) = mixv f 2 a (512 * T + r.val) := fun a => by
    rw [mul_one_div]
    rfl
  have px : ∀ a : Fin 128, k0_pay12 (F := Ideal) x (ix2 (⟨16 + r.val, by omega⟩ : Fin 528) a) = (past (f (lane 2 a)) 8 (512 * T + r.val) : EReal) := fun a => by
    pointwise [k0_pay12]
    simp only [lane2]
    rw [past8 x (fun r l => if 16 ≤ 512 * T + r then f l (512 * T + r - 16) else 0) hx _ _ (by dsimp only; omega)]
    exact congrArg (fun r : ℝ => (r : EReal)) (past_ext (f (lane 2 a)) 8 T r.val (by omega))
  pointwise [k0_pay2, k0_pay4]
  simp only [lane2, px, hp, hs, hw, inv2 i T hT hT8, ← EReal.coe_mul, ← EReal.coe_sub, sum_coe, pt]
  rw [outv, grp_lane, col_lane]

theorem out3_at (hs : ∀ z a, s (ix2 z a) = (S (lane 3 a) : EReal)) (hw : ∀ z a d, W (ix3 z a d) = (M 3 a d : EReal)) (r : Fin 512) (d : Fin 128) :
    k0_pay3 (F := Ideal) (k0_pay4 p) (k0_pay13 x) (k0_pay17 (k0_pay14 i)) W s (ix2 r d) = (outv f M S (lane 3 d) (512 * T + r.val) : EReal) := by
  have pt : ∀ a : Fin 128, past (f (lane 3 a)) 16 (512 * T + r.val) * (1 / count (width 3) (512 * T + r.val)) - f (lane 3 a) (512 * T + r.val) = mixv f 3 a (512 * T + r.val) := fun a => by
    rw [mul_one_div]
    rfl
  have px : ∀ a : Fin 128, k0_pay13 (F := Ideal) x (ix2 (⟨16 + r.val, by omega⟩ : Fin 528) a) = (past (f (lane 3 a)) 16 (512 * T + r.val) : EReal) := fun a => by
    rw [past16 x (fun r l => if 16 ≤ 512 * T + r then f l (512 * T + r - 16) else 0) hx _ _ (by dsimp only; omega)]
    exact congrArg (fun r : ℝ => (r : EReal)) (past_ext (f (lane 3 a)) 16 T r.val (by omega))
  pointwise [k0_pay3, k0_pay4]
  simp only [lane3, px, hp, hs, hw, inv3 i T hT hT8, ← EReal.coe_mul, ← EReal.coe_sub, sum_coe, pt]
  rw [outv, grp_lane, col_lane]

end group

section tile

variable (w : Vec Ideal S4x128x128 .bf16) (s : Vec Ideal S1x512 .f32) (M : Fin 4 → Fin 128 → Fin 128 → ℝ) (S : Fin 512 → ℝ)

theorem w0_at (hw : ∀ g a d, w (ix3 g a d) = (M g a d : EReal)) (z : Fin 1) (a d : Fin 128) : (View.ld w (Rect.unit (s := S4x128x128) ![0, 0, 0] ![1, 128, 128] inb_S4x128x128_S1x128x128_0_0_0)) (ix3 z a d) = (M 0 a d : EReal) :=
  (View.ld_unit_apply_of w _ _ _ _ (ix3 0 a d) (by obtain rfl : z = 0 := Subsingleton.elim _ _; intro a; fin_cases a <;> simp)).trans (hw _ _ _)

theorem s0_at (hs : ∀ z l, s (ix2 z l) = (S l : EReal)) (z : Fin 1) (a : Fin 128) : (View.ld s (Rect.unit (s := S1x512) ![0, 0] ![1, 128] inb_S1x512_S1x128_0_0)) (ix2 z a) = (S (lane 0 a) : EReal) :=
  (View.ld_unit_apply_of s _ _ _ _ (ix2 0 (lane 0 a)) (by obtain rfl : z = 0 := Subsingleton.elim _ _; intro a; fin_cases a <;> simp [lane])).trans (hs _ _)

theorem w1_at (hw : ∀ g a d, w (ix3 g a d) = (M g a d : EReal)) (z : Fin 1) (a d : Fin 128) : (View.ld w (Rect.unit (s := S4x128x128) ![1, 0, 0] ![1, 128, 128] inb_S4x128x128_S1x128x128_1_0_0)) (ix3 z a d) = (M 1 a d : EReal) :=
  (View.ld_unit_apply_of w _ _ _ _ (ix3 1 a d) (by obtain rfl : z = 0 := Subsingleton.elim _ _; intro a; fin_cases a <;> simp)).trans (hw _ _ _)

theorem s1_at (hs : ∀ z l, s (ix2 z l) = (S l : EReal)) (z : Fin 1) (a : Fin 128) : (View.ld s (Rect.unit (s := S1x512) ![0, 128] ![1, 128] inb_S1x512_S1x128_0_128)) (ix2 z a) = (S (lane 1 a) : EReal) :=
  (View.ld_unit_apply_of s _ _ _ _ (ix2 0 (lane 1 a)) (by obtain rfl : z = 0 := Subsingleton.elim _ _; intro a; fin_cases a <;> simp [lane])).trans (hs _ _)

theorem w2_at (hw : ∀ g a d, w (ix3 g a d) = (M g a d : EReal)) (z : Fin 1) (a d : Fin 128) : (View.ld w (Rect.unit (s := S4x128x128) ![2, 0, 0] ![1, 128, 128] inb_S4x128x128_S1x128x128_2_0_0)) (ix3 z a d) = (M 2 a d : EReal) :=
  (View.ld_unit_apply_of w _ _ _ _ (ix3 2 a d) (by obtain rfl : z = 0 := Subsingleton.elim _ _; intro a; fin_cases a <;> simp)).trans (hw _ _ _)

theorem s2_at (hs : ∀ z l, s (ix2 z l) = (S l : EReal)) (z : Fin 1) (a : Fin 128) : (View.ld s (Rect.unit (s := S1x512) ![0, 256] ![1, 128] inb_S1x512_S1x128_0_256)) (ix2 z a) = (S (lane 2 a) : EReal) :=
  (View.ld_unit_apply_of s _ _ _ _ (ix2 0 (lane 2 a)) (by obtain rfl : z = 0 := Subsingleton.elim _ _; intro a; fin_cases a <;> simp [lane])).trans (hs _ _)

theorem w3_at (hw : ∀ g a d, w (ix3 g a d) = (M g a d : EReal)) (z : Fin 1) (a d : Fin 128) : (View.ld w (Rect.unit (s := S4x128x128) ![3, 0, 0] ![1, 128, 128] inb_S4x128x128_S1x128x128_3_0_0)) (ix3 z a d) = (M 3 a d : EReal) :=
  (View.ld_unit_apply_of w _ _ _ _ (ix3 3 a d) (by obtain rfl : z = 0 := Subsingleton.elim _ _; intro a; fin_cases a <;> simp)).trans (hw _ _ _)

theorem s3_at (hs : ∀ z l, s (ix2 z l) = (S l : EReal)) (z : Fin 1) (a : Fin 128) : (View.ld s (Rect.unit (s := S1x512) ![0, 384] ![1, 128] inb_S1x512_S1x128_0_384)) (ix2 z a) = (S (lane 3 a) : EReal) :=
  (View.ld_unit_apply_of s _ _ _ _ (ix2 0 (lane 3 a)) (by obtain rfl : z = 0 := Subsingleton.elim _ _; intro a; fin_cases a <;> simp [lane])).trans (hs _ _)

variable (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S4x128x128 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S528x512 .f32) (harg6 : arg6.IsWhole)
  (p : Vec Ideal S512x512 .bf16) (pb : Vec Ideal S16x512 .bf16) (T : ℕ) (f : Fin 512 → ℕ → ℝ)

theorem out4 (hT : (i 0).val = T) (hT8 : T < 8) (hp : ∀ r l, p (ix2 r l) = (f l (512 * T + r.val) : EReal))
    (hb : 0 < T → ∀ j l, pb (ix2 j l) = (f l (512 * T + j.val - 16) : EReal)) (hw : ∀ g a d, w (ix3 g a d) = (M g a d : EReal)) (hs : ∀ z l, s (ix2 z l) = (S l : EReal)) (q : S512x512.Idx) :
    out0_A_4 c i arg1 harg1 arg2 harg2 arg3 harg3 arg4 harg4 arg5 harg5 arg6 harg6 p pb w s q = (outv f M S (q 1) (512 * T + (q 0).val) : EReal) := by
  frame_out
  canon_tiles x h
  · obtain ⟨i', k', rfl⟩ : ∃ (i' : Fin 512) (k' : Fin 128), x = ix2 i' k' := ⟨x 0, x 1, (by funext a; fin_cases a <;> rfl)⟩
    have e0 : q 0 = i' := Fin.ext h0
    have e1 : q 1 = lane 3 k' := Fin.ext h1
    rw [e0, e1]
    exact out3_at i T _ p _ _ f M S hT hT8 (ext_at i T _ p pb f hT hT8 hp hb) hp (s3_at s S hs) (w3_at w M hw) i' k'
  · obtain ⟨i', k', rfl⟩ : ∃ (i' : Fin 512) (k' : Fin 128), x = ix2 i' k' := ⟨x 0, x 1, (by funext a; fin_cases a <;> rfl)⟩
    have e0 : q 0 = i' := Fin.ext h0
    have e1 : q 1 = lane 2 k' := Fin.ext h1
    rw [e0, e1]
    exact out2_at i T _ p _ _ f M S hT hT8 (ext_at i T _ p pb f hT hT8 hp hb) hp (s2_at s S hs) (w2_at w M hw) i' k'
  · obtain ⟨i', k', rfl⟩ : ∃ (i' : Fin 512) (k' : Fin 128), x = ix2 i' k' := ⟨x 0, x 1, (by funext a; fin_cases a <;> rfl)⟩
    have e0 : q 0 = i' := Fin.ext h0
    have e1 : q 1 = lane 1 k' := Fin.ext h1
    rw [e0, e1]
    exact out1_at i T _ p _ _ f M S hT hT8 (ext_at i T _ p pb f hT hT8 hp hb) hp (s1_at s S hs) (w1_at w M hw) i' k'
  · obtain ⟨i', k', rfl⟩ : ∃ (i' : Fin 512) (k' : Fin 128), x = ix2 i' k' := ⟨x 0, x 1, (by funext a; fin_cases a <;> rfl)⟩
    have e0 : q 0 = i' := Fin.ext h0
    have e1 : q 1 = lane 0 k' := Fin.ext (h1.trans (Nat.zero_add _).symm)
    rw [e0, e1]
    exact out0_at i T _ p _ _ f M S hT hT8 (ext_at i T _ p pb f hT hT8 hp hb) hp (s0_at s S hs) (w0_at w M hw) i' k'

end tile

section arrays

variable (m : (ℓ : Loc nD τ sig) → Buf (Elt Ideal) ℓ)

theorem idx : ∀ t : Fin cfg0.N, win0_0.index t = ![t.val, 0] ∧ win0_1.index t = ![32 * t.val - 1, 0] ∧ win0_2.index t = ![0, 0, 0] ∧ win0_3.index t = ![0, 0] ∧ win0_4.index t = ![t.val, 0] :=
  (by decide +kernel : ∀ t : Fin grid0.N, _)

theorem pos : ∀ t : Fin cfg0.N, (grid0.coords t 0).val = t.val := (by decide +kernel : ∀ t : Fin grid0.N, _)

theorem lt8 (t : Fin cfg0.N) : t.val < 8 := lt_of_lt_of_eq t.isLt N_0

/-- Row `r` of tile `t`. -/
def row (t : Fin cfg0.N) (r : Fin 512) : Fin 4096 := ⟨512 * t.val + r.val, by have := lt8 t; omega⟩

variable (c : Dev nD)

theorem blk0 (t : Fin cfg0.N) (r l : Fin 512) :
    iblk m c 0 t (ix2 r l) = m ((c : Thread nD τ).loc main_arg0) (ix2 (row t r) (⟨l.val, by omega⟩ : Fin 1024)) := by
  have h := idx t
  have e : (win0_0.blk t).view.emb (ix2 r l) = ix2 (row t r) (⟨l.val, by omega⟩ : Fin 1024) := by
    funext a
    fin_cases a
    · apply Fin.ext
      blk_simp [h]
      show t.val * 512 + r.val = 512 * t.val + r.val
      omega
    · apply Fin.ext
      blk_simp [h]
      rfl
  rw [iblk]
  entry_read
  blk_simp [h]
  rw [e]
  pointwise []

theorem blk1 (t : Fin cfg0.N) (h0 : 0 < t.val) (j : Fin 16) (l : Fin 512) :
    iblk m c 1 t (ix2 j l) = m ((c : Thread nD τ).loc main_arg0) (ix2 (⟨512 * t.val + j.val - 16, by have := lt8 t; omega⟩ : Fin 4096) (⟨l.val, by omega⟩ : Fin 1024)) := by
  have h := idx t
  have e : (win0_1.blk t).view.emb (ix2 j l) = ix2 (⟨512 * t.val + j.val - 16, by have := lt8 t; omega⟩ : Fin 4096) (⟨l.val, by omega⟩ : Fin 1024) := by
    funext a
    fin_cases a
    · apply Fin.ext
      blk_simp [h]
      show (32 * t.val - 1) * 16 + j.val = 512 * t.val + j.val - 16
      omega
    · apply Fin.ext
      blk_simp [h]
      rfl
  rw [iblk]
  entry_read
  blk_simp [h]
  rw [e]
  pointwise []

theorem blk2 (t : Fin cfg0.N) (g : Fin 4) (a d : Fin 128) : iblk m c 2 t (ix3 g a d) = m ((c : Thread nD τ).loc main_arg1) (ix3 g a d) := by
  have h := idx t
  have e : (win0_2.blk t).view.emb (ix3 g a d) = ix3 g a d := by
    funext b
    fin_cases b <;> (apply Fin.ext; blk_simp [h] <;> rfl)
  rw [iblk]
  entry_read
  blk_simp [h]
  rw [e]
  pointwise []

theorem blk3 (t : Fin cfg0.N) (z : Fin 1) (l : Fin 512) : iblk m c 3 t (ix2 z l) = m ((c : Thread nD τ).loc main_arg2) (ix2 z l) := by
  have h := idx t
  rw [iblk]
  entry_read
  blk_point [h]

variable (X : Fin 4096 → Fin 1024 → ℝ) (M : Fin 4 → Fin 128 → Fin 128 → ℝ) (S : Fin 512 → ℝ)
  (hx : ∀ t k, m ((c : Thread nD τ).loc main_arg0) (ix2 t k) = (X t k : EReal)) (hw : ∀ g a d, m ((c : Thread nD τ).loc main_arg1) (ix3 g a d) = (M g a d : EReal)) (hs : ∀ z l, m ((c : Thread nD τ).loc main_arg2) (ix2 z l) = (S l : EReal))

include hx in
theorem hp0 (t : Fin cfg0.N) (r l : Fin 512) : iblk m c 0 t (ix2 r l) = (cols (half X) l (512 * t.val + r.val) : EReal) := by
  rw [blk0, hx, cols_lt _ _ _ (by have := lt8 t; omega)]
  rfl

include hx in
theorem hp1 (t : Fin cfg0.N) (h : 0 < t.val) (j : Fin 16) (l : Fin 512) : iblk m c 1 t (ix2 j l) = (cols (half X) l (512 * t.val + j.val - 16) : EReal) := by
  rw [blk1 m c t h, hx, cols_lt _ _ _ (by have := lt8 t; omega)]
  rfl

include hx hw hs

theorem final4 : (dats m 0 c).arrAt 4 cfg0.N = fun j => (outv (cols (half X)) M S (j 1) (j 0).val : EReal) := by
  refine (dats m 0 c).arrAt_eq_of_covers 4 _ (by decide +kernel) fun t hf y => ?_
  have h := idx t
  blk_simp
  rw [after0_4]
  unfold outsAt0
  rw [out4 _ _ M S c (grid0.coords t) (ms0_0 t) (hs0_0 t) (ms0_1 t) (hs0_1 t) (ms0_2 t) (hs0_2 t) (ms0_3 t) (hs0_3 t) (ms0_4 t) (hs0_4 t) scM0_0 (Memref.isWhole_whole _) _ _ t.val (cols (half X)) (pos t) (lt8 t) (hp0 m c X hx t) (hp1 m c X hx t) (fun g a d => (blk2 m c t g a d).trans (hw g a d)) (fun z l => (blk3 m c t z l).trans (hs z l))]
  idx_vars y
  congr 2
  · apply Fin.ext
    blk_simp [h]
  · blk_simp [h]
    show 512 * t.val + y0.val = t.val * 512 + y0.val
    omega

end arrays

end Cert.PoolFwd
-- ==== Proof.PoolFwdReference.lean ====
/-
  The causal window pooling as the reference's program computes it, on finite arguments: running sums down the rows and their differences.
-/
module

public import Idealize.ShloMosaic.Lib.Pipeline.ValueKit
public import proofs.«01_k».proof.Proof.PoolReals
public import proofs.«01_k».proof.Proof.Window
public import proofs.«01_k».proof.Proof.Gen.Reference13Ideal.Run
public import proofs.«01_k».proof.Proof.Gen.Reference13Ideal.Read

@[expose] public section

set_option maxRecDepth 16384

noncomputable section

namespace Cert.PoolFwd.Ref

open Idealize.ShloMosaic Idealize.ShloMosaic.TcCoe Idealize.SL.Sem
open Cert.Reference13Ideal Cert.Reference13Ideal.Gen Cert.Reference13Ideal.Read
open Cert.Reals
open Cert.Pool (width lane half cut past count k2_word k4_word k8_word k16_word count_pos width_pos mixed cut_lt prefix_sub lane_div lane_mod)

variable (px : (⟨S4096x1024, .f32⟩ : BufTy).Contents (Elt Ideal)) (w : (⟨S4x128x128, .f32⟩ : BufTy).Contents (Elt Ideal)) (sc : (⟨S1x512, .f32⟩ : BufTy).Contents (Elt Ideal))
variable (X : Fin 4096 → Fin 1024 → ℝ) (M : Fin 4 → Fin 128 → Fin 128 → ℝ) (S : Fin 512 → ℝ)

theorem r2 (hp : ∀ t k, px (ix2 t k) = (X t k : EReal)) (t : Fin 4096) (g : Fin 4) (a : Fin 128) :
    val_main_v2 (F := Ideal) px (ix3 t g a) = (half X t (lane g a) : EReal) := by
  pointwise [val_main_v2, val_main_v0]
  rw [hp]
  unfold half lane
  congr 2
  exact Fin.ext (by dsimp only; omega)

theorem r8 (t : Fin 4096) : val_main_v8 (F := Ideal) (ix1 t) = (((t.val : ℝ) + 1 : ℝ) : EReal) := by
  pointwise [val_main_v8, val_main_v7, val_main_v6, val_main_cst_0]
  rw [Cert.Window.sitofp_ofNat t.val (by omega)]
  norm_cast
  rw [add_comm]

theorem r4 (hp : ∀ t k, px (ix2 t k) = (X t k : EReal)) (t : Fin 4096) (g : Fin 4) (a : Fin 128) :
    val_main_v4 (F := Ideal) px (ix3 t g a) = ((∑ s ∈ Finset.range (t.val + 1), cut (fun s => half X s (lane g a)) s : ℝ) : EReal) := by
  unfold val_main_v4
  have e : val_main_call0_call0_v0 (F := Ideal) = fun _ => (0 : EReal) := by
    funext j
    pointwise [val_main_call0_call0_v0, val_main_call0_call0_cst]
  rw [e]
  have hx : ∀ (i : Fin 4096) b c, val_main_v2 (F := Ideal) px (ix3 i b c) = (cut (fun s => half X s (lane b c)) i.val : EReal) :=
    fun i b c => by rw [r2 px X hp, cut_lt _ _ i.isLt]
  generalize val_main_v2 (F := Ideal) px = x at hx
  have h := reduceWindows_S4096x4x128_S4096x4x128_w4096s1p4095_0_w1s1p0_0_w1s1p0_0
  have key := Cert.Window.prefix_rows 4096 4 128 4095 (by norm_num) x (fun s g a => cut (fun s => half X s (lane g a)) s) hx h t g a
  unfold Host.reduceWindowAdd
  rw [Ideal.hostReduceWindowAdd_def]
  exact key

theorem r5 (hp : ∀ t k, px (ix2 t k) = (X t k : EReal)) (n : Fin 4097) (g : Fin 4) (a : Fin 128) :
    val_main_v5 (F := Ideal) px (ix3 n g a) = ((∑ s ∈ Finset.range n.val, cut (fun s => half X s (lane g a)) s : ℝ) : EReal) := by
  pointwise [val_main_v5, val_main_v3, val_main_cst]
  split
  · next h => rw [show n.val = 0 by omega]; rfl
  · next h => rw [r4 px X hp]; congr 3; dsimp only; omega

theorem cnt0 (t : Fin 4096) : val_main_v15 (F := Ideal) (ix1 t) = (count (width 0) t.val : EReal) := by
  pointwise [val_main_v15, val_main_v14, val_main_cst_2]
  rw [r8, k2_word]
  exact (EReal.coe_strictMono.monotone.map_min (a := (t.val : ℝ) + 1) (b := 2)).symm

theorem lag0 (hp : ∀ t k, px (ix2 t k) = (X t k : EReal)) (t : Fin 4096) (a : Fin 128) :
    val_main_v13 (F := Ideal) px (ix2 t a) = ((if t.val < 1 then 0 else ∑ s ∈ Finset.range (t.val - 1), cut (fun s => half X s (lane 0 a)) s : ℝ) : EReal) := by
  pointwise [val_main_v13, val_main_v11, val_main_cst_1, val_main_v12, val_main_v10, val_main_v9]
  split
  · rfl
  · exact r5 px X hp _ 0 a

theorem mix0 (hp : ∀ t k, px (ix2 t k) = (X t k : EReal)) (t : Fin 4096) (a : Fin 128) :
    val_main_v23 (F := Ideal) px (ix2 t a) = (mixed (half X) 0 a t.val : EReal) := by
  pointwise [val_main_v23, val_main_v20, val_main_v18, val_main_v17, val_main_v10, val_main_v9, val_main_v19, val_main_v16, val_main_v22, val_main_v21]
  rw [lag0 px X hp, cnt0]
  have e := r5 px X hp ⟨t.val + 1, Nat.succ_lt_succ t.isLt⟩ 0 a
  have e' := r2 px X hp t 0 a
  unfold mixed
  rw [show past (cut fun s => half X s (lane 0 a)) (width 0) t.val = _ from (prefix_sub _ 1 t.val).symm, cut_lt _ _ t.isLt,
    EReal.coe_sub, ← div_coe_coe (count_pos _ _ (width_pos 0)).ne', EReal.coe_sub]
  exact congrArg₂ _ (congrArg₂ _ (congrArg₂ _ ((congrArg _ (by blk_point []; exact Fin.ext (Nat.add_comm _ _))).trans e) rfl) rfl) ((congrArg _ (by blk_point [])).trans e')

theorem cnt1 (t : Fin 4096) : val_main_v30 (F := Ideal) (ix1 t) = (count (width 1) t.val : EReal) := by
  pointwise [val_main_v30, val_main_v29, val_main_cst_4]
  rw [r8, k4_word]
  exact (EReal.coe_strictMono.monotone.map_min (a := (t.val : ℝ) + 1) (b := 4)).symm

theorem lag1 (hp : ∀ t k, px (ix2 t k) = (X t k : EReal)) (t : Fin 4096) (a : Fin 128) :
    val_main_v28 (F := Ideal) px (ix2 t a) = ((if t.val < 3 then 0 else ∑ s ∈ Finset.range (t.val - 3), cut (fun s => half X s (lane 1 a)) s : ℝ) : EReal) := by
  pointwise [val_main_v28, val_main_v26, val_main_cst_3, val_main_v27, val_main_v25, val_main_v24]
  split
  · rfl
  · exact r5 px X hp _ 1 a

theorem mix1 (hp : ∀ t k, px (ix2 t k) = (X t k : EReal)) (t : Fin 4096) (a : Fin 128) :
    val_main_v38 (F := Ideal) px (ix2 t a) = (mixed (half X) 1 a t.val : EReal) := by
  pointwise [val_main_v38, val_main_v35, val_main_v33, val_main_v32, val_main_v25, val_main_v24, val_main_v34, val_main_v31, val_main_v37, val_main_v36]
  rw [lag1 px X hp, cnt1]
  have e := r5 px X hp ⟨t.val + 1, Nat.succ_lt_succ t.isLt⟩ 1 a
  have e' := r2 px X hp t 1 a
  unfold mixed
  rw [show past (cut fun s => half X s (lane 1 a)) (width 1) t.val = _ from (prefix_sub _ 3 t.val).symm, cut_lt _ _ t.isLt,
    EReal.coe_sub, ← div_coe_coe (count_pos _ _ (width_pos 1)).ne', EReal.coe_sub]
  exact congrArg₂ _ (congrArg₂ _ (congrArg₂ _ ((congrArg _ (by blk_point []; exact Fin.ext (Nat.add_comm _ _))).trans e) rfl) rfl) ((congrArg _ (by blk_point [])).trans e')

theorem cnt2 (t : Fin 4096) : val_main_v45 (F := Ideal) (ix1 t) = (count (width 2) t.val : EReal) := by
  pointwise [val_main_v45, val_main_v44, val_main_cst_6]
  rw [r8, k8_word]
  exact (EReal.coe_strictMono.monotone.map_min (a := (t.val : ℝ) + 1) (b := 8)).symm

theorem lag2 (hp : ∀ t k, px (ix2 t k) = (X t k : EReal)) (t : Fin 4096) (a : Fin 128) :
    val_main_v43 (F := Ideal) px (ix2 t a) = ((if t.val < 7 then 0 else ∑ s ∈ Finset.range (t.val - 7), cut (fun s => half X s (lane 2 a)) s : ℝ) : EReal) := by
  pointwise [val_main_v43, val_main_v41, val_main_cst_5, val_main_v42, val_main_v40, val_main_v39]
  split
  · rfl
  · exact r5 px X hp _ 2 a

theorem mix2 (hp : ∀ t k, px (ix2 t k) = (X t k : EReal)) (t : Fin 4096) (a : Fin 128) :
    val_main_v53 (F := Ideal) px (ix2 t a) = (mixed (half X) 2 a t.val : EReal) := by
  pointwise [val_main_v53, val_main_v50, val_main_v48, val_main_v47, val_main_v40, val_main_v39, val_main_v49, val_main_v46, val_main_v52, val_main_v51]
  rw [lag2 px X hp, cnt2]
  have e := r5 px X hp ⟨t.val + 1, Nat.succ_lt_succ t.isLt⟩ 2 a
  have e' := r2 px X hp t 2 a
  unfold mixed
  rw [show past (cut fun s => half X s (lane 2 a)) (width 2) t.val = _ from (prefix_sub _ 7 t.val).symm, cut_lt _ _ t.isLt,
    EReal.coe_sub, ← div_coe_coe (count_pos _ _ (width_pos 2)).ne', EReal.coe_sub]
  exact congrArg₂ _ (congrArg₂ _ (congrArg₂ _ ((congrArg _ (by blk_point []; exact Fin.ext (Nat.add_comm _ _))).trans e) rfl) rfl) ((congrArg _ (by blk_point [])).trans e')

theorem cnt3 (t : Fin 4096) : val_main_v60 (F := Ideal) (ix1 t) = (count (width 3) t.val : EReal) := by
  pointwise [val_main_v60, val_main_v59, val_main_cst_8]
  rw [r8, k16_word]
  exact (EReal.coe_strictMono.monotone.map_min (a := (t.val : ℝ) + 1) (b := 16)).symm

theorem lag3 (hp : ∀ t k, px (ix2 t k) = (X t k : EReal)) (t : Fin 4096) (a : Fin 128) :
    val_main_v58 (F := Ideal) px (ix2 t a) = ((if t.val < 15 then 0 else ∑ s ∈ Finset.range (t.val - 15), cut (fun s => half X s (lane 3 a)) s : ℝ) : EReal) := by
  pointwise [val_main_v58, val_main_v56, val_main_cst_7, val_main_v57, val_main_v55, val_main_v54]
  split
  · rfl
  · exact r5 px X hp _ 3 a

theorem mix3 (hp : ∀ t k, px (ix2 t k) = (X t k : EReal)) (t : Fin 4096) (a : Fin 128) :
    val_main_v68 (F := Ideal) px (ix2 t a) = (mixed (half X) 3 a t.val : EReal) := by
  pointwise [val_main_v68, val_main_v65, val_main_v63, val_main_v62, val_main_v55, val_main_v54, val_main_v64, val_main_v61, val_main_v67, val_main_v66]
  rw [lag3 px X hp, cnt3]
  have e := r5 px X hp ⟨t.val + 1, Nat.succ_lt_succ t.isLt⟩ 3 a
  have e' := r2 px X hp t 3 a
  unfold mixed
  rw [show past (cut fun s => half X s (lane 3 a)) (width 3) t.val = _ from (prefix_sub _ 15 t.val).symm, cut_lt _ _ t.isLt,
    EReal.coe_sub, ← div_coe_coe (count_pos _ _ (width_pos 3)).ne', EReal.coe_sub]
  exact congrArg₂ _ (congrArg₂ _ (congrArg₂ _ ((congrArg _ (by blk_point []; exact Fin.ext (Nat.add_comm _ _))).trans e) rfl) rfl) ((congrArg _ (by blk_point [])).trans e')

theorem r73 (hp : ∀ t k, px (ix2 t k) = (X t k : EReal)) (t : Fin 4096) (g : Fin 4) (a : Fin 128) :
    val_main_v73 (F := Ideal) px (ix3 t g a) = (mixed (half X) g a t.val : EReal) := by
  fin_cases g
  all_goals pointwise [val_main_v73, val_main_v72, val_main_v71, val_main_v70, val_main_v69]
  · exact mix0 px X hp t a
  · exact mix1 px X hp t a
  · exact mix2 px X hp t a
  · exact mix3 px X hp t a

/-- The pooled lanes after the grouped matrix and the scale. -/
theorem r79 (hp : ∀ t k, px (ix2 t k) = (X t k : EReal)) (hw : ∀ g a d, w (ix3 g a d) = (M g a d : EReal)) (hs : ∀ z l, sc (ix2 z l) = (S l : EReal)) (t : Fin 4096) (g : Fin 4) (d : Fin 128) :
    val_main_v79 (F := Ideal) px w sc (ix2 t (lane g d)) = (((∑ a, mixed (half X) g a t.val * M g a d) * S (lane g d) : ℝ) : EReal) := by
  pointwise [val_main_v79, val_main_v78, val_main_v77, val_main_v76, val_main_v75, val_main_v74]
  simp only [lane_div, lane_mod, r73 px X hp, hw, hs, ← EReal.coe_mul, sum_coe]
  congr 2
  exact Finset.sum_congr rfl fun a _ => mul_comm _ _

end Cert.PoolFwd.Ref
-- ==== Proof.PoolFwd.lean ====
/-
  The forward kernel of the pooling branch computes the causal window means, the grouped product and the scale: the equation of the two programs on finite arguments.
-/
module

public import proofs.«01_k».proof.Defs
public import proofs.«01_k».proof.Proof.PoolFwdArrays
public import proofs.«01_k».proof.Proof.PoolFwdReference

@[expose] public section

set_option maxRecDepth 16384

noncomputable section

namespace Cert.PoolFwd

open Idealize.ShloMosaic Idealize.ShloMosaic.TcCoe Idealize.SL.Sem
open Cert.Reals
open Cert.Pool (half lane grp col lane_grp grp_lane col_lane)

/-- The side conditions of the precondition's own program. -/
instance preFacts : Cert.Pre_finite_poolfwd.Facts := ⟨by decide, by decide, by decide⟩

/-- Finite arguments are casts of real arrays: the projections, the grouped matrix and the scale. -/
theorem reals (m : (ℓ : Loc Cert.Kernel13Ideal.nD Cert.Kernel13Ideal.τ Cert.Kernel13Ideal.sig) → Buf (Elt Ideal) ℓ) (h : Cert.Pre_Kernel13Ideal_finite_poolfwd m) (c : Dev Cert.Kernel13Ideal.nD) :
    ∃ (X : Fin 4096 → Fin 1024 → ℝ) (M : Fin 4 → Fin 128 → Fin 128 → ℝ) (S : Fin 512 → ℝ),
      (∀ t k, m ((c : Thread Cert.Kernel13Ideal.nD Cert.Kernel13Ideal.τ).loc Cert.Kernel13Ideal.main_arg0) (ix2 t k) = (X t k : EReal)) ∧ (∀ g a d, m ((c : Thread Cert.Kernel13Ideal.nD Cert.Kernel13Ideal.τ).loc Cert.Kernel13Ideal.main_arg1) (ix3 g a d) = (M g a d : EReal)) ∧ (∀ z l, m ((c : Thread Cert.Kernel13Ideal.nD Cert.Kernel13Ideal.τ).loc Cert.Kernel13Ideal.main_arg2) (ix2 z l) = (S l : EReal)) := by
  obtain ⟨h0, h1, h2⟩ := h c
  refine ⟨_, _, fun l => (m ((c : Thread Cert.Kernel13Ideal.nD Cert.Kernel13Ideal.τ).loc Cert.Kernel13Ideal.main_arg2) (ix2 0 l)).toReal, fun i k => (real_of_lt (congrFun h0 (ix2 i k))).symm, fun g a d => (real_of_lt (congrFun h1 (ix3 g a d))).symm, fun z l => ?_⟩
  obtain rfl : z = 0 := Subsingleton.elim _ _
  exact (real_of_lt (congrFun h2 (ix2 0 l))).symm

set_option maxHeartbeats 4000000 in
theorem algebraic : Cert.algebraic_Kernel13Ideal_Reference13Ideal_pre_finite_poolfwd := by
  intro m ρ m' ρ' hp heq
  refine ⟨fun c => (Cert.Kernel13Ideal.Gen.dats m 0 c).arrAt 4 Cert.Kernel13Ideal.cfg0.N, Cert.Kernel13Ideal.Value.run_blocks m ρ, ?_⟩
  refine (θ_run Cert.Reference13Ideal.defs _ _).mono (fun r h c => ?_) (Cert.Reference13Ideal.Value.run m' ρ')
  obtain ⟨hv, ha0, ha1, ha2⟩ := h c
  obtain ⟨e0, e1, e2⟩ := heq c
  obtain ⟨X, M, S, hx, hw, hs⟩ := reals m hp c
  refine ⟨(hv.trans (Cert.Reference13Ideal.Read.val_main_v79_eq _ _)).trans (Eq.trans ?_ (final4 m c X M S hx hw hs).symm), ha0, ha1, ha2⟩
  rw [e0, e1, e2]
  funext j
  idx_vars j
  obtain ⟨g, a, rfl⟩ : ∃ g a, j1 = lane g a := ⟨grp j1, col j1, (lane_grp j1).symm⟩
  refine (Ref.r79 _ _ _ X M S hx hw hs j0 g a).trans (congrArg (fun r : ℝ => (r : EReal)) ?_)
  show _ = outv _ M S (lane g a) j0.val
  rw [outv, grp_lane, col_lane]
  rfl

end Cert.PoolFwd
-- ==== Proof.WindowChunk.lean ====
/-
  A running sum inside the chunks: the host's window sum along the third of four axes, read as a sum of real numbers.
-/
module

public import Idealize.ShloMosaic.Lib.Pipeline.ValueKit
public import proofs.«01_k».proof.Proof.Window

@[expose] public section

noncomputable section

namespace Cert.Window

open Idealize.ShloMosaic Idealize.ShloMosaic.TcCoe
open Cert.Reals

/-- A window along the third of four axes. -/
theorem sum_third (N : ℕ) (g : (⟨4, ![1, 1, N, 1]⟩ : Shape).Idx → EReal) : ∑ w, g w = ∑ n : Fin N, g (ix4 (0 : Fin 1) (0 : Fin 1) n (0 : Fin 1)) := by
  refine (Function.Bijective.sum_comp (e := fun n : Fin N => (ix4 (0 : Fin 1) (0 : Fin 1) n (0 : Fin 1) : (⟨4, ![1, 1, N, 1]⟩ : Shape).Idx)) ⟨fun a b e => ?_, fun w => ⟨w 2, ?_⟩⟩ g).symm
  · exact congrFun e 2
  · funext a
    fin_cases a
    · exact (Subsingleton.elim (α := Fin 1) _ _)
    · exact (Subsingleton.elim (α := Fin 1) _ _)
    · rfl
    · exact (Subsingleton.elim (α := Fin 1) _ _)

/-- The running sum along the third axis. -/
theorem prefix_third (A B N C : ℕ) (M : ℕ) (hM : M + 1 = N) (x : (⟨4, ![A, B, N, C]⟩ : Shape).Idx → EReal) (X : Fin A → Fin B → ℕ → Fin C → ℝ)
    (hx : ∀ a b (i : Fin N) c, x (ix4 a b i c) = (X a b i.val c : EReal))
    (h : (⟨4, ![A, B, N, C]⟩ : Shape).ReduceWindows ![1, 1, N, 1] ![1, 1, 1, 1] ![0, 0, M, 0] ![0, 0, 0, 0] ⟨4, ![A, B, N, C]⟩)
    (a : Fin A) (b : Fin B) (t : Fin N) (c : Fin C) :
    Ideal.hostReduceWindowAdd ![1, 1, N, 1] ![1, 1, 1, 1] ![0, 0, M, 0] ![0, 0, 0, 0] h x 0 (ix4 a b t c)
      = ((∑ r : Fin N, (if r.val ≤ t.val then 1 else 0) * X a b r.val c : ℝ) : EReal) := by
  have key : ∀ n : Fin N, (if hin : ∀ k : Fin 4, (![0, 0, M, 0] : Fin 4 → ℕ) k ≤ (ix4 a b t c (k.cast h.1.symm)).val * (![1, 1, 1, 1] : Fin 4 → ℕ) k + ((ix4 (0 : Fin 1) (0 : Fin 1) n (0 : Fin 1) : (⟨4, ![1, 1, N, 1]⟩ : Shape).Idx) k).val
              ∧ (ix4 a b t c (k.cast h.1.symm)).val * (![1, 1, 1, 1] : Fin 4 → ℕ) k + ((ix4 (0 : Fin 1) (0 : Fin 1) n (0 : Fin 1) : (⟨4, ![1, 1, N, 1]⟩ : Shape).Idx) k).val - (![0, 0, M, 0] : Fin 4 → ℕ) k < (![A, B, N, C] : Fin 4 → ℕ) k
          then x (fun k => ⟨_, (hin k).2⟩) else 0)
      = ((if M ≤ t.val + n.val then X a b (t.val + n.val - M) c else 0 : ℝ) : EReal) := by
    intro n
    have ht := t.isLt; have hn := n.isLt; have ha := a.isLt; have hb := b.isLt; have hc := c.isLt
    split
    · next hin =>
      have h0 := hin 2
      change M ≤ t.val * 1 + n.val ∧ t.val * 1 + n.val - M < N at h0
      rw [if_pos (by omega), ← hx a b ⟨t.val + n.val - M, by omega⟩]
      refine congrArg x (funext fun k => Fin.ext ?_)
      fin_cases k
      · show a.val * 1 + 0 - 0 = a.val; omega
      · show b.val * 1 + 0 - 0 = b.val; omega
      · show t.val * 1 + n.val - M = t.val + n.val - M; omega
      · show c.val * 1 + 0 - 0 = c.val; omega
    · next hin =>
      rw [if_neg fun hle => hin fun k => ?_]
      · rfl
      · fin_cases k
        · show 0 ≤ a.val * 1 + 0 ∧ a.val * 1 + 0 - 0 < A; omega
        · show 0 ≤ b.val * 1 + 0 ∧ b.val * 1 + 0 - 0 < B; omega
        · show M ≤ t.val * 1 + n.val ∧ t.val * 1 + n.val - M < N; omega
        · show 0 ≤ c.val * 1 + 0 ∧ c.val * 1 + 0 - 0 < C; omega
  rw [window_apply, zero_add]
  refine (sum_third N _).trans ((Finset.sum_congr rfl fun n _ => key n).trans ?_)
  rw [sum_coe]
  congr 1
  have ht := t.isLt
  simp only [ite_mul, one_mul, zero_mul]
  rw [Fin.sum_univ_eq_sum_range (fun n => if M ≤ t.val + n then X a b (t.val + n - M) c else 0) N, ← Finset.sum_filter,
    Fin.sum_univ_eq_sum_range (fun r => if r ≤ t.val then X a b r c else 0) N, ← Finset.sum_filter]
  refine Finset.sum_bij' (fun n _ => t.val + n - M) (fun s _ => s + M - t.val) ?_ ?_ ?_ ?_ ?_ <;>
    simp only [Finset.mem_filter, Finset.mem_range] <;> intros <;> first | omega | rfl | trivial

end Cert.Window

end
-- ==== Proof.GlaFwdOps.lean ====
/-
  The gated linear attention's forward pass, tile by tile: each operation of the kernel on a matrix of real numbers
  gives a matrix of real numbers. Every lemma names the matrix the operation leaves.
-/
module

public import Idealize.ShloMosaic.Lib.Pipeline.ValueKit
public import Idealize.ShloMosaic.Lib.Pipeline.ReadBack
public import proofs.«01_k».proof.Proof.Reals
public import proofs.«01_k».proof.Proof.Sigmoid
public import proofs.«01_k».proof.Proof.Softmax
public import proofs.«01_k».proof.Proof.Window
public import proofs.«01_k».proof.Proof.Tiles
public import proofs.«01_k».proof.Proof.Gen.Kernel12Ideal.Skeleton

@[expose] public section

set_option maxRecDepth 16384

noncomputable section

namespace Cert.GlaFwd

open Cert.Kernel12Ideal Cert.Kernel12Ideal.Gen
open Idealize.ShloMosaic Idealize.ShloMosaic.TcCoe Idealize.SL.Sem
open Cert.Reals Cert.Sigmoid

/-- A matrix of real numbers, as an array. -/
def c2 {m n : ℕ} (P : Fin m → Fin n → ℝ) : (⟨2, ![m, n]⟩ : Shape).Idx → EReal := fun y => (P (y 0) (y 1) : EReal)

/-- A matrix under one unit axis. -/
def c3 {m n : ℕ} (P : Fin m → Fin n → ℝ) : (⟨3, ![1, m, n]⟩ : Shape).Idx → EReal := fun y => (P (y 1) (y 2) : EReal)

/-- A matrix under two unit axes. -/
def c4 {m n : ℕ} (P : Fin m → Fin n → ℝ) : (⟨4, ![1, 1, m, n]⟩ : Shape).Idx → EReal := fun y => (P (y 2) (y 3) : EReal)

/-- Four matrices. -/
def st (P : Fin 4 → Fin 256 → Fin 128 → ℝ) : (⟨3, ![4, 256, 128]⟩ : Shape).Idx → EReal := fun y => (P (y 0) (y 1) (y 2) : EReal)

/-- A row. -/
def row {n : ℕ} (P : Fin n → ℝ) : (⟨2, ![1, n]⟩ : Shape).Idx → EReal := fun y => (P (y 1) : EReal)

/-- A column. -/
def col {m : ℕ} (P : Fin m → ℝ) : (⟨2, ![m, 1]⟩ : Shape).Idx → EReal := fun y => (P (y 0) : EReal)

def addC {m n : ℕ} (P Q : Fin m → Fin n → ℝ) : Fin m → Fin n → ℝ := fun i j => P i j + Q i j
def subC {m n : ℕ} (P Q : Fin m → Fin n → ℝ) : Fin m → Fin n → ℝ := fun i j => P i j - Q i j
def mulC {m n : ℕ} (P Q : Fin m → Fin n → ℝ) : Fin m → Fin n → ℝ := fun i j => P i j * Q i j
def expC {m n : ℕ} (P : Fin m → Fin n → ℝ) : Fin m → Fin n → ℝ := fun i j => Real.exp (P i j)
def zeroC {m n : ℕ} : Fin m → Fin n → ℝ := fun _ _ => 0
def broC {m n : ℕ} (P : Fin n → ℝ) : Fin m → Fin n → ℝ := fun _ j => P j
def colC {m n : ℕ} (P : Fin m → ℝ) : Fin m → Fin n → ℝ := fun i _ => P i
def scaleC {m n : ℕ} (P : Fin m → Fin n → ℝ) : Fin m → Fin n → ℝ := fun i j => P i j * scale
/-- A row-major block of a matrix. -/
def subB {M N : ℕ} (m n o p : ℕ) (X : Fin M → Fin N → ℝ) : Fin m → Fin n → ℝ := fun i j =>
  if h : o + i.val < M ∧ p + j.val < N then X ⟨o + i.val, h.1⟩ ⟨p + j.val, h.2⟩ else 0
def subR {N : ℕ} (n p : ℕ) (X : Fin N → ℝ) : Fin n → ℝ := fun j => if h : p + j.val < N then X ⟨p + j.val, h⟩ else 0
/-- The sum down a column up to and with a row. -/
def preC {n : ℕ} (L : Fin 64 → Fin n → ℝ) : Fin 64 → Fin n → ℝ := fun s c => ∑ r, (if r.val ≤ s.val then 1 else 0) * L r c
/-- The sum of a column. -/
def totR {n : ℕ} (L : Fin 64 → Fin n → ℝ) : Fin n → ℝ := fun c => ∑ r, L r c
def expR {n : ℕ} (P : Fin n → ℝ) : Fin n → ℝ := fun j => Real.exp (P j)
/-- The first's transpose by the second. -/
def tmulC (V : Fin 64 → Fin 256 → ℝ) (K : Fin 64 → Fin 128 → ℝ) : Fin 256 → Fin 128 → ℝ := fun i j => ∑ s, V s i * K s j
/-- The first by the second's transpose. -/
def mulTC (Q : Fin 64 → Fin 128 → ℝ) (S : Fin 256 → Fin 128 → ℝ) : Fin 64 → Fin 256 → ℝ := fun s i => ∑ j, Q s j * S i j
def siluC {m n : ℕ} (G : Fin m → Fin n → ℝ) : Fin m → Fin n → ℝ := fun i j => G i j * sig (G i j)
/-- The logarithm of the decay: the log-sigmoid of an affine map, over sixteen. -/
def lsig (x : ℝ) : ℝ := (min x 0 - Real.log (1 + Real.exp (-|x|))) * (1 / 16)
def laC {p : ℕ} (Z : Fin 512 → Fin p → ℝ) (W : Fin p → Fin 512 → ℝ) (B : Fin 512 → ℝ) : Fin 512 → Fin 512 → ℝ :=
  fun r c => lsig (∑ l, Z r l * W l c + B c)
/-- The normed, gated output. -/
def ye (P : Fin 64 → Fin 256 → ℝ) (g : (⟨2, ![1, 256]⟩ : Shape).Idx → EReal) (S : Fin 64 → Fin 256 → ℝ) : (⟨2, ![64, 256]⟩ : Shape).Idx → EReal :=
  fun y => (P (y 0) (y 1) : EReal) * g (ix2 0 (y 1)) * (S (y 0) (y 1) : EReal)

theorem sixteenth_word : Ideal.ofBits .f32 0x3D800000#32 = ((1 / 16 : ℝ) : EReal) := by
  simp [Ideal.ofBits, Ideal.ieee, -EReal.coe_mul]; norm_num

theorem k256_word : Ideal.ofBits .f32 0x43800000#32 = ((256 : ℝ) : EReal) := by
  simp [Ideal.ofBits, Ideal.ieee, -EReal.coe_mul]; norm_num

section ew

variable {m n : ℕ} (P Q : Fin m → Fin n → ℝ)

theorem o_add : addf (F := Ideal) (φ := .f32) (s := ⟨2, ![m, n]⟩) (c2 P) (c2 Q) = c2 (addC P Q) := by
  funext y; exact (EReal.coe_add _ _).symm
theorem o_sub : subf (F := Ideal) (φ := .f32) (s := ⟨2, ![m, n]⟩) (c2 P) (c2 Q) = c2 (subC P Q) := by
  funext y; exact (EReal.coe_sub _ _).symm
theorem o_self : subf (F := Ideal) (φ := .f32) (s := ⟨2, ![m, n]⟩) (c2 P) (c2 P) = c2 zeroC := by
  rw [o_sub]; congr 1; funext i j; exact sub_self _
theorem o_mul : mulf (F := Ideal) (φ := .f32) (s := ⟨2, ![m, n]⟩) (c2 P) (c2 Q) = c2 (mulC P Q) := by
  funext y; exact (EReal.coe_mul _ _).symm
theorem o_exp : exp (F := Ideal) (φ := .f32) (s := ⟨2, ![m, n]⟩) (c2 P) = c2 (expC P) := rfl
theorem o_trunc (h) : truncf (F := Ideal) (φ := .f32) (s := ⟨2, ![m, n]⟩) .bf16 (c2 P) h = c2 P := rfl
theorem o_ext (h) : extf (F := Ideal) (φ := .bf16) (s := ⟨2, ![m, n]⟩) .f32 (c2 P) h = c2 P := rfl
theorem o_add0 : c2 (addC P zeroC) = c2 P := by congr 1; funext i j; exact add_zero _
theorem o_sub0 : c2 (subC P P) = c2 zeroC := by congr 1; funext i j; exact sub_self _

end ew

theorem o_expr {n : ℕ} (P : Fin n → ℝ) : exp (F := Ideal) (φ := .f32) (s := ⟨2, ![1, n]⟩) (row P) = row (expR P) := rfl

theorem o_scale (P : Fin 64 → Fin 128 → ℝ) : mulf (F := Ideal) (φ := .f32) (s := S64x128) (c2 P) (broadcast S64x128 (Scalar.ofBits (F := Ideal) .f32 0x3DB504F3#32)) = c2 (scaleC P) := by
  funext y
  refine Eq.trans ?_ (EReal.coe_mul (P (y 0) (y 1)) scale).symm
  rw [← scale_word]
  rfl

section casts

variable (P : Fin 256 → Fin 128 → ℝ)

theorem o_cast42 (h) : shapeCast (α := Ideal .f32) (s := S1x1x256x128) S256x128 (c4 P) h = c2 P := by
  funext y; idx_vars y; pointwise [c4, c2]
theorem o_cast42b (h) : shapeCast (α := Ideal .bf16) (s := S1x1x256x128) S256x128 (c4 P) h = c2 P := by
  funext y; idx_vars y; pointwise [c4, c2]
theorem o_cast24 (h) : shapeCast (α := Ideal .f32) (s := S256x128) S1x1x256x128 (c2 P) h = c4 P := by
  funext y; idx_vars y; pointwise [c4, c2]
theorem o_cast24b (h) : shapeCast (α := Ideal .bf16) (s := S256x128) S1x1x256x128 (c2 P) h = c4 P := by
  funext y; idx_vars y; pointwise [c4, c2]
theorem o_cast32 (h) : shapeCast (α := Ideal .f32) (s := S1x256x128) S256x128 (c3 P) h = c2 P := by
  funext y; idx_vars y; pointwise [c3, c2]
theorem o_cast23 (h) : shapeCast (α := Ideal .f32) (s := S256x128) S1x256x128 (c2 P) h = c3 P := by
  funext y; idx_vars y; pointwise [c3, c2]

end casts

theorem o_castk (P : Fin 64 → Fin 128 → ℝ) (h) : shapeCast (α := Ideal .bf16) (s := S64x128) S64x128 (c2 P) h = c2 P := by
  funext y; idx_vars y; pointwise [c2]
theorem o_castv (P : Fin 64 → Fin 256 → ℝ) (h) : shapeCast (α := Ideal .bf16) (s := S64x256) S64x256 (c2 P) h = c2 P := by
  funext y; idx_vars y; pointwise [c2]
theorem o_castr (P : Fin 512 → ℝ) (h) : shapeCast (α := Ideal .f32) (s := S1x512) S1x512 (row P) h = row P := by
  funext y; idx_vars y; pointwise [row]

theorem o_bro128 (P : Fin 128 → ℝ) (h) : broadcastTo (α := Ideal .f32) (s := S1x128) S256x128 (row P) h = c2 (broC P) := by
  funext y; idx_vars y; pointwise [row, c2, broC]
theorem o_bro512 (P : Fin 512 → ℝ) (h) : broadcastTo (α := Ideal .f32) (s := S1x512) S64x512 (row P) h = c2 (broC P) := by
  funext y; idx_vars y; pointwise [row, c2, broC]
theorem o_brocol (P : Fin 64 → ℝ) (h) : broadcastTo (α := Ideal .f32) (s := S64x1) S64x256 (col P) h = c2 (colC P) := by
  funext y; idx_vars y; pointwise [col, c2, colC]

theorem o_slice0 (P : Fin 64 → Fin 512 → ℝ) (h) : extractStridedSlice (α := Ideal .f32) (s := S64x512) S64x128 ![0, 0] (c2 P) h = c2 (subB 64 128 0 0 P) := by
  funext y; idx_vars y; pointwise [c2, subB]
  split
  · congr 1
  · omega
theorem o_slice1 (P : Fin 64 → Fin 512 → ℝ) (h) : extractStridedSlice (α := Ideal .f32) (s := S64x512) S64x128 ![0, 128] (c2 P) h = c2 (subB 64 128 0 128 P) := by
  funext y; idx_vars y; pointwise [c2, subB]
  split
  · congr 1
  · omega
theorem o_slice2 (P : Fin 64 → Fin 512 → ℝ) (h) : extractStridedSlice (α := Ideal .f32) (s := S64x512) S64x128 ![0, 256] (c2 P) h = c2 (subB 64 128 0 256 P) := by
  funext y; idx_vars y; pointwise [c2, subB]
  split
  · congr 1
  · omega
theorem o_slice3 (P : Fin 64 → Fin 512 → ℝ) (h) : extractStridedSlice (α := Ideal .f32) (s := S64x512) S64x128 ![0, 384] (c2 P) h = c2 (subB 64 128 0 384 P) := by
  funext y; idx_vars y; pointwise [c2, subB]
  split
  · congr 1
  · omega

theorem sge_at : ∀ s r : Fin 64, IntOp.cmpi .sge (BitVec.ofNat 32 s.val) (BitVec.ofNat 32 r.val) = if r.val ≤ s.val then 1#1 else 0#1 := by
  decide +kernel

theorem tri_at (s r : Fin 64) : k0_pay5 (F := Ideal) (ix2 s r) = ((if r.val ≤ s.val then 1 else 0 : ℝ) : EReal) := by
  pointwise [k0_pay5, k0_pay4]
  rw [sge_at]
  split
  · exact (Cert.Window.sitofp_ofNat 1 (by norm_num)).trans (by norm_num)
  · exact (Cert.Window.sitofp_ofNat 0 (by norm_num)).trans (by norm_num)

theorem o_tri (L : Fin 64 → Fin 512 → ℝ) : matmul (F := Ideal) (φ₁ := .bf16) (φ₂ := .bf16) dot_S64x64_S64x512_S64x512_1_0_0_1_n_n none (k0_pay5 (F := Ideal)) (c2 L) (constant (F := Ideal) S64x512 .f32 0x00000000#32) = c2 (preC L) := by
  funext y; idx_vars y
  have ht := tri_at
  generalize k0_pay5 (F := Ideal) = T at ht
  pointwise [c2, preC]
  simp only [ht, ← EReal.coe_mul, sum_coe]
  rfl

theorem o_tri2 (L : Fin 64 → Fin 512 → ℝ) (h) : matmul (F := Ideal) (φ₁ := .bf16) (φ₂ := .bf16) dot_S64x64_S64x512_S64x512_1_0_0_1_n_n none (truncf (F := Ideal) (φ := .f32) (s := S64x64) .bf16 (k0_pay4 (F := Ideal)) h) (c2 L) (constant (F := Ideal) S64x512 .f32 0x00000000#32) = c2 (preC L) :=
  o_tri L

theorem preC_zero {n : ℕ} : preC (n := n) zeroC = zeroC := by
  funext s c; exact Finset.sum_eq_zero fun r _ => mul_zero _

theorem o_tot (L : Fin 64 → Fin 512 → ℝ) (h h1 h2 h3) : shapeCast (α := Ideal .f32) (s := S512) S1x512 (multiReduction (F := Ideal) (s := S64x512) .add ([(0 : Fin S64x512.rank)] : List (Fin 2)) S512 (c2 L) 0x00000000#32 h h1 h2) h3 = row (totR L) := by
  funext y; idx_vars y; pointwise [c2, row, totR]
  simp only [sum_coe]

theorem o_u (V : Fin 64 → Fin 256 → ℝ) (K : Fin 64 → Fin 128 → ℝ) : matmul (F := Ideal) (φ₁ := .bf16) (φ₂ := .bf16) dot_S64x256_S64x128_S256x128_0_0_1_1_n_n none (c2 V) (c2 K) (constant (F := Ideal) S256x128 .f32 0x00000000#32) = c2 (tmulC V K) := by
  funext y; idx_vars y; pointwise [c2, tmulC]
  simp only [← EReal.coe_mul, sum_coe]

theorem o_o (Q : Fin 64 → Fin 128 → ℝ) (S : Fin 256 → Fin 128 → ℝ) : matmul (F := Ideal) (φ₁ := .bf16) (φ₂ := .bf16) dot_S64x128_S256x128_S64x256_1_1_0_0_n_n none (c2 Q) (c2 S) (constant (F := Ideal) S64x256 .f32 0x00000000#32) = c2 (mulTC Q S) := by
  funext y; idx_vars y; pointwise [c2, mulTC]
  simp only [← EReal.coe_mul, sum_coe]

theorem o_rinv (O : Fin 64 → Fin 256 → ℝ) (h h1 h2 h3) : rsqrt (F := Ideal) (φ := .f32) (s := S64x1) (addf (divf (shapeCast (α := Ideal .f32) (s := S64) S64x1 (multiReduction (F := Ideal) (s := S64x256) .add ([(1 : Fin S64x256.rank)] : List (Fin 2)) S64 (c2 (mulC O O)) 0x00000000#32 h h1 h2) h3)
      (broadcast S64x1 (Scalar.ofBits (F := Ideal) .f32 0x43800000#32))) (broadcast S64x1 (Scalar.ofBits (F := Ideal) .f32 0x358637BD#32))) = col fun s => rinv (O s) := by
  funext y; idx_vars y; pointwise [c2, col, mulC]
  simp only [k256_word, eps_word, sum_coe]
  rw [div_coe_coe (by norm_num), ← EReal.coe_add]
  exact rsqrt_pos (msq_pos _)

theorem o_silu (G : Fin 64 → Fin 256 → ℝ) : mulf (F := Ideal) (φ := .f32) (s := S64x256) (c2 G) (addf (mulf (broadcast S64x256 (Scalar.ofBits (F := Ideal) .f32 0x3F000000#32)) (tanh (mulf (broadcast S64x256 (Scalar.ofBits (F := Ideal) .f32 0x3F000000#32)) (c2 G)))) (broadcast S64x256 (Scalar.ofBits (F := Ideal) .f32 0x3F000000#32))) = c2 (siluC G) := by
  funext y; idx_vars y; pointwise [c2, siluC]
  rw [half_word, sg_tanh, sg_coe, ← EReal.coe_mul]

theorem o_ye (P S : Fin 64 → Fin 256 → ℝ) (g : (⟨2, ![1, 256]⟩ : Shape).Idx → EReal) (h h1) : truncf (F := Ideal) (φ := .f32) (s := S64x256) .bf16 (mulf (mulf (c2 P) (broadcastTo (α := Ideal .f32) (s := S1x256) S64x256 g h)) (c2 S)) h1 = ye P g S := by
  funext y; idx_vars y; pointwise [c2, ye]

theorem lsig_at (x : ℝ) : (min (x : EReal) 0 - Ideal.log (1 + Ideal.exp (0 - FloatOps.absf (F := Ideal) (φ := .f32) (x : EReal)))) * ((1 / 16 : ℝ) : EReal) = (lsig x : EReal) := by
  have ha : FloatOps.absf (F := Ideal) (φ := .f32) (x : EReal) = ((|x| : ℝ) : EReal) := by
    rw [Ideal.absf_def, ← EReal.coe_neg, ← EReal.coe_strictMono.monotone.map_max]; rfl
  have hp : ¬ (1 + Real.exp (-|x|)) ≤ 0 := not_le.mpr (by positivity)
  rw [ha, zero_sub, ← EReal.coe_neg, Ideal.exp_coe, ← EReal.coe_one, ← EReal.coe_add, Ideal.log_coe, if_neg hp, ← EReal.coe_zero,
    ← EReal.coe_strictMono.monotone.map_min, ← EReal.coe_sub, ← EReal.coe_mul]
  rfl

theorem o_la (Z : Fin 512 → Fin 128 → ℝ) (W : Fin 128 → Fin 512 → ℝ) (B : Fin 512 → ℝ) : k0_pay3 (F := Ideal) (c2 Z) (c2 W) (row B) = c2 (laC Z W B) := by
  funext y; idx_vars y; pointwise [k0_pay3, c2, row, laC]
  simp only [sixteenth_word, ← EReal.coe_mul, sum_coe, ← EReal.coe_add]
  exact lsig_at _

section lds
variable {e : EltTy}
theorem ld_c2 {M N : ℕ} (m n o p : ℕ) (X : Fin M → Fin N → ℝ) (inb : ∀ k, (![o, p] : Fin 2 → ℕ) k + (![m, n] : Fin 2 → ℕ) k ≤ (⟨2, ![M, N]⟩ : Shape).size k) :
    (View.ld (Val := Elt Ideal) (e' := .f32) (c2 X) (Rect.unit (s := ⟨2, ![M, N]⟩) ![o, p] ![m, n] inb) : (⟨2, ![m, n]⟩ : Shape).Idx → EReal) = c2 (subB m n o p X) := by
  funext y
  have h0 : o + m ≤ M := inb 0
  have h1 : p + n ≤ N := inb 1
  have h2 : (y 0).val < m := (y 0).isLt
  have h3 : (y 1).val < n := (y 1).isLt
  show ((X _ _ : ℝ) : EReal) = (subB m n o p X (y 0) (y 1) : EReal)
  unfold subB
  rw [dif_pos ⟨by omega, by omega⟩]
  congr 2
  · exact Fin.ext (by simp)
  · exact Fin.ext (by simp)
theorem ld_c2b {M N : ℕ} (m n o p : ℕ) (X : Fin M → Fin N → ℝ) (inb : ∀ k, (![o, p] : Fin 2 → ℕ) k + (![m, n] : Fin 2 → ℕ) k ≤ (⟨2, ![M, N]⟩ : Shape).size k) :
    (View.ld (Val := Elt Ideal) (e' := .bf16) (c2 X) (Rect.unit (s := ⟨2, ![M, N]⟩) ![o, p] ![m, n] inb) : (⟨2, ![m, n]⟩ : Shape).Idx → EReal) = c2 (subB m n o p X) :=
  ld_c2 m n o p X inb
theorem ld_st (S : Fin 4 → Fin 256 → Fin 128 → ℝ) (h : ℕ) (hh : h < 4) (inb : ∀ k, (![h, 0, 0] : Fin 3 → ℕ) k + (![1, 256, 128] : Fin 3 → ℕ) k ≤ (S4x256x128 : Shape).size k) :
    (View.ld (Val := Elt Ideal) (e' := .f32) (st S) (Rect.unit (s := S4x256x128) ![h, 0, 0] ![1, 256, 128] inb) : (S1x256x128 : Shape).Idx → EReal) = c3 (S ⟨h, hh⟩) := by
  funext y
  have h2 : (y 0).val < 1 := (y 0).isLt
  have e0 : (Rect.unit (s := S4x256x128) ![h, 0, 0] ![1, 256, 128] inb).idx y 0 = (⟨h, hh⟩ : Fin 4) := Fin.ext (by simp)
  have e1 : (Rect.unit (s := S4x256x128) ![h, 0, 0] ![1, 256, 128] inb).idx y 1 = y 1 := Fin.ext (by simp)
  have e2 : (Rect.unit (s := S4x256x128) ![h, 0, 0] ![1, 256, 128] inb).idx y 2 = y 2 := Fin.ext (by simp)
  show ((S ((Rect.unit (s := S4x256x128) ![h, 0, 0] ![1, 256, 128] inb).idx y 0) ((Rect.unit (s := S4x256x128) ![h, 0, 0] ![1, 256, 128] inb).idx y 1) ((Rect.unit (s := S4x256x128) ![h, 0, 0] ![1, 256, 128] inb).idx y 2) : ℝ) : EReal) = (S ⟨h, hh⟩ (y 1) (y 2) : EReal)
  rw [e0, e1, e2]
theorem readCov_dec {sp : Space} (v : View sig .tc sp S8x512 .f32) (D : Fin 512 → ℝ) (L : List (View.Piece (Elt Ideal) S8x512 .f32)) (k o : ℕ)
    (inb : ∀ a, (![k, 0] : Fin 2 → ℕ) a + (![1, 512] : Fin 2 → ℕ) a ≤ (S8x512 : Shape).size a)
    (inb' : ∀ a, (![k, o] : Fin 2 → ℕ) a + (![1, 128] : Fin 2 → ℕ) a ≤ (S8x512 : Shape).size a) :
    (v.readCov (⟨Rect.unit (s := S8x512) ![k, 0] ![1, 512] inb, row D⟩ :: L) (Rect.unit (s := S8x512) ![k, o] ![1, 128] inb').toLoadRect : (S1x128 : Shape).Idx → EReal) = row (subR 128 o D) := by
  funext y
  have h0 : k + 1 ≤ 8 := inb 0
  have h1 : o + 128 ≤ 512 := inb' 1
  have h3 : (y 1).val < 128 := (y 1).isLt
  have h2 : (y 0).val < 1 := (y 0).isLt
  have e : y = ix2 (0 : Fin 1) (y 1) := by
    funext a
    fin_cases a
    · exact Fin.ext (Nat.lt_one_iff.mp h2)
    · rfl
  rw [e]
  refine (Cert.Tiles.readCov_at v _ inb' ⟨k, by omega⟩ ⟨o + (y 1).val, by omega⟩ (0 : Fin 1) (y 1) (by simp) (by simp)).trans ?_
  refine (Cert.Tiles.canon_in inb _ L ⟨k, by omega⟩ ⟨o + (y 1).val, by omega⟩ (0 : Fin 1) ⟨o + (y 1).val, by omega⟩ (by simp) (by simp)).trans ?_
  show ((D ⟨o + (y 1).val, by omega⟩ : ℝ) : EReal) = (subR 128 o D (y 1) : EReal)
  unfold subR
  rw [dif_pos (by omega)]
end lds
theorem addC_zero {m n : ℕ} (P : Fin m → Fin n → ℝ) : addC P zeroC = P := by
  funext i j; exact add_zero _

theorem o_fill : k0_pay2 (F := Ideal) = st fun _ => zeroC := by
  funext y; idx_vars y; pointwise [k0_pay2, st, zeroC]
  rfl

end Cert.GlaFwd
-- ==== Proof.GlaFwdSpec.lean ====
/-
  What one tile of 512 rows of the gated linear attention's forward kernel leaves: the states before and after each
  of its eight chunks, the outputs, their normed and gated form, and the state it hands on.
-/
module

public import Idealize.ShloMosaic.Lib.Pipeline.ValueKit
public import Idealize.ShloMosaic.Lib.Pipeline.ReadBack
public import proofs.«01_k».proof.Proof.GlaFwdOps
public import proofs.«01_k».proof.Proof.Gen.Kernel12Ideal.Frame

@[expose] public section

set_option maxRecDepth 100000
set_option backward.isDefEq.respectTransparency false

noncomputable section

namespace Cert.GlaFwd

open Cert.Kernel12Ideal Cert.Kernel12Ideal.Gen
open Idealize.ShloMosaic Idealize.ShloMosaic.TcCoe Idealize.SL.Sem
open Cert.Reals Cert.Sigmoid

section spec

variable (Z : Fin 512 → Fin 3200 → ℝ) (L : Fin 512 → Fin 512 → ℝ) (S : Fin 4 → Fin 256 → Fin 128 → ℝ)

/-- The decay of a chunk of rows from `r` on, the lanes from `o` on. -/
def kD (r o : ℕ) : Fin 128 → ℝ := subR 128 o (expR (totR (subB 64 512 r 0 L)))
/-- What a chunk adds to a head's state. -/
def kU (r o p q : ℕ) : Fin 256 → Fin 128 → ℝ :=
  tmulC (subB 64 256 r p Z) (mulC (subB 64 128 r q Z)
    (subB 64 128 0 o (expC (subC (broC (totR (subB 64 512 r 0 L))) (preC (subB 64 512 r 0 L))))))
/-- One chunk's step of a head's state. -/
def stepS (r o p q : ℕ) (X : Fin 256 → Fin 128 → ℝ) : Fin 256 → Fin 128 → ℝ := addC (mulC X (broC (kD L r o))) (kU Z L r o p q)
/-- A head's state before the chunk `ci`. -/
def kS : ℕ → Fin 4 → Fin 256 → Fin 128 → ℝ
  | 0, hd => S hd
  | ci + 1, hd => stepS Z L (64 * ci) (128 * hd.val) (1024 + 256 * hd.val) (512 + 128 * hd.val) (kS ci hd)
/-- A head's output of a chunk. -/
def kO (ci : ℕ) (hd : Fin 4) : Fin 64 → Fin 256 → ℝ := mulTC (scaleC (subB 64 128 (64 * ci) (128 * hd.val) Z)) (kS Z L S (ci + 1) hd)

theorem f_D (r o : ℕ) : subR 128 o (expR (totR (subB 64 512 r 0 L))) = kD L r o := rfl
theorem f_U (r o p q : ℕ) : tmulC (subB 64 256 r p Z) (mulC (subB 64 128 r q Z)
    (subB 64 128 0 o (expC (subC (broC (totR (subB 64 512 r 0 L))) (preC (subB 64 512 r 0 L)))))) = kU Z L r o p q := rfl
theorem f_step (r o p q : ℕ) (X : Fin 256 → Fin 128 → ℝ) : addC (mulC X (broC (kD L r o))) (kU Z L r o p q) = stepS Z L r o p q X := rfl

theorem g_S (ci r o p q : ℕ) (hd : Fin 4) (hr : r = 64 * ci) (ho : o = 128 * hd.val) (hp : p = 1024 + 256 * hd.val) (hq : q = 512 + 128 * hd.val) :
    stepS Z L r o p q (kS Z L S ci hd) = kS Z L S (ci + 1) hd := by subst hr ho hp hq; rfl
theorem g_O (ci r o : ℕ) (hd : Fin 4) (hr : r = 64 * ci) (ho : o = 128 * hd.val) :
    mulTC (scaleC (subB 64 128 r o Z)) (kS Z L S (ci + 1) hd) = kO Z L S ci hd := by subst hr ho; rfl

/-- The chunks' states, folded. -/
theorem foldS :
    stepS Z L 0 0 1024 512 (S ⟨0, by decide⟩) = kS Z L S 1 0 ∧
    stepS Z L 0 128 1280 640 (S ⟨1, by decide⟩) = kS Z L S 1 1 ∧
    stepS Z L 0 256 1536 768 (S ⟨2, by decide⟩) = kS Z L S 1 2 ∧
    stepS Z L 0 384 1792 896 (S ⟨3, by decide⟩) = kS Z L S 1 3 ∧
    stepS Z L 64 0 1024 512 (kS Z L S 1 0) = kS Z L S 2 0 ∧
    stepS Z L 64 128 1280 640 (kS Z L S 1 1) = kS Z L S 2 1 ∧
    stepS Z L 64 256 1536 768 (kS Z L S 1 2) = kS Z L S 2 2 ∧
    stepS Z L 64 384 1792 896 (kS Z L S 1 3) = kS Z L S 2 3 ∧
    stepS Z L 128 0 1024 512 (kS Z L S 2 0) = kS Z L S 3 0 ∧
    stepS Z L 128 128 1280 640 (kS Z L S 2 1) = kS Z L S 3 1 ∧
    stepS Z L 128 256 1536 768 (kS Z L S 2 2) = kS Z L S 3 2 ∧
    stepS Z L 128 384 1792 896 (kS Z L S 2 3) = kS Z L S 3 3 ∧
    stepS Z L 192 0 1024 512 (kS Z L S 3 0) = kS Z L S 4 0 ∧
    stepS Z L 192 128 1280 640 (kS Z L S 3 1) = kS Z L S 4 1 ∧
    stepS Z L 192 256 1536 768 (kS Z L S 3 2) = kS Z L S 4 2 ∧
    stepS Z L 192 384 1792 896 (kS Z L S 3 3) = kS Z L S 4 3 ∧
    stepS Z L 256 0 1024 512 (kS Z L S 4 0) = kS Z L S 5 0 ∧
    stepS Z L 256 128 1280 640 (kS Z L S 4 1) = kS Z L S 5 1 ∧
    stepS Z L 256 256 1536 768 (kS Z L S 4 2) = kS Z L S 5 2 ∧
    stepS Z L 256 384 1792 896 (kS Z L S 4 3) = kS Z L S 5 3 ∧
    stepS Z L 320 0 1024 512 (kS Z L S 5 0) = kS Z L S 6 0 ∧
    stepS Z L 320 128 1280 640 (kS Z L S 5 1) = kS Z L S 6 1 ∧
    stepS Z L 320 256 1536 768 (kS Z L S 5 2) = kS Z L S 6 2 ∧
    stepS Z L 320 384 1792 896 (kS Z L S 5 3) = kS Z L S 6 3 ∧
    stepS Z L 384 0 1024 512 (kS Z L S 6 0) = kS Z L S 7 0 ∧
    stepS Z L 384 128 1280 640 (kS Z L S 6 1) = kS Z L S 7 1 ∧
    stepS Z L 384 256 1536 768 (kS Z L S 6 2) = kS Z L S 7 2 ∧
    stepS Z L 384 384 1792 896 (kS Z L S 6 3) = kS Z L S 7 3 ∧
    stepS Z L 448 0 1024 512 (kS Z L S 7 0) = kS Z L S 8 0 ∧
    stepS Z L 448 128 1280 640 (kS Z L S 7 1) = kS Z L S 8 1 ∧
    stepS Z L 448 256 1536 768 (kS Z L S 7 2) = kS Z L S 8 2 ∧
    stepS Z L 448 384 1792 896 (kS Z L S 7 3) = kS Z L S 8 3 :=
  ⟨g_S Z L S 0 0 0 1024 512 0 rfl rfl rfl rfl, g_S Z L S 0 0 128 1280 640 1 rfl rfl rfl rfl, g_S Z L S 0 0 256 1536 768 2 rfl rfl rfl rfl, g_S Z L S 0 0 384 1792 896 3 rfl rfl rfl rfl, g_S Z L S 1 64 0 1024 512 0 rfl rfl rfl rfl, g_S Z L S 1 64 128 1280 640 1 rfl rfl rfl rfl, g_S Z L S 1 64 256 1536 768 2 rfl rfl rfl rfl, g_S Z L S 1 64 384 1792 896 3 rfl rfl rfl rfl, g_S Z L S 2 128 0 1024 512 0 rfl rfl rfl rfl, g_S Z L S 2 128 128 1280 640 1 rfl rfl rfl rfl, g_S Z L S 2 128 256 1536 768 2 rfl rfl rfl rfl, g_S Z L S 2 128 384 1792 896 3 rfl rfl rfl rfl, g_S Z L S 3 192 0 1024 512 0 rfl rfl rfl rfl, g_S Z L S 3 192 128 1280 640 1 rfl rfl rfl rfl, g_S Z L S 3 192 256 1536 768 2 rfl rfl rfl rfl, g_S Z L S 3 192 384 1792 896 3 rfl rfl rfl rfl, g_S Z L S 4 256 0 1024 512 0 rfl rfl rfl rfl, g_S Z L S 4 256 128 1280 640 1 rfl rfl rfl rfl, g_S Z L S 4 256 256 1536 768 2 rfl rfl rfl rfl, g_S Z L S 4 256 384 1792 896 3 rfl rfl rfl rfl, g_S Z L S 5 320 0 1024 512 0 rfl rfl rfl rfl, g_S Z L S 5 320 128 1280 640 1 rfl rfl rfl rfl, g_S Z L S 5 320 256 1536 768 2 rfl rfl rfl rfl, g_S Z L S 5 320 384 1792 896 3 rfl rfl rfl rfl, g_S Z L S 6 384 0 1024 512 0 rfl rfl rfl rfl, g_S Z L S 6 384 128 1280 640 1 rfl rfl rfl rfl, g_S Z L S 6 384 256 1536 768 2 rfl rfl rfl rfl, g_S Z L S 6 384 384 1792 896 3 rfl rfl rfl rfl, g_S Z L S 7 448 0 1024 512 0 rfl rfl rfl rfl, g_S Z L S 7 448 128 1280 640 1 rfl rfl rfl rfl, g_S Z L S 7 448 256 1536 768 2 rfl rfl rfl rfl, g_S Z L S 7 448 384 1792 896 3 rfl rfl rfl rfl⟩

/-- The chunks' outputs, folded. -/
theorem foldO :
    mulTC (scaleC (subB 64 128 0 0 Z)) (kS Z L S 1 0) = kO Z L S 0 0 ∧
    mulTC (scaleC (subB 64 128 0 128 Z)) (kS Z L S 1 1) = kO Z L S 0 1 ∧
    mulTC (scaleC (subB 64 128 0 256 Z)) (kS Z L S 1 2) = kO Z L S 0 2 ∧
    mulTC (scaleC (subB 64 128 0 384 Z)) (kS Z L S 1 3) = kO Z L S 0 3 ∧
    mulTC (scaleC (subB 64 128 64 0 Z)) (kS Z L S 2 0) = kO Z L S 1 0 ∧
    mulTC (scaleC (subB 64 128 64 128 Z)) (kS Z L S 2 1) = kO Z L S 1 1 ∧
    mulTC (scaleC (subB 64 128 64 256 Z)) (kS Z L S 2 2) = kO Z L S 1 2 ∧
    mulTC (scaleC (subB 64 128 64 384 Z)) (kS Z L S 2 3) = kO Z L S 1 3 ∧
    mulTC (scaleC (subB 64 128 128 0 Z)) (kS Z L S 3 0) = kO Z L S 2 0 ∧
    mulTC (scaleC (subB 64 128 128 128 Z)) (kS Z L S 3 1) = kO Z L S 2 1 ∧
    mulTC (scaleC (subB 64 128 128 256 Z)) (kS Z L S 3 2) = kO Z L S 2 2 ∧
    mulTC (scaleC (subB 64 128 128 384 Z)) (kS Z L S 3 3) = kO Z L S 2 3 ∧
    mulTC (scaleC (subB 64 128 192 0 Z)) (kS Z L S 4 0) = kO Z L S 3 0 ∧
    mulTC (scaleC (subB 64 128 192 128 Z)) (kS Z L S 4 1) = kO Z L S 3 1 ∧
    mulTC (scaleC (subB 64 128 192 256 Z)) (kS Z L S 4 2) = kO Z L S 3 2 ∧
    mulTC (scaleC (subB 64 128 192 384 Z)) (kS Z L S 4 3) = kO Z L S 3 3 ∧
    mulTC (scaleC (subB 64 128 256 0 Z)) (kS Z L S 5 0) = kO Z L S 4 0 ∧
    mulTC (scaleC (subB 64 128 256 128 Z)) (kS Z L S 5 1) = kO Z L S 4 1 ∧
    mulTC (scaleC (subB 64 128 256 256 Z)) (kS Z L S 5 2) = kO Z L S 4 2 ∧
    mulTC (scaleC (subB 64 128 256 384 Z)) (kS Z L S 5 3) = kO Z L S 4 3 ∧
    mulTC (scaleC (subB 64 128 320 0 Z)) (kS Z L S 6 0) = kO Z L S 5 0 ∧
    mulTC (scaleC (subB 64 128 320 128 Z)) (kS Z L S 6 1) = kO Z L S 5 1 ∧
    mulTC (scaleC (subB 64 128 320 256 Z)) (kS Z L S 6 2) = kO Z L S 5 2 ∧
    mulTC (scaleC (subB 64 128 320 384 Z)) (kS Z L S 6 3) = kO Z L S 5 3 ∧
    mulTC (scaleC (subB 64 128 384 0 Z)) (kS Z L S 7 0) = kO Z L S 6 0 ∧
    mulTC (scaleC (subB 64 128 384 128 Z)) (kS Z L S 7 1) = kO Z L S 6 1 ∧
    mulTC (scaleC (subB 64 128 384 256 Z)) (kS Z L S 7 2) = kO Z L S 6 2 ∧
    mulTC (scaleC (subB 64 128 384 384 Z)) (kS Z L S 7 3) = kO Z L S 6 3 ∧
    mulTC (scaleC (subB 64 128 448 0 Z)) (kS Z L S 8 0) = kO Z L S 7 0 ∧
    mulTC (scaleC (subB 64 128 448 128 Z)) (kS Z L S 8 1) = kO Z L S 7 1 ∧
    mulTC (scaleC (subB 64 128 448 256 Z)) (kS Z L S 8 2) = kO Z L S 7 2 ∧
    mulTC (scaleC (subB 64 128 448 384 Z)) (kS Z L S 8 3) = kO Z L S 7 3 :=
  ⟨g_O Z L S 0 0 0 0 rfl rfl, g_O Z L S 0 0 128 1 rfl rfl, g_O Z L S 0 0 256 2 rfl rfl, g_O Z L S 0 0 384 3 rfl rfl, g_O Z L S 1 64 0 0 rfl rfl, g_O Z L S 1 64 128 1 rfl rfl, g_O Z L S 1 64 256 2 rfl rfl, g_O Z L S 1 64 384 3 rfl rfl, g_O Z L S 2 128 0 0 rfl rfl, g_O Z L S 2 128 128 1 rfl rfl, g_O Z L S 2 128 256 2 rfl rfl, g_O Z L S 2 128 384 3 rfl rfl, g_O Z L S 3 192 0 0 rfl rfl, g_O Z L S 3 192 128 1 rfl rfl, g_O Z L S 3 192 256 2 rfl rfl, g_O Z L S 3 192 384 3 rfl rfl, g_O Z L S 4 256 0 0 rfl rfl, g_O Z L S 4 256 128 1 rfl rfl, g_O Z L S 4 256 256 2 rfl rfl, g_O Z L S 4 256 384 3 rfl rfl, g_O Z L S 5 320 0 0 rfl rfl, g_O Z L S 5 320 128 1 rfl rfl, g_O Z L S 5 320 256 2 rfl rfl, g_O Z L S 5 320 384 3 rfl rfl, g_O Z L S 6 384 0 0 rfl rfl, g_O Z L S 6 384 128 1 rfl rfl, g_O Z L S 6 384 256 2 rfl rfl, g_O Z L S 6 384 384 3 rfl rfl, g_O Z L S 7 448 0 0 rfl rfl, g_O Z L S 7 448 128 1 rfl rfl, g_O Z L S 7 448 256 2 rfl rfl, g_O Z L S 7 448 384 3 rfl rfl⟩

end spec

section pieces

theorem canon_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  simpa using View.canon_append_of_piecesOf G [] L h y hc

/-- A matrix for each chunk and head, as the array of them. -/
def all4 (T : Fin 8 → Fin 4 → Fin 256 → Fin 128 → ℝ) : S8x4x256x128.Idx → EReal := fun y => (T (y 0) (y 1) (y 2) (y 3) : EReal)

theorem at5 (T : Fin 8 → Fin 4 → Fin 256 → Fin 128 → ℝ) (ci : Fin 8) (hd : Fin 4) (inb) (x : (⟨4, ![1, 1, 256, 128]⟩ : Shape).Idx) :
    c4 (T ci hd) x = all4 T ((Rect.unit (s := S8x4x256x128) ![ci.val, hd.val, 0, 0] ![1, 1, 256, 128] inb).emb x) := by
  have h0 : (x 0).val < 1 := (x 0).isLt
  have h1 : (x 1).val < 1 := (x 1).isLt
  generalize hz : (Rect.unit (s := S8x4x256x128) ![ci.val, hd.val, 0, 0] ![1, 1, 256, 128] inb).emb x = z
  have e0 : z 0 = ci := by subst hz; exact Fin.ext (by simp)
  have e1 : z 1 = hd := by subst hz; exact Fin.ext (by simp)
  have e2 : z 2 = x 2 := by subst hz; exact Fin.ext (by simp)
  have e3 : z 3 = x 3 := by subst hz; exact Fin.ext (by simp)
  show ((T ci hd (x 2) (x 3) : ℝ) : EReal) = (T (z 0) (z 1) (z 2) (z 3) : EReal)
  rw [e0, e1, e2, e3]

/-- A tile of rows and lanes for each chunk and head, as the array of them. -/
def all2 (T : Fin 8 → Fin 4 → S64x256.Idx → EReal) : S512x1024.Idx → EReal := fun y =>
  T ⟨(y 0).val / 64, Nat.div_lt_of_lt_mul (y 0).isLt⟩ ⟨(y 1).val / 256, Nat.div_lt_of_lt_mul (y 1).isLt⟩
    (ix2 ⟨(y 0).val % 64, Nat.mod_lt _ (by decide)⟩ ⟨(y 1).val % 256, Nat.mod_lt _ (by decide)⟩)

theorem at7 (T : Fin 8 → Fin 4 → S64x256.Idx → EReal) (ci : Fin 8) (hd : Fin 4) {o p : ℕ} (ho : o = 64 * ci.val) (hp : p = 256 * hd.val) (inb) (x : S64x256.Idx) :
    T ci hd x = all2 T ((Rect.unit (s := S512x1024) ![o, p] ![64, 256] inb).emb x) := by
  have h0 : (x 0).val < 64 := (x 0).isLt
  have h1 : (x 1).val < 256 := (x 1).isLt
  generalize hz : (Rect.unit (s := S512x1024) ![o, p] ![64, 256] inb).emb x = z
  have e0 : (z 0).val = o + (x 0).val := by subst hz; simp
  have e1 : (z 1).val = p + (x 1).val := by subst hz; simp
  have a0 : (⟨(z 0).val / 64, Nat.div_lt_of_lt_mul (z 0).isLt⟩ : Fin 8) = ci := Fin.ext (by show (z 0).val / 64 = ci.val; omega)
  have a1 : (⟨(z 1).val / 256, Nat.div_lt_of_lt_mul (z 1).isLt⟩ : Fin 4) = hd := Fin.ext (by show (z 1).val / 256 = hd.val; omega)
  have b0 : (⟨(z 0).val % 64, Nat.mod_lt _ (by decide)⟩ : Fin 64) = x 0 := Fin.ext (by show (z 0).val % 64 = (x 0).val; omega)
  have b1 : (⟨(z 1).val % 256, Nat.mod_lt _ (by decide)⟩ : Fin 256) = x 1 := Fin.ext (by show (z 1).val % 256 = (x 1).val; omega)
  have hx : x = ix2 (x 0) (x 1) := by
    funext a
    fin_cases a <;> rfl
  show T ci hd x = T ⟨(z 0).val / 64, _⟩ ⟨(z 1).val / 256, _⟩ (ix2 ⟨(z 0).val % 64, _⟩ ⟨(z 1).val % 256, _⟩)
  rw [a0, a1, b0, b1, ← hx]

theorem pieces5 (T : Fin 8 → Fin 4 → Fin 256 → Fin 128 → ℝ) : View.PiecesOf (Val := Elt Ideal) (e := .f32) (all4 T)
    ([⟨Rect.unit (s := S8x4x256x128) ![7, 3, 0, 0] ![1, 1, 256, 128] inb_S8x4x256x128_S1x1x256x128_7_3_0_0, c4 (T 7 3)⟩,
      ⟨Rect.unit (s := S8x4x256x128) ![7, 2, 0, 0] ![1, 1, 256, 128] inb_S8x4x256x128_S1x1x256x128_7_2_0_0, c4 (T 7 2)⟩,
      ⟨Rect.unit (s := S8x4x256x128) ![7, 1, 0, 0] ![1, 1, 256, 128] inb_S8x4x256x128_S1x1x256x128_7_1_0_0, c4 (T 7 1)⟩,
      ⟨Rect.unit (s := S8x4x256x128) ![7, 0, 0, 0] ![1, 1, 256, 128] inb_S8x4x256x128_S1x1x256x128_7_0_0_0, c4 (T 7 0)⟩,
      ⟨Rect.unit (s := S8x4x256x128) ![6, 3, 0, 0] ![1, 1, 256, 128] inb_S8x4x256x128_S1x1x256x128_6_3_0_0, c4 (T 6 3)⟩,
      ⟨Rect.unit (s := S8x4x256x128) ![6, 2, 0, 0] ![1, 1, 256, 128] inb_S8x4x256x128_S1x1x256x128_6_2_0_0, c4 (T 6 2)⟩,
      ⟨Rect.unit (s := S8x4x256x128) ![6, 1, 0, 0] ![1, 1, 256, 128] inb_S8x4x256x128_S1x1x256x128_6_1_0_0, c4 (T 6 1)⟩,
      ⟨Rect.unit (s := S8x4x256x128) ![6, 0, 0, 0] ![1, 1, 256, 128] inb_S8x4x256x128_S1x1x256x128_6_0_0_0, c4 (T 6 0)⟩,
      ⟨Rect.unit (s := S8x4x256x128) ![5, 3, 0, 0] ![1, 1, 256, 128] inb_S8x4x256x128_S1x1x256x128_5_3_0_0, c4 (T 5 3)⟩,
      ⟨Rect.unit (s := S8x4x256x128) ![5, 2, 0, 0] ![1, 1, 256, 128] inb_S8x4x256x128_S1x1x256x128_5_2_0_0, c4 (T 5 2)⟩,
      ⟨Rect.unit (s := S8x4x256x128) ![5, 1, 0, 0] ![1, 1, 256, 128] inb_S8x4x256x128_S1x1x256x128_5_1_0_0, c4 (T 5 1)⟩,
      ⟨Rect.unit (s := S8x4x256x128) ![5, 0, 0, 0] ![1, 1, 256, 128] inb_S8x4x256x128_S1x1x256x128_5_0_0_0, c4 (T 5 0)⟩,
      ⟨Rect.unit (s := S8x4x256x128) ![4, 3, 0, 0] ![1, 1, 256, 128] inb_S8x4x256x128_S1x1x256x128_4_3_0_0, c4 (T 4 3)⟩,
      ⟨Rect.unit (s := S8x4x256x128) ![4, 2, 0, 0] ![1, 1, 256, 128] inb_S8x4x256x128_S1x1x256x128_4_2_0_0, c4 (T 4 2)⟩,
      ⟨Rect.unit (s := S8x4x256x128) ![4, 1, 0, 0] ![1, 1, 256, 128] inb_S8x4x256x128_S1x1x256x128_4_1_0_0, c4 (T 4 1)⟩,
      ⟨Rect.unit (s := S8x4x256x128) ![4, 0, 0, 0] ![1, 1, 256, 128] inb_S8x4x256x128_S1x1x256x128_4_0_0_0, c4 (T 4 0)⟩,
      ⟨Rect.unit (s := S8x4x256x128) ![3, 3, 0, 0] ![1, 1, 256, 128] inb_S8x4x256x128_S1x1x256x128_3_3_0_0, c4 (T 3 3)⟩,
      ⟨Rect.unit (s := S8x4x256x128) ![3, 2, 0, 0] ![1, 1, 256, 128] inb_S8x4x256x128_S1x1x256x128_3_2_0_0, c4 (T 3 2)⟩,
      ⟨Rect.unit (s := S8x4x256x128) ![3, 1, 0, 0] ![1, 1, 256, 128] inb_S8x4x256x128_S1x1x256x128_3_1_0_0, c4 (T 3 1)⟩,
      ⟨Rect.unit (s := S8x4x256x128) ![3, 0, 0, 0] ![1, 1, 256, 128] inb_S8x4x256x128_S1x1x256x128_3_0_0_0, c4 (T 3 0)⟩,
      ⟨Rect.unit (s := S8x4x256x128) ![2, 3, 0, 0] ![1, 1, 256, 128] inb_S8x4x256x128_S1x1x256x128_2_3_0_0, c4 (T 2 3)⟩,
      ⟨Rect.unit (s := S8x4x256x128) ![2, 2, 0, 0] ![1, 1, 256, 128] inb_S8x4x256x128_S1x1x256x128_2_2_0_0, c4 (T 2 2)⟩,
      ⟨Rect.unit (s := S8x4x256x128) ![2, 1, 0, 0] ![1, 1, 256, 128] inb_S8x4x256x128_S1x1x256x128_2_1_0_0, c4 (T 2 1)⟩,
      ⟨Rect.unit (s := S8x4x256x128) ![2, 0, 0, 0] ![1, 1, 256, 128] inb_S8x4x256x128_S1x1x256x128_2_0_0_0, c4 (T 2 0)⟩,
      ⟨Rect.unit (s := S8x4x256x128) ![1, 3, 0, 0] ![1, 1, 256, 128] inb_S8x4x256x128_S1x1x256x128_1_3_0_0, c4 (T 1 3)⟩,
      ⟨Rect.unit (s := S8x4x256x128) ![1, 2, 0, 0] ![1, 1, 256, 128] inb_S8x4x256x128_S1x1x256x128_1_2_0_0, c4 (T 1 2)⟩,
      ⟨Rect.unit (s := S8x4x256x128) ![1, 1, 0, 0] ![1, 1, 256, 128] inb_S8x4x256x128_S1x1x256x128_1_1_0_0, c4 (T 1 1)⟩,
      ⟨Rect.unit (s := S8x4x256x128) ![1, 0, 0, 0] ![1, 1, 256, 128] inb_S8x4x256x128_S1x1x256x128_1_0_0_0, c4 (T 1 0)⟩,
      ⟨Rect.unit (s := S8x4x256x128) ![0, 3, 0, 0] ![1, 1, 256, 128] inb_S8x4x256x128_S1x1x256x128_0_3_0_0, c4 (T 0 3)⟩,
      ⟨Rect.unit (s := S8x4x256x128) ![0, 2, 0, 0] ![1, 1, 256, 128] inb_S8x4x256x128_S1x1x256x128_0_2_0_0, c4 (T 0 2)⟩,
      ⟨Rect.unit (s := S8x4x256x128) ![0, 1, 0, 0] ![1, 1, 256, 128] inb_S8x4x256x128_S1x1x256x128_0_1_0_0, c4 (T 0 1)⟩,
      ⟨Rect.unit (s := S8x4x256x128) ![0, 0, 0, 0] ![1, 1, 256, 128] inb_S8x4x256x128_S1x1x256x128_0_0_0_0, c4 (T 0 0)⟩] : List (View.Piece (Elt Ideal) S8x4x256x128 .f32)) :=
  ⟨at5 T 7 3 inb_S8x4x256x128_S1x1x256x128_7_3_0_0, at5 T 7 2 inb_S8x4x256x128_S1x1x256x128_7_2_0_0, at5 T 7 1 inb_S8x4x256x128_S1x1x256x128_7_1_0_0, at5 T 7 0 inb_S8x4x256x128_S1x1x256x128_7_0_0_0, at5 T 6 3 inb_S8x4x256x128_S1x1x256x128_6_3_0_0, at5 T 6 2 inb_S8x4x256x128_S1x1x256x128_6_2_0_0, at5 T 6 1 inb_S8x4x256x128_S1x1x256x128_6_1_0_0, at5 T 6 0 inb_S8x4x256x128_S1x1x256x128_6_0_0_0, at5 T 5 3 inb_S8x4x256x128_S1x1x256x128_5_3_0_0, at5 T 5 2 inb_S8x4x256x128_S1x1x256x128_5_2_0_0, at5 T 5 1 inb_S8x4x256x128_S1x1x256x128_5_1_0_0, at5 T 5 0 inb_S8x4x256x128_S1x1x256x128_5_0_0_0, at5 T 4 3 inb_S8x4x256x128_S1x1x256x128_4_3_0_0, at5 T 4 2 inb_S8x4x256x128_S1x1x256x128_4_2_0_0, at5 T 4 1 inb_S8x4x256x128_S1x1x256x128_4_1_0_0, at5 T 4 0 inb_S8x4x256x128_S1x1x256x128_4_0_0_0, at5 T 3 3 inb_S8x4x256x128_S1x1x256x128_3_3_0_0, at5 T 3 2 inb_S8x4x256x128_S1x1x256x128_3_2_0_0, at5 T 3 1 inb_S8x4x256x128_S1x1x256x128_3_1_0_0, at5 T 3 0 inb_S8x4x256x128_S1x1x256x128_3_0_0_0, at5 T 2 3 inb_S8x4x256x128_S1x1x256x128_2_3_0_0, at5 T 2 2 inb_S8x4x256x128_S1x1x256x128_2_2_0_0, at5 T 2 1 inb_S8x4x256x128_S1x1x256x128_2_1_0_0, at5 T 2 0 inb_S8x4x256x128_S1x1x256x128_2_0_0_0, at5 T 1 3 inb_S8x4x256x128_S1x1x256x128_1_3_0_0, at5 T 1 2 inb_S8x4x256x128_S1x1x256x128_1_2_0_0, at5 T 1 1 inb_S8x4x256x128_S1x1x256x128_1_1_0_0, at5 T 1 0 inb_S8x4x256x128_S1x1x256x128_1_0_0_0, at5 T 0 3 inb_S8x4x256x128_S1x1x256x128_0_3_0_0, at5 T 0 2 inb_S8x4x256x128_S1x1x256x128_0_2_0_0, at5 T 0 1 inb_S8x4x256x128_S1x1x256x128_0_1_0_0, at5 T 0 0 inb_S8x4x256x128_S1x1x256x128_0_0_0_0, trivial⟩

theorem pieces6 (T : Fin 8 → Fin 4 → Fin 256 → Fin 128 → ℝ) : View.PiecesOf (Val := Elt Ideal) (e := .bf16) (all4 T)
    ([⟨Rect.unit (s := S8x4x256x128) ![7, 3, 0, 0] ![1, 1, 256, 128] inb_S8x4x256x128_S1x1x256x128_7_3_0_0, c4 (T 7 3)⟩,
      ⟨Rect.unit (s := S8x4x256x128) ![7, 2, 0, 0] ![1, 1, 256, 128] inb_S8x4x256x128_S1x1x256x128_7_2_0_0, c4 (T 7 2)⟩,
      ⟨Rect.unit (s := S8x4x256x128) ![7, 1, 0, 0] ![1, 1, 256, 128] inb_S8x4x256x128_S1x1x256x128_7_1_0_0, c4 (T 7 1)⟩,
      ⟨Rect.unit (s := S8x4x256x128) ![7, 0, 0, 0] ![1, 1, 256, 128] inb_S8x4x256x128_S1x1x256x128_7_0_0_0, c4 (T 7 0)⟩,
      ⟨Rect.unit (s := S8x4x256x128) ![6, 3, 0, 0] ![1, 1, 256, 128] inb_S8x4x256x128_S1x1x256x128_6_3_0_0, c4 (T 6 3)⟩,
      ⟨Rect.unit (s := S8x4x256x128) ![6, 2, 0, 0] ![1, 1, 256, 128] inb_S8x4x256x128_S1x1x256x128_6_2_0_0, c4 (T 6 2)⟩,
      ⟨Rect.unit (s := S8x4x256x128) ![6, 1, 0, 0] ![1, 1, 256, 128] inb_S8x4x256x128_S1x1x256x128_6_1_0_0, c4 (T 6 1)⟩,
      ⟨Rect.unit (s := S8x4x256x128) ![6, 0, 0, 0] ![1, 1, 256, 128] inb_S8x4x256x128_S1x1x256x128_6_0_0_0, c4 (T 6 0)⟩,
      ⟨Rect.unit (s := S8x4x256x128) ![5, 3, 0, 0] ![1, 1, 256, 128] inb_S8x4x256x128_S1x1x256x128_5_3_0_0, c4 (T 5 3)⟩,
      ⟨Rect.unit (s := S8x4x256x128) ![5, 2, 0, 0] ![1, 1, 256, 128] inb_S8x4x256x128_S1x1x256x128_5_2_0_0, c4 (T 5 2)⟩,
      ⟨Rect.unit (s := S8x4x256x128) ![5, 1, 0, 0] ![1, 1, 256, 128] inb_S8x4x256x128_S1x1x256x128_5_1_0_0, c4 (T 5 1)⟩,
      ⟨Rect.unit (s := S8x4x256x128) ![5, 0, 0, 0] ![1, 1, 256, 128] inb_S8x4x256x128_S1x1x256x128_5_0_0_0, c4 (T 5 0)⟩,
      ⟨Rect.unit (s := S8x4x256x128) ![4, 3, 0, 0] ![1, 1, 256, 128] inb_S8x4x256x128_S1x1x256x128_4_3_0_0, c4 (T 4 3)⟩,
      ⟨Rect.unit (s := S8x4x256x128) ![4, 2, 0, 0] ![1, 1, 256, 128] inb_S8x4x256x128_S1x1x256x128_4_2_0_0, c4 (T 4 2)⟩,
      ⟨Rect.unit (s := S8x4x256x128) ![4, 1, 0, 0] ![1, 1, 256, 128] inb_S8x4x256x128_S1x1x256x128_4_1_0_0, c4 (T 4 1)⟩,
      ⟨Rect.unit (s := S8x4x256x128) ![4, 0, 0, 0] ![1, 1, 256, 128] inb_S8x4x256x128_S1x1x256x128_4_0_0_0, c4 (T 4 0)⟩,
      ⟨Rect.unit (s := S8x4x256x128) ![3, 3, 0, 0] ![1, 1, 256, 128] inb_S8x4x256x128_S1x1x256x128_3_3_0_0, c4 (T 3 3)⟩,
      ⟨Rect.unit (s := S8x4x256x128) ![3, 2, 0, 0] ![1, 1, 256, 128] inb_S8x4x256x128_S1x1x256x128_3_2_0_0, c4 (T 3 2)⟩,
      ⟨Rect.unit (s := S8x4x256x128) ![3, 1, 0, 0] ![1, 1, 256, 128] inb_S8x4x256x128_S1x1x256x128_3_1_0_0, c4 (T 3 1)⟩,
      ⟨Rect.unit (s := S8x4x256x128) ![3, 0, 0, 0] ![1, 1, 256, 128] inb_S8x4x256x128_S1x1x256x128_3_0_0_0, c4 (T 3 0)⟩,
      ⟨Rect.unit (s := S8x4x256x128) ![2, 3, 0, 0] ![1, 1, 256, 128] inb_S8x4x256x128_S1x1x256x128_2_3_0_0, c4 (T 2 3)⟩,
      ⟨Rect.unit (s := S8x4x256x128) ![2, 2, 0, 0] ![1, 1, 256, 128] inb_S8x4x256x128_S1x1x256x128_2_2_0_0, c4 (T 2 2)⟩,
      ⟨Rect.unit (s := S8x4x256x128) ![2, 1, 0, 0] ![1, 1, 256, 128] inb_S8x4x256x128_S1x1x256x128_2_1_0_0, c4 (T 2 1)⟩,
      ⟨Rect.unit (s := S8x4x256x128) ![2, 0, 0, 0] ![1, 1, 256, 128] inb_S8x4x256x128_S1x1x256x128_2_0_0_0, c4 (T 2 0)⟩,
      ⟨Rect.unit (s := S8x4x256x128) ![1, 3, 0, 0] ![1, 1, 256, 128] inb_S8x4x256x128_S1x1x256x128_1_3_0_0, c4 (T 1 3)⟩,
      ⟨Rect.unit (s := S8x4x256x128) ![1, 2, 0, 0] ![1, 1, 256, 128] inb_S8x4x256x128_S1x1x256x128_1_2_0_0, c4 (T 1 2)⟩,
      ⟨Rect.unit (s := S8x4x256x128) ![1, 1, 0, 0] ![1, 1, 256, 128] inb_S8x4x256x128_S1x1x256x128_1_1_0_0, c4 (T 1 1)⟩,
      ⟨Rect.unit (s := S8x4x256x128) ![1, 0, 0, 0] ![1, 1, 256, 128] inb_S8x4x256x128_S1x1x256x128_1_0_0_0, c4 (T 1 0)⟩,
      ⟨Rect.unit (s := S8x4x256x128) ![0, 3, 0, 0] ![1, 1, 256, 128] inb_S8x4x256x128_S1x1x256x128_0_3_0_0, c4 (T 0 3)⟩,
      ⟨Rect.unit (s := S8x4x256x128) ![0, 2, 0, 0] ![1, 1, 256, 128] inb_S8x4x256x128_S1x1x256x128_0_2_0_0, c4 (T 0 2)⟩,
      ⟨Rect.unit (s := S8x4x256x128) ![0, 1, 0, 0] ![1, 1, 256, 128] inb_S8x4x256x128_S1x1x256x128_0_1_0_0, c4 (T 0 1)⟩,
      ⟨Rect.unit (s := S8x4x256x128) ![0, 0, 0, 0] ![1, 1, 256, 128] inb_S8x4x256x128_S1x1x256x128_0_0_0_0, c4 (T 0 0)⟩] : List (View.Piece (Elt Ideal) S8x4x256x128 .bf16)) :=
  ⟨at5 T 7 3 inb_S8x4x256x128_S1x1x256x128_7_3_0_0, at5 T 7 2 inb_S8x4x256x128_S1x1x256x128_7_2_0_0, at5 T 7 1 inb_S8x4x256x128_S1x1x256x128_7_1_0_0, at5 T 7 0 inb_S8x4x256x128_S1x1x256x128_7_0_0_0, at5 T 6 3 inb_S8x4x256x128_S1x1x256x128_6_3_0_0, at5 T 6 2 inb_S8x4x256x128_S1x1x256x128_6_2_0_0, at5 T 6 1 inb_S8x4x256x128_S1x1x256x128_6_1_0_0, at5 T 6 0 inb_S8x4x256x128_S1x1x256x128_6_0_0_0, at5 T 5 3 inb_S8x4x256x128_S1x1x256x128_5_3_0_0, at5 T 5 2 inb_S8x4x256x128_S1x1x256x128_5_2_0_0, at5 T 5 1 inb_S8x4x256x128_S1x1x256x128_5_1_0_0, at5 T 5 0 inb_S8x4x256x128_S1x1x256x128_5_0_0_0, at5 T 4 3 inb_S8x4x256x128_S1x1x256x128_4_3_0_0, at5 T 4 2 inb_S8x4x256x128_S1x1x256x128_4_2_0_0, at5 T 4 1 inb_S8x4x256x128_S1x1x256x128_4_1_0_0, at5 T 4 0 inb_S8x4x256x128_S1x1x256x128_4_0_0_0, at5 T 3 3 inb_S8x4x256x128_S1x1x256x128_3_3_0_0, at5 T 3 2 inb_S8x4x256x128_S1x1x256x128_3_2_0_0, at5 T 3 1 inb_S8x4x256x128_S1x1x256x128_3_1_0_0, at5 T 3 0 inb_S8x4x256x128_S1x1x256x128_3_0_0_0, at5 T 2 3 inb_S8x4x256x128_S1x1x256x128_2_3_0_0, at5 T 2 2 inb_S8x4x256x128_S1x1x256x128_2_2_0_0, at5 T 2 1 inb_S8x4x256x128_S1x1x256x128_2_1_0_0, at5 T 2 0 inb_S8x4x256x128_S1x1x256x128_2_0_0_0, at5 T 1 3 inb_S8x4x256x128_S1x1x256x128_1_3_0_0, at5 T 1 2 inb_S8x4x256x128_S1x1x256x128_1_2_0_0, at5 T 1 1 inb_S8x4x256x128_S1x1x256x128_1_1_0_0, at5 T 1 0 inb_S8x4x256x128_S1x1x256x128_1_0_0_0, at5 T 0 3 inb_S8x4x256x128_S1x1x256x128_0_3_0_0, at5 T 0 2 inb_S8x4x256x128_S1x1x256x128_0_2_0_0, at5 T 0 1 inb_S8x4x256x128_S1x1x256x128_0_1_0_0, at5 T 0 0 inb_S8x4x256x128_S1x1x256x128_0_0_0_0, trivial⟩

theorem pieces4 (T : Fin 8 → Fin 4 → S64x256.Idx → EReal) : View.PiecesOf (Val := Elt Ideal) (e := .bf16) (all2 T)
    ([⟨Rect.unit (s := S512x1024) ![448, 768] ![64, 256] inb_S512x1024_S64x256_448_768, T 7 3⟩,
      ⟨Rect.unit (s := S512x1024) ![448, 512] ![64, 256] inb_S512x1024_S64x256_448_512, T 7 2⟩,
      ⟨Rect.unit (s := S512x1024) ![448, 256] ![64, 256] inb_S512x1024_S64x256_448_256, T 7 1⟩,
      ⟨Rect.unit (s := S512x1024) ![448, 0] ![64, 256] inb_S512x1024_S64x256_448_0, T 7 0⟩,
      ⟨Rect.unit (s := S512x1024) ![384, 768] ![64, 256] inb_S512x1024_S64x256_384_768, T 6 3⟩,
      ⟨Rect.unit (s := S512x1024) ![384, 512] ![64, 256] inb_S512x1024_S64x256_384_512, T 6 2⟩,
      ⟨Rect.unit (s := S512x1024) ![384, 256] ![64, 256] inb_S512x1024_S64x256_384_256, T 6 1⟩,
      ⟨Rect.unit (s := S512x1024) ![384, 0] ![64, 256] inb_S512x1024_S64x256_384_0, T 6 0⟩,
      ⟨Rect.unit (s := S512x1024) ![320, 768] ![64, 256] inb_S512x1024_S64x256_320_768, T 5 3⟩,
      ⟨Rect.unit (s := S512x1024) ![320, 512] ![64, 256] inb_S512x1024_S64x256_320_512, T 5 2⟩,
      ⟨Rect.unit (s := S512x1024) ![320, 256] ![64, 256] inb_S512x1024_S64x256_320_256, T 5 1⟩,
      ⟨Rect.unit (s := S512x1024) ![320, 0] ![64, 256] inb_S512x1024_S64x256_320_0, T 5 0⟩,
      ⟨Rect.unit (s := S512x1024) ![256, 768] ![64, 256] inb_S512x1024_S64x256_256_768, T 4 3⟩,
      ⟨Rect.unit (s := S512x1024) ![256, 512] ![64, 256] inb_S512x1024_S64x256_256_512, T 4 2⟩,
      ⟨Rect.unit (s := S512x1024) ![256, 256] ![64, 256] inb_S512x1024_S64x256_256_256, T 4 1⟩,
      ⟨Rect.unit (s := S512x1024) ![256, 0] ![64, 256] inb_S512x1024_S64x256_256_0, T 4 0⟩,
      ⟨Rect.unit (s := S512x1024) ![192, 768] ![64, 256] inb_S512x1024_S64x256_192_768, T 3 3⟩,
      ⟨Rect.unit (s := S512x1024) ![192, 512] ![64, 256] inb_S512x1024_S64x256_192_512, T 3 2⟩,
      ⟨Rect.unit (s := S512x1024) ![192, 256] ![64, 256] inb_S512x1024_S64x256_192_256, T 3 1⟩,
      ⟨Rect.unit (s := S512x1024) ![192, 0] ![64, 256] inb_S512x1024_S64x256_192_0, T 3 0⟩,
      ⟨Rect.unit (s := S512x1024) ![128, 768] ![64, 256] inb_S512x1024_S64x256_128_768, T 2 3⟩,
      ⟨Rect.unit (s := S512x1024) ![128, 512] ![64, 256] inb_S512x1024_S64x256_128_512, T 2 2⟩,
      ⟨Rect.unit (s := S512x1024) ![128, 256] ![64, 256] inb_S512x1024_S64x256_128_256, T 2 1⟩,
      ⟨Rect.unit (s := S512x1024) ![128, 0] ![64, 256] inb_S512x1024_S64x256_128_0, T 2 0⟩,
      ⟨Rect.unit (s := S512x1024) ![64, 768] ![64, 256] inb_S512x1024_S64x256_64_768, T 1 3⟩,
      ⟨Rect.unit (s := S512x1024) ![64, 512] ![64, 256] inb_S512x1024_S64x256_64_512, T 1 2⟩,
      ⟨Rect.unit (s := S512x1024) ![64, 256] ![64, 256] inb_S512x1024_S64x256_64_256, T 1 1⟩,
      ⟨Rect.unit (s := S512x1024) ![64, 0] ![64, 256] inb_S512x1024_S64x256_64_0, T 1 0⟩,
      ⟨Rect.unit (s := S512x1024) ![0, 768] ![64, 256] inb_S512x1024_S64x256_0_768, T 0 3⟩,
      ⟨Rect.unit (s := S512x1024) ![0, 512] ![64, 256] inb_S512x1024_S64x256_0_512, T 0 2⟩,
      ⟨Rect.unit (s := S512x1024) ![0, 256] ![64, 256] inb_S512x1024_S64x256_0_256, T 0 1⟩,
      ⟨Rect.unit (s := S512x1024) ![0, 0] ![64, 256] inb_S512x1024_S64x256_0_0, T 0 0⟩] : List (View.Piece (Elt Ideal) S512x1024 .bf16)) :=
  ⟨at7 T 7 3 rfl rfl inb_S512x1024_S64x256_448_768, at7 T 7 2 rfl rfl inb_S512x1024_S64x256_448_512, at7 T 7 1 rfl rfl inb_S512x1024_S64x256_448_256, at7 T 7 0 rfl rfl inb_S512x1024_S64x256_448_0, at7 T 6 3 rfl rfl inb_S512x1024_S64x256_384_768, at7 T 6 2 rfl rfl inb_S512x1024_S64x256_384_512, at7 T 6 1 rfl rfl inb_S512x1024_S64x256_384_256, at7 T 6 0 rfl rfl inb_S512x1024_S64x256_384_0, at7 T 5 3 rfl rfl inb_S512x1024_S64x256_320_768, at7 T 5 2 rfl rfl inb_S512x1024_S64x256_320_512, at7 T 5 1 rfl rfl inb_S512x1024_S64x256_320_256, at7 T 5 0 rfl rfl inb_S512x1024_S64x256_320_0, at7 T 4 3 rfl rfl inb_S512x1024_S64x256_256_768, at7 T 4 2 rfl rfl inb_S512x1024_S64x256_256_512, at7 T 4 1 rfl rfl inb_S512x1024_S64x256_256_256, at7 T 4 0 rfl rfl inb_S512x1024_S64x256_256_0, at7 T 3 3 rfl rfl inb_S512x1024_S64x256_192_768, at7 T 3 2 rfl rfl inb_S512x1024_S64x256_192_512, at7 T 3 1 rfl rfl inb_S512x1024_S64x256_192_256, at7 T 3 0 rfl rfl inb_S512x1024_S64x256_192_0, at7 T 2 3 rfl rfl inb_S512x1024_S64x256_128_768, at7 T 2 2 rfl rfl inb_S512x1024_S64x256_128_512, at7 T 2 1 rfl rfl inb_S512x1024_S64x256_128_256, at7 T 2 0 rfl rfl inb_S512x1024_S64x256_128_0, at7 T 1 3 rfl rfl inb_S512x1024_S64x256_64_768, at7 T 1 2 rfl rfl inb_S512x1024_S64x256_64_512, at7 T 1 1 rfl rfl inb_S512x1024_S64x256_64_256, at7 T 1 0 rfl rfl inb_S512x1024_S64x256_64_0, at7 T 0 3 rfl rfl inb_S512x1024_S64x256_0_768, at7 T 0 2 rfl rfl inb_S512x1024_S64x256_0_512, at7 T 0 1 rfl rfl inb_S512x1024_S64x256_0_256, at7 T 0 0 rfl rfl inb_S512x1024_S64x256_0_0, trivial⟩

theorem pieces7 (T : Fin 8 → Fin 4 → S64x256.Idx → EReal) : View.PiecesOf (Val := Elt Ideal) (e := .f32) (all2 T)
    ([⟨Rect.unit (s := S512x1024) ![448, 768] ![64, 256] inb_S512x1024_S64x256_448_768, T 7 3⟩,
      ⟨Rect.unit (s := S512x1024) ![448, 512] ![64, 256] inb_S512x1024_S64x256_448_512, T 7 2⟩,
      ⟨Rect.unit (s := S512x1024) ![448, 256] ![64, 256] inb_S512x1024_S64x256_448_256, T 7 1⟩,
      ⟨Rect.unit (s := S512x1024) ![448, 0] ![64, 256] inb_S512x1024_S64x256_448_0, T 7 0⟩,
      ⟨Rect.unit (s := S512x1024) ![384, 768] ![64, 256] inb_S512x1024_S64x256_384_768, T 6 3⟩,
      ⟨Rect.unit (s := S512x1024) ![384, 512] ![64, 256] inb_S512x1024_S64x256_384_512, T 6 2⟩,
      ⟨Rect.unit (s := S512x1024) ![384, 256] ![64, 256] inb_S512x1024_S64x256_384_256, T 6 1⟩,
      ⟨Rect.unit (s := S512x1024) ![384, 0] ![64, 256] inb_S512x1024_S64x256_384_0, T 6 0⟩,
      ⟨Rect.unit (s := S512x1024) ![320, 768] ![64, 256] inb_S512x1024_S64x256_320_768, T 5 3⟩,
      ⟨Rect.unit (s := S512x1024) ![320, 512] ![64, 256] inb_S512x1024_S64x256_320_512, T 5 2⟩,
      ⟨Rect.unit (s := S512x1024) ![320, 256] ![64, 256] inb_S512x1024_S64x256_320_256, T 5 1⟩,
      ⟨Rect.unit (s := S512x1024) ![320, 0] ![64, 256] inb_S512x1024_S64x256_320_0, T 5 0⟩,
      ⟨Rect.unit (s := S512x1024) ![256, 768] ![64, 256] inb_S512x1024_S64x256_256_768, T 4 3⟩,
      ⟨Rect.unit (s := S512x1024) ![256, 512] ![64, 256] inb_S512x1024_S64x256_256_512, T 4 2⟩,
      ⟨Rect.unit (s := S512x1024) ![256, 256] ![64, 256] inb_S512x1024_S64x256_256_256, T 4 1⟩,
      ⟨Rect.unit (s := S512x1024) ![256, 0] ![64, 256] inb_S512x1024_S64x256_256_0, T 4 0⟩,
      ⟨Rect.unit (s := S512x1024) ![192, 768] ![64, 256] inb_S512x1024_S64x256_192_768, T 3 3⟩,
      ⟨Rect.unit (s := S512x1024) ![192, 512] ![64, 256] inb_S512x1024_S64x256_192_512, T 3 2⟩,
      ⟨Rect.unit (s := S512x1024) ![192, 256] ![64, 256] inb_S512x1024_S64x256_192_256, T 3 1⟩,
      ⟨Rect.unit (s := S512x1024) ![192, 0] ![64, 256] inb_S512x1024_S64x256_192_0, T 3 0⟩,
      ⟨Rect.unit (s := S512x1024) ![128, 768] ![64, 256] inb_S512x1024_S64x256_128_768, T 2 3⟩,
      ⟨Rect.unit (s := S512x1024) ![128, 512] ![64, 256] inb_S512x1024_S64x256_128_512, T 2 2⟩,
      ⟨Rect.unit (s := S512x1024) ![128, 256] ![64, 256] inb_S512x1024_S64x256_128_256, T 2 1⟩,
      ⟨Rect.unit (s := S512x1024) ![128, 0] ![64, 256] inb_S512x1024_S64x256_128_0, T 2 0⟩,
      ⟨Rect.unit (s := S512x1024) ![64, 768] ![64, 256] inb_S512x1024_S64x256_64_768, T 1 3⟩,
      ⟨Rect.unit (s := S512x1024) ![64, 512] ![64, 256] inb_S512x1024_S64x256_64_512, T 1 2⟩,
      ⟨Rect.unit (s := S512x1024) ![64, 256] ![64, 256] inb_S512x1024_S64x256_64_256, T 1 1⟩,
      ⟨Rect.unit (s := S512x1024) ![64, 0] ![64, 256] inb_S512x1024_S64x256_64_0, T 1 0⟩,
      ⟨Rect.unit (s := S512x1024) ![0, 768] ![64, 256] inb_S512x1024_S64x256_0_768, T 0 3⟩,
      ⟨Rect.unit (s := S512x1024) ![0, 512] ![64, 256] inb_S512x1024_S64x256_0_512, T 0 2⟩,
      ⟨Rect.unit (s := S512x1024) ![0, 256] ![64, 256] inb_S512x1024_S64x256_0_256, T 0 1⟩,
      ⟨Rect.unit (s := S512x1024) ![0, 0] ![64, 256] inb_S512x1024_S64x256_0_0, T 0 0⟩] : List (View.Piece (Elt Ideal) S512x1024 .f32)) :=
  ⟨at7 T 7 3 rfl rfl inb_S512x1024_S64x256_448_768, at7 T 7 2 rfl rfl inb_S512x1024_S64x256_448_512, at7 T 7 1 rfl rfl inb_S512x1024_S64x256_448_256, at7 T 7 0 rfl rfl inb_S512x1024_S64x256_448_0, at7 T 6 3 rfl rfl inb_S512x1024_S64x256_384_768, at7 T 6 2 rfl rfl inb_S512x1024_S64x256_384_512, at7 T 6 1 rfl rfl inb_S512x1024_S64x256_384_256, at7 T 6 0 rfl rfl inb_S512x1024_S64x256_384_0, at7 T 5 3 rfl rfl inb_S512x1024_S64x256_320_768, at7 T 5 2 rfl rfl inb_S512x1024_S64x256_320_512, at7 T 5 1 rfl rfl inb_S512x1024_S64x256_320_256, at7 T 5 0 rfl rfl inb_S512x1024_S64x256_320_0, at7 T 4 3 rfl rfl inb_S512x1024_S64x256_256_768, at7 T 4 2 rfl rfl inb_S512x1024_S64x256_256_512, at7 T 4 1 rfl rfl inb_S512x1024_S64x256_256_256, at7 T 4 0 rfl rfl inb_S512x1024_S64x256_256_0, at7 T 3 3 rfl rfl inb_S512x1024_S64x256_192_768, at7 T 3 2 rfl rfl inb_S512x1024_S64x256_192_512, at7 T 3 1 rfl rfl inb_S512x1024_S64x256_192_256, at7 T 3 0 rfl rfl inb_S512x1024_S64x256_192_0, at7 T 2 3 rfl rfl inb_S512x1024_S64x256_128_768, at7 T 2 2 rfl rfl inb_S512x1024_S64x256_128_512, at7 T 2 1 rfl rfl inb_S512x1024_S64x256_128_256, at7 T 2 0 rfl rfl inb_S512x1024_S64x256_128_0, at7 T 1 3 rfl rfl inb_S512x1024_S64x256_64_768, at7 T 1 2 rfl rfl inb_S512x1024_S64x256_64_512, at7 T 1 1 rfl rfl inb_S512x1024_S64x256_64_256, at7 T 1 0 rfl rfl inb_S512x1024_S64x256_64_0, at7 T 0 3 rfl rfl inb_S512x1024_S64x256_0_768, at7 T 0 2 rfl rfl inb_S512x1024_S64x256_0_512, at7 T 0 1 rfl rfl inb_S512x1024_S64x256_0_256, at7 T 0 0 rfl rfl inb_S512x1024_S64x256_0_0, trivial⟩

theorem atS (T : Fin 4 → Fin 256 → Fin 128 → ℝ) (hd : Fin 4) (inb) (x : (⟨3, ![1, 256, 128]⟩ : Shape).Idx) :
    c3 (T hd) x = st T ((Rect.unit (s := S4x256x128) ![hd.val, 0, 0] ![1, 256, 128] inb).emb x) := by
  have h0 : (x 0).val < 1 := (x 0).isLt
  generalize hz : (Rect.unit (s := S4x256x128) ![hd.val, 0, 0] ![1, 256, 128] inb).emb x = z
  have e0 : z 0 = hd := by subst hz; exact Fin.ext (by simp)
  have e1 : z 1 = x 1 := by subst hz; exact Fin.ext (by simp)
  have e2 : z 2 = x 2 := by subst hz; exact Fin.ext (by simp)
  show ((T hd (x 1) (x 2) : ℝ) : EReal) = (T (z 0) (z 1) (z 2) : EReal)
  rw [e0, e1, e2]

theorem memS (hd : Fin 4) (inb) (y : S4x256x128.Idx) (h : (y 0).val = hd.val) : y ∈ (Rect.unit (s := S4x256x128) ![hd.val, 0, 0] ![1, 256, 128] inb).set := by
  refine Rect.mem_set_unit.mpr fun a => ?_
  have h1 : (y 1).val < 256 := (y 1).isLt
  have h2 : (y 2).val < 128 := (y 2).isLt
  fin_cases a
  · exact ⟨h.ge, by simpa using h.le⟩
  · exact ⟨Nat.zero_le _, by simpa using h1⟩
  · exact ⟨Nat.zero_le _, by simpa using h2⟩

/-- The four last stores of the state are the state. -/
theorem canonS (T : Fin 4 → Fin 256 → Fin 128 → ℝ) (L : List (View.Piece (Elt Ideal) S4x256x128 .f32)) (y : S4x256x128.Idx) :
    View.canon (Val := Elt Ideal) (e := .f32) (⟨Rect.unit (s := S4x256x128) ![3, 0, 0] ![1, 256, 128] inb_S4x256x128_S1x256x128_3_0_0, c3 (T 3)⟩ ::
      ⟨Rect.unit (s := S4x256x128) ![2, 0, 0] ![1, 256, 128] inb_S4x256x128_S1x256x128_2_0_0, c3 (T 2)⟩ ::
      ⟨Rect.unit (s := S4x256x128) ![1, 0, 0] ![1, 256, 128] inb_S4x256x128_S1x256x128_1_0_0, c3 (T 1)⟩ ::
      ⟨Rect.unit (s := S4x256x128) ![0, 0, 0] ![1, 256, 128] inb_S4x256x128_S1x256x128_0_0_0, c3 (T 0)⟩ :: L) y = st T y := by
  refine View.canon_append_of_piecesOf (Val := Elt Ideal) (e := .f32) (st T) L [_, _, _, _] ⟨atS T 3 inb_S4x256x128_S1x256x128_3_0_0, atS T 2 inb_S4x256x128_S1x256x128_2_0_0,
    atS T 1 inb_S4x256x128_S1x256x128_1_0_0, atS T 0 inb_S4x256x128_S1x256x128_0_0_0, trivial⟩ y ?_
  have h : (y 0).val < 4 := (y 0).isLt
  simp only [List.exists_mem_cons_iff, List.not_mem_nil, false_and, exists_false, or_false]
  rcases (by omega : (y 0).val = 3 ∨ (y 0).val = 2 ∨ (y 0).val = 1 ∨ (y 0).val = 0) with h | h | h | h
  · exact Or.inl (memS 3 inb_S4x256x128_S1x256x128_3_0_0 y h)
  · exact Or.inr (Or.inl (memS 2 inb_S4x256x128_S1x256x128_2_0_0 y h))
  · exact Or.inr (Or.inr (Or.inl (memS 1 inb_S4x256x128_S1x256x128_1_0_0 y h)))
  · exact Or.inr (Or.inr (Or.inr (memS 0 inb_S4x256x128_S1x256x128_0_0_0 y h)))

end pieces

end Cert.GlaFwd
-- ==== Proof.GlaFwdTile.lean ====
/-
  One tile of 512 rows of the gated linear attention's forward kernel, on real arguments.
-/
module

public import proofs.«01_k».proof.Proof.GlaFwdSpec

@[expose] public section

set_option maxRecDepth 100000
set_option backward.isDefEq.respectTransparency false

noncomputable section

namespace Cert.GlaFwd

open Cert.Kernel12Ideal Cert.Kernel12Ideal.Gen
open Idealize.ShloMosaic Idealize.ShloMosaic.TcCoe Idealize.SL.Sem
open Cert.Reals Cert.Sigmoid

/-- The logarithms of the decays of a tile's rows. -/
def tL (Z : Fin 512 → Fin 3200 → ℝ) (W : Fin 128 → Fin 512 → ℝ) (B : Fin 512 → ℝ) : Fin 512 → Fin 512 → ℝ := laC (subB 512 128 0 3072 Z) W B

/-- A head's lanes of the norm's factors. -/
def gAt (g : Vec Ideal S1x1024 .f32) : Fin 4 → (⟨2, ![1, 256]⟩ : Shape).Idx → EReal
  | 0 => View.ld (Val := Elt Ideal) (e' := .f32) g (Rect.unit (s := S1x1024) ![0, 0] ![1, 256] inb_S1x1024_S1x256_0_0)
  | 1 => View.ld (Val := Elt Ideal) (e' := .f32) g (Rect.unit (s := S1x1024) ![0, 256] ![1, 256] inb_S1x1024_S1x256_0_256)
  | 2 => View.ld (Val := Elt Ideal) (e' := .f32) g (Rect.unit (s := S1x1024) ![0, 512] ![1, 256] inb_S1x1024_S1x256_0_512)
  | 3 => View.ld (Val := Elt Ideal) (e' := .f32) g (Rect.unit (s := S1x1024) ![0, 768] ![1, 256] inb_S1x1024_S1x256_0_768)

def yaAt (Z : Fin 512 → Fin 3200 → ℝ) (L : Fin 512 → Fin 512 → ℝ) (S : Fin 4 → Fin 256 → Fin 128 → ℝ) (g : Vec Ideal S1x1024 .f32) (ci : Fin 8) (hd : Fin 4) : S64x256.Idx → EReal :=
  ye (mulC (kO Z L S ci.val hd) (colC fun s => rinv (kO Z L S ci.val hd s))) (gAt g hd) (siluC (subB 64 256 (64 * ci.val) (2048 + 256 * hd.val) Z))

theorem o_tL (Z : Fin 512 → Fin 3200 → ℝ) (W : Fin 128 → Fin 512 → ℝ) (B : Fin 512 → ℝ) : k0_pay3 (F := Ideal) (c2 (subB 512 128 0 3072 Z)) (c2 W) (row B) = c2 (tL Z W B) :=
  o_la _ W B

section fold

variable (Z : Fin 512 → Fin 3200 → ℝ) (L : Fin 512 → Fin 512 → ℝ) (S : Fin 4 → Fin 256 → Fin 128 → ℝ) (g : Vec Ideal S1x1024 .f32)

theorem g_Y (ci : Fin 8) (n r p : ℕ) (hd : Fin 4) (G : (⟨2, ![1, 256]⟩ : Shape).Idx → EReal) (hG : G = gAt g hd) (hn : n = ci.val) (hr : r = 64 * ci.val) (hp : p = 2048 + 256 * hd.val) :
    ye (mulC (kO Z L S n hd) (colC fun s => rinv (kO Z L S n hd s))) G (siluC (subB 64 256 r p Z)) = yaAt Z L S g ci hd := by
  subst hG hn hr hp; rfl

/-- The chunks' normed outputs, folded. -/
theorem foldY :
    ye (mulC (kO Z L S 0 0) (colC fun s => rinv (kO Z L S 0 0 s))) (View.ld (Val := Elt Ideal) (e' := .f32) g (Rect.unit (s := S1x1024) ![0, 0] ![1, 256] inb_S1x1024_S1x256_0_0)) (siluC (subB 64 256 0 2048 Z)) = yaAt Z L S g 0 0 ∧
    ye (mulC (kO Z L S 0 1) (colC fun s => rinv (kO Z L S 0 1 s))) (View.ld (Val := Elt Ideal) (e' := .f32) g (Rect.unit (s := S1x1024) ![0, 256] ![1, 256] inb_S1x1024_S1x256_0_256)) (siluC (subB 64 256 0 2304 Z)) = yaAt Z L S g 0 1 ∧
    ye (mulC (kO Z L S 0 2) (colC fun s => rinv (kO Z L S 0 2 s))) (View.ld (Val := Elt Ideal) (e' := .f32) g (Rect.unit (s := S1x1024) ![0, 512] ![1, 256] inb_S1x1024_S1x256_0_512)) (siluC (subB 64 256 0 2560 Z)) = yaAt Z L S g 0 2 ∧
    ye (mulC (kO Z L S 0 3) (colC fun s => rinv (kO Z L S 0 3 s))) (View.ld (Val := Elt Ideal) (e' := .f32) g (Rect.unit (s := S1x1024) ![0, 768] ![1, 256] inb_S1x1024_S1x256_0_768)) (siluC (subB 64 256 0 2816 Z)) = yaAt Z L S g 0 3 ∧
    ye (mulC (kO Z L S 1 0) (colC fun s => rinv (kO Z L S 1 0 s))) (View.ld (Val := Elt Ideal) (e' := .f32) g (Rect.unit (s := S1x1024) ![0, 0] ![1, 256] inb_S1x1024_S1x256_0_0)) (siluC (subB 64 256 64 2048 Z)) = yaAt Z L S g 1 0 ∧
    ye (mulC (kO Z L S 1 1) (colC fun s => rinv (kO Z L S 1 1 s))) (View.ld (Val := Elt Ideal) (e' := .f32) g (Rect.unit (s := S1x1024) ![0, 256] ![1, 256] inb_S1x1024_S1x256_0_256)) (siluC (subB 64 256 64 2304 Z)) = yaAt Z L S g 1 1 ∧
    ye (mulC (kO Z L S 1 2) (colC fun s => rinv (kO Z L S 1 2 s))) (View.ld (Val := Elt Ideal) (e' := .f32) g (Rect.unit (s := S1x1024) ![0, 512] ![1, 256] inb_S1x1024_S1x256_0_512)) (siluC (subB 64 256 64 2560 Z)) = yaAt Z L S g 1 2 ∧
    ye (mulC (kO Z L S 1 3) (colC fun s => rinv (kO Z L S 1 3 s))) (View.ld (Val := Elt Ideal) (e' := .f32) g (Rect.unit (s := S1x1024) ![0, 768] ![1, 256] inb_S1x1024_S1x256_0_768)) (siluC (subB 64 256 64 2816 Z)) = yaAt Z L S g 1 3 ∧
    ye (mulC (kO Z L S 2 0) (colC fun s => rinv (kO Z L S 2 0 s))) (View.ld (Val := Elt Ideal) (e' := .f32) g (Rect.unit (s := S1x1024) ![0, 0] ![1, 256] inb_S1x1024_S1x256_0_0)) (siluC (subB 64 256 128 2048 Z)) = yaAt Z L S g 2 0 ∧
    ye (mulC (kO Z L S 2 1) (colC fun s => rinv (kO Z L S 2 1 s))) (View.ld (Val := Elt Ideal) (e' := .f32) g (Rect.unit (s := S1x1024) ![0, 256] ![1, 256] inb_S1x1024_S1x256_0_256)) (siluC (subB 64 256 128 2304 Z)) = yaAt Z L S g 2 1 ∧
    ye (mulC (kO Z L S 2 2) (colC fun s => rinv (kO Z L S 2 2 s))) (View.ld (Val := Elt Ideal) (e' := .f32) g (Rect.unit (s := S1x1024) ![0, 512] ![1, 256] inb_S1x1024_S1x256_0_512)) (siluC (subB 64 256 128 2560 Z)) = yaAt Z L S g 2 2 ∧
    ye (mulC (kO Z L S 2 3) (colC fun s => rinv (kO Z L S 2 3 s))) (View.ld (Val := Elt Ideal) (e' := .f32) g (Rect.unit (s := S1x1024) ![0, 768] ![1, 256] inb_S1x1024_S1x256_0_768)) (siluC (subB 64 256 128 2816 Z)) = yaAt Z L S g 2 3 ∧
    ye (mulC (kO Z L S 3 0) (colC fun s => rinv (kO Z L S 3 0 s))) (View.ld (Val := Elt Ideal) (e' := .f32) g (Rect.unit (s := S1x1024) ![0, 0] ![1, 256] inb_S1x1024_S1x256_0_0)) (siluC (subB 64 256 192 2048 Z)) = yaAt Z L S g 3 0 ∧
    ye (mulC (kO Z L S 3 1) (colC fun s => rinv (kO Z L S 3 1 s))) (View.ld (Val := Elt Ideal) (e' := .f32) g (Rect.unit (s := S1x1024) ![0, 256] ![1, 256] inb_S1x1024_S1x256_0_256)) (siluC (subB 64 256 192 2304 Z)) = yaAt Z L S g 3 1 ∧
    ye (mulC (kO Z L S 3 2) (colC fun s => rinv (kO Z L S 3 2 s))) (View.ld (Val := Elt Ideal) (e' := .f32) g (Rect.unit (s := S1x1024) ![0, 512] ![1, 256] inb_S1x1024_S1x256_0_512)) (siluC (subB 64 256 192 2560 Z)) = yaAt Z L S g 3 2 ∧
    ye (mulC (kO Z L S 3 3) (colC fun s => rinv (kO Z L S 3 3 s))) (View.ld (Val := Elt Ideal) (e' := .f32) g (Rect.unit (s := S1x1024) ![0, 768] ![1, 256] inb_S1x1024_S1x256_0_768)) (siluC (subB 64 256 192 2816 Z)) = yaAt Z L S g 3 3 ∧
    ye (mulC (kO Z L S 4 0) (colC fun s => rinv (kO Z L S 4 0 s))) (View.ld (Val := Elt Ideal) (e' := .f32) g (Rect.unit (s := S1x1024) ![0, 0] ![1, 256] inb_S1x1024_S1x256_0_0)) (siluC (subB 64 256 256 2048 Z)) = yaAt Z L S g 4 0 ∧
    ye (mulC (kO Z L S 4 1) (colC fun s => rinv (kO Z L S 4 1 s))) (View.ld (Val := Elt Ideal) (e' := .f32) g (Rect.unit (s := S1x1024) ![0, 256] ![1, 256] inb_S1x1024_S1x256_0_256)) (siluC (subB 64 256 256 2304 Z)) = yaAt Z L S g 4 1 ∧
    ye (mulC (kO Z L S 4 2) (colC fun s => rinv (kO Z L S 4 2 s))) (View.ld (Val := Elt Ideal) (e' := .f32) g (Rect.unit (s := S1x1024) ![0, 512] ![1, 256] inb_S1x1024_S1x256_0_512)) (siluC (subB 64 256 256 2560 Z)) = yaAt Z L S g 4 2 ∧
    ye (mulC (kO Z L S 4 3) (colC fun s => rinv (kO Z L S 4 3 s))) (View.ld (Val := Elt Ideal) (e' := .f32) g (Rect.unit (s := S1x1024) ![0, 768] ![1, 256] inb_S1x1024_S1x256_0_768)) (siluC (subB 64 256 256 2816 Z)) = yaAt Z L S g 4 3 ∧
    ye (mulC (kO Z L S 5 0) (colC fun s => rinv (kO Z L S 5 0 s))) (View.ld (Val := Elt Ideal) (e' := .f32) g (Rect.unit (s := S1x1024) ![0, 0] ![1, 256] inb_S1x1024_S1x256_0_0)) (siluC (subB 64 256 320 2048 Z)) = yaAt Z L S g 5 0 ∧
    ye (mulC (kO Z L S 5 1) (colC fun s => rinv (kO Z L S 5 1 s))) (View.ld (Val := Elt Ideal) (e' := .f32) g (Rect.unit (s := S1x1024) ![0, 256] ![1, 256] inb_S1x1024_S1x256_0_256)) (siluC (subB 64 256 320 2304 Z)) = yaAt Z L S g 5 1 ∧
    ye (mulC (kO Z L S 5 2) (colC fun s => rinv (kO Z L S 5 2 s))) (View.ld (Val := Elt Ideal) (e' := .f32) g (Rect.unit (s := S1x1024) ![0, 512] ![1, 256] inb_S1x1024_S1x256_0_512)) (siluC (subB 64 256 320 2560 Z)) = yaAt Z L S g 5 2 ∧
    ye (mulC (kO Z L S 5 3) (colC fun s => rinv (kO Z L S 5 3 s))) (View.ld (Val := Elt Ideal) (e' := .f32) g (Rect.unit (s := S1x1024) ![0, 768] ![1, 256] inb_S1x1024_S1x256_0_768)) (siluC (subB 64 256 320 2816 Z)) = yaAt Z L S g 5 3 ∧
    ye (mulC (kO Z L S 6 0) (colC fun s => rinv (kO Z L S 6 0 s))) (View.ld (Val := Elt Ideal) (e' := .f32) g (Rect.unit (s := S1x1024) ![0, 0] ![1, 256] inb_S1x1024_S1x256_0_0)) (siluC (subB 64 256 384 2048 Z)) = yaAt Z L S g 6 0 ∧
    ye (mulC (kO Z L S 6 1) (colC fun s => rinv (kO Z L S 6 1 s))) (View.ld (Val := Elt Ideal) (e' := .f32) g (Rect.unit (s := S1x1024) ![0, 256] ![1, 256] inb_S1x1024_S1x256_0_256)) (siluC (subB 64 256 384 2304 Z)) = yaAt Z L S g 6 1 ∧
    ye (mulC (kO Z L S 6 2) (colC fun s => rinv (kO Z L S 6 2 s))) (View.ld (Val := Elt Ideal) (e' := .f32) g (Rect.unit (s := S1x1024) ![0, 512] ![1, 256] inb_S1x1024_S1x256_0_512)) (siluC (subB 64 256 384 2560 Z)) = yaAt Z L S g 6 2 ∧
    ye (mulC (kO Z L S 6 3) (colC fun s => rinv (kO Z L S 6 3 s))) (View.ld (Val := Elt Ideal) (e' := .f32) g (Rect.unit (s := S1x1024) ![0, 768] ![1, 256] inb_S1x1024_S1x256_0_768)) (siluC (subB 64 256 384 2816 Z)) = yaAt Z L S g 6 3 ∧
    ye (mulC (kO Z L S 7 0) (colC fun s => rinv (kO Z L S 7 0 s))) (View.ld (Val := Elt Ideal) (e' := .f32) g (Rect.unit (s := S1x1024) ![0, 0] ![1, 256] inb_S1x1024_S1x256_0_0)) (siluC (subB 64 256 448 2048 Z)) = yaAt Z L S g 7 0 ∧
    ye (mulC (kO Z L S 7 1) (colC fun s => rinv (kO Z L S 7 1 s))) (View.ld (Val := Elt Ideal) (e' := .f32) g (Rect.unit (s := S1x1024) ![0, 256] ![1, 256] inb_S1x1024_S1x256_0_256)) (siluC (subB 64 256 448 2304 Z)) = yaAt Z L S g 7 1 ∧
    ye (mulC (kO Z L S 7 2) (colC fun s => rinv (kO Z L S 7 2 s))) (View.ld (Val := Elt Ideal) (e' := .f32) g (Rect.unit (s := S1x1024) ![0, 512] ![1, 256] inb_S1x1024_S1x256_0_512)) (siluC (subB 64 256 448 2560 Z)) = yaAt Z L S g 7 2 ∧
    ye (mulC (kO Z L S 7 3) (colC fun s => rinv (kO Z L S 7 3 s))) (View.ld (Val := Elt Ideal) (e' := .f32) g (Rect.unit (s := S1x1024) ![0, 768] ![1, 256] inb_S1x1024_S1x256_0_768)) (siluC (subB 64 256 448 2816 Z)) = yaAt Z L S g 7 3 :=
  ⟨g_Y Z L S g 0 0 0 2048 0 _ rfl rfl rfl rfl,
    g_Y Z L S g 0 0 0 2304 1 _ rfl rfl rfl rfl,
    g_Y Z L S g 0 0 0 2560 2 _ rfl rfl rfl rfl,
    g_Y Z L S g 0 0 0 2816 3 _ rfl rfl rfl rfl,
    g_Y Z L S g 1 1 64 2048 0 _ rfl rfl rfl rfl,
    g_Y Z L S g 1 1 64 2304 1 _ rfl rfl rfl rfl,
    g_Y Z L S g 1 1 64 2560 2 _ rfl rfl rfl rfl,
    g_Y Z L S g 1 1 64 2816 3 _ rfl rfl rfl rfl,
    g_Y Z L S g 2 2 128 2048 0 _ rfl rfl rfl rfl,
    g_Y Z L S g 2 2 128 2304 1 _ rfl rfl rfl rfl,
    g_Y Z L S g 2 2 128 2560 2 _ rfl rfl rfl rfl,
    g_Y Z L S g 2 2 128 2816 3 _ rfl rfl rfl rfl,
    g_Y Z L S g 3 3 192 2048 0 _ rfl rfl rfl rfl,
    g_Y Z L S g 3 3 192 2304 1 _ rfl rfl rfl rfl,
    g_Y Z L S g 3 3 192 2560 2 _ rfl rfl rfl rfl,
    g_Y Z L S g 3 3 192 2816 3 _ rfl rfl rfl rfl,
    g_Y Z L S g 4 4 256 2048 0 _ rfl rfl rfl rfl,
    g_Y Z L S g 4 4 256 2304 1 _ rfl rfl rfl rfl,
    g_Y Z L S g 4 4 256 2560 2 _ rfl rfl rfl rfl,
    g_Y Z L S g 4 4 256 2816 3 _ rfl rfl rfl rfl,
    g_Y Z L S g 5 5 320 2048 0 _ rfl rfl rfl rfl,
    g_Y Z L S g 5 5 320 2304 1 _ rfl rfl rfl rfl,
    g_Y Z L S g 5 5 320 2560 2 _ rfl rfl rfl rfl,
    g_Y Z L S g 5 5 320 2816 3 _ rfl rfl rfl rfl,
    g_Y Z L S g 6 6 384 2048 0 _ rfl rfl rfl rfl,
    g_Y Z L S g 6 6 384 2304 1 _ rfl rfl rfl rfl,
    g_Y Z L S g 6 6 384 2560 2 _ rfl rfl rfl rfl,
    g_Y Z L S g 6 6 384 2816 3 _ rfl rfl rfl rfl,
    g_Y Z L S g 7 7 448 2048 0 _ rfl rfl rfl rfl,
    g_Y Z L S g 7 7 448 2304 1 _ rfl rfl rfl rfl,
    g_Y Z L S g 7 7 448 2560 2 _ rfl rfl rfl rfl,
    g_Y Z L S g 7 7 448 2816 3 _ rfl rfl rfl rfl⟩

end fold

set_option maxHeartbeats 600000 in
theorem runA4 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    View.PiecesOf (all2 (yaAt Z (tL Z W B) (fun _ => zeroC) g)) (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).1 := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact pieces4 (yaAt Z (tL Z W B) (fun _ => zeroC) g)

set_option maxHeartbeats 600000 in
theorem runA5 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    View.PiecesOf (all4 fun ci hd => kS Z (tL Z W B) (fun _ => zeroC) ci.val hd) (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).2.1 := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact pieces5 fun ci hd => kS Z (tL Z W B) (fun _ => zeroC) ci.val hd

set_option maxHeartbeats 600000 in
theorem runA6 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    View.PiecesOf (all4 fun ci hd => kS Z (tL Z W B) (fun _ => zeroC) (ci.val + 1) hd) (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).2.2.1 := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact pieces6 fun ci hd => kS Z (tL Z W B) (fun _ => zeroC) (ci.val + 1) hd

set_option maxHeartbeats 600000 in
theorem runA7 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    View.PiecesOf (all2 fun ci hd => c2 (kO Z (tL Z W B) (fun _ => zeroC) ci.val hd)) (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).2.2.2.1 := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact pieces7 fun ci hd => c2 (kO Z (tL Z W B) (fun _ => zeroC) ci.val hd)

set_option maxHeartbeats 600000 in
theorem runA8 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) (y : S4x256x128.Idx) :
    View.canon (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).2.2.2.2.1 y = st (kS Z (tL Z W B) (fun _ => zeroC) 8) y := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact canonS (kS Z (tL Z W B) (fun _ => zeroC) 8) _ y

set_option maxHeartbeats 600000 in
theorem runB4 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    View.PiecesOf (all2 (yaAt Z (tL Z W B) S g)) (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).1 := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact pieces4 (yaAt Z (tL Z W B) S g)

set_option maxHeartbeats 600000 in
theorem runB5 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    View.PiecesOf (all4 fun ci hd => kS Z (tL Z W B) S ci.val hd) (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).2.1 := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact pieces5 fun ci hd => kS Z (tL Z W B) S ci.val hd

set_option maxHeartbeats 600000 in
theorem runB6 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    View.PiecesOf (all4 fun ci hd => kS Z (tL Z W B) S (ci.val + 1) hd) (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).2.2.1 := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact pieces6 fun ci hd => kS Z (tL Z W B) S (ci.val + 1) hd

set_option maxHeartbeats 600000 in
theorem runB7 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    View.PiecesOf (all2 fun ci hd => c2 (kO Z (tL Z W B) S ci.val hd)) (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).2.2.2.1 := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact pieces7 fun ci hd => c2 (kO Z (tL Z W B) S ci.val hd)

set_option maxHeartbeats 600000 in
theorem runB8 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) (y : S4x256x128.Idx) :
    View.canon (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).2.2.2.2.1 y = st (kS Z (tL Z W B) S 8) y := by
  frame_open
  simp (disch := decide) only [↓ View.readCov_skip, ↓ View.readCov_cons_toLoadRect, ↓ View.readCov_fill]
  simp (disch := decide) only [View.ld_unit_lit', View.readAt_eq_ld, Memref.IsWhole.read_unread]
  simp (disch := decide) only [o_tL, f_D, f_U, f_step, foldS, foldO, foldY, ld_c2, ld_c2b, ld_st, readCov_dec, o_add, o_self, o_sub, o_mul, o_exp, o_trunc, o_ext, preC_zero, addC_zero, o_expr, o_scale, o_cast42, o_cast42b, o_cast24, o_cast24b, o_cast32, o_cast23, o_castk, o_castv, o_castr, o_bro128, o_bro512, o_brocol, o_slice0, o_slice1, o_slice2, o_slice3, o_tri, o_tri2, o_tot, o_u, o_o, o_rinv, o_silu, o_ye, o_fill, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393]
  exact canonS (kS Z (tL Z W B) S 8) _ y

end Cert.GlaFwd
-- ==== Proof.GlaFwdMath.lean ====
/-
  Gated linear attention over the whole sequence in real numbers, chunk by chunk: the state before each chunk and
  each chunk's output, as functions of the projected rows.
-/
module

public import proofs.«01_k».proof.Proof.GlaFwdTile

@[expose] public section

set_option maxRecDepth 16384

noncomputable section

namespace Cert.GlaFwd

open Idealize.ShloMosaic
open Cert.Reals Cert.Sigmoid

section global

variable (Z : Fin 4096 → Fin 3088 → ℝ) (W : Fin 16 → Fin 512 → ℝ) (B : Fin 512 → ℝ)

/-- The projected rows, with zeros outside. -/
def zf (r l : ℕ) : ℝ := if h : r < 4096 ∧ l < 3088 then Z ⟨r, h.1⟩ ⟨l, h.2⟩ else 0
/-- The logarithm of the decay of a row and lane. -/
def lf (r c : ℕ) : ℝ := if h : c < 512 then lsig (∑ l : Fin 16, zf Z r (3072 + l.val) * W l ⟨c, h⟩ + B ⟨c, h⟩) else 0
/-- Its sum over a chunk. -/
def gtot (n c : ℕ) : ℝ := ∑ r : Fin 64, lf Z W B (64 * n + r.val) c
/-- Its sum over a chunk's rows up to and with one. -/
def gpre (n : ℕ) (s : Fin 64) (c : ℕ) : ℝ := ∑ r : Fin 64, (if r.val ≤ s.val then 1 else 0) * lf Z W B (64 * n + r.val) c
/-- A chunk's step of a head's state. -/
def gstep (n : ℕ) (hd : Fin 4) (X : Fin 256 → Fin 128 → ℝ) : Fin 256 → Fin 128 → ℝ := fun i j =>
  X i j * Real.exp (gtot Z W B n (128 * hd.val + j.val)) +
    ∑ s : Fin 64, zf Z (64 * n + s.val) (1024 + 256 * hd.val + i.val) *
      (zf Z (64 * n + s.val) (512 + 128 * hd.val + j.val) *
        Real.exp (gtot Z W B n (128 * hd.val + j.val) - gpre Z W B n s (128 * hd.val + j.val)))
/-- A head's state before a chunk. -/
def gS : ℕ → Fin 4 → Fin 256 → Fin 128 → ℝ
  | 0, _ => zeroC
  | n + 1, hd => gstep Z W B n hd (gS n hd)
/-- A head's output of a chunk. -/
def gO (n : ℕ) (hd : Fin 4) (s : Fin 64) (i : Fin 256) : ℝ :=
  ∑ j : Fin 128, zf Z (64 * n + s.val) (128 * hd.val + j.val) * scale * gS Z W B (n + 1) hd i j

/-- The rows of a tile, padded to 3200 lanes. -/
def zt (t : ℕ) : Fin 512 → Fin 3200 → ℝ := fun i j => zf Z (512 * t + i.val) j.val
/-- The gate's weight, padded to 128 rows. -/
def wt : Fin 128 → Fin 512 → ℝ := fun l c => if h : l.val < 16 then W ⟨l.val, h⟩ c else 0

theorem sub_z {m n o p : ℕ} (t : ℕ) (i : Fin m) (j : Fin n) (h1 : o + i.val < 512) (h2 : p + j.val < 3200) :
    subB m n o p (zt Z t) i j = zf Z (512 * t + (o + i.val)) (p + j.val) := by
  unfold subB zt
  rw [dif_pos ⟨h1, h2⟩]

theorem sub_0 {m N n p : ℕ} (X : Fin m → Fin N → ℝ) (i : Fin m) (j : Fin n) (h : p + j.val < N) :
    subB m n 0 p X i j = X i ⟨p + j.val, h⟩ := by
  unfold subB
  rw [dif_pos ⟨by have := i.isLt; omega, h⟩]
  have e : (⟨0 + i.val, by have := i.isLt; omega⟩ : Fin m) = i := Fin.ext (Nat.zero_add _)
  rw [e]

theorem tL_eq (t : ℕ) (r c : Fin 512) : tL (zt Z t) (wt W) B r c = lf Z W B (512 * t + r.val) c.val := by
  unfold tL laC lf
  rw [dif_pos c.isLt]
  congr 2
  rw [Fin.sum_univ_add (a := 16) (b := 112)]
  refine Eq.trans (congrArg₂ (· + ·) (Finset.sum_congr rfl fun l _ => ?_) (Finset.sum_eq_zero fun l _ => ?_)) (add_zero _)
  · rw [sub_z Z t r (Fin.castAdd 112 l) (by omega) (by have := l.isLt; show 3072 + l.val < 3200; omega)]
    unfold wt
    rw [dif_pos (show (Fin.castAdd 112 l).val < 16 from l.isLt)]
    rw [Nat.zero_add]
    rfl
  · unfold wt
    rw [dif_neg (show ¬ (Fin.natAdd 16 l).val < 16 by show ¬ 16 + l.val < 16; omega), mul_zero]

theorem sub_L (t ci : ℕ) (hci : ci < 8) (s : Fin 64) (c : Fin 512) :
    subB 64 512 (64 * ci) 0 (tL (zt Z t) (wt W) B) s c = lf Z W B (64 * (8 * t + ci) + s.val) c.val := by
  have hs := s.isLt
  have hc := c.isLt
  unfold subB
  rw [dif_pos ⟨by omega, by omega⟩, tL_eq]
  congr 1 <;> dsimp only <;> omega

theorem tot_L (t ci : ℕ) (hci : ci < 8) (c : Fin 512) :
    totR (subB 64 512 (64 * ci) 0 (tL (zt Z t) (wt W) B)) c = gtot Z W B (8 * t + ci) c.val :=
  Finset.sum_congr rfl fun s _ => sub_L Z W B t ci hci s c

theorem pre_L (t ci : ℕ) (hci : ci < 8) (s : Fin 64) (c : Fin 512) :
    preC (subB 64 512 (64 * ci) 0 (tL (zt Z t) (wt W) B)) s c = gpre Z W B (8 * t + ci) s c.val :=
  Finset.sum_congr rfl fun r _ => by rw [sub_L Z W B t ci hci r c]

theorem step_eq (t ci : ℕ) (hci : ci < 8) (hd : Fin 4) (X : Fin 256 → Fin 128 → ℝ) :
    stepS (zt Z t) (tL (zt Z t) (wt W) B) (64 * ci) (128 * hd.val) (1024 + 256 * hd.val) (512 + 128 * hd.val) X = gstep Z W B (8 * t + ci) hd X := by
  have hh := hd.isLt
  funext i j
  have hi := i.isLt
  have hj := j.isLt
  unfold stepS gstep addC mulC broC kD kU
  refine congrArg₂ (· + ·) (congrArg (X i j * ·) ?_) (Finset.sum_congr rfl fun s _ => ?_)
  · unfold subR
    rw [dif_pos (by omega)]
    unfold expR
    rw [tot_L Z W B t ci hci]
  · have hs := s.isLt
    unfold mulC
    rw [sub_z Z t s i (by omega) (by omega), sub_z Z t s j (by omega) (by omega)]
    rw [sub_0 _ s j (by omega)]
    unfold expC subC broC
    rw [tot_L Z W B t ci hci, pre_L Z W B t ci hci]
    have e : 512 * t + (64 * ci + s.val) = 64 * (8 * t + ci) + s.val := by omega
    rw [e]

/-- A tile's states are the sequence's. -/
theorem state_eq (t : ℕ) : ∀ (ci : ℕ) (_ : ci ≤ 8) (hd : Fin 4),
    kS (zt Z t) (tL (zt Z t) (wt W) B) (gS Z W B (8 * t)) ci hd = gS Z W B (8 * t + ci) hd
  | 0, _, _ => rfl
  | ci + 1, h, hd => by
    show stepS _ _ _ _ _ _ (kS _ _ _ ci hd) = gstep Z W B (8 * t + ci) hd (gS Z W B (8 * t + ci) hd)
    rw [state_eq t ci (Nat.le_of_succ_le h) hd]
    exact step_eq Z W B t ci h hd _

theorem out_eq (t ci : ℕ) (hci : ci < 8) (hd : Fin 4) (s : Fin 64) (i : Fin 256) :
    kO (zt Z t) (tL (zt Z t) (wt W) B) (gS Z W B (8 * t)) ci hd s i = gO Z W B (8 * t + ci) hd s i := by
  have hh := hd.isLt
  have hs := s.isLt
  unfold kO gO mulTC scaleC
  refine Finset.sum_congr rfl fun j _ => ?_
  have hj := j.isLt
  rw [state_eq Z W B t (ci + 1) hci hd, sub_z Z t s j (by omega) (by omega)]
  have e : 512 * t + (64 * ci + s.val) = 64 * (8 * t + ci) + s.val := by omega
  rw [e]
  rfl

/-- The normed, gated output of a row and lane. -/
def gY (g : Vec Ideal ⟨2, ![1, 1024]⟩ .f32) (n : ℕ) (hd : Fin 4) (s : Fin 64) (i : Fin 256) : EReal :=
  ((gO Z W B n hd s i * rinv (gO Z W B n hd s) : ℝ) : EReal) * g (ix2 0 ⟨256 * hd.val + i.val, by have := hd.isLt; have := i.isLt; omega⟩) *
    ((zf Z (64 * n + s.val) (2048 + 256 * hd.val + i.val) * sig (zf Z (64 * n + s.val) (2048 + 256 * hd.val + i.val)) : ℝ) : EReal)

theorem g_ld (g : Vec Ideal ⟨2, ![1, 1024]⟩ .f32) (p : ℕ) (inb) (i : Fin 256) (l : Fin 1024) (hl : l.val = p + i.val) :
    View.ld (Val := Elt Ideal) (e' := .f32) g (Rect.unit (s := Kernel12Ideal.S1x1024) ![0, p] ![1, 256] inb) (ix2 0 i) = g (ix2 0 l) := by
  show g ((Rect.unit (s := Kernel12Ideal.S1x1024) ![0, p] ![1, 256] inb).emb (ix2 0 i)) = _
  generalize hz : (Rect.unit (s := Kernel12Ideal.S1x1024) ![0, p] ![1, 256] inb).emb (ix2 0 i) = z
  have e0 : (z 0).val = 0 := by subst hz; simp
  have e1 : (z 1).val = p + i.val := by subst hz; simp
  refine congrArg g ?_
  funext a
  fin_cases a
  · exact Fin.ext e0
  · exact Fin.ext (e1.trans hl.symm)

theorem gAt_eq (g : Vec Ideal ⟨2, ![1, 1024]⟩ .f32) (hd : Fin 4) (i : Fin 256) :
    gAt g hd (ix2 0 i) = g (ix2 0 ⟨256 * hd.val + i.val, by have := hd.isLt; have := i.isLt; omega⟩) := by
  fin_cases hd
  · exact g_ld g 0 _ i _ rfl
  · exact g_ld g 256 _ i _ rfl
  · exact g_ld g 512 _ i _ rfl
  · exact g_ld g 768 _ i _ rfl

theorem y_eq (g : Vec Ideal ⟨2, ![1, 1024]⟩ .f32) (t : ℕ) (ci : Fin 8) (hd : Fin 4) (s : Fin 64) (i : Fin 256) :
    yaAt (zt Z t) (tL (zt Z t) (wt W) B) (gS Z W B (8 * t)) g ci hd (ix2 s i) = gY Z W B g (8 * t + ci.val) hd s i := by
  have hh := hd.isLt
  have hs := s.isLt
  have hi := i.isLt
  have hc := ci.isLt
  unfold yaAt gY ye
  refine congrArg₂ (· * ·) (congrArg₂ (· * ·) ?_ (gAt_eq g hd i)) ?_
  · show ((kO _ _ _ ci.val hd s i * rinv (kO _ _ _ ci.val hd s) : ℝ) : EReal) = _
    rw [show kO (zt Z t) (tL (zt Z t) (wt W) B) (gS Z W B (8 * t)) ci.val hd s = gO Z W B (8 * t + ci.val) hd s from
      funext fun i => out_eq Z W B t ci.val hc hd s i]
  · show ((subB _ _ _ _ _ s i * sig (subB _ _ _ _ _ s i) : ℝ) : EReal) = _
    rw [sub_z Z t s i (by omega) (by omega)]
    have e : 512 * t + (64 * ci.val + s.val) = 64 * (8 * t + ci.val) + s.val := by omega
    rw [e]

end global

end Cert.GlaFwd

end
-- ==== Proof.GlaFwdArrays.lean ====
/-
  What the gated linear attention's forward kernel stores over all its tiles.
-/
module

public import Idealize.ShloMosaic.Lib.Pipeline.ValueKit
public import Idealize.ShloMosaic.Lib.Pipeline.ReadBack
public import proofs.«01_k».proof.Proof.Rows
public import proofs.«01_k».proof.Proof.GlaFwdMath
public import proofs.«01_k».proof.Proof.Gen.Kernel12Ideal.Value

@[expose] public section

set_option maxRecDepth 16384

noncomputable section

namespace Cert.GlaFwd

open Idealize.ShloMosaic Idealize.ShloMosaic.TcCoe Idealize.SL.Sem
open Idealize.ShloMosaic.Pipeline (Dat)
open Cert.Kernel12Ideal Cert.Kernel12Ideal.Gen Cert.Reals Cert.Sigmoid

theorem outA4 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    out0_A_4 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g = all2 (yaAt Z (tL Z W B) (fun _ => zeroC) g) := by
  funext y
  unfold out0_A_4
  rw [View.read_writes_junk_eq_canon]
  have hr := runA4 c i arg1 harg1 arg2 harg2 arg3 harg3 arg4 harg4 arg5 harg5 arg6 harg6 arg7 harg7 arg8 harg8 arg9 harg9 arg10 harg10 arg11 harg11 arg12 harg12 hc0 Z W B g
  have hc := cover0_A_4 c i arg1 harg1 arg2 harg2 arg3 harg3 arg4 harg4 arg5 harg5 arg6 harg6 arg7 harg7 arg8 harg8 arg9 harg9 arg10 harg10 arg11 harg11 arg12 harg12 hc0 (c2 Z) (c2 W) (row B) g y
  generalize (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).1 = L at hr hc ⊢
  exact canon_pieces _ _ hr y hc

theorem outA5 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    out0_A_5 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g = all4 fun ci hd => kS Z (tL Z W B) (fun _ => zeroC) ci.val hd := by
  funext y
  unfold out0_A_5
  rw [View.read_writes_junk_eq_canon]
  have hr := runA5 c i arg1 harg1 arg2 harg2 arg3 harg3 arg4 harg4 arg5 harg5 arg6 harg6 arg7 harg7 arg8 harg8 arg9 harg9 arg10 harg10 arg11 harg11 arg12 harg12 hc0 Z W B g
  have hc := cover0_A_5 c i arg1 harg1 arg2 harg2 arg3 harg3 arg4 harg4 arg5 harg5 arg6 harg6 arg7 harg7 arg8 harg8 arg9 harg9 arg10 harg10 arg11 harg11 arg12 harg12 hc0 (c2 Z) (c2 W) (row B) g y
  generalize (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).2.1 = L at hr hc ⊢
  exact canon_pieces _ _ hr y hc

theorem outA6 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    out0_A_6 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g = all4 fun ci hd => kS Z (tL Z W B) (fun _ => zeroC) (ci.val + 1) hd := by
  funext y
  unfold out0_A_6
  rw [View.read_writes_junk_eq_canon]
  have hr := runA6 c i arg1 harg1 arg2 harg2 arg3 harg3 arg4 harg4 arg5 harg5 arg6 harg6 arg7 harg7 arg8 harg8 arg9 harg9 arg10 harg10 arg11 harg11 arg12 harg12 hc0 Z W B g
  have hc := cover0_A_6 c i arg1 harg1 arg2 harg2 arg3 harg3 arg4 harg4 arg5 harg5 arg6 harg6 arg7 harg7 arg8 harg8 arg9 harg9 arg10 harg10 arg11 harg11 arg12 harg12 hc0 (c2 Z) (c2 W) (row B) g y
  generalize (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).2.2.1 = L at hr hc ⊢
  exact canon_pieces _ _ hr y hc

theorem outA7 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    out0_A_7 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g = all2 fun ci hd => c2 (kO Z (tL Z W B) (fun _ => zeroC) ci.val hd) := by
  funext y
  unfold out0_A_7
  rw [View.read_writes_junk_eq_canon]
  have hr := runA7 c i arg1 harg1 arg2 harg2 arg3 harg3 arg4 harg4 arg5 harg5 arg6 harg6 arg7 harg7 arg8 harg8 arg9 harg9 arg10 harg10 arg11 harg11 arg12 harg12 hc0 Z W B g
  have hc := cover0_A_7 c i arg1 harg1 arg2 harg2 arg3 harg3 arg4 harg4 arg5 harg5 arg6 harg6 arg7 harg7 arg8 harg8 arg9 harg9 arg10 harg10 arg11 harg11 arg12 harg12 hc0 (c2 Z) (c2 W) (row B) g y
  generalize (kernelRun0_A (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g).2.2.2.1 = L at hr hc ⊢
  exact canon_pieces _ _ hr y hc

theorem outA8 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : cond0_0 i) (Z : Fin 512 → Fin 3200 → ℝ) (W : Fin 128 → Fin 512 → ℝ) (B : Fin 512 → ℝ) (g : Vec Ideal S1x1024 .f32) :
    sout0_A_0 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g = st (kS Z (tL Z W B) (fun _ => zeroC) 8) := by
  funext y
  unfold sout0_A_0
  rw [View.read_writes_junk_eq_canon]
  exact runA8 c i arg1 harg1 arg2 harg2 arg3 harg3 arg4 harg4 arg5 harg5 arg6 harg6 arg7 harg7 arg8 harg8 arg9 harg9 arg10 harg10 arg11 harg11 arg12 harg12 hc0 Z W B g y

theorem outB4 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    out0_B_4 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S) = all2 (yaAt Z (tL Z W B) S g) := by
  funext y
  unfold out0_B_4
  rw [View.read_writes_junk_eq_canon]
  have hr := runB4 c i arg1 harg1 arg2 harg2 arg3 harg3 arg4 harg4 arg5 harg5 arg6 harg6 arg7 harg7 arg8 harg8 arg9 harg9 arg10 harg10 arg11 harg11 arg12 harg12 hc0 Z W B g S
  have hc := cover0_B_4 c i arg1 harg1 arg2 harg2 arg3 harg3 arg4 harg4 arg5 harg5 arg6 harg6 arg7 harg7 arg8 harg8 arg9 harg9 arg10 harg10 arg11 harg11 arg12 harg12 hc0 (c2 Z) (c2 W) (row B) g (st S) y
  generalize (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).1 = L at hr hc ⊢
  exact canon_pieces _ _ hr y hc

theorem outB5 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    out0_B_5 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S) = all4 fun ci hd => kS Z (tL Z W B) S ci.val hd := by
  funext y
  unfold out0_B_5
  rw [View.read_writes_junk_eq_canon]
  have hr := runB5 c i arg1 harg1 arg2 harg2 arg3 harg3 arg4 harg4 arg5 harg5 arg6 harg6 arg7 harg7 arg8 harg8 arg9 harg9 arg10 harg10 arg11 harg11 arg12 harg12 hc0 Z W B g S
  have hc := cover0_B_5 c i arg1 harg1 arg2 harg2 arg3 harg3 arg4 harg4 arg5 harg5 arg6 harg6 arg7 harg7 arg8 harg8 arg9 harg9 arg10 harg10 arg11 harg11 arg12 harg12 hc0 (c2 Z) (c2 W) (row B) g (st S) y
  generalize (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).2.1 = L at hr hc ⊢
  exact canon_pieces _ _ hr y hc

theorem outB6 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    out0_B_6 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S) = all4 fun ci hd => kS Z (tL Z W B) S (ci.val + 1) hd := by
  funext y
  unfold out0_B_6
  rw [View.read_writes_junk_eq_canon]
  have hr := runB6 c i arg1 harg1 arg2 harg2 arg3 harg3 arg4 harg4 arg5 harg5 arg6 harg6 arg7 harg7 arg8 harg8 arg9 harg9 arg10 harg10 arg11 harg11 arg12 harg12 hc0 Z W B g S
  have hc := cover0_B_6 c i arg1 harg1 arg2 harg2 arg3 harg3 arg4 harg4 arg5 harg5 arg6 harg6 arg7 harg7 arg8 harg8 arg9 harg9 arg10 harg10 arg11 harg11 arg12 harg12 hc0 (c2 Z) (c2 W) (row B) g (st S) y
  generalize (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).2.2.1 = L at hr hc ⊢
  exact canon_pieces _ _ hr y hc

theorem outB7 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    out0_B_7 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S) = all2 fun ci hd => c2 (kO Z (tL Z W B) S ci.val hd) := by
  funext y
  unfold out0_B_7
  rw [View.read_writes_junk_eq_canon]
  have hr := runB7 c i arg1 harg1 arg2 harg2 arg3 harg3 arg4 harg4 arg5 harg5 arg6 harg6 arg7 harg7 arg8 harg8 arg9 harg9 arg10 harg10 arg11 harg11 arg12 harg12 hc0 Z W B g S
  have hc := cover0_B_7 c i arg1 harg1 arg2 harg2 arg3 harg3 arg4 harg4 arg5 harg5 arg6 harg6 arg7 harg7 arg8 harg8 arg9 harg9 arg10 harg10 arg11 harg11 arg12 harg12 hc0 (c2 Z) (c2 W) (row B) g (st S) y
  generalize (kernelRun0_B (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S)).2.2.2.1 = L at hr hc ⊢
  exact canon_pieces _ _ hr y hc

theorem outB8 (c : Dev nD) (i : grid0.Coords) (arg1 : Memref sig .tc .vmem S512x3200 .bf16) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S8x4x256x128 .bf16) (harg7 : arg7.IsWhole) (arg8 : Memref sig .tc .vmem S512x1024 .f32) (harg8 : arg8.IsWhole) (arg9 : Memref sig .tc .vmem S4x256x128 .f32) (harg9 : arg9.IsWhole) (arg10 : Memref sig .tc .vmem S512x512 .f32) (harg10 : arg10.IsWhole) (arg11 : Memref sig .tc .vmem S8x512 .f32) (harg11 : arg11.IsWhole) (arg12 : Memref sig .tc .vmem S8x4x256x128 .f32) (harg12 : arg12.IsWhole) (hc0 : ¬cond0_0 i) (Z : Fin 512 → Fin 3200 → ℝ) (W : Fin 128 → Fin 512 → ℝ) (B : Fin 512 → ℝ) (g : Vec Ideal S1x1024 .f32) (S : Fin 4 → Fin 256 → Fin 128 → ℝ) :
    sout0_B_0 (F := Ideal) c i arg1 harg1 arg2 harg2 arg3 harg3 arg4 harg4 arg5 harg5 arg6 harg6 arg7 harg7 arg8 harg8 arg9 harg9 arg10 harg10 arg11 harg11 arg12 harg12 hc0 (c2 Z) (c2 W) (row B) g (st S) = st (kS Z (tL Z W B) S 8) := by
  funext y
  unfold sout0_B_0
  rw [View.read_writes_junk_eq_canon]
  exact runB8 c i arg1 harg1 arg2 harg2 arg3 harg3 arg4 harg4 arg5 harg5 arg6 harg6 arg7 harg7 arg8 harg8 arg9 harg9 arg10 harg10 arg11 harg11 arg12 harg12 hc0 Z W B g S y

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0, 0, 0] ∧ win0_6.index t = ![t.val, 0, 0, 0] ∧ win0_7.index t = ![t.val, 0] :=
  (by decide +kernel : ∀ t : Fin grid0.N, _)

theorem lt8 (t : Fin cfg0.N) : t.val < 8 := lt_of_lt_of_eq t.isLt N_0

/-- Row `r` of tile `t`. -/
def trow (t : Fin cfg0.N) (r : Fin 512) : Fin 4096 := ⟨512 * t.val + r.val, by have := lt8 t; omega⟩

variable (Z : Fin 4096 → Fin 3088 → ℝ) (W : Fin 16 → Fin 512 → ℝ) (B : Fin 512 → ℝ) (c : Dev nD)
  (hZ : ∀ i k, m ((c : Thread nD τ).loc main_arg0) (ix2 i k) = (Z i k : EReal))
  (hW : ∀ i k, m ((c : Thread nD τ).loc main_arg1) (ix2 i k) = (W i k : EReal))
  (hB : ∀ i k, m ((c : Thread nD τ).loc main_arg2) (ix2 i k) = (B k : EReal))

include hZ in
theorem blk0 (t : Fin cfg0.N) : iblk m c 0 t = c2 (zt Z t.val) := by
  funext y
  obtain ⟨i, k, rfl⟩ : ∃ (i : Fin 512) (k : Fin 3200), y = ix2 i k := ⟨y 0, y 1, (by funext a; fin_cases a <;> rfl)⟩
  have h := idx t
  rw [iblk]
  unfold V
  simp only [hostOps0, hostOps0_1, hostOps0_2, hostOps0_3, hostOps0_4, List.flatten_cons, List.flatten_nil, List.append_nil, List.cons_append, List.nil_append]
  entry_read
  have e : (win0_0.blk t).view.emb (ix2 i k) = ix2 (trow t i) k := by
    funext a
    fin_cases a
    · apply Fin.ext
      blk_simp [h]
      show t.val * 512 + i.val = 512 * t.val + i.val
      omega
    · apply Fin.ext
      blk_simp [h]
      rfl
  blk_simp [h]
  rw [e]
  simp only [StableHlo.TRef.toBuf, StableHlo.TRef.ofBuf, cast_cast, cast_eq]
  pointwise []
  show _ = ((zf Z (512 * t.val + i.val) k.val : ℝ) : EReal)
  unfold zf
  by_cases hk : k.val < 3088
  · rw [dif_pos hk, dif_pos ⟨(trow t i).isLt, hk⟩]
    exact hZ (trow t i) ⟨k.val, hk⟩
  · rw [dif_neg hk, dif_neg (fun h => hk h.2)]
    show (((0#32 : BitVec 32).toInt : ℝ) : EReal) = _
    simp

include hW in
theorem blk1 (t : Fin cfg0.N) : iblk m c 1 t = c2 (wt W) := by
  funext y
  obtain ⟨i, k, rfl⟩ : ∃ (i : Fin 128) (k : Fin 512), y = ix2 i k := ⟨y 0, y 1, (by funext a; fin_cases a <;> rfl)⟩
  have h := idx t
  rw [iblk]
  unfold V
  simp only [hostOps0, hostOps0_1, hostOps0_2, hostOps0_3, hostOps0_4, List.flatten_cons, List.flatten_nil, List.append_nil, List.cons_append, List.nil_append]
  entry_read
  have e : (win0_1.blk t).view.emb (ix2 i k) = ix2 i k := by
    funext a
    fin_cases a
    · apply Fin.ext
      blk_simp [h]
    · apply Fin.ext
      blk_simp [h]
  blk_simp [h]
  rw [e]
  simp only [StableHlo.TRef.toBuf, StableHlo.TRef.ofBuf, cast_cast, cast_eq]
  pointwise []
  show _ = ((wt W i k : ℝ) : EReal)
  unfold wt
  by_cases hk : i.val < 16
  · rw [dif_pos hk, dif_pos hk]
    exact hW ⟨i.val, hk⟩ k
  · rw [dif_neg hk, dif_neg hk]
    show (((0#32 : BitVec 32).toInt : ℝ) : EReal) = _
    simp

include hB in
theorem blk2 (t : Fin cfg0.N) : iblk m c 2 t = row B := by
  funext y
  obtain ⟨i, k, rfl⟩ : ∃ (i : Fin 1) (k : Fin 512), y = ix2 i k := ⟨y 0, y 1, (by funext a; fin_cases a <;> rfl)⟩
  have h := idx t
  rw [iblk]
  unfold V
  simp only [hostOps0, hostOps0_1, hostOps0_2, hostOps0_3, hostOps0_4, List.flatten_cons, List.flatten_nil, List.append_nil, List.cons_append, List.nil_append]
  entry_read
  have e : (win0_2.blk t).view.emb (ix2 i k) = ix2 i k := by
    funext a
    fin_cases a
    · apply Fin.ext
      blk_simp [h]
    · apply Fin.ext
      blk_simp [h]
  blk_simp [h]
  rw [e]
  exact hB i k

theorem blk3 (t : Fin cfg0.N) : iblk m c 3 t = m ((c : Thread nD τ).loc main_arg3) := by
  funext y
  obtain ⟨i, k, rfl⟩ : ∃ (i : Fin 1) (k : Fin 1024), y = ix2 i k := ⟨y 0, y 1, (by funext a; fin_cases a <;> rfl)⟩
  have h := idx t
  rw [iblk]
  unfold V
  simp only [hostOps0, hostOps0_1, hostOps0_2, hostOps0_3, hostOps0_4, List.flatten_cons, List.flatten_nil, List.append_nil, List.cons_append, List.nil_append]
  entry_read
  have e : (win0_3.blk t).view.emb (ix2 i k) = ix2 i k := by
    funext a
    fin_cases a
    · apply Fin.ext
      blk_simp [h]
    · apply Fin.ext
      blk_simp [h]
  blk_simp [h]
  rw [e]

/-- What the tile `n` leaves: the normed outputs, the states before and after its chunks, the outputs, and the state it hands on. -/
def left (g : Vec Ideal S1x1024 .f32) (n : ℕ) : Vec Ideal S512x1024 .bf16 × Vec Ideal S8x4x256x128 .f32 × Vec Ideal S8x4x256x128 .bf16 × Vec Ideal S512x1024 .f32 × Vec Ideal S4x256x128 .f32 :=
  (all2 (yaAt (zt Z n) (tL (zt Z n) (wt W) B) (gS Z W B (8 * n)) g),
   all4 (fun ci hd => kS (zt Z n) (tL (zt Z n) (wt W) B) (gS Z W B (8 * n)) ci.val hd),
   all4 (fun ci hd => kS (zt Z n) (tL (zt Z n) (wt W) B) (gS Z W B (8 * n)) (ci.val + 1) hd),
   all2 (fun ci hd => c2 (kO (zt Z n) (tL (zt Z n) (wt W) B) (gS Z W B (8 * n)) ci.val hd)),
   st (kS (zt Z n) (tL (zt Z n) (wt W) B) (gS Z W B (8 * n)) 8))

include hZ hW hB in
theorem leaves (n : ℕ) : ∀ t : Fin cfg0.N, t.val = n → outsAt0 m c t.val t.isLt = left Z W B (m ((c : Thread nD τ).loc main_arg3)) n := by
  induction n with
  | zero =>
    intro t ht
    have e := outsAt0_A m c t (by omega)
    rw [blk0 m Z c hZ t, blk1 m W c hW t, blk2 m B c hB t, blk3 m c t, outA4, outA5, outA6, outA7, outA8] at e
    rw [e, ht]
    rfl
  | succ n ih =>
    intro t ht
    have h8 := lt8 t
    have e := outsAt0_B m c t (by omega)
    have hp : (outsAt0 m c (t.val - 1) (Nat.lt_of_le_of_lt (Nat.sub_le _ _) t.isLt)).2.2.2.2 = st (gS Z W B (8 * t.val)) := by
      have hi := ih ⟨t.val - 1, Nat.lt_of_le_of_lt (Nat.sub_le _ _) t.isLt⟩ (by show t.val - 1 = n; omega)
      refine (congrArg (fun p => p.2.2.2.2) hi).trans ?_
      show st _ = _
      refine congrArg st ?_
      funext hd
      rw [state_eq Z W B n 8 (Nat.le_refl 8) hd]
      rw [show 8 * n + 8 = 8 * t.val by omega]
    rw [hp, blk0 m Z c hZ t, blk1 m W c hW t, blk2 m B c hB t, blk3 m c t, outB4, outB5, outB6, outB7, outB8] at e
    rw [e, ht]
    rfl

/-- A chunk's output, as a value. -/
def gOe (n : ℕ) (hd : Fin 4) (s : Fin 64) (i : Fin 256) : EReal := (gO Z W B n hd s i : EReal)

theorem gO_congr {n n' : ℕ} {hd hd' : Fin 4} {s s' : Fin 64} {i i' : Fin 256} (a : n = n') (b : hd.val = hd'.val) (d : s.val = s'.val) (e : i.val = i'.val) :
    gOe Z W B n hd s i = gOe Z W B n' hd' s' i' := by
  rw [a, Fin.ext b, Fin.ext d, Fin.ext e]

theorem gY_congr (g : Vec Ideal S1x1024 .f32) {n n' : ℕ} {hd hd' : Fin 4} {s s' : Fin 64} {i i' : Fin 256} (a : n = n') (b : hd.val = hd'.val) (d : s.val = s'.val) (e : i.val = i'.val) :
    gY Z W B g n hd s i = gY Z W B g n' hd' s' i' := by
  rw [a, Fin.ext b, Fin.ext d, Fin.ext e]

include hZ hW hB in
theorem final4 : (dats m 0 c).arrAt 4 cfg0.N = fun j => gY Z W B (m ((c : Thread nD τ).loc main_arg3)) ((j 0).val / 64) ⟨(j 1).val / 256, Nat.div_lt_of_lt_mul (j 1).isLt⟩ ⟨(j 0).val % 64, Nat.mod_lt _ (by decide)⟩ ⟨(j 1).val % 256, Nat.mod_lt _ (by decide)⟩ := by
  refine (dats m 0 c).arrAt_eq_of_covers 4 _ (by decide +kernel) fun t hf y => ?_
  have h := idx t
  have h8 := lt8 t
  blk_simp
  rw [after0_4, leaves m Z W B c hZ hW hB t.val t rfl]
  have h0 : (y 0).val < 512 := (y 0).isLt
  have h1 : (y 1).val < 1024 := (y 1).isLt
  have e0 : win0_4.index t 0 = t.val := by simp [h]
  have e1 : win0_4.index t 1 = 0 := by simp [h]
  refine Eq.trans (y_eq Z W B (m ((c : Thread nD τ).loc main_arg3)) t.val ⟨(y 0).val / 64, by omega⟩ ⟨(y 1).val / 256, by omega⟩ ⟨(y 0).val % 64, by omega⟩ ⟨(y 1).val % 256, by omega⟩) (gY_congr Z W B (m ((c : Thread nD τ).loc main_arg3)) ?_ ?_ ?_ ?_)
  · show 8 * t.val + (y 0).val / 64 = (win0_4.index t 0 * 512 + (y 0).val) / 64
    rw [e0]; omega
  · show (y 1).val / 256 = (win0_4.index t 1 * 1024 + (y 1).val) / 256
    rw [e1]; omega
  · show (y 0).val % 64 = (win0_4.index t 0 * 512 + (y 0).val) % 64
    rw [e0]; omega
  · show (y 1).val % 256 = (win0_4.index t 1 * 1024 + (y 1).val) % 256
    rw [e1]; omega

include hZ hW hB in
theorem final5 : (dats m 0 c).arrAt 5 cfg0.N = fun j => (gS Z W B ((j 0).val) (j 1) (j 2) (j 3) : EReal) := by
  refine (dats m 0 c).arrAt_eq_of_covers 5 _ (by decide +kernel) fun t hf y => ?_
  have h := idx t
  have h8 := lt8 t
  blk_simp
  rw [after0_5, leaves m Z W B c hZ hW hB t.val t rfl]
  have h0 : (y 0).val < 8 := (y 0).isLt
  show ((kS _ _ _ ((y 0).val) (y 1) (y 2) (y 3) : ℝ) : EReal) = _
  rw [state_eq Z W B t.val ((y 0).val) (Nat.le_of_lt h0) (y 1)]
  congr 2
  · have e : 8 * t.val + ((y 0).val) = t.val * 8 + (y 0).val := by omega
    rw [e]
    blk_simp [h]
  all_goals
    apply Fin.ext
    blk_simp [h]

include hZ hW hB in
theorem final6 : (dats m 0 c).arrAt 6 cfg0.N = fun j => (gS Z W B ((j 0).val + 1) (j 1) (j 2) (j 3) : EReal) := by
  refine (dats m 0 c).arrAt_eq_of_covers 6 _ (by decide +kernel) fun t hf y => ?_
  have h := idx t
  have h8 := lt8 t
  blk_simp
  rw [after0_6, leaves m Z W B c hZ hW hB t.val t rfl]
  have h0 : (y 0).val < 8 := (y 0).isLt
  show ((kS _ _ _ ((y 0).val + 1) (y 1) (y 2) (y 3) : ℝ) : EReal) = _
  rw [state_eq Z W B t.val ((y 0).val + 1) h0 (y 1)]
  congr 2
  · have e : 8 * t.val + ((y 0).val + 1) = t.val * 8 + (y 0).val + 1 := by omega
    rw [e]
    blk_simp [h]
  all_goals
    apply Fin.ext
    blk_simp [h]

include hZ hW hB in
theorem final7 : (dats m 0 c).arrAt 7 cfg0.N = fun j => gOe Z W B ((j 0).val / 64) ⟨(j 1).val / 256, Nat.div_lt_of_lt_mul (j 1).isLt⟩ ⟨(j 0).val % 64, Nat.mod_lt _ (by decide)⟩ ⟨(j 1).val % 256, Nat.mod_lt _ (by decide)⟩ := by
  refine (dats m 0 c).arrAt_eq_of_covers 7 _ (by decide +kernel) fun t hf y => ?_
  have h := idx t
  have h8 := lt8 t
  blk_simp
  rw [after0_7, leaves m Z W B c hZ hW hB t.val t rfl]
  have h0 : (y 0).val < 512 := (y 0).isLt
  have h1 : (y 1).val < 1024 := (y 1).isLt
  have e0 : win0_7.index t 0 = t.val := by simp [h]
  have e1 : win0_7.index t 1 = 0 := by simp [h]
  refine Eq.trans (congrArg Real.toEReal (out_eq Z W B t.val ((y 0).val / 64) (by omega) ⟨(y 1).val / 256, by omega⟩ ⟨(y 0).val % 64, by omega⟩ ⟨(y 1).val % 256, by omega⟩)) (gO_congr Z W B ?_ ?_ ?_ ?_)
  · show 8 * t.val + (y 0).val / 64 = (win0_7.index t 0 * 512 + (y 0).val) / 64
    rw [e0]; omega
  · show (y 1).val / 256 = (win0_7.index t 1 * 1024 + (y 1).val) / 256
    rw [e1]; omega
  · show (y 0).val % 64 = (win0_7.index t 0 * 512 + (y 0).val) % 64
    rw [e0]; omega
  · show (y 1).val % 256 = (win0_7.index t 1 * 1024 + (y 1).val) % 256
    rw [e1]; omega

end Cert.GlaFwd

end
-- ==== Proof.GlaFwdReference.lean ====
/-
  The reference of the gated linear attention's forward, read as real numbers: what its loop starts from, what a trip
  does, and what its 64 trips leave.
-/
module

public import Idealize.ShloMosaic.Lib.Pipeline.ValueKit
public import Idealize.ShloMosaic.Lib.DynamicIndex
public import proofs.«01_k».proof.Proof.WindowChunk
public import proofs.«01_k».proof.Proof.GlaFwdArrays
public import proofs.«01_k».proof.Proof.Gen.Reference12Ideal.Step

@[expose] public section

set_option maxRecDepth 16384

noncomputable section

namespace Cert.GlaFwd.Ref

open Idealize.ShloMosaic Idealize.ShloMosaic.TcCoe Idealize.SL.Sem
open Cert.Reference12Ideal Cert.Reference12Ideal.Gen Cert.Reference12Ideal.Step Cert.Reals Cert.Sigmoid

variable (a0 : (⟨S4096x3088, .f32⟩ : BufTy).Contents (Elt Ideal)) (a1 : (⟨S16x512, .f32⟩ : BufTy).Contents (Elt Ideal)) (a2 : (⟨S1x512, .f32⟩ : BufTy).Contents (Elt Ideal))
  (Z : Fin 4096 → Fin 3088 → ℝ) (W : Fin 16 → Fin 512 → ℝ) (B : Fin 512 → ℝ)
  (h0 : ∀ i k, a0 (ix2 i k) = (Z i k : EReal)) (h1 : ∀ i k, a1 (ix2 i k) = (W i k : EReal)) (h2 : ∀ i k, a2 (ix2 i k) = (B k : EReal))

include h0 in
theorem z_at (i : Fin 4096) (k : Fin 3088) {r l : ℕ} (hr : i.val = r) (hl : k.val = l) : a0 (ix2 i k) = (zf Z r l : EReal) := by
  subst hr hl
  rw [h0]
  unfold zf
  rw [dif_pos ⟨i.isLt, k.isLt⟩]

/-- The host's log-sigmoid over sixteen. -/
theorem lse_at (x : ℝ) : Ideal.div (-(max (-(x : EReal)) 0 + Ideal.log1p (Ideal.exp (-FloatOps.absf (F := Ideal) (φ := .f32) (-(x : EReal)))))) (Ideal.ofBits .f32 1098907648#32) = (lsig x : EReal) := by
  have ha : FloatOps.absf (F := Ideal) (φ := .f32) (-(x : EReal)) = ((|x| : ℝ) : EReal) := by
    rw [Ideal.absf_def, neg_neg, max_comm, ← EReal.coe_neg, ← EReal.coe_strictMono.monotone.map_max]; rfl
  have h16 : Ideal.ofBits .f32 1098907648#32 = ((16 : ℝ) : EReal) := by
    simp [Ideal.ofBits, Ideal.ieee, -EReal.coe_mul]; norm_num
  have hp : ¬ (1 + Real.exp (-|x|)) ≤ 0 := not_le.mpr (by positivity)
  have hm : max (-x) 0 = - min x 0 := by
    rcases le_total x 0 with h | h
    · rw [min_eq_left h, max_eq_left (by linarith)]
    · rw [min_eq_right h, max_eq_right (by linarith)]; simp
  rw [ha, h16, ← EReal.coe_neg, ← EReal.coe_neg, Ideal.exp_coe]
  unfold Ideal.log1p
  rw [← EReal.coe_one, ← EReal.coe_add, Ideal.log_coe, if_neg hp, ← EReal.coe_zero,
    ← EReal.coe_strictMono.monotone.map_max, ← EReal.coe_add, ← EReal.coe_neg, div_coe_coe (by norm_num), hm]
  unfold lsig
  congr 1
  ring

include h0 h1 h2 in
theorem la (r : Fin 4096) (c : Fin 512) : A_main_v23 (F := Ideal) a0 a1 a2 (ix2 r c) = (lf Z W B r.val c.val : EReal) := by
  have f6 : A_main_v6 (F := Ideal) a0 a1 a2 (ix2 r c) = ((∑ l : Fin 16, zf Z r.val (3072 + l.val) * W l c + B c : ℝ) : EReal) := by
    pointwise [A_main_v6, A_main_v4, A_main_v3, A_main_v5]
    simp only [h1, h2, z_at a0 Z h0 r _ rfl rfl, ← EReal.coe_mul, sum_coe, ← EReal.coe_add]
  pointwise [A_main_v23, A_main_v21, A_main_v20, A_main_v19, A_main_v18, A_main_v17, A_main_v16, A_main_v15, A_main_v14, A_main_v12, A_main_v11, A_main_v9, A_main_v7, K_main_v8, K_main_v10, K_main_v13, K_main_v22, K_main_cst, K_main_cst_0]
  rw [f6, if_neg (fun h => h rfl), lse_at]
  unfold lf
  rw [dif_pos c.isLt]

include h0 in
theorem q_at (n : Fin 64) (h : Fin 4) (s : Fin 64) (j : Fin 128) : A_main_v27 (F := Ideal) a0 a1 a2 (ix4 n h s j) = ((zf Z (64 * n.val + s.val) (128 * h.val + j.val) * scale : ℝ) : EReal) := by
  pointwise [A_main_v27, A_main_v26, A_main_v25, A_main_v0, K_main_v24, K_main_cst_1]
  rw [scale_word, z_at a0 Z h0 _ _ (r := 64 * n.val + s.val) (l := 128 * h.val + j.val) (by dsimp only; omega) (by dsimp only; omega), ← EReal.coe_mul]

include h0 in
theorem k_at (n : Fin 64) (h : Fin 4) (s : Fin 64) (j : Fin 128) : A_main_v29 (F := Ideal) a0 a1 a2 (ix4 n h s j) = (zf Z (64 * n.val + s.val) (512 + 128 * h.val + j.val) : EReal) := by
  pointwise [A_main_v29, A_main_v28, A_main_v1]
  rw [z_at a0 Z h0 _ _ (r := 64 * n.val + s.val) (l := 512 + 128 * h.val + j.val) (by dsimp only; omega) (by dsimp only; omega)]

include h0 in
theorem v_at (n : Fin 64) (h : Fin 4) (s : Fin 64) (i : Fin 256) : A_main_v31 (F := Ideal) a0 a1 a2 (ix4 n h s i) = (zf Z (64 * n.val + s.val) (1024 + 256 * h.val + i.val) : EReal) := by
  pointwise [A_main_v31, A_main_v30, A_main_v2]
  rw [z_at a0 Z h0 _ _ (r := 64 * n.val + s.val) (l := 1024 + 256 * h.val + i.val) (by dsimp only; omega) (by dsimp only; omega)]

include h0 h1 h2 in
theorem la_at (n : Fin 64) (h : Fin 4) (s : Fin 64) (j : Fin 128) : A_main_v33 (F := Ideal) a0 a1 a2 (ix4 n h s j) = (lf Z W B (64 * n.val + s.val) (128 * h.val + j.val) : EReal) := by
  pointwise [A_main_v33, A_main_v32]
  rw [la a0 a1 a2 Z W B h0 h1 h2]
  congr 2 <;> dsimp only <;> omega

include h0 h1 h2 in
theorem pre_at (n : Fin 64) (h : Fin 4) (s : Fin 64) (j : Fin 128) : A_main_v34 (F := Ideal) a0 a1 a2 (ix4 n h s j) = (gpre Z W B n.val s (128 * h.val + j.val) : EReal) := by
  unfold A_main_v34
  have e : K_main_call0_v0 (F := Ideal) = fun _ => (0 : EReal) := by
    funext j
    pointwise [K_main_call0_v0, K_main_call0_cst]
  rw [e]
  have hx := la_at a0 a1 a2 Z W B h0 h1 h2
  generalize A_main_v33 (F := Ideal) a0 a1 a2 = x at hx
  have hw := reduceWindows_S64x4x64x128_S64x4x64x128_w1s1p0_0_w1s1p0_0_w64s1p63_0_w1s1p0_0
  have key := Cert.Window.prefix_third 64 4 64 128 63 (by norm_num) x (fun n h s j => lf Z W B (64 * n.val + s) (128 * h.val + j.val)) hx hw n h s j
  unfold Host.reduceWindowAdd
  rw [Ideal.hostReduceWindowAdd_def]
  exact key

theorem gpre_last (n c : ℕ) : gpre Z W B n 63 c = gtot Z W B n c := by
  unfold gpre gtot
  refine Finset.sum_congr rfl fun r _ => ?_
  have := r.isLt
  rw [if_pos (show r.val ≤ (63 : Fin 64).val from (by show r.val ≤ 63; omega)), one_mul]

include h0 h1 h2 in
theorem kt_at (n : Fin 64) (h : Fin 4) (s : Fin 64) (j : Fin 128) :
    A_main_v39 (F := Ideal) a0 a1 a2 (ix4 n h s j) = ((zf Z (64 * n.val + s.val) (512 + 128 * h.val + j.val) *
      Real.exp (gtot Z W B n.val (128 * h.val + j.val) - gpre Z W B n.val s (128 * h.val + j.val)) : ℝ) : EReal) := by
  pointwise [A_main_v39, A_main_v38, A_main_v37, A_main_v36, A_main_v35]
  rw [k_at a0 a1 a2 Z h0, pre_at a0 a1 a2 Z W B h0 h1 h2, pre_at a0 a1 a2 Z W B h0 h1 h2, ← EReal.coe_sub, Ideal.exp_coe, ← EReal.coe_mul]
  rw [← gpre_last]

include h0 h1 h2 in
theorem ex_at (n : Fin 64) (h : Fin 4) (j : Fin 128) :
    A_main_v41 (F := Ideal) a0 a1 a2 (ix3 n h j) = ((Real.exp (gtot Z W B n.val (128 * h.val + j.val)) : ℝ) : EReal) := by
  pointwise [A_main_v41, A_main_v40, A_main_v35]
  rw [pre_at a0 a1 a2 Z W B h0 h1 h2, Ideal.exp_coe]
  rw [← gpre_last]

theorem b4_at (k : Fin 64) (s : State Ideal) (h : Fin 4) (r : Fin 64) (j : Fin 128) : b4 k.val s (ix3 h r j) = s.main_v46_0 (ix4 k h r j) := by
  have e : b3 k.val s = extractStridedSlice S1x4x64x128 ![k.val, 0, 0, 0] s.main_v46_0 (by have := k.isLt; exact ⟨rfl, fun a => by fin_cases a <;> first | (show k.val + 1 ≤ 64; omega) | exact Nat.le_refl _⟩) := by
    unfold b3
    refine Host.dynamicSlice_eq_extractStridedSlice _ _ _ _ _ _ fun a => ?_
    fin_cases a
    · exact toInt_ofNat_of_lt (by have := k.isLt; omega)
    all_goals rfl
  unfold b4
  rw [e]
  pointwise []

theorem b9_at (k : Fin 64) (s : State Ideal) (h : Fin 4) (r : Fin 64) (j : Fin 128) : b9 k.val s (ix3 h r j) = s.main_v46_1 (ix4 k h r j) := by
  have e : b8 k.val s = extractStridedSlice S1x4x64x128 ![k.val, 0, 0, 0] s.main_v46_1 (by have := k.isLt; exact ⟨rfl, fun a => by fin_cases a <;> first | (show k.val + 1 ≤ 64; omega) | exact Nat.le_refl _⟩) := by
    unfold b8
    refine Host.dynamicSlice_eq_extractStridedSlice _ _ _ _ _ _ fun a => ?_
    fin_cases a
    · exact toInt_ofNat_of_lt (by have := k.isLt; omega)
    all_goals rfl
  unfold b9
  rw [e]
  pointwise []

theorem b14_at (k : Fin 64) (s : State Ideal) (h : Fin 4) (r : Fin 64) (j : Fin 256) : b14 k.val s (ix3 h r j) = s.main_v46_2 (ix4 k h r j) := by
  have e : b13 k.val s = extractStridedSlice S1x4x64x256 ![k.val, 0, 0, 0] s.main_v46_2 (by have := k.isLt; exact ⟨rfl, fun a => by fin_cases a <;> first | (show k.val + 1 ≤ 64; omega) | exact Nat.le_refl _⟩) := by
    unfold b13
    refine Host.dynamicSlice_eq_extractStridedSlice _ _ _ _ _ _ fun a => ?_
    fin_cases a
    · exact toInt_ofNat_of_lt (by have := k.isLt; omega)
    all_goals rfl
  unfold b14
  rw [e]
  pointwise []

theorem b18_at (k : Fin 64) (s : State Ideal) (h : Fin 4) (j : Fin 128) : b18 k.val s (ix2 h j) = s.main_v46_3 (ix3 k h j) := by
  have e : b17 k.val s = extractStridedSlice S1x4x128 ![k.val, 0, 0] s.main_v46_3 (by have := k.isLt; exact ⟨rfl, fun a => by fin_cases a <;> first | (show k.val + 1 ≤ 64; omega) | exact Nat.le_refl _⟩) := by
    unfold b17
    refine Host.dynamicSlice_eq_extractStridedSlice _ _ _ _ _ _ fun a => ?_
    fin_cases a
    · exact toInt_ofNat_of_lt (by have := k.isLt; omega)
    all_goals rfl
  unfold b18
  rw [e]
  pointwise []

theorem b23_at (k : Fin 64) (s : State Ideal) (h : Fin 4) (j : Fin 128) (i : Fin 256) :
    b23 k.val s (ix3 h j i) = s.main_v46_3 (ix3 k h j) * s.main_v46_5 (ix3 h j i) + ∑ r : Fin 64, s.main_v46_1 (ix4 k h r j) * s.main_v46_2 (ix4 k h r i) := by
  pointwise [b23, b22, b21, b20, b19]
  simp only [b9_at, b14_at, b18_at]

theorem b24_at (k : Fin 64) (s : State Ideal) (h : Fin 4) (r : Fin 64) (i : Fin 256) :
    b24 k.val s (ix3 h r i) = ∑ j : Fin 128, s.main_v46_0 (ix4 k h r j) * b23 k.val s (ix3 h j i) := by
  pointwise [b24]
  simp only [b4_at]

theorem b29_at (k : Fin 64) (s : State Ideal) (n : Fin 64) (h : Fin 4) (r : Fin 64) (i : Fin 256) :
    b29 k.val s (ix4 n h r i) = if n = k then b24 k.val s (ix3 h r i) else s.main_v46_6 (ix4 n h r i) := by
  unfold b29
  rw [Host.dynamicUpdateSlice_eq_updateSlice _ _ _ _ ![k.val, 0, 0, 0] (fun a => by
    have := k.isLt
    fin_cases a
    · show (min (max ((BitVec.ofNat 32 k.val).toInt) 0) ((64 - 1 : ℕ) : ℤ)).toNat = k.val
      rw [toInt_ofNat_of_lt (by omega)]; omega
    all_goals rfl) (by have := k.isLt; exact ⟨rfl, fun a => by fin_cases a <;> first | (show k.val + 1 ≤ 64; omega) | exact Nat.le_refl _⟩)]
  pointwise [b25]
  by_cases hk : n = k
  · subst hk; rw [if_pos rfl, dif_pos ⟨le_rfl, Nat.lt_succ_self _⟩]
  · rw [if_neg hk, dif_neg fun hh => hk (Fin.ext (by omega))]

theorem b34_at (k : Fin 64) (s : State Ideal) (n : Fin 64) (h : Fin 4) (r : Fin 128) (i : Fin 256) :
    b34 k.val s (ix4 n h r i) = if n = k then s.main_v46_5 (ix3 h r i) else s.main_v46_7 (ix4 n h r i) := by
  unfold b34
  rw [Host.dynamicUpdateSlice_eq_updateSlice _ _ _ _ ![k.val, 0, 0, 0] (fun a => by
    have := k.isLt
    fin_cases a
    · show (min (max ((BitVec.ofNat 32 k.val).toInt) 0) ((64 - 1 : ℕ) : ℤ)).toNat = k.val
      rw [toInt_ofNat_of_lt (by omega)]; omega
    all_goals rfl) (by have := k.isLt; exact ⟨rfl, fun a => by fin_cases a <;> first | (show k.val + 1 ≤ 64; omega) | exact Nat.le_refl _⟩)]
  pointwise [b30]
  by_cases hk : n = k
  · subst hk; rw [if_pos rfl, dif_pos ⟨le_rfl, Nat.lt_succ_self _⟩]
  · rw [if_neg hk, dif_neg fun hh => hk (Fin.ext (by omega))]

theorem b39_at (k : Fin 64) (s : State Ideal) (n : Fin 64) (h : Fin 4) (r : Fin 128) (i : Fin 256) :
    b39 k.val s (ix4 n h r i) = if n = k then b23 k.val s (ix3 h r i) else s.main_v46_8 (ix4 n h r i) := by
  unfold b39
  rw [Host.dynamicUpdateSlice_eq_updateSlice _ _ _ _ ![k.val, 0, 0, 0] (fun a => by
    have := k.isLt
    fin_cases a
    · show (min (max ((BitVec.ofNat 32 k.val).toInt) 0) ((64 - 1 : ℕ) : ℤ)).toNat = k.val
      rw [toInt_ofNat_of_lt (by omega)]; omega
    all_goals rfl) (by have := k.isLt; exact ⟨rfl, fun a => by fin_cases a <;> first | (show k.val + 1 ≤ 64; omega) | exact Nat.le_refl _⟩)]
  pointwise [b35]
  by_cases hk : n = k
  · subst hk; rw [if_pos rfl, dif_pos ⟨le_rfl, Nat.lt_succ_self _⟩]
  · rw [if_neg hk, dif_neg fun hh => hk (Fin.ext (by omega))]

/-- The states of the loop. -/
def it : ℕ → State Ideal
  | 0 => init a0 a1 a2
  | n + 1 => step n (it n)

/-- What the loop holds after n of its trips. -/
structure Inv (n : ℕ) (s : State Ideal) : Prop where
  q : s.main_v46_0 = A_main_v27 a0 a1 a2
  k : s.main_v46_1 = A_main_v39 a0 a1 a2
  v : s.main_v46_2 = A_main_v31 a0 a1 a2
  e : s.main_v46_3 = A_main_v41 a0 a1 a2
  st : ∀ h j i, s.main_v46_5 (ix3 h j i) = (gS Z W B n h i j : EReal)
  o : ∀ (m : Fin 64) h r i, m.val < n → s.main_v46_6 (ix4 m h r i) = (gO Z W B m.val h r i : EReal)
  be : ∀ (m : Fin 64) h j i, m.val < n → s.main_v46_7 (ix4 m h j i) = (gS Z W B m.val h i j : EReal)
  af : ∀ (m : Fin 64) h j i, m.val < n → s.main_v46_8 (ix4 m h j i) = (gS Z W B (m.val + 1) h i j : EReal)

include h0 h1 h2 in
theorem new_at (n : Fin 64) (s : State Ideal) (H : Inv a0 a1 a2 Z W B n.val s) (h : Fin 4) (j : Fin 128) (i : Fin 256) :
    b23 n.val s (ix3 h j i) = (gS Z W B (n.val + 1) h i j : EReal) := by
  rw [b23_at, H.e, H.k, H.v, H.st, ex_at a0 a1 a2 Z W B h0 h1 h2]
  simp only [kt_at a0 a1 a2 Z W B h0 h1 h2, v_at a0 a1 a2 Z h0, ← EReal.coe_mul, sum_coe, ← EReal.coe_add]
  congr 1
  rw [show gS Z W B (n.val + 1) h = gstep Z W B n.val h (gS Z W B n.val h) from rfl]
  unfold gstep
  rw [mul_comm]
  congr 1
  exact Finset.sum_congr rfl fun r _ => mul_comm _ _

include h0 h1 h2 in
theorem inv_step (n : Fin 64) (s : State Ideal) (H : Inv a0 a1 a2 Z W B n.val s) : Inv a0 a1 a2 Z W B (n.val + 1) (step n.val s) := by
  have new := new_at a0 a1 a2 Z W B h0 h1 h2 n s H
  refine ⟨H.q, H.k, H.v, H.e, ?_, ?_, ?_, ?_⟩
  · intro h j i
    rw [step_main_v46_5]
    exact new h j i
  · intro m h r i hm
    rw [step_main_v46_6, b29_at]
    split
    · next e =>
      subst e
      rw [b24_at, H.q]
      simp only [new, q_at a0 a1 a2 Z h0, ← EReal.coe_mul, sum_coe]
      rfl
    · next e => exact H.o m h r i (by have : m.val ≠ n.val := fun q => e (Fin.ext q); omega)
  · intro m h j i hm
    rw [step_main_v46_7, b34_at]
    split
    · next e => subst e; exact H.st h j i
    · next e => exact H.be m h j i (by have : m.val ≠ n.val := fun q => e (Fin.ext q); omega)
  · intro m h j i hm
    rw [step_main_v46_8, b39_at]
    split
    · next e => subst e; exact new h j i
    · next e => exact H.af m h j i (by have : m.val ≠ n.val := fun q => e (Fin.ext q); omega)

include h0 h1 h2 in
theorem inv_it : ∀ n, n ≤ 64 → Inv a0 a1 a2 Z W B n (it a0 a1 a2 n)
  | 0, _ => by
    refine ⟨rfl, rfl, rfl, rfl, fun h j i => ?_, fun m h j i hm => absurd hm (Nat.not_lt_zero _), fun m h j i hm => absurd hm (Nat.not_lt_zero _), fun m h j i hm => absurd hm (Nat.not_lt_zero _)⟩
    show K_main_v42 (F := Ideal) (ix3 h j i) = _
    pointwise [K_main_v42, K_main_cst_2]
    rfl
  | n + 1, hn => inv_step a0 a1 a2 Z W B h0 h1 h2 ⟨n, by omega⟩ _ (inv_it n (by omega))

theorem rinv_at (x : Fin 256 → ℝ) : Ideal.rsqrt (Ideal.div (∑ i, (x i : EReal) * (x i : EReal)) (Ideal.ofBits FTy.f32 1132462080#32) + Ideal.ofBits FTy.f32 897988541#32) = (rinv x : EReal) := by
  have e : Ideal.ofBits FTy.f32 1132462080#32 = ((256 : ℝ) : EReal) := by
    simp [Ideal.ofBits, Ideal.ieee, -EReal.coe_mul]; norm_num
  rw [e, eps_word]
  simp only [← EReal.coe_mul, sum_coe]
  rw [div_coe_coe (by norm_num), ← EReal.coe_add, show (∑ i, x i * x i) / 256 + eps = msq x by unfold msq; norm_num]
  exact rsqrt_pos (msq_pos _)

section results
variable {a0 a1 a2 Z W B} {s : State Ideal} (H : Inv a0 a1 a2 Z W B 64 s) (g : (⟨S1x1024, .f32⟩ : BufTy).Contents (Elt Ideal))

include H in
theorem before_at (n : Fin 64) (h : Fin 4) (i : Fin 256) (j : Fin 128) : R_main_v68 s (ix4 n h i j) = (gS Z W B n.val h i j : EReal) := by
  pointwise [R_main_v68]
  exact H.be n h j i n.isLt

include H in
theorem after_at (n : Fin 64) (h : Fin 4) (i : Fin 256) (j : Fin 128) : R_main_v70 s (ix4 n h i j) = (gS Z W B (n.val + 1) h i j : EReal) := by
  pointwise [R_main_v70]
  exact H.af n h j i n.isLt

include H in
theorem o_at (r : Fin 4096) (c : Fin 1024) : R_main_v71 s (ix2 r c) = gOe Z W B (r.val / 64) ⟨c.val / 256, by have := c.isLt; omega⟩ ⟨r.val % 64, by omega⟩ ⟨c.val % 256, by omega⟩ := by
  pointwise [R_main_v71]
  exact H.o ⟨r.val / 64, by have := r.isLt; omega⟩ _ _ _ (by have := r.isLt; dsimp only; omega)

include H h0 in
theorem y_at (r : Fin 4096) (c : Fin 1024) : R_main_v67 s a0 g (ix2 r c) = gY Z W B g (r.val / 64) ⟨c.val / 256, by have := c.isLt; omega⟩ ⟨r.val % 64, by omega⟩ ⟨c.val % 256, by omega⟩ := by
  pointwise [R_main_v67]
  have hr := r.isLt
  have ho : ∀ h r' i, s.main_v46_6 (ix4 (⟨r.val / 64, by omega⟩ : Fin 64) h r' i) = (gO Z W B (r.val / 64) h r' i : EReal) := fun h r' i =>
    H.o ⟨r.val / 64, by omega⟩ h r' i (by dsimp only; omega)
  simp only [ho]
  rw [show Ideal.rsqrt (Ideal.div (∑ x : Fin 256, (gO Z W B (r.val / 64) ⟨c.val / 256, by have := c.isLt; omega⟩ ⟨r.val % 64, by omega⟩ x : EReal) * (gO Z W B (r.val / 64) ⟨c.val / 256, by have := c.isLt; omega⟩ ⟨r.val % 64, by omega⟩ x : EReal)) (Ideal.ofBits FTy.f32 1132462080#32) + Ideal.ofBits FTy.f32 897988541#32)
      = (rinv (gO Z W B (r.val / 64) ⟨c.val / 256, by have := c.isLt; omega⟩ ⟨r.val % 64, by omega⟩) : EReal) from rinv_at _, ← EReal.coe_mul]
  unfold gY
  refine congrArg₂ (· * ·) (congrArg₂ (· * ·) rfl (congrArg g ?_)) ?_
  · have e : 256 * (c.val / 256) + c.val % 256 = c.val := Nat.div_add_mod _ _
    exact congrArg (ix2 0) (Fin.ext e.symm)
  · rw [z_at a0 Z h0 r _ (r := 64 * (r.val / 64) + r.val % 64) (l := 2048 + 256 * (c.val / 256) + c.val % 256) (by omega) (by dsimp only; omega)]
    exact (congrArg _ (sg_coe _)).trans (EReal.coe_mul _ _).symm

end results

end Cert.GlaFwd.Ref

end
-- ==== Proof.GlaFwdRun.lean ====
/-
  The reference of the gated linear attention's forward, run: its loop over the chunks as a sequence of states.
-/
module

public import proofs.«01_k».proof.Proof.Gen.Reference12Ideal.Run
public import proofs.«01_k».proof.Proof.Gen.Reference12Ideal.Step

@[expose] public section

noncomputable section

namespace Cert.GlaFwd.Ref

open Idealize.ShloMosaic Idealize.ShloMosaic.TcCoe Idealize.SL.Sem Idealize.ShloMosaic.StableHlo
open Cert.Reference12Ideal Cert.Reference12Ideal.Gen Cert.Reference12Ideal.Value
open Cert.Reference12Ideal.Step (State step init)

variable {F : FTy → Type} [FloatOps F]

variable (V0 : Valuation τ sig (Elt F)) (s : State F) (j : ℕ)

/-- The valuation holds a state and the trip's number. -/
structure Holds : Prop where
  f_5 : V0 (Proc.devRef .tc main_v46_5) = s.main_v46_5
  f_6 : V0 (Proc.devRef .tc main_v46_6) = s.main_v46_6
  f_7 : V0 (Proc.devRef .tc main_v46_7) = s.main_v46_7
  f_8 : V0 (Proc.devRef .tc main_v46_8) = s.main_v46_8
  f_0 : V0 (Proc.devRef .tc main_v46_0) = s.main_v46_0
  f_1 : V0 (Proc.devRef .tc main_v46_1) = s.main_v46_1
  f_2 : V0 (Proc.devRef .tc main_v46_2) = s.main_v46_2
  f_3 : V0 (Proc.devRef .tc main_v46_3) = s.main_v46_3
  n_4 : V0 (Proc.devRef .tc main_v46_4) = constantI S_ 32 (BitVec.ofNat 32 j)

variable {V0 s j}

set_option maxRecDepth 8192 in
theorem new_state (h : Holds V0 s j) : (res_main_while0b_v80 V0 : (⟨S4x128x256, .f32⟩ : BufTy).Contents (Elt F)) = Step.b23 j s := by
  obtain ⟨h5, h6, h7, h8, h0, h1, h2, h3, h4⟩ := h
  cases s
  dsimp only at h5 h6 h7 h8 h0 h1 h2 h3
  unfold res_main_while0b_v80
  rw [h1, h2, h3, h4, h5]
  rfl

set_option maxRecDepth 8192 in
theorem step_5 (h : Holds V0 s j) : step_main_v46_5 V0 = (step j s).main_v46_5 := new_state h

set_option maxRecDepth 8192 in
theorem step_6 (h : Holds V0 s j) : step_main_v46_6 V0 = (step j s).main_v46_6 := by
  have e := new_state h
  obtain ⟨h5, h6, h7, h8, h0, h1, h2, h3, h4⟩ := h
  unfold step_main_v46_6
  rw [e, h6, h4, h0]
  rfl

set_option maxRecDepth 8192 in
theorem step_7 (h : Holds V0 s j) : step_main_v46_7 V0 = (step j s).main_v46_7 := by
  obtain ⟨h5, h6, h7, h8, h0, h1, h2, h3, h4⟩ := h
  unfold step_main_v46_7
  rw [h5, h7, h4]
  rfl

set_option maxRecDepth 8192 in
theorem step_8 (h : Holds V0 s j) : step_main_v46_8 V0 = (step j s).main_v46_8 := by
  have e := new_state h
  obtain ⟨h5, h6, h7, h8, h0, h1, h2, h3, h4⟩ := h
  unfold step_main_v46_8
  rw [e, h8, h4]
  rfl

theorem step_4 (h : Holds V0 s j) : step_main_v46_4 V0 = constantI S_ 32 (BitVec.ofNat 32 (j + 1)) := by
  unfold step_main_v46_4
  rw [h.n_4]
  funext i
  show BitVec.ofNat 32 j + 1#32 = BitVec.ofNat 32 (j + 1)
  simp only [BitVec.ofNat_add]

set_option maxRecDepth 8192 in
theorem out_main_v67_holds (h : Holds V0 s j) {x_main_arg0 : (⟨S4096x3088, .f32⟩ : BufTy).Contents (Elt F)} (h_main_arg0 : V0 (Proc.devRef .tc main_arg0) = x_main_arg0) {x_main_arg3 : (⟨S1x1024, .f32⟩ : BufTy).Contents (Elt F)} (h_main_arg3 : V0 (Proc.devRef .tc main_arg3) = x_main_arg3) : out_main_v67 V0 = Step.R_main_v67 s x_main_arg0 x_main_arg3 := by
  unfold out_main_v67 Step.R_main_v67
  rw [h.f_6, h_main_arg0, h_main_arg3]
  try rfl

set_option maxRecDepth 8192 in
theorem out_main_v68_holds (h : Holds V0 s j) : out_main_v68 V0 = Step.R_main_v68 s := by
  unfold out_main_v68 Step.R_main_v68
  rw [h.f_7]
  try rfl

set_option maxRecDepth 8192 in
theorem out_main_v70_holds (h : Holds V0 s j) : out_main_v70 V0 = Step.R_main_v70 s := by
  unfold out_main_v70 Step.R_main_v70
  rw [h.f_8]
  try rfl

set_option maxRecDepth 8192 in
theorem out_main_v71_holds (h : Holds V0 s j) : out_main_v71 V0 = Step.R_main_v71 s := by
  unfold out_main_v71 Step.R_main_v71
  rw [h.f_6]
  try rfl

/-- A trip takes what holds a state to what holds the next. -/
theorem holds_step (h : Holds V0 s j) : Holds (STEP V0) (step j s) (j + 1) where
  f_5 := (STEP_main_v46_5 V0).trans (step_5 h)
  f_6 := (STEP_main_v46_6 V0).trans (step_6 h)
  f_7 := (STEP_main_v46_7 V0).trans (step_7 h)
  f_8 := (STEP_main_v46_8 V0).trans (step_8 h)
  n_4 := (STEP_main_v46_4 V0).trans (step_4 h)
  f_0 := (STEP_main_v46_0 V0).trans h.f_0
  f_1 := (STEP_main_v46_1 V0).trans h.f_1
  f_2 := (STEP_main_v46_2 V0).trans h.f_2
  f_3 := (STEP_main_v46_3 V0).trans h.f_3

/-- The loop's first state. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 500000 in
/-- The operations before the loop leave the first state. -/
theorem entry_holds : Holds (entryContents preI m c) (initState m c) 0 := by
  constructor <;> (simp only [entryContents, afterL_cons, afterL_nil]; after_reads_simp) <;> rfl

/-- After `k` trips the loop holds state `k` of any sequence that starts right and goes on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The program's results, of the state after 64 trips. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v67) = Step.R_main_v67 (it c 64) (m ((c.tc : Thread nD τ).loc main_arg0)) (m ((c.tc : Thread nD τ).loc main_arg3))
      ∧ r.2.mem ((c.tc : Thread nD τ).loc main_v68) = Step.R_main_v68 (it c 64)
      ∧ r.2.mem ((c.tc : Thread nD τ).loc main_v70) = Step.R_main_v70 (it c 64)
      ∧ r.2.mem ((c.tc : Thread nD τ).loc main_v71) = Step.R_main_v71 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (out_main_v67_holds hk (iter_main_arg0 m c 64) (iter_main_arg3 m c 64)), (h c).2.1.trans (out_main_v68_holds hk), (h c).2.2.1.trans (out_main_v70_holds hk), (h c).2.2.2.1.trans (out_main_v71_holds hk), (h c).2.2.2.2.1, (h c).2.2.2.2.2.1, (h c).2.2.2.2.2.2.1, (h c).2.2.2.2.2.2.2⟩) (Value.run m ρ)

end Cert.GlaFwd.Ref

end
-- ==== Proof.GlaFwd.lean ====
/-
  The forward kernel of the gated linear attention's middle computes the recurrence over the chunks, its states before and
  after each chunk, the rows' reads and their normalised, gated rows: the equation of the two programs on finite arguments.
-/
module

public import proofs.«01_k».proof.Defs
public import proofs.«01_k».proof.Proof.GlaFwdReference
public import proofs.«01_k».proof.Proof.GlaFwdRun
public import proofs.«01_k».proof.Proof.Gen.Kernel12Ideal.Value

@[expose] public section

set_option maxRecDepth 16384

noncomputable section

namespace Cert.GlaFwd

open Idealize.ShloMosaic Idealize.ShloMosaic.TcCoe Idealize.SL.Sem
open Cert.Reals

/-- The side conditions of the precondition's own program. -/
instance preFacts : Cert.Pre_finite_glafwd.Facts := ⟨by decide, by decide, by decide⟩

/-- Finite arguments are casts of real arrays: the projections, the gate's matrix and its bias. -/
theorem reals (m : (ℓ : Loc Cert.Kernel12Ideal.nD Cert.Kernel12Ideal.τ Cert.Kernel12Ideal.sig) → Buf (Elt Ideal) ℓ) (h : Cert.Pre_Kernel12Ideal_finite_glafwd m) (c : Dev Cert.Kernel12Ideal.nD) :
    ∃ (Z : Fin 4096 → Fin 3088 → ℝ) (W : Fin 16 → Fin 512 → ℝ) (B : Fin 512 → ℝ),
      (∀ i k, m ((c : Thread Cert.Kernel12Ideal.nD Cert.Kernel12Ideal.τ).loc Cert.Kernel12Ideal.main_arg0) (ix2 i k) = (Z i k : EReal)) ∧ (∀ i k, m ((c : Thread Cert.Kernel12Ideal.nD Cert.Kernel12Ideal.τ).loc Cert.Kernel12Ideal.main_arg1) (ix2 i k) = (W i k : EReal)) ∧ (∀ z k, m ((c : Thread Cert.Kernel12Ideal.nD Cert.Kernel12Ideal.τ).loc Cert.Kernel12Ideal.main_arg2) (ix2 z k) = (B k : EReal)) := by
  obtain ⟨h0, h1, h2⟩ := h c
  refine ⟨_, _, fun l => (m ((c : Thread Cert.Kernel12Ideal.nD Cert.Kernel12Ideal.τ).loc Cert.Kernel12Ideal.main_arg2) (ix2 0 l)).toReal, fun i k => (real_of_lt (congrFun h0 (ix2 i k))).symm, fun i k => (real_of_lt (congrFun h1 (ix2 i k))).symm, fun z l => ?_⟩
  obtain rfl : z = 0 := Subsingleton.elim _ _
  exact (real_of_lt (congrFun h2 (ix2 0 l))).symm

set_option maxHeartbeats 4000000 in
theorem algebraic : Cert.algebraic_Kernel12Ideal_Reference12Ideal_pre_finite_glafwd := by
  intro m ρ m' ρ' hp heq
  refine ⟨fun c => (Cert.Kernel12Ideal.Gen.dats m 0 c).arrAt 4 Cert.Kernel12Ideal.cfg0.N, fun c => (Cert.Kernel12Ideal.Gen.dats m 0 c).arrAt 5 Cert.Kernel12Ideal.cfg0.N, fun c => (Cert.Kernel12Ideal.Gen.dats m 0 c).arrAt 6 Cert.Kernel12Ideal.cfg0.N, fun c => (Cert.Kernel12Ideal.Gen.dats m 0 c).arrAt 7 Cert.Kernel12Ideal.cfg0.N, Cert.Kernel12Ideal.Value.run_blocks m ρ, ?_⟩
  refine (θ_run Cert.Reference12Ideal.defs _ _).mono (fun r h c => ?_) (Ref.run_iter (F := Ideal) m' ρ' (fun c => Ref.it _ _ _) (fun c => rfl) fun c n => rfl)
  obtain ⟨hy, hb, ha, ho, ha0, ha1, ha2, ha3⟩ := h c
  obtain ⟨e0, e1, e2, e3⟩ := heq c
  obtain ⟨Z, W, B, hz, hw, hv⟩ := reals m hp c
  rw [e0, e3] at hy
  rw [e0] at hb ha ho
  rw [e1, e2] at hy hb ha ho
  have H := Ref.inv_it _ _ _ Z W B hz hw (fun i k => hv i k) 64 le_rfl
  refine ⟨hy.trans (Eq.trans ?_ (final4 m Z W B c hz hw (fun i k => hv i k)).symm), hb.trans (Eq.trans ?_ (final5 m Z W B c hz hw (fun i k => hv i k)).symm), ha.trans (Eq.trans ?_ (final6 m Z W B c hz hw (fun i k => hv i k)).symm), ho.trans (Eq.trans ?_ (final7 m Z W B c hz hw (fun i k => hv i k)).symm), ha0, ha1, ha2, ha3⟩
  · funext j
    idx_vars j
    exact Ref.y_at hz H _ j0 j1
  · funext j
    idx_vars j
    exact Ref.before_at H j0 j1 j2 j3
  · funext j
    idx_vars j
    exact Ref.after_at H j0 j1 j2 j3
  · funext j
    idx_vars j
    exact Ref.o_at H j0 j1

end Cert.GlaFwd

end
-- ==== Proof.MixInFwdArrays.lean ====
/-
  What the kernel of the input weights' branches leaves in its results.
-/
module

public import Idealize.ShloMosaic.Lib.Pipeline.ValueKit
public import proofs.«01_k».proof.Proof.Rows
public import Idealize.ShloMosaic.Lib.Pipeline.ReadBack
public import proofs.«01_k».proof.Proof.Gen.Kernel19Ideal.Value

@[expose] public section

set_option maxRecDepth 16384

noncomputable section

namespace Cert.MixInFwd

open Idealize.ShloMosaic Idealize.ShloMosaic.TcCoe Idealize.SL.Sem
open Cert.Kernel19Ideal Cert.Kernel19Ideal.Gen
open Idealize.ShloMosaic.Pipeline (Dat)
open Cert.Rows

theorem g0 (v0 : Vec Ideal S256x1024 .bf16) (v : Vec Ideal S3200x1024 .bf16) (i : Fin 256) (k : Fin 3200) : k0_pay3 (F := Ideal) v0 v (ix2 i k) = mm (fun i l => v0 (ix2 i l)) (fun l k => v (ix2 k l)) i k := by
  pointwise [k0_pay3, k0_pay4, k0_pay5, k0_pay2]
  rfl

theorem b0 (v0 : Vec Ideal S256x1024 .bf16) (v : Vec Ideal S1024x1024 .bf16) (i : Fin 256) (k : Fin 1024) : k0_pay4 (F := Ideal) v0 v (ix2 i k) = mm (fun i l => v0 (ix2 i l)) (fun l k => v (ix2 k l)) i k := by
  pointwise [k0_pay3, k0_pay4, k0_pay5, k0_pay2]
  rfl

theorem c0 (v0 : Vec Ideal S256x1024 .bf16) (v : Vec Ideal S3072x1024 .bf16) (i : Fin 256) (k : Fin 3072) : k0_pay5 (F := Ideal) v0 v (ix2 i k) = mm (fun i l => v0 (ix2 i l)) (fun l k => v (ix2 k l)) i k := by
  pointwise [k0_pay3, k0_pay4, k0_pay5, k0_pay2]
  rfl

theorem g256 (v0 : Vec Ideal S256x1024 .bf16) (v : Vec Ideal S3200x1024 .bf16) (i : Fin 256) (k : Fin 3200) : k0_pay7 (F := Ideal) v0 v (ix2 i k) = mm (fun i l => v0 (ix2 i l)) (fun l k => v (ix2 k l)) i k := by
  pointwise [k0_pay7, k0_pay8, k0_pay6, k0_pay1]
  rfl

theorem b256 (v0 : Vec Ideal S256x1024 .bf16) (v : Vec Ideal S1024x1024 .bf16) (i : Fin 256) (k : Fin 1024) : k0_pay8 (F := Ideal) v0 v (ix2 i k) = mm (fun i l => v0 (ix2 i l)) (fun l k => v (ix2 k l)) i k := by
  pointwise [k0_pay7, k0_pay8, k0_pay6, k0_pay1]
  rfl

theorem c256 (v0 : Vec Ideal S256x1024 .bf16) (v : Vec Ideal S3072x1024 .bf16) (i : Fin 256) (k : Fin 3072) : k0_pay1 (F := Ideal) (k0_pay6 (F := Ideal) v0) v (ix2 i k) = mm (fun i l => v0 (ix2 i l)) (fun l k => v (ix2 k l)) i k := by
  pointwise [k0_pay7, k0_pay8, k0_pay6, k0_pay1]
  rfl

section tile

variable (x0 : Vec Ideal S512x1024 .bf16) (x1 : Vec Ideal S3200x1024 .bf16) (x2 : Vec Ideal S1024x1024 .bf16) (x3 : Vec Ideal S3072x1024 .bf16)

theorem out4 (i : Fin 512) (k : Fin 3200) :
    out0_4 x0 x1 x2 x3 (ix2 i k) = mm (fun i l => x0 (ix2 i l)) (fun l k => x1 (ix2 k l)) i k := by
  generalize hy : (ix2 i k : S512x3200.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 3200), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (g256 _ _ i' k').trans ?_
    pointwise []
    try rfl
  · obtain ⟨i', k', rfl⟩ : ∃ (i' : Fin 256) (k' : Fin 3200), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (g0 _ _ i' k').trans ?_
    pointwise []
    try rfl

theorem out5 (i : Fin 512) (k : Fin 1024) :
    out0_5 x0 x1 x2 x3 (ix2 i k) = mm (fun i l => x0 (ix2 i l)) (fun l k => x2 (ix2 k l)) i k := by
  generalize hy : (ix2 i k : S512x1024.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 1024), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (b256 _ _ i' k').trans ?_
    pointwise []
    try rfl
  · obtain ⟨i', k', rfl⟩ : ∃ (i' : Fin 256) (k' : Fin 1024), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (b0 _ _ i' k').trans ?_
    pointwise []
    try rfl

theorem out6 (i : Fin 512) (k : Fin 3072) :
    out0_6 x0 x1 x2 x3 (ix2 i k) = mm (fun i l => x0 (ix2 i l)) (fun l k => x3 (ix2 k l)) i k := by
  generalize hy : (ix2 i k : S512x3072.Idx) = y
  have hi : y 0 = i := by rw [← hy]; rfl
  have hk : y 1 = k := by rw [← hy]; rfl
  rw [← hi, ← hk]
  clear hi hk hy
  frame_out
  canon_tiles x h
  · obtain ⟨i', k', rfl⟩ : ∃ (i' : Fin 256) (k' : Fin 3072), x = ix2 i' k' := ⟨x 0, x 1, (by funext a; fin_cases a <;> rfl)⟩
    have e0 : y 0 = (⟨256 + i'.val, by omega⟩ : Fin 512) := Fin.ext h0
    have e1 : y 1 = k' := Fin.ext h1
    rw [e0, e1]
    refine (c256 _ _ i' k').trans ?_
    pointwise []
    try rfl
  · obtain ⟨i', k', rfl⟩ : ∃ (i' : Fin 256) (k' : Fin 3072), x = ix2 i' k' := ⟨x 0, x 1, (by funext a; fin_cases a <;> rfl)⟩
    have e0 : y 0 = (⟨i'.val, by omega⟩ : Fin 512) := Fin.ext h0
    have e1 : y 1 = k' := Fin.ext h1
    rw [e0, e1]
    refine (c0 _ _ i' k').trans ?_
    pointwise []
    try rfl

end tile

/-- The gated branch's weight, with 112 columns of zeros behind its 3088. -/
def padded (W : Fin 1024 → Fin 7184 → EReal) (l : Fin 1024) (k : Fin 3200) : EReal :=
  if h : k.val < 3088 then W l ⟨k.val, lt_trans h (by decide)⟩ else 0

/-- Column `k` of the second branch. -/
def col1 (k : Fin 1024) : Fin 7184 := ⟨3088 + k.val, by omega⟩
/-- Column `k` of the third branch. -/
def col2 (k : Fin 3072) : Fin 7184 := ⟨4112 + k.val, by omega⟩

section arrays

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)

theorem lt8 (t : Fin cfg0.N) : t.val < 8 := lt_of_lt_of_eq t.isLt N_0

/-- Row `r` of row tile `t`. -/
def trow (t : Fin cfg0.N) (r : Fin 512) : Fin 4096 := ⟨512 * t.val + r.val, by have := lt8 t; omega⟩

variable (c : Dev nD)

theorem blk0 (t : Fin cfg0.N) (i : Fin 512) (k : Fin 1024) : iblk m c 0 t (ix2 i k) = m ((c : Thread nD τ).loc main_arg0) (ix2 (trow t i) k) := by
  have h := idx t
  rw [iblk]
  unfold V
  simp only [hostOps0, hostOps0_1, hostOps0_2, List.flatten_cons, List.flatten_nil, List.append_nil, List.cons_append, List.nil_append]
  entry_read
  have e : (win0_0.blk t).view.emb (ix2 i k) = ix2 (trow t i) k := by
    funext a
    fin_cases a
    · apply Fin.ext
      blk_simp [h]
      show t.val * 512 + i.val = 512 * t.val + i.val
      omega
    · apply Fin.ext
      blk_simp [h]
      rfl
  blk_simp [h]
  rw [e]
  pointwise []

theorem blk1 (t : Fin cfg0.N) (i : Fin 3200) (k : Fin 1024) : iblk m c 1 t (ix2 i k) = padded (fun l k => m ((c : Thread nD τ).loc main_arg1) (ix2 l k)) k i := by
  have h := idx t
  rw [iblk]
  unfold V
  simp only [hostOps0, hostOps0_1, hostOps0_2, List.flatten_cons, List.flatten_nil, List.append_nil, List.cons_append, List.nil_append]
  entry_read
  have e : (win0_1.blk t).view.emb (ix2 i k) = ix2 i k := by
    funext a
    fin_cases a
    · apply Fin.ext
      blk_simp [h]
    · apply Fin.ext
      blk_simp [h]
  blk_simp [h]
  rw [e]
  simp only [StableHlo.TRef.toBuf, StableHlo.TRef.ofBuf, cast_cast, cast_eq]
  pointwise []
  unfold padded
  by_cases hk : i.val < 3088
  · rw [dif_pos hk, dif_pos hk]
    try rfl
  · rw [dif_neg hk, dif_neg hk]
    show (((0#32 : BitVec 32).toInt : ℝ) : EReal) = _
    simp

theorem blk2 (t : Fin cfg0.N) (i : Fin 1024) (k : Fin 1024) : iblk m c 2 t (ix2 i k) = m ((c : Thread nD τ).loc main_arg1) (ix2 k (col1 i)) := by
  have h := idx t
  rw [iblk]
  unfold V
  simp only [hostOps0, hostOps0_1, hostOps0_2, List.flatten_cons, List.flatten_nil, List.append_nil, List.cons_append, List.nil_append]
  entry_read
  have e : (win0_2.blk t).view.emb (ix2 i k) = ix2 i k := by
    funext a
    fin_cases a
    · apply Fin.ext
      blk_simp [h]
    · apply Fin.ext
      blk_simp [h]
  blk_simp [h]
  rw [e]
  pointwise []
  try rfl

theorem blk3 (t : Fin cfg0.N) (i : Fin 3072) (k : Fin 1024) : iblk m c 3 t (ix2 i k) = m ((c : Thread nD τ).loc main_arg1) (ix2 k (col2 i)) := by
  have h := idx t
  rw [iblk]
  unfold V
  simp only [hostOps0, hostOps0_1, hostOps0_2, List.flatten_cons, List.flatten_nil, List.append_nil, List.cons_append, List.nil_append]
  entry_read
  have e : (win0_3.blk t).view.emb (ix2 i k) = ix2 i k := by
    funext a
    fin_cases a
    · apply Fin.ext
      blk_simp [h]
    · apply Fin.ext
      blk_simp [h]
  blk_simp [h]
  rw [e]
  pointwise []
  try rfl

theorem block4 (t : Fin cfg0.N) (i : Fin 512) (k : Fin 3200) : out0_4 (iblk m c 0 t) (iblk m c 1 t) (iblk m c 2 t) (iblk m c 3 t) (ix2 i k) = mm (fun i l => m ((c : Thread nD τ).loc main_arg0) (ix2 i l)) (padded (fun l k => m ((c : Thread nD τ).loc main_arg1) (ix2 l k))) (trow t i) k := by
  rw [out4]
  simp only [blk0, blk1]
  rfl

theorem final4 : (dats m 0 c).arrAt 4 cfg0.N = fun j => mm (fun i l => m ((c : Thread nD τ).loc main_arg0) (ix2 i l)) (padded (fun l k => m ((c : Thread nD τ).loc main_arg1) (ix2 l k))) (j 0) (j 1) := by
  refine (dats m 0 c).arrAt_eq_of_covers 4 _ (by decide +kernel) fun t hf y => ?_
  have h := idx t
  blk_simp
  rw [after0_4]
  idx_vars y
  rw [block4 m c t y0 y1]
  congr 1 <;> (apply Fin.ext; blk_simp [h, trow] <;> try (dsimp only; omega))

theorem block5 (t : Fin cfg0.N) (i : Fin 512) (k : Fin 1024) : out0_5 (iblk m c 0 t) (iblk m c 1 t) (iblk m c 2 t) (iblk m c 3 t) (ix2 i k) = mm (fun i l => m ((c : Thread nD τ).loc main_arg0) (ix2 i l)) (fun l k => m ((c : Thread nD τ).loc main_arg1) (ix2 l (col1 k))) (trow t i) k := by
  rw [out5]
  simp only [blk0, blk2]
  rfl

theorem final5 : (dats m 0 c).arrAt 5 cfg0.N = fun j => mm (fun i l => m ((c : Thread nD τ).loc main_arg0) (ix2 i l)) (fun l k => m ((c : Thread nD τ).loc main_arg1) (ix2 l (col1 k))) (j 0) (j 1) := by
  refine (dats m 0 c).arrAt_eq_of_covers 5 _ (by decide +kernel) fun t hf y => ?_
  have h := idx t
  blk_simp
  rw [after0_5]
  idx_vars y
  rw [block5 m c t y0 y1]
  congr 1 <;> (apply Fin.ext; blk_simp [h, trow] <;> try (dsimp only; omega))

theorem block6 (t : Fin cfg0.N) (i : Fin 512) (k : Fin 3072) : out0_6 (iblk m c 0 t) (iblk m c 1 t) (iblk m c 2 t) (iblk m c 3 t) (ix2 i k) = mm (fun i l => m ((c : Thread nD τ).loc main_arg0) (ix2 i l)) (fun l k => m ((c : Thread nD τ).loc main_arg1) (ix2 l (col2 k))) (trow t i) k := by
  rw [out6]
  simp only [blk0, blk3]
  rfl

theorem final6 : (dats m 0 c).arrAt 6 cfg0.N = fun j => mm (fun i l => m ((c : Thread nD τ).loc main_arg0) (ix2 i l)) (fun l k => m ((c : Thread nD τ).loc main_arg1) (ix2 l (col2 k))) (j 0) (j 1) := by
  refine (dats m 0 c).arrAt_eq_of_covers 6 _ (by decide +kernel) fun t hf y => ?_
  have h := idx t
  blk_simp
  rw [after0_6]
  idx_vars y
  rw [block6 m c t y0 y1]
  congr 1 <;> (apply Fin.ext; blk_simp [h, trow] <;> try (dsimp only; omega))

end arrays

end Cert.MixInFwd
-- ==== Proof.MixInFwdReference.lean ====
/-
  What the reference of the input weights' branches computes.
-/
module

public import Idealize.ShloMosaic.Lib.Pipeline.ValueKit
public import proofs.«01_k».proof.Proof.MixInFwdArrays
public import proofs.«01_k».proof.Proof.Gen.Reference19Ideal.Run
public import proofs.«01_k».proof.Proof.Gen.Reference19Ideal.Read

@[expose] public section

set_option maxRecDepth 16384

noncomputable section

namespace Cert.MixInFwd.Ref

open Idealize.ShloMosaic Idealize.ShloMosaic.TcCoe Idealize.SL.Sem
open Cert.Reference19Ideal Cert.Reference19Ideal.Gen Cert.Reference19Ideal.Read
open Cert.Rows Cert.MixInFwd

variable (x0 : (⟨S4096x1024, .f32⟩ : BufTy).Contents (Elt Ideal)) (x1 : (⟨S1024x7184, .f32⟩ : BufTy).Contents (Elt Ideal))

theorem s3 (i : Fin 4096) (k : Fin 3200) : val_main_v3 (F := Ideal) x0 x1 (ix2 i k) = mm (fun i l => x0 (ix2 i l)) (padded (fun l k => x1 (ix2 l k))) i k := by
  pointwise [val_main_v3, val_main_v2, val_main_v1, val_main_v0, val_main_call0_v0, val_main_c]
  unfold mm padded
  by_cases hk : k.val < 3088
  · simp only [dif_pos hk]
    try rfl
  · simp only [dif_neg hk, mul_zero, Finset.sum_const_zero]
    show (((0#32 : BitVec 32).toInt : ℝ) : EReal) = _
    simp

theorem s5 (i : Fin 4096) (k : Fin 1024) : val_main_v5 (F := Ideal) x0 x1 (ix2 i k) = mm (fun i l => x0 (ix2 i l)) (fun l k => x1 (ix2 l (col1 k))) i k := by
  pointwise [val_main_v5, val_main_v4, val_main_v0]
  try rfl

theorem s7 (i : Fin 4096) (k : Fin 3072) : val_main_v7 (F := Ideal) x0 x1 (ix2 i k) = mm (fun i l => x0 (ix2 i l)) (fun l k => x1 (ix2 l (col2 k))) i k := by
  pointwise [val_main_v7, val_main_v6, val_main_v0]
  try rfl

end Cert.MixInFwd.Ref
-- ==== Proof.MixInFwd.lean ====
/-
  The input weights' branches: the equation of the two programs.
-/
module

public import Idealize.ShloMosaic.Lib.Pipeline.ValueKit
public import proofs.«01_k».proof.Defs
public import proofs.«01_k».proof.Proof.MixInFwdReference

@[expose] public section

set_option maxRecDepth 16384

noncomputable section

namespace Cert.MixInFwd

open Idealize.ShloMosaic Idealize.ShloMosaic.TcCoe Idealize.SL.Sem

set_option maxHeartbeats 4000000 in
theorem algebraic : Cert.algebraic_Kernel19Ideal_Reference19Ideal := by
  intro m ρ m' ρ' _ heq
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, Cert.Kernel19Ideal.Value.run_blocks m ρ, ?_⟩
  refine (θ_run Cert.Reference19Ideal.defs _ _).mono (fun r h c => ?_) (Cert.Reference19Ideal.Value.run m' ρ')
  obtain ⟨h3, h5, h7, ha0, ha1⟩ := h c
  obtain ⟨e0, e1⟩ := heq c
  refine ⟨(h3.trans (Cert.Reference19Ideal.Read.val_main_v3_eq _ _)).trans (Eq.trans ?_ (final4 m c).symm),
    (h5.trans (Cert.Reference19Ideal.Read.val_main_v5_eq _ _)).trans (Eq.trans ?_ (final5 m c).symm),
    (h7.trans (Cert.Reference19Ideal.Read.val_main_v7_eq _ _)).trans (Eq.trans ?_ (final6 m c).symm), ha0, ha1⟩
  · rw [e0, e1]
    funext j
    idx_vars j
    exact Ref.s3 _ _ j0 j1
  · rw [e0, e1]
    funext j
    idx_vars j
    exact Ref.s5 _ _ j0 j1
  · rw [e0, e1]
    funext j
    idx_vars j
    exact Ref.s7 _ _ j0 j1

end Cert.MixInFwd
-- ==== Proof.ProductArrays.lean ====
/-
  What the product of a transposed array by four column blocks leaves in its result.
-/
module

public import Idealize.ShloMosaic.Lib.Pipeline.ValueKit
public import proofs.«01_k».proof.Proof.Rows
public import Idealize.ShloMosaic.Lib.Pipeline.ReadBack
public import proofs.«01_k».proof.Proof.Gen.Kernel20Ideal.Value

@[expose] public section

set_option maxRecDepth 16384

noncomputable section

namespace Cert.Product

open Idealize.ShloMosaic Idealize.ShloMosaic.TcCoe Idealize.SL.Sem
open Cert.Kernel20Ideal Cert.Kernel20Ideal.Gen
open Idealize.ShloMosaic.Pipeline (Dat)
open Cert.Rows

theorem pay (v0 : Vec Ideal S4096x512 .bf16) (v2 : Vec Ideal S1x4096x1408 .bf16) (i : Fin 512) (k : Fin 1408) : k0_pay1 (F := Ideal) v0 v2 (ix3 0 i k) = mm (fun i l => v0 (ix2 l i)) (fun l k => v2 (ix3 0 l k)) i k := by
  pointwise [k0_pay1]
  rfl

theorem out2 (x0 : Vec Ideal S4096x512 .bf16) (x1 : Vec Ideal S1x4096x1408 .bf16) (i : Fin 512) (k : Fin 1408) :
    out0_2 x0 x1 (ix3 0 i k) = mm (fun i l => x0 (ix2 l i)) (fun l k => x1 (ix3 0 l k)) i k := by
  frame_out
  exact pay _ _ i k

/-- Column `k` of column block `s`. -/
def scol (s : Fin 4) (k : Fin 1408) : Fin 5632 := ⟨1408 * s.val + k.val, by omega⟩

section arrays

variable (m : (ℓ : Loc nD τ sig) → Buf (Elt Ideal) ℓ)

theorem idx : ∀ t : Fin cfg0.N, win0_0.index t = ![0, t.val / 4] ∧ win0_1.index t = ![t.val % 4, 0, 0] ∧ win0_2.index t = ![t.val % 4, t.val / 4, 0] :=
  (by decide +kernel : ∀ t : Fin grid0.N, _)

theorem lt8 (t : Fin cfg0.N) : t.val < 8 := lt_of_lt_of_eq t.isLt N_0

/-- Row `r` of the result's row tile. -/
def trow (t : Fin cfg0.N) (r : Fin 512) : Fin 1024 := ⟨512 * (t.val / 4) + r.val, by have := lt8 t; omega⟩

/-- The column block of a grid point. -/
def side (t : Fin cfg0.N) : Fin 4 := ⟨t.val % 4, by omega⟩

variable (c : Dev nD)

theorem blk0 (t : Fin cfg0.N) (l : Fin 4096) (i : Fin 512) : iblk m c 0 t (ix2 l i) = m ((c : Thread nD τ).loc main_arg0) (ix2 l (trow t i)) := by
  have h := idx t
  have e : (win0_0.blk t).view.emb (ix2 l i) = ix2 l (trow t i) := by
    funext a
    fin_cases a
    · apply Fin.ext
      blk_simp [h]
      rfl
    · apply Fin.ext
      blk_simp [h]
      show t.val / 4 * 512 + i.val = 512 * (t.val / 4) + i.val
      omega
  rw [iblk]
  entry_read
  blk_simp [h]
  rw [e]
  pointwise []

theorem blk1 (t : Fin cfg0.N) (l : Fin 4096) (k : Fin 1408) : iblk m c 1 t (ix3 0 l k) = m ((c : Thread nD τ).loc main_arg1) (ix2 l (scol (side t) k)) := by
  have h := idx t
  have e : (win0_1.blk t).view.emb (ix3 0 l k) = ix3 (side t) l k := by
    funext a
    fin_cases a
    · apply Fin.ext
      blk_simp [h]
      rfl
    · apply Fin.ext
      blk_simp [h]
      rfl
    · apply Fin.ext
      blk_simp [h]
      rfl
  rw [iblk]
  entry_read
  blk_simp [h]
  rw [e]
  pointwise []
  congr 1
  congr 1 <;> (apply Fin.ext; simp only [scol]; omega)

theorem block2 (t : Fin cfg0.N) (i : Fin 512) (k : Fin 1408) : out0_2 (iblk m c 0 t) (iblk m c 1 t) (ix3 0 i k) = mm (fun i l => m ((c : Thread nD τ).loc main_arg0) (ix2 l i)) (fun l k => m ((c : Thread nD τ).loc main_arg1) (ix2 l k)) (trow t i) (scol (side t) k) := by
  rw [out2]
  simp only [blk0, blk1]
  rfl

theorem final2 : (dats m 0 c).arrAt 2 cfg0.N = fun j => mm (fun i l => m ((c : Thread nD τ).loc main_arg0) (ix2 l i)) (fun l k => m ((c : Thread nD τ).loc main_arg1) (ix2 l k)) (j 1) (scol (j 0) (j 2)) := by
  refine (dats m 0 c).arrAt_eq_of_covers 2 _ (by decide +kernel) fun t hf y => ?_
  have h := idx t
  blk_simp
  rw [after0_2]
  idx_vars y
  obtain rfl : y0 = 0 := Subsingleton.elim _ _
  rw [block2 m c t y1 y2]
  congr 1 <;> (apply Fin.ext; blk_simp [h, trow, side, scol] <;> try (dsimp only; omega))

end arrays

end Cert.Product
-- ==== Proof.ProductReference.lean ====
/-
  The gradient of a product with respect to its right factor, in four column blocks.
-/
module

public import Idealize.ShloMosaic.Lib.Pipeline.ValueKit
public import proofs.«01_k».proof.Proof.ProductArrays
public import proofs.«01_k».proof.Proof.Gen.Reference20Ideal.Run
public import proofs.«01_k».proof.Proof.Gen.Reference20Ideal.Read

@[expose] public section

set_option maxRecDepth 16384

noncomputable section

namespace Cert.Product.Ref

open Idealize.ShloMosaic Idealize.ShloMosaic.TcCoe Idealize.SL.Sem
open Cert.Reference20Ideal Cert.Reference20Ideal.Gen Cert.Reference20Ideal.Read
open Cert.Rows Cert.Product

variable (x0 : (⟨S4096x1024, .f32⟩ : BufTy).Contents (Elt Ideal)) (x1 : (⟨S4096x5632, .f32⟩ : BufTy).Contents (Elt Ideal))

theorem s6 (s : Fin 4) (i : Fin 1024) (k : Fin 1408) : val_main_v6 (F := Ideal) x0 x1 (ix3 s i k) = mm (fun i l => x0 (ix2 l i)) (fun l k => x1 (ix2 l k)) i (scol s k) := by
  pointwise [val_main_v6, val_main_v5, val_main_v4, val_main_v3, val_main_v2]
  show _ = ∑ l : Fin 4096, x0 (ix2 l i) * x1 (ix2 l (scol s k))
  refine Finset.sum_congr rfl fun l _ => ?_
  rw [mul_comm]
  congr 2 <;> congr 1 <;> (apply Fin.ext; simp only [scol]; omega)

end Cert.Product.Ref
-- ==== Proof.Product.lean ====
/-
  The product at its largest shape: the equation of the two programs.
-/
module

public import Idealize.ShloMosaic.Lib.Pipeline.ValueKit
public import proofs.«01_k».proof.Defs
public import proofs.«01_k».proof.Proof.ProductReference

@[expose] public section

set_option maxRecDepth 16384

noncomputable section

namespace Cert.Product

open Idealize.ShloMosaic Idealize.ShloMosaic.TcCoe Idealize.SL.Sem

set_option maxHeartbeats 4000000 in
theorem algebraic : Cert.algebraic_Kernel20Ideal_Reference20Ideal := by
  intro m ρ m' ρ' _ heq
  refine ⟨fun c => (Cert.Kernel20Ideal.Gen.dats m 0 c).arrAt 2 Cert.Kernel20Ideal.cfg0.N, Cert.Kernel20Ideal.Value.run_blocks m ρ, ?_⟩
  refine (θ_run Cert.Reference20Ideal.defs _ _).mono (fun r h c => ?_) (Cert.Reference20Ideal.Value.run m' ρ')
  obtain ⟨h6, ha0, ha1⟩ := h c
  obtain ⟨e0, e1⟩ := heq c
  refine ⟨(h6.trans (Cert.Reference20Ideal.Read.val_main_v6_eq _ _)).trans (Eq.trans ?_ (final2 m c).symm), ha0, ha1⟩
  rw [e0, e1]
  funext j
  idx_vars j
  exact Ref.s6 _ _ j0 j1 j2

end Cert.Product
-- ==== Proof.AdamwArrays.lean ====
/-
  What the optimiser's kernel leaves in its results.
-/
module

public import Idealize.ShloMosaic.Lib.Pipeline.ValueKit
public import proofs.«01_k».proof.Proof.Rows
public import proofs.«01_k».proof.Proof.Gen.Kernel21Ideal.Value

@[expose] public section

set_option maxRecDepth 16384

noncomputable section

namespace Cert.Adamw

open Idealize.ShloMosaic Idealize.ShloMosaic.TcCoe Idealize.SL.Sem
open Cert.Kernel21Ideal Cert.Kernel21Ideal.Gen
open Idealize.ShloMosaic.Pipeline (Dat)

/-- A constant of the optimiser. -/
abbrev word (b : BitVec 32) : EReal := Ideal.ofBits .f32 b

/-- The first moment after the step. -/
def mom (g m : EReal) : EReal := word 0x3F666666#32 * m + word 0x3DCCCCCD#32 * g

/-- The second moment after the step. -/
def sqr (g v : EReal) : EReal := word 0x3F7FBE77#32 * v + word 0x3A83126F#32 * (g * g)

/-- The step of a weight: both moments without their bias, their quotient, and the weight's decay. -/
def step (w g m v : EReal) : EReal :=
  word 0xBA83126F#32 * (Ideal.div (Ideal.div (mom g m) (word 0x3F26BD02#32)) (Ideal.sqrt (Ideal.div (sqr g v) (word 0x3C231ACC#32)) + word 0x322BCC77#32) + word 0x3C23D70A#32 * w)

section tile

variable (w : Vec Ideal S1x512x1408 .f32) (g : Vec Ideal S512x1408 .f32) (m v : Vec Ideal S1x512x1408 .f32) (i : Fin 512) (k : Fin 1408)

theorem pay5 : k0_pay5 (F := Ideal) w g m v (ix3 0 i k) = step (w (ix3 0 i k)) (g (ix2 i k)) (m (ix3 0 i k)) (v (ix3 0 i k)) := by
  pointwise [k0_pay5, k0_pay4, k0_pay3]
  rfl

theorem pay1 : k0_pay1 (F := Ideal) (k0_pay3 g m) (ix3 0 i k) = mom (g (ix2 i k)) (m (ix3 0 i k)) := by
  pointwise [k0_pay1, k0_pay3]
  rfl

theorem pay2 : k0_pay2 (F := Ideal) (k0_pay4 g v) (ix3 0 i k) = sqr (g (ix2 i k)) (v (ix3 0 i k)) := by
  pointwise [k0_pay2, k0_pay4]
  rfl

theorem out4 : out0_4 w g m v (ix3 0 i k) = step (w (ix3 0 i k)) (g (ix2 i k)) (m (ix3 0 i k)) (v (ix3 0 i k)) := by
  frame_out
  exact pay5 w g m v i k

theorem out5 : out0_5 w g m v (ix3 0 i k) = mom (g (ix2 i k)) (m (ix3 0 i k)) := by
  frame_out
  exact pay1 g m i k

theorem out6 : out0_6 w g m v (ix3 0 i k) = sqr (g (ix2 i k)) (v (ix3 0 i k)) := by
  frame_out
  exact pay2 g v i k

end tile

section arrays

variable (m : (ℓ : Loc nD τ sig) → Buf (Elt Ideal) ℓ)

theorem idx : ∀ t : Fin cfg0.N, win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

theorem lt2 (t : Fin cfg0.N) : t.val < 2 := lt_of_lt_of_eq t.isLt N_0

/-- Row `r` of row tile `t`. -/
def trow (t : Fin cfg0.N) (r : Fin 512) : Fin 1024 := ⟨512 * t.val + r.val, by have := lt2 t; omega⟩

variable (c : Dev nD)

theorem blk0 (t : Fin cfg0.N) (i : Fin 512) (k : Fin 1408) : iblk m c 0 t (ix3 0 i k) = m ((c : Thread nD τ).loc main_arg0) (ix3 0 (trow t i) k) := by
  have h := idx t
  have e : (win0_0.blk t).view.emb (ix3 0 i k) = ix3 0 (trow t i) k := by
    funext a
    fin_cases a
    · exact Subsingleton.elim (α := Fin 1) _ _
    · apply Fin.ext
      blk_simp [h]
      show t.val * 512 + i.val = 512 * t.val + i.val
      omega
    · apply Fin.ext
      blk_simp [h]
      rfl
  rw [iblk]
  entry_read
  blk_simp [h]
  rw [e]

theorem blk2 (t : Fin cfg0.N) (i : Fin 512) (k : Fin 1408) : iblk m c 2 t (ix3 0 i k) = m ((c : Thread nD τ).loc main_arg2) (ix3 0 (trow t i) k) := by
  have h := idx t
  have e : (win0_2.blk t).view.emb (ix3 0 i k) = ix3 0 (trow t i) k := by
    funext a
    fin_cases a
    · exact Subsingleton.elim (α := Fin 1) _ _
    · apply Fin.ext
      blk_simp [h]
      show t.val * 512 + i.val = 512 * t.val + i.val
      omega
    · apply Fin.ext
      blk_simp [h]
      rfl
  rw [iblk]
  entry_read
  blk_simp [h]
  rw [e]

theorem blk3 (t : Fin cfg0.N) (i : Fin 512) (k : Fin 1408) : iblk m c 3 t (ix3 0 i k) = m ((c : Thread nD τ).loc main_arg3) (ix3 0 (trow t i) k) := by
  have h := idx t
  have e : (win0_3.blk t).view.emb (ix3 0 i k) = ix3 0 (trow t i) k := by
    funext a
    fin_cases a
    · exact Subsingleton.elim (α := Fin 1) _ _
    · apply Fin.ext
      blk_simp [h]
      show t.val * 512 + i.val = 512 * t.val + i.val
      omega
    · apply Fin.ext
      blk_simp [h]
      rfl
  rw [iblk]
  entry_read
  blk_simp [h]
  rw [e]

theorem blk1 (t : Fin cfg0.N) (i : Fin 512) (k : Fin 1408) : iblk m c 1 t (ix2 i k) = m ((c : Thread nD τ).loc main_arg1) (ix2 (trow t i) k) := by
  have h := idx t
  have e : (win0_1.blk t).view.emb (ix2 i k) = ix2 (trow t i) k := by
    funext a
    fin_cases a
    · apply Fin.ext
      blk_simp [h]
      show t.val * 512 + i.val = 512 * t.val + i.val
      omega
    · apply Fin.ext
      blk_simp [h]
      rfl
  rw [iblk]
  entry_read
  blk_simp [h]
  rw [e]

/-- The step of the weight in row `r` and column `k`. -/
def stepAt (r : Fin 1024) (k : Fin 1408) : EReal := step (m ((c : Thread nD τ).loc main_arg0) (ix3 0 r k)) (m ((c : Thread nD τ).loc main_arg1) (ix2 r k)) (m ((c : Thread nD τ).loc main_arg2) (ix3 0 r k)) (m ((c : Thread nD τ).loc main_arg3) (ix3 0 r k))

theorem block4 (t : Fin cfg0.N) (i : Fin 512) (k : Fin 1408) : out0_4 (iblk m c 0 t) (iblk m c 1 t) (iblk m c 2 t) (iblk m c 3 t) (ix3 0 i k) = stepAt m c (trow t i) k := by
  rw [out4]
  simp only [blk0, blk1, blk2, blk3]
  rfl

theorem final4 : (dats m 0 c).arrAt 4 cfg0.N = fun j => stepAt m c (j 1) (j 2) := by
  refine (dats m 0 c).arrAt_eq_of_covers 4 _ (by decide +kernel) fun t hf y => ?_
  have h := idx t
  blk_simp
  rw [after0_4]
  idx_vars y
  obtain rfl : y0 = 0 := Subsingleton.elim _ _
  rw [block4 m c t y1 y2]
  congr 1 <;> (apply Fin.ext; blk_simp [h, trow] <;> try (dsimp only; omega))

/-- The first moment after the step in row `r` and column `k`. -/
def momAt (r : Fin 1024) (k : Fin 1408) : EReal := mom (m ((c : Thread nD τ).loc main_arg1) (ix2 r k)) (m ((c : Thread nD τ).loc main_arg2) (ix3 0 r k))

theorem block5 (t : Fin cfg0.N) (i : Fin 512) (k : Fin 1408) : out0_5 (iblk m c 0 t) (iblk m c 1 t) (iblk m c 2 t) (iblk m c 3 t) (ix3 0 i k) = momAt m c (trow t i) k := by
  rw [out5]
  simp only [blk1, blk2]
  rfl

theorem final5 : (dats m 0 c).arrAt 5 cfg0.N = fun j => momAt m c (j 1) (j 2) := by
  refine (dats m 0 c).arrAt_eq_of_covers 5 _ (by decide +kernel) fun t hf y => ?_
  have h := idx t
  blk_simp
  rw [after0_5]
  idx_vars y
  obtain rfl : y0 = 0 := Subsingleton.elim _ _
  rw [block5 m c t y1 y2]
  congr 1 <;> (apply Fin.ext; blk_simp [h, trow] <;> try (dsimp only; omega))

/-- The second moment after the step in row `r` and column `k`. -/
def sqrAt (r : Fin 1024) (k : Fin 1408) : EReal := sqr (m ((c : Thread nD τ).loc main_arg1) (ix2 r k)) (m ((c : Thread nD τ).loc main_arg3) (ix3 0 r k))

theorem block6 (t : Fin cfg0.N) (i : Fin 512) (k : Fin 1408) : out0_6 (iblk m c 0 t) (iblk m c 1 t) (iblk m c 2 t) (iblk m c 3 t) (ix3 0 i k) = sqrAt m c (trow t i) k := by
  rw [out6]
  simp only [blk1, blk3]
  rfl

theorem final6 : (dats m 0 c).arrAt 6 cfg0.N = fun j => sqrAt m c (j 1) (j 2) := by
  refine (dats m 0 c).arrAt_eq_of_covers 6 _ (by decide +kernel) fun t hf y => ?_
  have h := idx t
  blk_simp
  rw [after0_6]
  idx_vars y
  obtain rfl : y0 = 0 := Subsingleton.elim _ _
  rw [block6 m c t y1 y2]
  congr 1 <;> (apply Fin.ext; blk_simp [h, trow] <;> try (dsimp only; omega))

end arrays

end Cert.Adamw
-- ==== Proof.AdamwReference.lean ====
/-
  The optimiser's step as its reference computes it.
-/
module

public import Idealize.ShloMosaic.Lib.Pipeline.ValueKit
public import proofs.«01_k».proof.Proof.AdamwArrays
public import proofs.«01_k».proof.Proof.Gen.Reference21Ideal.Run
public import proofs.«01_k».proof.Proof.Gen.Reference21Ideal.Read

@[expose] public section

set_option maxRecDepth 16384

noncomputable section

namespace Cert.Adamw.Ref

open Idealize.ShloMosaic Idealize.ShloMosaic.TcCoe Idealize.SL.Sem
open Cert.Reference21Ideal Cert.Reference21Ideal.Gen Cert.Reference21Ideal.Read
open Cert.Adamw

variable (x0 : (⟨S1x1024x1408, .f32⟩ : BufTy).Contents (Elt Ideal)) (x1 : (⟨S1024x1408, .f32⟩ : BufTy).Contents (Elt Ideal)) (x2 x3 : (⟨S1x1024x1408, .f32⟩ : BufTy).Contents (Elt Ideal))

theorem s5 (i : Fin 1024) (k : Fin 1408) : val_main_v5 (F := Ideal) x1 x2 (ix3 0 i k) = mom (x1 (ix2 i k)) (x2 (ix3 0 i k)) := by
  pointwise [val_main_v5, val_main_v4, val_main_v3, val_main_v2, val_main_v1, val_main_v0, val_main_cst, val_main_cst_0]
  rfl

theorem s12 (i : Fin 1024) (k : Fin 1408) : val_main_v12 (F := Ideal) x1 x3 (ix3 0 i k) = sqr (x1 (ix2 i k)) (x3 (ix3 0 i k)) := by
  pointwise [val_main_v12, val_main_v11, val_main_v10, val_main_v9, val_main_v8, val_main_v7, val_main_v6, val_main_cst_1, val_main_cst_2]
  rfl

theorem s25 (i : Fin 1024) (k : Fin 1408) : val_main_v25 (F := Ideal) x0 x1 x2 x3 (ix3 0 i k) = step (x0 (ix3 0 i k)) (x1 (ix2 i k)) (x2 (ix3 0 i k)) (x3 (ix3 0 i k)) := by
  pointwise [val_main_v25, val_main_v24, val_main_v23, val_main_v22, val_main_v21, val_main_v20, val_main_v19, val_main_v18, val_main_v17, val_main_v16, val_main_v15, val_main_v14, val_main_v13, val_main_cst_3, val_main_cst_4, val_main_cst_5, val_main_cst_6, val_main_cst_7]
  rw [s5, s12]
  rfl

end Cert.Adamw.Ref
-- ==== Proof.Adamw.lean ====
/-
  The optimiser's step: the equation of the two programs.
-/
module

public import Idealize.ShloMosaic.Lib.Pipeline.ValueKit
public import proofs.«01_k».proof.Defs
public import proofs.«01_k».proof.Proof.AdamwReference

@[expose] public section

set_option maxRecDepth 16384

noncomputable section

namespace Cert.Adamw

open Idealize.ShloMosaic Idealize.ShloMosaic.TcCoe Idealize.SL.Sem

set_option maxHeartbeats 4000000 in
theorem algebraic : Cert.algebraic_Kernel21Ideal_Reference21Ideal := by
  intro m ρ m' ρ' _ heq
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N, fun c => (Cert.Kernel21Ideal.Gen.dats m 0 c).arrAt 6 Cert.Kernel21Ideal.cfg0.N, Cert.Kernel21Ideal.Value.run_blocks m ρ, ?_⟩
  refine (θ_run Cert.Reference21Ideal.defs _ _).mono (fun r h c => ?_) (Cert.Reference21Ideal.Value.run m' ρ')
  obtain ⟨h25, h5, h12, ha0, ha1, ha2, ha3⟩ := h c
  obtain ⟨e0, e1, e2, e3⟩ := heq c
  refine ⟨(h25.trans (Cert.Reference21Ideal.Read.val_main_v25_eq _ _ _ _)).trans (Eq.trans ?_ (final4 m c).symm),
    (h5.trans (Cert.Reference21Ideal.Read.val_main_v5_eq _ _)).trans (Eq.trans ?_ (final5 m c).symm),
    (h12.trans (Cert.Reference21Ideal.Read.val_main_v12_eq _ _)).trans (Eq.trans ?_ (final6 m c).symm), ha0, ha1, ha2, ha3⟩
  · rw [e0, e1, e2, e3]
    funext j
    idx_vars j
    obtain rfl : j0 = 0 := Subsingleton.elim _ _
    exact Ref.s25 _ _ _ _ j1 j2
  · rw [e1, e2]
    funext j
    idx_vars j
    obtain rfl : j0 = 0 := Subsingleton.elim _ _
    exact Ref.s5 _ _ j1 j2
  · rw [e1, e3]
    funext j
    idx_vars j
    obtain rfl : j0 = 0 := Subsingleton.elim _ _
    exact Ref.s12 _ _ j1 j2

end Cert.Adamw
-- ==== Proof.lean ====
/-
  The certificate: the frames of every program, the idealizations (which rewrote nothing), and the value claims, one
  module per call of the backward pass.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel5
public import proofs.«01_k».proof.Proof.Gen.Kernel5Ideal
public import proofs.«01_k».proof.Proof.Gen.Reference5Ideal
public import proofs.«01_k».proof.Proof.Gen.Kernel7
public import proofs.«01_k».proof.Proof.Gen.Kernel7Ideal
public import proofs.«01_k».proof.Proof.Gen.Reference7Ideal
public import proofs.«01_k».proof.Proof.Gen.Kernel9
public import proofs.«01_k».proof.Proof.Gen.Kernel9Ideal
public import proofs.«01_k».proof.Proof.Gen.Reference9Ideal
public import proofs.«01_k».proof.Proof.Gen.Kernel8
public import proofs.«01_k».proof.Proof.Gen.Kernel8Ideal
public import proofs.«01_k».proof.Proof.Gen.Reference8Ideal
public import proofs.«01_k».proof.Proof.Gen.Kernel10
public import proofs.«01_k».proof.Proof.Gen.Kernel10Ideal
public import proofs.«01_k».proof.Proof.Gen.Reference10Ideal
public import proofs.«01_k».proof.Proof.Gen.Kernel6
public import proofs.«01_k».proof.Proof.Gen.Kernel6Ideal
public import proofs.«01_k».proof.Proof.Gen.Reference6Ideal
public import proofs.«01_k».proof.Proof.Gen.Kernel14
public import proofs.«01_k».proof.Proof.Gen.Kernel14Ideal
public import proofs.«01_k».proof.Proof.Gen.Reference14Ideal
public import proofs.«01_k».proof.Proof.Gen.Kernel13
public import proofs.«01_k».proof.Proof.Gen.Kernel13Ideal
public import proofs.«01_k».proof.Proof.Gen.Reference13Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel16
public import proofs.«01_k».proof.Proof.Gen.Kernel16Ideal
public import proofs.«01_k».proof.Proof.Gen.Reference16Ideal
public import proofs.«01_k».proof.Proof.Gen.Kernel15
public import proofs.«01_k».proof.Proof.Gen.Kernel15Ideal
public import proofs.«01_k».proof.Proof.Gen.Reference15Ideal
public import proofs.«01_k».proof.Proof.Gen.Kernel12
public import proofs.«01_k».proof.Proof.Gen.Kernel12Ideal
public import proofs.«01_k».proof.Proof.Gen.Reference12Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Step
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.MemNorm
public import proofs.«01_k».proof.Proof.CrossAttention
public import proofs.«01_k».proof.Proof.Pool
public import proofs.«01_k».proof.Proof.MixTail
public import proofs.«01_k».proof.Proof.Swiglu
public import proofs.«01_k».proof.Proof.FfnIn1
public import proofs.«01_k».proof.Proof.FfnIn2
public import proofs.«01_k».proof.Proof.MixIn
public import proofs.«01_k».proof.Proof.OutLoss
public import proofs.«01_k».proof.Proof.XattnFwd
public import proofs.«01_k».proof.Proof.NormFwd
public import proofs.«01_k».proof.Proof.FfnOutFwd
public import proofs.«01_k».proof.Proof.FfnInFwd
public import proofs.«01_k».proof.Proof.MixTailFwd
public import proofs.«01_k».proof.Proof.PoolFwd
public import proofs.«01_k».proof.Proof.GlaFwd
public import proofs.«01_k».proof.Proof.MixInFwd
public import proofs.«01_k».proof.Proof.Product
public import proofs.«01_k».proof.Proof.Adamw
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel9.Gen.facts, Cert.Kernel9Ideal.Gen.facts, Cert.Reference9Ideal.Gen.facts, Cert.Kernel8.Gen.facts, Cert.Kernel8Ideal.Gen.facts, Cert.Reference8Ideal.Gen.facts, Cert.Kernel10.Gen.facts, Cert.Kernel10Ideal.Gen.facts, Cert.Reference10Ideal.Gen.facts, Cert.Kernel6.Gen.facts, Cert.Kernel6Ideal.Gen.facts, Cert.Reference6Ideal.Gen.facts, Cert.Kernel14.Gen.facts, Cert.Kernel14Ideal.Gen.facts, Cert.Reference14Ideal.Gen.facts, Cert.Kernel13.Gen.facts, Cert.Kernel13Ideal.Gen.facts, Cert.Reference13Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel16.Gen.facts, Cert.Kernel16Ideal.Gen.facts, Cert.Reference16Ideal.Gen.facts, Cert.Kernel15.Gen.facts, Cert.Kernel15Ideal.Gen.facts, Cert.Reference15Ideal.Gen.facts, Cert.Kernel12.Gen.facts, Cert.Kernel12Ideal.Gen.facts, Cert.Reference12Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.MemNorm.preFacts, Cert.CrossAttention.preFacts, Cert.Pool.preFacts, Cert.Swiglu.preFacts, Cert.FfnIn1.preFacts, Cert.FfnIn2.preFacts, Cert.MixIn.preFacts, Cert.OutLoss.preFacts, Cert.XattnFwd.preFacts, Cert.PoolFwd.preFacts, Cert.GlaFwd.preFacts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2.2, Idealize.ShloMosaic.sem_eq_zero_of_no_sems (by decide) r.2⟩) (Cert.ReferenceIdeal.Value.run (F := Ideal) m ρ),
    fun m ρ _ => (θ_run Cert.ReferenceIdeal.defs _ _).mono (fun r h => ⟨fun c => (h c).2.2, Idealize.ShloMosaic.sem_eq_zero_of_no_sems (by decide) r.2⟩) (Cert.ReferenceIdeal.Value.run (F := Ideal) m ρ),
    fun m ρ _ => Cert.Kernel2.Gen.frame m ρ,
    fun m ρ _ => Cert.Kernel2Ideal.Gen.frame m ρ,
    fun m ρ _ => Cert.Kernel2Ideal.Gen.frame m ρ,
    fun m ρ _ => (θ_run Cert.Reference2Ideal.defs _ _).mono (fun r h => ⟨fun c => (h c).2.2, Idealize.ShloMosaic.sem_eq_zero_of_no_sems (by decide) r.2⟩) (Cert.Reference2Ideal.Value.run (F := Ideal) m ρ),
    fun m ρ _ => (θ_run Cert.Reference2Ideal.defs _ _).mono (fun r h => ⟨fun c => (h c).2.2, Idealize.ShloMosaic.sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => Cert.Kernel3Ideal.Gen.frame m ρ,
    fun m ρ _ => (θ_run Cert.Reference3Ideal.defs _ _).mono (fun r h => ⟨fun c => (h c).2.2.2, Idealize.ShloMosaic.sem_eq_zero_of_no_sems (by decide) r.2⟩) (Cert.Reference3Ideal.Value.run (F := Ideal) m ρ),
    fun m ρ _ => (θ_run Cert.Reference3Ideal.defs _ _).mono (fun r h => ⟨fun c => (h c).2.2.2, Idealize.ShloMosaic.sem_eq_zero_of_no_sems (by decide) r.2⟩) (Cert.Reference3Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2.2.2.2.2.2.2, Idealize.ShloMosaic.sem_eq_zero_of_no_sems (by decide) r.2⟩) (Cert.Reference5Ideal.Value.run (F := Ideal) m ρ),
    fun m ρ _ => Cert.Kernel7.Gen.frame m ρ,
    fun m ρ _ => Cert.Kernel7Ideal.Gen.frame m ρ,
    fun m ρ _ => Cert.Kernel7Ideal.Gen.frame m ρ,
    fun m ρ _ => (θ_run Cert.Reference7Ideal.defs _ _).mono (fun r h => ⟨fun c => (h c).2, Idealize.ShloMosaic.sem_eq_zero_of_no_sems (by decide) r.2⟩) (Cert.Reference7Ideal.Value.run (F := Ideal) m ρ),
    fun m ρ _ => (θ_run Cert.Reference7Ideal.defs _ _).mono (fun r h => ⟨fun c => (h c).2, Idealize.ShloMosaic.sem_eq_zero_of_no_sems (by decide) r.2⟩) (Cert.Reference7Ideal.Value.run (F := Ideal) m ρ),
    fun m ρ _ => Cert.Kernel9.Gen.frame m ρ,
    fun m ρ _ => Cert.Kernel9Ideal.Gen.frame m ρ,
    fun m ρ _ => Cert.Kernel9Ideal.Gen.frame m ρ,
    fun m ρ _ => (θ_run Cert.Reference9Ideal.defs _ _).mono (fun r h => ⟨fun c => (h c).2.2, Idealize.ShloMosaic.sem_eq_zero_of_no_sems (by decide) r.2⟩) (Cert.Reference9Ideal.Value.run (F := Ideal) m ρ),
    fun m ρ _ => (θ_run Cert.Reference9Ideal.defs _ _).mono (fun r h => ⟨fun c => (h c).2.2, Idealize.ShloMosaic.sem_eq_zero_of_no_sems (by decide) r.2⟩) (Cert.Reference9Ideal.Value.run (F := Ideal) m ρ),
    fun m ρ _ => Cert.Kernel8.Gen.frame m ρ,
    fun m ρ _ => Cert.Kernel8Ideal.Gen.frame m ρ,
    fun m ρ _ => Cert.Kernel8Ideal.Gen.frame m ρ,
    fun m ρ _ => (θ_run Cert.Reference8Ideal.defs _ _).mono (fun r h => ⟨fun c => (h c).2.2.2.2, Idealize.ShloMosaic.sem_eq_zero_of_no_sems (by decide) r.2⟩) (Cert.Reference8Ideal.Value.run (F := Ideal) m ρ),
    fun m ρ _ => (θ_run Cert.Reference8Ideal.defs _ _).mono (fun r h => ⟨fun c => (h c).2.2.2.2, Idealize.ShloMosaic.sem_eq_zero_of_no_sems (by decide) r.2⟩) (Cert.Reference8Ideal.Value.run (F := Ideal) m ρ),
    fun m ρ _ => Cert.Kernel10.Gen.frame m ρ,
    fun m ρ _ => Cert.Kernel10Ideal.Gen.frame m ρ,
    fun m ρ _ => Cert.Kernel10Ideal.Gen.frame m ρ,
    fun m ρ _ => (θ_run Cert.Reference10Ideal.defs _ _).mono (fun r h => ⟨fun c => (h c).2.2.2.2, Idealize.ShloMosaic.sem_eq_zero_of_no_sems (by decide) r.2⟩) (Cert.Reference10Ideal.Value.run (F := Ideal) m ρ),
    fun m ρ _ => (θ_run Cert.Reference10Ideal.defs _ _).mono (fun r h => ⟨fun c => (h c).2.2.2.2, Idealize.ShloMosaic.sem_eq_zero_of_no_sems (by decide) r.2⟩) (Cert.Reference10Ideal.Value.run (F := Ideal) m ρ),
    fun m ρ _ => Cert.Kernel6.Gen.frame m ρ,
    fun m ρ _ => Cert.Kernel6Ideal.Gen.frame m ρ,
    fun m ρ _ => Cert.Kernel6Ideal.Gen.frame m ρ,
    fun m ρ _ => (θ_run Cert.Reference6Ideal.defs _ _).mono (fun r h => ⟨fun c => (h c).2.2.2.2.2, Idealize.ShloMosaic.sem_eq_zero_of_no_sems (by decide) r.2⟩) (Cert.OutLoss.Run.run (F := Ideal) m ρ),
    fun m ρ _ => (θ_run Cert.Reference6Ideal.defs _ _).mono (fun r h => ⟨fun c => (h c).2.2.2.2.2, Idealize.ShloMosaic.sem_eq_zero_of_no_sems (by decide) r.2⟩) (Cert.OutLoss.Run.run (F := Ideal) m ρ),
    fun m ρ _ => Cert.Kernel14.Gen.frame m ρ,
    fun m ρ _ => Cert.Kernel14Ideal.Gen.frame m ρ,
    fun m ρ _ => Cert.Kernel14Ideal.Gen.frame m ρ,
    fun m ρ _ => (θ_run Cert.Reference14Ideal.defs _ _).mono (fun r h => ⟨fun c => (h c).2, Idealize.ShloMosaic.sem_eq_zero_of_no_sems (by decide) r.2⟩) (Cert.Reference14Ideal.Value.run (F := Ideal) m ρ),
    fun m ρ _ => (θ_run Cert.Reference14Ideal.defs _ _).mono (fun r h => ⟨fun c => (h c).2, Idealize.ShloMosaic.sem_eq_zero_of_no_sems (by decide) r.2⟩) (Cert.Reference14Ideal.Value.run (F := Ideal) m ρ),
    fun m ρ _ => Cert.Kernel13.Gen.frame m ρ,
    fun m ρ _ => Cert.Kernel13Ideal.Gen.frame m ρ,
    fun m ρ _ => Cert.Kernel13Ideal.Gen.frame m ρ,
    fun m ρ _ => (θ_run Cert.Reference13Ideal.defs _ _).mono (fun r h => ⟨fun c => (h c).2, Idealize.ShloMosaic.sem_eq_zero_of_no_sems (by decide) r.2⟩) (Cert.Reference13Ideal.Value.run (F := Ideal) m ρ),
    fun m ρ _ => (θ_run Cert.Reference13Ideal.defs _ _).mono (fun r h => ⟨fun c => (h c).2, Idealize.ShloMosaic.sem_eq_zero_of_no_sems (by decide) r.2⟩) (Cert.Reference13Ideal.Value.run (F := Ideal) m ρ),
    fun m ρ _ => Cert.Kernel17.Gen.frame m ρ,
    fun m ρ _ => Cert.Kernel17Ideal.Gen.frame m ρ,
    fun m ρ _ => (θ_run Cert.Reference17Ideal.defs _ _).mono (fun r h => ⟨fun c => (h c).2.2, Idealize.ShloMosaic.sem_eq_zero_of_no_sems (by decide) r.2⟩) (Cert.Reference17Ideal.Value.run (F := Ideal) m ρ),
    fun m ρ _ => Cert.Kernel18.Gen.frame m ρ,
    fun m ρ _ => Cert.Kernel18Ideal.Gen.frame m ρ,
    fun m ρ _ => (θ_run Cert.Reference18Ideal.defs _ _).mono (fun r h => ⟨fun c => (h c).2.2.2.2.2.2.2, Idealize.ShloMosaic.sem_eq_zero_of_no_sems (by decide) r.2⟩) (Cert.Reference18Ideal.Value.run (F := Ideal) m ρ),
    fun m ρ _ => Cert.Kernel16.Gen.frame m ρ,
    fun m ρ _ => Cert.Kernel16Ideal.Gen.frame m ρ,
    fun m ρ _ => (θ_run Cert.Reference16Ideal.defs _ _).mono (fun r h => ⟨fun c => (h c).2.2.2, Idealize.ShloMosaic.sem_eq_zero_of_no_sems (by decide) r.2⟩) (Cert.Reference16Ideal.Value.run (F := Ideal) m ρ),
    fun m ρ _ => Cert.Kernel15.Gen.frame m ρ,
    fun m ρ _ => Cert.Kernel15Ideal.Gen.frame m ρ,
    fun m ρ _ => (θ_run Cert.Reference15Ideal.defs _ _).mono (fun r h => ⟨fun c => (h c).2, Idealize.ShloMosaic.sem_eq_zero_of_no_sems (by decide) r.2⟩) (Cert.Reference15Ideal.Value.run (F := Ideal) m ρ),
    fun m ρ _ => Cert.Kernel12.Gen.frame m ρ,
    fun m ρ _ => Cert.Kernel12Ideal.Gen.frame m ρ,
    fun m ρ _ => Cert.Kernel12Ideal.Gen.frame m ρ,
    fun m ρ _ => (θ_run Cert.Reference12Ideal.defs _ _).mono (fun r h => ⟨fun c => (h c).2.2.2.2, Idealize.ShloMosaic.sem_eq_zero_of_no_sems (by decide) r.2⟩) (Cert.Reference12Ideal.Value.run (F := Ideal) m ρ),
    fun m ρ _ => (θ_run Cert.Reference12Ideal.defs _ _).mono (fun r h => ⟨fun c => (h c).2.2.2.2, Idealize.ShloMosaic.sem_eq_zero_of_no_sems (by decide) r.2⟩) (Cert.Reference12Ideal.Value.run (F := Ideal) m ρ),
    fun m ρ _ => Cert.Kernel19.Gen.frame m ρ,
    fun m ρ _ => Cert.Kernel19Ideal.Gen.frame m ρ,
    fun m ρ _ => (θ_run Cert.Reference19Ideal.defs _ _).mono (fun r h => ⟨fun c => (h c).2.2.2, Idealize.ShloMosaic.sem_eq_zero_of_no_sems (by decide) r.2⟩) (Cert.Reference19Ideal.Value.run (F := Ideal) m ρ),
    fun m ρ _ => Cert.Kernel20.Gen.frame m ρ,
    fun m ρ _ => Cert.Kernel20Ideal.Gen.frame m ρ,
    fun m ρ _ => (θ_run Cert.Reference20Ideal.defs _ _).mono (fun r h => ⟨fun c => (h c).2, Idealize.ShloMosaic.sem_eq_zero_of_no_sems (by decide) r.2⟩) (Cert.Reference20Ideal.Value.run (F := Ideal) m ρ),
    fun m ρ _ => Cert.Kernel21.Gen.frame m ρ,
    fun m ρ _ => Cert.Kernel21Ideal.Gen.frame m ρ,
    fun m ρ _ => (θ_run Cert.Reference21Ideal.defs _ _).mono (fun r h => ⟨fun c => (h c).2.2.2, Idealize.ShloMosaic.sem_eq_zero_of_no_sems (by decide) r.2⟩) (Cert.Reference21Ideal.Value.run (F := Ideal) m ρ),
    trivial,
    Cert.MemNorm.algebraic,
    trivial,
    Cert.CrossAttention.algebraic,
    trivial,
    Cert.Pool.algebraic,
    trivial,
    Cert.MixTail.algebraic,
    trivial,
    Cert.Swiglu.algebraic,
    trivial,
    Cert.FfnIn1.algebraic,
    trivial,
    Cert.FfnIn2.algebraic,
    trivial,
    Cert.MixIn.algebraic,
    trivial,
    Cert.OutLoss.algebraic,
    trivial,
    Cert.XattnFwd.algebraic,
    trivial,
    Cert.PoolFwd.algebraic,
    trivial,
    Cert.FfnInFwd.algebraic,
    trivial,
    Cert.MixTailFwd.algebraic,
    trivial,
    Cert.FfnOutFwd.algebraic,
    trivial,
    Cert.NormFwd.algebraic,
    trivial,
    Cert.GlaFwd.algebraic,
    trivial,
    Cert.MixInFwd.algebraic,
    trivial,
    Cert.Product.algebraic,
    trivial,
    Cert.Adamw.algebraic⟩

end Cert.Proof

end
